-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KGu (m : (ℓ : Loc Cert.KGu.nD Cert.KGu.τ Cert.KGu.sig) → Buf (Elt Bits) ℓ) : Prop :=
  True

def Pre_KGuIdeal (m : (ℓ : Loc Cert.KGuIdeal.nD Cert.KGuIdeal.τ Cert.KGuIdeal.sig) → Buf (Elt Ideal) ℓ) : Prop :=
  True

def Pre_RGuIdeal (m : (ℓ : Loc Cert.RGuIdeal.nD Cert.RGuIdeal.τ Cert.RGuIdeal.sig) → Buf (Elt Ideal) ℓ) : Prop :=
  True

def Pre_KGd (m : (ℓ : Loc Cert.KGd.nD Cert.KGd.τ Cert.KGd.sig) → Buf (Elt Bits) ℓ) : Prop :=
  True

def Pre_KGdIdeal (m : (ℓ : Loc Cert.KGdIdeal.nD Cert.KGdIdeal.τ Cert.KGdIdeal.sig) → Buf (Elt Ideal) ℓ) : Prop :=
  True

def Pre_RGdIdeal (m : (ℓ : Loc Cert.RGdIdeal.nD Cert.RGdIdeal.τ Cert.RGdIdeal.sig) → Buf (Elt Ideal) ℓ) : Prop :=
  True

def Pre_KGo (m : (ℓ : Loc Cert.KGo.nD Cert.KGo.τ Cert.KGo.sig) → Buf (Elt Bits) ℓ) : Prop :=
  True

def Pre_KGoIdeal (m : (ℓ : Loc Cert.KGoIdeal.nD Cert.KGoIdeal.τ Cert.KGoIdeal.sig) → Buf (Elt Ideal) ℓ) : Prop :=
  True

def Pre_RGoIdeal (m : (ℓ : Loc Cert.RGoIdeal.nD Cert.RGoIdeal.τ Cert.RGoIdeal.sig) → Buf (Elt Ideal) ℓ) : Prop :=
  True

def Pre_KGp (m : (ℓ : Loc Cert.KGp.nD Cert.KGp.τ Cert.KGp.sig) → Buf (Elt Bits) ℓ) : Prop :=
  True

def Pre_KGpIdeal (m : (ℓ : Loc Cert.KGpIdeal.nD Cert.KGpIdeal.τ Cert.KGpIdeal.sig) → Buf (Elt Ideal) ℓ) : Prop :=
  True

def Pre_RGpIdeal (m : (ℓ : Loc Cert.RGpIdeal.nD Cert.RGpIdeal.τ Cert.RGpIdeal.sig) → Buf (Elt Ideal) ℓ) : Prop :=
  True

def Pre_KDh (m : (ℓ : Loc Cert.KDh.nD Cert.KDh.τ Cert.KDh.sig) → Buf (Elt Bits) ℓ) : Prop :=
  True

def Pre_KDhIdeal (m : (ℓ : Loc Cert.KDhIdeal.nD Cert.KDhIdeal.τ Cert.KDhIdeal.sig) → Buf (Elt Ideal) ℓ) : Prop :=
  True

def Pre_RDhIdeal (m : (ℓ : Loc Cert.RDhIdeal.nD Cert.RDhIdeal.τ Cert.RDhIdeal.sig) → Buf (Elt Ideal) ℓ) : Prop :=
  True

def Pre_KDm (m : (ℓ : Loc Cert.KDm.nD Cert.KDm.τ Cert.KDm.sig) → Buf (Elt Bits) ℓ) : Prop :=
  True

def Pre_KDmIdeal (m : (ℓ : Loc Cert.KDmIdeal.nD Cert.KDmIdeal.τ Cert.KDmIdeal.sig) → Buf (Elt Ideal) ℓ) : Prop :=
  True

def Pre_RDmIdeal (m : (ℓ : Loc Cert.RDmIdeal.nD Cert.RDmIdeal.τ Cert.RDmIdeal.sig) → Buf (Elt Ideal) ℓ) : Prop :=
  True

def Pre_KDy (m : (ℓ : Loc Cert.KDy.nD Cert.KDy.τ Cert.KDy.sig) → Buf (Elt Bits) ℓ) : Prop :=
  True

def Pre_KDyIdeal (m : (ℓ : Loc Cert.KDyIdeal.nD Cert.KDyIdeal.τ Cert.KDyIdeal.sig) → Buf (Elt Ideal) ℓ) : Prop :=
  True

def Pre_RDyIdeal (m : (ℓ : Loc Cert.RDyIdeal.nD Cert.RDyIdeal.τ Cert.RDyIdeal.sig) → Buf (Elt Ideal) ℓ) : Prop :=
  True

def Pre_KXg (m : (ℓ : Loc Cert.KXg.nD Cert.KXg.τ Cert.KXg.sig) → Buf (Elt Bits) ℓ) : Prop :=
  True

def Pre_KXgIdeal (m : (ℓ : Loc Cert.KXgIdeal.nD Cert.KXgIdeal.τ Cert.KXgIdeal.sig) → Buf (Elt Ideal) ℓ) : Prop :=
  True

def Pre_RXgIdeal (m : (ℓ : Loc Cert.RXgIdeal.nD Cert.RXgIdeal.τ Cert.RXgIdeal.sig) → Buf (Elt Ideal) ℓ) : Prop :=
  True

def Pre_KXv (m : (ℓ : Loc Cert.KXv.nD Cert.KXv.τ Cert.KXv.sig) → Buf (Elt Bits) ℓ) : Prop :=
  True

def Pre_KXvIdeal (m : (ℓ : Loc Cert.KXvIdeal.nD Cert.KXvIdeal.τ Cert.KXvIdeal.sig) → Buf (Elt Ideal) ℓ) : Prop :=
  True

def Pre_RXvIdeal (m : (ℓ : Loc Cert.RXvIdeal.nD Cert.RXvIdeal.τ Cert.RXvIdeal.sig) → Buf (Elt Ideal) ℓ) : Prop :=
  True

def Pre_KXp (m : (ℓ : Loc Cert.KXp.nD Cert.KXp.τ Cert.KXp.sig) → Buf (Elt Bits) ℓ) : Prop :=
  True

def Pre_KXpIdeal (m : (ℓ : Loc Cert.KXpIdeal.nD Cert.KXpIdeal.τ Cert.KXpIdeal.sig) → Buf (Elt Ideal) ℓ) : Prop :=
  True

def Pre_RXpIdeal (m : (ℓ : Loc Cert.RXpIdeal.nD Cert.RXpIdeal.τ Cert.RXpIdeal.sig) → Buf (Elt Ideal) ℓ) : Prop :=
  True

def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_RDxIdeal (m : (ℓ : Loc Cert.RDxIdeal.nD Cert.RDxIdeal.τ Cert.RDxIdeal.sig) → Buf (Elt Ideal) ℓ) : Prop :=
  True

def Pre_KFs (m : (ℓ : Loc Cert.KFs.nD Cert.KFs.τ Cert.KFs.sig) → Buf (Elt Bits) ℓ) : Prop :=
  True

def Pre_KFsIdeal (m : (ℓ : Loc Cert.KFsIdeal.nD Cert.KFsIdeal.τ Cert.KFsIdeal.sig) → Buf (Elt Ideal) ℓ) : Prop :=
  True

def Pre_RFsIdeal (m : (ℓ : Loc Cert.RFsIdeal.nD Cert.RFsIdeal.τ Cert.RFsIdeal.sig) → Buf (Elt Ideal) ℓ) : Prop :=
  True

def Pre_KFu (m : (ℓ : Loc Cert.KFu.nD Cert.KFu.τ Cert.KFu.sig) → Buf (Elt Bits) ℓ) : Prop :=
  True

def Pre_KFuIdeal (m : (ℓ : Loc Cert.KFuIdeal.nD Cert.KFuIdeal.τ Cert.KFuIdeal.sig) → Buf (Elt Ideal) ℓ) : Prop :=
  True

def Pre_RFuIdeal (m : (ℓ : Loc Cert.RFuIdeal.nD Cert.RFuIdeal.τ Cert.RFuIdeal.sig) → Buf (Elt Ideal) ℓ) : Prop :=
  True

def Pre_KFd (m : (ℓ : Loc Cert.KFd.nD Cert.KFd.τ Cert.KFd.sig) → Buf (Elt Bits) ℓ) : Prop :=
  True

def Pre_KFdIdeal (m : (ℓ : Loc Cert.KFdIdeal.nD Cert.KFdIdeal.τ Cert.KFdIdeal.sig) → Buf (Elt Ideal) ℓ) : Prop :=
  True

def Pre_RFdIdeal (m : (ℓ : Loc Cert.RFdIdeal.nD Cert.RFdIdeal.τ Cert.RFdIdeal.sig) → Buf (Elt Ideal) ℓ) : Prop :=
  True

def Pre_KFp (m : (ℓ : Loc Cert.KFp.nD Cert.KFp.τ Cert.KFp.sig) → Buf (Elt Bits) ℓ) : Prop :=
  True

def Pre_KFpIdeal (m : (ℓ : Loc Cert.KFpIdeal.nD Cert.KFpIdeal.τ Cert.KFpIdeal.sig) → Buf (Elt Ideal) ℓ) : Prop :=
  True

def Pre_RFpIdeal (m : (ℓ : Loc Cert.RFpIdeal.nD Cert.RFpIdeal.τ Cert.RFpIdeal.sig) → Buf (Elt Ideal) ℓ) : Prop :=
  True

def Pre_KMb (m : (ℓ : Loc Cert.KMb.nD Cert.KMb.τ Cert.KMb.sig) → Buf (Elt Bits) ℓ) : Prop :=
  True

def Pre_KMbIdeal (m : (ℓ : Loc Cert.KMbIdeal.nD Cert.KMbIdeal.τ Cert.KMbIdeal.sig) → Buf (Elt Ideal) ℓ) : Prop :=
  True

def Pre_RMbIdeal (m : (ℓ : Loc Cert.RMbIdeal.nD Cert.RMbIdeal.τ Cert.RMbIdeal.sig) → Buf (Elt Ideal) ℓ) : Prop :=
  True

def Pre_KMf (m : (ℓ : Loc Cert.KMf.nD Cert.KMf.τ Cert.KMf.sig) → Buf (Elt Bits) ℓ) : Prop :=
  True

def Pre_KMfIdeal (m : (ℓ : Loc Cert.KMfIdeal.nD Cert.KMfIdeal.τ Cert.KMfIdeal.sig) → Buf (Elt Ideal) ℓ) : Prop :=
  True

def Pre_RMfIdeal (m : (ℓ : Loc Cert.RMfIdeal.nD Cert.RMfIdeal.τ Cert.RMfIdeal.sig) → Buf (Elt Ideal) ℓ) : Prop :=
  True

def Pre_KLf (m : (ℓ : Loc Cert.KLf.nD Cert.KLf.τ Cert.KLf.sig) → Buf (Elt Bits) ℓ) : Prop :=
  True

def Pre_KLfIdeal (m : (ℓ : Loc Cert.KLfIdeal.nD Cert.KLfIdeal.τ Cert.KLfIdeal.sig) → Buf (Elt Ideal) ℓ) : Prop :=
  True

def Pre_RLfIdeal (m : (ℓ : Loc Cert.RLfIdeal.nD Cert.RLfIdeal.τ Cert.RLfIdeal.sig) → Buf (Elt Ideal) ℓ) : Prop :=
  True

def Pre_KCf (m : (ℓ : Loc Cert.KCf.nD Cert.KCf.τ Cert.KCf.sig) → Buf (Elt Bits) ℓ) : Prop :=
  True

def Pre_KCfIdeal (m : (ℓ : Loc Cert.KCfIdeal.nD Cert.KCfIdeal.τ Cert.KCfIdeal.sig) → Buf (Elt Ideal) ℓ) : Prop :=
  True

def Pre_RCfIdeal (m : (ℓ : Loc Cert.RCfIdeal.nD Cert.RCfIdeal.τ Cert.RCfIdeal.sig) → Buf (Elt Ideal) ℓ) : Prop :=
  True

def Pre_KCb (m : (ℓ : Loc Cert.KCb.nD Cert.KCb.τ Cert.KCb.sig) → Buf (Elt Bits) ℓ) : Prop :=
  True

def Pre_KCbIdeal (m : (ℓ : Loc Cert.KCbIdeal.nD Cert.KCbIdeal.τ Cert.KCbIdeal.sig) → Buf (Elt Ideal) ℓ) : Prop :=
  True

def Pre_RCbIdeal (m : (ℓ : Loc Cert.RCbIdeal.nD Cert.RCbIdeal.τ Cert.RCbIdeal.sig) → Buf (Elt Ideal) ℓ) : Prop :=
  True

def Pre_KLb (m : (ℓ : Loc Cert.KLb.nD Cert.KLb.τ Cert.KLb.sig) → Buf (Elt Bits) ℓ) : Prop :=
  True

def Pre_KLbIdeal (m : (ℓ : Loc Cert.KLbIdeal.nD Cert.KLbIdeal.τ Cert.KLbIdeal.sig) → Buf (Elt Ideal) ℓ) : Prop :=
  True

def Pre_KLbIdeal_finite_lb [hPre_finite_lb : Cert.Pre_finite_lb.Facts] (m : (ℓ : Loc Cert.KLbIdeal.nD Cert.KLbIdeal.τ Cert.KLbIdeal.sig) → Buf (Elt Ideal) ℓ) : Prop :=
  ∀ c : Dev Cert.KLbIdeal.nD,
    (Cert.Pre_finite_lb.fn (F := Ideal) (m ((c.tc : Thread Cert.KLbIdeal.nD Cert.KLbIdeal.τ).loc Cert.KLbIdeal.main_arg0)) (m ((c.tc : Thread Cert.KLbIdeal.nD Cert.KLbIdeal.τ).loc Cert.KLbIdeal.main_arg1)) (m ((c.tc : Thread Cert.KLbIdeal.nD Cert.KLbIdeal.τ).loc Cert.KLbIdeal.main_arg2)) (m ((c.tc : Thread Cert.KLbIdeal.nD Cert.KLbIdeal.τ).loc Cert.KLbIdeal.main_arg3))) = (fun _ => 1#1)

def Pre_RLbIdeal (m : (ℓ : Loc Cert.RLbIdeal.nD Cert.RLbIdeal.τ Cert.RLbIdeal.sig) → Buf (Elt Ideal) ℓ) : Prop :=
  True

def Pre_RLbIdeal_finite_lb [hPre_finite_lb : Cert.Pre_finite_lb.Facts] (m : (ℓ : Loc Cert.RLbIdeal.nD Cert.RLbIdeal.τ Cert.RLbIdeal.sig) → Buf (Elt Ideal) ℓ) : Prop :=
  ∀ c : Dev Cert.RLbIdeal.nD,
    (Cert.Pre_finite_lb.fn (F := Ideal) (m ((c.tc : Thread Cert.RLbIdeal.nD Cert.RLbIdeal.τ).loc Cert.RLbIdeal.main_arg0)) (m ((c.tc : Thread Cert.RLbIdeal.nD Cert.RLbIdeal.τ).loc Cert.RLbIdeal.main_arg1)) (m ((c.tc : Thread Cert.RLbIdeal.nD Cert.RLbIdeal.τ).loc Cert.RLbIdeal.main_arg2)) (m ((c.tc : Thread Cert.RLbIdeal.nD Cert.RLbIdeal.τ).loc Cert.RLbIdeal.main_arg3))) = (fun _ => 1#1)

def Pre_KCa (m : (ℓ : Loc Cert.KCa.nD Cert.KCa.τ Cert.KCa.sig) → Buf (Elt Bits) ℓ) : Prop :=
  True

def Pre_KCaIdeal (m : (ℓ : Loc Cert.KCaIdeal.nD Cert.KCaIdeal.τ Cert.KCaIdeal.sig) → Buf (Elt Ideal) ℓ) : Prop :=
  True

def Pre_KCaIdeal_finite_ca [hPre_finite_ca : Cert.Pre_finite_ca.Facts] (m : (ℓ : Loc Cert.KCaIdeal.nD Cert.KCaIdeal.τ Cert.KCaIdeal.sig) → Buf (Elt Ideal) ℓ) : Prop :=
  ∀ c : Dev Cert.KCaIdeal.nD,
    (Cert.Pre_finite_ca.fn (F := Ideal) (m ((c.tc : Thread Cert.KCaIdeal.nD Cert.KCaIdeal.τ).loc Cert.KCaIdeal.main_arg0)) (m ((c.tc : Thread Cert.KCaIdeal.nD Cert.KCaIdeal.τ).loc Cert.KCaIdeal.main_arg1)) (m ((c.tc : Thread Cert.KCaIdeal.nD Cert.KCaIdeal.τ).loc Cert.KCaIdeal.main_arg2)) (m ((c.tc : Thread Cert.KCaIdeal.nD Cert.KCaIdeal.τ).loc Cert.KCaIdeal.main_arg3)) (m ((c.tc : Thread Cert.KCaIdeal.nD Cert.KCaIdeal.τ).loc Cert.KCaIdeal.main_arg4))) = (fun _ => 1#1)

def Pre_RCaIdeal (m : (ℓ : Loc Cert.RCaIdeal.nD Cert.RCaIdeal.τ Cert.RCaIdeal.sig) → Buf (Elt Ideal) ℓ) : Prop :=
  True

def Pre_RCaIdeal_finite_ca [hPre_finite_ca : Cert.Pre_finite_ca.Facts] (m : (ℓ : Loc Cert.RCaIdeal.nD Cert.RCaIdeal.τ Cert.RCaIdeal.sig) → Buf (Elt Ideal) ℓ) : Prop :=
  ∀ c : Dev Cert.RCaIdeal.nD,
    (Cert.Pre_finite_ca.fn (F := Ideal) (m ((c.tc : Thread Cert.RCaIdeal.nD Cert.RCaIdeal.τ).loc Cert.RCaIdeal.main_arg0)) (m ((c.tc : Thread Cert.RCaIdeal.nD Cert.RCaIdeal.τ).loc Cert.RCaIdeal.main_arg1)) (m ((c.tc : Thread Cert.RCaIdeal.nD Cert.RCaIdeal.τ).loc Cert.RCaIdeal.main_arg2)) (m ((c.tc : Thread Cert.RCaIdeal.nD Cert.RCaIdeal.τ).loc Cert.RCaIdeal.main_arg3)) (m ((c.tc : Thread Cert.RCaIdeal.nD Cert.RCaIdeal.τ).loc Cert.RCaIdeal.main_arg4))) = (fun _ => 1#1)

def Pre_KSf (m : (ℓ : Loc Cert.KSf.nD Cert.KSf.τ Cert.KSf.sig) → Buf (Elt Bits) ℓ) : Prop :=
  True

def Pre_KSfIdeal (m : (ℓ : Loc Cert.KSfIdeal.nD Cert.KSfIdeal.τ Cert.KSfIdeal.sig) → Buf (Elt Ideal) ℓ) : Prop :=
  True

def Pre_RSfIdeal (m : (ℓ : Loc Cert.RSfIdeal.nD Cert.RSfIdeal.τ Cert.RSfIdeal.sig) → Buf (Elt Ideal) ℓ) : Prop :=
  True

def Pre_KLl (m : (ℓ : Loc Cert.KLl.nD Cert.KLl.τ Cert.KLl.sig) → Buf (Elt Bits) ℓ) : Prop :=
  True

def Pre_KLlIdeal (m : (ℓ : Loc Cert.KLlIdeal.nD Cert.KLlIdeal.τ Cert.KLlIdeal.sig) → Buf (Elt Ideal) ℓ) : Prop :=
  True

def Pre_KLlIdeal_finite_ll [hPre_finite_ll : Cert.Pre_finite_ll.Facts] (m : (ℓ : Loc Cert.KLlIdeal.nD Cert.KLlIdeal.τ Cert.KLlIdeal.sig) → Buf (Elt Ideal) ℓ) : Prop :=
  ∀ c : Dev Cert.KLlIdeal.nD,
    (Cert.Pre_finite_ll.fn (F := Ideal) (m ((c.tc : Thread Cert.KLlIdeal.nD Cert.KLlIdeal.τ).loc Cert.KLlIdeal.main_arg0)) (m ((c.tc : Thread Cert.KLlIdeal.nD Cert.KLlIdeal.τ).loc Cert.KLlIdeal.main_arg1)) (m ((c.tc : Thread Cert.KLlIdeal.nD Cert.KLlIdeal.τ).loc Cert.KLlIdeal.main_arg2)) (m ((c.tc : Thread Cert.KLlIdeal.nD Cert.KLlIdeal.τ).loc Cert.KLlIdeal.main_arg3)) (m ((c.tc : Thread Cert.KLlIdeal.nD Cert.KLlIdeal.τ).loc Cert.KLlIdeal.main_arg4)) (m ((c.tc : Thread Cert.KLlIdeal.nD Cert.KLlIdeal.τ).loc Cert.KLlIdeal.main_arg5)) (m ((c.tc : Thread Cert.KLlIdeal.nD Cert.KLlIdeal.τ).loc Cert.KLlIdeal.main_arg6))) = (fun _ => 1#1)

def Pre_RLlIdeal (m : (ℓ : Loc Cert.RLlIdeal.nD Cert.RLlIdeal.τ Cert.RLlIdeal.sig) → Buf (Elt Ideal) ℓ) : Prop :=
  True

def Pre_RLlIdeal_finite_ll [hPre_finite_ll : Cert.Pre_finite_ll.Facts] (m : (ℓ : Loc Cert.RLlIdeal.nD Cert.RLlIdeal.τ Cert.RLlIdeal.sig) → Buf (Elt Ideal) ℓ) : Prop :=
  ∀ c : Dev Cert.RLlIdeal.nD,
    (Cert.Pre_finite_ll.fn (F := Ideal) (m ((c.tc : Thread Cert.RLlIdeal.nD Cert.RLlIdeal.τ).loc Cert.RLlIdeal.main_arg0)) (m ((c.tc : Thread Cert.RLlIdeal.nD Cert.RLlIdeal.τ).loc Cert.RLlIdeal.main_arg1)) (m ((c.tc : Thread Cert.RLlIdeal.nD Cert.RLlIdeal.τ).loc Cert.RLlIdeal.main_arg2)) (m ((c.tc : Thread Cert.RLlIdeal.nD Cert.RLlIdeal.τ).loc Cert.RLlIdeal.main_arg3)) (m ((c.tc : Thread Cert.RLlIdeal.nD Cert.RLlIdeal.τ).loc Cert.RLlIdeal.main_arg4)) (m ((c.tc : Thread Cert.RLlIdeal.nD Cert.RLlIdeal.τ).loc Cert.RLlIdeal.main_arg5)) (m ((c.tc : Thread Cert.RLlIdeal.nD Cert.RLlIdeal.τ).loc Cert.RLlIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_KGu [hKGu : Cert.KGu.Facts] : Prop :=
  ∀ (m : (ℓ : Loc Cert.KGu.nD Cert.KGu.τ Cert.KGu.sig) → Buf (Elt Bits) ℓ) (g : Dev Cert.KGu.nD → PrngReg), Pre_KGu m →
    θ_run (Cert.KGu.defs (F := Bits)) (onTc (τ := Cert.KGu.τ) (Cert.KGu.main (F := Bits))) ⟨m, fun _ => 0, g⟩ (fun r => (∀ c : Dev Cert.KGu.nD,
      r.2.mem ((c.tc : Thread Cert.KGu.nD Cert.KGu.τ).loc Cert.KGu.main_arg0) = m ((c.tc : Thread Cert.KGu.nD Cert.KGu.τ).loc Cert.KGu.main_arg0)
      ∧ r.2.mem ((c.tc : Thread Cert.KGu.nD Cert.KGu.τ).loc Cert.KGu.main_arg1) = m ((c.tc : Thread Cert.KGu.nD Cert.KGu.τ).loc Cert.KGu.main_arg1))
      ∧ r.2.sem = fun _ => 0)

def quiescent_KGuIdeal [hKGuIdeal : Cert.KGuIdeal.Facts] : Prop :=
  ∀ (m : (ℓ : Loc Cert.KGuIdeal.nD Cert.KGuIdeal.τ Cert.KGuIdeal.sig) → Buf (Elt Ideal) ℓ) (g : Dev Cert.KGuIdeal.nD → PrngReg), Pre_KGuIdeal m →
    θ_run (Cert.KGuIdeal.defs (F := Ideal)) (onTc (τ := Cert.KGuIdeal.τ) (Cert.KGuIdeal.main (F := Ideal))) ⟨m, fun _ => 0, g⟩ (fun r => (∀ c : Dev Cert.KGuIdeal.nD,
      r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
      ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1))
      ∧ r.2.sem = fun _ => 0)

def quiescent_RGuIdeal [hRGuIdeal : Cert.RGuIdeal.Facts] : Prop :=
  ∀ (m : (ℓ : Loc Cert.RGuIdeal.nD Cert.RGuIdeal.τ Cert.RGuIdeal.sig) → Buf (Elt Ideal) ℓ) (g : Dev Cert.RGuIdeal.nD → PrngReg), Pre_RGuIdeal m →
    θ_run (Cert.RGuIdeal.defs (F := Ideal)) (onTc (τ := Cert.RGuIdeal.τ) (Cert.RGuIdeal.main (F := Ideal))) ⟨m, fun _ => 0, g⟩ (fun r => (∀ c : Dev Cert.RGuIdeal.nD,
      r.2.mem ((c.tc : Thread Cert.RGuIdeal.nD Cert.RGuIdeal.τ).loc Cert.RGuIdeal.main_arg0) = m ((c.tc : Thread Cert.RGuIdeal.nD Cert.RGuIdeal.τ).loc Cert.RGuIdeal.main_arg0)
      ∧ r.2.mem ((c.tc : Thread Cert.RGuIdeal.nD Cert.RGuIdeal.τ).loc Cert.RGuIdeal.main_arg1) = m ((c.tc : Thread Cert.RGuIdeal.nD Cert.RGuIdeal.τ).loc Cert.RGuIdeal.main_arg1))
      ∧ r.2.sem = fun _ => 0)

def quiescent_KGd [hKGd : Cert.KGd.Facts] : Prop :=
  ∀ (m : (ℓ : Loc Cert.KGd.nD Cert.KGd.τ Cert.KGd.sig) → Buf (Elt Bits) ℓ) (g : Dev Cert.KGd.nD → PrngReg), Pre_KGd m →
    θ_run (Cert.KGd.defs (F := Bits)) (onTc (τ := Cert.KGd.τ) (Cert.KGd.main (F := Bits))) ⟨m, fun _ => 0, g⟩ (fun r => (∀ c : Dev Cert.KGd.nD,
      r.2.mem ((c.tc : Thread Cert.KGd.nD Cert.KGd.τ).loc Cert.KGd.main_arg0) = m ((c.tc : Thread Cert.KGd.nD Cert.KGd.τ).loc Cert.KGd.main_arg0)
      ∧ r.2.mem ((c.tc : Thread Cert.KGd.nD Cert.KGd.τ).loc Cert.KGd.main_arg1) = m ((c.tc : Thread Cert.KGd.nD Cert.KGd.τ).loc Cert.KGd.main_arg1))
      ∧ r.2.sem = fun _ => 0)

def quiescent_KGdIdeal [hKGdIdeal : Cert.KGdIdeal.Facts] : Prop :=
  ∀ (m : (ℓ : Loc Cert.KGdIdeal.nD Cert.KGdIdeal.τ Cert.KGdIdeal.sig) → Buf (Elt Ideal) ℓ) (g : Dev Cert.KGdIdeal.nD → PrngReg), Pre_KGdIdeal m →
    θ_run (Cert.KGdIdeal.defs (F := Ideal)) (onTc (τ := Cert.KGdIdeal.τ) (Cert.KGdIdeal.main (F := Ideal))) ⟨m, fun _ => 0, g⟩ (fun r => (∀ c : Dev Cert.KGdIdeal.nD,
      r.2.mem ((c.tc : Thread Cert.KGdIdeal.nD Cert.KGdIdeal.τ).loc Cert.KGdIdeal.main_arg0) = m ((c.tc : Thread Cert.KGdIdeal.nD Cert.KGdIdeal.τ).loc Cert.KGdIdeal.main_arg0)
      ∧ r.2.mem ((c.tc : Thread Cert.KGdIdeal.nD Cert.KGdIdeal.τ).loc Cert.KGdIdeal.main_arg1) = m ((c.tc : Thread Cert.KGdIdeal.nD Cert.KGdIdeal.τ).loc Cert.KGdIdeal.main_arg1))
      ∧ r.2.sem = fun _ => 0)

def quiescent_RGdIdeal [hRGdIdeal : Cert.RGdIdeal.Facts] : Prop :=
  ∀ (m : (ℓ : Loc Cert.RGdIdeal.nD Cert.RGdIdeal.τ Cert.RGdIdeal.sig) → Buf (Elt Ideal) ℓ) (g : Dev Cert.RGdIdeal.nD → PrngReg), Pre_RGdIdeal m →
    θ_run (Cert.RGdIdeal.defs (F := Ideal)) (onTc (τ := Cert.RGdIdeal.τ) (Cert.RGdIdeal.main (F := Ideal))) ⟨m, fun _ => 0, g⟩ (fun r => (∀ c : Dev Cert.RGdIdeal.nD,
      r.2.mem ((c.tc : Thread Cert.RGdIdeal.nD Cert.RGdIdeal.τ).loc Cert.RGdIdeal.main_arg0) = m ((c.tc : Thread Cert.RGdIdeal.nD Cert.RGdIdeal.τ).loc Cert.RGdIdeal.main_arg0)
      ∧ r.2.mem ((c.tc : Thread Cert.RGdIdeal.nD Cert.RGdIdeal.τ).loc Cert.RGdIdeal.main_arg1) = m ((c.tc : Thread Cert.RGdIdeal.nD Cert.RGdIdeal.τ).loc Cert.RGdIdeal.main_arg1))
      ∧ r.2.sem = fun _ => 0)

def quiescent_KGo [hKGo : Cert.KGo.Facts] : Prop :=
  ∀ (m : (ℓ : Loc Cert.KGo.nD Cert.KGo.τ Cert.KGo.sig) → Buf (Elt Bits) ℓ) (g : Dev Cert.KGo.nD → PrngReg), Pre_KGo m →
    θ_run (Cert.KGo.defs (F := Bits)) (onTc (τ := Cert.KGo.τ) (Cert.KGo.main (F := Bits))) ⟨m, fun _ => 0, g⟩ (fun r => (∀ c : Dev Cert.KGo.nD,
      r.2.mem ((c.tc : Thread Cert.KGo.nD Cert.KGo.τ).loc Cert.KGo.main_arg0) = m ((c.tc : Thread Cert.KGo.nD Cert.KGo.τ).loc Cert.KGo.main_arg0)
      ∧ r.2.mem ((c.tc : Thread Cert.KGo.nD Cert.KGo.τ).loc Cert.KGo.main_arg1) = m ((c.tc : Thread Cert.KGo.nD Cert.KGo.τ).loc Cert.KGo.main_arg1))
      ∧ r.2.sem = fun _ => 0)

def quiescent_KGoIdeal [hKGoIdeal : Cert.KGoIdeal.Facts] : Prop :=
  ∀ (m : (ℓ : Loc Cert.KGoIdeal.nD Cert.KGoIdeal.τ Cert.KGoIdeal.sig) → Buf (Elt Ideal) ℓ) (g : Dev Cert.KGoIdeal.nD → PrngReg), Pre_KGoIdeal m →
    θ_run (Cert.KGoIdeal.defs (F := Ideal)) (onTc (τ := Cert.KGoIdeal.τ) (Cert.KGoIdeal.main (F := Ideal))) ⟨m, fun _ => 0, g⟩ (fun r => (∀ c : Dev Cert.KGoIdeal.nD,
      r.2.mem ((c.tc : Thread Cert.KGoIdeal.nD Cert.KGoIdeal.τ).loc Cert.KGoIdeal.main_arg0) = m ((c.tc : Thread Cert.KGoIdeal.nD Cert.KGoIdeal.τ).loc Cert.KGoIdeal.main_arg0)
      ∧ r.2.mem ((c.tc : Thread Cert.KGoIdeal.nD Cert.KGoIdeal.τ).loc Cert.KGoIdeal.main_arg1) = m ((c.tc : Thread Cert.KGoIdeal.nD Cert.KGoIdeal.τ).loc Cert.KGoIdeal.main_arg1))
      ∧ r.2.sem = fun _ => 0)

def quiescent_RGoIdeal [hRGoIdeal : Cert.RGoIdeal.Facts] : Prop :=
  ∀ (m : (ℓ : Loc Cert.RGoIdeal.nD Cert.RGoIdeal.τ Cert.RGoIdeal.sig) → Buf (Elt Ideal) ℓ) (g : Dev Cert.RGoIdeal.nD → PrngReg), Pre_RGoIdeal m →
    θ_run (Cert.RGoIdeal.defs (F := Ideal)) (onTc (τ := Cert.RGoIdeal.τ) (Cert.RGoIdeal.main (F := Ideal))) ⟨m, fun _ => 0, g⟩ (fun r => (∀ c : Dev Cert.RGoIdeal.nD,
      r.2.mem ((c.tc : Thread Cert.RGoIdeal.nD Cert.RGoIdeal.τ).loc Cert.RGoIdeal.main_arg0) = m ((c.tc : Thread Cert.RGoIdeal.nD Cert.RGoIdeal.τ).loc Cert.RGoIdeal.main_arg0)
      ∧ r.2.mem ((c.tc : Thread Cert.RGoIdeal.nD Cert.RGoIdeal.τ).loc Cert.RGoIdeal.main_arg1) = m ((c.tc : Thread Cert.RGoIdeal.nD Cert.RGoIdeal.τ).loc Cert.RGoIdeal.main_arg1))
      ∧ r.2.sem = fun _ => 0)

def quiescent_KGp [hKGp : Cert.KGp.Facts] : Prop :=
  ∀ (m : (ℓ : Loc Cert.KGp.nD Cert.KGp.τ Cert.KGp.sig) → Buf (Elt Bits) ℓ) (g : Dev Cert.KGp.nD → PrngReg), Pre_KGp m →
    θ_run (Cert.KGp.defs (F := Bits)) (onTc (τ := Cert.KGp.τ) (Cert.KGp.main (F := Bits))) ⟨m, fun _ => 0, g⟩ (fun r => (∀ c : Dev Cert.KGp.nD,
      r.2.mem ((c.tc : Thread Cert.KGp.nD Cert.KGp.τ).loc Cert.KGp.main_arg0) = m ((c.tc : Thread Cert.KGp.nD Cert.KGp.τ).loc Cert.KGp.main_arg0)
      ∧ r.2.mem ((c.tc : Thread Cert.KGp.nD Cert.KGp.τ).loc Cert.KGp.main_arg1) = m ((c.tc : Thread Cert.KGp.nD Cert.KGp.τ).loc Cert.KGp.main_arg1))
      ∧ r.2.sem = fun _ => 0)

def quiescent_KGpIdeal [hKGpIdeal : Cert.KGpIdeal.Facts] : Prop :=
  ∀ (m : (ℓ : Loc Cert.KGpIdeal.nD Cert.KGpIdeal.τ Cert.KGpIdeal.sig) → Buf (Elt Ideal) ℓ) (g : Dev Cert.KGpIdeal.nD → PrngReg), Pre_KGpIdeal m →
    θ_run (Cert.KGpIdeal.defs (F := Ideal)) (onTc (τ := Cert.KGpIdeal.τ) (Cert.KGpIdeal.main (F := Ideal))) ⟨m, fun _ => 0, g⟩ (fun r => (∀ c : Dev Cert.KGpIdeal.nD,
      r.2.mem ((c.tc : Thread Cert.KGpIdeal.nD Cert.KGpIdeal.τ).loc Cert.KGpIdeal.main_arg0) = m ((c.tc : Thread Cert.KGpIdeal.nD Cert.KGpIdeal.τ).loc Cert.KGpIdeal.main_arg0)
      ∧ r.2.mem ((c.tc : Thread Cert.KGpIdeal.nD Cert.KGpIdeal.τ).loc Cert.KGpIdeal.main_arg1) = m ((c.tc : Thread Cert.KGpIdeal.nD Cert.KGpIdeal.τ).loc Cert.KGpIdeal.main_arg1))
      ∧ r.2.sem = fun _ => 0)

def quiescent_RGpIdeal [hRGpIdeal : Cert.RGpIdeal.Facts] : Prop :=
  ∀ (m : (ℓ : Loc Cert.RGpIdeal.nD Cert.RGpIdeal.τ Cert.RGpIdeal.sig) → Buf (Elt Ideal) ℓ) (g : Dev Cert.RGpIdeal.nD → PrngReg), Pre_RGpIdeal m →
    θ_run (Cert.RGpIdeal.defs (F := Ideal)) (onTc (τ := Cert.RGpIdeal.τ) (Cert.RGpIdeal.main (F := Ideal))) ⟨m, fun _ => 0, g⟩ (fun r => (∀ c : Dev Cert.RGpIdeal.nD,
      r.2.mem ((c.tc : Thread Cert.RGpIdeal.nD Cert.RGpIdeal.τ).loc Cert.RGpIdeal.main_arg0) = m ((c.tc : Thread Cert.RGpIdeal.nD Cert.RGpIdeal.τ).loc Cert.RGpIdeal.main_arg0)
      ∧ r.2.mem ((c.tc : Thread Cert.RGpIdeal.nD Cert.RGpIdeal.τ).loc Cert.RGpIdeal.main_arg1) = m ((c.tc : Thread Cert.RGpIdeal.nD Cert.RGpIdeal.τ).loc Cert.RGpIdeal.main_arg1))
      ∧ r.2.sem = fun _ => 0)

def quiescent_KDh [hKDh : Cert.KDh.Facts] : Prop :=
  ∀ (m : (ℓ : Loc Cert.KDh.nD Cert.KDh.τ Cert.KDh.sig) → Buf (Elt Bits) ℓ) (g : Dev Cert.KDh.nD → PrngReg), Pre_KDh m →
    θ_run (Cert.KDh.defs (F := Bits)) (onTc (τ := Cert.KDh.τ) (Cert.KDh.main (F := Bits))) ⟨m, fun _ => 0, g⟩ (fun r => (∀ c : Dev Cert.KDh.nD,
      r.2.mem ((c.tc : Thread Cert.KDh.nD Cert.KDh.τ).loc Cert.KDh.main_arg0) = m ((c.tc : Thread Cert.KDh.nD Cert.KDh.τ).loc Cert.KDh.main_arg0)
      ∧ r.2.mem ((c.tc : Thread Cert.KDh.nD Cert.KDh.τ).loc Cert.KDh.main_arg1) = m ((c.tc : Thread Cert.KDh.nD Cert.KDh.τ).loc Cert.KDh.main_arg1))
      ∧ r.2.sem = fun _ => 0)

def quiescent_KDhIdeal [hKDhIdeal : Cert.KDhIdeal.Facts] : Prop :=
  ∀ (m : (ℓ : Loc Cert.KDhIdeal.nD Cert.KDhIdeal.τ Cert.KDhIdeal.sig) → Buf (Elt Ideal) ℓ) (g : Dev Cert.KDhIdeal.nD → PrngReg), Pre_KDhIdeal m →
    θ_run (Cert.KDhIdeal.defs (F := Ideal)) (onTc (τ := Cert.KDhIdeal.τ) (Cert.KDhIdeal.main (F := Ideal))) ⟨m, fun _ => 0, g⟩ (fun r => (∀ c : Dev Cert.KDhIdeal.nD,
      r.2.mem ((c.tc : Thread Cert.KDhIdeal.nD Cert.KDhIdeal.τ).loc Cert.KDhIdeal.main_arg0) = m ((c.tc : Thread Cert.KDhIdeal.nD Cert.KDhIdeal.τ).loc Cert.KDhIdeal.main_arg0)
      ∧ r.2.mem ((c.tc : Thread Cert.KDhIdeal.nD Cert.KDhIdeal.τ).loc Cert.KDhIdeal.main_arg1) = m ((c.tc : Thread Cert.KDhIdeal.nD Cert.KDhIdeal.τ).loc Cert.KDhIdeal.main_arg1))
      ∧ r.2.sem = fun _ => 0)

def quiescent_RDhIdeal [hRDhIdeal : Cert.RDhIdeal.Facts] : Prop :=
  ∀ (m : (ℓ : Loc Cert.RDhIdeal.nD Cert.RDhIdeal.τ Cert.RDhIdeal.sig) → Buf (Elt Ideal) ℓ) (g : Dev Cert.RDhIdeal.nD → PrngReg), Pre_RDhIdeal m →
    θ_run (Cert.RDhIdeal.defs (F := Ideal)) (onTc (τ := Cert.RDhIdeal.τ) (Cert.RDhIdeal.main (F := Ideal))) ⟨m, fun _ => 0, g⟩ (fun r => (∀ c : Dev Cert.RDhIdeal.nD,
      r.2.mem ((c.tc : Thread Cert.RDhIdeal.nD Cert.RDhIdeal.τ).loc Cert.RDhIdeal.main_arg0) = m ((c.tc : Thread Cert.RDhIdeal.nD Cert.RDhIdeal.τ).loc Cert.RDhIdeal.main_arg0)
      ∧ r.2.mem ((c.tc : Thread Cert.RDhIdeal.nD Cert.RDhIdeal.τ).loc Cert.RDhIdeal.main_arg1) = m ((c.tc : Thread Cert.RDhIdeal.nD Cert.RDhIdeal.τ).loc Cert.RDhIdeal.main_arg1))
      ∧ r.2.sem = fun _ => 0)

def quiescent_KDm [hKDm : Cert.KDm.Facts] : Prop :=
  ∀ (m : (ℓ : Loc Cert.KDm.nD Cert.KDm.τ Cert.KDm.sig) → Buf (Elt Bits) ℓ) (g : Dev Cert.KDm.nD → PrngReg), Pre_KDm m →
    θ_run (Cert.KDm.defs (F := Bits)) (onTc (τ := Cert.KDm.τ) (Cert.KDm.main (F := Bits))) ⟨m, fun _ => 0, g⟩ (fun r => (∀ c : Dev Cert.KDm.nD,
      r.2.mem ((c.tc : Thread Cert.KDm.nD Cert.KDm.τ).loc Cert.KDm.main_arg0) = m ((c.tc : Thread Cert.KDm.nD Cert.KDm.τ).loc Cert.KDm.main_arg0)
      ∧ r.2.mem ((c.tc : Thread Cert.KDm.nD Cert.KDm.τ).loc Cert.KDm.main_arg1) = m ((c.tc : Thread Cert.KDm.nD Cert.KDm.τ).loc Cert.KDm.main_arg1))
      ∧ r.2.sem = fun _ => 0)

def quiescent_KDmIdeal [hKDmIdeal : Cert.KDmIdeal.Facts] : Prop :=
  ∀ (m : (ℓ : Loc Cert.KDmIdeal.nD Cert.KDmIdeal.τ Cert.KDmIdeal.sig) → Buf (Elt Ideal) ℓ) (g : Dev Cert.KDmIdeal.nD → PrngReg), Pre_KDmIdeal m →
    θ_run (Cert.KDmIdeal.defs (F := Ideal)) (onTc (τ := Cert.KDmIdeal.τ) (Cert.KDmIdeal.main (F := Ideal))) ⟨m, fun _ => 0, g⟩ (fun r => (∀ c : Dev Cert.KDmIdeal.nD,
      r.2.mem ((c.tc : Thread Cert.KDmIdeal.nD Cert.KDmIdeal.τ).loc Cert.KDmIdeal.main_arg0) = m ((c.tc : Thread Cert.KDmIdeal.nD Cert.KDmIdeal.τ).loc Cert.KDmIdeal.main_arg0)
      ∧ r.2.mem ((c.tc : Thread Cert.KDmIdeal.nD Cert.KDmIdeal.τ).loc Cert.KDmIdeal.main_arg1) = m ((c.tc : Thread Cert.KDmIdeal.nD Cert.KDmIdeal.τ).loc Cert.KDmIdeal.main_arg1))
      ∧ r.2.sem = fun _ => 0)

def quiescent_RDmIdeal [hRDmIdeal : Cert.RDmIdeal.Facts] : Prop :=
  ∀ (m : (ℓ : Loc Cert.RDmIdeal.nD Cert.RDmIdeal.τ Cert.RDmIdeal.sig) → Buf (Elt Ideal) ℓ) (g : Dev Cert.RDmIdeal.nD → PrngReg), Pre_RDmIdeal m →
    θ_run (Cert.RDmIdeal.defs (F := Ideal)) (onTc (τ := Cert.RDmIdeal.τ) (Cert.RDmIdeal.main (F := Ideal))) ⟨m, fun _ => 0, g⟩ (fun r => (∀ c : Dev Cert.RDmIdeal.nD,
      r.2.mem ((c.tc : Thread Cert.RDmIdeal.nD Cert.RDmIdeal.τ).loc Cert.RDmIdeal.main_arg0) = m ((c.tc : Thread Cert.RDmIdeal.nD Cert.RDmIdeal.τ).loc Cert.RDmIdeal.main_arg0)
      ∧ r.2.mem ((c.tc : Thread Cert.RDmIdeal.nD Cert.RDmIdeal.τ).loc Cert.RDmIdeal.main_arg1) = m ((c.tc : Thread Cert.RDmIdeal.nD Cert.RDmIdeal.τ).loc Cert.RDmIdeal.main_arg1))
      ∧ r.2.sem = fun _ => 0)

def quiescent_KDy [hKDy : Cert.KDy.Facts] : Prop :=
  ∀ (m : (ℓ : Loc Cert.KDy.nD Cert.KDy.τ Cert.KDy.sig) → Buf (Elt Bits) ℓ) (g : Dev Cert.KDy.nD → PrngReg), Pre_KDy m →
    θ_run (Cert.KDy.defs (F := Bits)) (onTc (τ := Cert.KDy.τ) (Cert.KDy.main (F := Bits))) ⟨m, fun _ => 0, g⟩ (fun r => (∀ c : Dev Cert.KDy.nD,
      r.2.mem ((c.tc : Thread Cert.KDy.nD Cert.KDy.τ).loc Cert.KDy.main_arg0) = m ((c.tc : Thread Cert.KDy.nD Cert.KDy.τ).loc Cert.KDy.main_arg0)
      ∧ r.2.mem ((c.tc : Thread Cert.KDy.nD Cert.KDy.τ).loc Cert.KDy.main_arg1) = m ((c.tc : Thread Cert.KDy.nD Cert.KDy.τ).loc Cert.KDy.main_arg1))
      ∧ r.2.sem = fun _ => 0)

def quiescent_KDyIdeal [hKDyIdeal : Cert.KDyIdeal.Facts] : Prop :=
  ∀ (m : (ℓ : Loc Cert.KDyIdeal.nD Cert.KDyIdeal.τ Cert.KDyIdeal.sig) → Buf (Elt Ideal) ℓ) (g : Dev Cert.KDyIdeal.nD → PrngReg), Pre_KDyIdeal m →
    θ_run (Cert.KDyIdeal.defs (F := Ideal)) (onTc (τ := Cert.KDyIdeal.τ) (Cert.KDyIdeal.main (F := Ideal))) ⟨m, fun _ => 0, g⟩ (fun r => (∀ c : Dev Cert.KDyIdeal.nD,
      r.2.mem ((c.tc : Thread Cert.KDyIdeal.nD Cert.KDyIdeal.τ).loc Cert.KDyIdeal.main_arg0) = m ((c.tc : Thread Cert.KDyIdeal.nD Cert.KDyIdeal.τ).loc Cert.KDyIdeal.main_arg0)
      ∧ r.2.mem ((c.tc : Thread Cert.KDyIdeal.nD Cert.KDyIdeal.τ).loc Cert.KDyIdeal.main_arg1) = m ((c.tc : Thread Cert.KDyIdeal.nD Cert.KDyIdeal.τ).loc Cert.KDyIdeal.main_arg1))
      ∧ r.2.sem = fun _ => 0)

def quiescent_RDyIdeal [hRDyIdeal : Cert.RDyIdeal.Facts] : Prop :=
  ∀ (m : (ℓ : Loc Cert.RDyIdeal.nD Cert.RDyIdeal.τ Cert.RDyIdeal.sig) → Buf (Elt Ideal) ℓ) (g : Dev Cert.RDyIdeal.nD → PrngReg), Pre_RDyIdeal m →
    θ_run (Cert.RDyIdeal.defs (F := Ideal)) (onTc (τ := Cert.RDyIdeal.τ) (Cert.RDyIdeal.main (F := Ideal))) ⟨m, fun _ => 0, g⟩ (fun r => (∀ c : Dev Cert.RDyIdeal.nD,
      r.2.mem ((c.tc : Thread Cert.RDyIdeal.nD Cert.RDyIdeal.τ).loc Cert.RDyIdeal.main_arg0) = m ((c.tc : Thread Cert.RDyIdeal.nD Cert.RDyIdeal.τ).loc Cert.RDyIdeal.main_arg0)
      ∧ r.2.mem ((c.tc : Thread Cert.RDyIdeal.nD Cert.RDyIdeal.τ).loc Cert.RDyIdeal.main_arg1) = m ((c.tc : Thread Cert.RDyIdeal.nD Cert.RDyIdeal.τ).loc Cert.RDyIdeal.main_arg1))
      ∧ r.2.sem = fun _ => 0)

def quiescent_KXg [hKXg : Cert.KXg.Facts] : Prop :=
  ∀ (m : (ℓ : Loc Cert.KXg.nD Cert.KXg.τ Cert.KXg.sig) → Buf (Elt Bits) ℓ) (g : Dev Cert.KXg.nD → PrngReg), Pre_KXg m →
    θ_run (Cert.KXg.defs (F := Bits)) (onTc (τ := Cert.KXg.τ) (Cert.KXg.main (F := Bits))) ⟨m, fun _ => 0, g⟩ (fun r => (∀ c : Dev Cert.KXg.nD,
      r.2.mem ((c.tc : Thread Cert.KXg.nD Cert.KXg.τ).loc Cert.KXg.main_arg0) = m ((c.tc : Thread Cert.KXg.nD Cert.KXg.τ).loc Cert.KXg.main_arg0)
      ∧ r.2.mem ((c.tc : Thread Cert.KXg.nD Cert.KXg.τ).loc Cert.KXg.main_arg1) = m ((c.tc : Thread Cert.KXg.nD Cert.KXg.τ).loc Cert.KXg.main_arg1)
      ∧ r.2.mem ((c.tc : Thread Cert.KXg.nD Cert.KXg.τ).loc Cert.KXg.main_arg2) = m ((c.tc : Thread Cert.KXg.nD Cert.KXg.τ).loc Cert.KXg.main_arg2))
      ∧ r.2.sem = fun _ => 0)

def quiescent_KXgIdeal [hKXgIdeal : Cert.KXgIdeal.Facts] : Prop :=
  ∀ (m : (ℓ : Loc Cert.KXgIdeal.nD Cert.KXgIdeal.τ Cert.KXgIdeal.sig) → Buf (Elt Ideal) ℓ) (g : Dev Cert.KXgIdeal.nD → PrngReg), Pre_KXgIdeal m →
    θ_run (Cert.KXgIdeal.defs (F := Ideal)) (onTc (τ := Cert.KXgIdeal.τ) (Cert.KXgIdeal.main (F := Ideal))) ⟨m, fun _ => 0, g⟩ (fun r => (∀ c : Dev Cert.KXgIdeal.nD,
      r.2.mem ((c.tc : Thread Cert.KXgIdeal.nD Cert.KXgIdeal.τ).loc Cert.KXgIdeal.main_arg0) = m ((c.tc : Thread Cert.KXgIdeal.nD Cert.KXgIdeal.τ).loc Cert.KXgIdeal.main_arg0)
      ∧ r.2.mem ((c.tc : Thread Cert.KXgIdeal.nD Cert.KXgIdeal.τ).loc Cert.KXgIdeal.main_arg1) = m ((c.tc : Thread Cert.KXgIdeal.nD Cert.KXgIdeal.τ).loc Cert.KXgIdeal.main_arg1)
      ∧ r.2.mem ((c.tc : Thread Cert.KXgIdeal.nD Cert.KXgIdeal.τ).loc Cert.KXgIdeal.main_arg2) = m ((c.tc : Thread Cert.KXgIdeal.nD Cert.KXgIdeal.τ).loc Cert.KXgIdeal.main_arg2))
      ∧ r.2.sem = fun _ => 0)

def quiescent_RXgIdeal [hRXgIdeal : Cert.RXgIdeal.Facts] : Prop :=
  ∀ (m : (ℓ : Loc Cert.RXgIdeal.nD Cert.RXgIdeal.τ Cert.RXgIdeal.sig) → Buf (Elt Ideal) ℓ) (g : Dev Cert.RXgIdeal.nD → PrngReg), Pre_RXgIdeal m →
    θ_run (Cert.RXgIdeal.defs (F := Ideal)) (onTc (τ := Cert.RXgIdeal.τ) (Cert.RXgIdeal.main (F := Ideal))) ⟨m, fun _ => 0, g⟩ (fun r => (∀ c : Dev Cert.RXgIdeal.nD,
      r.2.mem ((c.tc : Thread Cert.RXgIdeal.nD Cert.RXgIdeal.τ).loc Cert.RXgIdeal.main_arg0) = m ((c.tc : Thread Cert.RXgIdeal.nD Cert.RXgIdeal.τ).loc Cert.RXgIdeal.main_arg0)
      ∧ r.2.mem ((c.tc : Thread Cert.RXgIdeal.nD Cert.RXgIdeal.τ).loc Cert.RXgIdeal.main_arg1) = m ((c.tc : Thread Cert.RXgIdeal.nD Cert.RXgIdeal.τ).loc Cert.RXgIdeal.main_arg1)
      ∧ r.2.mem ((c.tc : Thread Cert.RXgIdeal.nD Cert.RXgIdeal.τ).loc Cert.RXgIdeal.main_arg2) = m ((c.tc : Thread Cert.RXgIdeal.nD Cert.RXgIdeal.τ).loc Cert.RXgIdeal.main_arg2))
      ∧ r.2.sem = fun _ => 0)

def quiescent_KXv [hKXv : Cert.KXv.Facts] : Prop :=
  ∀ (m : (ℓ : Loc Cert.KXv.nD Cert.KXv.τ Cert.KXv.sig) → Buf (Elt Bits) ℓ) (g : Dev Cert.KXv.nD → PrngReg), Pre_KXv m →
    θ_run (Cert.KXv.defs (F := Bits)) (onTc (τ := Cert.KXv.τ) (Cert.KXv.main (F := Bits))) ⟨m, fun _ => 0, g⟩ (fun r => (∀ c : Dev Cert.KXv.nD,
      r.2.mem ((c.tc : Thread Cert.KXv.nD Cert.KXv.τ).loc Cert.KXv.main_arg0) = m ((c.tc : Thread Cert.KXv.nD Cert.KXv.τ).loc Cert.KXv.main_arg0)
      ∧ r.2.mem ((c.tc : Thread Cert.KXv.nD Cert.KXv.τ).loc Cert.KXv.main_arg1) = m ((c.tc : Thread Cert.KXv.nD Cert.KXv.τ).loc Cert.KXv.main_arg1)
      ∧ r.2.mem ((c.tc : Thread Cert.KXv.nD Cert.KXv.τ).loc Cert.KXv.main_arg2) = m ((c.tc : Thread Cert.KXv.nD Cert.KXv.τ).loc Cert.KXv.main_arg2))
      ∧ r.2.sem = fun _ => 0)

def quiescent_KXvIdeal [hKXvIdeal : Cert.KXvIdeal.Facts] : Prop :=
  ∀ (m : (ℓ : Loc Cert.KXvIdeal.nD Cert.KXvIdeal.τ Cert.KXvIdeal.sig) → Buf (Elt Ideal) ℓ) (g : Dev Cert.KXvIdeal.nD → PrngReg), Pre_KXvIdeal m →
    θ_run (Cert.KXvIdeal.defs (F := Ideal)) (onTc (τ := Cert.KXvIdeal.τ) (Cert.KXvIdeal.main (F := Ideal))) ⟨m, fun _ => 0, g⟩ (fun r => (∀ c : Dev Cert.KXvIdeal.nD,
      r.2.mem ((c.tc : Thread Cert.KXvIdeal.nD Cert.KXvIdeal.τ).loc Cert.KXvIdeal.main_arg0) = m ((c.tc : Thread Cert.KXvIdeal.nD Cert.KXvIdeal.τ).loc Cert.KXvIdeal.main_arg0)
      ∧ r.2.mem ((c.tc : Thread Cert.KXvIdeal.nD Cert.KXvIdeal.τ).loc Cert.KXvIdeal.main_arg1) = m ((c.tc : Thread Cert.KXvIdeal.nD Cert.KXvIdeal.τ).loc Cert.KXvIdeal.main_arg1)
      ∧ r.2.mem ((c.tc : Thread Cert.KXvIdeal.nD Cert.KXvIdeal.τ).loc Cert.KXvIdeal.main_arg2) = m ((c.tc : Thread Cert.KXvIdeal.nD Cert.KXvIdeal.τ).loc Cert.KXvIdeal.main_arg2))
      ∧ r.2.sem = fun _ => 0)

def quiescent_RXvIdeal [hRXvIdeal : Cert.RXvIdeal.Facts] : Prop :=
  ∀ (m : (ℓ : Loc Cert.RXvIdeal.nD Cert.RXvIdeal.τ Cert.RXvIdeal.sig) → Buf (Elt Ideal) ℓ) (g : Dev Cert.RXvIdeal.nD → PrngReg), Pre_RXvIdeal m →
    θ_run (Cert.RXvIdeal.defs (F := Ideal)) (onTc (τ := Cert.RXvIdeal.τ) (Cert.RXvIdeal.main (F := Ideal))) ⟨m, fun _ => 0, g⟩ (fun r => (∀ c : Dev Cert.RXvIdeal.nD,
      r.2.mem ((c.tc : Thread Cert.RXvIdeal.nD Cert.RXvIdeal.τ).loc Cert.RXvIdeal.main_arg0) = m ((c.tc : Thread Cert.RXvIdeal.nD Cert.RXvIdeal.τ).loc Cert.RXvIdeal.main_arg0)
      ∧ r.2.mem ((c.tc : Thread Cert.RXvIdeal.nD Cert.RXvIdeal.τ).loc Cert.RXvIdeal.main_arg1) = m ((c.tc : Thread Cert.RXvIdeal.nD Cert.RXvIdeal.τ).loc Cert.RXvIdeal.main_arg1)
      ∧ r.2.mem ((c.tc : Thread Cert.RXvIdeal.nD Cert.RXvIdeal.τ).loc Cert.RXvIdeal.main_arg2) = m ((c.tc : Thread Cert.RXvIdeal.nD Cert.RXvIdeal.τ).loc Cert.RXvIdeal.main_arg2))
      ∧ r.2.sem = fun _ => 0)

def quiescent_KXp [hKXp : Cert.KXp.Facts] : Prop :=
  ∀ (m : (ℓ : Loc Cert.KXp.nD Cert.KXp.τ Cert.KXp.sig) → Buf (Elt Bits) ℓ) (g : Dev Cert.KXp.nD → PrngReg), Pre_KXp m →
    θ_run (Cert.KXp.defs (F := Bits)) (onTc (τ := Cert.KXp.τ) (Cert.KXp.main (F := Bits))) ⟨m, fun _ => 0, g⟩ (fun r => (∀ c : Dev Cert.KXp.nD,
      r.2.mem ((c.tc : Thread Cert.KXp.nD Cert.KXp.τ).loc Cert.KXp.main_arg0) = m ((c.tc : Thread Cert.KXp.nD Cert.KXp.τ).loc Cert.KXp.main_arg0)
      ∧ r.2.mem ((c.tc : Thread Cert.KXp.nD Cert.KXp.τ).loc Cert.KXp.main_arg1) = m ((c.tc : Thread Cert.KXp.nD Cert.KXp.τ).loc Cert.KXp.main_arg1)
      ∧ r.2.mem ((c.tc : Thread Cert.KXp.nD Cert.KXp.τ).loc Cert.KXp.main_arg2) = m ((c.tc : Thread Cert.KXp.nD Cert.KXp.τ).loc Cert.KXp.main_arg2))
      ∧ r.2.sem = fun _ => 0)

def quiescent_KXpIdeal [hKXpIdeal : Cert.KXpIdeal.Facts] : Prop :=
  ∀ (m : (ℓ : Loc Cert.KXpIdeal.nD Cert.KXpIdeal.τ Cert.KXpIdeal.sig) → Buf (Elt Ideal) ℓ) (g : Dev Cert.KXpIdeal.nD → PrngReg), Pre_KXpIdeal m →
    θ_run (Cert.KXpIdeal.defs (F := Ideal)) (onTc (τ := Cert.KXpIdeal.τ) (Cert.KXpIdeal.main (F := Ideal))) ⟨m, fun _ => 0, g⟩ (fun r => (∀ c : Dev Cert.KXpIdeal.nD,
      r.2.mem ((c.tc : Thread Cert.KXpIdeal.nD Cert.KXpIdeal.τ).loc Cert.KXpIdeal.main_arg0) = m ((c.tc : Thread Cert.KXpIdeal.nD Cert.KXpIdeal.τ).loc Cert.KXpIdeal.main_arg0)
      ∧ r.2.mem ((c.tc : Thread Cert.KXpIdeal.nD Cert.KXpIdeal.τ).loc Cert.KXpIdeal.main_arg1) = m ((c.tc : Thread Cert.KXpIdeal.nD Cert.KXpIdeal.τ).loc Cert.KXpIdeal.main_arg1)
      ∧ r.2.mem ((c.tc : Thread Cert.KXpIdeal.nD Cert.KXpIdeal.τ).loc Cert.KXpIdeal.main_arg2) = m ((c.tc : Thread Cert.KXpIdeal.nD Cert.KXpIdeal.τ).loc Cert.KXpIdeal.main_arg2))
      ∧ r.2.sem = fun _ => 0)

def quiescent_RXpIdeal [hRXpIdeal : Cert.RXpIdeal.Facts] : Prop :=
  ∀ (m : (ℓ : Loc Cert.RXpIdeal.nD Cert.RXpIdeal.τ Cert.RXpIdeal.sig) → Buf (Elt Ideal) ℓ) (g : Dev Cert.RXpIdeal.nD → PrngReg), Pre_RXpIdeal m →
    θ_run (Cert.RXpIdeal.defs (F := Ideal)) (onTc (τ := Cert.RXpIdeal.τ) (Cert.RXpIdeal.main (F := Ideal))) ⟨m, fun _ => 0, g⟩ (fun r => (∀ c : Dev Cert.RXpIdeal.nD,
      r.2.mem ((c.tc : Thread Cert.RXpIdeal.nD Cert.RXpIdeal.τ).loc Cert.RXpIdeal.main_arg0) = m ((c.tc : Thread Cert.RXpIdeal.nD Cert.RXpIdeal.τ).loc Cert.RXpIdeal.main_arg0)
      ∧ r.2.mem ((c.tc : Thread Cert.RXpIdeal.nD Cert.RXpIdeal.τ).loc Cert.RXpIdeal.main_arg1) = m ((c.tc : Thread Cert.RXpIdeal.nD Cert.RXpIdeal.τ).loc Cert.RXpIdeal.main_arg1)
      ∧ r.2.mem ((c.tc : Thread Cert.RXpIdeal.nD Cert.RXpIdeal.τ).loc Cert.RXpIdeal.main_arg2) = m ((c.tc : Thread Cert.RXpIdeal.nD Cert.RXpIdeal.τ).loc Cert.RXpIdeal.main_arg2))
      ∧ r.2.sem = fun _ => 0)

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1)
      ∧ r.2.mem ((c.tc : Thread Cert.KDx.nD Cert.KDx.τ).loc Cert.KDx.main_arg2) = m ((c.tc : Thread Cert.KDx.nD Cert.KDx.τ).loc Cert.KDx.main_arg2))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2))
      ∧ r.2.sem = fun _ => 0)

def quiescent_KFs [hKFs : Cert.KFs.Facts] : Prop :=
  ∀ (m : (ℓ : Loc Cert.KFs.nD Cert.KFs.τ Cert.KFs.sig) → Buf (Elt Bits) ℓ) (g : Dev Cert.KFs.nD → PrngReg), Pre_KFs m →
    θ_run (Cert.KFs.defs (F := Bits)) (onTc (τ := Cert.KFs.τ) (Cert.KFs.main (F := Bits))) ⟨m, fun _ => 0, g⟩ (fun r => (∀ c : Dev Cert.KFs.nD,
      r.2.mem ((c.tc : Thread Cert.KFs.nD Cert.KFs.τ).loc Cert.KFs.main_arg0) = m ((c.tc : Thread Cert.KFs.nD Cert.KFs.τ).loc Cert.KFs.main_arg0)
      ∧ r.2.mem ((c.tc : Thread Cert.KFs.nD Cert.KFs.τ).loc Cert.KFs.main_arg1) = m ((c.tc : Thread Cert.KFs.nD Cert.KFs.τ).loc Cert.KFs.main_arg1))
      ∧ r.2.sem = fun _ => 0)

def quiescent_KFsIdeal [hKFsIdeal : Cert.KFsIdeal.Facts] : Prop :=
  ∀ (m : (ℓ : Loc Cert.KFsIdeal.nD Cert.KFsIdeal.τ Cert.KFsIdeal.sig) → Buf (Elt Ideal) ℓ) (g : Dev Cert.KFsIdeal.nD → PrngReg), Pre_KFsIdeal m →
    θ_run (Cert.KFsIdeal.defs (F := Ideal)) (onTc (τ := Cert.KFsIdeal.τ) (Cert.KFsIdeal.main (F := Ideal))) ⟨m, fun _ => 0, g⟩ (fun r => (∀ c : Dev Cert.KFsIdeal.nD,
      r.2.mem ((c.tc : Thread Cert.KFsIdeal.nD Cert.KFsIdeal.τ).loc Cert.KFsIdeal.main_arg0) = m ((c.tc : Thread Cert.KFsIdeal.nD Cert.KFsIdeal.τ).loc Cert.KFsIdeal.main_arg0)
      ∧ r.2.mem ((c.tc : Thread Cert.KFsIdeal.nD Cert.KFsIdeal.τ).loc Cert.KFsIdeal.main_arg1) = m ((c.tc : Thread Cert.KFsIdeal.nD Cert.KFsIdeal.τ).loc Cert.KFsIdeal.main_arg1))
      ∧ r.2.sem = fun _ => 0)

def quiescent_RFsIdeal [hRFsIdeal : Cert.RFsIdeal.Facts] : Prop :=
  ∀ (m : (ℓ : Loc Cert.RFsIdeal.nD Cert.RFsIdeal.τ Cert.RFsIdeal.sig) → Buf (Elt Ideal) ℓ) (g : Dev Cert.RFsIdeal.nD → PrngReg), Pre_RFsIdeal m →
    θ_run (Cert.RFsIdeal.defs (F := Ideal)) (onTc (τ := Cert.RFsIdeal.τ) (Cert.RFsIdeal.main (F := Ideal))) ⟨m, fun _ => 0, g⟩ (fun r => (∀ c : Dev Cert.RFsIdeal.nD,
      r.2.mem ((c.tc : Thread Cert.RFsIdeal.nD Cert.RFsIdeal.τ).loc Cert.RFsIdeal.main_arg0) = m ((c.tc : Thread Cert.RFsIdeal.nD Cert.RFsIdeal.τ).loc Cert.RFsIdeal.main_arg0)
      ∧ r.2.mem ((c.tc : Thread Cert.RFsIdeal.nD Cert.RFsIdeal.τ).loc Cert.RFsIdeal.main_arg1) = m ((c.tc : Thread Cert.RFsIdeal.nD Cert.RFsIdeal.τ).loc Cert.RFsIdeal.main_arg1))
      ∧ r.2.sem = fun _ => 0)

def quiescent_KFu [hKFu : Cert.KFu.Facts] : Prop :=
  ∀ (m : (ℓ : Loc Cert.KFu.nD Cert.KFu.τ Cert.KFu.sig) → Buf (Elt Bits) ℓ) (g : Dev Cert.KFu.nD → PrngReg), Pre_KFu m →
    θ_run (Cert.KFu.defs (F := Bits)) (onTc (τ := Cert.KFu.τ) (Cert.KFu.main (F := Bits))) ⟨m, fun _ => 0, g⟩ (fun r => (∀ c : Dev Cert.KFu.nD,
      r.2.mem ((c.tc : Thread Cert.KFu.nD Cert.KFu.τ).loc Cert.KFu.main_arg0) = m ((c.tc : Thread Cert.KFu.nD Cert.KFu.τ).loc Cert.KFu.main_arg0)
      ∧ r.2.mem ((c.tc : Thread Cert.KFu.nD Cert.KFu.τ).loc Cert.KFu.main_arg1) = m ((c.tc : Thread Cert.KFu.nD Cert.KFu.τ).loc Cert.KFu.main_arg1))
      ∧ r.2.sem = fun _ => 0)

def quiescent_KFuIdeal [hKFuIdeal : Cert.KFuIdeal.Facts] : Prop :=
  ∀ (m : (ℓ : Loc Cert.KFuIdeal.nD Cert.KFuIdeal.τ Cert.KFuIdeal.sig) → Buf (Elt Ideal) ℓ) (g : Dev Cert.KFuIdeal.nD → PrngReg), Pre_KFuIdeal m →
    θ_run (Cert.KFuIdeal.defs (F := Ideal)) (onTc (τ := Cert.KFuIdeal.τ) (Cert.KFuIdeal.main (F := Ideal))) ⟨m, fun _ => 0, g⟩ (fun r => (∀ c : Dev Cert.KFuIdeal.nD,
      r.2.mem ((c.tc : Thread Cert.KFuIdeal.nD Cert.KFuIdeal.τ).loc Cert.KFuIdeal.main_arg0) = m ((c.tc : Thread Cert.KFuIdeal.nD Cert.KFuIdeal.τ).loc Cert.KFuIdeal.main_arg0)
      ∧ r.2.mem ((c.tc : Thread Cert.KFuIdeal.nD Cert.KFuIdeal.τ).loc Cert.KFuIdeal.main_arg1) = m ((c.tc : Thread Cert.KFuIdeal.nD Cert.KFuIdeal.τ).loc Cert.KFuIdeal.main_arg1))
      ∧ r.2.sem = fun _ => 0)

def quiescent_RFuIdeal [hRFuIdeal : Cert.RFuIdeal.Facts] : Prop :=
  ∀ (m : (ℓ : Loc Cert.RFuIdeal.nD Cert.RFuIdeal.τ Cert.RFuIdeal.sig) → Buf (Elt Ideal) ℓ) (g : Dev Cert.RFuIdeal.nD → PrngReg), Pre_RFuIdeal m →
    θ_run (Cert.RFuIdeal.defs (F := Ideal)) (onTc (τ := Cert.RFuIdeal.τ) (Cert.RFuIdeal.main (F := Ideal))) ⟨m, fun _ => 0, g⟩ (fun r => (∀ c : Dev Cert.RFuIdeal.nD,
      r.2.mem ((c.tc : Thread Cert.RFuIdeal.nD Cert.RFuIdeal.τ).loc Cert.RFuIdeal.main_arg0) = m ((c.tc : Thread Cert.RFuIdeal.nD Cert.RFuIdeal.τ).loc Cert.RFuIdeal.main_arg0)
      ∧ r.2.mem ((c.tc : Thread Cert.RFuIdeal.nD Cert.RFuIdeal.τ).loc Cert.RFuIdeal.main_arg1) = m ((c.tc : Thread Cert.RFuIdeal.nD Cert.RFuIdeal.τ).loc Cert.RFuIdeal.main_arg1))
      ∧ r.2.sem = fun _ => 0)

def quiescent_KFd [hKFd : Cert.KFd.Facts] : Prop :=
  ∀ (m : (ℓ : Loc Cert.KFd.nD Cert.KFd.τ Cert.KFd.sig) → Buf (Elt Bits) ℓ) (g : Dev Cert.KFd.nD → PrngReg), Pre_KFd m →
    θ_run (Cert.KFd.defs (F := Bits)) (onTc (τ := Cert.KFd.τ) (Cert.KFd.main (F := Bits))) ⟨m, fun _ => 0, g⟩ (fun r => (∀ c : Dev Cert.KFd.nD,
      r.2.mem ((c.tc : Thread Cert.KFd.nD Cert.KFd.τ).loc Cert.KFd.main_arg0) = m ((c.tc : Thread Cert.KFd.nD Cert.KFd.τ).loc Cert.KFd.main_arg0)
      ∧ r.2.mem ((c.tc : Thread Cert.KFd.nD Cert.KFd.τ).loc Cert.KFd.main_arg1) = m ((c.tc : Thread Cert.KFd.nD Cert.KFd.τ).loc Cert.KFd.main_arg1))
      ∧ r.2.sem = fun _ => 0)

def quiescent_KFdIdeal [hKFdIdeal : Cert.KFdIdeal.Facts] : Prop :=
  ∀ (m : (ℓ : Loc Cert.KFdIdeal.nD Cert.KFdIdeal.τ Cert.KFdIdeal.sig) → Buf (Elt Ideal) ℓ) (g : Dev Cert.KFdIdeal.nD → PrngReg), Pre_KFdIdeal m →
    θ_run (Cert.KFdIdeal.defs (F := Ideal)) (onTc (τ := Cert.KFdIdeal.τ) (Cert.KFdIdeal.main (F := Ideal))) ⟨m, fun _ => 0, g⟩ (fun r => (∀ c : Dev Cert.KFdIdeal.nD,
      r.2.mem ((c.tc : Thread Cert.KFdIdeal.nD Cert.KFdIdeal.τ).loc Cert.KFdIdeal.main_arg0) = m ((c.tc : Thread Cert.KFdIdeal.nD Cert.KFdIdeal.τ).loc Cert.KFdIdeal.main_arg0)
      ∧ r.2.mem ((c.tc : Thread Cert.KFdIdeal.nD Cert.KFdIdeal.τ).loc Cert.KFdIdeal.main_arg1) = m ((c.tc : Thread Cert.KFdIdeal.nD Cert.KFdIdeal.τ).loc Cert.KFdIdeal.main_arg1))
      ∧ r.2.sem = fun _ => 0)

def quiescent_RFdIdeal [hRFdIdeal : Cert.RFdIdeal.Facts] : Prop :=
  ∀ (m : (ℓ : Loc Cert.RFdIdeal.nD Cert.RFdIdeal.τ Cert.RFdIdeal.sig) → Buf (Elt Ideal) ℓ) (g : Dev Cert.RFdIdeal.nD → PrngReg), Pre_RFdIdeal m →
    θ_run (Cert.RFdIdeal.defs (F := Ideal)) (onTc (τ := Cert.RFdIdeal.τ) (Cert.RFdIdeal.main (F := Ideal))) ⟨m, fun _ => 0, g⟩ (fun r => (∀ c : Dev Cert.RFdIdeal.nD,
      r.2.mem ((c.tc : Thread Cert.RFdIdeal.nD Cert.RFdIdeal.τ).loc Cert.RFdIdeal.main_arg0) = m ((c.tc : Thread Cert.RFdIdeal.nD Cert.RFdIdeal.τ).loc Cert.RFdIdeal.main_arg0)
      ∧ r.2.mem ((c.tc : Thread Cert.RFdIdeal.nD Cert.RFdIdeal.τ).loc Cert.RFdIdeal.main_arg1) = m ((c.tc : Thread Cert.RFdIdeal.nD Cert.RFdIdeal.τ).loc Cert.RFdIdeal.main_arg1))
      ∧ r.2.sem = fun _ => 0)

def quiescent_KFp [hKFp : Cert.KFp.Facts] : Prop :=
  ∀ (m : (ℓ : Loc Cert.KFp.nD Cert.KFp.τ Cert.KFp.sig) → Buf (Elt Bits) ℓ) (g : Dev Cert.KFp.nD → PrngReg), Pre_KFp m →
    θ_run (Cert.KFp.defs (F := Bits)) (onTc (τ := Cert.KFp.τ) (Cert.KFp.main (F := Bits))) ⟨m, fun _ => 0, g⟩ (fun r => (∀ c : Dev Cert.KFp.nD,
      r.2.mem ((c.tc : Thread Cert.KFp.nD Cert.KFp.τ).loc Cert.KFp.main_arg0) = m ((c.tc : Thread Cert.KFp.nD Cert.KFp.τ).loc Cert.KFp.main_arg0)
      ∧ r.2.mem ((c.tc : Thread Cert.KFp.nD Cert.KFp.τ).loc Cert.KFp.main_arg1) = m ((c.tc : Thread Cert.KFp.nD Cert.KFp.τ).loc Cert.KFp.main_arg1))
      ∧ r.2.sem = fun _ => 0)

def quiescent_KFpIdeal [hKFpIdeal : Cert.KFpIdeal.Facts] : Prop :=
  ∀ (m : (ℓ : Loc Cert.KFpIdeal.nD Cert.KFpIdeal.τ Cert.KFpIdeal.sig) → Buf (Elt Ideal) ℓ) (g : Dev Cert.KFpIdeal.nD → PrngReg), Pre_KFpIdeal m →
    θ_run (Cert.KFpIdeal.defs (F := Ideal)) (onTc (τ := Cert.KFpIdeal.τ) (Cert.KFpIdeal.main (F := Ideal))) ⟨m, fun _ => 0, g⟩ (fun r => (∀ c : Dev Cert.KFpIdeal.nD,
      r.2.mem ((c.tc : Thread Cert.KFpIdeal.nD Cert.KFpIdeal.τ).loc Cert.KFpIdeal.main_arg0) = m ((c.tc : Thread Cert.KFpIdeal.nD Cert.KFpIdeal.τ).loc Cert.KFpIdeal.main_arg0)
      ∧ r.2.mem ((c.tc : Thread Cert.KFpIdeal.nD Cert.KFpIdeal.τ).loc Cert.KFpIdeal.main_arg1) = m ((c.tc : Thread Cert.KFpIdeal.nD Cert.KFpIdeal.τ).loc Cert.KFpIdeal.main_arg1))
      ∧ r.2.sem = fun _ => 0)

def quiescent_RFpIdeal [hRFpIdeal : Cert.RFpIdeal.Facts] : Prop :=
  ∀ (m : (ℓ : Loc Cert.RFpIdeal.nD Cert.RFpIdeal.τ Cert.RFpIdeal.sig) → Buf (Elt Ideal) ℓ) (g : Dev Cert.RFpIdeal.nD → PrngReg), Pre_RFpIdeal m →
    θ_run (Cert.RFpIdeal.defs (F := Ideal)) (onTc (τ := Cert.RFpIdeal.τ) (Cert.RFpIdeal.main (F := Ideal))) ⟨m, fun _ => 0, g⟩ (fun r => (∀ c : Dev Cert.RFpIdeal.nD,
      r.2.mem ((c.tc : Thread Cert.RFpIdeal.nD Cert.RFpIdeal.τ).loc Cert.RFpIdeal.main_arg0) = m ((c.tc : Thread Cert.RFpIdeal.nD Cert.RFpIdeal.τ).loc Cert.RFpIdeal.main_arg0)
      ∧ r.2.mem ((c.tc : Thread Cert.RFpIdeal.nD Cert.RFpIdeal.τ).loc Cert.RFpIdeal.main_arg1) = m ((c.tc : Thread Cert.RFpIdeal.nD Cert.RFpIdeal.τ).loc Cert.RFpIdeal.main_arg1))
      ∧ r.2.sem = fun _ => 0)

def quiescent_KMb [hKMb : Cert.KMb.Facts] : Prop :=
  ∀ (m : (ℓ : Loc Cert.KMb.nD Cert.KMb.τ Cert.KMb.sig) → Buf (Elt Bits) ℓ) (g : Dev Cert.KMb.nD → PrngReg), Pre_KMb m →
    θ_run (Cert.KMb.defs (F := Bits)) (onTc (τ := Cert.KMb.τ) (Cert.KMb.main (F := Bits))) ⟨m, fun _ => 0, g⟩ (fun r => (∀ c : Dev Cert.KMb.nD,
      r.2.mem ((c.tc : Thread Cert.KMb.nD Cert.KMb.τ).loc Cert.KMb.main_arg0) = m ((c.tc : Thread Cert.KMb.nD Cert.KMb.τ).loc Cert.KMb.main_arg0)
      ∧ r.2.mem ((c.tc : Thread Cert.KMb.nD Cert.KMb.τ).loc Cert.KMb.main_arg1) = m ((c.tc : Thread Cert.KMb.nD Cert.KMb.τ).loc Cert.KMb.main_arg1)
      ∧ r.2.mem ((c.tc : Thread Cert.KMb.nD Cert.KMb.τ).loc Cert.KMb.main_arg2) = m ((c.tc : Thread Cert.KMb.nD Cert.KMb.τ).loc Cert.KMb.main_arg2)
      ∧ r.2.mem ((c.tc : Thread Cert.KMb.nD Cert.KMb.τ).loc Cert.KMb.main_arg3) = m ((c.tc : Thread Cert.KMb.nD Cert.KMb.τ).loc Cert.KMb.main_arg3))
      ∧ r.2.sem = fun _ => 0)

def quiescent_KMbIdeal [hKMbIdeal : Cert.KMbIdeal.Facts] : Prop :=
  ∀ (m : (ℓ : Loc Cert.KMbIdeal.nD Cert.KMbIdeal.τ Cert.KMbIdeal.sig) → Buf (Elt Ideal) ℓ) (g : Dev Cert.KMbIdeal.nD → PrngReg), Pre_KMbIdeal m →
    θ_run (Cert.KMbIdeal.defs (F := Ideal)) (onTc (τ := Cert.KMbIdeal.τ) (Cert.KMbIdeal.main (F := Ideal))) ⟨m, fun _ => 0, g⟩ (fun r => (∀ c : Dev Cert.KMbIdeal.nD,
      r.2.mem ((c.tc : Thread Cert.KMbIdeal.nD Cert.KMbIdeal.τ).loc Cert.KMbIdeal.main_arg0) = m ((c.tc : Thread Cert.KMbIdeal.nD Cert.KMbIdeal.τ).loc Cert.KMbIdeal.main_arg0)
      ∧ r.2.mem ((c.tc : Thread Cert.KMbIdeal.nD Cert.KMbIdeal.τ).loc Cert.KMbIdeal.main_arg1) = m ((c.tc : Thread Cert.KMbIdeal.nD Cert.KMbIdeal.τ).loc Cert.KMbIdeal.main_arg1)
      ∧ r.2.mem ((c.tc : Thread Cert.KMbIdeal.nD Cert.KMbIdeal.τ).loc Cert.KMbIdeal.main_arg2) = m ((c.tc : Thread Cert.KMbIdeal.nD Cert.KMbIdeal.τ).loc Cert.KMbIdeal.main_arg2)
      ∧ r.2.mem ((c.tc : Thread Cert.KMbIdeal.nD Cert.KMbIdeal.τ).loc Cert.KMbIdeal.main_arg3) = m ((c.tc : Thread Cert.KMbIdeal.nD Cert.KMbIdeal.τ).loc Cert.KMbIdeal.main_arg3))
      ∧ r.2.sem = fun _ => 0)

def quiescent_RMbIdeal [hRMbIdeal : Cert.RMbIdeal.Facts] : Prop :=
  ∀ (m : (ℓ : Loc Cert.RMbIdeal.nD Cert.RMbIdeal.τ Cert.RMbIdeal.sig) → Buf (Elt Ideal) ℓ) (g : Dev Cert.RMbIdeal.nD → PrngReg), Pre_RMbIdeal m →
    θ_run (Cert.RMbIdeal.defs (F := Ideal)) (onTc (τ := Cert.RMbIdeal.τ) (Cert.RMbIdeal.main (F := Ideal))) ⟨m, fun _ => 0, g⟩ (fun r => (∀ c : Dev Cert.RMbIdeal.nD,
      r.2.mem ((c.tc : Thread Cert.RMbIdeal.nD Cert.RMbIdeal.τ).loc Cert.RMbIdeal.main_arg0) = m ((c.tc : Thread Cert.RMbIdeal.nD Cert.RMbIdeal.τ).loc Cert.RMbIdeal.main_arg0)
      ∧ r.2.mem ((c.tc : Thread Cert.RMbIdeal.nD Cert.RMbIdeal.τ).loc Cert.RMbIdeal.main_arg1) = m ((c.tc : Thread Cert.RMbIdeal.nD Cert.RMbIdeal.τ).loc Cert.RMbIdeal.main_arg1)
      ∧ r.2.mem ((c.tc : Thread Cert.RMbIdeal.nD Cert.RMbIdeal.τ).loc Cert.RMbIdeal.main_arg2) = m ((c.tc : Thread Cert.RMbIdeal.nD Cert.RMbIdeal.τ).loc Cert.RMbIdeal.main_arg2)
      ∧ r.2.mem ((c.tc : Thread Cert.RMbIdeal.nD Cert.RMbIdeal.τ).loc Cert.RMbIdeal.main_arg3) = m ((c.tc : Thread Cert.RMbIdeal.nD Cert.RMbIdeal.τ).loc Cert.RMbIdeal.main_arg3))
      ∧ r.2.sem = fun _ => 0)

def quiescent_KMf [hKMf : Cert.KMf.Facts] : Prop :=
  ∀ (m : (ℓ : Loc Cert.KMf.nD Cert.KMf.τ Cert.KMf.sig) → Buf (Elt Bits) ℓ) (g : Dev Cert.KMf.nD → PrngReg), Pre_KMf m →
    θ_run (Cert.KMf.defs (F := Bits)) (onTc (τ := Cert.KMf.τ) (Cert.KMf.main (F := Bits))) ⟨m, fun _ => 0, g⟩ (fun r => (∀ c : Dev Cert.KMf.nD,
      r.2.mem ((c.tc : Thread Cert.KMf.nD Cert.KMf.τ).loc Cert.KMf.main_arg0) = m ((c.tc : Thread Cert.KMf.nD Cert.KMf.τ).loc Cert.KMf.main_arg0)
      ∧ r.2.mem ((c.tc : Thread Cert.KMf.nD Cert.KMf.τ).loc Cert.KMf.main_arg1) = m ((c.tc : Thread Cert.KMf.nD Cert.KMf.τ).loc Cert.KMf.main_arg1)
      ∧ r.2.mem ((c.tc : Thread Cert.KMf.nD Cert.KMf.τ).loc Cert.KMf.main_arg2) = m ((c.tc : Thread Cert.KMf.nD Cert.KMf.τ).loc Cert.KMf.main_arg2))
      ∧ r.2.sem = fun _ => 0)

def quiescent_KMfIdeal [hKMfIdeal : Cert.KMfIdeal.Facts] : Prop :=
  ∀ (m : (ℓ : Loc Cert.KMfIdeal.nD Cert.KMfIdeal.τ Cert.KMfIdeal.sig) → Buf (Elt Ideal) ℓ) (g : Dev Cert.KMfIdeal.nD → PrngReg), Pre_KMfIdeal m →
    θ_run (Cert.KMfIdeal.defs (F := Ideal)) (onTc (τ := Cert.KMfIdeal.τ) (Cert.KMfIdeal.main (F := Ideal))) ⟨m, fun _ => 0, g⟩ (fun r => (∀ c : Dev Cert.KMfIdeal.nD,
      r.2.mem ((c.tc : Thread Cert.KMfIdeal.nD Cert.KMfIdeal.τ).loc Cert.KMfIdeal.main_arg0) = m ((c.tc : Thread Cert.KMfIdeal.nD Cert.KMfIdeal.τ).loc Cert.KMfIdeal.main_arg0)
      ∧ r.2.mem ((c.tc : Thread Cert.KMfIdeal.nD Cert.KMfIdeal.τ).loc Cert.KMfIdeal.main_arg1) = m ((c.tc : Thread Cert.KMfIdeal.nD Cert.KMfIdeal.τ).loc Cert.KMfIdeal.main_arg1)
      ∧ r.2.mem ((c.tc : Thread Cert.KMfIdeal.nD Cert.KMfIdeal.τ).loc Cert.KMfIdeal.main_arg2) = m ((c.tc : Thread Cert.KMfIdeal.nD Cert.KMfIdeal.τ).loc Cert.KMfIdeal.main_arg2))
      ∧ r.2.sem = fun _ => 0)

def quiescent_RMfIdeal [hRMfIdeal : Cert.RMfIdeal.Facts] : Prop :=
  ∀ (m : (ℓ : Loc Cert.RMfIdeal.nD Cert.RMfIdeal.τ Cert.RMfIdeal.sig) → Buf (Elt Ideal) ℓ) (g : Dev Cert.RMfIdeal.nD → PrngReg), Pre_RMfIdeal m →
    θ_run (Cert.RMfIdeal.defs (F := Ideal)) (onTc (τ := Cert.RMfIdeal.τ) (Cert.RMfIdeal.main (F := Ideal))) ⟨m, fun _ => 0, g⟩ (fun r => (∀ c : Dev Cert.RMfIdeal.nD,
      r.2.mem ((c.tc : Thread Cert.RMfIdeal.nD Cert.RMfIdeal.τ).loc Cert.RMfIdeal.main_arg0) = m ((c.tc : Thread Cert.RMfIdeal.nD Cert.RMfIdeal.τ).loc Cert.RMfIdeal.main_arg0)
      ∧ r.2.mem ((c.tc : Thread Cert.RMfIdeal.nD Cert.RMfIdeal.τ).loc Cert.RMfIdeal.main_arg1) = m ((c.tc : Thread Cert.RMfIdeal.nD Cert.RMfIdeal.τ).loc Cert.RMfIdeal.main_arg1)
      ∧ r.2.mem ((c.tc : Thread Cert.RMfIdeal.nD Cert.RMfIdeal.τ).loc Cert.RMfIdeal.main_arg2) = m ((c.tc : Thread Cert.RMfIdeal.nD Cert.RMfIdeal.τ).loc Cert.RMfIdeal.main_arg2))
      ∧ r.2.sem = fun _ => 0)

def quiescent_KLf [hKLf : Cert.KLf.Facts] : Prop :=
  ∀ (m : (ℓ : Loc Cert.KLf.nD Cert.KLf.τ Cert.KLf.sig) → Buf (Elt Bits) ℓ) (g : Dev Cert.KLf.nD → PrngReg), Pre_KLf m →
    θ_run (Cert.KLf.defs (F := Bits)) (onTc (τ := Cert.KLf.τ) (Cert.KLf.main (F := Bits))) ⟨m, fun _ => 0, g⟩ (fun r => (∀ c : Dev Cert.KLf.nD,
      r.2.mem ((c.tc : Thread Cert.KLf.nD Cert.KLf.τ).loc Cert.KLf.main_arg0) = m ((c.tc : Thread Cert.KLf.nD Cert.KLf.τ).loc Cert.KLf.main_arg0)
      ∧ r.2.mem ((c.tc : Thread Cert.KLf.nD Cert.KLf.τ).loc Cert.KLf.main_arg1) = m ((c.tc : Thread Cert.KLf.nD Cert.KLf.τ).loc Cert.KLf.main_arg1)
      ∧ r.2.mem ((c.tc : Thread Cert.KLf.nD Cert.KLf.τ).loc Cert.KLf.main_arg2) = m ((c.tc : Thread Cert.KLf.nD Cert.KLf.τ).loc Cert.KLf.main_arg2)
      ∧ r.2.mem ((c.tc : Thread Cert.KLf.nD Cert.KLf.τ).loc Cert.KLf.main_arg3) = m ((c.tc : Thread Cert.KLf.nD Cert.KLf.τ).loc Cert.KLf.main_arg3))
      ∧ r.2.sem = fun _ => 0)

def quiescent_KLfIdeal [hKLfIdeal : Cert.KLfIdeal.Facts] : Prop :=
  ∀ (m : (ℓ : Loc Cert.KLfIdeal.nD Cert.KLfIdeal.τ Cert.KLfIdeal.sig) → Buf (Elt Ideal) ℓ) (g : Dev Cert.KLfIdeal.nD → PrngReg), Pre_KLfIdeal m →
    θ_run (Cert.KLfIdeal.defs (F := Ideal)) (onTc (τ := Cert.KLfIdeal.τ) (Cert.KLfIdeal.main (F := Ideal))) ⟨m, fun _ => 0, g⟩ (fun r => (∀ c : Dev Cert.KLfIdeal.nD,
      r.2.mem ((c.tc : Thread Cert.KLfIdeal.nD Cert.KLfIdeal.τ).loc Cert.KLfIdeal.main_arg0) = m ((c.tc : Thread Cert.KLfIdeal.nD Cert.KLfIdeal.τ).loc Cert.KLfIdeal.main_arg0)
      ∧ r.2.mem ((c.tc : Thread Cert.KLfIdeal.nD Cert.KLfIdeal.τ).loc Cert.KLfIdeal.main_arg1) = m ((c.tc : Thread Cert.KLfIdeal.nD Cert.KLfIdeal.τ).loc Cert.KLfIdeal.main_arg1)
      ∧ r.2.mem ((c.tc : Thread Cert.KLfIdeal.nD Cert.KLfIdeal.τ).loc Cert.KLfIdeal.main_arg2) = m ((c.tc : Thread Cert.KLfIdeal.nD Cert.KLfIdeal.τ).loc Cert.KLfIdeal.main_arg2)
      ∧ r.2.mem ((c.tc : Thread Cert.KLfIdeal.nD Cert.KLfIdeal.τ).loc Cert.KLfIdeal.main_arg3) = m ((c.tc : Thread Cert.KLfIdeal.nD Cert.KLfIdeal.τ).loc Cert.KLfIdeal.main_arg3))
      ∧ r.2.sem = fun _ => 0)

def quiescent_RLfIdeal [hRLfIdeal : Cert.RLfIdeal.Facts] : Prop :=
  ∀ (m : (ℓ : Loc Cert.RLfIdeal.nD Cert.RLfIdeal.τ Cert.RLfIdeal.sig) → Buf (Elt Ideal) ℓ) (g : Dev Cert.RLfIdeal.nD → PrngReg), Pre_RLfIdeal m →
    θ_run (Cert.RLfIdeal.defs (F := Ideal)) (onTc (τ := Cert.RLfIdeal.τ) (Cert.RLfIdeal.main (F := Ideal))) ⟨m, fun _ => 0, g⟩ (fun r => (∀ c : Dev Cert.RLfIdeal.nD,
      r.2.mem ((c.tc : Thread Cert.RLfIdeal.nD Cert.RLfIdeal.τ).loc Cert.RLfIdeal.main_arg0) = m ((c.tc : Thread Cert.RLfIdeal.nD Cert.RLfIdeal.τ).loc Cert.RLfIdeal.main_arg0)
      ∧ r.2.mem ((c.tc : Thread Cert.RLfIdeal.nD Cert.RLfIdeal.τ).loc Cert.RLfIdeal.main_arg1) = m ((c.tc : Thread Cert.RLfIdeal.nD Cert.RLfIdeal.τ).loc Cert.RLfIdeal.main_arg1)
      ∧ r.2.mem ((c.tc : Thread Cert.RLfIdeal.nD Cert.RLfIdeal.τ).loc Cert.RLfIdeal.main_arg2) = m ((c.tc : Thread Cert.RLfIdeal.nD Cert.RLfIdeal.τ).loc Cert.RLfIdeal.main_arg2)
      ∧ r.2.mem ((c.tc : Thread Cert.RLfIdeal.nD Cert.RLfIdeal.τ).loc Cert.RLfIdeal.main_arg3) = m ((c.tc : Thread Cert.RLfIdeal.nD Cert.RLfIdeal.τ).loc Cert.RLfIdeal.main_arg3))
      ∧ r.2.sem = fun _ => 0)

def quiescent_KCf [hKCf : Cert.KCf.Facts] : Prop :=
  ∀ (m : (ℓ : Loc Cert.KCf.nD Cert.KCf.τ Cert.KCf.sig) → Buf (Elt Bits) ℓ) (g : Dev Cert.KCf.nD → PrngReg), Pre_KCf m →
    θ_run (Cert.KCf.defs (F := Bits)) (onTc (τ := Cert.KCf.τ) (Cert.KCf.main (F := Bits))) ⟨m, fun _ => 0, g⟩ (fun r => (∀ c : Dev Cert.KCf.nD,
      r.2.mem ((c.tc : Thread Cert.KCf.nD Cert.KCf.τ).loc Cert.KCf.main_arg0) = m ((c.tc : Thread Cert.KCf.nD Cert.KCf.τ).loc Cert.KCf.main_arg0)
      ∧ r.2.mem ((c.tc : Thread Cert.KCf.nD Cert.KCf.τ).loc Cert.KCf.main_arg1) = m ((c.tc : Thread Cert.KCf.nD Cert.KCf.τ).loc Cert.KCf.main_arg1)
      ∧ r.2.mem ((c.tc : Thread Cert.KCf.nD Cert.KCf.τ).loc Cert.KCf.main_arg2) = m ((c.tc : Thread Cert.KCf.nD Cert.KCf.τ).loc Cert.KCf.main_arg2)
      ∧ r.2.mem ((c.tc : Thread Cert.KCf.nD Cert.KCf.τ).loc Cert.KCf.main_arg3) = m ((c.tc : Thread Cert.KCf.nD Cert.KCf.τ).loc Cert.KCf.main_arg3))
      ∧ r.2.sem = fun _ => 0)

def quiescent_KCfIdeal [hKCfIdeal : Cert.KCfIdeal.Facts] : Prop :=
  ∀ (m : (ℓ : Loc Cert.KCfIdeal.nD Cert.KCfIdeal.τ Cert.KCfIdeal.sig) → Buf (Elt Ideal) ℓ) (g : Dev Cert.KCfIdeal.nD → PrngReg), Pre_KCfIdeal m →
    θ_run (Cert.KCfIdeal.defs (F := Ideal)) (onTc (τ := Cert.KCfIdeal.τ) (Cert.KCfIdeal.main (F := Ideal))) ⟨m, fun _ => 0, g⟩ (fun r => (∀ c : Dev Cert.KCfIdeal.nD,
      r.2.mem ((c.tc : Thread Cert.KCfIdeal.nD Cert.KCfIdeal.τ).loc Cert.KCfIdeal.main_arg0) = m ((c.tc : Thread Cert.KCfIdeal.nD Cert.KCfIdeal.τ).loc Cert.KCfIdeal.main_arg0)
      ∧ r.2.mem ((c.tc : Thread Cert.KCfIdeal.nD Cert.KCfIdeal.τ).loc Cert.KCfIdeal.main_arg1) = m ((c.tc : Thread Cert.KCfIdeal.nD Cert.KCfIdeal.τ).loc Cert.KCfIdeal.main_arg1)
      ∧ r.2.mem ((c.tc : Thread Cert.KCfIdeal.nD Cert.KCfIdeal.τ).loc Cert.KCfIdeal.main_arg2) = m ((c.tc : Thread Cert.KCfIdeal.nD Cert.KCfIdeal.τ).loc Cert.KCfIdeal.main_arg2)
      ∧ r.2.mem ((c.tc : Thread Cert.KCfIdeal.nD Cert.KCfIdeal.τ).loc Cert.KCfIdeal.main_arg3) = m ((c.tc : Thread Cert.KCfIdeal.nD Cert.KCfIdeal.τ).loc Cert.KCfIdeal.main_arg3))
      ∧ r.2.sem = fun _ => 0)

def quiescent_RCfIdeal [hRCfIdeal : Cert.RCfIdeal.Facts] : Prop :=
  ∀ (m : (ℓ : Loc Cert.RCfIdeal.nD Cert.RCfIdeal.τ Cert.RCfIdeal.sig) → Buf (Elt Ideal) ℓ) (g : Dev Cert.RCfIdeal.nD → PrngReg), Pre_RCfIdeal m →
    θ_run (Cert.RCfIdeal.defs (F := Ideal)) (onTc (τ := Cert.RCfIdeal.τ) (Cert.RCfIdeal.main (F := Ideal))) ⟨m, fun _ => 0, g⟩ (fun r => (∀ c : Dev Cert.RCfIdeal.nD,
      r.2.mem ((c.tc : Thread Cert.RCfIdeal.nD Cert.RCfIdeal.τ).loc Cert.RCfIdeal.main_arg0) = m ((c.tc : Thread Cert.RCfIdeal.nD Cert.RCfIdeal.τ).loc Cert.RCfIdeal.main_arg0)
      ∧ r.2.mem ((c.tc : Thread Cert.RCfIdeal.nD Cert.RCfIdeal.τ).loc Cert.RCfIdeal.main_arg1) = m ((c.tc : Thread Cert.RCfIdeal.nD Cert.RCfIdeal.τ).loc Cert.RCfIdeal.main_arg1)
      ∧ r.2.mem ((c.tc : Thread Cert.RCfIdeal.nD Cert.RCfIdeal.τ).loc Cert.RCfIdeal.main_arg2) = m ((c.tc : Thread Cert.RCfIdeal.nD Cert.RCfIdeal.τ).loc Cert.RCfIdeal.main_arg2)
      ∧ r.2.mem ((c.tc : Thread Cert.RCfIdeal.nD Cert.RCfIdeal.τ).loc Cert.RCfIdeal.main_arg3) = m ((c.tc : Thread Cert.RCfIdeal.nD Cert.RCfIdeal.τ).loc Cert.RCfIdeal.main_arg3))
      ∧ r.2.sem = fun _ => 0)

def quiescent_KCb [hKCb : Cert.KCb.Facts] : Prop :=
  ∀ (m : (ℓ : Loc Cert.KCb.nD Cert.KCb.τ Cert.KCb.sig) → Buf (Elt Bits) ℓ) (g : Dev Cert.KCb.nD → PrngReg), Pre_KCb m →
    θ_run (Cert.KCb.defs (F := Bits)) (onTc (τ := Cert.KCb.τ) (Cert.KCb.main (F := Bits))) ⟨m, fun _ => 0, g⟩ (fun r => (∀ c : Dev Cert.KCb.nD,
      r.2.mem ((c.tc : Thread Cert.KCb.nD Cert.KCb.τ).loc Cert.KCb.main_arg0) = m ((c.tc : Thread Cert.KCb.nD Cert.KCb.τ).loc Cert.KCb.main_arg0)
      ∧ r.2.mem ((c.tc : Thread Cert.KCb.nD Cert.KCb.τ).loc Cert.KCb.main_arg1) = m ((c.tc : Thread Cert.KCb.nD Cert.KCb.τ).loc Cert.KCb.main_arg1))
      ∧ r.2.sem = fun _ => 0)

def quiescent_KCbIdeal [hKCbIdeal : Cert.KCbIdeal.Facts] : Prop :=
  ∀ (m : (ℓ : Loc Cert.KCbIdeal.nD Cert.KCbIdeal.τ Cert.KCbIdeal.sig) → Buf (Elt Ideal) ℓ) (g : Dev Cert.KCbIdeal.nD → PrngReg), Pre_KCbIdeal m →
    θ_run (Cert.KCbIdeal.defs (F := Ideal)) (onTc (τ := Cert.KCbIdeal.τ) (Cert.KCbIdeal.main (F := Ideal))) ⟨m, fun _ => 0, g⟩ (fun r => (∀ c : Dev Cert.KCbIdeal.nD,
      r.2.mem ((c.tc : Thread Cert.KCbIdeal.nD Cert.KCbIdeal.τ).loc Cert.KCbIdeal.main_arg0) = m ((c.tc : Thread Cert.KCbIdeal.nD Cert.KCbIdeal.τ).loc Cert.KCbIdeal.main_arg0)
      ∧ r.2.mem ((c.tc : Thread Cert.KCbIdeal.nD Cert.KCbIdeal.τ).loc Cert.KCbIdeal.main_arg1) = m ((c.tc : Thread Cert.KCbIdeal.nD Cert.KCbIdeal.τ).loc Cert.KCbIdeal.main_arg1))
      ∧ r.2.sem = fun _ => 0)

def quiescent_RCbIdeal [hRCbIdeal : Cert.RCbIdeal.Facts] : Prop :=
  ∀ (m : (ℓ : Loc Cert.RCbIdeal.nD Cert.RCbIdeal.τ Cert.RCbIdeal.sig) → Buf (Elt Ideal) ℓ) (g : Dev Cert.RCbIdeal.nD → PrngReg), Pre_RCbIdeal m →
    θ_run (Cert.RCbIdeal.defs (F := Ideal)) (onTc (τ := Cert.RCbIdeal.τ) (Cert.RCbIdeal.main (F := Ideal))) ⟨m, fun _ => 0, g⟩ (fun r => (∀ c : Dev Cert.RCbIdeal.nD,
      r.2.mem ((c.tc : Thread Cert.RCbIdeal.nD Cert.RCbIdeal.τ).loc Cert.RCbIdeal.main_arg0) = m ((c.tc : Thread Cert.RCbIdeal.nD Cert.RCbIdeal.τ).loc Cert.RCbIdeal.main_arg0)
      ∧ r.2.mem ((c.tc : Thread Cert.RCbIdeal.nD Cert.RCbIdeal.τ).loc Cert.RCbIdeal.main_arg1) = m ((c.tc : Thread Cert.RCbIdeal.nD Cert.RCbIdeal.τ).loc Cert.RCbIdeal.main_arg1))
      ∧ r.2.sem = fun _ => 0)

def quiescent_KLb [hKLb : Cert.KLb.Facts] : Prop :=
  ∀ (m : (ℓ : Loc Cert.KLb.nD Cert.KLb.τ Cert.KLb.sig) → Buf (Elt Bits) ℓ) (g : Dev Cert.KLb.nD → PrngReg), Pre_KLb m →
    θ_run (Cert.KLb.defs (F := Bits)) (onTc (τ := Cert.KLb.τ) (Cert.KLb.main (F := Bits))) ⟨m, fun _ => 0, g⟩ (fun r => (∀ c : Dev Cert.KLb.nD,
      r.2.mem ((c.tc : Thread Cert.KLb.nD Cert.KLb.τ).loc Cert.KLb.main_arg0) = m ((c.tc : Thread Cert.KLb.nD Cert.KLb.τ).loc Cert.KLb.main_arg0)
      ∧ r.2.mem ((c.tc : Thread Cert.KLb.nD Cert.KLb.τ).loc Cert.KLb.main_arg1) = m ((c.tc : Thread Cert.KLb.nD Cert.KLb.τ).loc Cert.KLb.main_arg1)
      ∧ r.2.mem ((c.tc : Thread Cert.KLb.nD Cert.KLb.τ).loc Cert.KLb.main_arg2) = m ((c.tc : Thread Cert.KLb.nD Cert.KLb.τ).loc Cert.KLb.main_arg2)
      ∧ r.2.mem ((c.tc : Thread Cert.KLb.nD Cert.KLb.τ).loc Cert.KLb.main_arg3) = m ((c.tc : Thread Cert.KLb.nD Cert.KLb.τ).loc Cert.KLb.main_arg3))
      ∧ r.2.sem = fun _ => 0)

def quiescent_KLbIdeal [hKLbIdeal : Cert.KLbIdeal.Facts] : Prop :=
  ∀ (m : (ℓ : Loc Cert.KLbIdeal.nD Cert.KLbIdeal.τ Cert.KLbIdeal.sig) → Buf (Elt Ideal) ℓ) (g : Dev Cert.KLbIdeal.nD → PrngReg), Pre_KLbIdeal m →
    θ_run (Cert.KLbIdeal.defs (F := Ideal)) (onTc (τ := Cert.KLbIdeal.τ) (Cert.KLbIdeal.main (F := Ideal))) ⟨m, fun _ => 0, g⟩ (fun r => (∀ c : Dev Cert.KLbIdeal.nD,
      r.2.mem ((c.tc : Thread Cert.KLbIdeal.nD Cert.KLbIdeal.τ).loc Cert.KLbIdeal.main_arg0) = m ((c.tc : Thread Cert.KLbIdeal.nD Cert.KLbIdeal.τ).loc Cert.KLbIdeal.main_arg0)
      ∧ r.2.mem ((c.tc : Thread Cert.KLbIdeal.nD Cert.KLbIdeal.τ).loc Cert.KLbIdeal.main_arg1) = m ((c.tc : Thread Cert.KLbIdeal.nD Cert.KLbIdeal.τ).loc Cert.KLbIdeal.main_arg1)
      ∧ r.2.mem ((c.tc : Thread Cert.KLbIdeal.nD Cert.KLbIdeal.τ).loc Cert.KLbIdeal.main_arg2) = m ((c.tc : Thread Cert.KLbIdeal.nD Cert.KLbIdeal.τ).loc Cert.KLbIdeal.main_arg2)
      ∧ r.2.mem ((c.tc : Thread Cert.KLbIdeal.nD Cert.KLbIdeal.τ).loc Cert.KLbIdeal.main_arg3) = m ((c.tc : Thread Cert.KLbIdeal.nD Cert.KLbIdeal.τ).loc Cert.KLbIdeal.main_arg3))
      ∧ r.2.sem = fun _ => 0)

def quiescent_KLbIdeal_pre_finite_lb [hKLbIdeal : Cert.KLbIdeal.Facts] [hPre_finite_lb : Cert.Pre_finite_lb.Facts] : Prop :=
  ∀ (m : (ℓ : Loc Cert.KLbIdeal.nD Cert.KLbIdeal.τ Cert.KLbIdeal.sig) → Buf (Elt Ideal) ℓ) (g : Dev Cert.KLbIdeal.nD → PrngReg), Pre_KLbIdeal_finite_lb m →
    θ_run (Cert.KLbIdeal.defs (F := Ideal)) (onTc (τ := Cert.KLbIdeal.τ) (Cert.KLbIdeal.main (F := Ideal))) ⟨m, fun _ => 0, g⟩ (fun r => (∀ c : Dev Cert.KLbIdeal.nD,
      r.2.mem ((c.tc : Thread Cert.KLbIdeal.nD Cert.KLbIdeal.τ).loc Cert.KLbIdeal.main_arg0) = m ((c.tc : Thread Cert.KLbIdeal.nD Cert.KLbIdeal.τ).loc Cert.KLbIdeal.main_arg0)
      ∧ r.2.mem ((c.tc : Thread Cert.KLbIdeal.nD Cert.KLbIdeal.τ).loc Cert.KLbIdeal.main_arg1) = m ((c.tc : Thread Cert.KLbIdeal.nD Cert.KLbIdeal.τ).loc Cert.KLbIdeal.main_arg1)
      ∧ r.2.mem ((c.tc : Thread Cert.KLbIdeal.nD Cert.KLbIdeal.τ).loc Cert.KLbIdeal.main_arg2) = m ((c.tc : Thread Cert.KLbIdeal.nD Cert.KLbIdeal.τ).loc Cert.KLbIdeal.main_arg2)
      ∧ r.2.mem ((c.tc : Thread Cert.KLbIdeal.nD Cert.KLbIdeal.τ).loc Cert.KLbIdeal.main_arg3) = m ((c.tc : Thread Cert.KLbIdeal.nD Cert.KLbIdeal.τ).loc Cert.KLbIdeal.main_arg3))
      ∧ r.2.sem = fun _ => 0)

def quiescent_RLbIdeal [hRLbIdeal : Cert.RLbIdeal.Facts] : Prop :=
  ∀ (m : (ℓ : Loc Cert.RLbIdeal.nD Cert.RLbIdeal.τ Cert.RLbIdeal.sig) → Buf (Elt Ideal) ℓ) (g : Dev Cert.RLbIdeal.nD → PrngReg), Pre_RLbIdeal m →
    θ_run (Cert.RLbIdeal.defs (F := Ideal)) (onTc (τ := Cert.RLbIdeal.τ) (Cert.RLbIdeal.main (F := Ideal))) ⟨m, fun _ => 0, g⟩ (fun r => (∀ c : Dev Cert.RLbIdeal.nD,
      r.2.mem ((c.tc : Thread Cert.RLbIdeal.nD Cert.RLbIdeal.τ).loc Cert.RLbIdeal.main_arg0) = m ((c.tc : Thread Cert.RLbIdeal.nD Cert.RLbIdeal.τ).loc Cert.RLbIdeal.main_arg0)
      ∧ r.2.mem ((c.tc : Thread Cert.RLbIdeal.nD Cert.RLbIdeal.τ).loc Cert.RLbIdeal.main_arg1) = m ((c.tc : Thread Cert.RLbIdeal.nD Cert.RLbIdeal.τ).loc Cert.RLbIdeal.main_arg1)
      ∧ r.2.mem ((c.tc : Thread Cert.RLbIdeal.nD Cert.RLbIdeal.τ).loc Cert.RLbIdeal.main_arg2) = m ((c.tc : Thread Cert.RLbIdeal.nD Cert.RLbIdeal.τ).loc Cert.RLbIdeal.main_arg2)
      ∧ r.2.mem ((c.tc : Thread Cert.RLbIdeal.nD Cert.RLbIdeal.τ).loc Cert.RLbIdeal.main_arg3) = m ((c.tc : Thread Cert.RLbIdeal.nD Cert.RLbIdeal.τ).loc Cert.RLbIdeal.main_arg3))
      ∧ r.2.sem = fun _ => 0)

def quiescent_RLbIdeal_pre_finite_lb [hRLbIdeal : Cert.RLbIdeal.Facts] [hPre_finite_lb : Cert.Pre_finite_lb.Facts] : Prop :=
  ∀ (m : (ℓ : Loc Cert.RLbIdeal.nD Cert.RLbIdeal.τ Cert.RLbIdeal.sig) → Buf (Elt Ideal) ℓ) (g : Dev Cert.RLbIdeal.nD → PrngReg), Pre_RLbIdeal_finite_lb m →
    θ_run (Cert.RLbIdeal.defs (F := Ideal)) (onTc (τ := Cert.RLbIdeal.τ) (Cert.RLbIdeal.main (F := Ideal))) ⟨m, fun _ => 0, g⟩ (fun r => (∀ c : Dev Cert.RLbIdeal.nD,
      r.2.mem ((c.tc : Thread Cert.RLbIdeal.nD Cert.RLbIdeal.τ).loc Cert.RLbIdeal.main_arg0) = m ((c.tc : Thread Cert.RLbIdeal.nD Cert.RLbIdeal.τ).loc Cert.RLbIdeal.main_arg0)
      ∧ r.2.mem ((c.tc : Thread Cert.RLbIdeal.nD Cert.RLbIdeal.τ).loc Cert.RLbIdeal.main_arg1) = m ((c.tc : Thread Cert.RLbIdeal.nD Cert.RLbIdeal.τ).loc Cert.RLbIdeal.main_arg1)
      ∧ r.2.mem ((c.tc : Thread Cert.RLbIdeal.nD Cert.RLbIdeal.τ).loc Cert.RLbIdeal.main_arg2) = m ((c.tc : Thread Cert.RLbIdeal.nD Cert.RLbIdeal.τ).loc Cert.RLbIdeal.main_arg2)
      ∧ r.2.mem ((c.tc : Thread Cert.RLbIdeal.nD Cert.RLbIdeal.τ).loc Cert.RLbIdeal.main_arg3) = m ((c.tc : Thread Cert.RLbIdeal.nD Cert.RLbIdeal.τ).loc Cert.RLbIdeal.main_arg3))
      ∧ r.2.sem = fun _ => 0)

def quiescent_KCa [hKCa : Cert.KCa.Facts] : Prop :=
  ∀ (m : (ℓ : Loc Cert.KCa.nD Cert.KCa.τ Cert.KCa.sig) → Buf (Elt Bits) ℓ) (g : Dev Cert.KCa.nD → PrngReg), Pre_KCa m →
    θ_run (Cert.KCa.defs (F := Bits)) (onTc (τ := Cert.KCa.τ) (Cert.KCa.main (F := Bits))) ⟨m, fun _ => 0, g⟩ (fun r => (∀ c : Dev Cert.KCa.nD,
      r.2.mem ((c.tc : Thread Cert.KCa.nD Cert.KCa.τ).loc Cert.KCa.main_arg0) = m ((c.tc : Thread Cert.KCa.nD Cert.KCa.τ).loc Cert.KCa.main_arg0)
      ∧ r.2.mem ((c.tc : Thread Cert.KCa.nD Cert.KCa.τ).loc Cert.KCa.main_arg1) = m ((c.tc : Thread Cert.KCa.nD Cert.KCa.τ).loc Cert.KCa.main_arg1)
      ∧ r.2.mem ((c.tc : Thread Cert.KCa.nD Cert.KCa.τ).loc Cert.KCa.main_arg2) = m ((c.tc : Thread Cert.KCa.nD Cert.KCa.τ).loc Cert.KCa.main_arg2)
      ∧ r.2.mem ((c.tc : Thread Cert.KCa.nD Cert.KCa.τ).loc Cert.KCa.main_arg3) = m ((c.tc : Thread Cert.KCa.nD Cert.KCa.τ).loc Cert.KCa.main_arg3)
      ∧ r.2.mem ((c.tc : Thread Cert.KCa.nD Cert.KCa.τ).loc Cert.KCa.main_arg4) = m ((c.tc : Thread Cert.KCa.nD Cert.KCa.τ).loc Cert.KCa.main_arg4))
      ∧ r.2.sem = fun _ => 0)

def quiescent_KCaIdeal [hKCaIdeal : Cert.KCaIdeal.Facts] : Prop :=
  ∀ (m : (ℓ : Loc Cert.KCaIdeal.nD Cert.KCaIdeal.τ Cert.KCaIdeal.sig) → Buf (Elt Ideal) ℓ) (g : Dev Cert.KCaIdeal.nD → PrngReg), Pre_KCaIdeal m →
    θ_run (Cert.KCaIdeal.defs (F := Ideal)) (onTc (τ := Cert.KCaIdeal.τ) (Cert.KCaIdeal.main (F := Ideal))) ⟨m, fun _ => 0, g⟩ (fun r => (∀ c : Dev Cert.KCaIdeal.nD,
      r.2.mem ((c.tc : Thread Cert.KCaIdeal.nD Cert.KCaIdeal.τ).loc Cert.KCaIdeal.main_arg0) = m ((c.tc : Thread Cert.KCaIdeal.nD Cert.KCaIdeal.τ).loc Cert.KCaIdeal.main_arg0)
      ∧ r.2.mem ((c.tc : Thread Cert.KCaIdeal.nD Cert.KCaIdeal.τ).loc Cert.KCaIdeal.main_arg1) = m ((c.tc : Thread Cert.KCaIdeal.nD Cert.KCaIdeal.τ).loc Cert.KCaIdeal.main_arg1)
      ∧ r.2.mem ((c.tc : Thread Cert.KCaIdeal.nD Cert.KCaIdeal.τ).loc Cert.KCaIdeal.main_arg2) = m ((c.tc : Thread Cert.KCaIdeal.nD Cert.KCaIdeal.τ).loc Cert.KCaIdeal.main_arg2)
      ∧ r.2.mem ((c.tc : Thread Cert.KCaIdeal.nD Cert.KCaIdeal.τ).loc Cert.KCaIdeal.main_arg3) = m ((c.tc : Thread Cert.KCaIdeal.nD Cert.KCaIdeal.τ).loc Cert.KCaIdeal.main_arg3)
      ∧ r.2.mem ((c.tc : Thread Cert.KCaIdeal.nD Cert.KCaIdeal.τ).loc Cert.KCaIdeal.main_arg4) = m ((c.tc : Thread Cert.KCaIdeal.nD Cert.KCaIdeal.τ).loc Cert.KCaIdeal.main_arg4))
      ∧ r.2.sem = fun _ => 0)

def quiescent_KCaIdeal_pre_finite_ca [hKCaIdeal : Cert.KCaIdeal.Facts] [hPre_finite_ca : Cert.Pre_finite_ca.Facts] : Prop :=
  ∀ (m : (ℓ : Loc Cert.KCaIdeal.nD Cert.KCaIdeal.τ Cert.KCaIdeal.sig) → Buf (Elt Ideal) ℓ) (g : Dev Cert.KCaIdeal.nD → PrngReg), Pre_KCaIdeal_finite_ca m →
    θ_run (Cert.KCaIdeal.defs (F := Ideal)) (onTc (τ := Cert.KCaIdeal.τ) (Cert.KCaIdeal.main (F := Ideal))) ⟨m, fun _ => 0, g⟩ (fun r => (∀ c : Dev Cert.KCaIdeal.nD,
      r.2.mem ((c.tc : Thread Cert.KCaIdeal.nD Cert.KCaIdeal.τ).loc Cert.KCaIdeal.main_arg0) = m ((c.tc : Thread Cert.KCaIdeal.nD Cert.KCaIdeal.τ).loc Cert.KCaIdeal.main_arg0)
      ∧ r.2.mem ((c.tc : Thread Cert.KCaIdeal.nD Cert.KCaIdeal.τ).loc Cert.KCaIdeal.main_arg1) = m ((c.tc : Thread Cert.KCaIdeal.nD Cert.KCaIdeal.τ).loc Cert.KCaIdeal.main_arg1)
      ∧ r.2.mem ((c.tc : Thread Cert.KCaIdeal.nD Cert.KCaIdeal.τ).loc Cert.KCaIdeal.main_arg2) = m ((c.tc : Thread Cert.KCaIdeal.nD Cert.KCaIdeal.τ).loc Cert.KCaIdeal.main_arg2)
      ∧ r.2.mem ((c.tc : Thread Cert.KCaIdeal.nD Cert.KCaIdeal.τ).loc Cert.KCaIdeal.main_arg3) = m ((c.tc : Thread Cert.KCaIdeal.nD Cert.KCaIdeal.τ).loc Cert.KCaIdeal.main_arg3)
      ∧ r.2.mem ((c.tc : Thread Cert.KCaIdeal.nD Cert.KCaIdeal.τ).loc Cert.KCaIdeal.main_arg4) = m ((c.tc : Thread Cert.KCaIdeal.nD Cert.KCaIdeal.τ).loc Cert.KCaIdeal.main_arg4))
      ∧ r.2.sem = fun _ => 0)

def quiescent_RCaIdeal [hRCaIdeal : Cert.RCaIdeal.Facts] : Prop :=
  ∀ (m : (ℓ : Loc Cert.RCaIdeal.nD Cert.RCaIdeal.τ Cert.RCaIdeal.sig) → Buf (Elt Ideal) ℓ) (g : Dev Cert.RCaIdeal.nD → PrngReg), Pre_RCaIdeal m →
    θ_run (Cert.RCaIdeal.defs (F := Ideal)) (onTc (τ := Cert.RCaIdeal.τ) (Cert.RCaIdeal.main (F := Ideal))) ⟨m, fun _ => 0, g⟩ (fun r => (∀ c : Dev Cert.RCaIdeal.nD,
      r.2.mem ((c.tc : Thread Cert.RCaIdeal.nD Cert.RCaIdeal.τ).loc Cert.RCaIdeal.main_arg0) = m ((c.tc : Thread Cert.RCaIdeal.nD Cert.RCaIdeal.τ).loc Cert.RCaIdeal.main_arg0)
      ∧ r.2.mem ((c.tc : Thread Cert.RCaIdeal.nD Cert.RCaIdeal.τ).loc Cert.RCaIdeal.main_arg1) = m ((c.tc : Thread Cert.RCaIdeal.nD Cert.RCaIdeal.τ).loc Cert.RCaIdeal.main_arg1)
      ∧ r.2.mem ((c.tc : Thread Cert.RCaIdeal.nD Cert.RCaIdeal.τ).loc Cert.RCaIdeal.main_arg2) = m ((c.tc : Thread Cert.RCaIdeal.nD Cert.RCaIdeal.τ).loc Cert.RCaIdeal.main_arg2)
      ∧ r.2.mem ((c.tc : Thread Cert.RCaIdeal.nD Cert.RCaIdeal.τ).loc Cert.RCaIdeal.main_arg3) = m ((c.tc : Thread Cert.RCaIdeal.nD Cert.RCaIdeal.τ).loc Cert.RCaIdeal.main_arg3)
      ∧ r.2.mem ((c.tc : Thread Cert.RCaIdeal.nD Cert.RCaIdeal.τ).loc Cert.RCaIdeal.main_arg4) = m ((c.tc : Thread Cert.RCaIdeal.nD Cert.RCaIdeal.τ).loc Cert.RCaIdeal.main_arg4))
      ∧ r.2.sem = fun _ => 0)

def quiescent_RCaIdeal_pre_finite_ca [hRCaIdeal : Cert.RCaIdeal.Facts] [hPre_finite_ca : Cert.Pre_finite_ca.Facts] : Prop :=
  ∀ (m : (ℓ : Loc Cert.RCaIdeal.nD Cert.RCaIdeal.τ Cert.RCaIdeal.sig) → Buf (Elt Ideal) ℓ) (g : Dev Cert.RCaIdeal.nD → PrngReg), Pre_RCaIdeal_finite_ca m →
    θ_run (Cert.RCaIdeal.defs (F := Ideal)) (onTc (τ := Cert.RCaIdeal.τ) (Cert.RCaIdeal.main (F := Ideal))) ⟨m, fun _ => 0, g⟩ (fun r => (∀ c : Dev Cert.RCaIdeal.nD,
      r.2.mem ((c.tc : Thread Cert.RCaIdeal.nD Cert.RCaIdeal.τ).loc Cert.RCaIdeal.main_arg0) = m ((c.tc : Thread Cert.RCaIdeal.nD Cert.RCaIdeal.τ).loc Cert.RCaIdeal.main_arg0)
      ∧ r.2.mem ((c.tc : Thread Cert.RCaIdeal.nD Cert.RCaIdeal.τ).loc Cert.RCaIdeal.main_arg1) = m ((c.tc : Thread Cert.RCaIdeal.nD Cert.RCaIdeal.τ).loc Cert.RCaIdeal.main_arg1)
      ∧ r.2.mem ((c.tc : Thread Cert.RCaIdeal.nD Cert.RCaIdeal.τ).loc Cert.RCaIdeal.main_arg2) = m ((c.tc : Thread Cert.RCaIdeal.nD Cert.RCaIdeal.τ).loc Cert.RCaIdeal.main_arg2)
      ∧ r.2.mem ((c.tc : Thread Cert.RCaIdeal.nD Cert.RCaIdeal.τ).loc Cert.RCaIdeal.main_arg3) = m ((c.tc : Thread Cert.RCaIdeal.nD Cert.RCaIdeal.τ).loc Cert.RCaIdeal.main_arg3)
      ∧ r.2.mem ((c.tc : Thread Cert.RCaIdeal.nD Cert.RCaIdeal.τ).loc Cert.RCaIdeal.main_arg4) = m ((c.tc : Thread Cert.RCaIdeal.nD Cert.RCaIdeal.τ).loc Cert.RCaIdeal.main_arg4))
      ∧ r.2.sem = fun _ => 0)

def quiescent_KSf [hKSf : Cert.KSf.Facts] : Prop :=
  ∀ (m : (ℓ : Loc Cert.KSf.nD Cert.KSf.τ Cert.KSf.sig) → Buf (Elt Bits) ℓ) (g : Dev Cert.KSf.nD → PrngReg), Pre_KSf m →
    θ_run (Cert.KSf.defs (F := Bits)) (onTc (τ := Cert.KSf.τ) (Cert.KSf.main (F := Bits))) ⟨m, fun _ => 0, g⟩ (fun r => (∀ c : Dev Cert.KSf.nD,
      r.2.mem ((c.tc : Thread Cert.KSf.nD Cert.KSf.τ).loc Cert.KSf.main_arg0) = m ((c.tc : Thread Cert.KSf.nD Cert.KSf.τ).loc Cert.KSf.main_arg0)
      ∧ r.2.mem ((c.tc : Thread Cert.KSf.nD Cert.KSf.τ).loc Cert.KSf.main_arg1) = m ((c.tc : Thread Cert.KSf.nD Cert.KSf.τ).loc Cert.KSf.main_arg1)
      ∧ r.2.mem ((c.tc : Thread Cert.KSf.nD Cert.KSf.τ).loc Cert.KSf.main_arg2) = m ((c.tc : Thread Cert.KSf.nD Cert.KSf.τ).loc Cert.KSf.main_arg2)
      ∧ r.2.mem ((c.tc : Thread Cert.KSf.nD Cert.KSf.τ).loc Cert.KSf.main_arg3) = m ((c.tc : Thread Cert.KSf.nD Cert.KSf.τ).loc Cert.KSf.main_arg3)
      ∧ r.2.mem ((c.tc : Thread Cert.KSf.nD Cert.KSf.τ).loc Cert.KSf.main_arg4) = m ((c.tc : Thread Cert.KSf.nD Cert.KSf.τ).loc Cert.KSf.main_arg4))
      ∧ r.2.sem = fun _ => 0)

def quiescent_KSfIdeal [hKSfIdeal : Cert.KSfIdeal.Facts] : Prop :=
  ∀ (m : (ℓ : Loc Cert.KSfIdeal.nD Cert.KSfIdeal.τ Cert.KSfIdeal.sig) → Buf (Elt Ideal) ℓ) (g : Dev Cert.KSfIdeal.nD → PrngReg), Pre_KSfIdeal m →
    θ_run (Cert.KSfIdeal.defs (F := Ideal)) (onTc (τ := Cert.KSfIdeal.τ) (Cert.KSfIdeal.main (F := Ideal))) ⟨m, fun _ => 0, g⟩ (fun r => (∀ c : Dev Cert.KSfIdeal.nD,
      r.2.mem ((c.tc : Thread Cert.KSfIdeal.nD Cert.KSfIdeal.τ).loc Cert.KSfIdeal.main_arg0) = m ((c.tc : Thread Cert.KSfIdeal.nD Cert.KSfIdeal.τ).loc Cert.KSfIdeal.main_arg0)
      ∧ r.2.mem ((c.tc : Thread Cert.KSfIdeal.nD Cert.KSfIdeal.τ).loc Cert.KSfIdeal.main_arg1) = m ((c.tc : Thread Cert.KSfIdeal.nD Cert.KSfIdeal.τ).loc Cert.KSfIdeal.main_arg1)
      ∧ r.2.mem ((c.tc : Thread Cert.KSfIdeal.nD Cert.KSfIdeal.τ).loc Cert.KSfIdeal.main_arg2) = m ((c.tc : Thread Cert.KSfIdeal.nD Cert.KSfIdeal.τ).loc Cert.KSfIdeal.main_arg2)
      ∧ r.2.mem ((c.tc : Thread Cert.KSfIdeal.nD Cert.KSfIdeal.τ).loc Cert.KSfIdeal.main_arg3) = m ((c.tc : Thread Cert.KSfIdeal.nD Cert.KSfIdeal.τ).loc Cert.KSfIdeal.main_arg3)
      ∧ r.2.mem ((c.tc : Thread Cert.KSfIdeal.nD Cert.KSfIdeal.τ).loc Cert.KSfIdeal.main_arg4) = m ((c.tc : Thread Cert.KSfIdeal.nD Cert.KSfIdeal.τ).loc Cert.KSfIdeal.main_arg4))
      ∧ r.2.sem = fun _ => 0)

def quiescent_RSfIdeal [hRSfIdeal : Cert.RSfIdeal.Facts] : Prop :=
  ∀ (m : (ℓ : Loc Cert.RSfIdeal.nD Cert.RSfIdeal.τ Cert.RSfIdeal.sig) → Buf (Elt Ideal) ℓ) (g : Dev Cert.RSfIdeal.nD → PrngReg), Pre_RSfIdeal m →
    θ_run (Cert.RSfIdeal.defs (F := Ideal)) (onTc (τ := Cert.RSfIdeal.τ) (Cert.RSfIdeal.main (F := Ideal))) ⟨m, fun _ => 0, g⟩ (fun r => (∀ c : Dev Cert.RSfIdeal.nD,
      r.2.mem ((c.tc : Thread Cert.RSfIdeal.nD Cert.RSfIdeal.τ).loc Cert.RSfIdeal.main_arg0) = m ((c.tc : Thread Cert.RSfIdeal.nD Cert.RSfIdeal.τ).loc Cert.RSfIdeal.main_arg0)
      ∧ r.2.mem ((c.tc : Thread Cert.RSfIdeal.nD Cert.RSfIdeal.τ).loc Cert.RSfIdeal.main_arg1) = m ((c.tc : Thread Cert.RSfIdeal.nD Cert.RSfIdeal.τ).loc Cert.RSfIdeal.main_arg1)
      ∧ r.2.mem ((c.tc : Thread Cert.RSfIdeal.nD Cert.RSfIdeal.τ).loc Cert.RSfIdeal.main_arg2) = m ((c.tc : Thread Cert.RSfIdeal.nD Cert.RSfIdeal.τ).loc Cert.RSfIdeal.main_arg2)
      ∧ r.2.mem ((c.tc : Thread Cert.RSfIdeal.nD Cert.RSfIdeal.τ).loc Cert.RSfIdeal.main_arg3) = m ((c.tc : Thread Cert.RSfIdeal.nD Cert.RSfIdeal.τ).loc Cert.RSfIdeal.main_arg3)
      ∧ r.2.mem ((c.tc : Thread Cert.RSfIdeal.nD Cert.RSfIdeal.τ).loc Cert.RSfIdeal.main_arg4) = m ((c.tc : Thread Cert.RSfIdeal.nD Cert.RSfIdeal.τ).loc Cert.RSfIdeal.main_arg4))
      ∧ r.2.sem = fun _ => 0)

def quiescent_KLl [hKLl : Cert.KLl.Facts] : Prop :=
  ∀ (m : (ℓ : Loc Cert.KLl.nD Cert.KLl.τ Cert.KLl.sig) → Buf (Elt Bits) ℓ) (g : Dev Cert.KLl.nD → PrngReg), Pre_KLl m →
    θ_run (Cert.KLl.defs (F := Bits)) (onTc (τ := Cert.KLl.τ) (Cert.KLl.main (F := Bits))) ⟨m, fun _ => 0, g⟩ (fun r => (∀ c : Dev Cert.KLl.nD,
      r.2.mem ((c.tc : Thread Cert.KLl.nD Cert.KLl.τ).loc Cert.KLl.main_arg0) = m ((c.tc : Thread Cert.KLl.nD Cert.KLl.τ).loc Cert.KLl.main_arg0)
      ∧ r.2.mem ((c.tc : Thread Cert.KLl.nD Cert.KLl.τ).loc Cert.KLl.main_arg1) = m ((c.tc : Thread Cert.KLl.nD Cert.KLl.τ).loc Cert.KLl.main_arg1)
      ∧ r.2.mem ((c.tc : Thread Cert.KLl.nD Cert.KLl.τ).loc Cert.KLl.main_arg2) = m ((c.tc : Thread Cert.KLl.nD Cert.KLl.τ).loc Cert.KLl.main_arg2)
      ∧ r.2.mem ((c.tc : Thread Cert.KLl.nD Cert.KLl.τ).loc Cert.KLl.main_arg3) = m ((c.tc : Thread Cert.KLl.nD Cert.KLl.τ).loc Cert.KLl.main_arg3)
      ∧ r.2.mem ((c.tc : Thread Cert.KLl.nD Cert.KLl.τ).loc Cert.KLl.main_arg4) = m ((c.tc : Thread Cert.KLl.nD Cert.KLl.τ).loc Cert.KLl.main_arg4)
      ∧ r.2.mem ((c.tc : Thread Cert.KLl.nD Cert.KLl.τ).loc Cert.KLl.main_arg5) = m ((c.tc : Thread Cert.KLl.nD Cert.KLl.τ).loc Cert.KLl.main_arg5)
      ∧ r.2.mem ((c.tc : Thread Cert.KLl.nD Cert.KLl.τ).loc Cert.KLl.main_arg6) = m ((c.tc : Thread Cert.KLl.nD Cert.KLl.τ).loc Cert.KLl.main_arg6))
      ∧ r.2.sem = fun _ => 0)

def quiescent_KLlIdeal [hKLlIdeal : Cert.KLlIdeal.Facts] : Prop :=
  ∀ (m : (ℓ : Loc Cert.KLlIdeal.nD Cert.KLlIdeal.τ Cert.KLlIdeal.sig) → Buf (Elt Ideal) ℓ) (g : Dev Cert.KLlIdeal.nD → PrngReg), Pre_KLlIdeal m →
    θ_run (Cert.KLlIdeal.defs (F := Ideal)) (onTc (τ := Cert.KLlIdeal.τ) (Cert.KLlIdeal.main (F := Ideal))) ⟨m, fun _ => 0, g⟩ (fun r => (∀ c : Dev Cert.KLlIdeal.nD,
      r.2.mem ((c.tc : Thread Cert.KLlIdeal.nD Cert.KLlIdeal.τ).loc Cert.KLlIdeal.main_arg0) = m ((c.tc : Thread Cert.KLlIdeal.nD Cert.KLlIdeal.τ).loc Cert.KLlIdeal.main_arg0)
      ∧ r.2.mem ((c.tc : Thread Cert.KLlIdeal.nD Cert.KLlIdeal.τ).loc Cert.KLlIdeal.main_arg1) = m ((c.tc : Thread Cert.KLlIdeal.nD Cert.KLlIdeal.τ).loc Cert.KLlIdeal.main_arg1)
      ∧ r.2.mem ((c.tc : Thread Cert.KLlIdeal.nD Cert.KLlIdeal.τ).loc Cert.KLlIdeal.main_arg2) = m ((c.tc : Thread Cert.KLlIdeal.nD Cert.KLlIdeal.τ).loc Cert.KLlIdeal.main_arg2)
      ∧ r.2.mem ((c.tc : Thread Cert.KLlIdeal.nD Cert.KLlIdeal.τ).loc Cert.KLlIdeal.main_arg3) = m ((c.tc : Thread Cert.KLlIdeal.nD Cert.KLlIdeal.τ).loc Cert.KLlIdeal.main_arg3)
      ∧ r.2.mem ((c.tc : Thread Cert.KLlIdeal.nD Cert.KLlIdeal.τ).loc Cert.KLlIdeal.main_arg4) = m ((c.tc : Thread Cert.KLlIdeal.nD Cert.KLlIdeal.τ).loc Cert.KLlIdeal.main_arg4)
      ∧ r.2.mem ((c.tc : Thread Cert.KLlIdeal.nD Cert.KLlIdeal.τ).loc Cert.KLlIdeal.main_arg5) = m ((c.tc : Thread Cert.KLlIdeal.nD Cert.KLlIdeal.τ).loc Cert.KLlIdeal.main_arg5)
      ∧ r.2.mem ((c.tc : Thread Cert.KLlIdeal.nD Cert.KLlIdeal.τ).loc Cert.KLlIdeal.main_arg6) = m ((c.tc : Thread Cert.KLlIdeal.nD Cert.KLlIdeal.τ).loc Cert.KLlIdeal.main_arg6))
      ∧ r.2.sem = fun _ => 0)

def quiescent_KLlIdeal_pre_finite_ll [hKLlIdeal : Cert.KLlIdeal.Facts] [hPre_finite_ll : Cert.Pre_finite_ll.Facts] : Prop :=
  ∀ (m : (ℓ : Loc Cert.KLlIdeal.nD Cert.KLlIdeal.τ Cert.KLlIdeal.sig) → Buf (Elt Ideal) ℓ) (g : Dev Cert.KLlIdeal.nD → PrngReg), Pre_KLlIdeal_finite_ll m →
    θ_run (Cert.KLlIdeal.defs (F := Ideal)) (onTc (τ := Cert.KLlIdeal.τ) (Cert.KLlIdeal.main (F := Ideal))) ⟨m, fun _ => 0, g⟩ (fun r => (∀ c : Dev Cert.KLlIdeal.nD,
      r.2.mem ((c.tc : Thread Cert.KLlIdeal.nD Cert.KLlIdeal.τ).loc Cert.KLlIdeal.main_arg0) = m ((c.tc : Thread Cert.KLlIdeal.nD Cert.KLlIdeal.τ).loc Cert.KLlIdeal.main_arg0)
      ∧ r.2.mem ((c.tc : Thread Cert.KLlIdeal.nD Cert.KLlIdeal.τ).loc Cert.KLlIdeal.main_arg1) = m ((c.tc : Thread Cert.KLlIdeal.nD Cert.KLlIdeal.τ).loc Cert.KLlIdeal.main_arg1)
      ∧ r.2.mem ((c.tc : Thread Cert.KLlIdeal.nD Cert.KLlIdeal.τ).loc Cert.KLlIdeal.main_arg2) = m ((c.tc : Thread Cert.KLlIdeal.nD Cert.KLlIdeal.τ).loc Cert.KLlIdeal.main_arg2)
      ∧ r.2.mem ((c.tc : Thread Cert.KLlIdeal.nD Cert.KLlIdeal.τ).loc Cert.KLlIdeal.main_arg3) = m ((c.tc : Thread Cert.KLlIdeal.nD Cert.KLlIdeal.τ).loc Cert.KLlIdeal.main_arg3)
      ∧ r.2.mem ((c.tc : Thread Cert.KLlIdeal.nD Cert.KLlIdeal.τ).loc Cert.KLlIdeal.main_arg4) = m ((c.tc : Thread Cert.KLlIdeal.nD Cert.KLlIdeal.τ).loc Cert.KLlIdeal.main_arg4)
      ∧ r.2.mem ((c.tc : Thread Cert.KLlIdeal.nD Cert.KLlIdeal.τ).loc Cert.KLlIdeal.main_arg5) = m ((c.tc : Thread Cert.KLlIdeal.nD Cert.KLlIdeal.τ).loc Cert.KLlIdeal.main_arg5)
      ∧ r.2.mem ((c.tc : Thread Cert.KLlIdeal.nD Cert.KLlIdeal.τ).loc Cert.KLlIdeal.main_arg6) = m ((c.tc : Thread Cert.KLlIdeal.nD Cert.KLlIdeal.τ).loc Cert.KLlIdeal.main_arg6))
      ∧ r.2.sem = fun _ => 0)

def quiescent_RLlIdeal [hRLlIdeal : Cert.RLlIdeal.Facts] : Prop :=
  ∀ (m : (ℓ : Loc Cert.RLlIdeal.nD Cert.RLlIdeal.τ Cert.RLlIdeal.sig) → Buf (Elt Ideal) ℓ) (g : Dev Cert.RLlIdeal.nD → PrngReg), Pre_RLlIdeal m →
    θ_run (Cert.RLlIdeal.defs (F := Ideal)) (onTc (τ := Cert.RLlIdeal.τ) (Cert.RLlIdeal.main (F := Ideal))) ⟨m, fun _ => 0, g⟩ (fun r => (∀ c : Dev Cert.RLlIdeal.nD,
      r.2.mem ((c.tc : Thread Cert.RLlIdeal.nD Cert.RLlIdeal.τ).loc Cert.RLlIdeal.main_arg0) = m ((c.tc : Thread Cert.RLlIdeal.nD Cert.RLlIdeal.τ).loc Cert.RLlIdeal.main_arg0)
      ∧ r.2.mem ((c.tc : Thread Cert.RLlIdeal.nD Cert.RLlIdeal.τ).loc Cert.RLlIdeal.main_arg1) = m ((c.tc : Thread Cert.RLlIdeal.nD Cert.RLlIdeal.τ).loc Cert.RLlIdeal.main_arg1)
      ∧ r.2.mem ((c.tc : Thread Cert.RLlIdeal.nD Cert.RLlIdeal.τ).loc Cert.RLlIdeal.main_arg2) = m ((c.tc : Thread Cert.RLlIdeal.nD Cert.RLlIdeal.τ).loc Cert.RLlIdeal.main_arg2)
      ∧ r.2.mem ((c.tc : Thread Cert.RLlIdeal.nD Cert.RLlIdeal.τ).loc Cert.RLlIdeal.main_arg3) = m ((c.tc : Thread Cert.RLlIdeal.nD Cert.RLlIdeal.τ).loc Cert.RLlIdeal.main_arg3)
      ∧ r.2.mem ((c.tc : Thread Cert.RLlIdeal.nD Cert.RLlIdeal.τ).loc Cert.RLlIdeal.main_arg4) = m ((c.tc : Thread Cert.RLlIdeal.nD Cert.RLlIdeal.τ).loc Cert.RLlIdeal.main_arg4)
      ∧ r.2.mem ((c.tc : Thread Cert.RLlIdeal.nD Cert.RLlIdeal.τ).loc Cert.RLlIdeal.main_arg5) = m ((c.tc : Thread Cert.RLlIdeal.nD Cert.RLlIdeal.τ).loc Cert.RLlIdeal.main_arg5)
      ∧ r.2.mem ((c.tc : Thread Cert.RLlIdeal.nD Cert.RLlIdeal.τ).loc Cert.RLlIdeal.main_arg6) = m ((c.tc : Thread Cert.RLlIdeal.nD Cert.RLlIdeal.τ).loc Cert.RLlIdeal.main_arg6))
      ∧ r.2.sem = fun _ => 0)

def quiescent_RLlIdeal_pre_finite_ll [hRLlIdeal : Cert.RLlIdeal.Facts] [hPre_finite_ll : Cert.Pre_finite_ll.Facts] : Prop :=
  ∀ (m : (ℓ : Loc Cert.RLlIdeal.nD Cert.RLlIdeal.τ Cert.RLlIdeal.sig) → Buf (Elt Ideal) ℓ) (g : Dev Cert.RLlIdeal.nD → PrngReg), Pre_RLlIdeal_finite_ll m →
    θ_run (Cert.RLlIdeal.defs (F := Ideal)) (onTc (τ := Cert.RLlIdeal.τ) (Cert.RLlIdeal.main (F := Ideal))) ⟨m, fun _ => 0, g⟩ (fun r => (∀ c : Dev Cert.RLlIdeal.nD,
      r.2.mem ((c.tc : Thread Cert.RLlIdeal.nD Cert.RLlIdeal.τ).loc Cert.RLlIdeal.main_arg0) = m ((c.tc : Thread Cert.RLlIdeal.nD Cert.RLlIdeal.τ).loc Cert.RLlIdeal.main_arg0)
      ∧ r.2.mem ((c.tc : Thread Cert.RLlIdeal.nD Cert.RLlIdeal.τ).loc Cert.RLlIdeal.main_arg1) = m ((c.tc : Thread Cert.RLlIdeal.nD Cert.RLlIdeal.τ).loc Cert.RLlIdeal.main_arg1)
      ∧ r.2.mem ((c.tc : Thread Cert.RLlIdeal.nD Cert.RLlIdeal.τ).loc Cert.RLlIdeal.main_arg2) = m ((c.tc : Thread Cert.RLlIdeal.nD Cert.RLlIdeal.τ).loc Cert.RLlIdeal.main_arg2)
      ∧ r.2.mem ((c.tc : Thread Cert.RLlIdeal.nD Cert.RLlIdeal.τ).loc Cert.RLlIdeal.main_arg3) = m ((c.tc : Thread Cert.RLlIdeal.nD Cert.RLlIdeal.τ).loc Cert.RLlIdeal.main_arg3)
      ∧ r.2.mem ((c.tc : Thread Cert.RLlIdeal.nD Cert.RLlIdeal.τ).loc Cert.RLlIdeal.main_arg4) = m ((c.tc : Thread Cert.RLlIdeal.nD Cert.RLlIdeal.τ).loc Cert.RLlIdeal.main_arg4)
      ∧ r.2.mem ((c.tc : Thread Cert.RLlIdeal.nD Cert.RLlIdeal.τ).loc Cert.RLlIdeal.main_arg5) = m ((c.tc : Thread Cert.RLlIdeal.nD Cert.RLlIdeal.τ).loc Cert.RLlIdeal.main_arg5)
      ∧ r.2.mem ((c.tc : Thread Cert.RLlIdeal.nD Cert.RLlIdeal.τ).loc Cert.RLlIdeal.main_arg6) = m ((c.tc : Thread Cert.RLlIdeal.nD Cert.RLlIdeal.τ).loc Cert.RLlIdeal.main_arg6))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)) →
    ∃ (v0 : (c : Dev Cert.KInIdeal.nD) → Buf (Elt Ideal) ((c.tc : Thread Cert.KInIdeal.nD Cert.KInIdeal.τ).loc Cert.KInIdeal.main_v1)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v1) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v7) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_KGu_KGuIdeal : Prop :=
  True

def algebraic_KGuIdeal_RGuIdeal [hKGuIdeal : Cert.KGuIdeal.Facts] [hRGuIdeal : Cert.RGuIdeal.Facts] : Prop :=
  ∀ (m : (ℓ : Loc Cert.KGuIdeal.nD Cert.KGuIdeal.τ Cert.KGuIdeal.sig) → Buf (Elt Ideal) ℓ) (g : Dev Cert.KGuIdeal.nD → PrngReg)
    (m' : (ℓ : Loc Cert.RGuIdeal.nD Cert.RGuIdeal.τ Cert.RGuIdeal.sig) → Buf (Elt Ideal) ℓ) (g' : Dev Cert.RGuIdeal.nD → PrngReg), Pre_KGuIdeal m →
    (∀ c : Dev Cert.KGuIdeal.nD,
      m' ((c.tc : Thread Cert.RGuIdeal.nD Cert.RGuIdeal.τ).loc Cert.RGuIdeal.main_arg0) = m ((c.tc : Thread Cert.KGuIdeal.nD Cert.KGuIdeal.τ).loc Cert.KGuIdeal.main_arg0)
      ∧ m' ((c.tc : Thread Cert.RGuIdeal.nD Cert.RGuIdeal.τ).loc Cert.RGuIdeal.main_arg1) = m ((c.tc : Thread Cert.KGuIdeal.nD Cert.KGuIdeal.τ).loc Cert.KGuIdeal.main_arg1)) →
    ∃ (v0 : (c : Dev Cert.KGuIdeal.nD) → Buf (Elt Ideal) ((c.tc : Thread Cert.KGuIdeal.nD Cert.KGuIdeal.τ).loc Cert.KGuIdeal.main_v2)),
      θ_run (Cert.KGuIdeal.defs (F := Ideal)) (onTc (τ := Cert.KGuIdeal.τ) (Cert.KGuIdeal.main (F := Ideal))) ⟨m, fun _ => 0, g⟩ (fun r => ∀ c : Dev Cert.KGuIdeal.nD,
          r.2.mem ((c.tc : Thread Cert.KGuIdeal.nD Cert.KGuIdeal.τ).loc Cert.KGuIdeal.main_v2) = v0 c
          ∧ r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
          ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1))
      ∧ θ_run (Cert.RGuIdeal.defs (F := Ideal)) (onTc (τ := Cert.RGuIdeal.τ) (Cert.RGuIdeal.main (F := Ideal))) ⟨m', fun _ => 0, g'⟩ (fun r => ∀ c : Dev Cert.RGuIdeal.nD,
          r.2.mem ((c.tc : Thread Cert.RGuIdeal.nD Cert.RGuIdeal.τ).loc Cert.RGuIdeal.main_v6) = v0 c
          ∧ r.2.mem ((c.tc : Thread Cert.RGuIdeal.nD Cert.RGuIdeal.τ).loc Cert.RGuIdeal.main_arg0) = m' ((c.tc : Thread Cert.RGuIdeal.nD Cert.RGuIdeal.τ).loc Cert.RGuIdeal.main_arg0)
          ∧ r.2.mem ((c.tc : Thread Cert.RGuIdeal.nD Cert.RGuIdeal.τ).loc Cert.RGuIdeal.main_arg1) = m' ((c.tc : Thread Cert.RGuIdeal.nD Cert.RGuIdeal.τ).loc Cert.RGuIdeal.main_arg1))

def preserves_KGd_KGdIdeal : Prop :=
  True

def algebraic_KGdIdeal_RGdIdeal [hKGdIdeal : Cert.KGdIdeal.Facts] [hRGdIdeal : Cert.RGdIdeal.Facts] : Prop :=
  ∀ (m : (ℓ : Loc Cert.KGdIdeal.nD Cert.KGdIdeal.τ Cert.KGdIdeal.sig) → Buf (Elt Ideal) ℓ) (g : Dev Cert.KGdIdeal.nD → PrngReg)
    (m' : (ℓ : Loc Cert.RGdIdeal.nD Cert.RGdIdeal.τ Cert.RGdIdeal.sig) → Buf (Elt Ideal) ℓ) (g' : Dev Cert.RGdIdeal.nD → PrngReg), Pre_KGdIdeal m →
    (∀ c : Dev Cert.KGdIdeal.nD,
      m' ((c.tc : Thread Cert.RGdIdeal.nD Cert.RGdIdeal.τ).loc Cert.RGdIdeal.main_arg0) = m ((c.tc : Thread Cert.KGdIdeal.nD Cert.KGdIdeal.τ).loc Cert.KGdIdeal.main_arg0)
      ∧ m' ((c.tc : Thread Cert.RGdIdeal.nD Cert.RGdIdeal.τ).loc Cert.RGdIdeal.main_arg1) = m ((c.tc : Thread Cert.KGdIdeal.nD Cert.KGdIdeal.τ).loc Cert.KGdIdeal.main_arg1)) →
    ∃ (v0 : (c : Dev Cert.KGdIdeal.nD) → Buf (Elt Ideal) ((c.tc : Thread Cert.KGdIdeal.nD Cert.KGdIdeal.τ).loc Cert.KGdIdeal.main_v2)),
      θ_run (Cert.KGdIdeal.defs (F := Ideal)) (onTc (τ := Cert.KGdIdeal.τ) (Cert.KGdIdeal.main (F := Ideal))) ⟨m, fun _ => 0, g⟩ (fun r => ∀ c : Dev Cert.KGdIdeal.nD,
          r.2.mem ((c.tc : Thread Cert.KGdIdeal.nD Cert.KGdIdeal.τ).loc Cert.KGdIdeal.main_v2) = v0 c
          ∧ r.2.mem ((c.tc : Thread Cert.KGdIdeal.nD Cert.KGdIdeal.τ).loc Cert.KGdIdeal.main_arg0) = m ((c.tc : Thread Cert.KGdIdeal.nD Cert.KGdIdeal.τ).loc Cert.KGdIdeal.main_arg0)
          ∧ r.2.mem ((c.tc : Thread Cert.KGdIdeal.nD Cert.KGdIdeal.τ).loc Cert.KGdIdeal.main_arg1) = m ((c.tc : Thread Cert.KGdIdeal.nD Cert.KGdIdeal.τ).loc Cert.KGdIdeal.main_arg1))
      ∧ θ_run (Cert.RGdIdeal.defs (F := Ideal)) (onTc (τ := Cert.RGdIdeal.τ) (Cert.RGdIdeal.main (F := Ideal))) ⟨m', fun _ => 0, g'⟩ (fun r => ∀ c : Dev Cert.RGdIdeal.nD,
          r.2.mem ((c.tc : Thread Cert.RGdIdeal.nD Cert.RGdIdeal.τ).loc Cert.RGdIdeal.main_v6) = v0 c
          ∧ r.2.mem ((c.tc : Thread Cert.RGdIdeal.nD Cert.RGdIdeal.τ).loc Cert.RGdIdeal.main_arg0) = m' ((c.tc : Thread Cert.RGdIdeal.nD Cert.RGdIdeal.τ).loc Cert.RGdIdeal.main_arg0)
          ∧ r.2.mem ((c.tc : Thread Cert.RGdIdeal.nD Cert.RGdIdeal.τ).loc Cert.RGdIdeal.main_arg1) = m' ((c.tc : Thread Cert.RGdIdeal.nD Cert.RGdIdeal.τ).loc Cert.RGdIdeal.main_arg1))

def preserves_KGo_KGoIdeal : Prop :=
  True

def algebraic_KGoIdeal_RGoIdeal [hKGoIdeal : Cert.KGoIdeal.Facts] [hRGoIdeal : Cert.RGoIdeal.Facts] : Prop :=
  ∀ (m : (ℓ : Loc Cert.KGoIdeal.nD Cert.KGoIdeal.τ Cert.KGoIdeal.sig) → Buf (Elt Ideal) ℓ) (g : Dev Cert.KGoIdeal.nD → PrngReg)
    (m' : (ℓ : Loc Cert.RGoIdeal.nD Cert.RGoIdeal.τ Cert.RGoIdeal.sig) → Buf (Elt Ideal) ℓ) (g' : Dev Cert.RGoIdeal.nD → PrngReg), Pre_KGoIdeal m →
    (∀ c : Dev Cert.KGoIdeal.nD,
      m' ((c.tc : Thread Cert.RGoIdeal.nD Cert.RGoIdeal.τ).loc Cert.RGoIdeal.main_arg0) = m ((c.tc : Thread Cert.KGoIdeal.nD Cert.KGoIdeal.τ).loc Cert.KGoIdeal.main_arg0)
      ∧ m' ((c.tc : Thread Cert.RGoIdeal.nD Cert.RGoIdeal.τ).loc Cert.RGoIdeal.main_arg1) = m ((c.tc : Thread Cert.KGoIdeal.nD Cert.KGoIdeal.τ).loc Cert.KGoIdeal.main_arg1)) →
    ∃ (v0 : (c : Dev Cert.KGoIdeal.nD) → Buf (Elt Ideal) ((c.tc : Thread Cert.KGoIdeal.nD Cert.KGoIdeal.τ).loc Cert.KGoIdeal.main_v2)),
      θ_run (Cert.KGoIdeal.defs (F := Ideal)) (onTc (τ := Cert.KGoIdeal.τ) (Cert.KGoIdeal.main (F := Ideal))) ⟨m, fun _ => 0, g⟩ (fun r => ∀ c : Dev Cert.KGoIdeal.nD,
          r.2.mem ((c.tc : Thread Cert.KGoIdeal.nD Cert.KGoIdeal.τ).loc Cert.KGoIdeal.main_v2) = v0 c
          ∧ r.2.mem ((c.tc : Thread Cert.KGoIdeal.nD Cert.KGoIdeal.τ).loc Cert.KGoIdeal.main_arg0) = m ((c.tc : Thread Cert.KGoIdeal.nD Cert.KGoIdeal.τ).loc Cert.KGoIdeal.main_arg0)
          ∧ r.2.mem ((c.tc : Thread Cert.KGoIdeal.nD Cert.KGoIdeal.τ).loc Cert.KGoIdeal.main_arg1) = m ((c.tc : Thread Cert.KGoIdeal.nD Cert.KGoIdeal.τ).loc Cert.KGoIdeal.main_arg1))
      ∧ θ_run (Cert.RGoIdeal.defs (F := Ideal)) (onTc (τ := Cert.RGoIdeal.τ) (Cert.RGoIdeal.main (F := Ideal))) ⟨m', fun _ => 0, g'⟩ (fun r => ∀ c : Dev Cert.RGoIdeal.nD,
          r.2.mem ((c.tc : Thread Cert.RGoIdeal.nD Cert.RGoIdeal.τ).loc Cert.RGoIdeal.main_v6) = v0 c
          ∧ r.2.mem ((c.tc : Thread Cert.RGoIdeal.nD Cert.RGoIdeal.τ).loc Cert.RGoIdeal.main_arg0) = m' ((c.tc : Thread Cert.RGoIdeal.nD Cert.RGoIdeal.τ).loc Cert.RGoIdeal.main_arg0)
          ∧ r.2.mem ((c.tc : Thread Cert.RGoIdeal.nD Cert.RGoIdeal.τ).loc Cert.RGoIdeal.main_arg1) = m' ((c.tc : Thread Cert.RGoIdeal.nD Cert.RGoIdeal.τ).loc Cert.RGoIdeal.main_arg1))

def preserves_KGp_KGpIdeal : Prop :=
  True

def algebraic_KGpIdeal_RGpIdeal [hKGpIdeal : Cert.KGpIdeal.Facts] [hRGpIdeal : Cert.RGpIdeal.Facts] : Prop :=
  ∀ (m : (ℓ : Loc Cert.KGpIdeal.nD Cert.KGpIdeal.τ Cert.KGpIdeal.sig) → Buf (Elt Ideal) ℓ) (g : Dev Cert.KGpIdeal.nD → PrngReg)
    (m' : (ℓ : Loc Cert.RGpIdeal.nD Cert.RGpIdeal.τ Cert.RGpIdeal.sig) → Buf (Elt Ideal) ℓ) (g' : Dev Cert.RGpIdeal.nD → PrngReg), Pre_KGpIdeal m →
    (∀ c : Dev Cert.KGpIdeal.nD,
      m' ((c.tc : Thread Cert.RGpIdeal.nD Cert.RGpIdeal.τ).loc Cert.RGpIdeal.main_arg0) = m ((c.tc : Thread Cert.KGpIdeal.nD Cert.KGpIdeal.τ).loc Cert.KGpIdeal.main_arg0)
      ∧ m' ((c.tc : Thread Cert.RGpIdeal.nD Cert.RGpIdeal.τ).loc Cert.RGpIdeal.main_arg1) = m ((c.tc : Thread Cert.KGpIdeal.nD Cert.KGpIdeal.τ).loc Cert.KGpIdeal.main_arg1)) →
    ∃ (v0 : (c : Dev Cert.KGpIdeal.nD) → Buf (Elt Ideal) ((c.tc : Thread Cert.KGpIdeal.nD Cert.KGpIdeal.τ).loc Cert.KGpIdeal.main_v2)),
      θ_run (Cert.KGpIdeal.defs (F := Ideal)) (onTc (τ := Cert.KGpIdeal.τ) (Cert.KGpIdeal.main (F := Ideal))) ⟨m, fun _ => 0, g⟩ (fun r => ∀ c : Dev Cert.KGpIdeal.nD,
          r.2.mem ((c.tc : Thread Cert.KGpIdeal.nD Cert.KGpIdeal.τ).loc Cert.KGpIdeal.main_v2) = v0 c
          ∧ r.2.mem ((c.tc : Thread Cert.KGpIdeal.nD Cert.KGpIdeal.τ).loc Cert.KGpIdeal.main_arg0) = m ((c.tc : Thread Cert.KGpIdeal.nD Cert.KGpIdeal.τ).loc Cert.KGpIdeal.main_arg0)
          ∧ r.2.mem ((c.tc : Thread Cert.KGpIdeal.nD Cert.KGpIdeal.τ).loc Cert.KGpIdeal.main_arg1) = m ((c.tc : Thread Cert.KGpIdeal.nD Cert.KGpIdeal.τ).loc Cert.KGpIdeal.main_arg1))
      ∧ θ_run (Cert.RGpIdeal.defs (F := Ideal)) (onTc (τ := Cert.RGpIdeal.τ) (Cert.RGpIdeal.main (F := Ideal))) ⟨m', fun _ => 0, g'⟩ (fun r => ∀ c : Dev Cert.RGpIdeal.nD,
          r.2.mem ((c.tc : Thread Cert.RGpIdeal.nD Cert.RGpIdeal.τ).loc Cert.RGpIdeal.main_v6) = v0 c
          ∧ r.2.mem ((c.tc : Thread Cert.RGpIdeal.nD Cert.RGpIdeal.τ).loc Cert.RGpIdeal.main_arg0) = m' ((c.tc : Thread Cert.RGpIdeal.nD Cert.RGpIdeal.τ).loc Cert.RGpIdeal.main_arg0)
          ∧ r.2.mem ((c.tc : Thread Cert.RGpIdeal.nD Cert.RGpIdeal.τ).loc Cert.RGpIdeal.main_arg1) = m' ((c.tc : Thread Cert.RGpIdeal.nD Cert.RGpIdeal.τ).loc Cert.RGpIdeal.main_arg1))

def preserves_KDh_KDhIdeal : Prop :=
  True

def algebraic_KDhIdeal_RDhIdeal [hKDhIdeal : Cert.KDhIdeal.Facts] [hRDhIdeal : Cert.RDhIdeal.Facts] : Prop :=
  ∀ (m : (ℓ : Loc Cert.KDhIdeal.nD Cert.KDhIdeal.τ Cert.KDhIdeal.sig) → Buf (Elt Ideal) ℓ) (g : Dev Cert.KDhIdeal.nD → PrngReg)
    (m' : (ℓ : Loc Cert.RDhIdeal.nD Cert.RDhIdeal.τ Cert.RDhIdeal.sig) → Buf (Elt Ideal) ℓ) (g' : Dev Cert.RDhIdeal.nD → PrngReg), Pre_KDhIdeal m →
    (∀ c : Dev Cert.KDhIdeal.nD,
      m' ((c.tc : Thread Cert.RDhIdeal.nD Cert.RDhIdeal.τ).loc Cert.RDhIdeal.main_arg0) = m ((c.tc : Thread Cert.KDhIdeal.nD Cert.KDhIdeal.τ).loc Cert.KDhIdeal.main_arg0)
      ∧ m' ((c.tc : Thread Cert.RDhIdeal.nD Cert.RDhIdeal.τ).loc Cert.RDhIdeal.main_arg1) = m ((c.tc : Thread Cert.KDhIdeal.nD Cert.KDhIdeal.τ).loc Cert.KDhIdeal.main_arg1)) →
    ∃ (v0 : (c : Dev Cert.KDhIdeal.nD) → Buf (Elt Ideal) ((c.tc : Thread Cert.KDhIdeal.nD Cert.KDhIdeal.τ).loc Cert.KDhIdeal.main_v3)),
      θ_run (Cert.KDhIdeal.defs (F := Ideal)) (onTc (τ := Cert.KDhIdeal.τ) (Cert.KDhIdeal.main (F := Ideal))) ⟨m, fun _ => 0, g⟩ (fun r => ∀ c : Dev Cert.KDhIdeal.nD,
          r.2.mem ((c.tc : Thread Cert.KDhIdeal.nD Cert.KDhIdeal.τ).loc Cert.KDhIdeal.main_v3) = v0 c
          ∧ r.2.mem ((c.tc : Thread Cert.KDhIdeal.nD Cert.KDhIdeal.τ).loc Cert.KDhIdeal.main_arg0) = m ((c.tc : Thread Cert.KDhIdeal.nD Cert.KDhIdeal.τ).loc Cert.KDhIdeal.main_arg0)
          ∧ r.2.mem ((c.tc : Thread Cert.KDhIdeal.nD Cert.KDhIdeal.τ).loc Cert.KDhIdeal.main_arg1) = m ((c.tc : Thread Cert.KDhIdeal.nD Cert.KDhIdeal.τ).loc Cert.KDhIdeal.main_arg1))
      ∧ θ_run (Cert.RDhIdeal.defs (F := Ideal)) (onTc (τ := Cert.RDhIdeal.τ) (Cert.RDhIdeal.main (F := Ideal))) ⟨m', fun _ => 0, g'⟩ (fun r => ∀ c : Dev Cert.RDhIdeal.nD,
          r.2.mem ((c.tc : Thread Cert.RDhIdeal.nD Cert.RDhIdeal.τ).loc Cert.RDhIdeal.main_v5) = v0 c
          ∧ r.2.mem ((c.tc : Thread Cert.RDhIdeal.nD Cert.RDhIdeal.τ).loc Cert.RDhIdeal.main_arg0) = m' ((c.tc : Thread Cert.RDhIdeal.nD Cert.RDhIdeal.τ).loc Cert.RDhIdeal.main_arg0)
          ∧ r.2.mem ((c.tc : Thread Cert.RDhIdeal.nD Cert.RDhIdeal.τ).loc Cert.RDhIdeal.main_arg1) = m' ((c.tc : Thread Cert.RDhIdeal.nD Cert.RDhIdeal.τ).loc Cert.RDhIdeal.main_arg1))

def preserves_KDm_KDmIdeal : Prop :=
  True

def algebraic_KDmIdeal_RDmIdeal [hKDmIdeal : Cert.KDmIdeal.Facts] [hRDmIdeal : Cert.RDmIdeal.Facts] : Prop :=
  ∀ (m : (ℓ : Loc Cert.KDmIdeal.nD Cert.KDmIdeal.τ Cert.KDmIdeal.sig) → Buf (Elt Ideal) ℓ) (g : Dev Cert.KDmIdeal.nD → PrngReg)
    (m' : (ℓ : Loc Cert.RDmIdeal.nD Cert.RDmIdeal.τ Cert.RDmIdeal.sig) → Buf (Elt Ideal) ℓ) (g' : Dev Cert.RDmIdeal.nD → PrngReg), Pre_KDmIdeal m →
    (∀ c : Dev Cert.KDmIdeal.nD,
      m' ((c.tc : Thread Cert.RDmIdeal.nD Cert.RDmIdeal.τ).loc Cert.RDmIdeal.main_arg0) = m ((c.tc : Thread Cert.KDmIdeal.nD Cert.KDmIdeal.τ).loc Cert.KDmIdeal.main_arg0)
      ∧ m' ((c.tc : Thread Cert.RDmIdeal.nD Cert.RDmIdeal.τ).loc Cert.RDmIdeal.main_arg1) = m ((c.tc : Thread Cert.KDmIdeal.nD Cert.KDmIdeal.τ).loc Cert.KDmIdeal.main_arg1)) →
    ∃ (v0 : (c : Dev Cert.KDmIdeal.nD) → Buf (Elt Ideal) ((c.tc : Thread Cert.KDmIdeal.nD Cert.KDmIdeal.τ).loc Cert.KDmIdeal.main_v3)),
      θ_run (Cert.KDmIdeal.defs (F := Ideal)) (onTc (τ := Cert.KDmIdeal.τ) (Cert.KDmIdeal.main (F := Ideal))) ⟨m, fun _ => 0, g⟩ (fun r => ∀ c : Dev Cert.KDmIdeal.nD,
          r.2.mem ((c.tc : Thread Cert.KDmIdeal.nD Cert.KDmIdeal.τ).loc Cert.KDmIdeal.main_v3) = v0 c
          ∧ r.2.mem ((c.tc : Thread Cert.KDmIdeal.nD Cert.KDmIdeal.τ).loc Cert.KDmIdeal.main_arg0) = m ((c.tc : Thread Cert.KDmIdeal.nD Cert.KDmIdeal.τ).loc Cert.KDmIdeal.main_arg0)
          ∧ r.2.mem ((c.tc : Thread Cert.KDmIdeal.nD Cert.KDmIdeal.τ).loc Cert.KDmIdeal.main_arg1) = m ((c.tc : Thread Cert.KDmIdeal.nD Cert.KDmIdeal.τ).loc Cert.KDmIdeal.main_arg1))
      ∧ θ_run (Cert.RDmIdeal.defs (F := Ideal)) (onTc (τ := Cert.RDmIdeal.τ) (Cert.RDmIdeal.main (F := Ideal))) ⟨m', fun _ => 0, g'⟩ (fun r => ∀ c : Dev Cert.RDmIdeal.nD,
          r.2.mem ((c.tc : Thread Cert.RDmIdeal.nD Cert.RDmIdeal.τ).loc Cert.RDmIdeal.main_v5) = v0 c
          ∧ r.2.mem ((c.tc : Thread Cert.RDmIdeal.nD Cert.RDmIdeal.τ).loc Cert.RDmIdeal.main_arg0) = m' ((c.tc : Thread Cert.RDmIdeal.nD Cert.RDmIdeal.τ).loc Cert.RDmIdeal.main_arg0)
          ∧ r.2.mem ((c.tc : Thread Cert.RDmIdeal.nD Cert.RDmIdeal.τ).loc Cert.RDmIdeal.main_arg1) = m' ((c.tc : Thread Cert.RDmIdeal.nD Cert.RDmIdeal.τ).loc Cert.RDmIdeal.main_arg1))

def preserves_KDy_KDyIdeal : Prop :=
  True

def algebraic_KDyIdeal_RDyIdeal [hKDyIdeal : Cert.KDyIdeal.Facts] [hRDyIdeal : Cert.RDyIdeal.Facts] : Prop :=
  ∀ (m : (ℓ : Loc Cert.KDyIdeal.nD Cert.KDyIdeal.τ Cert.KDyIdeal.sig) → Buf (Elt Ideal) ℓ) (g : Dev Cert.KDyIdeal.nD → PrngReg)
    (m' : (ℓ : Loc Cert.RDyIdeal.nD Cert.RDyIdeal.τ Cert.RDyIdeal.sig) → Buf (Elt Ideal) ℓ) (g' : Dev Cert.RDyIdeal.nD → PrngReg), Pre_KDyIdeal m →
    (∀ c : Dev Cert.KDyIdeal.nD,
      m' ((c.tc : Thread Cert.RDyIdeal.nD Cert.RDyIdeal.τ).loc Cert.RDyIdeal.main_arg0) = m ((c.tc : Thread Cert.KDyIdeal.nD Cert.KDyIdeal.τ).loc Cert.KDyIdeal.main_arg0)
      ∧ m' ((c.tc : Thread Cert.RDyIdeal.nD Cert.RDyIdeal.τ).loc Cert.RDyIdeal.main_arg1) = m ((c.tc : Thread Cert.KDyIdeal.nD Cert.KDyIdeal.τ).loc Cert.KDyIdeal.main_arg1)) →
    ∃ (v0 : (c : Dev Cert.KDyIdeal.nD) → Buf (Elt Ideal) ((c.tc : Thread Cert.KDyIdeal.nD Cert.KDyIdeal.τ).loc Cert.KDyIdeal.main_v3)),
      θ_run (Cert.KDyIdeal.defs (F := Ideal)) (onTc (τ := Cert.KDyIdeal.τ) (Cert.KDyIdeal.main (F := Ideal))) ⟨m, fun _ => 0, g⟩ (fun r => ∀ c : Dev Cert.KDyIdeal.nD,
          r.2.mem ((c.tc : Thread Cert.KDyIdeal.nD Cert.KDyIdeal.τ).loc Cert.KDyIdeal.main_v3) = v0 c
          ∧ r.2.mem ((c.tc : Thread Cert.KDyIdeal.nD Cert.KDyIdeal.τ).loc Cert.KDyIdeal.main_arg0) = m ((c.tc : Thread Cert.KDyIdeal.nD Cert.KDyIdeal.τ).loc Cert.KDyIdeal.main_arg0)
          ∧ r.2.mem ((c.tc : Thread Cert.KDyIdeal.nD Cert.KDyIdeal.τ).loc Cert.KDyIdeal.main_arg1) = m ((c.tc : Thread Cert.KDyIdeal.nD Cert.KDyIdeal.τ).loc Cert.KDyIdeal.main_arg1))
      ∧ θ_run (Cert.RDyIdeal.defs (F := Ideal)) (onTc (τ := Cert.RDyIdeal.τ) (Cert.RDyIdeal.main (F := Ideal))) ⟨m', fun _ => 0, g'⟩ (fun r => ∀ c : Dev Cert.RDyIdeal.nD,
          r.2.mem ((c.tc : Thread Cert.RDyIdeal.nD Cert.RDyIdeal.τ).loc Cert.RDyIdeal.main_v4) = v0 c
          ∧ r.2.mem ((c.tc : Thread Cert.RDyIdeal.nD Cert.RDyIdeal.τ).loc Cert.RDyIdeal.main_arg0) = m' ((c.tc : Thread Cert.RDyIdeal.nD Cert.RDyIdeal.τ).loc Cert.RDyIdeal.main_arg0)
          ∧ r.2.mem ((c.tc : Thread Cert.RDyIdeal.nD Cert.RDyIdeal.τ).loc Cert.RDyIdeal.main_arg1) = m' ((c.tc : Thread Cert.RDyIdeal.nD Cert.RDyIdeal.τ).loc Cert.RDyIdeal.main_arg1))

def preserves_KXg_KXgIdeal : Prop :=
  True

def algebraic_KXgIdeal_RXgIdeal [hKXgIdeal : Cert.KXgIdeal.Facts] [hRXgIdeal : Cert.RXgIdeal.Facts] : Prop :=
  ∀ (m : (ℓ : Loc Cert.KXgIdeal.nD Cert.KXgIdeal.τ Cert.KXgIdeal.sig) → Buf (Elt Ideal) ℓ) (g : Dev Cert.KXgIdeal.nD → PrngReg)
    (m' : (ℓ : Loc Cert.RXgIdeal.nD Cert.RXgIdeal.τ Cert.RXgIdeal.sig) → Buf (Elt Ideal) ℓ) (g' : Dev Cert.RXgIdeal.nD → PrngReg), Pre_KXgIdeal m →
    (∀ c : Dev Cert.KXgIdeal.nD,
      m' ((c.tc : Thread Cert.RXgIdeal.nD Cert.RXgIdeal.τ).loc Cert.RXgIdeal.main_arg0) = m ((c.tc : Thread Cert.KXgIdeal.nD Cert.KXgIdeal.τ).loc Cert.KXgIdeal.main_arg0)
      ∧ m' ((c.tc : Thread Cert.RXgIdeal.nD Cert.RXgIdeal.τ).loc Cert.RXgIdeal.main_arg1) = m ((c.tc : Thread Cert.KXgIdeal.nD Cert.KXgIdeal.τ).loc Cert.KXgIdeal.main_arg1)
      ∧ m' ((c.tc : Thread Cert.RXgIdeal.nD Cert.RXgIdeal.τ).loc Cert.RXgIdeal.main_arg2) = m ((c.tc : Thread Cert.KXgIdeal.nD Cert.KXgIdeal.τ).loc Cert.KXgIdeal.main_arg2)) →
    ∃ (v0 : (c : Dev Cert.KXgIdeal.nD) → Buf (Elt Ideal) ((c.tc : Thread Cert.KXgIdeal.nD Cert.KXgIdeal.τ).loc Cert.KXgIdeal.main_v4)),
      θ_run (Cert.KXgIdeal.defs (F := Ideal)) (onTc (τ := Cert.KXgIdeal.τ) (Cert.KXgIdeal.main (F := Ideal))) ⟨m, fun _ => 0, g⟩ (fun r => ∀ c : Dev Cert.KXgIdeal.nD,
          r.2.mem ((c.tc : Thread Cert.KXgIdeal.nD Cert.KXgIdeal.τ).loc Cert.KXgIdeal.main_v4) = v0 c
          ∧ r.2.mem ((c.tc : Thread Cert.KXgIdeal.nD Cert.KXgIdeal.τ).loc Cert.KXgIdeal.main_arg0) = m ((c.tc : Thread Cert.KXgIdeal.nD Cert.KXgIdeal.τ).loc Cert.KXgIdeal.main_arg0)
          ∧ r.2.mem ((c.tc : Thread Cert.KXgIdeal.nD Cert.KXgIdeal.τ).loc Cert.KXgIdeal.main_arg1) = m ((c.tc : Thread Cert.KXgIdeal.nD Cert.KXgIdeal.τ).loc Cert.KXgIdeal.main_arg1)
          ∧ r.2.mem ((c.tc : Thread Cert.KXgIdeal.nD Cert.KXgIdeal.τ).loc Cert.KXgIdeal.main_arg2) = m ((c.tc : Thread Cert.KXgIdeal.nD Cert.KXgIdeal.τ).loc Cert.KXgIdeal.main_arg2))
      ∧ θ_run (Cert.RXgIdeal.defs (F := Ideal)) (onTc (τ := Cert.RXgIdeal.τ) (Cert.RXgIdeal.main (F := Ideal))) ⟨m', fun _ => 0, g'⟩ (fun r => ∀ c : Dev Cert.RXgIdeal.nD,
          r.2.mem ((c.tc : Thread Cert.RXgIdeal.nD Cert.RXgIdeal.τ).loc Cert.RXgIdeal.main_v9) = v0 c
          ∧ r.2.mem ((c.tc : Thread Cert.RXgIdeal.nD Cert.RXgIdeal.τ).loc Cert.RXgIdeal.main_arg0) = m' ((c.tc : Thread Cert.RXgIdeal.nD Cert.RXgIdeal.τ).loc Cert.RXgIdeal.main_arg0)
          ∧ r.2.mem ((c.tc : Thread Cert.RXgIdeal.nD Cert.RXgIdeal.τ).loc Cert.RXgIdeal.main_arg1) = m' ((c.tc : Thread Cert.RXgIdeal.nD Cert.RXgIdeal.τ).loc Cert.RXgIdeal.main_arg1)
          ∧ r.2.mem ((c.tc : Thread Cert.RXgIdeal.nD Cert.RXgIdeal.τ).loc Cert.RXgIdeal.main_arg2) = m' ((c.tc : Thread Cert.RXgIdeal.nD Cert.RXgIdeal.τ).loc Cert.RXgIdeal.main_arg2))

def preserves_KXv_KXvIdeal : Prop :=
  True

def algebraic_KXvIdeal_RXvIdeal [hKXvIdeal : Cert.KXvIdeal.Facts] [hRXvIdeal : Cert.RXvIdeal.Facts] : Prop :=
  ∀ (m : (ℓ : Loc Cert.KXvIdeal.nD Cert.KXvIdeal.τ Cert.KXvIdeal.sig) → Buf (Elt Ideal) ℓ) (g : Dev Cert.KXvIdeal.nD → PrngReg)
    (m' : (ℓ : Loc Cert.RXvIdeal.nD Cert.RXvIdeal.τ Cert.RXvIdeal.sig) → Buf (Elt Ideal) ℓ) (g' : Dev Cert.RXvIdeal.nD → PrngReg), Pre_KXvIdeal m →
    (∀ c : Dev Cert.KXvIdeal.nD,
      m' ((c.tc : Thread Cert.RXvIdeal.nD Cert.RXvIdeal.τ).loc Cert.RXvIdeal.main_arg0) = m ((c.tc : Thread Cert.KXvIdeal.nD Cert.KXvIdeal.τ).loc Cert.KXvIdeal.main_arg0)
      ∧ m' ((c.tc : Thread Cert.RXvIdeal.nD Cert.RXvIdeal.τ).loc Cert.RXvIdeal.main_arg1) = m ((c.tc : Thread Cert.KXvIdeal.nD Cert.KXvIdeal.τ).loc Cert.KXvIdeal.main_arg1)
      ∧ m' ((c.tc : Thread Cert.RXvIdeal.nD Cert.RXvIdeal.τ).loc Cert.RXvIdeal.main_arg2) = m ((c.tc : Thread Cert.KXvIdeal.nD Cert.KXvIdeal.τ).loc Cert.KXvIdeal.main_arg2)) →
    ∃ (v0 : (c : Dev Cert.KXvIdeal.nD) → Buf (Elt Ideal) ((c.tc : Thread Cert.KXvIdeal.nD Cert.KXvIdeal.τ).loc Cert.KXvIdeal.main_v4)),
      θ_run (Cert.KXvIdeal.defs (F := Ideal)) (onTc (τ := Cert.KXvIdeal.τ) (Cert.KXvIdeal.main (F := Ideal))) ⟨m, fun _ => 0, g⟩ (fun r => ∀ c : Dev Cert.KXvIdeal.nD,
          r.2.mem ((c.tc : Thread Cert.KXvIdeal.nD Cert.KXvIdeal.τ).loc Cert.KXvIdeal.main_v4) = v0 c
          ∧ r.2.mem ((c.tc : Thread Cert.KXvIdeal.nD Cert.KXvIdeal.τ).loc Cert.KXvIdeal.main_arg0) = m ((c.tc : Thread Cert.KXvIdeal.nD Cert.KXvIdeal.τ).loc Cert.KXvIdeal.main_arg0)
          ∧ r.2.mem ((c.tc : Thread Cert.KXvIdeal.nD Cert.KXvIdeal.τ).loc Cert.KXvIdeal.main_arg1) = m ((c.tc : Thread Cert.KXvIdeal.nD Cert.KXvIdeal.τ).loc Cert.KXvIdeal.main_arg1)
          ∧ r.2.mem ((c.tc : Thread Cert.KXvIdeal.nD Cert.KXvIdeal.τ).loc Cert.KXvIdeal.main_arg2) = m ((c.tc : Thread Cert.KXvIdeal.nD Cert.KXvIdeal.τ).loc Cert.KXvIdeal.main_arg2))
      ∧ θ_run (Cert.RXvIdeal.defs (F := Ideal)) (onTc (τ := Cert.RXvIdeal.τ) (Cert.RXvIdeal.main (F := Ideal))) ⟨m', fun _ => 0, g'⟩ (fun r => ∀ c : Dev Cert.RXvIdeal.nD,
          r.2.mem ((c.tc : Thread Cert.RXvIdeal.nD Cert.RXvIdeal.τ).loc Cert.RXvIdeal.main_v5) = v0 c
          ∧ r.2.mem ((c.tc : Thread Cert.RXvIdeal.nD Cert.RXvIdeal.τ).loc Cert.RXvIdeal.main_arg0) = m' ((c.tc : Thread Cert.RXvIdeal.nD Cert.RXvIdeal.τ).loc Cert.RXvIdeal.main_arg0)
          ∧ r.2.mem ((c.tc : Thread Cert.RXvIdeal.nD Cert.RXvIdeal.τ).loc Cert.RXvIdeal.main_arg1) = m' ((c.tc : Thread Cert.RXvIdeal.nD Cert.RXvIdeal.τ).loc Cert.RXvIdeal.main_arg1)
          ∧ r.2.mem ((c.tc : Thread Cert.RXvIdeal.nD Cert.RXvIdeal.τ).loc Cert.RXvIdeal.main_arg2) = m' ((c.tc : Thread Cert.RXvIdeal.nD Cert.RXvIdeal.τ).loc Cert.RXvIdeal.main_arg2))

def preserves_KXp_KXpIdeal : Prop :=
  True

def algebraic_KXpIdeal_RXpIdeal [hKXpIdeal : Cert.KXpIdeal.Facts] [hRXpIdeal : Cert.RXpIdeal.Facts] : Prop :=
  ∀ (m : (ℓ : Loc Cert.KXpIdeal.nD Cert.KXpIdeal.τ Cert.KXpIdeal.sig) → Buf (Elt Ideal) ℓ) (g : Dev Cert.KXpIdeal.nD → PrngReg)
    (m' : (ℓ : Loc Cert.RXpIdeal.nD Cert.RXpIdeal.τ Cert.RXpIdeal.sig) → Buf (Elt Ideal) ℓ) (g' : Dev Cert.RXpIdeal.nD → PrngReg), Pre_KXpIdeal m →
    (∀ c : Dev Cert.KXpIdeal.nD,
      m' ((c.tc : Thread Cert.RXpIdeal.nD Cert.RXpIdeal.τ).loc Cert.RXpIdeal.main_arg0) = m ((c.tc : Thread Cert.KXpIdeal.nD Cert.KXpIdeal.τ).loc Cert.KXpIdeal.main_arg0)
      ∧ m' ((c.tc : Thread Cert.RXpIdeal.nD Cert.RXpIdeal.τ).loc Cert.RXpIdeal.main_arg1) = m ((c.tc : Thread Cert.KXpIdeal.nD Cert.KXpIdeal.τ).loc Cert.KXpIdeal.main_arg1)
      ∧ m' ((c.tc : Thread Cert.RXpIdeal.nD Cert.RXpIdeal.τ).loc Cert.RXpIdeal.main_arg2) = m ((c.tc : Thread Cert.KXpIdeal.nD Cert.KXpIdeal.τ).loc Cert.KXpIdeal.main_arg2)) →
    ∃ (v0 : (c : Dev Cert.KXpIdeal.nD) → Buf (Elt Ideal) ((c.tc : Thread Cert.KXpIdeal.nD Cert.KXpIdeal.τ).loc Cert.KXpIdeal.main_v4)),
      θ_run (Cert.KXpIdeal.defs (F := Ideal)) (onTc (τ := Cert.KXpIdeal.τ) (Cert.KXpIdeal.main (F := Ideal))) ⟨m, fun _ => 0, g⟩ (fun r => ∀ c : Dev Cert.KXpIdeal.nD,
          r.2.mem ((c.tc : Thread Cert.KXpIdeal.nD Cert.KXpIdeal.τ).loc Cert.KXpIdeal.main_v4) = v0 c
          ∧ r.2.mem ((c.tc : Thread Cert.KXpIdeal.nD Cert.KXpIdeal.τ).loc Cert.KXpIdeal.main_arg0) = m ((c.tc : Thread Cert.KXpIdeal.nD Cert.KXpIdeal.τ).loc Cert.KXpIdeal.main_arg0)
          ∧ r.2.mem ((c.tc : Thread Cert.KXpIdeal.nD Cert.KXpIdeal.τ).loc Cert.KXpIdeal.main_arg1) = m ((c.tc : Thread Cert.KXpIdeal.nD Cert.KXpIdeal.τ).loc Cert.KXpIdeal.main_arg1)
          ∧ r.2.mem ((c.tc : Thread Cert.KXpIdeal.nD Cert.KXpIdeal.τ).loc Cert.KXpIdeal.main_arg2) = m ((c.tc : Thread Cert.KXpIdeal.nD Cert.KXpIdeal.τ).loc Cert.KXpIdeal.main_arg2))
      ∧ θ_run (Cert.RXpIdeal.defs (F := Ideal)) (onTc (τ := Cert.RXpIdeal.τ) (Cert.RXpIdeal.main (F := Ideal))) ⟨m', fun _ => 0, g'⟩ (fun r => ∀ c : Dev Cert.RXpIdeal.nD,
          r.2.mem ((c.tc : Thread Cert.RXpIdeal.nD Cert.RXpIdeal.τ).loc Cert.RXpIdeal.main_v5) = v0 c
          ∧ r.2.mem ((c.tc : Thread Cert.RXpIdeal.nD Cert.RXpIdeal.τ).loc Cert.RXpIdeal.main_arg0) = m' ((c.tc : Thread Cert.RXpIdeal.nD Cert.RXpIdeal.τ).loc Cert.RXpIdeal.main_arg0)
          ∧ r.2.mem ((c.tc : Thread Cert.RXpIdeal.nD Cert.RXpIdeal.τ).loc Cert.RXpIdeal.main_arg1) = m' ((c.tc : Thread Cert.RXpIdeal.nD Cert.RXpIdeal.τ).loc Cert.RXpIdeal.main_arg1)
          ∧ r.2.mem ((c.tc : Thread Cert.RXpIdeal.nD Cert.RXpIdeal.τ).loc Cert.RXpIdeal.main_arg2) = m' ((c.tc : Thread Cert.RXpIdeal.nD Cert.RXpIdeal.τ).loc Cert.RXpIdeal.main_arg2))

def preserves_KDx_KDxIdeal : Prop :=
  True

def algebraic_KDxIdeal_RDxIdeal [hKDxIdeal : Cert.KDxIdeal.Facts] [hRDxIdeal : Cert.RDxIdeal.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.RDxIdeal.nD Cert.RDxIdeal.τ Cert.RDxIdeal.sig) → Buf (Elt Ideal) ℓ) (g' : Dev Cert.RDxIdeal.nD → PrngReg), Pre_KDxIdeal m →
    (∀ c : Dev Cert.KDxIdeal.nD,
      m' ((c.tc : Thread Cert.RDxIdeal.nD Cert.RDxIdeal.τ).loc Cert.RDxIdeal.main_arg0) = m ((c.tc : Thread Cert.KDxIdeal.nD Cert.KDxIdeal.τ).loc Cert.KDxIdeal.main_arg0)
      ∧ m' ((c.tc : Thread Cert.RDxIdeal.nD Cert.RDxIdeal.τ).loc Cert.RDxIdeal.main_arg1) = m ((c.tc : Thread Cert.KDxIdeal.nD Cert.KDxIdeal.τ).loc Cert.KDxIdeal.main_arg1)
      ∧ m' ((c.tc : Thread Cert.RDxIdeal.nD Cert.RDxIdeal.τ).loc Cert.RDxIdeal.main_arg2) = m ((c.tc : Thread Cert.KDxIdeal.nD Cert.KDxIdeal.τ).loc Cert.KDxIdeal.main_arg2)) →
    ∃ (v0 : (c : Dev Cert.KDxIdeal.nD) → Buf (Elt Ideal) ((c.tc : Thread Cert.KDxIdeal.nD Cert.KDxIdeal.τ).loc Cert.KDxIdeal.main_v2)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v2) = v0 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
          ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          r.2.mem ((c.tc : Thread Cert.RDxIdeal.nD Cert.RDxIdeal.τ).loc Cert.RDxIdeal.main_v11) = v0 c
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2))

def preserves_KFs_KFsIdeal : Prop :=
  True

def algebraic_KFsIdeal_RFsIdeal [hKFsIdeal : Cert.KFsIdeal.Facts] [hRFsIdeal : Cert.RFsIdeal.Facts] : Prop :=
  ∀ (m : (ℓ : Loc Cert.KFsIdeal.nD Cert.KFsIdeal.τ Cert.KFsIdeal.sig) → Buf (Elt Ideal) ℓ) (g : Dev Cert.KFsIdeal.nD → PrngReg)
    (m' : (ℓ : Loc Cert.RFsIdeal.nD Cert.RFsIdeal.τ Cert.RFsIdeal.sig) → Buf (Elt Ideal) ℓ) (g' : Dev Cert.RFsIdeal.nD → PrngReg), Pre_KFsIdeal m →
    (∀ c : Dev Cert.KFsIdeal.nD,
      m' ((c.tc : Thread Cert.RFsIdeal.nD Cert.RFsIdeal.τ).loc Cert.RFsIdeal.main_arg0) = m ((c.tc : Thread Cert.KFsIdeal.nD Cert.KFsIdeal.τ).loc Cert.KFsIdeal.main_arg0)
      ∧ m' ((c.tc : Thread Cert.RFsIdeal.nD Cert.RFsIdeal.τ).loc Cert.RFsIdeal.main_arg1) = m ((c.tc : Thread Cert.KFsIdeal.nD Cert.KFsIdeal.τ).loc Cert.KFsIdeal.main_arg1)) →
    ∃ (v0 : (c : Dev Cert.KFsIdeal.nD) → Buf (Elt Ideal) ((c.tc : Thread Cert.KFsIdeal.nD Cert.KFsIdeal.τ).loc Cert.KFsIdeal.main_v3)),
      θ_run (Cert.KFsIdeal.defs (F := Ideal)) (onTc (τ := Cert.KFsIdeal.τ) (Cert.KFsIdeal.main (F := Ideal))) ⟨m, fun _ => 0, g⟩ (fun r => ∀ c : Dev Cert.KFsIdeal.nD,
          r.2.mem ((c.tc : Thread Cert.KFsIdeal.nD Cert.KFsIdeal.τ).loc Cert.KFsIdeal.main_v3) = v0 c
          ∧ r.2.mem ((c.tc : Thread Cert.KFsIdeal.nD Cert.KFsIdeal.τ).loc Cert.KFsIdeal.main_arg0) = m ((c.tc : Thread Cert.KFsIdeal.nD Cert.KFsIdeal.τ).loc Cert.KFsIdeal.main_arg0)
          ∧ r.2.mem ((c.tc : Thread Cert.KFsIdeal.nD Cert.KFsIdeal.τ).loc Cert.KFsIdeal.main_arg1) = m ((c.tc : Thread Cert.KFsIdeal.nD Cert.KFsIdeal.τ).loc Cert.KFsIdeal.main_arg1))
      ∧ θ_run (Cert.RFsIdeal.defs (F := Ideal)) (onTc (τ := Cert.RFsIdeal.τ) (Cert.RFsIdeal.main (F := Ideal))) ⟨m', fun _ => 0, g'⟩ (fun r => ∀ c : Dev Cert.RFsIdeal.nD,
          r.2.mem ((c.tc : Thread Cert.RFsIdeal.nD Cert.RFsIdeal.τ).loc Cert.RFsIdeal.main_v2) = v0 c
          ∧ r.2.mem ((c.tc : Thread Cert.RFsIdeal.nD Cert.RFsIdeal.τ).loc Cert.RFsIdeal.main_arg0) = m' ((c.tc : Thread Cert.RFsIdeal.nD Cert.RFsIdeal.τ).loc Cert.RFsIdeal.main_arg0)
          ∧ r.2.mem ((c.tc : Thread Cert.RFsIdeal.nD Cert.RFsIdeal.τ).loc Cert.RFsIdeal.main_arg1) = m' ((c.tc : Thread Cert.RFsIdeal.nD Cert.RFsIdeal.τ).loc Cert.RFsIdeal.main_arg1))

def preserves_KFu_KFuIdeal : Prop :=
  True

def algebraic_KFuIdeal_RFuIdeal [hKFuIdeal : Cert.KFuIdeal.Facts] [hRFuIdeal : Cert.RFuIdeal.Facts] : Prop :=
  ∀ (m : (ℓ : Loc Cert.KFuIdeal.nD Cert.KFuIdeal.τ Cert.KFuIdeal.sig) → Buf (Elt Ideal) ℓ) (g : Dev Cert.KFuIdeal.nD → PrngReg)
    (m' : (ℓ : Loc Cert.RFuIdeal.nD Cert.RFuIdeal.τ Cert.RFuIdeal.sig) → Buf (Elt Ideal) ℓ) (g' : Dev Cert.RFuIdeal.nD → PrngReg), Pre_KFuIdeal m →
    (∀ c : Dev Cert.KFuIdeal.nD,
      m' ((c.tc : Thread Cert.RFuIdeal.nD Cert.RFuIdeal.τ).loc Cert.RFuIdeal.main_arg0) = m ((c.tc : Thread Cert.KFuIdeal.nD Cert.KFuIdeal.τ).loc Cert.KFuIdeal.main_arg0)
      ∧ m' ((c.tc : Thread Cert.RFuIdeal.nD Cert.RFuIdeal.τ).loc Cert.RFuIdeal.main_arg1) = m ((c.tc : Thread Cert.KFuIdeal.nD Cert.KFuIdeal.τ).loc Cert.KFuIdeal.main_arg1)) →
    ∃ (v0 : (c : Dev Cert.KFuIdeal.nD) → Buf (Elt Ideal) ((c.tc : Thread Cert.KFuIdeal.nD Cert.KFuIdeal.τ).loc Cert.KFuIdeal.main_v3)),
      θ_run (Cert.KFuIdeal.defs (F := Ideal)) (onTc (τ := Cert.KFuIdeal.τ) (Cert.KFuIdeal.main (F := Ideal))) ⟨m, fun _ => 0, g⟩ (fun r => ∀ c : Dev Cert.KFuIdeal.nD,
          r.2.mem ((c.tc : Thread Cert.KFuIdeal.nD Cert.KFuIdeal.τ).loc Cert.KFuIdeal.main_v3) = v0 c
          ∧ r.2.mem ((c.tc : Thread Cert.KFuIdeal.nD Cert.KFuIdeal.τ).loc Cert.KFuIdeal.main_arg0) = m ((c.tc : Thread Cert.KFuIdeal.nD Cert.KFuIdeal.τ).loc Cert.KFuIdeal.main_arg0)
          ∧ r.2.mem ((c.tc : Thread Cert.KFuIdeal.nD Cert.KFuIdeal.τ).loc Cert.KFuIdeal.main_arg1) = m ((c.tc : Thread Cert.KFuIdeal.nD Cert.KFuIdeal.τ).loc Cert.KFuIdeal.main_arg1))
      ∧ θ_run (Cert.RFuIdeal.defs (F := Ideal)) (onTc (τ := Cert.RFuIdeal.τ) (Cert.RFuIdeal.main (F := Ideal))) ⟨m', fun _ => 0, g'⟩ (fun r => ∀ c : Dev Cert.RFuIdeal.nD,
          r.2.mem ((c.tc : Thread Cert.RFuIdeal.nD Cert.RFuIdeal.τ).loc Cert.RFuIdeal.main_v2) = v0 c
          ∧ r.2.mem ((c.tc : Thread Cert.RFuIdeal.nD Cert.RFuIdeal.τ).loc Cert.RFuIdeal.main_arg0) = m' ((c.tc : Thread Cert.RFuIdeal.nD Cert.RFuIdeal.τ).loc Cert.RFuIdeal.main_arg0)
          ∧ r.2.mem ((c.tc : Thread Cert.RFuIdeal.nD Cert.RFuIdeal.τ).loc Cert.RFuIdeal.main_arg1) = m' ((c.tc : Thread Cert.RFuIdeal.nD Cert.RFuIdeal.τ).loc Cert.RFuIdeal.main_arg1))

def preserves_KFd_KFdIdeal : Prop :=
  True

def algebraic_KFdIdeal_RFdIdeal [hKFdIdeal : Cert.KFdIdeal.Facts] [hRFdIdeal : Cert.RFdIdeal.Facts] : Prop :=
  ∀ (m : (ℓ : Loc Cert.KFdIdeal.nD Cert.KFdIdeal.τ Cert.KFdIdeal.sig) → Buf (Elt Ideal) ℓ) (g : Dev Cert.KFdIdeal.nD → PrngReg)
    (m' : (ℓ : Loc Cert.RFdIdeal.nD Cert.RFdIdeal.τ Cert.RFdIdeal.sig) → Buf (Elt Ideal) ℓ) (g' : Dev Cert.RFdIdeal.nD → PrngReg), Pre_KFdIdeal m →
    (∀ c : Dev Cert.KFdIdeal.nD,
      m' ((c.tc : Thread Cert.RFdIdeal.nD Cert.RFdIdeal.τ).loc Cert.RFdIdeal.main_arg0) = m ((c.tc : Thread Cert.KFdIdeal.nD Cert.KFdIdeal.τ).loc Cert.KFdIdeal.main_arg0)
      ∧ m' ((c.tc : Thread Cert.RFdIdeal.nD Cert.RFdIdeal.τ).loc Cert.RFdIdeal.main_arg1) = m ((c.tc : Thread Cert.KFdIdeal.nD Cert.KFdIdeal.τ).loc Cert.KFdIdeal.main_arg1)) →
    ∃ (v0 : (c : Dev Cert.KFdIdeal.nD) → Buf (Elt Ideal) ((c.tc : Thread Cert.KFdIdeal.nD Cert.KFdIdeal.τ).loc Cert.KFdIdeal.main_v3)),
      θ_run (Cert.KFdIdeal.defs (F := Ideal)) (onTc (τ := Cert.KFdIdeal.τ) (Cert.KFdIdeal.main (F := Ideal))) ⟨m, fun _ => 0, g⟩ (fun r => ∀ c : Dev Cert.KFdIdeal.nD,
          r.2.mem ((c.tc : Thread Cert.KFdIdeal.nD Cert.KFdIdeal.τ).loc Cert.KFdIdeal.main_v3) = v0 c
          ∧ r.2.mem ((c.tc : Thread Cert.KFdIdeal.nD Cert.KFdIdeal.τ).loc Cert.KFdIdeal.main_arg0) = m ((c.tc : Thread Cert.KFdIdeal.nD Cert.KFdIdeal.τ).loc Cert.KFdIdeal.main_arg0)
          ∧ r.2.mem ((c.tc : Thread Cert.KFdIdeal.nD Cert.KFdIdeal.τ).loc Cert.KFdIdeal.main_arg1) = m ((c.tc : Thread Cert.KFdIdeal.nD Cert.KFdIdeal.τ).loc Cert.KFdIdeal.main_arg1))
      ∧ θ_run (Cert.RFdIdeal.defs (F := Ideal)) (onTc (τ := Cert.RFdIdeal.τ) (Cert.RFdIdeal.main (F := Ideal))) ⟨m', fun _ => 0, g'⟩ (fun r => ∀ c : Dev Cert.RFdIdeal.nD,
          r.2.mem ((c.tc : Thread Cert.RFdIdeal.nD Cert.RFdIdeal.τ).loc Cert.RFdIdeal.main_v2) = v0 c
          ∧ r.2.mem ((c.tc : Thread Cert.RFdIdeal.nD Cert.RFdIdeal.τ).loc Cert.RFdIdeal.main_arg0) = m' ((c.tc : Thread Cert.RFdIdeal.nD Cert.RFdIdeal.τ).loc Cert.RFdIdeal.main_arg0)
          ∧ r.2.mem ((c.tc : Thread Cert.RFdIdeal.nD Cert.RFdIdeal.τ).loc Cert.RFdIdeal.main_arg1) = m' ((c.tc : Thread Cert.RFdIdeal.nD Cert.RFdIdeal.τ).loc Cert.RFdIdeal.main_arg1))

def preserves_KFp_KFpIdeal : Prop :=
  True

def algebraic_KFpIdeal_RFpIdeal [hKFpIdeal : Cert.KFpIdeal.Facts] [hRFpIdeal : Cert.RFpIdeal.Facts] : Prop :=
  ∀ (m : (ℓ : Loc Cert.KFpIdeal.nD Cert.KFpIdeal.τ Cert.KFpIdeal.sig) → Buf (Elt Ideal) ℓ) (g : Dev Cert.KFpIdeal.nD → PrngReg)
    (m' : (ℓ : Loc Cert.RFpIdeal.nD Cert.RFpIdeal.τ Cert.RFpIdeal.sig) → Buf (Elt Ideal) ℓ) (g' : Dev Cert.RFpIdeal.nD → PrngReg), Pre_KFpIdeal m →
    (∀ c : Dev Cert.KFpIdeal.nD,
      m' ((c.tc : Thread Cert.RFpIdeal.nD Cert.RFpIdeal.τ).loc Cert.RFpIdeal.main_arg0) = m ((c.tc : Thread Cert.KFpIdeal.nD Cert.KFpIdeal.τ).loc Cert.KFpIdeal.main_arg0)
      ∧ m' ((c.tc : Thread Cert.RFpIdeal.nD Cert.RFpIdeal.τ).loc Cert.RFpIdeal.main_arg1) = m ((c.tc : Thread Cert.KFpIdeal.nD Cert.KFpIdeal.τ).loc Cert.KFpIdeal.main_arg1)) →
    ∃ (v0 : (c : Dev Cert.KFpIdeal.nD) → Buf (Elt Ideal) ((c.tc : Thread Cert.KFpIdeal.nD Cert.KFpIdeal.τ).loc Cert.KFpIdeal.main_v3)),
      θ_run (Cert.KFpIdeal.defs (F := Ideal)) (onTc (τ := Cert.KFpIdeal.τ) (Cert.KFpIdeal.main (F := Ideal))) ⟨m, fun _ => 0, g⟩ (fun r => ∀ c : Dev Cert.KFpIdeal.nD,
          r.2.mem ((c.tc : Thread Cert.KFpIdeal.nD Cert.KFpIdeal.τ).loc Cert.KFpIdeal.main_v3) = v0 c
          ∧ r.2.mem ((c.tc : Thread Cert.KFpIdeal.nD Cert.KFpIdeal.τ).loc Cert.KFpIdeal.main_arg0) = m ((c.tc : Thread Cert.KFpIdeal.nD Cert.KFpIdeal.τ).loc Cert.KFpIdeal.main_arg0)
          ∧ r.2.mem ((c.tc : Thread Cert.KFpIdeal.nD Cert.KFpIdeal.τ).loc Cert.KFpIdeal.main_arg1) = m ((c.tc : Thread Cert.KFpIdeal.nD Cert.KFpIdeal.τ).loc Cert.KFpIdeal.main_arg1))
      ∧ θ_run (Cert.RFpIdeal.defs (F := Ideal)) (onTc (τ := Cert.RFpIdeal.τ) (Cert.RFpIdeal.main (F := Ideal))) ⟨m', fun _ => 0, g'⟩ (fun r => ∀ c : Dev Cert.RFpIdeal.nD,
          r.2.mem ((c.tc : Thread Cert.RFpIdeal.nD Cert.RFpIdeal.τ).loc Cert.RFpIdeal.main_v2) = v0 c
          ∧ r.2.mem ((c.tc : Thread Cert.RFpIdeal.nD Cert.RFpIdeal.τ).loc Cert.RFpIdeal.main_arg0) = m' ((c.tc : Thread Cert.RFpIdeal.nD Cert.RFpIdeal.τ).loc Cert.RFpIdeal.main_arg0)
          ∧ r.2.mem ((c.tc : Thread Cert.RFpIdeal.nD Cert.RFpIdeal.τ).loc Cert.RFpIdeal.main_arg1) = m' ((c.tc : Thread Cert.RFpIdeal.nD Cert.RFpIdeal.τ).loc Cert.RFpIdeal.main_arg1))

def preserves_KMb_KMbIdeal : Prop :=
  True

def algebraic_KMbIdeal_RMbIdeal [hKMbIdeal : Cert.KMbIdeal.Facts] [hRMbIdeal : Cert.RMbIdeal.Facts] : Prop :=
  ∀ (m : (ℓ : Loc Cert.KMbIdeal.nD Cert.KMbIdeal.τ Cert.KMbIdeal.sig) → Buf (Elt Ideal) ℓ) (g : Dev Cert.KMbIdeal.nD → PrngReg)
    (m' : (ℓ : Loc Cert.RMbIdeal.nD Cert.RMbIdeal.τ Cert.RMbIdeal.sig) → Buf (Elt Ideal) ℓ) (g' : Dev Cert.RMbIdeal.nD → PrngReg), Pre_KMbIdeal m →
    (∀ c : Dev Cert.KMbIdeal.nD,
      m' ((c.tc : Thread Cert.RMbIdeal.nD Cert.RMbIdeal.τ).loc Cert.RMbIdeal.main_arg0) = m ((c.tc : Thread Cert.KMbIdeal.nD Cert.KMbIdeal.τ).loc Cert.KMbIdeal.main_arg0)
      ∧ m' ((c.tc : Thread Cert.RMbIdeal.nD Cert.RMbIdeal.τ).loc Cert.RMbIdeal.main_arg1) = m ((c.tc : Thread Cert.KMbIdeal.nD Cert.KMbIdeal.τ).loc Cert.KMbIdeal.main_arg1)
      ∧ m' ((c.tc : Thread Cert.RMbIdeal.nD Cert.RMbIdeal.τ).loc Cert.RMbIdeal.main_arg2) = m ((c.tc : Thread Cert.KMbIdeal.nD Cert.KMbIdeal.τ).loc Cert.KMbIdeal.main_arg2)
      ∧ m' ((c.tc : Thread Cert.RMbIdeal.nD Cert.RMbIdeal.τ).loc Cert.RMbIdeal.main_arg3) = m ((c.tc : Thread Cert.KMbIdeal.nD Cert.KMbIdeal.τ).loc Cert.KMbIdeal.main_arg3)) →
    ∃ (v0 : (c : Dev Cert.KMbIdeal.nD) → Buf (Elt Ideal) ((c.tc : Thread Cert.KMbIdeal.nD Cert.KMbIdeal.τ).loc Cert.KMbIdeal.main_v2)) (v1 : (c : Dev Cert.KMbIdeal.nD) → Buf (Elt Ideal) ((c.tc : Thread Cert.KMbIdeal.nD Cert.KMbIdeal.τ).loc Cert.KMbIdeal.main_v4)) (v2 : (c : Dev Cert.KMbIdeal.nD) → Buf (Elt Ideal) ((c.tc : Thread Cert.KMbIdeal.nD Cert.KMbIdeal.τ).loc Cert.KMbIdeal.main_v0_1)) (v3 : (c : Dev Cert.KMbIdeal.nD) → Buf (Elt Ideal) ((c.tc : Thread Cert.KMbIdeal.nD Cert.KMbIdeal.τ).loc Cert.KMbIdeal.main_v0_2)),
      θ_run (Cert.KMbIdeal.defs (F := Ideal)) (onTc (τ := Cert.KMbIdeal.τ) (Cert.KMbIdeal.main (F := Ideal))) ⟨m, fun _ => 0, g⟩ (fun r => ∀ c : Dev Cert.KMbIdeal.nD,
          r.2.mem ((c.tc : Thread Cert.KMbIdeal.nD Cert.KMbIdeal.τ).loc Cert.KMbIdeal.main_v2) = v0 c
          ∧ r.2.mem ((c.tc : Thread Cert.KMbIdeal.nD Cert.KMbIdeal.τ).loc Cert.KMbIdeal.main_v4) = v1 c
          ∧ r.2.mem ((c.tc : Thread Cert.KMbIdeal.nD Cert.KMbIdeal.τ).loc Cert.KMbIdeal.main_v0_1) = v2 c
          ∧ r.2.mem ((c.tc : Thread Cert.KMbIdeal.nD Cert.KMbIdeal.τ).loc Cert.KMbIdeal.main_v0_2) = v3 c
          ∧ r.2.mem ((c.tc : Thread Cert.KMbIdeal.nD Cert.KMbIdeal.τ).loc Cert.KMbIdeal.main_arg0) = m ((c.tc : Thread Cert.KMbIdeal.nD Cert.KMbIdeal.τ).loc Cert.KMbIdeal.main_arg0)
          ∧ r.2.mem ((c.tc : Thread Cert.KMbIdeal.nD Cert.KMbIdeal.τ).loc Cert.KMbIdeal.main_arg1) = m ((c.tc : Thread Cert.KMbIdeal.nD Cert.KMbIdeal.τ).loc Cert.KMbIdeal.main_arg1)
          ∧ r.2.mem ((c.tc : Thread Cert.KMbIdeal.nD Cert.KMbIdeal.τ).loc Cert.KMbIdeal.main_arg2) = m ((c.tc : Thread Cert.KMbIdeal.nD Cert.KMbIdeal.τ).loc Cert.KMbIdeal.main_arg2)
          ∧ r.2.mem ((c.tc : Thread Cert.KMbIdeal.nD Cert.KMbIdeal.τ).loc Cert.KMbIdeal.main_arg3) = m ((c.tc : Thread Cert.KMbIdeal.nD Cert.KMbIdeal.τ).loc Cert.KMbIdeal.main_arg3))
      ∧ θ_run (Cert.RMbIdeal.defs (F := Ideal)) (onTc (τ := Cert.RMbIdeal.τ) (Cert.RMbIdeal.main (F := Ideal))) ⟨m', fun _ => 0, g'⟩ (fun r => ∀ c : Dev Cert.RMbIdeal.nD,
          r.2.mem ((c.tc : Thread Cert.RMbIdeal.nD Cert.RMbIdeal.τ).loc Cert.RMbIdeal.main_v34) = v0 c
          ∧ r.2.mem ((c.tc : Thread Cert.RMbIdeal.nD Cert.RMbIdeal.τ).loc Cert.RMbIdeal.main_v35) = v1 c
          ∧ r.2.mem ((c.tc : Thread Cert.RMbIdeal.nD Cert.RMbIdeal.τ).loc Cert.RMbIdeal.main_v36) = v2 c
          ∧ r.2.mem ((c.tc : Thread Cert.RMbIdeal.nD Cert.RMbIdeal.τ).loc Cert.RMbIdeal.main_v37) = v3 c
          ∧ r.2.mem ((c.tc : Thread Cert.RMbIdeal.nD Cert.RMbIdeal.τ).loc Cert.RMbIdeal.main_arg0) = m' ((c.tc : Thread Cert.RMbIdeal.nD Cert.RMbIdeal.τ).loc Cert.RMbIdeal.main_arg0)
          ∧ r.2.mem ((c.tc : Thread Cert.RMbIdeal.nD Cert.RMbIdeal.τ).loc Cert.RMbIdeal.main_arg1) = m' ((c.tc : Thread Cert.RMbIdeal.nD Cert.RMbIdeal.τ).loc Cert.RMbIdeal.main_arg1)
          ∧ r.2.mem ((c.tc : Thread Cert.RMbIdeal.nD Cert.RMbIdeal.τ).loc Cert.RMbIdeal.main_arg2) = m' ((c.tc : Thread Cert.RMbIdeal.nD Cert.RMbIdeal.τ).loc Cert.RMbIdeal.main_arg2)
          ∧ r.2.mem ((c.tc : Thread Cert.RMbIdeal.nD Cert.RMbIdeal.τ).loc Cert.RMbIdeal.main_arg3) = m' ((c.tc : Thread Cert.RMbIdeal.nD Cert.RMbIdeal.τ).loc Cert.RMbIdeal.main_arg3))

def preserves_KMf_KMfIdeal : Prop :=
  True

def algebraic_KMfIdeal_RMfIdeal [hKMfIdeal : Cert.KMfIdeal.Facts] [hRMfIdeal : Cert.RMfIdeal.Facts] : Prop :=
  ∀ (m : (ℓ : Loc Cert.KMfIdeal.nD Cert.KMfIdeal.τ Cert.KMfIdeal.sig) → Buf (Elt Ideal) ℓ) (g : Dev Cert.KMfIdeal.nD → PrngReg)
    (m' : (ℓ : Loc Cert.RMfIdeal.nD Cert.RMfIdeal.τ Cert.RMfIdeal.sig) → Buf (Elt Ideal) ℓ) (g' : Dev Cert.RMfIdeal.nD → PrngReg), Pre_KMfIdeal m →
    (∀ c : Dev Cert.KMfIdeal.nD,
      m' ((c.tc : Thread Cert.RMfIdeal.nD Cert.RMfIdeal.τ).loc Cert.RMfIdeal.main_arg0) = m ((c.tc : Thread Cert.KMfIdeal.nD Cert.KMfIdeal.τ).loc Cert.KMfIdeal.main_arg0)
      ∧ m' ((c.tc : Thread Cert.RMfIdeal.nD Cert.RMfIdeal.τ).loc Cert.RMfIdeal.main_arg1) = m ((c.tc : Thread Cert.KMfIdeal.nD Cert.KMfIdeal.τ).loc Cert.KMfIdeal.main_arg1)
      ∧ m' ((c.tc : Thread Cert.RMfIdeal.nD Cert.RMfIdeal.τ).loc Cert.RMfIdeal.main_arg2) = m ((c.tc : Thread Cert.KMfIdeal.nD Cert.KMfIdeal.τ).loc Cert.KMfIdeal.main_arg2)) →
    ∃ (v0 : (c : Dev Cert.KMfIdeal.nD) → Buf (Elt Ideal) ((c.tc : Thread Cert.KMfIdeal.nD Cert.KMfIdeal.τ).loc Cert.KMfIdeal.main_v0)),
      θ_run (Cert.KMfIdeal.defs (F := Ideal)) (onTc (τ := Cert.KMfIdeal.τ) (Cert.KMfIdeal.main (F := Ideal))) ⟨m, fun _ => 0, g⟩ (fun r => ∀ c : Dev Cert.KMfIdeal.nD,
          r.2.mem ((c.tc : Thread Cert.KMfIdeal.nD Cert.KMfIdeal.τ).loc Cert.KMfIdeal.main_v0) = v0 c
          ∧ r.2.mem ((c.tc : Thread Cert.KMfIdeal.nD Cert.KMfIdeal.τ).loc Cert.KMfIdeal.main_arg0) = m ((c.tc : Thread Cert.KMfIdeal.nD Cert.KMfIdeal.τ).loc Cert.KMfIdeal.main_arg0)
          ∧ r.2.mem ((c.tc : Thread Cert.KMfIdeal.nD Cert.KMfIdeal.τ).loc Cert.KMfIdeal.main_arg1) = m ((c.tc : Thread Cert.KMfIdeal.nD Cert.KMfIdeal.τ).loc Cert.KMfIdeal.main_arg1)
          ∧ r.2.mem ((c.tc : Thread Cert.KMfIdeal.nD Cert.KMfIdeal.τ).loc Cert.KMfIdeal.main_arg2) = m ((c.tc : Thread Cert.KMfIdeal.nD Cert.KMfIdeal.τ).loc Cert.KMfIdeal.main_arg2))
      ∧ θ_run (Cert.RMfIdeal.defs (F := Ideal)) (onTc (τ := Cert.RMfIdeal.τ) (Cert.RMfIdeal.main (F := Ideal))) ⟨m', fun _ => 0, g'⟩ (fun r => ∀ c : Dev Cert.RMfIdeal.nD,
          r.2.mem ((c.tc : Thread Cert.RMfIdeal.nD Cert.RMfIdeal.τ).loc Cert.RMfIdeal.main_v21) = v0 c
          ∧ r.2.mem ((c.tc : Thread Cert.RMfIdeal.nD Cert.RMfIdeal.τ).loc Cert.RMfIdeal.main_arg0) = m' ((c.tc : Thread Cert.RMfIdeal.nD Cert.RMfIdeal.τ).loc Cert.RMfIdeal.main_arg0)
          ∧ r.2.mem ((c.tc : Thread Cert.RMfIdeal.nD Cert.RMfIdeal.τ).loc Cert.RMfIdeal.main_arg1) = m' ((c.tc : Thread Cert.RMfIdeal.nD Cert.RMfIdeal.τ).loc Cert.RMfIdeal.main_arg1)
          ∧ r.2.mem ((c.tc : Thread Cert.RMfIdeal.nD Cert.RMfIdeal.τ).loc Cert.RMfIdeal.main_arg2) = m' ((c.tc : Thread Cert.RMfIdeal.nD Cert.RMfIdeal.τ).loc Cert.RMfIdeal.main_arg2))

def preserves_KLf_KLfIdeal : Prop :=
  True

def algebraic_KLfIdeal_RLfIdeal [hKLfIdeal : Cert.KLfIdeal.Facts] [hRLfIdeal : Cert.RLfIdeal.Facts] : Prop :=
  ∀ (m : (ℓ : Loc Cert.KLfIdeal.nD Cert.KLfIdeal.τ Cert.KLfIdeal.sig) → Buf (Elt Ideal) ℓ) (g : Dev Cert.KLfIdeal.nD → PrngReg)
    (m' : (ℓ : Loc Cert.RLfIdeal.nD Cert.RLfIdeal.τ Cert.RLfIdeal.sig) → Buf (Elt Ideal) ℓ) (g' : Dev Cert.RLfIdeal.nD → PrngReg), Pre_KLfIdeal m →
    (∀ c : Dev Cert.KLfIdeal.nD,
      m' ((c.tc : Thread Cert.RLfIdeal.nD Cert.RLfIdeal.τ).loc Cert.RLfIdeal.main_arg0) = m ((c.tc : Thread Cert.KLfIdeal.nD Cert.KLfIdeal.τ).loc Cert.KLfIdeal.main_arg0)
      ∧ m' ((c.tc : Thread Cert.RLfIdeal.nD Cert.RLfIdeal.τ).loc Cert.RLfIdeal.main_arg1) = m ((c.tc : Thread Cert.KLfIdeal.nD Cert.KLfIdeal.τ).loc Cert.KLfIdeal.main_arg1)
      ∧ m' ((c.tc : Thread Cert.RLfIdeal.nD Cert.RLfIdeal.τ).loc Cert.RLfIdeal.main_arg2) = m ((c.tc : Thread Cert.KLfIdeal.nD Cert.KLfIdeal.τ).loc Cert.KLfIdeal.main_arg2)
      ∧ m' ((c.tc : Thread Cert.RLfIdeal.nD Cert.RLfIdeal.τ).loc Cert.RLfIdeal.main_arg3) = m ((c.tc : Thread Cert.KLfIdeal.nD Cert.KLfIdeal.τ).loc Cert.KLfIdeal.main_arg3)) →
    ∃ (v0 : (c : Dev Cert.KLfIdeal.nD) → Buf (Elt Ideal) ((c.tc : Thread Cert.KLfIdeal.nD Cert.KLfIdeal.τ).loc Cert.KLfIdeal.main_v0_0)) (v1 : (c : Dev Cert.KLfIdeal.nD) → Buf (Elt Ideal) ((c.tc : Thread Cert.KLfIdeal.nD Cert.KLfIdeal.τ).loc Cert.KLfIdeal.main_v0_1)),
      θ_run (Cert.KLfIdeal.defs (F := Ideal)) (onTc (τ := Cert.KLfIdeal.τ) (Cert.KLfIdeal.main (F := Ideal))) ⟨m, fun _ => 0, g⟩ (fun r => ∀ c : Dev Cert.KLfIdeal.nD,
          r.2.mem ((c.tc : Thread Cert.KLfIdeal.nD Cert.KLfIdeal.τ).loc Cert.KLfIdeal.main_v0_0) = v0 c
          ∧ r.2.mem ((c.tc : Thread Cert.KLfIdeal.nD Cert.KLfIdeal.τ).loc Cert.KLfIdeal.main_v0_1) = v1 c
          ∧ r.2.mem ((c.tc : Thread Cert.KLfIdeal.nD Cert.KLfIdeal.τ).loc Cert.KLfIdeal.main_arg0) = m ((c.tc : Thread Cert.KLfIdeal.nD Cert.KLfIdeal.τ).loc Cert.KLfIdeal.main_arg0)
          ∧ r.2.mem ((c.tc : Thread Cert.KLfIdeal.nD Cert.KLfIdeal.τ).loc Cert.KLfIdeal.main_arg1) = m ((c.tc : Thread Cert.KLfIdeal.nD Cert.KLfIdeal.τ).loc Cert.KLfIdeal.main_arg1)
          ∧ r.2.mem ((c.tc : Thread Cert.KLfIdeal.nD Cert.KLfIdeal.τ).loc Cert.KLfIdeal.main_arg2) = m ((c.tc : Thread Cert.KLfIdeal.nD Cert.KLfIdeal.τ).loc Cert.KLfIdeal.main_arg2)
          ∧ r.2.mem ((c.tc : Thread Cert.KLfIdeal.nD Cert.KLfIdeal.τ).loc Cert.KLfIdeal.main_arg3) = m ((c.tc : Thread Cert.KLfIdeal.nD Cert.KLfIdeal.τ).loc Cert.KLfIdeal.main_arg3))
      ∧ θ_run (Cert.RLfIdeal.defs (F := Ideal)) (onTc (τ := Cert.RLfIdeal.τ) (Cert.RLfIdeal.main (F := Ideal))) ⟨m', fun _ => 0, g'⟩ (fun r => ∀ c : Dev Cert.RLfIdeal.nD,
          r.2.mem ((c.tc : Thread Cert.RLfIdeal.nD Cert.RLfIdeal.τ).loc Cert.RLfIdeal.main_v24) = v0 c
          ∧ r.2.mem ((c.tc : Thread Cert.RLfIdeal.nD Cert.RLfIdeal.τ).loc Cert.RLfIdeal.main_v25) = v1 c
          ∧ r.2.mem ((c.tc : Thread Cert.RLfIdeal.nD Cert.RLfIdeal.τ).loc Cert.RLfIdeal.main_arg0) = m' ((c.tc : Thread Cert.RLfIdeal.nD Cert.RLfIdeal.τ).loc Cert.RLfIdeal.main_arg0)
          ∧ r.2.mem ((c.tc : Thread Cert.RLfIdeal.nD Cert.RLfIdeal.τ).loc Cert.RLfIdeal.main_arg1) = m' ((c.tc : Thread Cert.RLfIdeal.nD Cert.RLfIdeal.τ).loc Cert.RLfIdeal.main_arg1)
          ∧ r.2.mem ((c.tc : Thread Cert.RLfIdeal.nD Cert.RLfIdeal.τ).loc Cert.RLfIdeal.main_arg2) = m' ((c.tc : Thread Cert.RLfIdeal.nD Cert.RLfIdeal.τ).loc Cert.RLfIdeal.main_arg2)
          ∧ r.2.mem ((c.tc : Thread Cert.RLfIdeal.nD Cert.RLfIdeal.τ).loc Cert.RLfIdeal.main_arg3) = m' ((c.tc : Thread Cert.RLfIdeal.nD Cert.RLfIdeal.τ).loc Cert.RLfIdeal.main_arg3))

def preserves_KCf_KCfIdeal : Prop :=
  IdealRules.named_const.Statement Cert.KCfIdeal.κ "gelu_c" .f32 0x3D372713#32 ((8943 / 200000 : ℝ) : EReal)

def algebraic_KCfIdeal_RCfIdeal [hKCfIdeal : Cert.KCfIdeal.Facts] [hRCfIdeal : Cert.RCfIdeal.Facts] : Prop :=
  ∀ (m : (ℓ : Loc Cert.KCfIdeal.nD Cert.KCfIdeal.τ Cert.KCfIdeal.sig) → Buf (Elt Ideal) ℓ) (g : Dev Cert.KCfIdeal.nD → PrngReg)
    (m' : (ℓ : Loc Cert.RCfIdeal.nD Cert.RCfIdeal.τ Cert.RCfIdeal.sig) → Buf (Elt Ideal) ℓ) (g' : Dev Cert.RCfIdeal.nD → PrngReg), Pre_KCfIdeal m →
    (∀ c : Dev Cert.KCfIdeal.nD,
      m' ((c.tc : Thread Cert.RCfIdeal.nD Cert.RCfIdeal.τ).loc Cert.RCfIdeal.main_arg0) = m ((c.tc : Thread Cert.KCfIdeal.nD Cert.KCfIdeal.τ).loc Cert.KCfIdeal.main_arg0)
      ∧ m' ((c.tc : Thread Cert.RCfIdeal.nD Cert.RCfIdeal.τ).loc Cert.RCfIdeal.main_arg1) = m ((c.tc : Thread Cert.KCfIdeal.nD Cert.KCfIdeal.τ).loc Cert.KCfIdeal.main_arg1)
      ∧ m' ((c.tc : Thread Cert.RCfIdeal.nD Cert.RCfIdeal.τ).loc Cert.RCfIdeal.main_arg2) = m ((c.tc : Thread Cert.KCfIdeal.nD Cert.KCfIdeal.τ).loc Cert.KCfIdeal.main_arg2)
      ∧ m' ((c.tc : Thread Cert.RCfIdeal.nD Cert.RCfIdeal.τ).loc Cert.RCfIdeal.main_arg3) = m ((c.tc : Thread Cert.KCfIdeal.nD Cert.KCfIdeal.τ).loc Cert.KCfIdeal.main_arg3)) →
    ∃ (v0 : (c : Dev Cert.KCfIdeal.nD) → Buf (Elt Ideal) ((c.tc : Thread Cert.KCfIdeal.nD Cert.KCfIdeal.τ).loc Cert.KCfIdeal.main_v0)),
      θ_run (Cert.KCfIdeal.defs (F := Ideal)) (onTc (τ := Cert.KCfIdeal.τ) (Cert.KCfIdeal.main (F := Ideal))) ⟨m, fun _ => 0, g⟩ (fun r => ∀ c : Dev Cert.KCfIdeal.nD,
          r.2.mem ((c.tc : Thread Cert.KCfIdeal.nD Cert.KCfIdeal.τ).loc Cert.KCfIdeal.main_v0) = v0 c
          ∧ r.2.mem ((c.tc : Thread Cert.KCfIdeal.nD Cert.KCfIdeal.τ).loc Cert.KCfIdeal.main_arg0) = m ((c.tc : Thread Cert.KCfIdeal.nD Cert.KCfIdeal.τ).loc Cert.KCfIdeal.main_arg0)
          ∧ r.2.mem ((c.tc : Thread Cert.KCfIdeal.nD Cert.KCfIdeal.τ).loc Cert.KCfIdeal.main_arg1) = m ((c.tc : Thread Cert.KCfIdeal.nD Cert.KCfIdeal.τ).loc Cert.KCfIdeal.main_arg1)
          ∧ r.2.mem ((c.tc : Thread Cert.KCfIdeal.nD Cert.KCfIdeal.τ).loc Cert.KCfIdeal.main_arg2) = m ((c.tc : Thread Cert.KCfIdeal.nD Cert.KCfIdeal.τ).loc Cert.KCfIdeal.main_arg2)
          ∧ r.2.mem ((c.tc : Thread Cert.KCfIdeal.nD Cert.KCfIdeal.τ).loc Cert.KCfIdeal.main_arg3) = m ((c.tc : Thread Cert.KCfIdeal.nD Cert.KCfIdeal.τ).loc Cert.KCfIdeal.main_arg3))
      ∧ θ_run (Cert.RCfIdeal.defs (F := Ideal)) (onTc (τ := Cert.RCfIdeal.τ) (Cert.RCfIdeal.main (F := Ideal))) ⟨m', fun _ => 0, g'⟩ (fun r => ∀ c : Dev Cert.RCfIdeal.nD,
          r.2.mem ((c.tc : Thread Cert.RCfIdeal.nD Cert.RCfIdeal.τ).loc Cert.RCfIdeal.main_v34) = v0 c
          ∧ r.2.mem ((c.tc : Thread Cert.RCfIdeal.nD Cert.RCfIdeal.τ).loc Cert.RCfIdeal.main_arg0) = m' ((c.tc : Thread Cert.RCfIdeal.nD Cert.RCfIdeal.τ).loc Cert.RCfIdeal.main_arg0)
          ∧ r.2.mem ((c.tc : Thread Cert.RCfIdeal.nD Cert.RCfIdeal.τ).loc Cert.RCfIdeal.main_arg1) = m' ((c.tc : Thread Cert.RCfIdeal.nD Cert.RCfIdeal.τ).loc Cert.RCfIdeal.main_arg1)
          ∧ r.2.mem ((c.tc : Thread Cert.RCfIdeal.nD Cert.RCfIdeal.τ).loc Cert.RCfIdeal.main_arg2) = m' ((c.tc : Thread Cert.RCfIdeal.nD Cert.RCfIdeal.τ).loc Cert.RCfIdeal.main_arg2)
          ∧ r.2.mem ((c.tc : Thread Cert.RCfIdeal.nD Cert.RCfIdeal.τ).loc Cert.RCfIdeal.main_arg3) = m' ((c.tc : Thread Cert.RCfIdeal.nD Cert.RCfIdeal.τ).loc Cert.RCfIdeal.main_arg3))

def preserves_KCb_KCbIdeal : Prop :=
  True

def algebraic_KCbIdeal_RCbIdeal [hKCbIdeal : Cert.KCbIdeal.Facts] [hRCbIdeal : Cert.RCbIdeal.Facts] : Prop :=
  ∀ (m : (ℓ : Loc Cert.KCbIdeal.nD Cert.KCbIdeal.τ Cert.KCbIdeal.sig) → Buf (Elt Ideal) ℓ) (g : Dev Cert.KCbIdeal.nD → PrngReg)
    (m' : (ℓ : Loc Cert.RCbIdeal.nD Cert.RCbIdeal.τ Cert.RCbIdeal.sig) → Buf (Elt Ideal) ℓ) (g' : Dev Cert.RCbIdeal.nD → PrngReg), Pre_KCbIdeal m →
    (∀ c : Dev Cert.KCbIdeal.nD,
      m' ((c.tc : Thread Cert.RCbIdeal.nD Cert.RCbIdeal.τ).loc Cert.RCbIdeal.main_arg0) = m ((c.tc : Thread Cert.KCbIdeal.nD Cert.KCbIdeal.τ).loc Cert.KCbIdeal.main_arg0)
      ∧ m' ((c.tc : Thread Cert.RCbIdeal.nD Cert.RCbIdeal.τ).loc Cert.RCbIdeal.main_arg1) = m ((c.tc : Thread Cert.KCbIdeal.nD Cert.KCbIdeal.τ).loc Cert.KCbIdeal.main_arg1)) →
    ∃ (v0 : (c : Dev Cert.KCbIdeal.nD) → Buf (Elt Ideal) ((c.tc : Thread Cert.KCbIdeal.nD Cert.KCbIdeal.τ).loc Cert.KCbIdeal.main_v0)),
      θ_run (Cert.KCbIdeal.defs (F := Ideal)) (onTc (τ := Cert.KCbIdeal.τ) (Cert.KCbIdeal.main (F := Ideal))) ⟨m, fun _ => 0, g⟩ (fun r => ∀ c : Dev Cert.KCbIdeal.nD,
          r.2.mem ((c.tc : Thread Cert.KCbIdeal.nD Cert.KCbIdeal.τ).loc Cert.KCbIdeal.main_v0) = v0 c
          ∧ r.2.mem ((c.tc : Thread Cert.KCbIdeal.nD Cert.KCbIdeal.τ).loc Cert.KCbIdeal.main_arg0) = m ((c.tc : Thread Cert.KCbIdeal.nD Cert.KCbIdeal.τ).loc Cert.KCbIdeal.main_arg0)
          ∧ r.2.mem ((c.tc : Thread Cert.KCbIdeal.nD Cert.KCbIdeal.τ).loc Cert.KCbIdeal.main_arg1) = m ((c.tc : Thread Cert.KCbIdeal.nD Cert.KCbIdeal.τ).loc Cert.KCbIdeal.main_arg1))
      ∧ θ_run (Cert.RCbIdeal.defs (F := Ideal)) (onTc (τ := Cert.RCbIdeal.τ) (Cert.RCbIdeal.main (F := Ideal))) ⟨m', fun _ => 0, g'⟩ (fun r => ∀ c : Dev Cert.RCbIdeal.nD,
          r.2.mem ((c.tc : Thread Cert.RCbIdeal.nD Cert.RCbIdeal.τ).loc Cert.RCbIdeal.main_v35) = v0 c
          ∧ r.2.mem ((c.tc : Thread Cert.RCbIdeal.nD Cert.RCbIdeal.τ).loc Cert.RCbIdeal.main_arg0) = m' ((c.tc : Thread Cert.RCbIdeal.nD Cert.RCbIdeal.τ).loc Cert.RCbIdeal.main_arg0)
          ∧ r.2.mem ((c.tc : Thread Cert.RCbIdeal.nD Cert.RCbIdeal.τ).loc Cert.RCbIdeal.main_arg1) = m' ((c.tc : Thread Cert.RCbIdeal.nD Cert.RCbIdeal.τ).loc Cert.RCbIdeal.main_arg1))

def preserves_KLb_KLbIdeal : Prop :=
  True

def algebraic_KLbIdeal_RLbIdeal_pre_finite_lb [hKLbIdeal : Cert.KLbIdeal.Facts] [hRLbIdeal : Cert.RLbIdeal.Facts] [hPre_finite_lb : Cert.Pre_finite_lb.Facts] : Prop :=
  ∀ (m : (ℓ : Loc Cert.KLbIdeal.nD Cert.KLbIdeal.τ Cert.KLbIdeal.sig) → Buf (Elt Ideal) ℓ) (g : Dev Cert.KLbIdeal.nD → PrngReg)
    (m' : (ℓ : Loc Cert.RLbIdeal.nD Cert.RLbIdeal.τ Cert.RLbIdeal.sig) → Buf (Elt Ideal) ℓ) (g' : Dev Cert.RLbIdeal.nD → PrngReg), Pre_KLbIdeal_finite_lb m →
    (∀ c : Dev Cert.KLbIdeal.nD,
      m' ((c.tc : Thread Cert.RLbIdeal.nD Cert.RLbIdeal.τ).loc Cert.RLbIdeal.main_arg0) = m ((c.tc : Thread Cert.KLbIdeal.nD Cert.KLbIdeal.τ).loc Cert.KLbIdeal.main_arg0)
      ∧ m' ((c.tc : Thread Cert.RLbIdeal.nD Cert.RLbIdeal.τ).loc Cert.RLbIdeal.main_arg1) = m ((c.tc : Thread Cert.KLbIdeal.nD Cert.KLbIdeal.τ).loc Cert.KLbIdeal.main_arg1)
      ∧ m' ((c.tc : Thread Cert.RLbIdeal.nD Cert.RLbIdeal.τ).loc Cert.RLbIdeal.main_arg2) = m ((c.tc : Thread Cert.KLbIdeal.nD Cert.KLbIdeal.τ).loc Cert.KLbIdeal.main_arg2)
      ∧ m' ((c.tc : Thread Cert.RLbIdeal.nD Cert.RLbIdeal.τ).loc Cert.RLbIdeal.main_arg3) = m ((c.tc : Thread Cert.KLbIdeal.nD Cert.KLbIdeal.τ).loc Cert.KLbIdeal.main_arg3)) →
    ∃ (v0 : (c : Dev Cert.KLbIdeal.nD) → Buf (Elt Ideal) ((c.tc : Thread Cert.KLbIdeal.nD Cert.KLbIdeal.τ).loc Cert.KLbIdeal.main_v0_0)) (v1 : (c : Dev Cert.KLbIdeal.nD) → Buf (Elt Ideal) ((c.tc : Thread Cert.KLbIdeal.nD Cert.KLbIdeal.τ).loc Cert.KLbIdeal.main_v0_1)) (v2 : (c : Dev Cert.KLbIdeal.nD) → Buf (Elt Ideal) ((c.tc : Thread Cert.KLbIdeal.nD Cert.KLbIdeal.τ).loc Cert.KLbIdeal.main_v0_2)) (v3 : (c : Dev Cert.KLbIdeal.nD) → Buf (Elt Ideal) ((c.tc : Thread Cert.KLbIdeal.nD Cert.KLbIdeal.τ).loc Cert.KLbIdeal.main_v0_3)),
      θ_run (Cert.KLbIdeal.defs (F := Ideal)) (onTc (τ := Cert.KLbIdeal.τ) (Cert.KLbIdeal.main (F := Ideal))) ⟨m, fun _ => 0, g⟩ (fun r => ∀ c : Dev Cert.KLbIdeal.nD,
          r.2.mem ((c.tc : Thread Cert.KLbIdeal.nD Cert.KLbIdeal.τ).loc Cert.KLbIdeal.main_v0_0) = v0 c
          ∧ r.2.mem ((c.tc : Thread Cert.KLbIdeal.nD Cert.KLbIdeal.τ).loc Cert.KLbIdeal.main_v0_1) = v1 c
          ∧ r.2.mem ((c.tc : Thread Cert.KLbIdeal.nD Cert.KLbIdeal.τ).loc Cert.KLbIdeal.main_v0_2) = v2 c
          ∧ r.2.mem ((c.tc : Thread Cert.KLbIdeal.nD Cert.KLbIdeal.τ).loc Cert.KLbIdeal.main_v0_3) = v3 c
          ∧ r.2.mem ((c.tc : Thread Cert.KLbIdeal.nD Cert.KLbIdeal.τ).loc Cert.KLbIdeal.main_arg0) = m ((c.tc : Thread Cert.KLbIdeal.nD Cert.KLbIdeal.τ).loc Cert.KLbIdeal.main_arg0)
          ∧ r.2.mem ((c.tc : Thread Cert.KLbIdeal.nD Cert.KLbIdeal.τ).loc Cert.KLbIdeal.main_arg1) = m ((c.tc : Thread Cert.KLbIdeal.nD Cert.KLbIdeal.τ).loc Cert.KLbIdeal.main_arg1)
          ∧ r.2.mem ((c.tc : Thread Cert.KLbIdeal.nD Cert.KLbIdeal.τ).loc Cert.KLbIdeal.main_arg2) = m ((c.tc : Thread Cert.KLbIdeal.nD Cert.KLbIdeal.τ).loc Cert.KLbIdeal.main_arg2)
          ∧ r.2.mem ((c.tc : Thread Cert.KLbIdeal.nD Cert.KLbIdeal.τ).loc Cert.KLbIdeal.main_arg3) = m ((c.tc : Thread Cert.KLbIdeal.nD Cert.KLbIdeal.τ).loc Cert.KLbIdeal.main_arg3))
      ∧ θ_run (Cert.RLbIdeal.defs (F := Ideal)) (onTc (τ := Cert.RLbIdeal.τ) (Cert.RLbIdeal.main (F := Ideal))) ⟨m', fun _ => 0, g'⟩ (fun r => ∀ c : Dev Cert.RLbIdeal.nD,
          r.2.mem ((c.tc : Thread Cert.RLbIdeal.nD Cert.RLbIdeal.τ).loc Cert.RLbIdeal.main_v62) = v0 c
          ∧ r.2.mem ((c.tc : Thread Cert.RLbIdeal.nD Cert.RLbIdeal.τ).loc Cert.RLbIdeal.main_v63) = v1 c
          ∧ r.2.mem ((c.tc : Thread Cert.RLbIdeal.nD Cert.RLbIdeal.τ).loc Cert.RLbIdeal.main_v36) = v2 c
          ∧ r.2.mem ((c.tc : Thread Cert.RLbIdeal.nD Cert.RLbIdeal.τ).loc Cert.RLbIdeal.main_v33) = v3 c
          ∧ r.2.mem ((c.tc : Thread Cert.RLbIdeal.nD Cert.RLbIdeal.τ).loc Cert.RLbIdeal.main_arg0) = m' ((c.tc : Thread Cert.RLbIdeal.nD Cert.RLbIdeal.τ).loc Cert.RLbIdeal.main_arg0)
          ∧ r.2.mem ((c.tc : Thread Cert.RLbIdeal.nD Cert.RLbIdeal.τ).loc Cert.RLbIdeal.main_arg1) = m' ((c.tc : Thread Cert.RLbIdeal.nD Cert.RLbIdeal.τ).loc Cert.RLbIdeal.main_arg1)
          ∧ r.2.mem ((c.tc : Thread Cert.RLbIdeal.nD Cert.RLbIdeal.τ).loc Cert.RLbIdeal.main_arg2) = m' ((c.tc : Thread Cert.RLbIdeal.nD Cert.RLbIdeal.τ).loc Cert.RLbIdeal.main_arg2)
          ∧ r.2.mem ((c.tc : Thread Cert.RLbIdeal.nD Cert.RLbIdeal.τ).loc Cert.RLbIdeal.main_arg3) = m' ((c.tc : Thread Cert.RLbIdeal.nD Cert.RLbIdeal.τ).loc Cert.RLbIdeal.main_arg3))

def preserves_KCa_KCaIdeal : Prop :=
  IdealRules.named_const.Statement Cert.KCaIdeal.κ "gelu_c" .f32 0x3D372713#32 ((8943 / 200000 : ℝ) : EReal)
  ∧ IdealRules.named_const.Statement Cert.KCaIdeal.κ "gelu_3c" .f32 0x3E095D4F#32 ((26829 / 200000 : ℝ) : EReal)

def algebraic_KCaIdeal_RCaIdeal_pre_finite_ca [hKCaIdeal : Cert.KCaIdeal.Facts] [hRCaIdeal : Cert.RCaIdeal.Facts] [hPre_finite_ca : Cert.Pre_finite_ca.Facts] : Prop :=
  ∀ (m : (ℓ : Loc Cert.KCaIdeal.nD Cert.KCaIdeal.τ Cert.KCaIdeal.sig) → Buf (Elt Ideal) ℓ) (g : Dev Cert.KCaIdeal.nD → PrngReg)
    (m' : (ℓ : Loc Cert.RCaIdeal.nD Cert.RCaIdeal.τ Cert.RCaIdeal.sig) → Buf (Elt Ideal) ℓ) (g' : Dev Cert.RCaIdeal.nD → PrngReg), Pre_KCaIdeal_finite_ca m →
    (∀ c : Dev Cert.KCaIdeal.nD,
      m' ((c.tc : Thread Cert.RCaIdeal.nD Cert.RCaIdeal.τ).loc Cert.RCaIdeal.main_arg0) = m ((c.tc : Thread Cert.KCaIdeal.nD Cert.KCaIdeal.τ).loc Cert.KCaIdeal.main_arg0)
      ∧ m' ((c.tc : Thread Cert.RCaIdeal.nD Cert.RCaIdeal.τ).loc Cert.RCaIdeal.main_arg1) = m ((c.tc : Thread Cert.KCaIdeal.nD Cert.KCaIdeal.τ).loc Cert.KCaIdeal.main_arg1)
      ∧ m' ((c.tc : Thread Cert.RCaIdeal.nD Cert.RCaIdeal.τ).loc Cert.RCaIdeal.main_arg2) = m ((c.tc : Thread Cert.KCaIdeal.nD Cert.KCaIdeal.τ).loc Cert.KCaIdeal.main_arg2)
      ∧ m' ((c.tc : Thread Cert.RCaIdeal.nD Cert.RCaIdeal.τ).loc Cert.RCaIdeal.main_arg3) = m ((c.tc : Thread Cert.KCaIdeal.nD Cert.KCaIdeal.τ).loc Cert.KCaIdeal.main_arg3)
      ∧ m' ((c.tc : Thread Cert.RCaIdeal.nD Cert.RCaIdeal.τ).loc Cert.RCaIdeal.main_arg4) = m ((c.tc : Thread Cert.KCaIdeal.nD Cert.KCaIdeal.τ).loc Cert.KCaIdeal.main_arg4)) →
    ∃ (v0 : (c : Dev Cert.KCaIdeal.nD) → Buf (Elt Ideal) ((c.tc : Thread Cert.KCaIdeal.nD Cert.KCaIdeal.τ).loc Cert.KCaIdeal.main_v0_0)) (v1 : (c : Dev Cert.KCaIdeal.nD) → Buf (Elt Ideal) ((c.tc : Thread Cert.KCaIdeal.nD Cert.KCaIdeal.τ).loc Cert.KCaIdeal.main_v0_1)) (v2 : (c : Dev Cert.KCaIdeal.nD) → Buf (Elt Ideal) ((c.tc : Thread Cert.KCaIdeal.nD Cert.KCaIdeal.τ).loc Cert.KCaIdeal.main_v1)) (v3 : (c : Dev Cert.KCaIdeal.nD) → Buf (Elt Ideal) ((c.tc : Thread Cert.KCaIdeal.nD Cert.KCaIdeal.τ).loc Cert.KCaIdeal.main_v0_5)),
      θ_run (Cert.KCaIdeal.defs (F := Ideal)) (onTc (τ := Cert.KCaIdeal.τ) (Cert.KCaIdeal.main (F := Ideal))) ⟨m, fun _ => 0, g⟩ (fun r => ∀ c : Dev Cert.KCaIdeal.nD,
          r.2.mem ((c.tc : Thread Cert.KCaIdeal.nD Cert.KCaIdeal.τ).loc Cert.KCaIdeal.main_v0_0) = v0 c
          ∧ r.2.mem ((c.tc : Thread Cert.KCaIdeal.nD Cert.KCaIdeal.τ).loc Cert.KCaIdeal.main_v0_1) = v1 c
          ∧ r.2.mem ((c.tc : Thread Cert.KCaIdeal.nD Cert.KCaIdeal.τ).loc Cert.KCaIdeal.main_v1) = v2 c
          ∧ r.2.mem ((c.tc : Thread Cert.KCaIdeal.nD Cert.KCaIdeal.τ).loc Cert.KCaIdeal.main_v0_5) = v3 c
          ∧ r.2.mem ((c.tc : Thread Cert.KCaIdeal.nD Cert.KCaIdeal.τ).loc Cert.KCaIdeal.main_arg0) = m ((c.tc : Thread Cert.KCaIdeal.nD Cert.KCaIdeal.τ).loc Cert.KCaIdeal.main_arg0)
          ∧ r.2.mem ((c.tc : Thread Cert.KCaIdeal.nD Cert.KCaIdeal.τ).loc Cert.KCaIdeal.main_arg1) = m ((c.tc : Thread Cert.KCaIdeal.nD Cert.KCaIdeal.τ).loc Cert.KCaIdeal.main_arg1)
          ∧ r.2.mem ((c.tc : Thread Cert.KCaIdeal.nD Cert.KCaIdeal.τ).loc Cert.KCaIdeal.main_arg2) = m ((c.tc : Thread Cert.KCaIdeal.nD Cert.KCaIdeal.τ).loc Cert.KCaIdeal.main_arg2)
          ∧ r.2.mem ((c.tc : Thread Cert.KCaIdeal.nD Cert.KCaIdeal.τ).loc Cert.KCaIdeal.main_arg3) = m ((c.tc : Thread Cert.KCaIdeal.nD Cert.KCaIdeal.τ).loc Cert.KCaIdeal.main_arg3)
          ∧ r.2.mem ((c.tc : Thread Cert.KCaIdeal.nD Cert.KCaIdeal.τ).loc Cert.KCaIdeal.main_arg4) = m ((c.tc : Thread Cert.KCaIdeal.nD Cert.KCaIdeal.τ).loc Cert.KCaIdeal.main_arg4))
      ∧ θ_run (Cert.RCaIdeal.defs (F := Ideal)) (onTc (τ := Cert.RCaIdeal.τ) (Cert.RCaIdeal.main (F := Ideal))) ⟨m', fun _ => 0, g'⟩ (fun r => ∀ c : Dev Cert.RCaIdeal.nD,
          r.2.mem ((c.tc : Thread Cert.RCaIdeal.nD Cert.RCaIdeal.τ).loc Cert.RCaIdeal.main_v93) = v0 c
          ∧ r.2.mem ((c.tc : Thread Cert.RCaIdeal.nD Cert.RCaIdeal.τ).loc Cert.RCaIdeal.main_v94) = v1 c
          ∧ r.2.mem ((c.tc : Thread Cert.RCaIdeal.nD Cert.RCaIdeal.τ).loc Cert.RCaIdeal.main_v92) = v2 c
          ∧ r.2.mem ((c.tc : Thread Cert.RCaIdeal.nD Cert.RCaIdeal.τ).loc Cert.RCaIdeal.main_v78) = v3 c
          ∧ r.2.mem ((c.tc : Thread Cert.RCaIdeal.nD Cert.RCaIdeal.τ).loc Cert.RCaIdeal.main_arg0) = m' ((c.tc : Thread Cert.RCaIdeal.nD Cert.RCaIdeal.τ).loc Cert.RCaIdeal.main_arg0)
          ∧ r.2.mem ((c.tc : Thread Cert.RCaIdeal.nD Cert.RCaIdeal.τ).loc Cert.RCaIdeal.main_arg1) = m' ((c.tc : Thread Cert.RCaIdeal.nD Cert.RCaIdeal.τ).loc Cert.RCaIdeal.main_arg1)
          ∧ r.2.mem ((c.tc : Thread Cert.RCaIdeal.nD Cert.RCaIdeal.τ).loc Cert.RCaIdeal.main_arg2) = m' ((c.tc : Thread Cert.RCaIdeal.nD Cert.RCaIdeal.τ).loc Cert.RCaIdeal.main_arg2)
          ∧ r.2.mem ((c.tc : Thread Cert.RCaIdeal.nD Cert.RCaIdeal.τ).loc Cert.RCaIdeal.main_arg3) = m' ((c.tc : Thread Cert.RCaIdeal.nD Cert.RCaIdeal.τ).loc Cert.RCaIdeal.main_arg3)
          ∧ r.2.mem ((c.tc : Thread Cert.RCaIdeal.nD Cert.RCaIdeal.τ).loc Cert.RCaIdeal.main_arg4) = m' ((c.tc : Thread Cert.RCaIdeal.nD Cert.RCaIdeal.τ).loc Cert.RCaIdeal.main_arg4))

def preserves_KSf_KSfIdeal : Prop :=
  IdealRules.named_const.Statement Cert.KSfIdeal.κ "gelu_c" .f32 0x3D372713#32 ((8943 / 200000 : ℝ) : EReal)

def algebraic_KSfIdeal_RSfIdeal [hKSfIdeal : Cert.KSfIdeal.Facts] [hRSfIdeal : Cert.RSfIdeal.Facts] : Prop :=
  ∀ (m : (ℓ : Loc Cert.KSfIdeal.nD Cert.KSfIdeal.τ Cert.KSfIdeal.sig) → Buf (Elt Ideal) ℓ) (g : Dev Cert.KSfIdeal.nD → PrngReg)
    (m' : (ℓ : Loc Cert.RSfIdeal.nD Cert.RSfIdeal.τ Cert.RSfIdeal.sig) → Buf (Elt Ideal) ℓ) (g' : Dev Cert.RSfIdeal.nD → PrngReg), Pre_KSfIdeal m →
    (∀ c : Dev Cert.KSfIdeal.nD,
      m' ((c.tc : Thread Cert.RSfIdeal.nD Cert.RSfIdeal.τ).loc Cert.RSfIdeal.main_arg0) = m ((c.tc : Thread Cert.KSfIdeal.nD Cert.KSfIdeal.τ).loc Cert.KSfIdeal.main_arg0)
      ∧ m' ((c.tc : Thread Cert.RSfIdeal.nD Cert.RSfIdeal.τ).loc Cert.RSfIdeal.main_arg1) = m ((c.tc : Thread Cert.KSfIdeal.nD Cert.KSfIdeal.τ).loc Cert.KSfIdeal.main_arg1)
      ∧ m' ((c.tc : Thread Cert.RSfIdeal.nD Cert.RSfIdeal.τ).loc Cert.RSfIdeal.main_arg2) = m ((c.tc : Thread Cert.KSfIdeal.nD Cert.KSfIdeal.τ).loc Cert.KSfIdeal.main_arg2)
      ∧ m' ((c.tc : Thread Cert.RSfIdeal.nD Cert.RSfIdeal.τ).loc Cert.RSfIdeal.main_arg3) = m ((c.tc : Thread Cert.KSfIdeal.nD Cert.KSfIdeal.τ).loc Cert.KSfIdeal.main_arg3)
      ∧ m' ((c.tc : Thread Cert.RSfIdeal.nD Cert.RSfIdeal.τ).loc Cert.RSfIdeal.main_arg4) = m ((c.tc : Thread Cert.KSfIdeal.nD Cert.KSfIdeal.τ).loc Cert.KSfIdeal.main_arg4)) →
    ∃ (v0 : (c : Dev Cert.KSfIdeal.nD) → Buf (Elt Ideal) ((c.tc : Thread Cert.KSfIdeal.nD Cert.KSfIdeal.τ).loc Cert.KSfIdeal.main_v11)),
      θ_run (Cert.KSfIdeal.defs (F := Ideal)) (onTc (τ := Cert.KSfIdeal.τ) (Cert.KSfIdeal.main (F := Ideal))) ⟨m, fun _ => 0, g⟩ (fun r => ∀ c : Dev Cert.KSfIdeal.nD,
          r.2.mem ((c.tc : Thread Cert.KSfIdeal.nD Cert.KSfIdeal.τ).loc Cert.KSfIdeal.main_v11) = v0 c
          ∧ r.2.mem ((c.tc : Thread Cert.KSfIdeal.nD Cert.KSfIdeal.τ).loc Cert.KSfIdeal.main_arg0) = m ((c.tc : Thread Cert.KSfIdeal.nD Cert.KSfIdeal.τ).loc Cert.KSfIdeal.main_arg0)
          ∧ r.2.mem ((c.tc : Thread Cert.KSfIdeal.nD Cert.KSfIdeal.τ).loc Cert.KSfIdeal.main_arg1) = m ((c.tc : Thread Cert.KSfIdeal.nD Cert.KSfIdeal.τ).loc Cert.KSfIdeal.main_arg1)
          ∧ r.2.mem ((c.tc : Thread Cert.KSfIdeal.nD Cert.KSfIdeal.τ).loc Cert.KSfIdeal.main_arg2) = m ((c.tc : Thread Cert.KSfIdeal.nD Cert.KSfIdeal.τ).loc Cert.KSfIdeal.main_arg2)
          ∧ r.2.mem ((c.tc : Thread Cert.KSfIdeal.nD Cert.KSfIdeal.τ).loc Cert.KSfIdeal.main_arg3) = m ((c.tc : Thread Cert.KSfIdeal.nD Cert.KSfIdeal.τ).loc Cert.KSfIdeal.main_arg3)
          ∧ r.2.mem ((c.tc : Thread Cert.KSfIdeal.nD Cert.KSfIdeal.τ).loc Cert.KSfIdeal.main_arg4) = m ((c.tc : Thread Cert.KSfIdeal.nD Cert.KSfIdeal.τ).loc Cert.KSfIdeal.main_arg4))
      ∧ θ_run (Cert.RSfIdeal.defs (F := Ideal)) (onTc (τ := Cert.RSfIdeal.τ) (Cert.RSfIdeal.main (F := Ideal))) ⟨m', fun _ => 0, g'⟩ (fun r => ∀ c : Dev Cert.RSfIdeal.nD,
          r.2.mem ((c.tc : Thread Cert.RSfIdeal.nD Cert.RSfIdeal.τ).loc Cert.RSfIdeal.main_v76) = v0 c
          ∧ r.2.mem ((c.tc : Thread Cert.RSfIdeal.nD Cert.RSfIdeal.τ).loc Cert.RSfIdeal.main_arg0) = m' ((c.tc : Thread Cert.RSfIdeal.nD Cert.RSfIdeal.τ).loc Cert.RSfIdeal.main_arg0)
          ∧ r.2.mem ((c.tc : Thread Cert.RSfIdeal.nD Cert.RSfIdeal.τ).loc Cert.RSfIdeal.main_arg1) = m' ((c.tc : Thread Cert.RSfIdeal.nD Cert.RSfIdeal.τ).loc Cert.RSfIdeal.main_arg1)
          ∧ r.2.mem ((c.tc : Thread Cert.RSfIdeal.nD Cert.RSfIdeal.τ).loc Cert.RSfIdeal.main_arg2) = m' ((c.tc : Thread Cert.RSfIdeal.nD Cert.RSfIdeal.τ).loc Cert.RSfIdeal.main_arg2)
          ∧ r.2.mem ((c.tc : Thread Cert.RSfIdeal.nD Cert.RSfIdeal.τ).loc Cert.RSfIdeal.main_arg3) = m' ((c.tc : Thread Cert.RSfIdeal.nD Cert.RSfIdeal.τ).loc Cert.RSfIdeal.main_arg3)
          ∧ r.2.mem ((c.tc : Thread Cert.RSfIdeal.nD Cert.RSfIdeal.τ).loc Cert.RSfIdeal.main_arg4) = m' ((c.tc : Thread Cert.RSfIdeal.nD Cert.RSfIdeal.τ).loc Cert.RSfIdeal.main_arg4))

def preserves_KLl_KLlIdeal : Prop :=
  True

def algebraic_KLlIdeal_RLlIdeal_pre_finite_ll [hKLlIdeal : Cert.KLlIdeal.Facts] [hRLlIdeal : Cert.RLlIdeal.Facts] [hPre_finite_ll : Cert.Pre_finite_ll.Facts] : Prop :=
  ∀ (m : (ℓ : Loc Cert.KLlIdeal.nD Cert.KLlIdeal.τ Cert.KLlIdeal.sig) → Buf (Elt Ideal) ℓ) (g : Dev Cert.KLlIdeal.nD → PrngReg)
    (m' : (ℓ : Loc Cert.RLlIdeal.nD Cert.RLlIdeal.τ Cert.RLlIdeal.sig) → Buf (Elt Ideal) ℓ) (g' : Dev Cert.RLlIdeal.nD → PrngReg), Pre_KLlIdeal_finite_ll m →
    (∀ c : Dev Cert.KLlIdeal.nD,
      m' ((c.tc : Thread Cert.RLlIdeal.nD Cert.RLlIdeal.τ).loc Cert.RLlIdeal.main_arg0) = m ((c.tc : Thread Cert.KLlIdeal.nD Cert.KLlIdeal.τ).loc Cert.KLlIdeal.main_arg0)
      ∧ m' ((c.tc : Thread Cert.RLlIdeal.nD Cert.RLlIdeal.τ).loc Cert.RLlIdeal.main_arg1) = m ((c.tc : Thread Cert.KLlIdeal.nD Cert.KLlIdeal.τ).loc Cert.KLlIdeal.main_arg1)
      ∧ m' ((c.tc : Thread Cert.RLlIdeal.nD Cert.RLlIdeal.τ).loc Cert.RLlIdeal.main_arg2) = m ((c.tc : Thread Cert.KLlIdeal.nD Cert.KLlIdeal.τ).loc Cert.KLlIdeal.main_arg2)
      ∧ m' ((c.tc : Thread Cert.RLlIdeal.nD Cert.RLlIdeal.τ).loc Cert.RLlIdeal.main_arg3) = m ((c.tc : Thread Cert.KLlIdeal.nD Cert.KLlIdeal.τ).loc Cert.KLlIdeal.main_arg3)
      ∧ m' ((c.tc : Thread Cert.RLlIdeal.nD Cert.RLlIdeal.τ).loc Cert.RLlIdeal.main_arg4) = m ((c.tc : Thread Cert.KLlIdeal.nD Cert.KLlIdeal.τ).loc Cert.KLlIdeal.main_arg4)
      ∧ m' ((c.tc : Thread Cert.RLlIdeal.nD Cert.RLlIdeal.τ).loc Cert.RLlIdeal.main_arg5) = m ((c.tc : Thread Cert.KLlIdeal.nD Cert.KLlIdeal.τ).loc Cert.KLlIdeal.main_arg5)
      ∧ m' ((c.tc : Thread Cert.RLlIdeal.nD Cert.RLlIdeal.τ).loc Cert.RLlIdeal.main_arg6) = m ((c.tc : Thread Cert.KLlIdeal.nD Cert.KLlIdeal.τ).loc Cert.KLlIdeal.main_arg6)) →
    ∃ (v0 : (c : Dev Cert.KLlIdeal.nD) → Buf (Elt Ideal) ((c.tc : Thread Cert.KLlIdeal.nD Cert.KLlIdeal.τ).loc Cert.KLlIdeal.main_v0_0)) (v1 : (c : Dev Cert.KLlIdeal.nD) → Buf (Elt Ideal) ((c.tc : Thread Cert.KLlIdeal.nD Cert.KLlIdeal.τ).loc Cert.KLlIdeal.main_v0_1)) (v2 : (c : Dev Cert.KLlIdeal.nD) → Buf (Elt Ideal) ((c.tc : Thread Cert.KLlIdeal.nD Cert.KLlIdeal.τ).loc Cert.KLlIdeal.main_v0_2)) (v3 : (c : Dev Cert.KLlIdeal.nD) → Buf (Elt Ideal) ((c.tc : Thread Cert.KLlIdeal.nD Cert.KLlIdeal.τ).loc Cert.KLlIdeal.main_v0_3)) (v4 : (c : Dev Cert.KLlIdeal.nD) → Buf (Elt Ideal) ((c.tc : Thread Cert.KLlIdeal.nD Cert.KLlIdeal.τ).loc Cert.KLlIdeal.main_v0_4)) (v5 : (c : Dev Cert.KLlIdeal.nD) → Buf (Elt Ideal) ((c.tc : Thread Cert.KLlIdeal.nD Cert.KLlIdeal.τ).loc Cert.KLlIdeal.main_v0_5)) (v6 : (c : Dev Cert.KLlIdeal.nD) → Buf (Elt Ideal) ((c.tc : Thread Cert.KLlIdeal.nD Cert.KLlIdeal.τ).loc Cert.KLlIdeal.main_v0_6)),
      θ_run (Cert.KLlIdeal.defs (F := Ideal)) (onTc (τ := Cert.KLlIdeal.τ) (Cert.KLlIdeal.main (F := Ideal))) ⟨m, fun _ => 0, g⟩ (fun r => ∀ c : Dev Cert.KLlIdeal.nD,
          r.2.mem ((c.tc : Thread Cert.KLlIdeal.nD Cert.KLlIdeal.τ).loc Cert.KLlIdeal.main_v0_0) = v0 c
          ∧ r.2.mem ((c.tc : Thread Cert.KLlIdeal.nD Cert.KLlIdeal.τ).loc Cert.KLlIdeal.main_v0_1) = v1 c
          ∧ r.2.mem ((c.tc : Thread Cert.KLlIdeal.nD Cert.KLlIdeal.τ).loc Cert.KLlIdeal.main_v0_2) = v2 c
          ∧ r.2.mem ((c.tc : Thread Cert.KLlIdeal.nD Cert.KLlIdeal.τ).loc Cert.KLlIdeal.main_v0_3) = v3 c
          ∧ r.2.mem ((c.tc : Thread Cert.KLlIdeal.nD Cert.KLlIdeal.τ).loc Cert.KLlIdeal.main_v0_4) = v4 c
          ∧ r.2.mem ((c.tc : Thread Cert.KLlIdeal.nD Cert.KLlIdeal.τ).loc Cert.KLlIdeal.main_v0_5) = v5 c
          ∧ r.2.mem ((c.tc : Thread Cert.KLlIdeal.nD Cert.KLlIdeal.τ).loc Cert.KLlIdeal.main_v0_6) = v6 c
          ∧ r.2.mem ((c.tc : Thread Cert.KLlIdeal.nD Cert.KLlIdeal.τ).loc Cert.KLlIdeal.main_arg0) = m ((c.tc : Thread Cert.KLlIdeal.nD Cert.KLlIdeal.τ).loc Cert.KLlIdeal.main_arg0)
          ∧ r.2.mem ((c.tc : Thread Cert.KLlIdeal.nD Cert.KLlIdeal.τ).loc Cert.KLlIdeal.main_arg1) = m ((c.tc : Thread Cert.KLlIdeal.nD Cert.KLlIdeal.τ).loc Cert.KLlIdeal.main_arg1)
          ∧ r.2.mem ((c.tc : Thread Cert.KLlIdeal.nD Cert.KLlIdeal.τ).loc Cert.KLlIdeal.main_arg2) = m ((c.tc : Thread Cert.KLlIdeal.nD Cert.KLlIdeal.τ).loc Cert.KLlIdeal.main_arg2)
          ∧ r.2.mem ((c.tc : Thread Cert.KLlIdeal.nD Cert.KLlIdeal.τ).loc Cert.KLlIdeal.main_arg3) = m ((c.tc : Thread Cert.KLlIdeal.nD Cert.KLlIdeal.τ).loc Cert.KLlIdeal.main_arg3)
          ∧ r.2.mem ((c.tc : Thread Cert.KLlIdeal.nD Cert.KLlIdeal.τ).loc Cert.KLlIdeal.main_arg4) = m ((c.tc : Thread Cert.KLlIdeal.nD Cert.KLlIdeal.τ).loc Cert.KLlIdeal.main_arg4)
          ∧ r.2.mem ((c.tc : Thread Cert.KLlIdeal.nD Cert.KLlIdeal.τ).loc Cert.KLlIdeal.main_arg5) = m ((c.tc : Thread Cert.KLlIdeal.nD Cert.KLlIdeal.τ).loc Cert.KLlIdeal.main_arg5)
          ∧ r.2.mem ((c.tc : Thread Cert.KLlIdeal.nD Cert.KLlIdeal.τ).loc Cert.KLlIdeal.main_arg6) = m ((c.tc : Thread Cert.KLlIdeal.nD Cert.KLlIdeal.τ).loc Cert.KLlIdeal.main_arg6))
      ∧ θ_run (Cert.RLlIdeal.defs (F := Ideal)) (onTc (τ := Cert.RLlIdeal.τ) (Cert.RLlIdeal.main (F := Ideal))) ⟨m', fun _ => 0, g'⟩ (fun r => ∀ c : Dev Cert.RLlIdeal.nD,
          r.2.mem ((c.tc : Thread Cert.RLlIdeal.nD Cert.RLlIdeal.τ).loc Cert.RLlIdeal.main_v86) = v0 c
          ∧ r.2.mem ((c.tc : Thread Cert.RLlIdeal.nD Cert.RLlIdeal.τ).loc Cert.RLlIdeal.main_v90) = v1 c
          ∧ r.2.mem ((c.tc : Thread Cert.RLlIdeal.nD Cert.RLlIdeal.τ).loc Cert.RLlIdeal.main_v91) = v2 c
          ∧ r.2.mem ((c.tc : Thread Cert.RLlIdeal.nD Cert.RLlIdeal.τ).loc Cert.RLlIdeal.main_v92) = v3 c
          ∧ r.2.mem ((c.tc : Thread Cert.RLlIdeal.nD Cert.RLlIdeal.τ).loc Cert.RLlIdeal.main_v93) = v4 c
          ∧ r.2.mem ((c.tc : Thread Cert.RLlIdeal.nD Cert.RLlIdeal.τ).loc Cert.RLlIdeal.main_v60) = v5 c
          ∧ r.2.mem ((c.tc : Thread Cert.RLlIdeal.nD Cert.RLlIdeal.τ).loc Cert.RLlIdeal.main_v57) = v6 c
          ∧ r.2.mem ((c.tc : Thread Cert.RLlIdeal.nD Cert.RLlIdeal.τ).loc Cert.RLlIdeal.main_arg0) = m' ((c.tc : Thread Cert.RLlIdeal.nD Cert.RLlIdeal.τ).loc Cert.RLlIdeal.main_arg0)
          ∧ r.2.mem ((c.tc : Thread Cert.RLlIdeal.nD Cert.RLlIdeal.τ).loc Cert.RLlIdeal.main_arg1) = m' ((c.tc : Thread Cert.RLlIdeal.nD Cert.RLlIdeal.τ).loc Cert.RLlIdeal.main_arg1)
          ∧ r.2.mem ((c.tc : Thread Cert.RLlIdeal.nD Cert.RLlIdeal.τ).loc Cert.RLlIdeal.main_arg2) = m' ((c.tc : Thread Cert.RLlIdeal.nD Cert.RLlIdeal.τ).loc Cert.RLlIdeal.main_arg2)
          ∧ r.2.mem ((c.tc : Thread Cert.RLlIdeal.nD Cert.RLlIdeal.τ).loc Cert.RLlIdeal.main_arg3) = m' ((c.tc : Thread Cert.RLlIdeal.nD Cert.RLlIdeal.τ).loc Cert.RLlIdeal.main_arg3)
          ∧ r.2.mem ((c.tc : Thread Cert.RLlIdeal.nD Cert.RLlIdeal.τ).loc Cert.RLlIdeal.main_arg4) = m' ((c.tc : Thread Cert.RLlIdeal.nD Cert.RLlIdeal.τ).loc Cert.RLlIdeal.main_arg4)
          ∧ r.2.mem ((c.tc : Thread Cert.RLlIdeal.nD Cert.RLlIdeal.τ).loc Cert.RLlIdeal.main_arg5) = m' ((c.tc : Thread Cert.RLlIdeal.nD Cert.RLlIdeal.τ).loc Cert.RLlIdeal.main_arg5)
          ∧ r.2.mem ((c.tc : Thread Cert.RLlIdeal.nD Cert.RLlIdeal.τ).loc Cert.RLlIdeal.main_arg6) = m' ((c.tc : Thread Cert.RLlIdeal.nD Cert.RLlIdeal.τ).loc Cert.RLlIdeal.main_arg6))

def Claim : Prop :=
  ∃ (hKernel : Cert.Kernel.Facts) (hKernelIdeal : Cert.KernelIdeal.Facts) (hReferenceIdeal : Cert.ReferenceIdeal.Facts) (hKIn : Cert.KIn.Facts) (hKInIdeal : Cert.KInIdeal.Facts) (hRInIdeal : Cert.RInIdeal.Facts) (hKGu : Cert.KGu.Facts) (hKGuIdeal : Cert.KGuIdeal.Facts) (hRGuIdeal : Cert.RGuIdeal.Facts) (hKGd : Cert.KGd.Facts) (hKGdIdeal : Cert.KGdIdeal.Facts) (hRGdIdeal : Cert.RGdIdeal.Facts) (hKGo : Cert.KGo.Facts) (hKGoIdeal : Cert.KGoIdeal.Facts) (hRGoIdeal : Cert.RGoIdeal.Facts) (hKGp : Cert.KGp.Facts) (hKGpIdeal : Cert.KGpIdeal.Facts) (hRGpIdeal : Cert.RGpIdeal.Facts) (hKDh : Cert.KDh.Facts) (hKDhIdeal : Cert.KDhIdeal.Facts) (hRDhIdeal : Cert.RDhIdeal.Facts) (hKDm : Cert.KDm.Facts) (hKDmIdeal : Cert.KDmIdeal.Facts) (hRDmIdeal : Cert.RDmIdeal.Facts) (hKDy : Cert.KDy.Facts) (hKDyIdeal : Cert.KDyIdeal.Facts) (hRDyIdeal : Cert.RDyIdeal.Facts) (hKXg : Cert.KXg.Facts) (hKXgIdeal : Cert.KXgIdeal.Facts) (hRXgIdeal : Cert.RXgIdeal.Facts) (hKXv : Cert.KXv.Facts) (hKXvIdeal : Cert.KXvIdeal.Facts) (hRXvIdeal : Cert.RXvIdeal.Facts) (hKXp : Cert.KXp.Facts) (hKXpIdeal : Cert.KXpIdeal.Facts) (hRXpIdeal : Cert.RXpIdeal.Facts) (hKDx : Cert.KDx.Facts) (hKDxIdeal : Cert.KDxIdeal.Facts) (hRDxIdeal : Cert.RDxIdeal.Facts) (hKFs : Cert.KFs.Facts) (hKFsIdeal : Cert.KFsIdeal.Facts) (hRFsIdeal : Cert.RFsIdeal.Facts) (hKFu : Cert.KFu.Facts) (hKFuIdeal : Cert.KFuIdeal.Facts) (hRFuIdeal : Cert.RFuIdeal.Facts) (hKFd : Cert.KFd.Facts) (hKFdIdeal : Cert.KFdIdeal.Facts) (hRFdIdeal : Cert.RFdIdeal.Facts) (hKFp : Cert.KFp.Facts) (hKFpIdeal : Cert.KFpIdeal.Facts) (hRFpIdeal : Cert.RFpIdeal.Facts) (hKMb : Cert.KMb.Facts) (hKMbIdeal : Cert.KMbIdeal.Facts) (hRMbIdeal : Cert.RMbIdeal.Facts) (hKMf : Cert.KMf.Facts) (hKMfIdeal : Cert.KMfIdeal.Facts) (hRMfIdeal : Cert.RMfIdeal.Facts) (hKLf : Cert.KLf.Facts) (hKLfIdeal : Cert.KLfIdeal.Facts) (hRLfIdeal : Cert.RLfIdeal.Facts) (hKCf : Cert.KCf.Facts) (hKCfIdeal : Cert.KCfIdeal.Facts) (hRCfIdeal : Cert.RCfIdeal.Facts) (hKCb : Cert.KCb.Facts) (hKCbIdeal : Cert.KCbIdeal.Facts) (hRCbIdeal : Cert.RCbIdeal.Facts) (hKLb : Cert.KLb.Facts) (hKLbIdeal : Cert.KLbIdeal.Facts) (hRLbIdeal : Cert.RLbIdeal.Facts) (hKCa : Cert.KCa.Facts) (hKCaIdeal : Cert.KCaIdeal.Facts) (hRCaIdeal : Cert.RCaIdeal.Facts) (hKSf : Cert.KSf.Facts) (hKSfIdeal : Cert.KSfIdeal.Facts) (hRSfIdeal : Cert.RSfIdeal.Facts) (hKLl : Cert.KLl.Facts) (hKLlIdeal : Cert.KLlIdeal.Facts) (hRLlIdeal : Cert.RLlIdeal.Facts) (hPre_finite : Cert.Pre_finite.Facts) (hPre_finite_lb : Cert.Pre_finite_lb.Facts) (hPre_finite_ca : Cert.Pre_finite_ca.Facts) (hPre_finite_ll : Cert.Pre_finite_ll.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KIn (hKIn := hKIn)
    ∧ quiescent_KInIdeal (hKInIdeal := hKInIdeal)
    ∧ quiescent_RInIdeal (hRInIdeal := hRInIdeal)
    ∧ quiescent_KGu (hKGu := hKGu)
    ∧ quiescent_KGuIdeal (hKGuIdeal := hKGuIdeal)
    ∧ quiescent_RGuIdeal (hRGuIdeal := hRGuIdeal)
    ∧ quiescent_KGd (hKGd := hKGd)
    ∧ quiescent_KGdIdeal (hKGdIdeal := hKGdIdeal)
    ∧ quiescent_RGdIdeal (hRGdIdeal := hRGdIdeal)
    ∧ quiescent_KGo (hKGo := hKGo)
    ∧ quiescent_KGoIdeal (hKGoIdeal := hKGoIdeal)
    ∧ quiescent_RGoIdeal (hRGoIdeal := hRGoIdeal)
    ∧ quiescent_KGp (hKGp := hKGp)
    ∧ quiescent_KGpIdeal (hKGpIdeal := hKGpIdeal)
    ∧ quiescent_RGpIdeal (hRGpIdeal := hRGpIdeal)
    ∧ quiescent_KDh (hKDh := hKDh)
    ∧ quiescent_KDhIdeal (hKDhIdeal := hKDhIdeal)
    ∧ quiescent_RDhIdeal (hRDhIdeal := hRDhIdeal)
    ∧ quiescent_KDm (hKDm := hKDm)
    ∧ quiescent_KDmIdeal (hKDmIdeal := hKDmIdeal)
    ∧ quiescent_RDmIdeal (hRDmIdeal := hRDmIdeal)
    ∧ quiescent_KDy (hKDy := hKDy)
    ∧ quiescent_KDyIdeal (hKDyIdeal := hKDyIdeal)
    ∧ quiescent_RDyIdeal (hRDyIdeal := hRDyIdeal)
    ∧ quiescent_KXg (hKXg := hKXg)
    ∧ quiescent_KXgIdeal (hKXgIdeal := hKXgIdeal)
    ∧ quiescent_RXgIdeal (hRXgIdeal := hRXgIdeal)
    ∧ quiescent_KXv (hKXv := hKXv)
    ∧ quiescent_KXvIdeal (hKXvIdeal := hKXvIdeal)
    ∧ quiescent_RXvIdeal (hRXvIdeal := hRXvIdeal)
    ∧ quiescent_KXp (hKXp := hKXp)
    ∧ quiescent_KXpIdeal (hKXpIdeal := hKXpIdeal)
    ∧ quiescent_RXpIdeal (hRXpIdeal := hRXpIdeal)
    ∧ quiescent_KDx (hKDx := hKDx)
    ∧ quiescent_KDxIdeal (hKDxIdeal := hKDxIdeal)
    ∧ quiescent_RDxIdeal (hRDxIdeal := hRDxIdeal)
    ∧ quiescent_KFs (hKFs := hKFs)
    ∧ quiescent_KFsIdeal (hKFsIdeal := hKFsIdeal)
    ∧ quiescent_RFsIdeal (hRFsIdeal := hRFsIdeal)
    ∧ quiescent_KFu (hKFu := hKFu)
    ∧ quiescent_KFuIdeal (hKFuIdeal := hKFuIdeal)
    ∧ quiescent_RFuIdeal (hRFuIdeal := hRFuIdeal)
    ∧ quiescent_KFd (hKFd := hKFd)
    ∧ quiescent_KFdIdeal (hKFdIdeal := hKFdIdeal)
    ∧ quiescent_RFdIdeal (hRFdIdeal := hRFdIdeal)
    ∧ quiescent_KFp (hKFp := hKFp)
    ∧ quiescent_KFpIdeal (hKFpIdeal := hKFpIdeal)
    ∧ quiescent_RFpIdeal (hRFpIdeal := hRFpIdeal)
    ∧ quiescent_KMb (hKMb := hKMb)
    ∧ quiescent_KMbIdeal (hKMbIdeal := hKMbIdeal)
    ∧ quiescent_RMbIdeal (hRMbIdeal := hRMbIdeal)
    ∧ quiescent_KMf (hKMf := hKMf)
    ∧ quiescent_KMfIdeal (hKMfIdeal := hKMfIdeal)
    ∧ quiescent_RMfIdeal (hRMfIdeal := hRMfIdeal)
    ∧ quiescent_KLf (hKLf := hKLf)
    ∧ quiescent_KLfIdeal (hKLfIdeal := hKLfIdeal)
    ∧ quiescent_RLfIdeal (hRLfIdeal := hRLfIdeal)
    ∧ quiescent_KCf (hKCf := hKCf)
    ∧ quiescent_KCfIdeal (hKCfIdeal := hKCfIdeal)
    ∧ quiescent_RCfIdeal (hRCfIdeal := hRCfIdeal)
    ∧ quiescent_KCb (hKCb := hKCb)
    ∧ quiescent_KCbIdeal (hKCbIdeal := hKCbIdeal)
    ∧ quiescent_RCbIdeal (hRCbIdeal := hRCbIdeal)
    ∧ quiescent_KLb (hKLb := hKLb)
    ∧ quiescent_KLbIdeal (hKLbIdeal := hKLbIdeal)
    ∧ quiescent_KLbIdeal_pre_finite_lb (hKLbIdeal := hKLbIdeal) (hPre_finite_lb := hPre_finite_lb)
    ∧ quiescent_RLbIdeal (hRLbIdeal := hRLbIdeal)
    ∧ quiescent_RLbIdeal_pre_finite_lb (hRLbIdeal := hRLbIdeal) (hPre_finite_lb := hPre_finite_lb)
    ∧ quiescent_KCa (hKCa := hKCa)
    ∧ quiescent_KCaIdeal (hKCaIdeal := hKCaIdeal)
    ∧ quiescent_KCaIdeal_pre_finite_ca (hKCaIdeal := hKCaIdeal) (hPre_finite_ca := hPre_finite_ca)
    ∧ quiescent_RCaIdeal (hRCaIdeal := hRCaIdeal)
    ∧ quiescent_RCaIdeal_pre_finite_ca (hRCaIdeal := hRCaIdeal) (hPre_finite_ca := hPre_finite_ca)
    ∧ quiescent_KSf (hKSf := hKSf)
    ∧ quiescent_KSfIdeal (hKSfIdeal := hKSfIdeal)
    ∧ quiescent_RSfIdeal (hRSfIdeal := hRSfIdeal)
    ∧ quiescent_KLl (hKLl := hKLl)
    ∧ quiescent_KLlIdeal (hKLlIdeal := hKLlIdeal)
    ∧ quiescent_KLlIdeal_pre_finite_ll (hKLlIdeal := hKLlIdeal) (hPre_finite_ll := hPre_finite_ll)
    ∧ quiescent_RLlIdeal (hRLlIdeal := hRLlIdeal)
    ∧ quiescent_RLlIdeal_pre_finite_ll (hRLlIdeal := hRLlIdeal) (hPre_finite_ll := hPre_finite_ll)
    ∧ preserves_Kernel_KernelIdeal
    ∧ algebraic_KernelIdeal_ReferenceIdeal_pre_finite (hKernelIdeal := hKernelIdeal) (hReferenceIdeal := hReferenceIdeal) (hPre_finite := hPre_finite)
    ∧ preserves_KIn_KInIdeal
    ∧ algebraic_KInIdeal_RInIdeal (hKInIdeal := hKInIdeal) (hRInIdeal := hRInIdeal)
    ∧ preserves_KGu_KGuIdeal
    ∧ algebraic_KGuIdeal_RGuIdeal (hKGuIdeal := hKGuIdeal) (hRGuIdeal := hRGuIdeal)
    ∧ preserves_KGd_KGdIdeal
    ∧ algebraic_KGdIdeal_RGdIdeal (hKGdIdeal := hKGdIdeal) (hRGdIdeal := hRGdIdeal)
    ∧ preserves_KGo_KGoIdeal
    ∧ algebraic_KGoIdeal_RGoIdeal (hKGoIdeal := hKGoIdeal) (hRGoIdeal := hRGoIdeal)
    ∧ preserves_KGp_KGpIdeal
    ∧ algebraic_KGpIdeal_RGpIdeal (hKGpIdeal := hKGpIdeal) (hRGpIdeal := hRGpIdeal)
    ∧ preserves_KDh_KDhIdeal
    ∧ algebraic_KDhIdeal_RDhIdeal (hKDhIdeal := hKDhIdeal) (hRDhIdeal := hRDhIdeal)
    ∧ preserves_KDm_KDmIdeal
    ∧ algebraic_KDmIdeal_RDmIdeal (hKDmIdeal := hKDmIdeal) (hRDmIdeal := hRDmIdeal)
    ∧ preserves_KDy_KDyIdeal
    ∧ algebraic_KDyIdeal_RDyIdeal (hKDyIdeal := hKDyIdeal) (hRDyIdeal := hRDyIdeal)
    ∧ preserves_KXg_KXgIdeal
    ∧ algebraic_KXgIdeal_RXgIdeal (hKXgIdeal := hKXgIdeal) (hRXgIdeal := hRXgIdeal)
    ∧ preserves_KXv_KXvIdeal
    ∧ algebraic_KXvIdeal_RXvIdeal (hKXvIdeal := hKXvIdeal) (hRXvIdeal := hRXvIdeal)
    ∧ preserves_KXp_KXpIdeal
    ∧ algebraic_KXpIdeal_RXpIdeal (hKXpIdeal := hKXpIdeal) (hRXpIdeal := hRXpIdeal)
    ∧ preserves_KDx_KDxIdeal
    ∧ algebraic_KDxIdeal_RDxIdeal (hKDxIdeal := hKDxIdeal) (hRDxIdeal := hRDxIdeal)
    ∧ preserves_KFs_KFsIdeal
    ∧ algebraic_KFsIdeal_RFsIdeal (hKFsIdeal := hKFsIdeal) (hRFsIdeal := hRFsIdeal)
    ∧ preserves_KFu_KFuIdeal
    ∧ algebraic_KFuIdeal_RFuIdeal (hKFuIdeal := hKFuIdeal) (hRFuIdeal := hRFuIdeal)
    ∧ preserves_KFd_KFdIdeal
    ∧ algebraic_KFdIdeal_RFdIdeal (hKFdIdeal := hKFdIdeal) (hRFdIdeal := hRFdIdeal)
    ∧ preserves_KFp_KFpIdeal
    ∧ algebraic_KFpIdeal_RFpIdeal (hKFpIdeal := hKFpIdeal) (hRFpIdeal := hRFpIdeal)
    ∧ preserves_KMb_KMbIdeal
    ∧ algebraic_KMbIdeal_RMbIdeal (hKMbIdeal := hKMbIdeal) (hRMbIdeal := hRMbIdeal)
    ∧ preserves_KMf_KMfIdeal
    ∧ algebraic_KMfIdeal_RMfIdeal (hKMfIdeal := hKMfIdeal) (hRMfIdeal := hRMfIdeal)
    ∧ preserves_KLf_KLfIdeal
    ∧ algebraic_KLfIdeal_RLfIdeal (hKLfIdeal := hKLfIdeal) (hRLfIdeal := hRLfIdeal)
    ∧ preserves_KCf_KCfIdeal
    ∧ algebraic_KCfIdeal_RCfIdeal (hKCfIdeal := hKCfIdeal) (hRCfIdeal := hRCfIdeal)
    ∧ preserves_KCb_KCbIdeal
    ∧ algebraic_KCbIdeal_RCbIdeal (hKCbIdeal := hKCbIdeal) (hRCbIdeal := hRCbIdeal)
    ∧ preserves_KLb_KLbIdeal
    ∧ algebraic_KLbIdeal_RLbIdeal_pre_finite_lb (hKLbIdeal := hKLbIdeal) (hRLbIdeal := hRLbIdeal) (hPre_finite_lb := hPre_finite_lb)
    ∧ preserves_KCa_KCaIdeal
    ∧ algebraic_KCaIdeal_RCaIdeal_pre_finite_ca (hKCaIdeal := hKCaIdeal) (hRCaIdeal := hRCaIdeal) (hPre_finite_ca := hPre_finite_ca)
    ∧ preserves_KSf_KSfIdeal
    ∧ algebraic_KSfIdeal_RSfIdeal (hKSfIdeal := hKSfIdeal) (hRSfIdeal := hRSfIdeal)
    ∧ preserves_KLl_KLlIdeal
    ∧ algebraic_KLlIdeal_RLlIdeal_pre_finite_ll (hKLlIdeal := hKLlIdeal) (hRLlIdeal := hRLlIdeal) (hPre_finite_ll := hPre_finite_ll)
-- ==== Pre_finite.lean ====
abbrev S8x4096x1024 : Shape := ⟨3, ![8, 4096, 1024]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S2x4096x1024 : Shape := ⟨3, ![2, 4096, 1024]⟩
abbrev S_ : Shape := ⟨0, ![]⟩

class Facts : Prop where
  slices_S8x4096x1024_S2x4096x1024_4_0_0 : S8x4096x1024.Slices ![4, 0, 0] S2x4096x1024
  bitsLt_bf16_f32 : FTy.bits .bf16 < FTy.bits .f32
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_arg6 : FVec F S1x1024 .f32) (main_v16 : IVec S_ 1) (main_v17 : FVec F S8x128 .f32) : IVec S_ 1 :=
  let main_cst_4 : FVec F S_ .f32 := constant S_ .f32 0x7F800000#32
  let main_v18 : FVec F S8x128 .f32 := broadcastInDim S8x128 ![] bcast_S_S8x128 main_cst_4
  let main_v19 : IVec S8x128 1 := cmpf .olt main_v17 main_v18
  let main_c_5 : IVec S_ 1 := constantI S_ 1 1#1
  let main_v20 : IVec S_ 1 := (fun x v => Host.reduce IntOp.andi x v reducesTo_S8x128_S_d0_1 h_S_) main_v19 main_c_5
  let main_v21 : IVec S_ 1 := andi main_v16 main_v20
  let main_v22 : FVec F S1x1024 .f32 := Host.absf main_arg5
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  let main_v27 : FVec F S1x1024 .f32 := Host.absf main_arg6
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  main_v31

def fn {F : FTy → Type} [FloatOps F] (main_arg0 : FVec F S8x4096x1024 .bf16) (main_arg1 : FVec F S4096x1024 .bf16) (main_arg2 : FVec F S8x4096x1024 .bf16) (main_arg3 : FVec F S8x128x128 .f32) (main_arg4 : FVec F S8x128 .f32) (main_arg5 : FVec F S1x1024 .f32) (main_arg6 : FVec F S1x1024 .f32) : IVec S_ 1 :=
  let main_v0 : FVec F S2x4096x1024 .bf16 := (extractStridedSlice S2x4096x1024 ![4, 0, 0] · slices_S8x4096x1024_S2x4096x1024_4_0_0) main_arg0
  let main_v1 : FVec F S2x4096x1024 .f32 := (extf .f32 · bitsLt_bf16_f32) main_v0
  let main_v2 : FVec F S2x4096x1024 .f32 := Host.absf main_v1
  let main_cst : FVec F S_ .f32 := constant S_ .f32 0x7F800000#32
  let main_v3 : FVec F S2x4096x1024 .f32 := broadcastInDim S2x4096x1024 ![] bcast_S_S2x4096x1024 main_cst
  let main_v4 : IVec S2x4096x1024 1 := cmpf .olt main_v2 main_v3
  let main_c : IVec S_ 1 := constantI S_ 1 1#1
  let main_v5 : IVec S_ 1 := (fun x v => Host.reduce IntOp.andi x v reducesTo_S2x4096x1024_S_d0_1_2 h_S_) main_v4 main_c
  let main_v6 : FVec F S4096x1024 .f32 := (extf .f32 · bitsLt_bf16_f32) main_arg1
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_c_1 : IVec S_ 1 := constantI S_ 1 1#1
  let main_v10 : IVec S_ 1 := (fun x v => Host.reduce IntOp.andi x v reducesTo_S4096x1024_S_d0_1 h_S_) main_v9 main_c_1
  let main_v11 : IVec S_ 1 := andi main_v5 main_v10
  let main_v12 : FVec F S8x128x128 .f32 := Host.absf main_arg3
  let main_cst_2 : FVec F S_ .f32 := constant S_ .f32 0x7F800000#32
  let main_v13 : FVec F S8x128x128 .f32 := broadcastInDim S8x128x128 ![] bcast_S_S8x128x128 main_cst_2
  let main_v14 : IVec S8x128x128 1 := cmpf .olt main_v12 main_v13
  let main_c_3 : IVec S_ 1 := constantI S_ 1 1#1
  let main_v15 : IVec S_ 1 := (fun x v => Host.reduce IntOp.andi x v reducesTo_S8x128x128_S_d0_1_2 h_S_) main_v14 main_c_3
  let main_v16 : IVec S_ 1 := andi main_v11 main_v15
  let main_v17 : FVec F S8x128 .f32 := Host.absf main_arg4
  fn_part1 (F := F) main_arg5 main_arg6 main_v16 main_v17
-- ==== Pre_finite_ca.lean ====
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bitsLt_bf16_f32 : FTy.bits .bf16 < FTy.bits .f32
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_

variable [Facts]

def fn_part1 {F : FTy → Type} [FloatOps F] (main_arg4 : FVec F S1x2816 .f32) (main_v14 : IVec S_ 1) (main_v15 : FVec F S3x2816 .f32) (main_v16 : FVec F S3x2816 .f32) : IVec S_ 1 :=
  let main_v17 : IVec S3x2816 1 := cmpf .olt main_v15 main_v16
  let main_c_5 : IVec S_ 1 := constantI S_ 1 1#1
  let main_v18 : IVec S_ 1 := (fun x v => Host.reduce IntOp.andi x v reducesTo_S3x2816_S_d0_1 h_S_) main_v17 main_c_5
  let main_v19 : IVec S_ 1 := andi main_v14 main_v18
  let main_v20 : FVec F S1x2816 .f32 := Host.absf main_arg4
  let main_cst_6 : FVec F S_ .f32 := constant S_ .f32 0x7F800000#32
  let main_v21 : FVec F S1x2816 .f32 := broadcastInDim S1x2816 ![] bcast_S_S1x2816 main_cst_6
  let main_v22 : IVec S1x2816 1 := cmpf .olt main_v20 main_v21
  let main_c_7 : IVec S_ 1 := constantI S_ 1 1#1
  let main_v23 : IVec S_ 1 := (fun x v => Host.reduce IntOp.andi x v reducesTo_S1x2816_S_d0_1 h_S_) main_v22 main_c_7
  let main_v24 : IVec S_ 1 := andi main_v19 main_v23
  main_v24

def fn {F : FTy → Type} [FloatOps F] (main_arg0 : FVec F S4096x2816 .f32) (main_arg1 : FVec F S4096x2816 .f32) (main_arg2 : FVec F S4096x2816 .bf16) (main_arg3 : FVec F S3x2816 .f32) (main_arg4 : FVec F S1x2816 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x2816 .f32 := (extf .f32 · bitsLt_bf16_f32) main_arg2
  let main_v10 : FVec F S4096x2816 .f32 := Host.absf main_v9
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v10 main_v11
  let main_c_3 : IVec S_ 1 := constantI S_ 1 1#1
  let main_v13 : IVec S_ 1 := (fun x v => Host.reduce IntOp.andi x v reducesTo_S4096x2816_S_d0_1 h_S_) main_v12 main_c_3
  let main_v14 : IVec S_ 1 := andi main_v8 main_v13
  let main_v15 : FVec F S3x2816 .f32 := Host.absf main_arg3
  let main_cst_4 : FVec F S_ .f32 := constant S_ .f32 0x7F800000#32
  let main_v16 : FVec F S3x2816 .f32 := broadcastInDim S3x2816 ![] bcast_S_S3x2816 main_cst_4
  fn_part1 (F := F) main_arg4 main_v14 main_v15 main_v16
-- ==== Pre_finite_lb.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_ll.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_arg6 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S1x1024 .f32) (main_arg6 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_arg6 main_v13 main_v16
-- ==== Kernel.lean ====
abbrev S8x4096x1024 : Shape := ⟨3, ![8, 4096, 1024]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S128x8 : Shape := ⟨2, ![128, 8]⟩
abbrev S1x128x1024 : Shape := ⟨3, ![1, 128, 1024]⟩
abbrev S128x1024 : Shape := ⟨2, ![128, 1024]⟩
abbrev S2x128x1024 : Shape := ⟨3, ![2, 128, 1024]⟩
abbrev S1024 : Shape := ⟨1, ![1024]⟩

abbrev nBuf : Space → Nat
  | .hbm => 54
  | .vmem => 18
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S8x4096x1024, .bf16⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S1x128x128, .i1⟩
  | .hbm, ⟨32, _⟩ => ⟨S_, .f32⟩
  | .hbm, ⟨33, _⟩ => ⟨S_, .f32⟩
  | .hbm, ⟨34, _⟩ => ⟨S8x128x128, .i1⟩
  | .hbm, ⟨35, _⟩ => ⟨S8x128x128, .f32⟩
  | .hbm, ⟨36, _⟩ => ⟨S8x128x128, .f32⟩
  | .hbm, ⟨37, _⟩ => ⟨S8x128x128, .bf16⟩
  | .hbm, ⟨38, _⟩ => ⟨S8x128x128, .f32⟩
  | .hbm, ⟨39, _⟩ => ⟨S8x128x128, .bf16⟩
  | .hbm, ⟨40, _⟩ => ⟨S128x8, .f32⟩
  | .hbm, ⟨41, _⟩ => ⟨S8x4096x1024, .bf16⟩
  | .hbm, ⟨42, _⟩ => ⟨S8x128x128, .f32⟩
  | .hbm, ⟨43, _⟩ => ⟨S128x128, .f32⟩
  | .hbm, ⟨44, _⟩ => ⟨S1x1024, .f32⟩
  | .hbm, ⟨45, _⟩ => ⟨S1x1024, .f32⟩
  | .hbm, ⟨46, _⟩ => ⟨S1x128x128, .i1⟩
  | .hbm, ⟨47, _⟩ => ⟨S_, .f32⟩
  | .hbm, ⟨48, _⟩ => ⟨S_, .f32⟩
  | .hbm, ⟨49, _⟩ => ⟨S8x128x128, .i1⟩
  | .hbm, ⟨50, _⟩ => ⟨S8x128x128, .f32⟩
  | .hbm, ⟨51, _⟩ => ⟨S8x128x128, .f32⟩
  | .hbm, ⟨52, _⟩ => ⟨S128x8, .f32⟩
  | .hbm, ⟨53, _⟩ => ⟨S8x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .bf16⟩
  | .local _ .vmem, ⟨5, _⟩ => ⟨S128x1024, .bf16⟩
  | .local _ .vmem, ⟨6, _⟩ => ⟨S8x128x128, .bf16⟩
  | .local _ .vmem, ⟨7, _⟩ => ⟨S8x128x128, .bf16⟩
  | .local _ .vmem, ⟨8, _⟩ => ⟨S128x8, .f32⟩
  | .local _ .vmem, ⟨9, _⟩ => ⟨S1x1024, .f32⟩
  | .local _ .vmem, ⟨10, _⟩ => ⟨S1x1024, .f32⟩
  | .local _ .vmem, ⟨11, _⟩ => ⟨S2x128x1024, .bf16⟩
  | .local _ .vmem, ⟨12, _⟩ => ⟨S2x128x1024, .bf16⟩
  | .local _ .vmem, ⟨13, _⟩ => ⟨S8x128x128, .f32⟩
  | .local _ .vmem, ⟨14, _⟩ => ⟨S128x128, .f32⟩
  | .local _ .vmem, ⟨15, _⟩ => ⟨S1x1024, .f32⟩
  | .local _ .vmem, ⟨16, _⟩ => ⟨S1x1024, .f32⟩
  | .local _ .vmem, ⟨17, _⟩ => ⟨S128x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13_0 : Ref sig .tc := ⟨.hbm, 41, rfl⟩
abbrev main_v13_1 : Ref sig .tc := ⟨.hbm, 42, rfl⟩
abbrev main_v13_2 : Ref sig .tc := ⟨.hbm, 43, rfl⟩
abbrev main_v13_3 : Ref sig .tc := ⟨.hbm, 44, rfl⟩
abbrev main_v13_4 : Ref sig .tc := ⟨.hbm, 45, rfl⟩
abbrev main_v14 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8x4096x1024 : Shape := ⟨3, ![8, 4096, 1024]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024 : Shape := ⟨1, ![1024]⟩
abbrev S4x4096x1024 : Shape := ⟨3, ![4, 4096, 1024]⟩
abbrev S2x4096x1024 : Shape := ⟨3, ![2, 4096, 1024]⟩

abbrev nBuf : Space → Nat
  | .hbm => 250
  | .vmem => 0
  | .smem => 0
  | _ => 0

abbrev hbmTy0_0 (i : Nat) : BufTy := match i % 128 with
  | 0 => ⟨S8x4096x1024, .bf16⟩
  | 1 => ⟨S4096x1024, .bf16⟩
  | 2 => ⟨S8x4096x1024, .bf16⟩
  | 3 => ⟨S8x128x128, .f32⟩
  | 4 => ⟨S8x128, .f32⟩
  | 5 => ⟨S1x1024, .f32⟩
  | 6 => ⟨S1x1024, .f32⟩
  | 7 => ⟨S1x4096x1024, .bf16⟩
  | 8 => ⟨S4096x1024, .bf16⟩
  | 9 => ⟨S4096x1024, .f32⟩
  | 10 => ⟨S1x4096x1024, .bf16⟩
  | 11 => ⟨S4096x1024, .bf16⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096, .f32⟩
  | 89 => ⟨S4096x1, .f32⟩
  | 90 => ⟨S_, .f32⟩
  | 91 => ⟨S4096x1, .f32⟩
  | 92 => ⟨S4096x1, .f32⟩
  | 93 => ⟨S4096x1024, .f32⟩
  | 94 => ⟨S4096x1024, .f32⟩
  | 95 => ⟨S_, .f32⟩
  | 96 => ⟨S4096x1, .f32⟩
  | 97 => ⟨S4096x1, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S32x128x8x128, .f32⟩
  | 110 => ⟨S128, .i32⟩
  | 111 => ⟨S_, .i32⟩
  | 112 => ⟨S_, .i32⟩
  | 113 => ⟨S128, .i32⟩
  | 114 => ⟨S128, .i32⟩
  | 115 => ⟨S128, .i32⟩
  | 116 => ⟨S_, .i32⟩
  | 117 => ⟨S128, .i32⟩
  | 118 => ⟨S128, .i1⟩
  | 119 => ⟨S128, .i32⟩
  | 120 => ⟨S128, .i32⟩
  | 121 => ⟨S_, .i32⟩
  | 122 => ⟨S128, .i32⟩
  | 123 => ⟨S128, .i1⟩
  | 124 => ⟨S128, .i1⟩
  | 125 => ⟨S_, .i32⟩
  | 126 => ⟨S128, .i32⟩
  | 127 => ⟨S128, .i32⟩
  | _ => ⟨S8x4096x1024, .bf16⟩

abbrev hbmTy0_1 (i : Nat) : BufTy := match i % 128 with
  | 0 => ⟨S128, .i32⟩
  | 1 => ⟨S128x1, .i32⟩
  | 2 => ⟨S1x128, .i32⟩
  | 3 => ⟨S128x128, .i32⟩
  | 4 => ⟨S128x128, .i32⟩
  | 5 => ⟨S128x128, .i1⟩
  | 6 => ⟨S1x128x128, .i1⟩
  | 7 => ⟨S_, .f32⟩
  | 8 => ⟨S8x128x128, .i1⟩
  | 9 => ⟨S8x128x128, .f32⟩
  | 10 => ⟨S8x128x128, .f32⟩
  | 11 => ⟨S_, .f32⟩
  | 12 => ⟨S8x128x128, .f32⟩
  | 13 => ⟨S8x32x128x128, .f32⟩
  | 14 => ⟨S32x128x8x128, .f32⟩
  | 15 => ⟨S128x8, .f32⟩
  | 16 => ⟨S1x128x8x1, .f32⟩
  | 17 => ⟨S32x128x8x128, .f32⟩
  | 18 => ⟨S32x128x8x128, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S32x128x8x128, .f32⟩
  | 25 => ⟨S_, .f32⟩
  | 26 => ⟨S128x8, .f32⟩
  | 27 => ⟨S1x128x8x1, .f32⟩
  | 28 => ⟨S_, .f32⟩
  | 29 => ⟨S128x8, .f32⟩
  | 30 => ⟨S8x128, .f32⟩
  | 31 => ⟨S8x32x128x128, .f32⟩
  | 32 => ⟨S8x128x128, .f32⟩
  | 33 => ⟨S8x32x128x128, .f32⟩
  | 34 => ⟨S32x128x8x128, .f32⟩
  | 35 => ⟨S_, .f32⟩
  | 36 => ⟨S8x128x128, .f32⟩
  | 37 => ⟨S8x128x128, .f32⟩
  | 38 => ⟨S4096x1024, .f32⟩
  | 39 => ⟨S_, .f32⟩
  | 40 => ⟨S1024, .f32⟩
  | 41 => ⟨S1x1024, .f32⟩
  | 42 => ⟨S4096x1024, .f32⟩
  | 43 => ⟨S_, .f32⟩
  | 44 => ⟨S1024, .f32⟩
  | 45 => ⟨S1x1024, .f32⟩
  | 46 => ⟨S4096x1024, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S4096x1024, .f32⟩
  | 53 => ⟨S4096x1024, .f32⟩
  | 54 => ⟨S4096x1, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x1024, .f32⟩
  | 65 => ⟨S4096x1024, .f32⟩
  | 66 => ⟨S4096x1024, .f32⟩
  | 67 => ⟨S_, .f32⟩
  | 68 => ⟨S4096, .f32⟩
  | 69 => ⟨S4096x1, .f32⟩
  | 70 => ⟨S4096x1024, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S4096x1024, .f32⟩
  | 115 => ⟨S4x4096x1024, .bf16⟩
  | 116 => ⟨S1x4096x1024, .f32⟩
  | 117 => ⟨S1x4096x1024, .bf16⟩
  | 118 => ⟨S1x4096x1024, .f32⟩
  | 119 => ⟨S1x4096x1024, .bf16⟩
  | 120 => ⟨S2x4096x1024, .bf16⟩
  | 121 => ⟨S8x4096x1024, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_21 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_v6 : Ref sig .tc := ⟨.hbm, 118, rfl⟩
abbrev main_call0_v7 : Ref sig .tc := ⟨.hbm, 119, rfl⟩
abbrev main_call0_v8 : Ref sig .tc := ⟨.hbm, 120, rfl⟩
abbrev main_call0_c : Ref sig .tc := ⟨.hbm, 121, rfl⟩
abbrev main_call0_v9 : Ref sig .tc := ⟨.hbm, 122, rfl⟩
abbrev main_call0_v10 : Ref sig .tc := ⟨.hbm, 123, rfl⟩
abbrev main_call0_v11 : Ref sig .tc := ⟨.hbm, 124, rfl⟩
abbrev main_call0_c_0 : Ref sig .tc := ⟨.hbm, 125, rfl⟩
abbrev main_call0_v12 : Ref sig .tc := ⟨.hbm, 126, rfl⟩
abbrev main_call0_v13 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_22 : Ref sig .tc := ⟨.hbm, 135, rfl⟩
abbrev main_v88_1 : Ref sig .tc := ⟨.hbm, 136, rfl⟩
abbrev main_call1_v1 : Ref sig .tc := ⟨.hbm, 137, rfl⟩
abbrev main_v88_0 : Ref sig .tc := ⟨.hbm, 138, rfl⟩
abbrev main_call1_cst : Ref sig .tc := ⟨.hbm, 139, rfl⟩
abbrev main_v88_2 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_23 : Ref sig .tc := ⟨.hbm, 153, rfl⟩
abbrev main_v101 : Ref sig .tc := ⟨.hbm, 154, rfl⟩
abbrev main_v102 : Ref sig .tc := ⟨.hbm, 155, rfl⟩
abbrev main_cst_24 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_call2_cst : Ref sig .tc := ⟨.hbm, 163, rfl⟩
abbrev main_call2_v0 : Ref sig .tc := ⟨.hbm, 164, rfl⟩
abbrev main_v109 : Ref sig .tc := ⟨.hbm, 165, rfl⟩
abbrev main_v110 : Ref sig .tc := ⟨.hbm, 166, rfl⟩
abbrev main_cst_25 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_26 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_27 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_28 : Ref sig .tc := ⟨.hbm, 184, rfl⟩
abbrev main_v125 : Ref sig .tc := ⟨.hbm, 185, rfl⟩
abbrev main_v126 : Ref sig .tc := ⟨.hbm, 186, rfl⟩
abbrev main_cst_29 : Ref sig .tc := ⟨.hbm, 187, rfl⟩
abbrev main_v127 : Ref sig .tc := ⟨.hbm, 188, rfl⟩
abbrev main_v128 : Ref sig .tc := ⟨.hbm, 189, rfl⟩
abbrev main_cst_30 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_31 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_32 : Ref sig .tc := ⟨.hbm, 200, rfl⟩
abbrev main_v137 : Ref sig .tc := ⟨.hbm, 201, rfl⟩
abbrev main_v138 : Ref sig .tc := ⟨.hbm, 202, rfl⟩
abbrev main_cst_33 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_34 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_35 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_36 : Ref sig .tc := ⟨.hbm, 217, rfl⟩
abbrev main_v150 : Ref sig .tc := ⟨.hbm, 218, rfl⟩
abbrev main_v151 : Ref sig .tc := ⟨.hbm, 219, rfl⟩
abbrev main_cst_37 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_cst_38 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_cst_39 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_cst_40 : Ref sig .tc := ⟨.hbm, 235, rfl⟩
abbrev main_v164 : Ref sig .tc := ⟨.hbm, 236, rfl⟩
abbrev main_v165 : Ref sig .tc := ⟨.hbm, 237, rfl⟩
abbrev main_cst_41 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩

abbrev nD : Nat := 1
abbrev τ : Topo := Topo.v7x

variable {F : FTy → Type} [FloatOps F]
-- ==== KIn.lean ====
abbrev S4096x1024 : Shape := ⟨2, ![4096, 1024]⟩
abbrev S8x4096x1024 : Shape := ⟨3, ![8, 4096, 1024]⟩
abbrev S8x1024x1024 : Shape := ⟨3, ![8, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S8x4096x1024, .bf16⟩
  | .hbm, ⟨2, _⟩ => ⟨S4096x1024, .bf16⟩
  | .hbm, ⟨3, _⟩ => ⟨S8x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RInIdeal.lean ====
abbrev S4096x1024 : Shape := ⟨2, ![4096, 1024]⟩
abbrev S8x4096x1024 : Shape := ⟨3, ![8, 4096, 1024]⟩
abbrev S_ : Shape := ⟨0, ![]⟩
abbrev S8x1024x1024 : Shape := ⟨3, ![8, 1024, 1024]⟩
abbrev S8x1024x4096 : Shape := ⟨3, ![8, 1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x4096x1024, .bf16⟩
  | .hbm, ⟨2, _⟩ => ⟨S_, .f32⟩
  | .hbm, ⟨3, _⟩ => ⟨S8x1024x1024, .f32⟩
  | .hbm, ⟨4, _⟩ => ⟨S8x1024x4096, .f32⟩
  | .hbm, ⟨5, _⟩ => ⟨S8x4096x1024, .f32⟩
  | .hbm, ⟨6, _⟩ => ⟨S8x4096x1024, .f32⟩
  | .hbm, ⟨7, _⟩ => ⟨S8x1024x4096, .f32⟩
  | .hbm, ⟨8, _⟩ => ⟨S8x1024x1024, .f32⟩
  | .hbm, ⟨9, _⟩ => ⟨S8x1024x1024, .f32⟩
  | .hbm, ⟨10, _⟩ => ⟨S8x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KGu.lean ====
abbrev S4096x1024 : Shape := ⟨2, ![4096, 1024]⟩
abbrev S4096x2816 : Shape := ⟨2, ![4096, 2816]⟩
abbrev S1x4096x2816 : Shape := ⟨3, ![1, 4096, 2816]⟩
abbrev S1x1024x2816 : Shape := ⟨3, ![1, 1024, 2816]⟩
abbrev S1024x1024 : Shape := ⟨2, ![1024, 1024]⟩
abbrev S1x1024x1408 : Shape := ⟨3, ![1, 1024, 1408]⟩
abbrev S1024x1408 : Shape := ⟨2, ![1024, 1408]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1x4096x2816, .bf16⟩
  | .hbm, ⟨3, _⟩ => ⟨S1x1024x2816, .bf16⟩
  | .hbm, ⟨4, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond2 (i : grid0.Coords) : BitVec 1 :=
  let arg3 : BitVec 32 := BitVec.ofNat 32 (i 3).val
  let c3_i32 : BitVec 32 := 3#32
  let v12 : BitVec 1 := Scalar.cmpi .eq arg3 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RGuIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KGd.lean ====
abbrev S4096x2816 : Shape := ⟨2, ![4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S1024x1408 : Shape := ⟨2, ![1024, 1408]⟩
abbrev S1x1024x1024 : Shape := ⟨3, ![1, 1024, 1024]⟩
abbrev S1x1408x1024 : Shape := ⟨3, ![1, 1408, 1024]⟩
abbrev S1408x1024 : Shape := ⟨2, ![1408, 1024]⟩
abbrev S1024x1024 : Shape := ⟨2, ![1024, 1024]⟩
abbrev S2816x1024 : Shape := ⟨2, ![2816, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x1024, .bf16⟩
  | .hbm, ⟨3, _⟩ => ⟨S1x2816x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v12 : BitVec 1 := Scalar.cmpi .eq arg3 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RGdIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KGo.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v12 : BitVec 1 := Scalar.cmpi .eq arg3 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== RGoIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KGp.lean ====
abbrev S4096x256 : Shape := ⟨2, ![4096, 256]⟩
abbrev S4096x1024 : Shape := ⟨2, ![4096, 1024]⟩
abbrev S1x4096x1024 : Shape := ⟨3, ![1, 4096, 1024]⟩
abbrev S1x256x1024 : Shape := ⟨3, ![1, 256, 1024]⟩
abbrev S1024x256 : Shape := ⟨2, ![1024, 256]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S1x4096x1024, .bf16⟩
  | .hbm, ⟨3, _⟩ => ⟨S1x256x1024, .bf16⟩
  | .hbm, ⟨4, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v12 : BitVec 1 := Scalar.cmpi .eq arg3 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== RGpIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDh.lean ====
abbrev S4096x1024 : Shape := ⟨2, ![4096, 1024]⟩
abbrev S2816x1024 : Shape := ⟨2, ![2816, 1024]⟩
abbrev S1x4096x1024 : Shape := ⟨3, ![1, 4096, 1024]⟩
abbrev S1x2816x1024 : Shape := ⟨3, ![1, 2816, 1024]⟩
abbrev S1x4096x2816 : Shape := ⟨3, ![1, 4096, 2816]⟩
abbrev S1x1024x1024 : Shape := ⟨3, ![1, 1024, 1024]⟩
abbrev S1x1408x1024 : Shape := ⟨3, ![1, 1408, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩
abbrev S4096x2816 : Shape := ⟨2, ![4096, 2816]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S1x4096x1024, .bf16⟩
  | .hbm, ⟨3, _⟩ => ⟨S1x2816x1024, .bf16⟩
  | .hbm, ⟨4, _⟩ => ⟨S1x4096x2816, .bf16⟩
  | .hbm, ⟨5, _⟩ => ⟨S4096x2816, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1024x1408, .bf16⟩
  | .local _ .vmem, ⟨5, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RDhIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDm.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x4096x1024, .bf16⟩
  | .hbm, ⟨3, _⟩ => ⟨S1x1024x1024, .bf16⟩
  | .hbm, ⟨4, _⟩ => ⟨S1x4096x1024, .bf16⟩
  | .hbm, ⟨5, _⟩ => ⟨S4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RDmIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDy.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x4096x1024, .bf16⟩
  | .hbm, ⟨3, _⟩ => ⟨S1x1024x1024, .bf16⟩
  | .hbm, ⟨4, _⟩ => ⟨S1x4096x1024, .f32⟩
  | .hbm, ⟨5, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RDyIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KXg.lean ====
abbrev S4096x2816 : Shape := ⟨2, ![4096, 2816]⟩
abbrev S1024x2816 : Shape := ⟨2, ![1024, 2816]⟩
abbrev S4096x1024 : Shape := ⟨2, ![4096, 1024]⟩
abbrev S1x4096x2816 : Shape := ⟨3, ![1, 4096, 2816]⟩
abbrev S1x1024x2816 : Shape := ⟨3, ![1, 1024, 2816]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S1x4096x2816, .bf16⟩
  | .hbm, ⟨4, _⟩ => ⟨S1x1024x2816, .bf16⟩
  | .hbm, ⟨5, _⟩ => ⟨S1x4096x1024, .f32⟩
  | .hbm, ⟨6, _⟩ => ⟨S1x4096x1024, .f32⟩
  | .hbm, ⟨7, _⟩ => ⟨S4096x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== RXgIdeal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KXv.lean ====
abbrev S4096x2816 : Shape := ⟨2, ![4096, 2816]⟩
abbrev S1024x2816 : Shape := ⟨2, ![1024, 2816]⟩
abbrev S4096x1024 : Shape := ⟨2, ![4096, 1024]⟩
abbrev S1x4096x2816 : Shape := ⟨3, ![1, 4096, 2816]⟩
abbrev S1x1024x2816 : Shape := ⟨3, ![1, 1024, 2816]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S1x4096x2816, .bf16⟩
  | .hbm, ⟨4, _⟩ => ⟨S1x1024x2816, .bf16⟩
  | .hbm, ⟨5, _⟩ => ⟨S1x4096x1024, .f32⟩
  | .hbm, ⟨6, _⟩ => ⟨S1x4096x1024, .f32⟩
  | .hbm, ⟨7, _⟩ => ⟨S4096x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== RXvIdeal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KXp.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x4096x1024, .bf16⟩
  | .hbm, ⟨4, _⟩ => ⟨S1x1024x1024, .bf16⟩
  | .hbm, ⟨5, _⟩ => ⟨S1x4096x1024, .f32⟩
  | .hbm, ⟨6, _⟩ => ⟨S1x4096x1024, .f32⟩
  | .hbm, ⟨7, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== RXpIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KDx.lean ====
abbrev S8x4096x1024 : Shape := ⟨3, ![8, 4096, 1024]⟩
abbrev S8x1024x1024 : Shape := ⟨3, ![8, 1024, 1024]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .bf16⟩
  | .hbm, ⟨1, _⟩ => ⟨S8x1024x1024, .bf16⟩
  | .hbm, ⟨2, _⟩ => ⟨S4096x1024, .f32⟩
  | .hbm, ⟨3, _⟩ => ⟨S1x4096x1024, .f32⟩
  | .hbm, ⟨4, _⟩ => ⟨S1x4096x1024, .f32⟩
  | .hbm, ⟨5, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== RDxIdeal.lean ====
abbrev S8x4096x1024 : Shape := ⟨3, ![8, 4096, 1024]⟩
abbrev S8x1024x1024 : Shape := ⟨3, ![8, 1024, 1024]⟩
abbrev S4096x1024 : Shape := ⟨2, ![4096, 1024]⟩
abbrev S_ : Shape := ⟨0, ![]⟩
abbrev S8x1024x4096 : Shape := ⟨3, ![8, 1024, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S8x1024x1024, .f32⟩
  | .hbm, ⟨9, _⟩ => ⟨S8x1024x4096, .f32⟩
  | .hbm, ⟨10, _⟩ => ⟨S8x4096x1024, .f32⟩
  | .hbm, ⟨11, _⟩ => ⟨S8x4096x1024, .f32⟩
  | .hbm, ⟨12, _⟩ => ⟨S8x1024x4096, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== KFs.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x4096x1024, .bf16⟩
  | .hbm, ⟨3, _⟩ => ⟨S1x1024x1024, .bf16⟩
  | .hbm, ⟨4, _⟩ => ⟨S1x4096x1024, .f32⟩
  | .hbm, ⟨5, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RFsIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KFu.lean ====
abbrev S4096x1024 : Shape := ⟨2, ![4096, 1024]⟩
abbrev S1024x2816 : Shape := ⟨2, ![1024, 2816]⟩
abbrev S1x4096x1024 : Shape := ⟨3, ![1, 4096, 1024]⟩
abbrev S1x1024x2816 : Shape := ⟨3, ![1, 1024, 2816]⟩
abbrev S1x4096x2816 : Shape := ⟨3, ![1, 4096, 2816]⟩
abbrev S1x1024x1024 : Shape := ⟨3, ![1, 1024, 1024]⟩
abbrev S1x1024x1408 : Shape := ⟨3, ![1, 1024, 1408]⟩
abbrev S1024x1024 : Shape := ⟨2, ![1024, 1024]⟩
abbrev S1024x1408 : Shape := ⟨2, ![1024, 1408]⟩
abbrev S4096x2816 : Shape := ⟨2, ![4096, 2816]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1x4096x1024, .bf16⟩
  | .hbm, ⟨3, _⟩ => ⟨S1x1024x2816, .bf16⟩
  | .hbm, ⟨4, _⟩ => ⟨S1x4096x2816, .f32⟩
  | .hbm, ⟨5, _⟩ => ⟨S4096x2816, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RFuIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .f32⟩
  | .hbm, ⟨3, _⟩ => ⟨S1024x2816, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KFd.lean ====
abbrev S4096x2816 : Shape := ⟨2, ![4096, 2816]⟩
abbrev S2816x1024 : Shape := ⟨2, ![2816, 1024]⟩
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x1024x2816 : Shape := ⟨3, ![1, 1024, 2816]⟩
abbrev S1x1024x1024 : Shape := ⟨3, ![1, 1024, 1024]⟩
abbrev S1024x2816 : Shape := ⟨2, ![1024, 2816]⟩
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x4096x2816, .bf16⟩
  | .hbm, ⟨3, _⟩ => ⟨S1x2816x1024, .bf16⟩
  | .hbm, ⟨4, _⟩ => ⟨S1x4096x1024, .f32⟩
  | .hbm, ⟨5, _⟩ => ⟨S4096x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x2816x1024, .bf16⟩
  | .local _ .vmem, ⟨3, _⟩ => ⟨S1x1024x1024, .f32⟩
  | .local _ .vmem, ⟨4, _⟩ => ⟨S1x1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RFdIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KFp.lean ====
abbrev S4096x256 : Shape := ⟨2, ![4096, 256]⟩
abbrev S256x1024 : Shape := ⟨2, ![256, 1024]⟩
abbrev S1x4096x256 : Shape := ⟨3, ![1, 4096, 256]⟩
abbrev S1x256x1024 : Shape := ⟨3, ![1, 256, 1024]⟩
abbrev S1x4096x1024 : Shape := ⟨3, ![1, 4096, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S1x4096x256, .bf16⟩
  | .hbm, ⟨3, _⟩ => ⟨S1x256x1024, .bf16⟩
  | .hbm, ⟨4, _⟩ => ⟨S1x4096x1024, .f32⟩
  | .hbm, ⟨5, _⟩ => ⟨S4096x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .bf16⟩
  | .local _ .vmem, ⟨3, _⟩ => ⟨S1x1024x1024, .f32⟩
  | .local _ .vmem, ⟨4, _⟩ => ⟨S1x1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RFpIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KMb.lean ====
abbrev S8x4096x1024 : Shape := ⟨3, ![8, 4096, 1024]⟩
abbrev S4096x1024 : Shape := ⟨2, ![4096, 1024]⟩
abbrev S1x512x1024 : Shape := ⟨3, ![1, 512, 1024]⟩
abbrev S512x1024 : Shape := ⟨2, ![512, 1024]⟩
abbrev S2x512x1024 : Shape := ⟨3, ![2, 512, 1024]⟩
abbrev S1x4096x1024 : Shape := ⟨3, ![1, 4096, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S8x4096x1024, .bf16⟩
  | .hbm, ⟨5, _⟩ => ⟨S4096x1024, .bf16⟩
  | .hbm, ⟨6, _⟩ => ⟨S4096x1024, .bf16⟩
  | .hbm, ⟨7, _⟩ => ⟨S1x4096x1024, .bf16⟩
  | .hbm, ⟨8, _⟩ => ⟨S4096x1024, .bf16⟩
  | .hbm, ⟨9, _⟩ => ⟨S1x4096x1024, .bf16⟩
  | .hbm, ⟨10, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S2x512x1024, .bf16⟩
  | .local _ .vmem, ⟨11, _⟩ => ⟨S2x512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_1 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RMbIdeal.lean ====
abbrev S8x4096x1024 : Shape := ⟨3, ![8, 4096, 1024]⟩
abbrev S4096x1024 : Shape := ⟨2, ![4096, 1024]⟩
abbrev S1x4096x1024 : Shape := ⟨3, ![1, 4096, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S4096x1024, .f32⟩
  | .hbm, ⟨7, _⟩ => ⟨S1x4096x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== KMf.lean ====
abbrev S8x4096x1024 : Shape := ⟨3, ![8, 4096, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_1 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RMfIdeal.lean ====
abbrev S8x4096x1024 : Shape := ⟨3, ![8, 4096, 1024]⟩
abbrev S4096x1024 : Shape := ⟨2, ![4096, 1024]⟩
abbrev S1x4096x1024 : Shape := ⟨3, ![1, 4096, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S1x4096x1024, .bf16⟩
  | .hbm, ⟨4, _⟩ => ⟨S4096x1024, .bf16⟩
  | .hbm, ⟨5, _⟩ => ⟨S4096x1024, .f32⟩
  | .hbm, ⟨6, _⟩ => ⟨S1x4096x1024, .bf16⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KLf.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RLfIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KCf.lean ====
abbrev S4096x2816 : Shape := ⟨2, ![4096, 2816]⟩
abbrev S3x2816 : Shape := ⟨2, ![3, 2816]⟩
abbrev S1x2816 : Shape := ⟨2, ![1, 2816]⟩
abbrev S256x2816 : Shape := ⟨2, ![256, 2816]⟩
abbrev S8x2816 : Shape := ⟨2, ![8, 2816]⟩

abbrev nBuf : Space → Nat
  | .hbm => 5
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S1x2816, .f32⟩
  | .hbm, ⟨4, _⟩ => ⟨S4096x2816, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S3x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KCfIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== RCfIdeal.lean ====
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S4098x2816 : Shape := ⟨2, ![4098, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S1x2816, .f32⟩
  | .hbm, ⟨4, _⟩ => ⟨S_, .f32⟩
  | .hbm, ⟨5, _⟩ => ⟨S2x2816, .f32⟩
  | .hbm, ⟨6, _⟩ => ⟨S4098x2816, .f32⟩
  | .hbm, ⟨7, _⟩ => ⟨S1x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S1x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S1x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== KCb.lean ====
abbrev S4096x2816 : Shape := ⟨2, ![4096, 2816]⟩
abbrev S3x2816 : Shape := ⟨2, ![3, 2816]⟩
abbrev S256x2816 : Shape := ⟨2, ![256, 2816]⟩
abbrev S16x2816 : Shape := ⟨2, ![16, 2816]⟩
abbrev S1x2816 : Shape := ⟨2, ![1, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S3x2816, .f32⟩
  | .hbm, ⟨2, _⟩ => ⟨S4096x2816, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S3x2816, .f32⟩
  | .local _ .vmem, ⟨5, _⟩ => ⟨S256x2816, .bf16⟩
  | .local _ .vmem, ⟨6, _⟩ => ⟨S256x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RCbIdeal.lean ====
abbrev S4096x2816 : Shape := ⟨2, ![4096, 2816]⟩
abbrev S3x2816 : Shape := ⟨2, ![3, 2816]⟩
abbrev S_ : Shape := ⟨0, ![]⟩
abbrev S1x2816 : Shape := ⟨2, ![1, 2816]⟩
abbrev S2x2816 : Shape := ⟨2, ![2, 2816]⟩
abbrev S4098x2816 : Shape := ⟨2, ![4098, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S3x2816, .f32⟩
  | .hbm, ⟨2, _⟩ => ⟨S_, .f32⟩
  | .hbm, ⟨3, _⟩ => ⟨S4096x2816, .f32⟩
  | .hbm, ⟨4, _⟩ => ⟨S_, .f32⟩
  | .hbm, ⟨5, _⟩ => ⟨S1x2816, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S_, .f32⟩
  | .hbm, ⟨10, _⟩ => ⟨S2x2816, .f32⟩
  | .hbm, ⟨11, _⟩ => ⟨S1x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S1x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4098x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4098x2816, .f32⟩
  | .hbm, ⟨36, _⟩ => ⟨S4098x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4098x2816, .f32⟩
  | .hbm, ⟨41, _⟩ => ⟨S4098x2816, .f32⟩
  | .hbm, ⟨42, _⟩ => ⟨S2x2816, .f32⟩
  | .hbm, ⟨43, _⟩ => ⟨S4096x2816, .f32⟩
  | .hbm, ⟨44, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== KLb.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RLbIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== KCa.lean ====
abbrev S4096x2816 : Shape := ⟨2, ![4096, 2816]⟩
abbrev S3x2816 : Shape := ⟨2, ![3, 2816]⟩
abbrev S1x2816 : Shape := ⟨2, ![1, 2816]⟩
abbrev S256x2816 : Shape := ⟨2, ![256, 2816]⟩
abbrev S8x2816 : Shape := ⟨2, ![8, 2816]⟩
abbrev S2816 : Shape := ⟨1, ![2816]⟩

abbrev nBuf : Space → Nat
  | .hbm => 12
  | .vmem => 18
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .bf16⟩
  | .hbm, ⟨3, _⟩ => ⟨S3x2816, .f32⟩
  | .hbm, ⟨4, _⟩ => ⟨S1x2816, .f32⟩
  | .hbm, ⟨5, _⟩ => ⟨S4096x2816, .bf16⟩
  | .hbm, ⟨6, _⟩ => ⟨S4096x2816, .bf16⟩
  | .hbm, ⟨7, _⟩ => ⟨S1x2816, .f32⟩
  | .hbm, ⟨8, _⟩ => ⟨S1x2816, .f32⟩
  | .hbm, ⟨9, _⟩ => ⟨S1x2816, .f32⟩
  | .hbm, ⟨10, _⟩ => ⟨S1x2816, .f32⟩
  | .hbm, ⟨11, _⟩ => ⟨S3x2816, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .bf16⟩
  | .local _ .vmem, ⟨7, _⟩ => ⟨S256x2816, .bf16⟩
  | .local _ .vmem, ⟨8, _⟩ => ⟨S3x2816, .f32⟩
  | .local _ .vmem, ⟨9, _⟩ => ⟨S1x2816, .f32⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S1x2816, .f32⟩
  | .local _ .vmem, ⟨15, _⟩ => ⟨S1x2816, .f32⟩
  | .local _ .vmem, ⟨16, _⟩ => ⟨S1x2816, .f32⟩
  | .local _ .vmem, ⟨17, _⟩ => ⟨S1x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KCaIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== RCaIdeal.lean ====
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩

abbrev nBuf : Space → Nat
  | .hbm => 121
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .bf16⟩
  | .hbm, ⟨3, _⟩ => ⟨S3x2816, .f32⟩
  | .hbm, ⟨4, _⟩ => ⟨S1x2816, .f32⟩
  | .hbm, ⟨5, _⟩ => ⟨S_, .f32⟩
  | .hbm, ⟨6, _⟩ => ⟨S2x2816, .f32⟩
  | .hbm, ⟨7, _⟩ => ⟨S4098x2816, .f32⟩
  | .hbm, ⟨8, _⟩ => ⟨S1x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S1x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S_, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S_, .f32⟩
  | .hbm, ⟨70, _⟩ => ⟨S4096x2816, .f32⟩
  | .hbm, ⟨71, _⟩ => ⟨S4096x2816, .f32⟩
  | .hbm, ⟨72, _⟩ => ⟨S_, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S_, .f32⟩
  | .hbm, ⟨78, _⟩ => ⟨S2x2816, .f32⟩
  | .hbm, ⟨79, _⟩ => ⟨S4098x2816, .f32⟩
  | .hbm, ⟨80, _⟩ => ⟨S1x2816, .f32⟩
  | .hbm, ⟨81, _⟩ => ⟨S4096x2816, .f32⟩
  | .hbm, ⟨82, _⟩ => ⟨S4096x2816, .f32⟩
  | .hbm, ⟨83, _⟩ => ⟨S4096x2816, .f32⟩
  | .hbm, ⟨84, _⟩ => ⟨S1x2816, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S4096x2816, .f32⟩
  | .hbm, ⟨89, _⟩ => ⟨S1x2816, .f32⟩
  | .hbm, ⟨90, _⟩ => ⟨S4096x2816, .f32⟩
  | .hbm, ⟨91, _⟩ => ⟨S4096x2816, .f32⟩
  | .hbm, ⟨92, _⟩ => ⟨S4096x2816, .f32⟩
  | .hbm, ⟨93, _⟩ => ⟨S4096x2816, .f32⟩
  | .hbm, ⟨94, _⟩ => ⟨S4096x2816, .f32⟩
  | .hbm, ⟨95, _⟩ => ⟨S4096x2816, .f32⟩
  | .hbm, ⟨96, _⟩ => ⟨S_, .f32⟩
  | .hbm, ⟨97, _⟩ => ⟨S2816, .f32⟩
  | .hbm, ⟨98, _⟩ => ⟨S1x2816, .f32⟩
  | .hbm, ⟨99, _⟩ => ⟨S4096x2816, .f32⟩
  | .hbm, ⟨100, _⟩ => ⟨S_, .f32⟩
  | .hbm, ⟨101, _⟩ => ⟨S2816, .f32⟩
  | .hbm, ⟨102, _⟩ => ⟨S1x2816, .f32⟩
  | .hbm, ⟨103, _⟩ => ⟨S_, .f32⟩
  | .hbm, ⟨104, _⟩ => ⟨S3x2816, .f32⟩
  | .hbm, ⟨105, _⟩ => ⟨S4096x2816, .f32⟩
  | .hbm, ⟨106, _⟩ => ⟨S_, .f32⟩
  | .hbm, ⟨107, _⟩ => ⟨S2816, .f32⟩
  | .hbm, ⟨108, _⟩ => ⟨S1x2816, .f32⟩
  | .hbm, ⟨109, _⟩ => ⟨S_, .f32⟩
  | .hbm, ⟨110, _⟩ => ⟨S3x2816, .f32⟩
  | .hbm, ⟨111, _⟩ => ⟨S3x2816, .f32⟩
  | .hbm, ⟨112, _⟩ => ⟨S4096x2816, .f32⟩
  | .hbm, ⟨113, _⟩ => ⟨S_, .f32⟩
  | .hbm, ⟨114, _⟩ => ⟨S2816, .f32⟩
  | .hbm, ⟨115, _⟩ => ⟨S1x2816, .f32⟩
  | .hbm, ⟨116, _⟩ => ⟨S_, .f32⟩
  | .hbm, ⟨117, _⟩ => ⟨S3x2816, .f32⟩
  | .hbm, ⟨118, _⟩ => ⟨S3x2816, .f32⟩
  | .hbm, ⟨119, _⟩ => ⟨S4096x2816, .bf16⟩
  | .hbm, ⟨120, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_14 : Ref sig .tc := ⟨.hbm, 100, rfl⟩
abbrev main_v80 : Ref sig .tc := ⟨.hbm, 101, rfl⟩
abbrev main_v81 : Ref sig .tc := ⟨.hbm, 102, rfl⟩
abbrev main_cst_15 : Ref sig .tc := ⟨.hbm, 103, rfl⟩
abbrev main_v82 : Ref sig .tc := ⟨.hbm, 104, rfl⟩
abbrev main_v83 : Ref sig .tc := ⟨.hbm, 105, rfl⟩
abbrev main_cst_16 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_18 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩

abbrev nD : Nat := 1
abbrev τ : Topo := Topo.v7x

variable {F : FTy → Type} [FloatOps F]
-- ==== KSf.lean ====
abbrev S8x4096x1024 : Shape := ⟨3, ![8, 4096, 1024]⟩
abbrev S8x128x128 : Shape := ⟨3, ![8, 128, 128]⟩
abbrev S8x128 : Shape := ⟨2, ![8, 128]⟩
abbrev S1x1024 : Shape := ⟨2, ![1, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S128x8 : Shape := ⟨2, ![128, 8]⟩
abbrev S4096x1024 : Shape := ⟨2, ![4096, 1024]⟩
abbrev S1x128x1024 : Shape := ⟨3, ![1, 128, 1024]⟩
abbrev S128x1024 : Shape := ⟨2, ![128, 1024]⟩

abbrev nBuf : Space → Nat
  | .hbm => 38
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S1x128x128, .i1⟩
  | .hbm, ⟨30, _⟩ => ⟨S_, .f32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x128x128, .bf16⟩
  | .hbm, ⟨36, _⟩ => ⟨S128x8, .f32⟩
  | .hbm, ⟨37, _⟩ => ⟨S4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S8x128x128, .bf16⟩
  | .local _ .vmem, ⟨5, _⟩ => ⟨S128x8, .f32⟩
  | .local _ .vmem, ⟨6, _⟩ => ⟨S1x1024, .f32⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KSfIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== RSfIdeal.lean ====
abbrev S8x4096x1024 : Shape := ⟨3, ![8, 4096, 1024]⟩
abbrev S8x128x128 : Shape := ⟨3, ![8, 128, 128]⟩
abbrev S8x128 : Shape := ⟨2, ![8, 128]⟩
abbrev S1x1024 : Shape := ⟨2, ![1, 1024]⟩
abbrev S1x4096x1024 : Shape := ⟨3, ![1, 4096, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 117
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S32x128x8x128, .f32⟩
  | .hbm, ⟨79, _⟩ => ⟨S128, .i32⟩
  | .hbm, ⟨80, _⟩ => ⟨S_, .i32⟩
  | .hbm, ⟨81, _⟩ => ⟨S_, .i32⟩
  | .hbm, ⟨82, _⟩ => ⟨S128, .i32⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S128, .i32⟩
  | .hbm, ⟨89, _⟩ => ⟨S128, .i32⟩
  | .hbm, ⟨90, _⟩ => ⟨S_, .i32⟩
  | .hbm, ⟨91, _⟩ => ⟨S128, .i32⟩
  | .hbm, ⟨92, _⟩ => ⟨S128, .i1⟩
  | .hbm, ⟨93, _⟩ => ⟨S128, .i1⟩
  | .hbm, ⟨94, _⟩ => ⟨S_, .i32⟩
  | .hbm, ⟨95, _⟩ => ⟨S128, .i32⟩
  | .hbm, ⟨96, _⟩ => ⟨S128, .i32⟩
  | .hbm, ⟨97, _⟩ => ⟨S128, .i32⟩
  | .hbm, ⟨98, _⟩ => ⟨S128x1, .i32⟩
  | .hbm, ⟨99, _⟩ => ⟨S1x128, .i32⟩
  | .hbm, ⟨100, _⟩ => ⟨S128x128, .i32⟩
  | .hbm, ⟨101, _⟩ => ⟨S128x128, .i32⟩
  | .hbm, ⟨102, _⟩ => ⟨S128x128, .i1⟩
  | .hbm, ⟨103, _⟩ => ⟨S1x128x128, .i1⟩
  | .hbm, ⟨104, _⟩ => ⟨S_, .f32⟩
  | .hbm, ⟨105, _⟩ => ⟨S8x128x128, .i1⟩
  | .hbm, ⟨106, _⟩ => ⟨S8x128x128, .f32⟩
  | .hbm, ⟨107, _⟩ => ⟨S8x128x128, .f32⟩
  | .hbm, ⟨108, _⟩ => ⟨S8x32x128x128, .f32⟩
  | .hbm, ⟨109, _⟩ => ⟨S32x128x8x128, .f32⟩
  | .hbm, ⟨110, _⟩ => ⟨S128x8, .f32⟩
  | .hbm, ⟨111, _⟩ => ⟨S1x128x8x1, .f32⟩
  | .hbm, ⟨112, _⟩ => ⟨S32x128x8x128, .f32⟩
  | .hbm, ⟨113, _⟩ => ⟨S32x128x8x128, .f32⟩
  | .hbm, ⟨114, _⟩ => ⟨S4096x1024, .f32⟩
  | .hbm, ⟨115, _⟩ => ⟨S4096x1024, .f32⟩
  | .hbm, ⟨116, _⟩ => ⟨S4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_c : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_c_0 : Ref sig .tc := ⟨.hbm, 94, rfl⟩
abbrev main_call0_v12 : Ref sig .tc := ⟨.hbm, 95, rfl⟩
abbrev main_call0_v13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_14 : Ref sig .tc := ⟨.hbm, 104, rfl⟩
abbrev main_call1_v0 : Ref sig .tc := ⟨.hbm, 105, rfl⟩
abbrev main_call1_v1 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]
-- ==== KLl.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S8x128, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x128, .f32⟩
  | .local _ .vmem, ⟨21, _⟩ => ⟨S1x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RLlIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S1x1024, .f32⟩
  | 6 => ⟨S1x1024, .f32⟩
  | 7 => ⟨S_, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S4096, .f32⟩
  | 77 => ⟨S_, .f32⟩
  | 78 => ⟨S4096, .f32⟩
  | 79 => ⟨S4096, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1024, .f32⟩
  | 97 => ⟨S4096x1, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .bf16⟩
  | 126 => ⟨S4096x1024, .bf16⟩
  | 127 => ⟨S4096x1024, .bf16⟩
  | _ => ⟨S4096x1024, .f32⟩

abbrev hbmTy0_1 (i : Nat) : BufTy := match i % 128 with
  | 0 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_cst_15 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_cst_17 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_18 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_20 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_cst_22 : Ref sig .tc := ⟨.hbm, 102, rfl⟩
abbrev main_v72 : Ref sig .tc := ⟨.hbm, 103, rfl⟩
abbrev main_v73 : Ref sig .tc := ⟨.hbm, 104, rfl⟩
abbrev main_cst_23 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_24 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_25 : Ref sig .tc := ⟨.hbm, 115, rfl⟩
abbrev main_v82 : Ref sig .tc := ⟨.hbm, 116, rfl⟩
abbrev main_v83 : Ref sig .tc := ⟨.hbm, 117, rfl⟩
abbrev main_cst_26 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Proof.Spec.lean ====
/- The numbers the two programs compute, over the reals: the gradient of the spatial gating unit, read block of 128 rows by
   block of 128 rows, as the kernel goes through them. `U`, `V` are the two projections of a block, `DY` the gradient of its
   result, `W` the masked mixing weights, `bs` the mixing bias, `G`, `B` the gain and the bias of the layer norm. -/
module

public import Idealize.ShloMosaic.Lib.Pointwise
public import Idealize.ShloMosaic.PureOps.Ideal

@[expose] public section

noncomputable section

namespace Cert.Spec

open Idealize.ShloMosaic

/-- The rounded square root of 2/π that both programs read. -/
def K : ℝ := 13386282 / 16777216
/-- The coefficient of the cube in the gate, exactly. -/
def C : ℝ := 8943 / 200000
/-- Three times the coefficient of the cube, exactly. -/
def C3 : ℝ := 26829 / 200000
/-- The rounded constant added to the variance. -/
def eps : ℝ := 10995116 / 1099511627776

/-- The hyperbolic tangent inside the gate. -/
def th (x : ℝ) : ℝ := Real.tanh (K * x * (1 + C * (x * x)))
/-- The factor by which the gate multiplies its argument. -/
def half (x : ℝ) : ℝ := 1 / 2 * (1 + th x)
/-- The gate. -/
def gelu (x : ℝ) : ℝ := x * half x
/-- The derivative of the gate. -/
def dgelu (x : ℝ) : ℝ := half x + 1 / 2 * x * (1 - th x * th x) * K * (1 + C3 * (x * x))

/-- The mean of a row. -/
def mean (z : Fin 1024 → ℝ) : ℝ := (∑ j, z j) / 1024
/-- A row less its mean. -/
def xc (z : Fin 1024 → ℝ) (j : Fin 1024) : ℝ := z j - mean z
/-- The variance of a row. -/
def var (z : Fin 1024 → ℝ) : ℝ := (∑ j, xc z j * xc z j) / 1024
/-- The reciprocal deviation of a row. -/
def rs (z : Fin 1024 → ℝ) : ℝ := (Real.sqrt (var z + eps))⁻¹
/-- A row normalised. -/
def xh (z : Fin 1024 → ℝ) (j : Fin 1024) : ℝ := xc z j * rs z
/-- The gradient of the normalisation of the row `z` at the gradient `d` of its result. -/
def lnb (z d : Fin 1024 → ℝ) (j : Fin 1024) : ℝ :=
  rs z * (d j - mean d - xh z j * mean fun k => d k * xh z k)

theorem var_nonneg (z : Fin 1024 → ℝ) : 0 ≤ var z :=
  div_nonneg (Finset.sum_nonneg fun _ _ => mul_self_nonneg _) (by norm_num)

theorem var_eps_pos (z : Fin 1024 → ℝ) : 0 < var z + eps :=
  add_pos_of_nonneg_of_pos (var_nonneg z) (by norm_num [eps])

/-- The column `c` of the group `g`. -/
def col (g : Fin 8) (c : Fin 128) : Fin 1024 := ⟨128 * g.val + c.val, by omega⟩
/-- The group of a column. -/
def grp (j : Fin 1024) : Fin 8 := ⟨j.val / 128, by omega⟩
/-- The place of a column in its group. -/
def sub (j : Fin 1024) : Fin 128 := ⟨j.val % 128, by omega⟩
/-- The row `r` of the block `n`. -/
def row (n : Fin 32) (r : Fin 128) : Fin 4096 := ⟨128 * n.val + r.val, by omega⟩
/-- The block of a row. -/
def blk (r : Fin 4096) : Fin 32 := ⟨r.val / 128, by omega⟩
/-- The place of a row in its block. -/
def pos (r : Fin 4096) : Fin 128 := ⟨r.val % 128, by omega⟩

@[simp] theorem grp_col (g : Fin 8) (c : Fin 128) : grp (col g c) = g := Fin.ext (by simp [grp, col]; omega)
@[simp] theorem sub_col (g : Fin 8) (c : Fin 128) : sub (col g c) = c := Fin.ext (by simp [sub, col])
@[simp] theorem col_grp (j : Fin 1024) : col (grp j) (sub j) = j := Fin.ext (by simp [grp, sub, col]; omega)
@[simp] theorem blk_row (n : Fin 32) (r : Fin 128) : blk (row n r) = n := Fin.ext (by simp [blk, row]; omega)
@[simp] theorem pos_row (n : Fin 32) (r : Fin 128) : pos (row n r) = r := Fin.ext (by simp [pos, row])
@[simp] theorem row_blk (r : Fin 4096) : row (blk r) (pos r) = r := Fin.ext (by simp [blk, pos, row]; omega)

section Block
variable (U V DY : Fin 128 → Fin 1024 → ℝ) (W : Fin 8 → Fin 128 → Fin 128 → ℝ) (bs : Fin 8 → Fin 128 → ℝ) (G B : Fin 1024 → ℝ)

/-- The gated second projection. -/
def gv (s : Fin 128) : Fin 1024 → ℝ := fun j => gelu (V s j)
/-- The layer norm of the gated second projection. -/
def vn (s : Fin 128) (j : Fin 1024) : ℝ := xh (gv V s) j * G j + B j
/-- The mixed rows of the block. -/
def mix (t : Fin 128) (j : Fin 1024) : ℝ := (∑ s, W (grp j) t s * vn V G B s j) + bs (grp j) t
/-- The gradient of the first projection. -/
def du (t : Fin 128) (j : Fin 1024) : ℝ := DY t j * mix V W bs G B t j * dgelu (U t j)
/-- The gradient of the mixed rows. -/
def dmx (t : Fin 128) (j : Fin 1024) : ℝ := DY t j * gelu (U t j)
/-- The gradient of the layer norm's result. -/
def dvn (s : Fin 128) (j : Fin 1024) : ℝ := ∑ t, W (grp j) t s * dmx U DY t j
/-- The gradient of the second projection. -/
def dv (s : Fin 128) (j : Fin 1024) : ℝ := lnb (gv V s) (fun k => dvn U DY W s k * G k) j * dgelu (V s j)
/-- What a block adds to the gradient of the mixing weights, before the mask. -/
def dw (g : Fin 8) (t s : Fin 128) : ℝ := ∑ c, dmx U DY t (col g c) * vn V G B s (col g c)
/-- What a block adds to the gradient of the mixing bias. -/
def dbs (g : Fin 8) (t : Fin 128) : ℝ := ∑ c, dmx U DY t (col g c)
/-- What a block adds to the gradient of the layer norm's gain. -/
def dg (j : Fin 1024) : ℝ := ∑ s, dvn U DY W s j * xh (gv V s) j
/-- What a block adds to the gradient of the layer norm's bias. -/
def db (j : Fin 1024) : ℝ := ∑ s, dvn U DY W s j
end Block

/-! ### Sums over all rows and over all columns -/

/-- The 1024 columns are the eight groups of 128. -/
theorem sum_col {M : Type*} [AddCommMonoid M] (f : Fin 1024 → M) : ∑ j, f j = ∑ g, ∑ c, f (col g c) := by
  rw [← Fintype.sum_prod_type' (f := fun g c => f (col g c))]
  exact (Fintype.sum_equiv (⟨fun p => col p.1 p.2, fun j => (grp j, sub j), fun p => by simp, fun j => by simp⟩ : Fin 8 × Fin 128 ≃ Fin 1024) _ _ fun _ => rfl).symm

/-- The 4096 rows are the 32 blocks of 128. -/
theorem sum_row {M : Type*} [AddCommMonoid M] (f : Fin 4096 → M) : ∑ r, f r = ∑ n, ∑ r, f (row n r) := by
  rw [← Fintype.sum_prod_type' (f := fun n r => f (row n r))]
  exact (Fintype.sum_equiv (⟨fun p => row p.1 p.2, fun r => (blk r, pos r), fun p => by simp, fun r => by simp⟩ : Fin 32 × Fin 128 ≃ Fin 4096) _ _ fun _ => rfl).symm

/-! ### Reals as extended reals -/

/-- A sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient by a real that is not zero. -/
theorem div_coe' (x y : ℝ) (h : y ≠ 0) : Ideal.div (x : EReal) (y : EReal) = ((x / y : ℝ) : EReal) := by
  rw [Ideal.div_coe h, ← EReal.coe_mul, mul_one_div]

/-- The reciprocal square root of a positive real. -/
theorem rsqrt_coe' (x : ℝ) (h : 0 < x) : Ideal.rsqrt (x : EReal) = (((Real.sqrt x)⁻¹ : ℝ) : EReal) := by
  rw [Ideal.rsqrt_coe, if_neg h.le.not_gt, if_neg h.ne']

/-! ### The constants' words -/

theorem word_K : Ideal.ofBits .f32 0x3F4C422A#32 = ((K : ℝ) : EReal) := by
  simp [Ideal.ofBits, Ideal.ieee, K]; norm_num [← EReal.coe_mul]
theorem word_eps : Ideal.ofBits .f32 0x3727C5AC#32 = ((eps : ℝ) : EReal) := by
  simp [Ideal.ofBits, Ideal.ieee, eps]; norm_num [← EReal.coe_mul]
theorem word_half : Ideal.ofBits .f32 0x3F000000#32 = ((1 / 2 : ℝ) : EReal) := by
  simp [Ideal.ofBits, Ideal.ieee]; norm_num [← EReal.coe_mul]
theorem word_one : Ideal.ofBits .f32 0x3F800000#32 = ((1 : ℝ) : EReal) := by
  simp [Ideal.ofBits, Ideal.ieee]; norm_num [← EReal.coe_mul]
theorem word_zero : Ideal.ofBits .f32 0x00000000#32 = ((0 : ℝ) : EReal) := by
  simp [Ideal.ofBits, Ideal.ieee]
theorem word_width : Ideal.ofBits .f32 0x44800000#32 = ((1024 : ℝ) : EReal) := by
  simp [Ideal.ofBits, Ideal.ieee]; norm_num [← EReal.coe_mul]

end Cert.Spec
-- ==== Proof.Mask.lean ====
module

public import proofs.«01_k».proof.Proof.Spec
public import proofs.«01_k».proof.Proof.Gen.ReferenceIdeal.Read
public import Idealize.ShloMosaic.Lib.Tactic

@[expose] public section
noncomputable section
namespace Cert.Mask
open Cert.ReferenceIdeal Cert.ReferenceIdeal.Read Cert.Spec Idealize.ShloMosaic Idealize.ShloMosaic.TcCoe Idealize.SL.Sem

/-- The sign of a word, as a word. -/
def sg (x : BitVec 32) : BitVec 32 := if x = 0 then 0 else if x.msb then -1 else 1

theorem corner (t : Fin 128) : ¬ IntOp.SDivCorner (BitVec.ofNat 32 t.val) 64#32 := by revert t; decide +kernel
theorem quo (t : Fin 128) : (BitVec.ofNat 32 t.val).sdiv 64#32 = BitVec.ofNat 32 (t.val / 64) := by revert t; decide +kernel
theorem off (t : Fin 128) : IntOp.andi (IntOp.cmpi .ne (sg (BitVec.ofNat 32 t.val))
    (sg 64#32)) (IntOp.cmpi .ne ((BitVec.ofNat 32 t.val).srem 64#32) 0#32) = 0#1 := by revert t; decide +kernel

/-- The chunk of 64 rows that a row of the block lies in. -/
theorem chunk (t : Fin 128) : val_main_v81 (F := Ideal) (ix1 t) = BitVec.ofNat 32 (t.val / 64) := by
  simp only [val_main_v81_apply, val_main_call0_v13_apply, val_main_call0_v12_apply, val_main_call0_v11_apply, val_main_call0_v10_apply, val_main_call0_v9_apply, val_main_call0_v8_apply, val_main_call0_v7_apply, val_main_call0_v6_apply, val_main_call0_v5_apply, val_main_call0_v2_apply, val_main_call0_v1_apply, val_main_call0_v0_apply, val_main_c_apply, val_main_call0_c_apply, val_main_call0_c_0_apply, val_main_v80_apply]
  unfold val_main_call0_v3 val_main_call0_v4
  simp only [signi, val_main_v80_apply, val_main_call0_v0_apply, val_main_c_apply]
  show Scalar.select (IntOp.andi (IntOp.cmpi .ne (sg (BitVec.ofNat 32 t.val))
    (sg 64#32)) (IntOp.cmpi .ne (IntOp.remsi .host (BitVec.ofNat 32 t.val) 64#32) 0#32))
    (IntOp.subi (IntOp.divsi .host (BitVec.ofNat 32 t.val) 64#32) 1#32) (IntOp.divsi .host (BitVec.ofNat 32 t.val) 64#32) = BitVec.ofNat 32 (t.val / 64)
  rw [show IntOp.remsi .host (BitVec.ofNat 32 t.val) 64#32 = (BitVec.ofNat 32 t.val).srem 64#32 from if_neg (corner t), off t,
    show IntOp.divsi .host (BitVec.ofNat 32 t.val) 64#32 = BitVec.ofNat 32 (t.val / 64) from (if_neg (corner t)).trans (quo t)]
  rfl

/-- The mask lets row `t` read the rows of its own chunk of 64 and of the chunks before it. -/
theorem mask (t s : Fin 128) : val_main_v86 (F := Ideal) (ix2 t s) = if s.val / 64 ≤ t.val / 64 then 1#1 else 0#1 := by
  rw [val_main_v86_apply, val_main_v84_apply, val_main_v85_apply, val_main_v82_apply, val_main_v83_apply]
  have h1 : idx_main_v82 (idx_main_v84 (ix2 t s)) = ix1 t := by funext a; match a with | ⟨0, _⟩ => rfl
  have h2 : idx_main_v83 (idx_main_v85 (ix2 t s)) = ix1 s := by funext a; match a with | ⟨0, _⟩ => rfl
  rw [h1, h2, chunk, chunk]
  have ht : t.val / 64 < 2 := by omega
  have hs : s.val / 64 < 2 := by omega
  generalize t.val / 64 = a at ht
  generalize s.val / 64 = b at hs
  interval_cases a <;> interval_cases b <;> decide

end Cert.Mask
end
-- ==== Proof.Pay.lean ====
/- The values of the kernel's stores, over the reals: each payload of the body at arrays of reals is an array of reals. -/
module

public import proofs.«01_k».proof.Proof.Spec
public import proofs.«01_k».proof.Proof.Gen.KernelIdeal.Skeleton
public import Idealize.ShloMosaic.Lib.Pointwise

@[expose] public section

noncomputable section

namespace Cert.Pay

open Cert.KernelIdeal Cert.KernelIdeal.Gen Cert.Spec Idealize.ShloMosaic

/-- A block of 128 rows and 1024 columns of reals. -/
abbrev Mat := Fin 128 → Fin 1024 → ℝ
/-- A block of 128 rows and 128 columns of reals. -/
abbrev Sq := Fin 128 → Fin 128 → ℝ

/-- Reals with two indices as an array of rank two. -/
def m2 {n k : Nat} (f : Fin n → Fin k → ℝ) : (⟨2, ![n, k]⟩ : Shape).Idx → EReal := fun y => ((f (y 0) (y 1) : ℝ) : EReal)
/-- Reals with three indices as an array of rank three. -/
def m3 {p n k : Nat} (f : Fin p → Fin n → Fin k → ℝ) : (⟨3, ![p, n, k]⟩ : Shape).Idx → EReal := fun y => ((f (y 0) (y 1) (y 2) : ℝ) : EReal)

theorem m2_ix {n k : Nat} (f : Fin n → Fin k → ℝ) (r : Fin n) (l : Fin k) : m2 f (ix2 r l) = ((f r l : ℝ) : EReal) := rfl
theorem m3_ix {p n k : Nat} (f : Fin p → Fin n → Fin k → ℝ) (u : Fin p) (r : Fin n) (l : Fin k) : m3 f (ix3 u r l) = ((f u r l : ℝ) : EReal) := rfl

/-- An array of rank two that holds a real at each pair of indices. -/
theorem m2_ext {n k : Nat} {x : (⟨2, ![n, k]⟩ : Shape).Idx → EReal} {f : Fin n → Fin k → ℝ} (h : ∀ r l, x (ix2 r l) = ((f r l : ℝ) : EReal)) : x = m2 f := by
  funext y; rw [eq_ix2 y]; exact h _ _
/-- An array of rank three that holds a real at each triple of indices. -/
theorem m3_ext {p n k : Nat} {x : (⟨3, ![p, n, k]⟩ : Shape).Idx → EReal} {f : Fin p → Fin n → Fin k → ℝ}
    (h : ∀ u r l, x (ix3 u r l) = ((f u r l : ℝ) : EReal)) : x = m3 f := by
  funext y; rw [eq_ix3 y]; exact h _ _ _

/-- The named constants of the gate. -/
theorem named_c : (Named.named κ "gelu_c" 0x3D372713#32 : Ideal .f32) = ((C : ℝ) : EReal) := rfl
theorem named_c3 : (Named.named κ "gelu_3c" 0x3E095D4F#32 : Ideal .f32) = ((C3 : ℝ) : EReal) := rfl

/-- A lane's number is the group's exactly where their words agree. -/
theorem lane_eq (l : Fin 128) (g : Nat) (hg : g < 128) :
    IntOp.cmpi .eq (BitVec.ofNat 32 l.val) (BitVec.ofNat 32 g) = if l.val = g then 1#1 else 0#1 := by
  have : (BitVec.ofNat 32 l.val = BitVec.ofNat 32 g) ↔ l.val = g := by
    rw [← BitVec.toNat_inj]; simp only [BitVec.toNat_ofNat]; omega
  by_cases h : l.val = g
  · simp [IntOp.cmpi, h]
  · have e : (BitVec.ofNat 32 l.val == BitVec.ofNat 32 g) = false := beq_eq_false_iff_ne.mpr fun e => h (this.mp e)
    simp [IntOp.cmpi, h, e]

/-- The first group's columns. -/
theorem col_zero (l : Fin 128) (h : l.val < 1024) : (⟨l.val, h⟩ : Fin 1024) = col 0 l := Fin.ext (by simp [col])

/-! ### The rows: the gates and the layer norm -/

theorem pay6 (U : Mat) : k0_pay6 (F := Ideal) (m3 fun _ => U) = m2 U := by
  apply m2_ext; intro r l; pointwise [k0_pay6, m3_ix]

theorem pay7 (V : Mat) : k0_pay7 (F := Ideal) (m3 fun _ => V) = m2 V := by
  apply m2_ext; intro r l; pointwise [k0_pay7, m3_ix]

theorem pay9 (V : Mat) : k0_pay9 (F := Ideal) (m3 fun _ => V) = m2 fun r j => th (V r j) := by
  apply m2_ext; intro r l
  pointwise [k0_pay9, k0_pay8, pay7, m2_ix, named_c, word_K, word_one]
  simp only [← EReal.coe_mul, ← EReal.coe_one, ← EReal.coe_add, Ideal.tanh_coe]; rfl

theorem pay10 (V : Mat) : k0_pay10 (F := Ideal) (m3 fun _ => V) = m2 fun r j => half (V r j) := by
  apply m2_ext; intro r l
  pointwise [k0_pay10, pay9, m2_ix, word_half]
  simp only [← EReal.coe_mul, ← EReal.coe_one, ← EReal.coe_add]; rfl

theorem pay11 (V : Mat) : k0_pay11 (F := Ideal) (m3 fun _ => V) = m2 (gv V) := by
  apply m2_ext; intro r l
  pointwise [k0_pay11, pay10, pay7, m2_ix]
  simp only [← EReal.coe_mul]; rfl

theorem pay12 (V : Mat) : k0_pay12 (F := Ideal) (m3 fun _ => V) = m2 fun r j => dgelu (V r j) := by
  apply m2_ext; intro r l
  pointwise [k0_pay12, k0_pay8, pay10, pay9, pay7, m2_ix, named_c3, word_half, word_K, word_one]
  simp only [← EReal.coe_mul, ← EReal.coe_one, ← EReal.coe_add, ← EReal.coe_sub]; rfl

theorem pay13 (V : Mat) : k0_pay13 (F := Ideal) (m3 fun _ => V) = m2 fun r _ => ∑ j, gv V r j := by
  apply m2_ext; intro r l
  pointwise [k0_pay13, pay11, m2_ix]
  simp only [← coe_sum]

theorem pay14 (Z : Mat) : k0_pay14 (F := Ideal) (m2 Z) (m2 fun r _ => ∑ j, Z r j) = m2 fun r j => xc (Z r) j := by
  apply m2_ext; intro r l
  pointwise [k0_pay14, m2_ix, word_width]
  rw [div_coe' _ _ (by norm_num), ← EReal.coe_sub]; rfl

theorem pay15 (Z : Mat) : k0_pay15 (F := Ideal) (m2 Z) (m2 fun r _ => ∑ j, Z r j) = m2 fun r _ => rs (Z r) := by
  apply m2_ext; intro r l
  pointwise [k0_pay15, pay14, m2_ix, word_width, word_eps]
  simp only [← EReal.coe_mul, ← coe_sum]
  rw [div_coe' _ _ (by norm_num), ← EReal.coe_add]
  exact rsqrt_coe' _ (var_eps_pos _)

theorem pay16 (Z : Mat) : k0_pay16 (F := Ideal) (m2 Z) (m2 fun r _ => ∑ j, Z r j) = m2 fun r j => xh (Z r) j := by
  apply m2_ext; intro r l
  pointwise [k0_pay16, pay15, pay14, m2_ix]
  simp only [← EReal.coe_mul]; rfl

theorem pay17 (V : Mat) (G B : Fin 1024 → ℝ) :
    k0_pay17 (F := Ideal) (m2 (gv V)) (m2 fun r _ => ∑ j, gv V r j) (m2 fun _ j => G j) (m2 fun _ j => B j) = m2 (vn V G B) := by
  apply m2_ext; intro r l
  pointwise [k0_pay17, pay16, m2_ix]
  simp only [← EReal.coe_mul, ← EReal.coe_add]; rfl

theorem pay18 (U : Mat) : k0_pay18 (F := Ideal) (m2 U) = m2 fun r j => U r j * U r j := by
  apply m2_ext; intro r l; pointwise [k0_pay18, m2_ix]; simp only [← EReal.coe_mul]

theorem pay19 (U : Mat) : k0_pay19 (F := Ideal) (m2 U) = m2 fun r j => th (U r j) := by
  apply m2_ext; intro r l
  pointwise [k0_pay19, pay18, m2_ix, named_c, word_K, word_one]
  simp only [← EReal.coe_mul, ← EReal.coe_one, ← EReal.coe_add, Ideal.tanh_coe]; rfl

theorem pay20 (U : Mat) : k0_pay20 (F := Ideal) (m2 U) = m2 fun r j => half (U r j) := by
  apply m2_ext; intro r l
  pointwise [k0_pay20, pay19, m2_ix, word_half]
  simp only [← EReal.coe_mul, ← EReal.coe_one, ← EReal.coe_add]; rfl

theorem pay21 (U : Mat) : k0_pay21 (F := Ideal) (m2 U) = m2 fun r j => gelu (U r j) := by
  apply m2_ext; intro r l
  pointwise [k0_pay21, pay20, m2_ix]
  simp only [← EReal.coe_mul]; rfl

theorem pay22 (U : Mat) : k0_pay22 (F := Ideal) (m2 U) = m2 fun r j => 1 / 2 * U r j * (1 - th (U r j) * th (U r j)) * K := by
  apply m2_ext; intro r l
  pointwise [k0_pay22, pay19, m2_ix, word_half, word_K]
  simp only [← EReal.coe_mul, ← EReal.coe_one, ← EReal.coe_sub]

theorem pay23 (U : Mat) : k0_pay23 (F := Ideal) (k0_pay18 (m2 U)) (k0_pay20 (m2 U)) (k0_pay22 (m2 U)) (Named.named κ "gelu_3c" 0x3E095D4F#32)
    = m2 fun r j => dgelu (U r j) := by
  apply m2_ext; intro r l
  pointwise [k0_pay23, pay22, pay20, pay18, m2_ix, named_c3]
  simp only [← EReal.coe_mul, ← EReal.coe_one, ← EReal.coe_add]; rfl

/-! ### The groups -/

theorem pay24 : k0_pay24 (F := Ideal) = m2 (fun _ _ => 0) := by
  apply m2_ext; intro r l; pointwise [k0_pay24]; rfl

theorem pay25 (Z : Mat) : k0_pay25 (F := Ideal) (m2 Z) = m2 (fun t c => Z t (col 0 c)) := by
  apply m2_ext; intro r l; pointwise [k0_pay25, m2_ix, m3_ix]; simp only [col_zero]

theorem pay27 (Gu : Mat) (D : Sq) : k0_pay27 (F := Ideal) (m2 Gu) (m2 D) = m2 (fun t c => D t c * Gu t (col 0 c)) := by
  apply m2_ext; intro r l; pointwise [k0_pay27, m2_ix, m3_ix]
  simp only [← EReal.coe_mul, ← coe_sum, ← EReal.coe_add, col_zero] <;> rfl

theorem pay28 (Gu : Mat) (D : Sq) : k0_pay28 (F := Ideal) (m2 Gu) (m2 D) = m2 (fun t c => D t c * Gu t (col 0 c)) := by
  apply m2_ext; intro r l; pointwise [k0_pay28, k0_pay27, m2_ix, m3_ix]
  simp only [← EReal.coe_mul, ← coe_sum, ← EReal.coe_add, col_zero] <;> rfl

theorem pay29 (Gu : Mat) (D : Sq) (w : Sq) : k0_pay29 (F := Ideal) (m2 Gu) (m2 D) (m3 fun _ => w) = m2 (fun s c => ∑ t, w s t * (D t c * Gu t (col 0 c))) := by
  apply m2_ext; intro r l; pointwise [k0_pay29, k0_pay28, k0_pay27, m2_ix, m3_ix]
  simp only [← EReal.coe_mul, ← coe_sum, ← EReal.coe_add, col_zero] <;> rfl

theorem pay30 (zg : Sq) (dm : Sq) (A : Sq) : k0_pay30 (F := Ideal) (m2 zg) (m2 dm) (m3 fun _ => A) = m3 (fun _ t s => A t s + ∑ c, dm t c * zg s c) := by
  apply m3_ext; intro u r l; obtain rfl : u = 0 := Subsingleton.elim _ _; pointwise [k0_pay30, m2_ix, m3_ix]
  simp only [← EReal.coe_mul, ← coe_sum, ← EReal.coe_add, col_zero] <;> rfl

theorem pay31 (acc : Sq) (dm : Sq) (hi : S128x128.Iotas .tc 32 [1]) : k0_pay31 (F := Ideal) (iota .tc S128x128 32 [1] hi) (m2 acc) (m2 dm) = m2 (fun t l => acc t l + if l.val = 0 then ∑ c, dm t c else 0) := by
  apply m2_ext; intro r l; pointwise [k0_pay31, m2_ix, m3_ix]
  rw [lane_eq l 0 (by norm_num)]; by_cases h : l.val = 0 <;> simp [h, Scalar.select, coe_sum, word_zero] <;> rfl

theorem pay32 (Z : Mat) : k0_pay32 (F := Ideal) (m2 Z) = m2 (fun t c => Z t (col 1 c)) := by
  apply m2_ext; intro r l; pointwise [k0_pay32, m2_ix, m3_ix]; rfl

theorem pay33 (Z : Mat) (P : Mat) (w : Sq) (b : Fin 128 → ℝ) (D : Sq) : k0_pay33 (F := Ideal) (m2 Z) (m2 P) (m3 fun _ => w) (m2 fun t _ => b t) (m2 D) = m3 (fun _ t c => D t c * ((∑ s, w t s * Z s (col 1 c)) + b t) * P t (col 1 c)) := by
  apply m3_ext; intro u r l; obtain rfl : u = 0 := Subsingleton.elim _ _; pointwise [k0_pay33, k0_pay32, m2_ix, m3_ix]
  simp only [← EReal.coe_mul, ← coe_sum, ← EReal.coe_add] <;> rfl

theorem pay34 (Gu : Mat) : k0_pay34 (F := Ideal) (m2 Gu) = m2 (fun t c => Gu t (col 1 c)) := by
  apply m2_ext; intro r l; pointwise [k0_pay34, m2_ix, m3_ix]; rfl

theorem pay35 (D : Sq) : k0_pay35 (F := Ideal) (m2 D) = m2 D := by
  apply m2_ext; intro r l; pointwise [k0_pay35, m2_ix, m3_ix]

theorem pay36 (gs : Sq) (D : Sq) : k0_pay36 (F := Ideal) (m2 gs) (m2 D) = m2 (fun t c => D t c * gs t c) := by
  apply m2_ext; intro r l; pointwise [k0_pay36, m2_ix, m3_ix]
  simp only [← EReal.coe_mul, ← coe_sum, ← EReal.coe_add] <;> rfl

theorem pay37 (gs : Sq) (D : Sq) : k0_pay37 (F := Ideal) (m2 gs) (m2 D) = m2 (fun t c => D t c * gs t c) := by
  apply m2_ext; intro r l; pointwise [k0_pay37, k0_pay36, m2_ix, m3_ix]
  simp only [← EReal.coe_mul, ← coe_sum, ← EReal.coe_add] <;> rfl

theorem pay38 (gs : Sq) (D : Sq) (w : Sq) : k0_pay38 (F := Ideal) (m2 gs) (m2 D) (m3 fun _ => w) = m2 (fun s c => ∑ t, w s t * (D t c * gs t c)) := by
  apply m2_ext; intro r l; pointwise [k0_pay38, k0_pay37, k0_pay36, m2_ix, m3_ix]
  simp only [← EReal.coe_mul, ← coe_sum, ← EReal.coe_add] <;> rfl

theorem pay39 (zg : Sq) (gs : Sq) (D : Sq) (A : Sq) : k0_pay39 (F := Ideal) (m2 zg) (m2 gs) (m2 D) (m3 fun _ => A) = m3 (fun _ t s => A t s + ∑ c, (D t c * gs t c) * zg s c) := by
  apply m3_ext; intro u r l; obtain rfl : u = 0 := Subsingleton.elim _ _; pointwise [k0_pay39, k0_pay37, k0_pay36, m2_ix, m3_ix]
  simp only [← EReal.coe_mul, ← coe_sum, ← EReal.coe_add] <;> rfl

theorem pay40 (acc : Sq) (gs : Sq) (D : Sq) (hi : S128x128.Iotas .tc 32 [1]) : k0_pay40 (F := Ideal) (iota .tc S128x128 32 [1] hi) (m2 acc) (m2 gs) (m2 D) = m2 (fun t l => acc t l + if l.val = 1 then ∑ c, D t c * gs t c else 0) := by
  apply m2_ext; intro r l; pointwise [k0_pay40, k0_pay36, m2_ix, m3_ix]
  rw [lane_eq l 1 (by norm_num)]; by_cases h : l.val = 1 <;> simp [h, Scalar.select, coe_sum, word_zero] <;> rfl

theorem pay41 (Z : Mat) : k0_pay41 (F := Ideal) (m2 Z) = m2 (fun t c => Z t (col 2 c)) := by
  apply m2_ext; intro r l; pointwise [k0_pay41, m2_ix, m3_ix]; rfl

theorem pay42 (Z : Mat) (w : Sq) (b : Fin 128 → ℝ) : k0_pay42 (F := Ideal) (m2 Z) (m3 fun _ => w) (m2 fun t _ => b t) = m2 (fun t c => (∑ s, w t s * Z s (col 2 c)) + b t) := by
  apply m2_ext; intro r l; pointwise [k0_pay42, k0_pay41, m2_ix, m3_ix]
  simp only [← EReal.coe_mul, ← coe_sum, ← EReal.coe_add] <;> rfl

theorem pay43 (D : Sq) : k0_pay43 (F := Ideal) (m2 D) = m2 D := by
  apply m2_ext; intro r l; pointwise [k0_pay43, m2_ix, m3_ix]

theorem pay44 (P : Mat) (M : Sq) (D : Sq) : k0_pay44 (F := Ideal) (m2 P) (m2 M) (m2 D) = m3 (fun _ t c => D t c * M t c * P t (col 2 c)) := by
  apply m3_ext; intro u r l; obtain rfl : u = 0 := Subsingleton.elim _ _; pointwise [k0_pay44, m2_ix, m3_ix]
  simp only [← EReal.coe_mul, ← coe_sum, ← EReal.coe_add] <;> rfl

theorem pay45 (Gu : Mat) (D : Sq) : k0_pay45 (F := Ideal) (m2 Gu) (m2 D) = m2 (fun t c => D t c * Gu t (col 2 c)) := by
  apply m2_ext; intro r l; pointwise [k0_pay45, m2_ix, m3_ix]
  simp only [← EReal.coe_mul, ← coe_sum, ← EReal.coe_add] <;> rfl

theorem pay46 (Gu : Mat) (D : Sq) : k0_pay46 (F := Ideal) (m2 Gu) (m2 D) = m2 (fun t c => D t c * Gu t (col 2 c)) := by
  apply m2_ext; intro r l; pointwise [k0_pay46, k0_pay45, m2_ix, m3_ix]
  simp only [← EReal.coe_mul, ← coe_sum, ← EReal.coe_add] <;> rfl

theorem pay47 (Gu : Mat) (D : Sq) (w : Sq) : k0_pay47 (F := Ideal) (m2 Gu) (m2 D) (m3 fun _ => w) = m2 (fun s c => ∑ t, w s t * (D t c * Gu t (col 2 c))) := by
  apply m2_ext; intro r l; pointwise [k0_pay47, k0_pay46, k0_pay45, m2_ix, m3_ix]
  simp only [← EReal.coe_mul, ← coe_sum, ← EReal.coe_add] <;> rfl

theorem pay48 (Gu : Mat) (zg : Sq) (D : Sq) (A : Sq) : k0_pay48 (F := Ideal) (m2 Gu) (m2 zg) (m2 D) (m3 fun _ => A) = m3 (fun _ t s => A t s + ∑ c, (D t c * Gu t (col 2 c)) * zg s c) := by
  apply m3_ext; intro u r l; obtain rfl : u = 0 := Subsingleton.elim _ _; pointwise [k0_pay48, k0_pay46, k0_pay45, m2_ix, m3_ix]
  simp only [← EReal.coe_mul, ← coe_sum, ← EReal.coe_add] <;> rfl

theorem pay49 (Gu : Mat) (acc : Sq) (D : Sq) (hi : S128x128.Iotas .tc 32 [1]) : k0_pay49 (F := Ideal) (m2 Gu) (iota .tc S128x128 32 [1] hi) (m2 acc) (m2 D) = m2 (fun t l => acc t l + if l.val = 2 then ∑ c, D t c * Gu t (col 2 c) else 0) := by
  apply m2_ext; intro r l; pointwise [k0_pay49, k0_pay45, m2_ix, m3_ix]
  rw [lane_eq l 2 (by norm_num)]; by_cases h : l.val = 2 <;> simp [h, Scalar.select, coe_sum, word_zero] <;> rfl

theorem pay50 (Z : Mat) : k0_pay50 (F := Ideal) (m2 Z) = m2 (fun t c => Z t (col 3 c)) := by
  apply m2_ext; intro r l; pointwise [k0_pay50, m2_ix, m3_ix]; rfl

theorem pay51 (P : Mat) (zg : Sq) (w : Sq) (b : Fin 128 → ℝ) (D : Sq) : k0_pay51 (F := Ideal) (m2 P) (m2 zg) (m3 fun _ => w) (m2 fun t _ => b t) (m2 D) = m3 (fun _ t c => D t c * ((∑ s, w t s * zg s c) + b t) * P t (col 3 c)) := by
  apply m3_ext; intro u r l; obtain rfl : u = 0 := Subsingleton.elim _ _; pointwise [k0_pay51, m2_ix, m3_ix]
  simp only [← EReal.coe_mul, ← coe_sum, ← EReal.coe_add] <;> rfl

theorem pay52 (Gu : Mat) (D : Sq) : k0_pay52 (F := Ideal) (m2 Gu) (m2 D) = m2 (fun t c => D t c * Gu t (col 3 c)) := by
  apply m2_ext; intro r l; pointwise [k0_pay52, m2_ix, m3_ix]
  simp only [← EReal.coe_mul, ← coe_sum, ← EReal.coe_add] <;> rfl

theorem pay53 (Gu : Mat) (D : Sq) : k0_pay53 (F := Ideal) (m2 Gu) (m2 D) = m2 (fun t c => D t c * Gu t (col 3 c)) := by
  apply m2_ext; intro r l; pointwise [k0_pay53, k0_pay52, m2_ix, m3_ix]
  simp only [← EReal.coe_mul, ← coe_sum, ← EReal.coe_add] <;> rfl

theorem pay54 (Gu : Mat) (D : Sq) (w : Sq) : k0_pay54 (F := Ideal) (m2 Gu) (m2 D) (m3 fun _ => w) = m2 (fun s c => ∑ t, w s t * (D t c * Gu t (col 3 c))) := by
  apply m2_ext; intro r l; pointwise [k0_pay54, k0_pay53, k0_pay52, m2_ix, m3_ix]
  simp only [← EReal.coe_mul, ← coe_sum, ← EReal.coe_add] <;> rfl

theorem pay55 (Gu : Mat) (zg : Sq) (D : Sq) (A : Sq) : k0_pay55 (F := Ideal) (m2 Gu) (m2 zg) (m2 D) (m3 fun _ => A) = m2 (fun t s => A t s + ∑ c, (D t c * Gu t (col 3 c)) * zg s c) := by
  apply m2_ext; intro r l; pointwise [k0_pay55, k0_pay53, k0_pay52, m2_ix, m3_ix]
  simp only [← EReal.coe_mul, ← coe_sum, ← EReal.coe_add] <;> rfl

theorem pay56 (M : Sq) : k0_pay56 (F := Ideal) (m2 M) = m3 (fun _ t s => M t s) := by
  apply m3_ext; intro u r l; obtain rfl : u = 0 := Subsingleton.elim _ _; pointwise [k0_pay56, m2_ix, m3_ix]

theorem pay57 (acc : Sq) (dm : Sq) (hi : S128x128.Iotas .tc 32 [1]) : k0_pay57 (F := Ideal) (iota .tc S128x128 32 [1] hi) (m2 acc) (m2 dm) = m2 (fun t l => acc t l + if l.val = 3 then ∑ c, dm t c else 0) := by
  apply m2_ext; intro r l; pointwise [k0_pay57, m2_ix, m3_ix]
  rw [lane_eq l 3 (by norm_num)]; by_cases h : l.val = 3 <;> simp [h, Scalar.select, coe_sum, word_zero] <;> rfl

theorem pay58 (Z : Mat) : k0_pay58 (F := Ideal) (m2 Z) = m2 (fun t c => Z t (col 4 c)) := by
  apply m2_ext; intro r l; pointwise [k0_pay58, m2_ix, m3_ix]; rfl

theorem pay59 (Z : Mat) (P : Mat) (w : Sq) (b : Fin 128 → ℝ) (D : Sq) : k0_pay59 (F := Ideal) (m2 Z) (m2 P) (m3 fun _ => w) (m2 fun t _ => b t) (m2 D) = m3 (fun _ t c => D t c * ((∑ s, w t s * Z s (col 4 c)) + b t) * P t (col 4 c)) := by
  apply m3_ext; intro u r l; obtain rfl : u = 0 := Subsingleton.elim _ _; pointwise [k0_pay59, k0_pay58, m2_ix, m3_ix]
  simp only [← EReal.coe_mul, ← coe_sum, ← EReal.coe_add] <;> rfl

theorem pay60 (Gu : Mat) (D : Sq) : k0_pay60 (F := Ideal) (m2 Gu) (m2 D) = m2 (fun t c => D t c * Gu t (col 4 c)) := by
  apply m2_ext; intro r l; pointwise [k0_pay60, m2_ix, m3_ix]
  simp only [← EReal.coe_mul, ← coe_sum, ← EReal.coe_add] <;> rfl

theorem pay61 (Gu : Mat) (D : Sq) : k0_pay61 (F := Ideal) (m2 Gu) (m2 D) = m2 (fun t c => D t c * Gu t (col 4 c)) := by
  apply m2_ext; intro r l; pointwise [k0_pay61, k0_pay60, m2_ix, m3_ix]
  simp only [← EReal.coe_mul, ← coe_sum, ← EReal.coe_add] <;> rfl

theorem pay62 (Gu : Mat) (D : Sq) (w : Sq) : k0_pay62 (F := Ideal) (m2 Gu) (m2 D) (m3 fun _ => w) = m2 (fun s c => ∑ t, w s t * (D t c * Gu t (col 4 c))) := by
  apply m2_ext; intro r l; pointwise [k0_pay62, k0_pay61, k0_pay60, m2_ix, m3_ix]
  simp only [← EReal.coe_mul, ← coe_sum, ← EReal.coe_add] <;> rfl

theorem pay63 (M : Sq) : k0_pay63 (F := Ideal) (m2 M) = m2 M := by
  apply m2_ext; intro r l; pointwise [k0_pay63, m2_ix, m3_ix]

theorem pay64 (zg : Sq) (dm : Sq) (A : Sq) : k0_pay64 (F := Ideal) (m2 zg) (m2 dm) (m3 fun _ => A) = m3 (fun _ t s => A t s + ∑ c, dm t c * zg s c) := by
  apply m3_ext; intro u r l; obtain rfl : u = 0 := Subsingleton.elim _ _; pointwise [k0_pay64, m2_ix, m3_ix]
  simp only [← EReal.coe_mul, ← coe_sum, ← EReal.coe_add] <;> rfl

theorem pay65 (acc : Sq) (dm : Sq) (hi : S128x128.Iotas .tc 32 [1]) : k0_pay65 (F := Ideal) (iota .tc S128x128 32 [1] hi) (m2 acc) (m2 dm) = m2 (fun t l => acc t l + if l.val = 4 then ∑ c, dm t c else 0) := by
  apply m2_ext; intro r l; pointwise [k0_pay65, m2_ix, m3_ix]
  rw [lane_eq l 4 (by norm_num)]; by_cases h : l.val = 4 <;> simp [h, Scalar.select, coe_sum, word_zero] <;> rfl

theorem pay66 (Z : Mat) : k0_pay66 (F := Ideal) (m2 Z) = m2 (fun t c => Z t (col 5 c)) := by
  apply m2_ext; intro r l; pointwise [k0_pay66, m2_ix, m3_ix]; rfl

theorem pay67 (Z : Mat) (P : Mat) (w : Sq) (b : Fin 128 → ℝ) (D : Sq) : k0_pay67 (F := Ideal) (m2 Z) (m2 P) (m3 fun _ => w) (m2 fun t _ => b t) (m2 D) = m2 (fun t c => D t c * ((∑ s, w t s * Z s (col 5 c)) + b t) * P t (col 5 c)) := by
  apply m2_ext; intro r l; pointwise [k0_pay67, k0_pay66, m2_ix, m3_ix]
  simp only [← EReal.coe_mul, ← coe_sum, ← EReal.coe_add] <;> rfl

theorem pay68 (M : Sq) : k0_pay68 (F := Ideal) (m2 M) = m3 (fun _ t s => M t s) := by
  apply m3_ext; intro u r l; obtain rfl : u = 0 := Subsingleton.elim _ _; pointwise [k0_pay68, m2_ix, m3_ix]

theorem pay69 (Gu : Mat) (D : Sq) : k0_pay69 (F := Ideal) (m2 Gu) (m2 D) = m2 (fun t c => D t c * Gu t (col 5 c)) := by
  apply m2_ext; intro r l; pointwise [k0_pay69, m2_ix, m3_ix]
  simp only [← EReal.coe_mul, ← coe_sum, ← EReal.coe_add] <;> rfl

theorem pay70 (Gu : Mat) (D : Sq) : k0_pay70 (F := Ideal) (m2 Gu) (m2 D) = m2 (fun t c => D t c * Gu t (col 5 c)) := by
  apply m2_ext; intro r l; pointwise [k0_pay70, k0_pay69, m2_ix, m3_ix]
  simp only [← EReal.coe_mul, ← coe_sum, ← EReal.coe_add] <;> rfl

theorem pay71 (Gu : Mat) (D : Sq) (w : Sq) : k0_pay71 (F := Ideal) (m2 Gu) (m2 D) (m3 fun _ => w) = m2 (fun s c => ∑ t, w s t * (D t c * Gu t (col 5 c))) := by
  apply m2_ext; intro r l; pointwise [k0_pay71, k0_pay70, k0_pay69, m2_ix, m3_ix]
  simp only [← EReal.coe_mul, ← coe_sum, ← EReal.coe_add] <;> rfl

theorem pay72 (Gu : Mat) (zg : Sq) (D : Sq) (A : Sq) : k0_pay72 (F := Ideal) (m2 Gu) (m2 zg) (m2 D) (m3 fun _ => A) = m3 (fun _ t s => A t s + ∑ c, (D t c * Gu t (col 5 c)) * zg s c) := by
  apply m3_ext; intro u r l; obtain rfl : u = 0 := Subsingleton.elim _ _; pointwise [k0_pay72, k0_pay70, k0_pay69, m2_ix, m3_ix]
  simp only [← EReal.coe_mul, ← coe_sum, ← EReal.coe_add] <;> rfl

theorem pay73 (Gu : Mat) (acc : Sq) (D : Sq) (hi : S128x128.Iotas .tc 32 [1]) : k0_pay73 (F := Ideal) (m2 Gu) (iota .tc S128x128 32 [1] hi) (m2 acc) (m2 D) = m2 (fun t l => acc t l + if l.val = 5 then ∑ c, D t c * Gu t (col 5 c) else 0) := by
  apply m2_ext; intro r l; pointwise [k0_pay73, k0_pay69, m2_ix, m3_ix]
  rw [lane_eq l 5 (by norm_num)]; by_cases h : l.val = 5 <;> simp [h, Scalar.select, coe_sum, word_zero] <;> rfl

theorem pay74 (Z : Mat) : k0_pay74 (F := Ideal) (m2 Z) = m2 (fun t c => Z t (col 6 c)) := by
  apply m2_ext; intro r l; pointwise [k0_pay74, m2_ix, m3_ix]; rfl

theorem pay75 (Z : Mat) (w : Sq) (b : Fin 128 → ℝ) : k0_pay75 (F := Ideal) (m2 Z) (m3 fun _ => w) (m2 fun t _ => b t) = m2 (fun t c => (∑ s, w t s * Z s (col 6 c)) + b t) := by
  apply m2_ext; intro r l; pointwise [k0_pay75, k0_pay74, m2_ix, m3_ix]
  simp only [← EReal.coe_mul, ← coe_sum, ← EReal.coe_add] <;> rfl

theorem pay76 (P : Mat) (M : Sq) (D : Sq) : k0_pay76 (F := Ideal) (m2 P) (m2 M) (m2 D) = m3 (fun _ t c => D t c * M t c * P t (col 6 c)) := by
  apply m3_ext; intro u r l; obtain rfl : u = 0 := Subsingleton.elim _ _; pointwise [k0_pay76, m2_ix, m3_ix]
  simp only [← EReal.coe_mul, ← coe_sum, ← EReal.coe_add] <;> rfl

theorem pay77 (Gu : Mat) (D : Sq) : k0_pay77 (F := Ideal) (m2 Gu) (m2 D) = m2 (fun t c => D t c * Gu t (col 6 c)) := by
  apply m2_ext; intro r l; pointwise [k0_pay77, m2_ix, m3_ix]
  simp only [← EReal.coe_mul, ← coe_sum, ← EReal.coe_add] <;> rfl

theorem pay78 (Gu : Mat) (D : Sq) : k0_pay78 (F := Ideal) (m2 Gu) (m2 D) = m2 (fun t c => D t c * Gu t (col 6 c)) := by
  apply m2_ext; intro r l; pointwise [k0_pay78, k0_pay77, m2_ix, m3_ix]
  simp only [← EReal.coe_mul, ← coe_sum, ← EReal.coe_add] <;> rfl

theorem pay79 (Gu : Mat) (D : Sq) (w : Sq) : k0_pay79 (F := Ideal) (m2 Gu) (m2 D) (m3 fun _ => w) = m2 (fun s c => ∑ t, w s t * (D t c * Gu t (col 6 c))) := by
  apply m2_ext; intro r l; pointwise [k0_pay79, k0_pay78, k0_pay77, m2_ix, m3_ix]
  simp only [← EReal.coe_mul, ← coe_sum, ← EReal.coe_add] <;> rfl

theorem pay80 (Gu : Mat) (zg : Sq) (D : Sq) (A : Sq) : k0_pay80 (F := Ideal) (m2 Gu) (m2 zg) (m2 D) (m3 fun _ => A) = m3 (fun _ t s => A t s + ∑ c, (D t c * Gu t (col 6 c)) * zg s c) := by
  apply m3_ext; intro u r l; obtain rfl : u = 0 := Subsingleton.elim _ _; pointwise [k0_pay80, k0_pay78, k0_pay77, m2_ix, m3_ix]
  simp only [← EReal.coe_mul, ← coe_sum, ← EReal.coe_add] <;> rfl

theorem pay82 (Gu : Mat) (D : Sq) : k0_pay82 (F := Ideal) (m2 Gu) (m2 D) = m2 (fun t _ => ∑ c, D t c * Gu t (col 6 c)) := by
  apply m2_ext; intro r l; pointwise [k0_pay82, k0_pay77, m2_ix, m3_ix]
  simp only [← EReal.coe_mul, ← coe_sum, ← EReal.coe_add] <;> rfl

theorem pay85 (Z : Mat) : k0_pay85 (F := Ideal) (m2 Z) = m2 (fun t c => Z t (col 7 c)) := by
  apply m2_ext; intro r l; pointwise [k0_pay85, m2_ix, m3_ix]; rfl

theorem pay86 (Z : Mat) (P : Mat) (w : Sq) (b : Fin 128 → ℝ) (D : Sq) : k0_pay86 (F := Ideal) (m2 Z) (m2 P) (m3 fun _ => w) (m2 fun t _ => b t) (m2 D) = m3 (fun _ t c => D t c * ((∑ s, w t s * Z s (col 7 c)) + b t) * P t (col 7 c)) := by
  apply m3_ext; intro u r l; obtain rfl : u = 0 := Subsingleton.elim _ _; pointwise [k0_pay86, k0_pay85, m2_ix, m3_ix]
  simp only [← EReal.coe_mul, ← coe_sum, ← EReal.coe_add] <;> rfl

theorem pay87 (Gu : Mat) (D : Sq) : k0_pay87 (F := Ideal) (m2 Gu) (m2 D) = m2 (fun t c => D t c * Gu t (col 7 c)) := by
  apply m2_ext; intro r l; pointwise [k0_pay87, m2_ix, m3_ix]
  simp only [← EReal.coe_mul, ← coe_sum, ← EReal.coe_add] <;> rfl

theorem pay88 (Gu : Mat) (D : Sq) : k0_pay88 (F := Ideal) (m2 Gu) (m2 D) = m2 (fun t c => D t c * Gu t (col 7 c)) := by
  apply m2_ext; intro r l; pointwise [k0_pay88, k0_pay87, m2_ix, m3_ix]
  simp only [← EReal.coe_mul, ← coe_sum, ← EReal.coe_add] <;> rfl

theorem pay89 (Gu : Mat) (D : Sq) (w : Sq) : k0_pay89 (F := Ideal) (m2 Gu) (m2 D) (m3 fun _ => w) = m2 (fun s c => ∑ t, w s t * (D t c * Gu t (col 7 c))) := by
  apply m2_ext; intro r l; pointwise [k0_pay89, k0_pay88, k0_pay87, m2_ix, m3_ix]
  simp only [← EReal.coe_mul, ← coe_sum, ← EReal.coe_add] <;> rfl

theorem pay90 (Z : Mat) (Gu : Mat) (D : Sq) (A : Sq) : k0_pay90 (F := Ideal) (m2 Z) (m2 Gu) (m2 D) (m3 fun _ => A) = m2 (fun t s => A t s + ∑ c, (D t c * Gu t (col 7 c)) * Z s (col 7 c)) := by
  apply m2_ext; intro r l; pointwise [k0_pay90, k0_pay85, k0_pay88, k0_pay87, m2_ix, m3_ix]
  simp only [← EReal.coe_mul, ← coe_sum, ← EReal.coe_add] <;> rfl

theorem pay91 (M : Sq) : k0_pay91 (F := Ideal) (m2 M) = m3 (fun _ t s => M t s) := by
  apply m3_ext; intro u r l; obtain rfl : u = 0 := Subsingleton.elim _ _; pointwise [k0_pay91, m2_ix, m3_ix]

theorem pay92 (acc : Sq) (dm : Sq) (A2 : Sq) (hi : S128x128.Iotas .tc 32 [1]) : k0_pay92 (F := Ideal) (iota .tc S128x128 32 [1] hi) (m2 acc) (m2 dm) (m2 A2) = m2 (fun t l => A2 t l + (acc t l + if l.val = 7 then ∑ c, dm t c else 0)) := by
  apply m2_ext; intro r l; pointwise [k0_pay92, m2_ix, m3_ix]
  rw [lane_eq l 7 (by norm_num)]; by_cases h : l.val = 7 <;> simp [h, Scalar.select, coe_sum, word_zero] <;> rfl

theorem pay26 (Z U : Mat) (w : Sq) (b : Fin 128 → ℝ) (D : Sq) :
    k0_pay26 (F := Ideal) (m2 Z) (k0_pay18 (m2 U)) (k0_pay20 (m2 U)) (k0_pay22 (m2 U)) (Named.named κ "gelu_3c" 0x3E095D4F#32) (m3 fun _ => w) (m2 fun t _ => b t) (m2 D)
    = m3 fun _ t c => D t c * ((∑ s, w t s * Z s (col 0 c)) + b t) * dgelu (U t (col 0 c)) := by
  apply m3_ext; intro u r l; obtain rfl : u = 0 := Subsingleton.elim _ _; pointwise [k0_pay26, k0_pay25, pay23, m2_ix, m3_ix]
  simp only [← EReal.coe_mul, ← coe_sum, ← EReal.coe_add, col_zero]

theorem pay84 (acc : Sq) (e : Fin 128 → ℝ) (hi : S128x128.Iotas .tc 32 [1]) :
    k0_pay84 (F := Ideal) (m2 acc) (k0_pay81 (iota .tc S128x128 32 [1] hi)) (m2 fun t _ => e t) k0_pay83 = m2 (fun t l => acc t l + if l.val = 6 then e t else 0) := by
  apply m2_ext; intro r l; pointwise [k0_pay84, k0_pay81, k0_pay83, m2_ix]
  rw [lane_eq l 6 (by norm_num)]; by_cases h : l.val = 6 <;> simp [h, Scalar.select, word_zero]

/-! ### The sums over the rows, and the gradient of the layer norm -/

theorem pay93 (Xh D : Mat) (a : Fin 1024 → ℝ) : k0_pay93 (F := Ideal) (m2 Xh) (m2 D) (m2 fun _ j => a j) = m2 fun _ j => a j + ∑ s, D s j * Xh s j := by
  apply m2_ext; intro u l; obtain rfl : u = 0 := Subsingleton.elim _ _
  pointwise [k0_pay93, m2_ix]; simp only [← EReal.coe_mul, ← coe_sum, ← EReal.coe_add]

theorem pay94 (D : Mat) (a : Fin 1024 → ℝ) : k0_pay94 (F := Ideal) (m2 D) (m2 fun _ j => a j) = m2 fun _ j => a j + ∑ s, D s j := by
  apply m2_ext; intro u l; obtain rfl : u = 0 := Subsingleton.elim _ _
  pointwise [k0_pay94, m2_ix]; simp only [← coe_sum, ← EReal.coe_add]

theorem pay95 (D : Mat) (G : Fin 1024 → ℝ) : k0_pay95 (F := Ideal) (m2 D) (m2 fun _ j => G j) = m2 fun s j => D s j * G j := by
  apply m2_ext; intro r l; pointwise [k0_pay95, m2_ix]; simp only [← EReal.coe_mul]

theorem pay1 (dG Z D : Mat) : k0_pay1 (F := Ideal) (m2 dG) (m2 fun r _ => rs (Z r)) (m2 fun r j => xh (Z r) j) (m2 D)
    = m3 fun _ s j => lnb (Z s) (D s) j * dG s j := by
  apply m3_ext; intro u r l; obtain rfl : u = 0 := Subsingleton.elim _ _
  pointwise [k0_pay1, m2_ix, word_width]
  simp only [← EReal.coe_mul, ← coe_sum]
  rw [div_coe' _ _ (by norm_num), div_coe' _ _ (by norm_num)]
  simp only [← EReal.coe_mul, ← EReal.coe_sub]; rfl

end Cert.Pay
-- ==== Proof.Head.lean ====
/- What the kernel's host code prepares: the masked mixing weights, their transpose, the bias, and the blocks that the
   kernel reads at a point, over the reals. -/
module

public import proofs.«01_k».proof.Proof.Mask
public import proofs.«01_k».proof.Proof.Pay
public import proofs.«01_k».proof.Proof.Gen.KernelIdeal.Frame
public import Idealize.ShloMosaic.Lib.StableHlo.Run
public import Idealize.ShloMosaic.Lib.Tactic
public import Idealize.ShloMosaic.Lib.Pipeline.ValueKit

@[expose] public section
noncomputable section
namespace Cert.Head
open Cert.KernelIdeal Cert.KernelIdeal.Gen Cert.Spec Cert.Pay Idealize.ShloMosaic Idealize.ShloMosaic.TcCoe Idealize.SL.Sem

/-- The mixing weights with the mask laid over them. -/
def Wm (W0 : Fin 8 → Sq) (g : Fin 8) (t s : Fin 128) : ℝ := if s.val / 64 ≤ t.val / 64 then W0 g t s else 0

/-- The arguments hold reals wherever the gradient reads them. -/
structure In (x0 : (⟨3, ![8, 4096, 1024]⟩ : Shape).Idx → EReal) (x1 : (⟨2, ![4096, 1024]⟩ : Shape).Idx → EReal) (x3 : (⟨3, ![8, 128, 128]⟩ : Shape).Idx → EReal)
    (x4 : (⟨2, ![8, 128]⟩ : Shape).Idx → EReal) (x5 x6 : (⟨2, ![1, 1024]⟩ : Shape).Idx → EReal)
    (U V DY : Fin 4096 → Fin 1024 → ℝ) (W0 : Fin 8 → Sq) (bs : Fin 8 → Fin 128 → ℝ) (G B : Fin 1024 → ℝ) : Prop where
  hu : ∀ r j, x0 (ix3 4 r j) = ((U r j : ℝ) : EReal)
  hv : ∀ r j, x0 (ix3 5 r j) = ((V r j : ℝ) : EReal)
  hy : x1 = m2 DY
  hw : x3 = m3 W0
  hb : x4 = m2 bs
  hG : x5 = m2 fun _ j => G j
  hB : x6 = m2 fun _ j => B j

variable (m : (ℓ : Loc nD τ sig) → Buf (Elt Ideal) ℓ) (c : Dev nD)

/-- The mask. -/
theorem v6 : V m c main_v6 = (Cert.ReferenceIdeal.Read.val_main_v86 (F := Ideal) : (⟨2, ![128, 128]⟩ : Shape).Idx → BitVec 1) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

/-- The weights with the mask laid over them. -/
theorem v9 : V m c main_v9 = (Cert.ReferenceIdeal.Read.val_main_v88_0 (F := Ideal) (m ((c : Thread nD τ).loc main_arg3)) : (⟨3, ![8, 128, 128]⟩ : Shape).Idx → EReal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

/-- Their transpose. -/
theorem v11 : V m c main_v11 = (transpose S8x128x128 [0, 2, 1] (Cert.ReferenceIdeal.Read.val_main_v88_0 (F := Ideal) (m ((c : Thread nD τ).loc main_arg3))) transposes_S8x128x128_S8x128x128_0_2_1 : (⟨3, ![8, 128, 128]⟩ : Shape).Idx → EReal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

/-- The bias transposed. -/
theorem v12 : V m c main_v12 = (transpose S128x8 [1, 0] (m ((c : Thread nD τ).loc main_arg4) : S8x128.Idx → EReal) transposes_S8x128_S128x8_1_0 : (⟨2, ![128, 8]⟩ : Shape).Idx → EReal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results

/-- The array that the gradient of the projections is written into. -/
theorem v13 : V m c main_v13_0 = (m ((c : Thread nD τ).loc main_arg2) : (⟨3, ![8, 4096, 1024]⟩ : Shape).Idx → EReal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

/-- The masked weights, at reals. -/
theorem masked (W0 : Fin 8 → Sq) : Cert.ReferenceIdeal.Read.val_main_v88_0 (F := Ideal) (m3 W0) = m3 (Wm W0) := by
  refine m3_ext fun g t s => ?_
  rw [Cert.ReferenceIdeal.Read.val_main_v88_0_apply, Cert.ReferenceIdeal.Read.val_main_v88_1_apply, Cert.ReferenceIdeal.Read.val_main_v87_apply, Cert.ReferenceIdeal.Read.val_main_call1_v1_apply]
  have h1 : Cert.ReferenceIdeal.Read.idx_main_v87 (Cert.ReferenceIdeal.Read.idx_main_v88_1 (ix3 g t s)) = ix2 t s := by
    funext a; match a with
      | ⟨0, _⟩ => rfl
      | ⟨1, _⟩ => rfl
  rw [h1, Cert.Mask.mask, m3_ix]
  unfold Wm
  split
  · rfl
  · exact word_zero

theorem idx : ∀ t : Fin cfg0.N, win0_0.index t = ![4, t.val, 0] ∧ win0_1.index t = ![5, t.val, 0] ∧ win0_2.index t = ![t.val, 0]
    ∧ win0_3.index t = ![0, 0, 0] ∧ win0_4.index t = ![0, 0, 0] ∧ win0_5.index t = ![0, 0] ∧ win0_6.index t = ![0, 0] ∧ win0_7.index t = ![0, 0] := by
  decide +kernel

variable {U V' DY : Fin 4096 → Fin 1024 → ℝ} {W0 : Fin 8 → Sq} {bs : Fin 8 → Fin 128 → ℝ} {G B : Fin 1024 → ℝ}

/-- The number of a point as the number of a block. -/
abbrev nb (t : Fin cfg0.N) : Fin 32 := ⟨t.val, lt_of_lt_of_eq t.isLt N_0⟩

/-- The arguments of the kernel hold reals. -/
abbrev KIn (U V' DY : Fin 4096 → Fin 1024 → ℝ) (W0 : Fin 8 → Sq) (bs : Fin 8 → Fin 128 → ℝ) (G B : Fin 1024 → ℝ) : Prop :=
  In (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) U V' DY W0 bs G B

variable (h : KIn m c U V' DY W0 bs G B) (t : Fin cfg0.N)
include h

theorem iblk0 : (iblk m c 0 t : S1x128x1024.Idx → EReal) = m3 fun _ r j => U (row (nb t) r) j := by
  refine m3_ext fun u r j => ?_
  rw [← h.hu]
  blk_ext [iblk, V_main_arg0, idx t, row]

theorem iblk1 : (iblk m c 1 t : S1x128x1024.Idx → EReal) = m3 fun _ r j => V' (row (nb t) r) j := by
  refine m3_ext fun u r j => ?_
  rw [← h.hv]
  blk_ext [iblk, V_main_arg0, idx t, row]

theorem iblk2 : (iblk m c 2 t : S128x1024.Idx → EReal) = m2 fun r j => DY (row (nb t) r) j := by
  refine m2_ext fun r j => ?_
  rw [← m2_ix DY, ← h.hy]
  blk_ext [iblk, V_main_arg1, idx t, row]

theorem iblk3 : (iblk m c 3 t : S8x128x128.Idx → EReal) = m3 (Wm W0) := by
  rw [← masked, ← h.hw, ← v9]
  funext y
  blk_ext [iblk, idx t]

theorem iblk4 : (iblk m c 4 t : S8x128x128.Idx → EReal) = m3 fun g s t => Wm W0 g t s := by
  have e : V m c main_v11 = (m3 fun g s t => Wm W0 g t s : S8x128x128.Idx → EReal) := by
    rw [v11, h.hw, masked]
    refine m3_ext fun g s t => ?_
    pointwise []
    rfl
  rw [← e]
  funext y
  blk_ext [iblk, idx t]

theorem iblk5 : (iblk m c 5 t : S128x8.Idx → EReal) = m2 fun t g => bs g t := by
  have e : V m c main_v12 = (m2 fun t g => bs g t : S128x8.Idx → EReal) := by
    rw [v12, h.hb]
    refine m2_ext fun t g => ?_
    pointwise []
    rfl
  rw [← e]
  funext y
  blk_ext [iblk, idx t]

theorem iblk6 : (iblk m c 6 t : S1x1024.Idx → EReal) = m2 fun _ j => G j := by
  rw [← h.hG]
  funext y
  blk_ext [iblk, V_main_arg5, idx t]

theorem iblk7 : (iblk m c 7 t : S1x1024.Idx → EReal) = m2 fun _ j => B j := by
  rw [← h.hB]
  funext y
  blk_ext [iblk, V_main_arg6, idx t]

end Cert.Head
end
-- ==== Proof.Point.lean ====
/- What one grid point of the kernel leaves in each of its outputs, over the reals. -/
module

public import proofs.«01_k».proof.Proof.Pay
public import proofs.«01_k».proof.Proof.Gen.KernelIdeal.Frame
public import Idealize.ShloMosaic.Lib.Pipeline.Value
public import Idealize.ShloMosaic.Lib.Pipeline.ValueKit
public import Idealize.ShloMosaic.Lib.Pipeline.ReadBack

@[expose] public section

noncomputable section

namespace Cert.Point

open Cert.Pay Cert.Spec Cert.KernelIdeal Cert.KernelIdeal.Gen Idealize.ShloMosaic Idealize.ShloMosaic.TcCoe Idealize.SL.Sem

/-! ### Loads of a part of a block, and stores into a part of a block -/

theorem ld_row3 (U : Fin 1 → Mat) (h) : View.ld (Val := Elt Ideal) (e' := .bf16) (S := S1x128x1024) (m3 U) (Rect.unit ![0, 0, 0] ![1, 128, 1024] h) = m3 U :=
  View.ld_unit_lit (Val := Elt Ideal) (e := .bf16) (S := S1x128x1024) h (m3 U) (by decide)
theorem ld_row1 (G : Fin 1 → Fin 1024 → ℝ) (h) : View.ld (Val := Elt Ideal) (e' := .f32) (S := S1x1024) (m2 G) (Rect.unit ![0, 0] ![1, 1024] h) = m2 G :=
  View.ld_unit_lit (Val := Elt Ideal) (e := .f32) (S := S1x1024) h (m2 G) (by decide)
theorem ld_sq (A : Sq) (h) : View.ld (Val := Elt Ideal) (e' := .f32) (S := S128x128) (m2 A) (Rect.unit ![0, 0] ![128, 128] h) = m2 A :=
  View.ld_unit_lit (Val := Elt Ideal) (e := .f32) (S := S128x128) h (m2 A) (by decide)

theorem ld_grp (W : Fin 8 → Sq) (g : Fin 8) (o : Nat) (ho : o = g.val) (h) :
    View.ld (Val := Elt Ideal) (e' := .bf16) (S := S8x128x128) (m3 W) (Rect.unit ![o, 0, 0] ![1, 128, 128] h) = m3 fun _ => W g := by
  subst ho; funext x
  exact View.ld_unit_apply_of (e := .bf16) (Val := Elt Ideal) (m3 W) _ _ h x (ix3 g (x 1) (x 2)) (Fin.forall_fin_succ.mpr ⟨congrArg (g.val + ·) (Nat.lt_one_iff.mp (x 0).isLt).symm,
    Fin.forall_fin_two.mpr ⟨(Nat.zero_add _).symm, (Nat.zero_add _).symm⟩⟩)
theorem ld_grp' (W : Fin 8 → Sq) (g : Fin 8) (o : Nat) (ho : o = g.val) (h) :
    View.ld (Val := Elt Ideal) (e' := .f32) (S := S8x128x128) (m3 W) (Rect.unit ![o, 0, 0] ![1, 128, 128] h) = m3 fun _ => W g := by
  subst ho; funext x
  exact View.ld_unit_apply_of (e := .f32) (Val := Elt Ideal) (m3 W) _ _ h x (ix3 g (x 1) (x 2)) (Fin.forall_fin_succ.mpr ⟨congrArg (g.val + ·) (Nat.lt_one_iff.mp (x 0).isLt).symm,
    Fin.forall_fin_two.mpr ⟨(Nat.zero_add _).symm, (Nat.zero_add _).symm⟩⟩)
theorem ld_cols (D : Mat) (g : Fin 8) (o : Nat) (ho : o = 128 * g.val) (h) :
    View.ld (Val := Elt Ideal) (e' := .bf16) (S := S128x1024) (m2 D) (Rect.unit ![0, o] ![128, 128] h) = m2 fun t c : Fin 128 => D t (col g c) := by
  subst ho; funext x
  exact View.ld_unit_apply_of (e := .bf16) (Val := Elt Ideal) (m2 D) _ _ h x (ix2 (x 0) (col g (x 1))) (Fin.forall_fin_two.mpr ⟨(Nat.zero_add _).symm, rfl⟩)
theorem ld_bias (b : Fin 128 → Fin 8 → ℝ) (g : Fin 8) (o : Nat) (ho : o = g.val) (h) :
    View.ld (Val := Elt Ideal) (e' := .f32) (S := S128x8) (m2 b) (Rect.unit ![0, o] ![128, 1] h) = m2 fun t _ => b t g := by
  subst ho; funext x
  exact View.ld_unit_apply_of (e := .f32) (Val := Elt Ideal) (m2 b) _ _ h x (ix2 (x 0) g) (Fin.forall_fin_two.mpr ⟨(Nat.zero_add _).symm, congrArg (g.val + ·) (Nat.lt_one_iff.mp (x 1).isLt).symm⟩)

/-- A store of one group's columns in a plane of the block. -/
theorem piece8 (F : Fin 2 → Mat) (f : Fin 1 → Sq) (g : Fin 8) (o : Nat) (ho : o = 128 * g.val) (h) (hf : ∀ t c, f 0 t c = F 0 t (col g c)) (x : S1x128x128.Idx) :
    m3 f x = m3 F ((Rect.unit (s := S2x128x1024) ![0, 0, o] ![1, 128, 128] h).emb x) := by
  subst ho
  refine Eq.trans ?_ (View.ld_unit_apply_of (e := .bf16) (Val := Elt Ideal) (m3 F) _ _ h x (ix3 0 (x 1) (col g (x 2))) (Fin.forall_fin_succ.mpr ⟨(congrArg (0 + ·) (Nat.lt_one_iff.mp (x 0).isLt)).symm,
    Fin.forall_fin_two.mpr ⟨(Nat.zero_add _).symm, rfl⟩⟩)).symm
  exact congrArg Real.toEReal ((congrArg (fun u => f u (x 1) (x 2)) (Subsingleton.elim (α := Fin 1) (x 0) 0)).trans (hf _ _))
/-- A store of the whole second plane of the block. -/
theorem piece8' (F : Fin 2 → Mat) (f : Fin 1 → Mat) (h) (hf : ∀ t c, f 0 t c = F 1 t c) (x : S1x128x1024.Idx) :
    m3 f x = m3 F ((Rect.unit (s := S2x128x1024) ![1, 0, 0] ![1, 128, 1024] h).emb x) := by
  refine Eq.trans ?_ (View.ld_unit_apply_of (e := .bf16) (Val := Elt Ideal) (m3 F) _ _ h x (ix3 1 (x 1) (x 2)) (Fin.forall_fin_succ.mpr ⟨congrArg (1 + ·) (Nat.lt_one_iff.mp (x 0).isLt).symm,
    Fin.forall_fin_two.mpr ⟨(Nat.zero_add _).symm, (Nat.zero_add _).symm⟩⟩)).symm
  exact congrArg Real.toEReal ((congrArg (fun u => f u (x 1) (x 2)) (Subsingleton.elim (α := Fin 1) (x 0) 0)).trans (hf _ _))
/-- A store of one group's square. -/
theorem piece9 (F : Fin 8 → Sq) (f : Fin 1 → Sq) (g : Fin 8) (o : Nat) (ho : o = g.val) (h) (hf : ∀ t c, f 0 t c = F g t c) (x : S1x128x128.Idx) :
    m3 f x = m3 F ((Rect.unit (s := S8x128x128) ![o, 0, 0] ![1, 128, 128] h).emb x) := by
  refine Eq.trans ?_ (congrFun (ld_grp' F g o ho h) x).symm
  exact congrArg Real.toEReal ((congrArg (fun u => f u (x 1) (x 2)) (Subsingleton.elim (α := Fin 1) (x 0) 0)).trans (hf _ _))
/-- A store of one group's columns. -/
theorem piece15 (F : Mat) (f : Sq) (g : Fin 8) (o : Nat) (ho : o = 128 * g.val) (h) (hf : ∀ t c, f t c = F t (col g c)) (x : S128x128.Idx) :
    m2 f x = m2 F ((Rect.unit (s := S128x1024) ![0, o] ![128, 128] h).emb x) := by
  refine Eq.trans ?_ (congrFun (ld_cols F g o ho h) x).symm
  exact congrArg Real.toEReal (hf _ _)

theorem pay2 : k0_pay2 (F := Ideal) = m3 fun _ _ _ => 0 := by
  funext y; exact word_zero
theorem pay3 : k0_pay3 (F := Ideal) = m2 fun _ _ => 0 := by
  funext y; exact word_zero
theorem pay4 : k0_pay4 (F := Ideal) = m2 fun _ _ => 0 := by
  funext y; exact word_zero
theorem pay5 : k0_pay5 (F := Ideal) = m2 fun _ _ => 0 := by
  funext y; exact word_zero

/-- The eight groups' columns side by side. -/
def stitch (f0 f1 f2 f3 f4 f5 f6 f7 : Sq) : Mat := fun s j => (![f0, f1, f2, f3, f4, f5, f6, f7] : Fin 8 → Sq) (grp j) s (sub j)

theorem stitch_col (f0 f1 f2 f3 f4 f5 f6 f7 : Sq) (s : Fin 128) (g : Fin 8) (c : Fin 128) :
    stitch f0 f1 f2 f3 f4 f5 f6 f7 s (col g c) = (![f0, f1, f2, f3, f4, f5, f6, f7] : Fin 8 → Sq) g s c := by
  unfold stitch; rw [grp_col, sub_col]

theorem stitch_dvn (U DY : Mat) (W : Fin 8 → Sq) : stitch (fun s c => ∑ t, W 0 t s * (DY t (col 0 c) * gelu (U t (col 0 c)))) (fun s c => ∑ t, W 1 t s * (DY t (col 1 c) * gelu (U t (col 1 c)))) (fun s c => ∑ t, W 2 t s * (DY t (col 2 c) * gelu (U t (col 2 c)))) (fun s c => ∑ t, W 3 t s * (DY t (col 3 c) * gelu (U t (col 3 c)))) (fun s c => ∑ t, W 4 t s * (DY t (col 4 c) * gelu (U t (col 4 c)))) (fun s c => ∑ t, W 5 t s * (DY t (col 5 c) * gelu (U t (col 5 c)))) (fun s c => ∑ t, W 6 t s * (DY t (col 6 c) * gelu (U t (col 6 c)))) (fun s c => ∑ t, W 7 t s * (DY t (col 7 c) * gelu (U t (col 7 c)))) = dvn U DY W := by
  funext s j
  rw [← col_grp j, stitch_col]
  unfold dvn
  rw [grp_col]
  generalize grp j = g
  fin_cases g <;> rfl

section
variable {S : Shape} {e : EltTy} {G : S.Idx → Elt Ideal e}
theorem pieces_nil : View.PiecesOf (Val := Elt Ideal) G [] := trivial
theorem pieces_cons {p : View.Piece (Elt Ideal) S e} {L : List (View.Piece (Elt Ideal) S e)} (h : ∀ x : p.1.shape.Idx, p.2 x = G (p.1.emb x))
    (hL : View.PiecesOf (Val := Elt Ideal) G L) : View.PiecesOf (Val := Elt Ideal) G (p :: L) := ⟨h, hL⟩
/-- Stores that are blocks of one array and cover it leave that array. -/
theorem canon_pieces {L : List (View.Piece (Elt Ideal) S e)} (h : View.PiecesOf (Val := Elt Ideal) G L) (hc : ∀ y, ∃ p ∈ L, y ∈ p.1.set) :
    View.canon (Val := Elt Ideal) L = G := funext fun y => by
  have := View.canon_append_of_piecesOf (Val := Elt Ideal) G [] L h y (hc y)
  rwa [List.append_nil] at this
/-- The same over an earlier store of the whole array. -/
theorem canon_pieces_fill {S : Shape} {e : EltTy} {G : S.Idx → Elt Ideal e} (p0 p1 p2 p3 p4 p5 p6 p7 q : View.Piece (Elt Ideal) S e)
    (h : View.PiecesOf (Val := Elt Ideal) G [p7, p6, p5, p4, p3, p2, p1, p0]) (hc : ∀ y, ∃ p ∈ [p7, p6, p5, p4, p3, p2, p1, p0], y ∈ p.1.set) :
    View.canon (Val := Elt Ideal) [p7, p6, p5, p4, p3, p2, p1, p0, q] = G := funext fun y =>
  View.canon_append_of_piecesOf (Val := Elt Ideal) G [q] [p7, p6, p5, p4, p3, p2, p1, p0] h y (hc y)
end

/-- The whole scratch array after a store of each group's columns. -/
theorem readCov_dvn (v : View sig .tc .vmem S128x1024 .f32) (f0 f1 f2 f3 f4 f5 f6 f7 : Sq) (h7 h6 h5 h4 h3 h2 h1 h0 h) :
    v.readCov (Val := Elt Ideal) [⟨Rect.unit ![0, 896] ![128, 128] h7, m2 f7⟩,
  ⟨Rect.unit ![0, 768] ![128, 128] h6, m2 f6⟩,
  ⟨Rect.unit ![0, 640] ![128, 128] h5, m2 f5⟩,
  ⟨Rect.unit ![0, 512] ![128, 128] h4, m2 f4⟩,
  ⟨Rect.unit ![0, 384] ![128, 128] h3, m2 f3⟩,
  ⟨Rect.unit ![0, 256] ![128, 128] h2, m2 f2⟩,
  ⟨Rect.unit ![0, 128] ![128, 128] h1, m2 f1⟩,
  ⟨Rect.unit ![0, 0] ![128, 128] h0, m2 f0⟩]
      (Rect.unit ![0, 0] ![128, 1024] h).toLoadRect = m2 (stitch f0 f1 f2 f3 f4 f5 f6 f7) := by
  have hc : ∀ y : S128x1024.Idx, ∃ p ∈ ([⟨Rect.unit ![0, 896] ![128, 128] h7, m2 f7⟩,
  ⟨Rect.unit ![0, 768] ![128, 128] h6, m2 f6⟩,
  ⟨Rect.unit ![0, 640] ![128, 128] h5, m2 f5⟩,
  ⟨Rect.unit ![0, 512] ![128, 128] h4, m2 f4⟩,
  ⟨Rect.unit ![0, 384] ![128, 128] h3, m2 f3⟩,
  ⟨Rect.unit ![0, 256] ![128, 128] h2, m2 f2⟩,
  ⟨Rect.unit ![0, 128] ![128, 128] h1, m2 f1⟩,
  ⟨Rect.unit ![0, 0] ![128, 128] h0, m2 f0⟩] :
      List (View.Piece (Elt Ideal) S128x1024 .f32)), y ∈ p.1.set := fun y => View.cover_of_tiledBy _ ![128, 128] (by sl_kernel_rfl) y
  rw [View.readCov_eq_canon_ld _ _ _ hc, canon_pieces (G := m2 (stitch f0 f1 f2 f3 f4 f5 f6 f7)) _ hc]
  · funext x
    exact View.ld_unit_apply_of (e := .f32) (Val := Elt Ideal) (m2 (stitch f0 f1 f2 f3 f4 f5 f6 f7)) _ _ h x x (Fin.forall_fin_two.mpr ⟨(Nat.zero_add _).symm, (Nat.zero_add _).symm⟩)
  · exact pieces_cons (piece15 _ _ 7 896 rfl h7 fun _ _ => by rw [stitch_col]; rfl) <| pieces_cons (piece15 _ _ 6 768 rfl h6 fun _ _ => by rw [stitch_col]; rfl) <|
      pieces_cons (piece15 _ _ 5 640 rfl h5 fun _ _ => by rw [stitch_col]; rfl) <| pieces_cons (piece15 _ _ 4 512 rfl h4 fun _ _ => by rw [stitch_col]; rfl) <|
      pieces_cons (piece15 _ _ 3 384 rfl h3 fun _ _ => by rw [stitch_col]; rfl) <| pieces_cons (piece15 _ _ 2 256 rfl h2 fun _ _ => by rw [stitch_col]; rfl) <|
      pieces_cons (piece15 _ _ 1 128 rfl h1 fun _ _ => by rw [stitch_col]; rfl) <| pieces_cons (piece15 _ _ 0 0 rfl h0 fun _ _ => by rw [stitch_col]; rfl) pieces_nil

/-! ### The outputs -/

theorem du_col (U V DY : Mat) (W : Fin 8 → Sq) (bs : Fin 8 → Fin 128 → ℝ) (G B : Fin 1024 → ℝ) (t : Fin 128) (g : Fin 8) (c : Fin 128) :
    du U V DY W bs G B t (col g c) = DY t (col g c) * ((∑ s, W g t s * vn V G B s (col g c)) + bs g t) * dgelu (U t (col g c)) := by
  simp only [du, mix, grp_col]

/-- Column `l` of the block's bias gradient: group `l`, and nothing past the eighth. -/
def dbl (U DY : Mat) (t l : Fin 128) : ℝ := if h : l.val < 8 then dbs U DY ⟨l.val, h⟩ t else 0

theorem dbl_chain (U DY : Mat) (t l : Fin 128) (e : Fin 8 → ℝ) (he : ∀ g, e g = dbs U DY g t) :
    0 + (if l.val = 0 then e 0 else 0) + (if l.val = 1 then e 1 else 0) + (if l.val = 2 then e 2 else 0) + (if l.val = 3 then e 3 else 0) +
      (if l.val = 4 then e 4 else 0) + (if l.val = 5 then e 5 else 0) + (if l.val = 6 then e 6 else 0) + (if l.val = 7 then e 7 else 0) = dbl U DY t l := by
  obtain rfl : e = fun g => dbs U DY g t := funext he
  unfold dbl
  by_cases h : l.val < 8
  · rw [dif_pos h]
    generalize hl : l.val = k at h
    interval_cases k <;> simp <;> rfl
  · rw [dif_neg h]
    have : ∀ k : Nat, k < 8 → l.val ≠ k := fun k hk e => h (e ▸ hk)
    simp [this]

variable (c : Dev nD) (i : grid0.Coords) (arg1 : Memref sig .tc .vmem S1x128x1024 .bf16) (harg1 : arg1.IsWhole) (arg2 : Memref sig .tc .vmem S1x128x1024 .bf16) (harg2 : arg2.IsWhole) (arg3 : Memref sig .tc .vmem S128x1024 .bf16) (harg3 : arg3.IsWhole) (arg5 : Memref sig .tc .vmem S8x128x128 .bf16) (harg5 : arg5.IsWhole) (arg6 : Memref sig .tc .vmem S8x128x128 .bf16) (harg6 : arg6.IsWhole) (arg7 : Memref sig .tc .vmem S128x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2x128x1024 .bf16) (harg10 : arg10.IsWhole) (arg11 : Memref sig .tc .vmem S8x128x128 .f32) (harg11 : arg11.IsWhole) (arg12 : Memref sig .tc .vmem S128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S128x1024 .f32) (harg15 : arg15.IsWhole)
set_option maxHeartbeats 4000000

theorem out8_A (hc0 : cond0_0 i) (U V DY : Mat) (W : Fin 8 → Sq) (bs : Fin 8 → Fin 128 → ℝ) (G B : Fin 1024 → ℝ) :
    out0_A_8 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) = m3 fun (p : Fin 2) (r : Fin 128) (j : Fin 1024) => if p = 0 then du U V DY W bs G B r j else dv U V DY W G r j := by
  unfold out0_A_8
  rw [View.read_writes_eq_canon _ _ _ (cover0_A_8 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j))]
  unfold kernelRun0_A
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  refine canon_pieces (S := S2x128x1024) (e := .bf16) (G := m3 fun (p : Fin 2) (r : Fin 128) (j : Fin 1024) => if p = 0 then du U V DY W bs G B r j else dv U V DY W G r j) ?_ (fun y => View.cover_of_tiledBy _ ![1, 128, 128] (by sl_kernel_rfl) y)
  exact pieces_cons (piece8' (fun (p : Fin 2) (r : Fin 128) (j : Fin 1024) => if p = 0 then du U V DY W bs G B r j else dv U V DY W G r j) (fun _ s j => lnb (gv V s) (fun j => dvn U DY W s j * G j) j * dgelu (V s j)) inb_S2x128x1024_S1x128x1024_1_0_0 fun _ _ => (if_neg (by decide)).symm) <|
    pieces_cons (piece8 (fun (p : Fin 2) (r : Fin 128) (j : Fin 1024) => if p = 0 then du U V DY W bs G B r j else dv U V DY W G r j) (fun _ t c => DY t (col 7 c) * ((∑ s, W 7 t s * vn V G B s (col 7 c)) + bs 7 t) * dgelu (U t (col 7 c))) 7 896 rfl inb_S2x128x1024_S1x128x128_0_0_896 fun _ _ => by rw [if_pos rfl, du_col]) <|
    pieces_cons (piece8 (fun (p : Fin 2) (r : Fin 128) (j : Fin 1024) => if p = 0 then du U V DY W bs G B r j else dv U V DY W G r j) (fun _ t c => DY t (col 6 c) * ((∑ s, W 6 t s * vn V G B s (col 6 c)) + bs 6 t) * dgelu (U t (col 6 c))) 6 768 rfl inb_S2x128x1024_S1x128x128_0_0_768 fun _ _ => by rw [if_pos rfl, du_col]) <|
    pieces_cons (piece8 (fun (p : Fin 2) (r : Fin 128) (j : Fin 1024) => if p = 0 then du U V DY W bs G B r j else dv U V DY W G r j) (fun _ t c => DY t (col 5 c) * ((∑ s, W 5 t s * vn V G B s (col 5 c)) + bs 5 t) * dgelu (U t (col 5 c))) 5 640 rfl inb_S2x128x1024_S1x128x128_0_0_640 fun _ _ => by rw [if_pos rfl, du_col]) <|
    pieces_cons (piece8 (fun (p : Fin 2) (r : Fin 128) (j : Fin 1024) => if p = 0 then du U V DY W bs G B r j else dv U V DY W G r j) (fun _ t c => DY t (col 4 c) * ((∑ s, W 4 t s * vn V G B s (col 4 c)) + bs 4 t) * dgelu (U t (col 4 c))) 4 512 rfl inb_S2x128x1024_S1x128x128_0_0_512 fun _ _ => by rw [if_pos rfl, du_col]) <|
    pieces_cons (piece8 (fun (p : Fin 2) (r : Fin 128) (j : Fin 1024) => if p = 0 then du U V DY W bs G B r j else dv U V DY W G r j) (fun _ t c => DY t (col 3 c) * ((∑ s, W 3 t s * vn V G B s (col 3 c)) + bs 3 t) * dgelu (U t (col 3 c))) 3 384 rfl inb_S2x128x1024_S1x128x128_0_0_384 fun _ _ => by rw [if_pos rfl, du_col]) <|
    pieces_cons (piece8 (fun (p : Fin 2) (r : Fin 128) (j : Fin 1024) => if p = 0 then du U V DY W bs G B r j else dv U V DY W G r j) (fun _ t c => DY t (col 2 c) * ((∑ s, W 2 t s * vn V G B s (col 2 c)) + bs 2 t) * dgelu (U t (col 2 c))) 2 256 rfl inb_S2x128x1024_S1x128x128_0_0_256 fun _ _ => by rw [if_pos rfl, du_col]) <|
    pieces_cons (piece8 (fun (p : Fin 2) (r : Fin 128) (j : Fin 1024) => if p = 0 then du U V DY W bs G B r j else dv U V DY W G r j) (fun _ t c => DY t (col 1 c) * ((∑ s, W 1 t s * vn V G B s (col 1 c)) + bs 1 t) * dgelu (U t (col 1 c))) 1 128 rfl inb_S2x128x1024_S1x128x128_0_0_128 fun _ _ => by rw [if_pos rfl, du_col]) <|
    pieces_cons (piece8 (fun (p : Fin 2) (r : Fin 128) (j : Fin 1024) => if p = 0 then du U V DY W bs G B r j else dv U V DY W G r j) (fun _ t c => DY t (col 0 c) * ((∑ s, W 0 t s * vn V G B s (col 0 c)) + bs 0 t) * dgelu (U t (col 0 c))) 0 0 rfl inb_S2x128x1024_S1x128x128_0_0_0 fun _ _ => by rw [if_pos rfl, du_col]) pieces_nil

theorem out9_A (hc0 : cond0_0 i) (U V DY : Mat) (W : Fin 8 → Sq) (bs : Fin 8 → Fin 128 → ℝ) (G B : Fin 1024 → ℝ) :
    out0_A_9 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) = m3 fun (g : Fin 8) (t s : Fin 128) => 0 + dw U V DY G B g t s := by
  unfold out0_A_9
  rw [View.read_writes_eq_canon _ _ _ (cover0_A_9 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j))]
  unfold kernelRun0_A
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  refine canon_pieces_fill (S := S8x128x128) (e := .f32) (G := m3 fun (g : Fin 8) (t s : Fin 128) => 0 + dw U V DY G B g t s) _ _ _ _ _ _ _ _ _ ?_ (fun y => View.cover_of_tiledBy _ ![1, 128, 128] (by sl_kernel_rfl) y)
  exact pieces_cons (piece9 (fun (g : Fin 8) (t s : Fin 128) => 0 + dw U V DY G B g t s) (fun _ t s => 0 + ∑ c, DY t (col 7 c) * gelu (U t (col 7 c)) * vn V G B s (col 7 c)) 7 7 rfl inb_S8x128x128_S1x128x128_7_0_0 fun _ _ => rfl) <|
    pieces_cons (piece9 (fun (g : Fin 8) (t s : Fin 128) => 0 + dw U V DY G B g t s) (fun _ t s => 0 + ∑ c, DY t (col 6 c) * gelu (U t (col 6 c)) * vn V G B s (col 6 c)) 6 6 rfl inb_S8x128x128_S1x128x128_6_0_0 fun _ _ => rfl) <|
    pieces_cons (piece9 (fun (g : Fin 8) (t s : Fin 128) => 0 + dw U V DY G B g t s) (fun _ t s => 0 + ∑ c, DY t (col 5 c) * gelu (U t (col 5 c)) * vn V G B s (col 5 c)) 5 5 rfl inb_S8x128x128_S1x128x128_5_0_0 fun _ _ => rfl) <|
    pieces_cons (piece9 (fun (g : Fin 8) (t s : Fin 128) => 0 + dw U V DY G B g t s) (fun _ t s => 0 + ∑ c, DY t (col 4 c) * gelu (U t (col 4 c)) * vn V G B s (col 4 c)) 4 4 rfl inb_S8x128x128_S1x128x128_4_0_0 fun _ _ => rfl) <|
    pieces_cons (piece9 (fun (g : Fin 8) (t s : Fin 128) => 0 + dw U V DY G B g t s) (fun _ t s => 0 + ∑ c, DY t (col 3 c) * gelu (U t (col 3 c)) * vn V G B s (col 3 c)) 3 3 rfl inb_S8x128x128_S1x128x128_3_0_0 fun _ _ => rfl) <|
    pieces_cons (piece9 (fun (g : Fin 8) (t s : Fin 128) => 0 + dw U V DY G B g t s) (fun _ t s => 0 + ∑ c, DY t (col 2 c) * gelu (U t (col 2 c)) * vn V G B s (col 2 c)) 2 2 rfl inb_S8x128x128_S1x128x128_2_0_0 fun _ _ => rfl) <|
    pieces_cons (piece9 (fun (g : Fin 8) (t s : Fin 128) => 0 + dw U V DY G B g t s) (fun _ t s => 0 + ∑ c, DY t (col 1 c) * gelu (U t (col 1 c)) * vn V G B s (col 1 c)) 1 1 rfl inb_S8x128x128_S1x128x128_1_0_0 fun _ _ => rfl) <|
    pieces_cons (piece9 (fun (g : Fin 8) (t s : Fin 128) => 0 + dw U V DY G B g t s) (fun _ t s => 0 + ∑ c, DY t (col 0 c) * gelu (U t (col 0 c)) * vn V G B s (col 0 c)) 0 0 rfl inb_S8x128x128_S1x128x128_0_0_0 fun _ _ => rfl) pieces_nil

theorem out10_A (hc0 : cond0_0 i) (U V DY : Mat) (W : Fin 8 → Sq) (bs : Fin 8 → Fin 128 → ℝ) (G B : Fin 1024 → ℝ) :
    out0_A_10 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) = m2 fun (t l : Fin 128) => 0 + dbl U DY t l := by
  unfold out0_A_10
  rw [View.read_writes_eq_canon _ _ _ (cover0_A_10 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j))]
  unfold kernelRun0_A
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  refine (View.canon_cons_unit_lit (S := S128x128) (Val := Elt Ideal) _ _ _ (by decide)).trans ?_
  congr 1; funext t l
  exact congrArg (_ + ·) (dbl_chain U DY t l (fun g => ∑ c, DY t (col g c) * gelu (U t (col g c))) fun _ => rfl)

theorem out11_A (hc0 : cond0_0 i) (U V DY : Mat) (W : Fin 8 → Sq) (bs : Fin 8 → Fin 128 → ℝ) (G B : Fin 1024 → ℝ) :
    out0_A_11 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) = m2 fun (_ : Fin 1) (j : Fin 1024) => 0 + dg U V DY W j := by
  unfold out0_A_11
  rw [View.read_writes_eq_canon _ _ _ (cover0_A_11 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j))]
  unfold kernelRun0_A
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  exact View.canon_cons_unit_lit (S := S1x1024) (Val := Elt Ideal) _ _ _ (by decide)

theorem out12_A (hc0 : cond0_0 i) (U V DY : Mat) (W : Fin 8 → Sq) (bs : Fin 8 → Fin 128 → ℝ) (G B : Fin 1024 → ℝ) :
    out0_A_12 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) = m2 fun (_ : Fin 1) (j : Fin 1024) => 0 + db U DY W j := by
  unfold out0_A_12
  rw [View.read_writes_eq_canon _ _ _ (cover0_A_12 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j))]
  unfold kernelRun0_A
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  exact View.canon_cons_unit_lit (S := S1x1024) (Val := Elt Ideal) _ _ _ (by decide)

theorem out8_B (hc0 : ¬ cond0_0 i) (U V DY : Mat) (W : Fin 8 → Sq) (bs : Fin 8 → Fin 128 → ℝ) (G B : Fin 1024 → ℝ) (a9 : Fin 8 → Sq) (a10 : Sq) (a11 a12 : Fin 1024 → ℝ) :
    out0_B_8 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j) = m3 fun (p : Fin 2) (r : Fin 128) (j : Fin 1024) => if p = 0 then du U V DY W bs G B r j else dv U V DY W G r j := by
  unfold out0_B_8
  rw [View.read_writes_eq_canon _ _ _ (cover0_B_8 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j))]
  unfold kernelRun0_B
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  refine canon_pieces (S := S2x128x1024) (e := .bf16) (G := m3 fun (p : Fin 2) (r : Fin 128) (j : Fin 1024) => if p = 0 then du U V DY W bs G B r j else dv U V DY W G r j) ?_ (fun y => View.cover_of_tiledBy _ ![1, 128, 128] (by sl_kernel_rfl) y)
  exact pieces_cons (piece8' (fun (p : Fin 2) (r : Fin 128) (j : Fin 1024) => if p = 0 then du U V DY W bs G B r j else dv U V DY W G r j) (fun _ s j => lnb (gv V s) (fun j => dvn U DY W s j * G j) j * dgelu (V s j)) inb_S2x128x1024_S1x128x1024_1_0_0 fun _ _ => (if_neg (by decide)).symm) <|
    pieces_cons (piece8 (fun (p : Fin 2) (r : Fin 128) (j : Fin 1024) => if p = 0 then du U V DY W bs G B r j else dv U V DY W G r j) (fun _ t c => DY t (col 7 c) * ((∑ s, W 7 t s * vn V G B s (col 7 c)) + bs 7 t) * dgelu (U t (col 7 c))) 7 896 rfl inb_S2x128x1024_S1x128x128_0_0_896 fun _ _ => by rw [if_pos rfl, du_col]) <|
    pieces_cons (piece8 (fun (p : Fin 2) (r : Fin 128) (j : Fin 1024) => if p = 0 then du U V DY W bs G B r j else dv U V DY W G r j) (fun _ t c => DY t (col 6 c) * ((∑ s, W 6 t s * vn V G B s (col 6 c)) + bs 6 t) * dgelu (U t (col 6 c))) 6 768 rfl inb_S2x128x1024_S1x128x128_0_0_768 fun _ _ => by rw [if_pos rfl, du_col]) <|
    pieces_cons (piece8 (fun (p : Fin 2) (r : Fin 128) (j : Fin 1024) => if p = 0 then du U V DY W bs G B r j else dv U V DY W G r j) (fun _ t c => DY t (col 5 c) * ((∑ s, W 5 t s * vn V G B s (col 5 c)) + bs 5 t) * dgelu (U t (col 5 c))) 5 640 rfl inb_S2x128x1024_S1x128x128_0_0_640 fun _ _ => by rw [if_pos rfl, du_col]) <|
    pieces_cons (piece8 (fun (p : Fin 2) (r : Fin 128) (j : Fin 1024) => if p = 0 then du U V DY W bs G B r j else dv U V DY W G r j) (fun _ t c => DY t (col 4 c) * ((∑ s, W 4 t s * vn V G B s (col 4 c)) + bs 4 t) * dgelu (U t (col 4 c))) 4 512 rfl inb_S2x128x1024_S1x128x128_0_0_512 fun _ _ => by rw [if_pos rfl, du_col]) <|
    pieces_cons (piece8 (fun (p : Fin 2) (r : Fin 128) (j : Fin 1024) => if p = 0 then du U V DY W bs G B r j else dv U V DY W G r j) (fun _ t c => DY t (col 3 c) * ((∑ s, W 3 t s * vn V G B s (col 3 c)) + bs 3 t) * dgelu (U t (col 3 c))) 3 384 rfl inb_S2x128x1024_S1x128x128_0_0_384 fun _ _ => by rw [if_pos rfl, du_col]) <|
    pieces_cons (piece8 (fun (p : Fin 2) (r : Fin 128) (j : Fin 1024) => if p = 0 then du U V DY W bs G B r j else dv U V DY W G r j) (fun _ t c => DY t (col 2 c) * ((∑ s, W 2 t s * vn V G B s (col 2 c)) + bs 2 t) * dgelu (U t (col 2 c))) 2 256 rfl inb_S2x128x1024_S1x128x128_0_0_256 fun _ _ => by rw [if_pos rfl, du_col]) <|
    pieces_cons (piece8 (fun (p : Fin 2) (r : Fin 128) (j : Fin 1024) => if p = 0 then du U V DY W bs G B r j else dv U V DY W G r j) (fun _ t c => DY t (col 1 c) * ((∑ s, W 1 t s * vn V G B s (col 1 c)) + bs 1 t) * dgelu (U t (col 1 c))) 1 128 rfl inb_S2x128x1024_S1x128x128_0_0_128 fun _ _ => by rw [if_pos rfl, du_col]) <|
    pieces_cons (piece8 (fun (p : Fin 2) (r : Fin 128) (j : Fin 1024) => if p = 0 then du U V DY W bs G B r j else dv U V DY W G r j) (fun _ t c => DY t (col 0 c) * ((∑ s, W 0 t s * vn V G B s (col 0 c)) + bs 0 t) * dgelu (U t (col 0 c))) 0 0 rfl inb_S2x128x1024_S1x128x128_0_0_0 fun _ _ => by rw [if_pos rfl, du_col]) pieces_nil

theorem out9_B (hc0 : ¬ cond0_0 i) (U V DY : Mat) (W : Fin 8 → Sq) (bs : Fin 8 → Fin 128 → ℝ) (G B : Fin 1024 → ℝ) (a9 : Fin 8 → Sq) (a10 : Sq) (a11 a12 : Fin 1024 → ℝ) :
    out0_B_9 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j) = m3 fun (g : Fin 8) (t s : Fin 128) => a9 g t s + dw U V DY G B g t s := by
  unfold out0_B_9
  rw [View.read_writes_eq_canon _ _ _ (cover0_B_9 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j))]
  unfold kernelRun0_B
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  refine canon_pieces (S := S8x128x128) (e := .f32) (G := m3 fun (g : Fin 8) (t s : Fin 128) => a9 g t s + dw U V DY G B g t s) ?_ (fun y => View.cover_of_tiledBy _ ![1, 128, 128] (by sl_kernel_rfl) y)
  exact pieces_cons (piece9 (fun (g : Fin 8) (t s : Fin 128) => a9 g t s + dw U V DY G B g t s) (fun _ t s => a9 7 t s + ∑ c, DY t (col 7 c) * gelu (U t (col 7 c)) * vn V G B s (col 7 c)) 7 7 rfl inb_S8x128x128_S1x128x128_7_0_0 fun _ _ => rfl) <|
    pieces_cons (piece9 (fun (g : Fin 8) (t s : Fin 128) => a9 g t s + dw U V DY G B g t s) (fun _ t s => a9 6 t s + ∑ c, DY t (col 6 c) * gelu (U t (col 6 c)) * vn V G B s (col 6 c)) 6 6 rfl inb_S8x128x128_S1x128x128_6_0_0 fun _ _ => rfl) <|
    pieces_cons (piece9 (fun (g : Fin 8) (t s : Fin 128) => a9 g t s + dw U V DY G B g t s) (fun _ t s => a9 5 t s + ∑ c, DY t (col 5 c) * gelu (U t (col 5 c)) * vn V G B s (col 5 c)) 5 5 rfl inb_S8x128x128_S1x128x128_5_0_0 fun _ _ => rfl) <|
    pieces_cons (piece9 (fun (g : Fin 8) (t s : Fin 128) => a9 g t s + dw U V DY G B g t s) (fun _ t s => a9 4 t s + ∑ c, DY t (col 4 c) * gelu (U t (col 4 c)) * vn V G B s (col 4 c)) 4 4 rfl inb_S8x128x128_S1x128x128_4_0_0 fun _ _ => rfl) <|
    pieces_cons (piece9 (fun (g : Fin 8) (t s : Fin 128) => a9 g t s + dw U V DY G B g t s) (fun _ t s => a9 3 t s + ∑ c, DY t (col 3 c) * gelu (U t (col 3 c)) * vn V G B s (col 3 c)) 3 3 rfl inb_S8x128x128_S1x128x128_3_0_0 fun _ _ => rfl) <|
    pieces_cons (piece9 (fun (g : Fin 8) (t s : Fin 128) => a9 g t s + dw U V DY G B g t s) (fun _ t s => a9 2 t s + ∑ c, DY t (col 2 c) * gelu (U t (col 2 c)) * vn V G B s (col 2 c)) 2 2 rfl inb_S8x128x128_S1x128x128_2_0_0 fun _ _ => rfl) <|
    pieces_cons (piece9 (fun (g : Fin 8) (t s : Fin 128) => a9 g t s + dw U V DY G B g t s) (fun _ t s => a9 1 t s + ∑ c, DY t (col 1 c) * gelu (U t (col 1 c)) * vn V G B s (col 1 c)) 1 1 rfl inb_S8x128x128_S1x128x128_1_0_0 fun _ _ => rfl) <|
    pieces_cons (piece9 (fun (g : Fin 8) (t s : Fin 128) => a9 g t s + dw U V DY G B g t s) (fun _ t s => a9 0 t s + ∑ c, DY t (col 0 c) * gelu (U t (col 0 c)) * vn V G B s (col 0 c)) 0 0 rfl inb_S8x128x128_S1x128x128_0_0_0 fun _ _ => rfl) pieces_nil

theorem out10_B (hc0 : ¬ cond0_0 i) (U V DY : Mat) (W : Fin 8 → Sq) (bs : Fin 8 → Fin 128 → ℝ) (G B : Fin 1024 → ℝ) (a9 : Fin 8 → Sq) (a10 : Sq) (a11 a12 : Fin 1024 → ℝ) :
    out0_B_10 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j) = m2 fun (t l : Fin 128) => a10 t l + dbl U DY t l := by
  unfold out0_B_10
  rw [View.read_writes_eq_canon _ _ _ (cover0_B_10 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j))]
  unfold kernelRun0_B
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  refine (View.canon_cons_unit_lit (S := S128x128) (Val := Elt Ideal) _ _ _ (by decide)).trans ?_
  congr 1; funext t l
  exact congrArg (_ + ·) (dbl_chain U DY t l (fun g => ∑ c, DY t (col g c) * gelu (U t (col g c))) fun _ => rfl)

theorem out11_B (hc0 : ¬ cond0_0 i) (U V DY : Mat) (W : Fin 8 → Sq) (bs : Fin 8 → Fin 128 → ℝ) (G B : Fin 1024 → ℝ) (a9 : Fin 8 → Sq) (a10 : Sq) (a11 a12 : Fin 1024 → ℝ) :
    out0_B_11 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j) = m2 fun (_ : Fin 1) (j : Fin 1024) => a11 j + dg U V DY W j := by
  unfold out0_B_11
  rw [View.read_writes_eq_canon _ _ _ (cover0_B_11 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j))]
  unfold kernelRun0_B
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  exact View.canon_cons_unit_lit (S := S1x1024) (Val := Elt Ideal) _ _ _ (by decide)

theorem out12_B (hc0 : ¬ cond0_0 i) (U V DY : Mat) (W : Fin 8 → Sq) (bs : Fin 8 → Fin 128 → ℝ) (G B : Fin 1024 → ℝ) (a9 : Fin 8 → Sq) (a10 : Sq) (a11 a12 : Fin 1024 → ℝ) :
    out0_B_12 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j) = m2 fun (_ : Fin 1) (j : Fin 1024) => a12 j + db U DY W j := by
  unfold out0_B_12
  rw [View.read_writes_eq_canon _ _ _ (cover0_B_12 (F := Ideal) c i arg1 harg1 arg2 harg2 arg3 harg3 arg5 harg5 arg6 harg6 arg7 harg7 arg8 harg8 arg9 harg9 arg10 harg10 arg11 harg11 arg12 harg12 arg13 harg13 arg14 harg14 arg15 harg15 hc0 (m3 fun _ => U) (m3 fun _ => V) (m2 DY) (m3 W) (m3 fun g s t => W g t s) (m2 fun t g => bs g t) (m2 fun _ j => G j) (m2 fun _ j => B j) (m3 a9) (m2 a10) (m2 fun _ j => a11 j) (m2 fun _ j => a12 j))]
  unfold kernelRun0_B
  dsimp only
  sl_unfold_words
  simp (disch := decide) only [View.readAt_eq_ld, harg1.read_unread, harg2.read_unread, harg3.read_unread, harg5.read_unread, harg6.read_unread, harg7.read_unread, harg8.read_unread, harg9.read_unread, harg11.read_unread, harg12.read_unread, harg13.read_unread, harg14.read_unread, ↓View.readCov_skip, ↓View.readCov_fill, ld_row3, ld_row1, ld_sq, ld_grp _ 0 0 rfl, ld_grp' _ 0 0 rfl, ld_cols _ 0 0 rfl, ld_bias _ 0 0 rfl, ld_grp _ 1 1 rfl, ld_grp' _ 1 1 rfl, ld_cols _ 1 128 rfl, ld_bias _ 1 1 rfl, ld_grp _ 2 2 rfl, ld_grp' _ 2 2 rfl, ld_cols _ 2 256 rfl, ld_bias _ 2 2 rfl, ld_grp _ 3 3 rfl, ld_grp' _ 3 3 rfl, ld_cols _ 3 384 rfl, ld_bias _ 3 3 rfl, ld_grp _ 4 4 rfl, ld_grp' _ 4 4 rfl, ld_cols _ 4 512 rfl, ld_bias _ 4 4 rfl, ld_grp _ 5 5 rfl, ld_grp' _ 5 5 rfl, ld_cols _ 5 640 rfl, ld_bias _ 5 5 rfl, ld_grp _ 6 6 rfl, ld_grp' _ 6 6 rfl, ld_cols _ 6 768 rfl, ld_bias _ 6 6 rfl, ld_grp _ 7 7 rfl, ld_grp' _ 7 7 rfl, ld_cols _ 7 896 rfl, ld_bias _ 7 7 rfl, pay6, pay11, pay12, pay13, pay15, pay16, pay17, pay21, pay23, pay24, pay26, pay1, pay84 _ _ iota_S128x128_d1_w32, pay93, pay94, pay95, pay2, pay3, pay4, pay5, pay25, pay27, pay28, pay29, pay30, pay31 _ _ iota_S128x128_d1_w32, pay32, pay33, pay34, pay35, pay36, pay37, pay38, pay39, pay40 _ _ _ iota_S128x128_d1_w32, pay41, pay42, pay43, pay44, pay45, pay46, pay47, pay48, pay49 _ _ _ iota_S128x128_d1_w32, pay50, pay51, pay52, pay53, pay54, pay55, pay56, pay57 _ _ iota_S128x128_d1_w32, pay58, pay59, pay60, pay61, pay62, pay63, pay64, pay65 _ _ iota_S128x128_d1_w32, pay66, pay67, pay68, pay69, pay70, pay71, pay72, pay73 _ _ _ iota_S128x128_d1_w32, pay74, pay75, pay76, pay77, pay78, pay79, pay80, pay82, pay85, pay86, pay87, pay88, pay89, pay90, pay91, pay92 _ _ _ iota_S128x128_d1_w32, readCov_dvn, stitch_dvn]
  exact View.canon_cons_unit_lit (S := S1x1024) (Val := Elt Ideal) _ _ _ (by decide)
end Cert.Point
-- ==== Proof.Rows.lean ====
/- The five results over all rows: the gradients of the two projections, and the four sums over the blocks of 128 rows. -/
module

public import proofs.«01_k».proof.Proof.Point

@[expose] public section
noncomputable section
namespace Cert.Run
open Cert.Spec Cert.Pay Cert.Point Idealize.ShloMosaic

/-- The block `n` of 128 rows. -/
abbrev bl (X : Fin 4096 → Fin 1024 → ℝ) (n : Fin 32) : Mat := fun r j => X (row n r) j

section Res
variable (U V' DY : Fin 4096 → Fin 1024 → ℝ) (W : Fin 8 → Sq) (bs : Fin 8 → Fin 128 → ℝ) (G B : Fin 1024 → ℝ)

/-- The gradient of the first projection, at a row and a column. -/
def rU (r : Fin 4096) (j : Fin 1024) : ℝ := du (bl U (blk r)) (bl V' (blk r)) (bl DY (blk r)) W bs G B (pos r) j
/-- The gradient of the second projection, at a row and a column. -/
def rV (r : Fin 4096) (j : Fin 1024) : ℝ := dv (bl U (blk r)) (bl V' (blk r)) (bl DY (blk r)) W G (pos r) j
/-- What the blocks before `n` add up to, for each of the four sums. -/
def sW (n : ℕ) (g : Fin 8) (t s : Fin 128) : ℝ := ∑ k ∈ Finset.range n, dw (bl U (Fin.ofNat 32 k)) (bl V' (Fin.ofNat 32 k)) (bl DY (Fin.ofNat 32 k)) G B g t s
def sB (n : ℕ) (t l : Fin 128) : ℝ := ∑ k ∈ Finset.range n, dbl (bl U (Fin.ofNat 32 k)) (bl DY (Fin.ofNat 32 k)) t l
def sG (n : ℕ) (j : Fin 1024) : ℝ := ∑ k ∈ Finset.range n, dg (bl U (Fin.ofNat 32 k)) (bl V' (Fin.ofNat 32 k)) (bl DY (Fin.ofNat 32 k)) W j
def sD (n : ℕ) (j : Fin 1024) : ℝ := ∑ k ∈ Finset.range n, db (bl U (Fin.ofNat 32 k)) (bl DY (Fin.ofNat 32 k)) W j

/-- The gradient of the projections as the kernel leaves it, over what the array held before. -/
def r8 (x2 : (⟨3, ![8, 4096, 1024]⟩ : Shape).Idx → EReal) : (⟨3, ![8, 4096, 1024]⟩ : Shape).Idx → EReal := fun y =>
  if (y 0).val = 4 then ((rU U V' DY W bs G B (y 1) (y 2) : ℝ) : EReal) else if (y 0).val = 5 then ((rV U V' DY W G (y 1) (y 2) : ℝ) : EReal) else x2 y
end Res

end Cert.Run
end
-- ==== Proof.Run.lean ====
/- What the kernel leaves in its five arrays: the gradient of the two projections block by block, and the four sums over
   the blocks of 128 rows. -/
module

public import proofs.«01_k».proof.Proof.Head
public import proofs.«01_k».proof.Proof.Rows

@[expose] public section
noncomputable section
namespace Cert.Run
open Cert.KernelIdeal Cert.KernelIdeal.Gen Cert.Spec Cert.Pay Cert.Head Cert.Point Idealize.ShloMosaic Idealize.ShloMosaic.TcCoe Idealize.SL.Sem

/-- The last point of the grid. -/
abbrev last : Fin cfg0.N := ⟨31, by decide⟩

variable (m : (ℓ : Loc nD τ sig) → Buf (Elt Ideal) ℓ) (c : Dev nD)
variable {U V' DY : Fin 4096 → Fin 1024 → ℝ} {W0 : Fin 8 → Sq} {bs : Fin 8 → Fin 128 → ℝ} {G B : Fin 1024 → ℝ}
variable (h : KIn m c U V' DY W0 bs G B)
include h

theorem outs_A (t : Fin cfg0.N) (h0 : t.val % 32 = 0) : outsAt0 m c t.val t.isLt =
    (m3 fun (p : Fin 2) r j => if p = 0 then du (bl U (nb t)) (bl V' (nb t)) (bl DY (nb t)) (Wm W0) bs G B r j else dv (bl U (nb t)) (bl V' (nb t)) (bl DY (nb t)) (Wm W0) G r j,
     m3 fun g t' s => 0 + dw (bl U (nb t)) (bl V' (nb t)) (bl DY (nb t)) G B g t' s, m2 fun t' l => 0 + dbl (bl U (nb t)) (bl DY (nb t)) t' l,
     m2 fun _ j => 0 + dg (bl U (nb t)) (bl V' (nb t)) (bl DY (nb t)) (Wm W0) j, m2 fun _ j => 0 + db (bl U (nb t)) (bl DY (nb t)) (Wm W0) j) := by
  rw [outsAt0_A m c t h0, iblk0 m c h t, iblk1 m c h t, iblk2 m c h t, iblk3 m c h t, iblk4 m c h t, iblk5 m c h t, iblk6 m c h t, iblk7 m c h t,
    out8_A, out9_A, out10_A, out11_A, out12_A]

theorem outs_B (t : Fin cfg0.N) (h0 : ¬ t.val % 32 = 0) {x8 : Vec Ideal S2x128x1024 .bf16} {a9 : Fin 8 → Sq} {a10 : Sq} {a11 a12 : Fin 1024 → ℝ}
    (hp : outsAt0 m c (t.val - 1) (Nat.lt_of_le_of_lt (Nat.sub_le _ _) t.isLt) = (x8, m3 a9, m2 a10, m2 fun _ j => a11 j, m2 fun _ j => a12 j)) : outsAt0 m c t.val t.isLt =
    (m3 fun (p : Fin 2) r j => if p = 0 then du (bl U (nb t)) (bl V' (nb t)) (bl DY (nb t)) (Wm W0) bs G B r j else dv (bl U (nb t)) (bl V' (nb t)) (bl DY (nb t)) (Wm W0) G r j,
     m3 fun g t' s => a9 g t' s + dw (bl U (nb t)) (bl V' (nb t)) (bl DY (nb t)) G B g t' s, m2 fun t' l => a10 t' l + dbl (bl U (nb t)) (bl DY (nb t)) t' l,
     m2 fun _ j => a11 j + dg (bl U (nb t)) (bl V' (nb t)) (bl DY (nb t)) (Wm W0) j, m2 fun _ j => a12 j + db (bl U (nb t)) (bl DY (nb t)) (Wm W0) j) := by
  rw [outsAt0_B m c t h0, hp, iblk0 m c h t, iblk1 m c h t, iblk2 m c h t, iblk3 m c h t, iblk4 m c h t, iblk5 m c h t, iblk6 m c h t, iblk7 m c h t]
  dsimp only
  rw [out8_B, out9_B, out10_B, out11_B, out12_B]

/-- After the point `n`, the first buffer holds the gradients of the block `n`, and the others the sums over the blocks so far. -/
theorem outs (n : ℕ) (hn : n < cfg0.N) : outsAt0 m c n hn =
    (m3 fun (p : Fin 2) r j => if p = 0 then du (bl U (nb ⟨n, hn⟩)) (bl V' (nb ⟨n, hn⟩)) (bl DY (nb ⟨n, hn⟩)) (Wm W0) bs G B r j else dv (bl U (nb ⟨n, hn⟩)) (bl V' (nb ⟨n, hn⟩)) (bl DY (nb ⟨n, hn⟩)) (Wm W0) G r j,
     m3 fun g t' s => sW U V' DY G B (n + 1) g t' s, m2 fun t' l => sB U DY (n + 1) t' l, m2 fun _ j => sG U V' DY (Wm W0) (n + 1) j, m2 fun _ j => sD U DY (Wm W0) (n + 1) j) := by
  have hN : cfg0.N = 32 := N_0
  have e : nb ⟨n, hn⟩ = Fin.ofNat 32 n := Fin.ext (Nat.mod_eq_of_lt (by omega)).symm
  induction n with
  | zero =>
    rw [outs_A m c h ⟨0, hn⟩ rfl, e]
    simp only [zero_add, sW, sB, sG, sD, Finset.sum_range_one]
  | succ n ih =>
    rw [outs_B m c h ⟨n + 1, hn⟩ (by dsimp only; omega) (ih (by omega) (Fin.ext (Nat.mod_eq_of_lt (by omega)).symm)), e]
    simp only [sW, sB, sG, sD, Finset.sum_range_succ _ (n + 1)]

theorem arr9 : (dats m 0 c).arrAt 9 cfg0.N = (m3 (sW U V' DY G B 32) : S8x128x128.Idx → EReal) := by
  refine (dats m 0 c).arrAt_eq_of_after_last 9 last (by decide +kernel) _ fun j => ?_
  blk_simp
  rw [after0_9, outs m c h]

theorem arr10 : (dats m 0 c).arrAt 10 cfg0.N = (m2 (sB U DY 32) : S128x128.Idx → EReal) := by
  refine (dats m 0 c).arrAt_eq_of_after_last 10 last (by decide +kernel) _ fun j => ?_
  blk_simp
  rw [after0_10, outs m c h]

theorem arr11 : (dats m 0 c).arrAt 11 cfg0.N = (m2 fun _ j => sG U V' DY (Wm W0) 32 j : S1x1024.Idx → EReal) := by
  refine (dats m 0 c).arrAt_eq_of_after_last 11 last (by decide +kernel) _ fun j => ?_
  blk_simp
  rw [after0_11, outs m c h]

theorem arr12 : (dats m 0 c).arrAt 12 cfg0.N = (m2 fun _ j => sD U DY (Wm W0) 32 j : S1x1024.Idx → EReal) := by
  refine (dats m 0 c).arrAt_eq_of_after_last 12 last (by decide +kernel) _ fun j => ?_
  blk_simp
  rw [after0_12, outs m c h]

omit h in
theorem idx8 : ∀ t : Fin cfg0.N, win0_8.index t = ![2, t.val, 0] := by decide +kernel

theorem arr8 : (dats m 0 c).arrAt 8 cfg0.N = (r8 U V' DY (Wm W0) bs G B (m ((c : Thread nD τ).loc main_arg2)) : S8x4096x1024.Idx → EReal) := by
  refine (dats m 0 c).arrAt_eq_of_coversWhere_of_agree 8 _ (fun β => β (0 : Fin 3) = 2) (by decide +kernel) (fun t hf y => ?_) (fun j hj => ?_)
  · blk_simp
    rw [after0_8, outs m c h]
    obtain ⟨p, r, l, rfl⟩ : ∃ (p : Fin 2) (r : Fin 128) (l : Fin 1024), y = ix3 p r l := ⟨y 0, y 1, y 2, eq_ix3 y⟩
    have e : ((cfg0.win 8).blk t).view.emb (ix3 p r l) = (ix3 (⟨4 + p.val, by omega⟩ : Fin 8) (row (nb t) r) l : S8x4096x1024.Idx) := by
      blk_ext [idx8 t, row]
    rw [e]
    show m3 (fun (p : Fin 2) (r : Fin 128) (j : Fin 1024) => _) (ix3 p r l) = _
    rw [m3_ix]
    fin_cases p
    · show _ = (((rU U V' DY (Wm W0) bs G B (row (nb t) r) l : ℝ) : EReal))
      simp [rU]
    · show _ = (((rV U V' DY (Wm W0) G (row (nb t) r) l : ℝ) : EReal))
      simp [rV]
  · rw [A_eq]
    show V m c main_v13_0 _ = _
    rw [v13]
    blk_simp [Pipeline.Window.cell_apply] at hj
    show _ = r8 _ _ _ _ _ _ _ _ j
    unfold r8
    rw [if_neg (by omega), if_neg (by omega)]
    rfl

omit h
/-- What the host code behind the kernel makes of the sums of the mixing weights' gradient: the mask is laid over them. -/
theorem tail15 (X : Valuation τ sig (Elt Ideal)) :
    StableHlo.after (List.flatten [hostOps1, hostOps1_1, hostOps1_2]) X (Proc.devRef .tc main_v15)
      = (select (broadcastInDim S8x128x128 ![0, 1, 2] bcast_S1x128x128_S8x128x128_0_1_2 (broadcastInDim S1x128x128 ![1, 2] bcast_S128x128_S1x128x128_1_2 (X (Proc.devRef .tc main_v6) : S128x128.Idx → BitVec 1)))
          (X (Proc.devRef .tc main_v13_1) : S8x128x128.Idx → EReal) (broadcastInDim S8x128x128 ![] bcast_S_S8x128x128 (constant (F := Ideal) S_ .f32 0x00000000#32)) : S8x128x128.Idx → EReal) := by
  simp only [hostOps1, hostOps1_1, hostOps1_2, List.flatten_cons, List.flatten_nil, List.append_nil, List.cons_append, List.nil_append]
  after_results
  rfl

/-- What the host code behind the kernel makes of the sums of the bias's gradient: the first eight columns, transposed. -/
theorem tail17 (X : Valuation τ sig (Elt Ideal)) :
    StableHlo.after (List.flatten [hostOps1, hostOps1_1, hostOps1_2]) X (Proc.devRef .tc main_v17)
      = (transpose S8x128 [1, 0] (extractStridedSlice S128x8 ![0, 0] (X (Proc.devRef .tc main_v13_2) : S128x128.Idx → EReal) slices_S128x128_S128x8_0_0) transposes_S128x8_S8x128_1_0 : S8x128.Idx → EReal) := by
  simp only [hostOps1, hostOps1_1, hostOps1_2, List.flatten_cons, List.flatten_nil, List.append_nil, List.cons_append, List.nil_append]
  after_results

include h
theorem res15 : Pipeline.afterTail₀ cfgs (dats m) 0 (V0 m) [hostOps1, hostOps1_1, hostOps1_2] c main_v15
    = (m3 fun g t s => if s.val / 64 ≤ t.val / 64 then sW U V' DY G B 32 g t s else 0 : S8x128x128.Idx → EReal) := by
  unfold Pipeline.afterTail₀
  rw [tail15]
  have e6 : Pipeline.withArrays (cfgs 0).spec c (V0 m c) (fun w => (dats m 0 c).arrAt w (cfgs 0).N) (Proc.devRef .tc main_v6) = V m c main_v6 :=
    Pipeline.withArrays_of_ne _ c (V0 m c) _ main_v6 (by exact (by decide : ∀ w, Pipeline.arrRef spec0 w ≠ main_v6))
  have e9 : Pipeline.withArrays (cfgs 0).spec c (V0 m c) (fun w => (dats m 0 c).arrAt w (cfgs 0).N) (Proc.devRef .tc main_v13_1) = (m3 (sW U V' DY G B 32) : S8x128x128.Idx → EReal) :=
    ((dats m 0 c).withArrays_arrAt sharedIn0 (V0 m c) (A_eq m c) 9).trans (arr9 m c h)
  rw [e6, e9, v6]
  refine m3_ext fun g t s => ?_
  pointwise []
  rw [Cert.Mask.mask]
  split
  · rfl
  · rfl

theorem res17 : Pipeline.afterTail₀ cfgs (dats m) 0 (V0 m) [hostOps1, hostOps1_1, hostOps1_2] c main_v17
    = (m2 fun (g : Fin 8) t => sB U DY 32 t ⟨g.val, by omega⟩ : S8x128.Idx → EReal) := by
  unfold Pipeline.afterTail₀
  rw [tail17]
  have e10 : Pipeline.withArrays (cfgs 0).spec c (V0 m c) (fun w => (dats m 0 c).arrAt w (cfgs 0).N) (Proc.devRef .tc main_v13_2) = (m2 (sB U DY 32) : S128x128.Idx → EReal) :=
    ((dats m 0 c).withArrays_arrAt sharedIn0 (V0 m c) (A_eq m c) 10).trans (arr10 m c h)
  rw [e10]
  refine m2_ext fun g t => ?_
  pointwise []
  rfl

end Cert.Run
end
-- ==== Proof.Sums.lean ====
/- The sums over the blocks, as sums over the 32 blocks. -/
module

public import proofs.«01_k».proof.Proof.Rows

@[expose] public section
noncomputable section
namespace Cert.Run
open Cert.Spec Cert.Pay Cert.Point Idealize.ShloMosaic

/-- A sum over the numbers below 32 is the sum over the blocks. -/
theorem sum_blocks (f : Fin 32 → ℝ) : ∑ k ∈ Finset.range 32, f (Fin.ofNat 32 k) = ∑ n, f n := by
  rw [Finset.sum_range]
  exact Finset.sum_congr rfl fun i _ => congrArg f (Fin.ext (Nat.mod_eq_of_lt i.isLt))

variable (U V DY : Fin 4096 → Fin 1024 → ℝ) (W : Fin 8 → Sq) (G B : Fin 1024 → ℝ)

theorem sW_all (g : Fin 8) (t s : Fin 128) : sW U V DY G B 32 g t s = ∑ n, dw (bl U n) (bl V n) (bl DY n) G B g t s :=
  sum_blocks fun n => dw (bl U n) (bl V n) (bl DY n) G B g t s
theorem sB_all (g : Fin 8) (t : Fin 128) : sB U DY 32 t ⟨g.val, by omega⟩ = ∑ n, dbs (bl U n) (bl DY n) g t := by
  refine (sum_blocks fun n => dbl (bl U n) (bl DY n) t ⟨g.val, by omega⟩).trans (Finset.sum_congr rfl fun n _ => ?_)
  simp [dbl]
theorem sG_all (j : Fin 1024) : sG U V DY W 32 j = ∑ n, dg (bl U n) (bl V n) (bl DY n) W j :=
  sum_blocks fun n => dg (bl U n) (bl V n) (bl DY n) W j
theorem sD_all (j : Fin 1024) : sD U DY W 32 j = ∑ n, db (bl U n) (bl DY n) W j :=
  sum_blocks fun n => db (bl U n) (bl DY n) W j

end Cert.Run
end
-- ==== Proof.Value.lean ====
/- What the two programs leave in their results, over real arguments. -/
module

public import proofs.«01_k».proof.Proof.Run
public import proofs.«01_k».proof.Proof.Sums

@[expose] public section
noncomputable section
namespace Cert.Value
open Cert.Spec Cert.Pay Cert.Head Cert.Run Cert.Point Idealize.ShloMosaic Idealize.SL.Sem Idealize.ShloMosaic.TcCoe

section Res
variable (U V DY : Fin 4096 → Fin 1024 → ℝ) (W0 : Fin 8 → Sq) (bs : Fin 8 → Fin 128 → ℝ) (G B : Fin 1024 → ℝ)

/-- The gradient of the mixing weights. -/
def fW : (⟨3, ![8, 128, 128]⟩ : Shape).Idx → EReal := m3 fun g t s => if s.val / 64 ≤ t.val / 64 then ∑ n, dw (bl U n) (bl V n) (bl DY n) G B g t s else 0
/-- The gradient of the mixing bias. -/
def fB : (⟨2, ![8, 128]⟩ : Shape).Idx → EReal := m2 fun g t => ∑ n, dbs (bl U n) (bl DY n) g t
/-- The gradient of the layer norm's gain. -/
def fG : (⟨2, ![1, 1024]⟩ : Shape).Idx → EReal := m2 fun _ j => ∑ n, dg (bl U n) (bl V n) (bl DY n) (Wm W0) j
/-- The gradient of the layer norm's bias. -/
def fD : (⟨2, ![1, 1024]⟩ : Shape).Idx → EReal := m2 fun _ j => ∑ n, db (bl U n) (bl DY n) (Wm W0) j
end Res

section Kernel
open Cert.KernelIdeal Cert.KernelIdeal.Gen
variable (m : (ℓ : Loc nD τ sig) → Buf (Elt Ideal) ℓ) (ρ : Dev nD → PrngReg)
variable {U V DY : Dev nD → Fin 4096 → Fin 1024 → ℝ} {W0 : Dev nD → Fin 8 → Sq} {bs : Dev nD → Fin 8 → Fin 128 → ℝ} {G B : Dev nD → Fin 1024 → ℝ}

/-- The kernel ends with the five gradients in its results and its arguments unchanged. -/
theorem kernel (h : ∀ c, KIn m c (U c) (V c) (DY c) (W0 c) (bs c) (G c) (B c)) :
    θ_run defs (onTc (τ := τ) (main (F := Ideal))) ⟨m, fun _ => 0, ρ⟩ (fun r => ∀ c : Dev nD,
      r.2.mem ((c.tc : Thread nD τ).loc main_v13_0) = (r8 (U c) (V c) (DY c) (Wm (W0 c)) (bs c) (G c) (B c) (m ((c.tc : Thread nD τ).loc main_arg2)) : S8x4096x1024.Idx → EReal)
      ∧ r.2.mem ((c.tc : Thread nD τ).loc main_v15) = (fW (U c) (V c) (DY c) (G c) (B c) : S8x128x128.Idx → EReal)
      ∧ r.2.mem ((c.tc : Thread nD τ).loc main_v17) = (fB (U c) (DY c) : S8x128.Idx → EReal)
      ∧ r.2.mem ((c.tc : Thread nD τ).loc main_v13_3) = (fG (U c) (V c) (DY c) (W0 c) : S1x1024.Idx → EReal)
      ∧ r.2.mem ((c.tc : Thread nD τ).loc main_v13_4) = (fD (U c) (DY c) (W0 c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r e c => ⟨((e c).1 8).trans (arr8 m c (h c)),
    ((e c).2 main_v15 (Pipeline.mem_restRefs_of main_v15 (by decide) (by decide))).trans ((res15 m c (h c)).trans (by simp only [sW_all]; rfl)),
    ((e c).2 main_v17 (Pipeline.mem_restRefs_of main_v17 (by decide) (by decide))).trans ((res17 m c (h c)).trans (by simp only [sB_all]; rfl)),
    ((e c).1 11).trans ((arr11 m c (h c)).trans (by simp only [sG_all]; rfl)),
    ((e c).1 12).trans ((arr12 m c (h c)).trans (by simp only [sD_all]; rfl)),
    ((e c).1 1).trans (((dats m 0 c).arrAt_in 1 rfl _).trans ((A_eq m c 1).trans (V_main_arg0 m c))),
    ((e c).1 2).trans (((dats m 0 c).arrAt_in 2 rfl _).trans ((A_eq m c 2).trans (V_main_arg1 m c))),
    ((e c).2 main_arg2 (Pipeline.mem_restRefs_of main_arg2 (by decide) (by decide))).trans (W_main_arg2 m (dats m) c),
    ((e c).2 main_arg3 (Pipeline.mem_restRefs_of main_arg3 (by decide) (by decide))).trans (W_main_arg3 m (dats m) c),
    ((e c).2 main_arg4 (Pipeline.mem_restRefs_of main_arg4 (by decide) (by decide))).trans (W_main_arg4 m (dats m) c),
    ((e c).1 6).trans (((dats m 0 c).arrAt_in 6 rfl _).trans ((A_eq m c 6).trans (V_main_arg5 m c))),
    ((e c).1 7).trans (((dats m 0 c).arrAt_in 7 rfl _).trans ((A_eq m c 7).trans (V_main_arg6 m c)))⟩) (run_main m ρ)
end Kernel

end Cert.Value
end
-- ==== Proof.RefA.lean ====
/- The reference over the reals, first part: the two gates and the layer norm. -/
module

public import proofs.«01_k».proof.Proof.Head
public import proofs.«01_k».proof.Proof.Gen.ReferenceIdeal.Read
public import Idealize.ShloMosaic.Lib.Pointwise

@[expose] public section
noncomputable section
namespace Cert.Ref
open Cert.ReferenceIdeal Cert.ReferenceIdeal.Gen Cert.ReferenceIdeal.Read Cert.Spec Cert.Pay Cert.Head Idealize.ShloMosaic

theorem word_three : Ideal.ofBits .f32 0x40400000#32 = ((3 : ℝ) : EReal) := by
  simp [Ideal.ofBits, Ideal.ieee]; norm_num [← EReal.coe_mul]
theorem word_two : Ideal.ofBits .f32 0x40000000#32 = ((2 : ℝ) : EReal) := by
  simp [Ideal.ofBits, Ideal.ieee]; norm_num [← EReal.coe_mul]
theorem word_num : Ideal.ofBits .f32 0x472EAB00#32 = ((44715 : ℝ) : EReal) := by
  simp [Ideal.ofBits, Ideal.ieee]; norm_num [← EReal.coe_mul]
theorem word_den : Ideal.ofBits .f32 0x49742400#32 = ((1000000 : ℝ) : EReal) := by
  simp [Ideal.ofBits, Ideal.ieee]; norm_num [← EReal.coe_mul]
theorem word_mhalf : Ideal.ofBits .f32 0xBF000000#32 = ((-(1 / 2) : ℝ) : EReal) := by
  simp [Ideal.ofBits, Ideal.ieee]; norm_num [← EReal.coe_mul]

/-- The gated row. -/
def gz (V : Fin 4096 → Fin 1024 → ℝ) (r : Fin 4096) : Fin 1024 → ℝ := fun j => gelu (V r j)

/-- The argument of the tangent, written with the cube. -/
theorem th_cube (u : ℝ) : Real.tanh (K * (u + 44715 * (u * u * u) / 1000000)) = th u := by
  unfold th C; congr 1; ring

variable {x0 : S8x4096x1024.Idx → EReal} {x1 : S4096x1024.Idx → EReal} {x3 : S8x128x128.Idx → EReal} {x4 : S8x128.Idx → EReal} {x5 x6 : S1x1024.Idx → EReal}
  {U V DY : Fin 4096 → Fin 1024 → ℝ} {W0 : Fin 8 → Sq} {bs : Fin 8 → Fin 128 → ℝ} {G B : Fin 1024 → ℝ}
variable (h : In x0 x1 x3 x4 x5 x6 U V DY W0 bs G B)
include h

theorem r2 : val_main_v2 (F := Ideal) x0 = m2 U := by
  refine m2_ext fun r j => ?_
  rw [← h.hu, val_main_v2_apply, val_main_v1_apply, val_main_v0_apply]
  show x0 _ = _
  congr 1
  funext a; apply Fin.ext
  match a with
  | ⟨0, _⟩ => rfl
  | ⟨1, _⟩ => show (r.val * 1024 + j.val) / 1024 % 4096 = r.val; omega
  | ⟨2, _⟩ => show (r.val * 1024 + j.val) % 1024 = j.val; omega

theorem r5 : val_main_v5 (F := Ideal) x0 = m2 V := by
  refine m2_ext fun r j => ?_
  rw [← h.hv, val_main_v5_apply, val_main_v4_apply, val_main_v3_apply]
  show x0 _ = _
  congr 1
  funext a; apply Fin.ext
  match a with
  | ⟨0, _⟩ => rfl
  | ⟨1, _⟩ => show (r.val * 1024 + j.val) / 1024 % 4096 = r.val; omega
  | ⟨2, _⟩ => show (r.val * 1024 + j.val) % 1024 = j.val; omega

theorem r10 : val_main_v10 (F := Ideal) x0 = m2 fun r j => 3 * (U r j * U r j) := by
  refine m2_ext fun r j => ?_
  pointwise [val_main_v10, val_main_v9, val_main_cst, val_main_v8, r2 h, m2_ix, word_three]
  simp only [← EReal.coe_mul]

theorem r33 : val_main_v33 (F := Ideal) x0 = m2 fun r j => 3 * (V r j * V r j) := by
  refine m2_ext fun r j => ?_
  pointwise [val_main_v33, val_main_v32, val_main_cst_7, val_main_v31, r5 h, m2_ix, word_three]
  simp only [← EReal.coe_mul]

theorem r18 : val_main_v18 (F := Ideal) x0 = m2 fun r j => th (U r j) := by
  refine m2_ext fun r j => ?_
  pointwise [val_main_v18, val_main_v17, val_main_v16, val_main_v15, val_main_v14, val_main_v13, val_main_v12, val_main_v11, val_main_v7, val_main_v6, val_main_cst_0, val_main_cst_1, val_main_cst_2, r2 h, m2_ix, word_num, word_den, word_K]
  rw [← th_cube]
  simp only [← EReal.coe_mul]
  rw [div_coe' _ _ (by norm_num), ← EReal.coe_add, ← EReal.coe_mul, Ideal.tanh_coe]

theorem r41 : val_main_v41 (F := Ideal) x0 = m2 fun r j => th (V r j) := by
  refine m2_ext fun r j => ?_
  pointwise [val_main_v41, val_main_v40, val_main_v39, val_main_v38, val_main_v37, val_main_v36, val_main_v35, val_main_v34, val_main_v30, val_main_v29, val_main_cst_8, val_main_cst_9, val_main_cst_10, r5 h, m2_ix, word_num, word_den, word_K]
  rw [← th_cube]
  simp only [← EReal.coe_mul]
  rw [div_coe' _ _ (by norm_num), ← EReal.coe_add, ← EReal.coe_mul, Ideal.tanh_coe]

theorem r23 : val_main_v23 (F := Ideal) x0 = m2 fun r j => (1 + th (U r j)) * (1 - th (U r j)) := by
  refine m2_ext fun r j => ?_
  pointwise [val_main_v23, val_main_v22, val_main_v21, val_main_v20, val_main_v19, val_main_cst_3, val_main_cst_4, r18 h, m2_ix, word_one]
  simp only [← EReal.coe_mul, ← EReal.coe_one, ← EReal.coe_add, ← EReal.coe_sub]

theorem r46 : val_main_v46 (F := Ideal) x0 = m2 fun r j => (1 + th (V r j)) * (1 - th (V r j)) := by
  refine m2_ext fun r j => ?_
  pointwise [val_main_v46, val_main_v45, val_main_v44, val_main_v43, val_main_v42, val_main_cst_11, val_main_cst_12, r41 h, m2_ix, word_one]
  simp only [← EReal.coe_mul, ← EReal.coe_one, ← EReal.coe_add, ← EReal.coe_sub]

theorem r27 : val_main_v27 (F := Ideal) x0 = m2 fun r j => half (U r j) := by
  refine m2_ext fun r j => ?_
  pointwise [val_main_v27, val_main_v26, val_main_v25, val_main_v24, val_main_cst_5, val_main_cst_6, r18 h, m2_ix, word_one, word_half]
  simp only [← EReal.coe_mul, ← EReal.coe_one, ← EReal.coe_add]; rfl

theorem r50 : val_main_v50 (F := Ideal) x0 = m2 fun r j => half (V r j) := by
  refine m2_ext fun r j => ?_
  pointwise [val_main_v50, val_main_v49, val_main_v48, val_main_v47, val_main_cst_13, val_main_cst_14, r41 h, m2_ix, word_one, word_half]
  simp only [← EReal.coe_mul, ← EReal.coe_one, ← EReal.coe_add]; rfl

theorem r28 : val_main_v28 (F := Ideal) x0 = m2 fun r j => gelu (U r j) := by
  refine m2_ext fun r j => ?_
  pointwise [val_main_v28, r27 h, r2 h, m2_ix]
  simp only [← EReal.coe_mul]; rfl

theorem r51 : val_main_v51 (F := Ideal) x0 = m2 (gz V) := by
  refine m2_ext fun r j => ?_
  pointwise [val_main_v51, r50 h, r5 h, m2_ix]
  simp only [← EReal.coe_mul]; rfl

theorem r57 : val_main_v57 (F := Ideal) x0 = m2 fun r j => xc (gz V r) j := by
  refine m2_ext fun r j => ?_
  pointwise [val_main_v57, val_main_v56, val_main_v55, val_main_v54, val_main_v53, val_main_v52, val_main_cst_15, val_main_cst_16, r51 h, m2_ix, word_width, word_zero]
  simp only [← coe_sum, ← EReal.coe_add, zero_add]
  rw [div_coe' _ _ (by norm_num), ← EReal.coe_sub]; rfl

theorem r66 : val_main_v66 (F := Ideal) x0 = m2 fun r j => xc (gz V r) j := by
  refine m2_ext fun r j => ?_
  pointwise [val_main_v66, val_main_v65, val_main_v55, val_main_v54, val_main_v53, val_main_v52, val_main_cst_15, val_main_cst_16, r51 h, m2_ix, word_width, word_zero]
  simp only [← coe_sum, ← EReal.coe_add, zero_add]
  rw [div_coe' _ _ (by norm_num), ← EReal.coe_sub]; rfl

theorem r60 : val_main_v60 (F := Ideal) x0 = m2 fun r j => 2 * xc (gz V r) j := by
  refine m2_ext fun r j => ?_
  pointwise [val_main_v60, val_main_v59, val_main_cst_17, r57 h, m2_ix, word_two]
  simp only [← EReal.coe_mul]

theorem r68 : val_main_v68 (F := Ideal) x0 = m2 fun r (_ : Fin 1) => var (gz V r) + eps := by
  refine m2_ext fun r j => ?_
  pointwise [val_main_v68, val_main_v67, val_main_v64, val_main_v63, val_main_v62, val_main_v61, val_main_v58, val_main_cst_18, val_main_cst_19, val_main_cst_20, r57 h, m2_ix, word_width, word_zero, word_eps]
  simp only [← EReal.coe_mul, ← coe_sum, ← EReal.coe_add, zero_add]
  rw [div_coe' _ _ (by norm_num), ← EReal.coe_add]; rfl

theorem r69 : val_main_v69 (F := Ideal) x0 = m2 fun r (_ : Fin 1) => rs (gz V r) := by
  refine m2_ext fun r j => ?_
  pointwise [val_main_v69, r68 h, m2_ix]
  exact rsqrt_coe' _ (var_eps_pos _)

theorem r72 : val_main_v72 (F := Ideal) x0 = m2 fun r (_ : Fin 1) => -(1 / 2) * (rs (gz V r) / (var (gz V r) + eps)) := by
  refine m2_ext fun r j => ?_
  pointwise [val_main_v72, val_main_v71, val_main_v70, val_main_cst_21, r69 h, r68 h, m2_ix, word_mhalf]
  rw [div_coe' _ _ (var_eps_pos _).ne', ← EReal.coe_mul]

theorem r74 : val_main_v74 (F := Ideal) x0 = m2 fun r j => xh (gz V r) j := by
  refine m2_ext fun r j => ?_
  pointwise [val_main_v74, val_main_v73, r66 h, r69 h, m2_ix]
  rw [← EReal.coe_mul]; rfl

theorem r78 : val_main_v78 (F := Ideal) x0 x5 x6 = m2 fun r j => xh (gz V r) j * G j + B j := by
  refine m2_ext fun r j => ?_
  rw [h.hG, h.hB]
  pointwise [val_main_v78, val_main_v77, val_main_v76, val_main_v75, r74 h, m2_ix]
  rw [← EReal.coe_mul, ← EReal.coe_add]

end Cert.Ref
end
-- ==== Proof.RefB.lean ====
/- The reference over the reals, second part: the mixing of the rows of a block and its gradients. -/
module

public import proofs.«01_k».proof.Proof.RefA
public import proofs.«01_k».proof.Proof.Rows

@[expose] public section
noncomputable section
namespace Cert.Ref
open Cert.ReferenceIdeal Cert.ReferenceIdeal.Gen Cert.ReferenceIdeal.Read Cert.Spec Cert.Pay Cert.Head Cert.Run Idealize.ShloMosaic

/-- Reals with four indices as an array of rank four. -/
def m4 {p q n k : Nat} (f : Fin p → Fin q → Fin n → Fin k → ℝ) : (⟨4, ![p, q, n, k]⟩ : Shape).Idx → EReal := fun y => ((f (y 0) (y 1) (y 2) (y 3) : ℝ) : EReal)
theorem m4_ix {p q n k : Nat} (f : Fin p → Fin q → Fin n → Fin k → ℝ) (w : Fin p) (u : Fin q) (r : Fin n) (l : Fin k) : m4 f (ix4 w u r l) = ((f w u r l : ℝ) : EReal) := rfl
/-- An array of rank four that holds a real at each four indices. -/
theorem m4_ext {p q n k : Nat} {x : (⟨4, ![p, q, n, k]⟩ : Shape).Idx → EReal} {f : Fin p → Fin q → Fin n → Fin k → ℝ}
    (h : ∀ w u r l, x (ix4 w u r l) = ((f w u r l : ℝ) : EReal)) : x = m4 f := by
  funext y; rw [eq_ix4 y]; exact h _ _ _ _

/-- A sum over the first and the last of four indices, on the host. -/
theorem sum_ends {p q n k : Nat} (w : (⟨4, ![p, q, n, k]⟩ : Shape).ReducesTo [0, 3] ⟨2, ![q, n]⟩) (v : (⟨4, ![p, q, n, k]⟩ : Shape).Idx → EReal) (z : EReal) (t : Fin q) (g : Fin n) :
    Ideal.hostReduceAdd w v z (ix2 t g) = z + ∑ a, ∑ b, v (ix4 a t g b) := by
  refine congrArg (z + ·) ((Finset.sum_filter_eq_sum_of_fiber _ (fun e : Fin p × Fin k => ix4 e.1 t g e.2) (fun _ _ e => Prod.ext (congrFun e 0) (congrFun e 3)) (fun i => ?_) v).trans (by simp only [Fintype.sum_prod_type]))
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨e, rfl⟩
    funext b
    apply Fin.ext
    match b with
    | ⟨0, _⟩ => rfl
    | ⟨1, _⟩ => rfl

theorem idx79 (n : Fin 32) (t : Fin 128) (g : Fin 8) (c : Fin 128) : idx_main_v79 (ix4 n t g c) = ix2 (row n t) (col g c) := by
  funext a; apply Fin.ext
  match a with
  | ⟨0, _⟩ => show (((n.val * 128 + t.val) * 8 + g.val) * 128 + c.val) / 1024 = 128 * n.val + t.val; omega
  | ⟨1, _⟩ => show (((n.val * 128 + t.val) * 8 + g.val) * 128 + c.val) % 1024 = 128 * g.val + c.val; omega

theorem idx95 (r : Fin 4096) (j : Fin 1024) : idx_main_v95 (ix2 r j) = ix4 (blk r) (pos r) (grp j) (sub j) := by
  funext a; apply Fin.ext
  match a with
  | ⟨0, _⟩ => show (r.val * 1024 + j.val) / 131072 = r.val / 128; omega
  | ⟨1, _⟩ => show (r.val * 1024 + j.val) / 1024 % 128 = r.val % 128; omega
  | ⟨2, _⟩ => show (r.val * 1024 + j.val) / 128 % 8 = j.val / 128; omega
  | ⟨3, _⟩ => show (r.val * 1024 + j.val) % 128 = j.val % 128; omega

variable {x0 : S8x4096x1024.Idx → EReal} {x1 : S4096x1024.Idx → EReal} {x3 : S8x128x128.Idx → EReal} {x4 : S8x128.Idx → EReal} {x5 x6 : S1x1024.Idx → EReal}
  {U V DY : Fin 4096 → Fin 1024 → ℝ} {W0 : Fin 8 → Sq} {bs : Fin 8 → Fin 128 → ℝ} {G B : Fin 1024 → ℝ}
variable (h : In x0 x1 x3 x4 x5 x6 U V DY W0 bs G B)
include h

theorem r88 : val_main_v88_0 (F := Ideal) x3 = m3 (Wm W0) := by rw [h.hw, masked]

theorem r79 : val_main_v79 (F := Ideal) x0 x5 x6 = m4 fun n t g c => vn (bl V n) G B t (col g c) := by
  refine m4_ext fun n t g c => ?_
  rw [val_main_v79_apply, idx79, r78 h]; rfl

theorem r89 : val_main_v89 (F := Ideal) x0 x3 x5 x6 = m4 fun g n c t => ∑ s, Wm W0 g t s * vn (bl V n) G B s (col g c) := by
  refine m4_ext fun g n c t => ?_
  rw [val_main_v89_apply, r79 h, r88 h, coe_sum]
  exact Finset.sum_congr rfl fun s _ => by rw [EReal.coe_mul, mul_comm]; rfl

theorem r95 : val_main_v95 (F := Ideal) x0 x3 x4 x5 x6 = m2 fun r j => mix (bl V (blk r)) (Wm W0) bs G B (pos r) j := by
  refine m2_ext fun r j => ?_
  rw [val_main_v95_apply, idx95, val_main_v94_apply, val_main_v90_apply, r89 h, val_main_v93_apply, val_main_v92_apply, val_main_v91_apply, h.hb]
  show ((∑ s, Wm W0 (grp j) (pos r) s * vn (bl V (blk r)) G B s (col (grp j) (sub j)) : ℝ) : EReal) + ((bs (grp j) (pos r) : ℝ) : EReal) = _
  rw [← EReal.coe_add, col_grp]; rfl

theorem r98 : val_main_v98 (F := Ideal) x0 x1 = m2 fun r j => dmx (bl U (blk r)) (bl DY (blk r)) (pos r) j := by
  refine m2_ext fun r j => ?_
  rw [val_main_v98_apply, val_main_v97_apply, r28 h, h.hy]
  show ((gelu (U r j) : ℝ) : EReal) * ((DY r j : ℝ) : EReal) = ((DY (row (blk r) (pos r)) j * gelu (U (row (blk r) (pos r)) j) : ℝ) : EReal)
  rw [row_blk, ← EReal.coe_mul, mul_comm]

theorem r99 : val_main_v99 (F := Ideal) x0 x1 x3 x4 x5 x6 = m2 fun r j => DY r j * mix (bl V (blk r)) (Wm W0) bs G B (pos r) j := by
  refine m2_ext fun r j => ?_
  rw [val_main_v99_apply, val_main_v97_apply, r95 h, h.hy]
  exact (EReal.coe_mul _ _).symm

theorem r100 : val_main_v100 (F := Ideal) x0 x1 = m4 fun n t g c => dmx (bl U n) (bl DY n) t (col g c) := by
  refine m4_ext fun n t g c => ?_
  rw [val_main_v100_apply]
  show val_main_v98 (F := Ideal) x0 x1 (idx_main_v79 (ix4 n t g c)) = _
  rw [idx79, r98 h, m2_ix, blk_row, pos_row]

theorem r105 : val_main_v105 (F := Ideal) x0 x1 = m4 fun g n c t => dmx (bl U n) (bl DY n) t (col g c) := by
  refine m4_ext fun g n c t => ?_
  rw [val_main_v105_apply, r100 h]; rfl

theorem r107 : val_main_v107 (F := Ideal) x0 x1 x3 = m4 fun g n c s => ∑ t, Wm W0 g t s * dmx (bl U n) (bl DY n) t (col g c) := by
  refine m4_ext fun g n c s => ?_
  rw [val_main_v107_apply, r105 h, r88 h, coe_sum]
  exact Finset.sum_congr rfl fun t _ => by rw [EReal.coe_mul, mul_comm]; rfl

theorem r110 : val_main_v110 (F := Ideal) x0 x1 x3 = m2 fun r j => dvn (bl U (blk r)) (bl DY (blk r)) (Wm W0) (pos r) j := by
  refine m2_ext fun r j => ?_
  rw [val_main_v110_apply]
  show val_main_v108 (F := Ideal) x0 x1 x3 (idx_main_v95 (ix2 r j)) = _
  rw [idx95, val_main_v108_apply, r107 h]
  show ((∑ t, Wm W0 (grp j) t (pos r) * dmx (bl U (blk r)) (bl DY (blk r)) t (col (grp j) (sub j)) : ℝ) : EReal) = _
  rw [col_grp]; rfl

theorem r106 : val_main_v106 (F := Ideal) x0 x1 x5 x6 = m3 fun g t s => ∑ n, dw (bl U n) (bl V n) (bl DY n) G B g t s := by
  refine m3_ext fun g t s => ?_
  rw [val_main_v106, r105 h, r79 h]
  pointwise []
  simp only [m4_ix, ← EReal.coe_mul, ← coe_sum]; rfl

theorem r101 : val_main_v101 (F := Ideal) x0 x1 = m2 fun t g => ∑ n, dbs (bl U n) (bl DY n) g t := by
  refine m2_ext fun t g => ?_
  rw [val_main_v101, r100 h, Host.reduceAdd, Ideal.hostReduceAdd_def, sum_ends]
  simp only [m4_ix, ← coe_sum]
  pointwise [val_main_cst_23, word_zero]
  rw [← EReal.coe_add, zero_add]; rfl

theorem r102 : val_main_v102 (F := Ideal) x0 x1 = m4 fun (_ : Fin 1) t g (_ : Fin 1) => ∑ n, dbs (bl U n) (bl DY n) g t := by
  refine m4_ext fun u t g l => ?_
  rw [val_main_v102_apply, r101 h]
  have e : idx_main_v102 (ix4 u t g l) = ix2 t g := by
    funext a; apply Fin.ext
    match a with
    | ⟨0, _⟩ => show (((u.val * 128 + t.val) * 8 + g.val) * 1 + l.val) / 8 = t.val; omega
    | ⟨1, _⟩ => show (((u.val * 128 + t.val) * 8 + g.val) * 1 + l.val) % 8 = g.val; omega
  rw [e, m2_ix]

theorem r103 : val_main_v103 (F := Ideal) x0 x1 = m2 fun t g => ∑ n, dbs (bl U n) (bl DY n) g t := by
  refine m2_ext fun t g => ?_
  rw [val_main_v103, r102 h, Host.reduceAdd, Ideal.hostReduceAdd_def, sum_ends]
  simp only [m4_ix, ← coe_sum]
  pointwise [val_main_cst_24, word_zero]
  rw [← EReal.coe_add, zero_add]
  simp only [Finset.univ_unique, Finset.sum_singleton]

/-- The gradient of the mixing bias. -/
theorem r104 : val_main_v104 (F := Ideal) x0 x1 = m2 fun g t => ∑ n, dbs (bl U n) (bl DY n) g t := by
  refine m2_ext fun g t => ?_
  rw [val_main_v104_apply, r103 h]; rfl

/-- The gradient of the mixing weights, with the mask. -/
theorem r109 : val_main_v109 (F := Ideal) x0 x1 x5 x6 = m3 fun g t s => if s.val / 64 ≤ t.val / 64 then ∑ n, dw (bl U n) (bl V n) (bl DY n) G B g t s else 0 := by
  refine m3_ext fun g t s => ?_
  rw [val_main_v109_apply, r106 h]
  have e : val_main_v88_1 (F := Ideal) (ix3 g t s) = val_main_v86 (F := Ideal) (ix2 t s) := by
    rw [val_main_v88_1_apply, val_main_v87_apply]; rfl
  rw [e, Cert.Mask.mask]
  pointwise [val_main_call2_v0, val_main_call2_cst, word_zero, m3_ix]
  split <;> simp [Scalar.select]

/-- The gradient of the layer norm's bias. -/
theorem r112 : val_main_v112 (F := Ideal) x0 x1 x3 = m2 fun (_ : Fin 1) j => ∑ n, db (bl U n) (bl DY n) (Wm W0) j := by
  refine m2_ext fun u j => ?_
  pointwise [val_main_v112, val_main_v111, val_main_cst_25, r110 h, m2_ix, word_zero]
  simp only [← coe_sum, ← EReal.coe_add, zero_add]
  rw [sum_row]
  simp only [blk_row, pos_row]
  rfl

/-- The gradient of the layer norm's gain. -/
theorem r115 : val_main_v115 (F := Ideal) x0 x1 x3 = m2 fun (_ : Fin 1) j => ∑ n, dg (bl U n) (bl V n) (bl DY n) (Wm W0) j := by
  refine m2_ext fun u j => ?_
  pointwise [val_main_v115, val_main_v114, val_main_v113, val_main_cst_26, r74 h, r110 h, m2_ix, word_zero]
  simp only [← coe_sum, ← EReal.coe_mul, ← EReal.coe_add, zero_add]
  rw [sum_row]
  simp only [blk_row, pos_row]
  refine congrArg _ (Finset.sum_congr rfl fun n _ => Finset.sum_congr rfl fun s _ => mul_comm _ _)

end Cert.Ref
end
-- ==== Proof.RefC.lean ====
/- The reference over the reals, third part: the gradients of the two projections. -/
module

public import proofs.«01_k».proof.Proof.RefB

@[expose] public section
noncomputable section
namespace Cert.Ref
open Cert.ReferenceIdeal Cert.ReferenceIdeal.Gen Cert.ReferenceIdeal.Read Cert.Spec Cert.Pay Cert.Head Cert.Run Idealize.ShloMosaic

/-- A row less its mean adds up to zero. -/
theorem sum_xc (z : Fin 1024 → ℝ) : ∑ j, xc z j = 0 := by
  simp only [xc, Finset.sum_sub_distrib, Finset.sum_const, Finset.card_univ, Fintype.card_fin, mean, nsmul_eq_mul]
  push_cast; ring

/-- The reciprocal deviation squared, times the variance. -/
theorem rs_sq (z : Fin 1024 → ℝ) : rs z / (var z + eps) = rs z * (rs z * rs z) := by
  have h := var_eps_pos z
  rw [div_eq_mul_inv, rs, ← mul_inv _ (√(var z + eps)), Real.mul_self_sqrt h.le]

/-- The gradient through the norm as it is found term by term: the part through the row, the part through the variance,
    and the part through the mean. -/
theorem ln_real (z d : Fin 1024 → ℝ) (j : Fin 1024) :
    (d j * rs z + (∑ k, xc z k * d k) * (-(1 / 2) * (rs z / (var z + eps))) / 1024 * (2 * xc z j))
      + ((∑ k, -(d k * rs z)) + ∑ l, -((∑ k, xc z k * d k) * (-(1 / 2) * (rs z / (var z + eps))) / 1024 * (2 * xc z l))) / 1024 = lnb z d j := by
  have e1 : ∑ k, -(d k * rs z) = -((∑ k, d k) * rs z) := by rw [Finset.sum_neg_distrib, Finset.sum_mul]
  have e2 (a : ℝ) : ∑ l, -(a * (2 * xc z l)) = 0 := by
    rw [Finset.sum_neg_distrib, ← Finset.mul_sum, ← Finset.mul_sum, sum_xc]; ring
  have e3 : ∑ k, d k * xh z k = (∑ k, xc z k * d k) * rs z := by
    rw [Finset.sum_mul]; exact Finset.sum_congr rfl fun k _ => by rw [xh]; ring
  rw [e1, e2, rs_sq, lnb, mean, mean, e3, xh]; ring

/-- The gradient through the gate as it is found term by term. -/
theorem gate_real (x d : ℝ) :
    d * half x + K * (1 / 2 * (x * d) * ((1 + th x) * (1 - th x))) + 44715 * (K * (1 / 2 * (x * d) * ((1 + th x) * (1 - th x))) / 1000000) * (3 * (x * x)) = d * dgelu x := by
  rw [dgelu, C3]; ring

variable {x0 : S8x4096x1024.Idx → EReal} {x1 : S4096x1024.Idx → EReal} {x3 : S8x128x128.Idx → EReal} {x4 : S8x128.Idx → EReal} {x5 x6 : S1x1024.Idx → EReal}
  {U V DY : Fin 4096 → Fin 1024 → ℝ} {W0 : Fin 8 → Sq} {bs : Fin 8 → Fin 128 → ℝ} {G B : Fin 1024 → ℝ}
variable (h : In x0 x1 x3 x4 x5 x6 U V DY W0 bs G B)

/-- The gradient of the layer norm's result, times the gain. -/
def dxh (U DY : Fin 4096 → Fin 1024 → ℝ) (W : Fin 8 → Sq) (G : Fin 1024 → ℝ) (r : Fin 4096) (k : Fin 1024) : ℝ := dvn (bl U (blk r)) (bl DY (blk r)) W (pos r) k * G k
include h

theorem r117 : val_main_v117 (F := Ideal) x0 x1 x3 x5 = m2 (dxh U DY (Wm W0) G) := by
  refine m2_ext fun r j => ?_
  rw [h.hG]
  pointwise [val_main_v117, val_main_v116, r110 h, m2_ix]
  rw [← EReal.coe_mul]; rfl

theorem r120 : val_main_v120 (F := Ideal) x0 x1 x3 x5 = m2 fun r (_ : Fin 1) => ∑ k, xc (gz V r) k * dxh U DY (Wm W0) G r k := by
  refine m2_ext fun r j => ?_
  pointwise [val_main_v120, val_main_v119, val_main_v118, val_main_cst_27, r66 h, r117 h, m2_ix, word_zero]
  simp only [← coe_sum, ← EReal.coe_mul, ← EReal.coe_add, zero_add]

theorem r131 : val_main_v131 (F := Ideal) x0 x1 x3 x5 = m2 fun r j =>
    (∑ k, xc (gz V r) k * dxh U DY (Wm W0) G r k) * (-(1 / 2) * (rs (gz V r) / (var (gz V r) + eps))) / 1024 * (2 * xc (gz V r) j) := by
  refine m2_ext fun r j => ?_
  pointwise [val_main_v131, val_main_v130, val_main_v129, val_main_v128, val_main_v127, val_main_v123, val_main_cst_29, val_main_cst_30, r120 h, r72 h, r60 h, m2_ix, word_zero, word_width]
  simp only [← EReal.coe_mul, Finset.univ_unique, Finset.sum_singleton]
  rw [div_coe' _ _ (by norm_num)]
  simp only [← EReal.coe_add, ← EReal.coe_mul, zero_add]

theorem r122 : val_main_v122 (F := Ideal) x0 x1 x3 x5 = m2 fun r j => dxh U DY (Wm W0) G r j * rs (gz V r) := by
  refine m2_ext fun r j => ?_
  pointwise [val_main_v122, val_main_v121, r117 h, r69 h, m2_ix]
  simp only [← EReal.coe_mul]

theorem r141 : val_main_v141 (F := Ideal) x0 x1 x3 x5 = m2 fun r j => lnb (gz V r) (dxh U DY (Wm W0) G r) j := by
  refine m2_ext fun r j => ?_
  rw [← ln_real]
  pointwise [val_main_v141, val_main_v140, val_main_v139, val_main_v138, val_main_v137, val_main_v136, val_main_v135, val_main_v134, val_main_v133, val_main_v132, val_main_v126, val_main_v125, val_main_v124, val_main_cst_28, val_main_cst_31, val_main_cst_32, val_main_cst_33, r122 h, r131 h, m2_ix, word_zero, word_width]
  simp only [← EReal.coe_neg, ← coe_sum, ← EReal.coe_add, Finset.univ_unique, Finset.sum_singleton]
  rw [div_coe' _ _ (by norm_num)]
  simp only [← EReal.coe_add, zero_add]

theorem r155 : val_main_v155 (F := Ideal) x0 x1 x3 x5 = m2 (rV U V DY (Wm W0) G) := by
  refine m2_ext fun r j => ?_
  have e : rV U V DY (Wm W0) G r j = lnb (gz V r) (dxh U DY (Wm W0) G r) j * dgelu (V r j) := by
    show lnb (gz V (row (blk r) (pos r))) (dxh U DY (Wm W0) G r) j * dgelu (V (row (blk r) (pos r)) j) = _
    rw [row_blk]
  rw [e, ← gate_real]
  pointwise [val_main_v155, val_main_v154, val_main_v153, val_main_v152, val_main_v151, val_main_v150, val_main_v149, val_main_v148, val_main_v147, val_main_v146, val_main_v145, val_main_v144, val_main_v143, val_main_v142, val_main_cst_34, val_main_cst_35, val_main_cst_36, val_main_cst_37, r141 h, r5 h, r50 h, r46 h, r33 h, m2_ix, word_half, word_K, word_num, word_den]
  simp only [← EReal.coe_mul]
  rw [div_coe' _ _ (by norm_num)]
  simp only [← EReal.coe_add, ← EReal.coe_mul]

theorem r169 : val_main_v169 (F := Ideal) x0 x1 x3 x4 x5 x6 = m2 (rU U V DY (Wm W0) bs G B) := by
  refine m2_ext fun r j => ?_
  have e : rU U V DY (Wm W0) bs G B r j = DY r j * mix (bl V (blk r)) (Wm W0) bs G B (pos r) j * dgelu (U r j) := by
    show DY (row (blk r) (pos r)) j * _ * dgelu (U (row (blk r) (pos r)) j) = _
    rw [row_blk]
  rw [e, ← gate_real]
  pointwise [val_main_v169, val_main_v168, val_main_v167, val_main_v166, val_main_v165, val_main_v164, val_main_v163, val_main_v162, val_main_v161, val_main_v160, val_main_v159, val_main_v158, val_main_v157, val_main_v156, val_main_cst_38, val_main_cst_39, val_main_cst_40, val_main_cst_41, r99 h, r2 h, r27 h, r23 h, r10 h, m2_ix, word_half, word_K, word_num, word_den]
  simp only [← EReal.coe_mul]
  rw [div_coe' _ _ (by norm_num)]
  simp only [← EReal.coe_add, ← EReal.coe_mul]

/-- The gradient of the six projections: the third and the fourth slots from the end hold the two gradients found here. -/
theorem r176 (x2 : S8x4096x1024.Idx → EReal) : val_main_v176 (F := Ideal) x0 x1 x2 x3 x4 x5 x6 = r8 U V DY (Wm W0) bs G B x2 := by
  suffices key : ∀ (s : Fin 8) (r : Fin 4096) (j : Fin 1024), val_main_v176 (F := Ideal) x0 x1 x2 x3 x4 x5 x6 (ix3 s r j) =
      if s.val = 4 then ((rU U V DY (Wm W0) bs G B r j : ℝ) : EReal) else if s.val = 5 then ((rV U V DY (Wm W0) G r j : ℝ) : EReal) else x2 (ix3 s r j) by
    funext y; rw [eq_ix3 y]; exact key _ _ _
  intro s r j
  pointwise [val_main_v176, val_main_v175, val_main_v174, val_main_v173, val_main_v172, val_main_v171, val_main_v170, r155 h, r169 h, m2_ix]
  have hs : s.val < 8 := s.isLt
  split_ifs <;> first | rfl | omega | skip
  refine Eq.trans (b := x2 (ix3 s r j)) (congrArg (fun w => x2 (ix3 w r j)) (Fin.ext (by dsimp only; omega))) ?_
  rw [if_neg (by omega), if_neg (by omega)]

end Cert.Ref
end
-- ==== Proof.ValueRef.lean ====
/- What the reference leaves in its results, over real arguments. -/
module

public import proofs.«01_k».proof.Proof.Value
public import proofs.«01_k».proof.Proof.RefC
public import proofs.«01_k».proof.Proof.Gen.ReferenceIdeal.Run

@[expose] public section
noncomputable section
namespace Cert.Value
open Cert.Spec Cert.Pay Cert.Head Cert.Run Cert.Point Idealize.ShloMosaic Idealize.SL.Sem Idealize.ShloMosaic.TcCoe Idealize.ShloMosaic.StableHlo

section Reference
open Cert.ReferenceIdeal Cert.ReferenceIdeal.Gen Cert.ReferenceIdeal.Read Cert.Ref
variable (m : (ℓ : Loc nD τ sig) → Buf (Elt Ideal) ℓ) (ρ : Dev nD → PrngReg)
variable {U V DY : Dev nD → Fin 4096 → Fin 1024 → ℝ} {W0 : Dev nD → Fin 8 → Sq} {bs : Dev nD → Fin 8 → Fin 128 → ℝ} {G B : Dev nD → Fin 1024 → ℝ}

/-- The reference leaves its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r e => ⟨fun c => (e c).2.2.2.2.2, sem_eq_zero_of_no_sems (by decide) r.2⟩) (Cert.ReferenceIdeal.Value.run m ρ)

/-- The reference ends with the same five gradients in its results and its arguments unchanged. -/
theorem reference (h : ∀ c : Dev nD, In (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) (U c) (V c) (DY c) (W0 c) (bs c) (G c) (B c)) :
    θ_run defs (onTc (τ := τ) (main (F := Ideal))) ⟨m, fun _ => 0, ρ⟩ (fun r => ∀ c : Dev nD,
      r.2.mem ((c.tc : Thread nD τ).loc main_v176) = (r8 (U c) (V c) (DY c) (Wm (W0 c)) (bs c) (G c) (B c) (m ((c.tc : Thread nD τ).loc main_arg2)) : S8x4096x1024.Idx → EReal)
      ∧ r.2.mem ((c.tc : Thread nD τ).loc main_v109) = (fW (U c) (V c) (DY c) (G c) (B c) : S8x128x128.Idx → EReal)
      ∧ r.2.mem ((c.tc : Thread nD τ).loc main_v104) = (fB (U c) (DY c) : S8x128.Idx → EReal)
      ∧ r.2.mem ((c.tc : Thread nD τ).loc main_v115) = (fG (U c) (V c) (DY c) (W0 c) : S1x1024.Idx → EReal)
      ∧ r.2.mem ((c.tc : Thread nD τ).loc main_v112) = (fD (U c) (DY c) (W0 c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r e c => by
    obtain ⟨e0, e1, e2, e3, e4, er⟩ := e c
    have h := h c
    refine ⟨e0.trans ?_, e1.trans ?_, e2.trans ?_, e3.trans ?_, e4.trans ?_, er⟩
    · rw [val_main_v176_eq]; exact r176 h _
    · rw [val_main_v109_eq]; exact r109 h
    · rw [val_main_v104_eq]; exact r104 h
    · rw [val_main_v115_eq]; exact r115 h
    · rw [val_main_v112_eq]; exact r112 h) (Cert.ReferenceIdeal.Value.run m ρ)
end Reference

end Cert.Value
end
-- ==== Proof.Finite.lean ====
/- The precondition over the extended reals: every entry the two programs compute with is a real number. -/
module

public import proofs.«01_k».proof.Defs
public import proofs.«01_k».proof.Proof.Head
public import Idealize.ShloMosaic.Lib.ReduceAll
public import Idealize.ShloMosaic.Lib.Pointwise

@[expose] public section
noncomputable section
namespace Cert.Finite
open Cert.Pre_finite Cert.Spec Cert.Pay Cert.Head Idealize.ShloMosaic

/-- The facts on shapes that the precondition states. -/
theorem facts : Cert.Pre_finite.Facts where
  slices_S8x4096x1024_S2x4096x1024_4_0_0 := by decide
  bitsLt_bf16_f32 := by decide
  bcast_S_S2x4096x1024 := by decide
  reducesTo_S2x4096x1024_S_d0_1_2 := by decide
  h_S_ := by decide
  bcast_S_S4096x1024 := by decide
  reducesTo_S4096x1024_S_d0_1 := by decide
  bcast_S_S8x128x128 := by decide
  reducesTo_S8x128x128_S_d0_1_2 := by decide
  bcast_S_S8x128 := by decide
  reducesTo_S8x128_S_d0_1 := by decide
  bcast_S_S1x1024 := by decide
  reducesTo_S1x1024_S_d0_1 := by decide

/-- An extended real whose size is below infinity is a real number. -/
theorem real_of_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have h := (Ideal.cmp_olt_eq_one _ _).1 h
  induction x using EReal.rec with
  | bot => simp at h
  | coe r => exact ⟨r, rfl⟩
  | top => simp at h

instance : Subsingleton S_.Idx := ⟨fun a b => funext fun i => i.elim0⟩

/-- Where the precondition holds, the entries that the two programs compute with are the reals of a family of arrays. -/
theorem reals (x0 : S8x4096x1024.Idx → EReal) (x1 : S4096x1024.Idx → EReal) (x2 : S8x4096x1024.Idx → EReal) (x3 : S8x128x128.Idx → EReal) (x4 : S8x128.Idx → EReal) (x5 x6 : S1x1024.Idx → EReal)
    (h : haveI := facts; Cert.Pre_finite.fn (F := Ideal) x0 x1 x2 x3 x4 x5 x6 = fun _ => 1#1) :
    ∃ (U V DY : Fin 4096 → Fin 1024 → ℝ) (W0 : Fin 8 → Sq) (bs : Fin 8 → Fin 128 → ℝ) (G B : Fin 1024 → ℝ), In x0 x1 x3 x4 x5 x6 U V DY W0 bs G B := by
  haveI := facts
  have h := congrFun h (Shape.Idx.first facts.h_S_)
  dsimp only [fn, fn_part1] at h
  simp only [andi, IntOp.andi_eq_one] at h
  obtain ⟨⟨⟨⟨⟨h0, h1⟩, h3⟩, h4⟩, h5⟩, h6⟩ := h
  have g0 (s : Fin 2) (r : Fin 4096) (j : Fin 1024) : ∃ a : ℝ, x0 (ix3 ⟨4 + s.val, by omega⟩ r j) = (a : EReal) := by
    have e := Host.reduce_andi_all _ _ _ _ _ h0 (ix3 s r j)
    pointwise [] at e
    exact real_of_lt _ e
  have g1 (r : Fin 4096) (j : Fin 1024) : ∃ a : ℝ, x1 (ix2 r j) = (a : EReal) := real_of_lt _ (Host.reduce_andi_all _ _ _ _ _ h1 (ix2 r j))
  have g3 (g : Fin 8) (t s : Fin 128) : ∃ a : ℝ, x3 (ix3 g t s) = (a : EReal) := real_of_lt _ (Host.reduce_andi_all _ _ _ _ _ h3 (ix3 g t s))
  have g4 (g : Fin 8) (t : Fin 128) : ∃ a : ℝ, x4 (ix2 g t) = (a : EReal) := real_of_lt _ (Host.reduce_andi_all _ _ _ _ _ h4 (ix2 g t))
  have g5 (u : Fin 1) (j : Fin 1024) : ∃ a : ℝ, x5 (ix2 u j) = (a : EReal) := real_of_lt _ (Host.reduce_andi_all _ _ _ _ _ h5 (ix2 u j))
  have g6 (u : Fin 1) (j : Fin 1024) : ∃ a : ℝ, x6 (ix2 u j) = (a : EReal) := real_of_lt _ (Host.reduce_andi_all _ _ _ _ _ h6 (ix2 u j))
  choose X0 e0 using g0
  choose DY e1 using g1
  choose W0 e3 using g3
  choose bs e4 using g4
  choose G e5 using g5
  choose B e6 using g6
  refine ⟨X0 0, X0 1, DY, W0, bs, G 0, B 0, fun r j => e0 0 r j, fun r j => e0 1 r j, m2_ext e1, m3_ext e3, m2_ext e4, m2_ext fun u j => ?_, m2_ext fun u j => ?_⟩
  · rw [Subsingleton.elim u 0]; exact e5 0 j
  · rw [Subsingleton.elim u 0]; exact e6 0 j

end Cert.Finite
end
-- ==== Proof.Mm.lean ====
/- A sum over the rows of a matrix, taken block of rows by block of rows. -/
module

public import Idealize.ShloMosaic.Lib.Pointwise

@[expose] public section
noncomputable section
namespace Cert.Mm
open Idealize.ShloMosaic

/-- The number `k`, below `N`. -/
abbrev pos (N : ℕ) (hN : 0 < N) (k : ℕ) : Fin N := ⟨k % N, Nat.mod_lt _ hN⟩

/-- `r` blocks of `b` terms each, added block by block, are all the terms below `b * r`. -/
theorem sum_prefix (N b : ℕ) (hN : 0 < N) (f : Fin N → EReal) (r : ℕ) :
    ∑ q ∈ Finset.range r, ∑ p : Fin b, f (pos N hN (b * q + p.val)) = ∑ k ∈ Finset.range (b * r), f (pos N hN k) := by
  induction r with
  | zero => simp
  | succ r ih =>
    rw [Finset.sum_range_succ, ih, Nat.mul_succ, Finset.sum_range_add]
    exact congrArg _ (Finset.sum_range fun p => f (pos N hN (b * r + p))).symm

/-- A sum over `N = b * r` terms is the sum of its `r` blocks of `b` terms. -/
theorem sum_blocks (N b r : ℕ) (hN : 0 < N) (h : b * r = N) (f : Fin N → EReal) :
    ∑ q ∈ Finset.range r, ∑ p : Fin b, f (pos N hN (b * q + p.val)) = ∑ k, f k := by
  rw [sum_prefix, h, Finset.sum_range]
  exact Finset.sum_congr rfl fun i _ => congrArg f (Fin.ext (Nat.mod_eq_of_lt i.isLt))

end Cert.Mm
end
-- ==== Proof.MmIn.lean ====
/- The gradient of the input projection's weights: what the kernel and the reference leave in their results. -/
module

public import proofs.«01_k».proof.Defs
public import proofs.«01_k».proof.Proof.Mm
public import proofs.«01_k».proof.Proof.Gen.KIn.Frame
public import proofs.«01_k».proof.Proof.Gen.KInIdeal.Value
public import proofs.«01_k».proof.Proof.Gen.RInIdeal.Run
public import proofs.«01_k».proof.Proof.Gen.RInIdeal.Read
public import Idealize.ShloMosaic.Lib.Pipeline.ValueKit
public import Idealize.ShloMosaic.Lib.Pipeline.ReadBack

@[expose] public section
noncomputable section
namespace Cert.MmIn
open Cert.KInIdeal Cert.KInIdeal.Gen Idealize.ShloMosaic Idealize.ShloMosaic.StableHlo Idealize.ShloMosaic.TcCoe Idealize.SL.Sem

/-! ### The three stores of the body -/

theorem pay1 (y : S1024x1024.Idx) : k0_pay1 (F := Ideal) y = 0 := by
  rw [eq_ix2 y]
  pointwise [k0_pay1]

theorem pay2 (acc : S1024x1024.Idx → EReal) (a : S1024x1024.Idx → EReal) (b : S1x1024x1024.Idx → EReal) (y : S1024x1024.Idx) :
    k0_pay2 (F := Ideal) acc a b y = acc y + ∑ k : Fin 1024, a (ix2 k (y 0)) * b (ix3 0 k (y 1)) := by
  rw [eq_ix2 y]
  pointwise [k0_pay2]

theorem pay3 (acc : S1024x1024.Idx → EReal) (o : Fin 1) (r : Fin 1024) (l : Fin 1024) :
    k0_pay3 (F := Ideal) acc (ix3 o r l) = acc (ix2 r l) := by
  pointwise [k0_pay3]

theorem ld0 (x : Vec Ideal S1024x1024 .bf16) (h) : View.ld (Val := Elt Ideal) (e' := .bf16) (S := S1024x1024) x (Rect.unit ![0, 0] ![1024, 1024] h) = x :=
  View.ld_unit_lit (Val := Elt Ideal) (e := .bf16) (S := S1024x1024) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ldS (x : Vec Ideal S1024x1024 .f32) (h) : View.ld (Val := Elt Ideal) (e' := .f32) (S := S1024x1024) x (Rect.unit ![0, 0] ![1024, 1024] h) = x :=
  View.ld_unit_lit (Val := Elt Ideal) (e := .f32) (S := S1024x1024) h x (by decide)

section Case
variable (c : Dev nD) (i : grid0.Coords) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole)
variable (x0 : Vec Ideal S1024x1024 .bf16) (x1 : Vec Ideal S1x1024x1024 .bf16) (xs : Vec Ideal S1024x1024 .f32)

/-- The first point of a tile leaves the product of its blocks in the accumulator. -/
theorem sout_A (hc0 : cond0_0 i) (hc1 : ¬cond0_1 i) : sout0_A_0 (F := Ideal) c i arg4 harg4 arg5 harg5 arg6 harg6 arg7 harg7 hc0 hc1 x0 x1 = k0_pay2 (F := Ideal) (k0_pay1 (F := Ideal)) x0 x1 := by
  unfold sout0_A_0
  rw [View.read_writes_eq_canon _ _ _ (scover0_A_0 (F := Ideal) c i arg4 harg4 arg5 harg5 arg6 harg6 arg7 harg7 hc0 hc1 x0 x1)]
  unfold kernelRun0_A
  dsimp only
  sl_unfold_words
  rw [View.canon_cons_unit_zero (by decide)]
  simp (disch := decide) only [View.readAt_eq_ld, harg4.read_unread, harg5.read_unread, harg6.read_unread, harg7.read_unread, ↓View.readCov_skip, ↓View.readCov_fill, ld0, ld1, ldS]

/-- A later point adds the product of its blocks to the accumulator. -/
theorem sout_B (hc0 : ¬cond0_0 i) (hc1 : ¬cond0_1 i) : sout0_B_0 (F := Ideal) c i arg4 harg4 arg5 harg5 arg6 harg6 arg7 harg7 hc0 hc1 x0 x1 xs = k0_pay2 (F := Ideal) xs x0 x1 := by
  unfold sout0_B_0
  rw [View.read_writes_eq_canon _ _ _ (scover0_B_0 (F := Ideal) c i arg4 harg4 arg5 harg5 arg6 harg6 arg7 harg7 hc0 hc1 x0 x1 xs)]
  unfold kernelRun0_B
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]

/-- The last point of a tile writes the accumulated tile out. -/
theorem out_C (hc0 : ¬cond0_0 i) (hc1 : cond0_1 i) : out0_C_2 (F := Ideal) c i arg4 harg4 arg5 harg5 arg6 harg6 arg7 harg7 hc0 hc1 x0 x1 xs = k0_pay3 (F := Ideal) (k0_pay2 xs x0 x1) := by
  unfold out0_C_2
  rw [View.read_writes_eq_canon _ _ _ (cover0_C_2 (F := Ideal) c i arg4 harg4 arg5 harg5 arg6 harg6 arg7 harg7 hc0 hc1 x0 x1 xs)]
  unfold kernelRun0_C
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]
end Case

/-! ### The tiles -/

/-- Row `k` of the block of rows `n` takes. -/
abbrev row (n : ℕ) (k : Fin 1024) : Fin 4096 := Cert.Mm.pos 4096 (by decide) (1024 * n + k.val)
/-- The slot of point `n`. -/
abbrev slot (n : ℕ) : Fin 8 := Cert.Mm.pos 8 (by decide) (n / 4)

theorem idx0 : ∀ t : Fin cfg0.N, win0_0.index t = ![t.val % 4, 0] := by decide +kernel
theorem idx1 : ∀ t : Fin cfg0.N, win0_1.index t = ![t.val / 4, t.val % 4, 0] := by decide +kernel
theorem idx2 : ∀ t : Fin cfg0.N, win0_2.index t = ![t.val / 4, 0, 0] := by decide +kernel

section Arr
variable (m : (ℓ : Loc nD τ sig) → Buf (Elt Ideal) ℓ) (c : Dev nD)

/-- The two arrays the kernel multiplies, as the kernel finds them. -/
abbrev A : S4096x1024.Idx → EReal := V m c main_v0
abbrev B : S8x4096x1024.Idx → EReal := V m c main_arg1

theorem blk0 (t : Fin cfg0.N) (k : Fin 1024) (i : Fin 1024) : (iblk m c 0 t : S1024x1024.Idx → EReal) (ix2 k i) = A m c (ix2 (row (t.val % 4) k) i) := by
  have hN : t.val < 32 := lt_of_lt_of_eq t.isLt N_0
  have hk := k.isLt
  blk_ext [iblk, idx0 t, row]

theorem blk1 (t : Fin cfg0.N) (k : Fin 1024) (j : Fin 1024) : (iblk m c 1 t : S1x1024x1024.Idx → EReal) (ix3 0 k j) = B m c (ix3 (slot t.val) (row (t.val % 4) k) j) := by
  have hN : t.val < 32 := lt_of_lt_of_eq t.isLt N_0
  blk_ext [iblk, idx1 t, row, slot]

/-- What point `n` finds of the product of the blocks `q`. -/
def term (n q : ℕ) (i : Fin 1024) (j : Fin 1024) : EReal := ∑ k : Fin 1024, A m c (ix2 (row q k) i) * B m c (ix3 (slot n) (row q k) j)

theorem step (t : Fin cfg0.N) (acc : S1024x1024.Idx → EReal) (i : Fin 1024) (j : Fin 1024) :
    k0_pay2 (F := Ideal) acc (iblk m c 0 t) (iblk m c 1 t) (ix2 i j) = acc (ix2 i j) + term m c t.val (t.val % 4) i j := by
  rw [pay2]
  unfold term
  refine congrArg _ (Finset.sum_congr rfl fun k _ => ?_)
  exact congrArg₂ (fun x y : EReal => x * y) (blk0 m c t k i) (blk1 m c t k j)

/-- The accumulator after point `n`: the products of the blocks of its tile so far. -/
theorem acc (n : ℕ) (hn : n < cfg0.N) (h3 : n % 4 ≠ 3) (i : Fin 1024) (j : Fin 1024) :
    (outsAt0 m c n hn).2 (ix2 i j) = ∑ q ∈ Finset.range (n % 4 + 1), term m c n q i j := by
  induction n with
  | zero =>
    rw [outsAt0_A m c ⟨0, hn⟩ rfl h3]
    dsimp only
    rw [sout_A, step, pay1]
    simp
  | succ n ih =>
    by_cases h0 : (n + 1) % 4 = 0
    · rw [outsAt0_A m c ⟨n + 1, hn⟩ h0 h3]
      dsimp only
      rw [sout_A, step, pay1]
      simp [h0]
    · rw [outsAt0_B m c ⟨n + 1, hn⟩ h0 h3]
      dsimp only
      rw [sout_B, step]
      have e : slot (n + 1) = slot n := by unfold slot; congr 1; omega
      have e' : (n + 1) % 4 = n % 4 + 1 := by omega
      refine (congrArg (· + _) (ih (Nat.lt_of_succ_lt hn) (by omega))).trans ?_
      rw [e', Finset.sum_range_succ _ (n % 4 + 1)]
      simp only [term, e]

/-- The product. -/
def prod (A : S4096x1024.Idx → EReal) (B : S8x4096x1024.Idx → EReal) : S8x1024x1024.Idx → EReal :=
  fun y => ∑ k : Fin 4096, A (ix2 k (y 1)) * B (ix3 (y 0) k (y 2))

theorem last (t : Fin cfg0.N) (h3 : t.val % 4 = 3) (o : Fin 1) (i : Fin 1024) (j : Fin 1024) :
    (outsAt0 m c t.val t.isLt).1 (ix3 o i j) = prod (A m c) (B m c) (ix3 (slot t.val) i j) := by
  obtain ⟨n, hn⟩ := t
  dsimp only at h3 ⊢
  rw [outsAt0_C m c ⟨n, hn⟩ (by dsimp only; omega) h3]
  dsimp only
  rw [out_C, pay3, step]
  refine (congrArg (· + _) (acc m c (n - 1) _ (by omega) i j)).trans ?_
  have e : slot (n - 1) = slot n := by unfold slot; congr 1; omega
  have e' : (n - 1) % 4 + 1 = 3 := by omega
  refine Eq.trans ?_ (Cert.Mm.sum_blocks 4096 1024 4 (by decide) rfl fun k => A m c (ix2 k i) * B m c (ix3 (slot n) k j))
  rw [e', h3, Finset.sum_range_succ _ 3]
  simp only [term, e]

/-- The array the kernel leaves is the product. -/
theorem arr : (dats m 0 c).arrAt 2 cfg0.N = (prod (A m c) (B m c) : S8x1024x1024.Idx → EReal) := by
  refine (dats m 0 c).arrAt_eq_of_covers 2 _ (by decide +kernel) (fun t hf y => ?_)
  have h3 : t.val % 4 = 3 := by
    have : ∀ t : Fin cfg0.N, (cfg0.win 2).flush t = true → t.val % 4 = 3 := by decide +kernel
    exact this t hf
  blk_simp
  rw [after0_2]
  obtain ⟨o, i, j, rfl⟩ : ∃ (o : Fin 1) (i : Fin 1024) (j : Fin 1024), y = ix3 o i j := ⟨y 0, y 1, y 2, eq_ix3 y⟩
  rw [last m c t h3]
  have hN : t.val < 32 := lt_of_lt_of_eq t.isLt N_0
  congr 1
  blk_ext [idx2 t, slot]

/-- The first factor is the argument itself. -/
theorem A_eq' : A m c = (m ((c : Thread nD τ).loc main_arg0) : S4096x1024.Idx → EReal) := by
  show StableHlo.after (List.flatten [hostOps0]) (fun b => m (c, b)) _ = _
  simp only [hostOps0, List.flatten_cons, List.flatten_nil, List.append_nil, List.cons_append, List.nil_append]
  after_results
  rfl

end Arr

/-! ### The two programs -/

/-- The reference's value is the product. -/
theorem ref (x0 : S4096x1024.Idx → EReal) (x1 : S8x4096x1024.Idx → EReal) : Cert.RInIdeal.Read.val_main_v7 (F := Ideal) x0 x1 = prod x0 x1 := by
  funext y
  rw [eq_ix3 y]
  pointwise [Cert.RInIdeal.Read.val_main_v7, Cert.RInIdeal.Read.val_main_v6, Cert.RInIdeal.Read.val_main_v5, Cert.RInIdeal.Read.val_main_v4, Cert.RInIdeal.Read.val_main_v3]
  exact Finset.sum_congr rfl fun k _ => mul_comm _ _

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = (prod (m ((c.tc : Thread nD τ).loc main_arg0)) (m ((c.tc : Thread nD τ).loc main_arg1)) : S8x1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨(e c).1.trans ((arr m c).trans (congrArg₂ prod (A_eq' m c) (V_main_arg1 m c))), (e c).2⟩) (Cert.KInIdeal.Value.run_blocks m ρ)

/-- The reference ends with its arguments unchanged and every counter at zero. -/
theorem frame (m : (ℓ : Loc Cert.RInIdeal.nD Cert.RInIdeal.τ Cert.RInIdeal.sig) → Buf (Elt Ideal) ℓ) (ρ : Dev Cert.RInIdeal.nD → PrngReg) :
    θ_run Cert.RInIdeal.defs (onTc (τ := Cert.RInIdeal.τ) (Cert.RInIdeal.main (F := Ideal))) ⟨m, fun _ => 0, ρ⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)) ∧ r.2.sem = fun _ => 0) :=
  (θ_run Cert.RInIdeal.defs _ _).mono (fun r e => ⟨fun c => (e c).2, sem_eq_zero_of_no_sems (by decide) r.2⟩) (Cert.RInIdeal.Value.run m ρ)

/-- On equal arguments the kernel and the reference leave equal results. -/
theorem equal : haveI := Cert.KInIdeal.Gen.facts; haveI := Cert.RInIdeal.Gen.facts
    algebraic_KInIdeal_RInIdeal := by
  intro m g m' g' _ ha
  refine ⟨_, kernel m g, (θ_run _ _ _).mono (fun r q c => ⟨(q c).1.trans ?_, (q c).2⟩) (Cert.RInIdeal.Value.run m' g')⟩
  rw [Cert.RInIdeal.Read.val_main_v7_eq]
  exact (ref _ _).trans (congrArg₂ prod (ha c).1 (ha c).2)

end Cert.MmIn
end
-- ==== Proof.MmGu.lean ====
/- The gradient of one half of the up projection's weights: what the kernel and the reference leave in their results. -/
module

public import proofs.«01_k».proof.Defs
public import proofs.«01_k».proof.Proof.Mm
public import proofs.«01_k».proof.Proof.Gen.KGu.Frame
public import proofs.«01_k».proof.Proof.Gen.KGuIdeal.Frame
public import proofs.«01_k».proof.Proof.Gen.RGuIdeal.Run
public import proofs.«01_k».proof.Proof.Gen.RGuIdeal.Read
public import Idealize.ShloMosaic.Lib.Pipeline.ValueKit
public import Idealize.ShloMosaic.Lib.Pipeline.ReadBack

@[expose] public section
noncomputable section
namespace Cert.MmGu
open Cert.KGuIdeal Cert.KGuIdeal.Gen Idealize.ShloMosaic Idealize.ShloMosaic.StableHlo Idealize.ShloMosaic.TcCoe Idealize.SL.Sem

/-! ### The three stores of the body -/

theorem pay1 (y : S1024x1408.Idx) : k0_pay1 (F := Ideal) y = 0 := by
  rw [eq_ix2 y]
  pointwise [k0_pay1]

theorem pay2 (acc : S1024x1408.Idx → EReal) (a : S1024x1024.Idx → EReal) (b : S1x1024x1408.Idx → EReal) (y : S1024x1408.Idx) :
    k0_pay2 (F := Ideal) acc a b y = acc y + ∑ k : Fin 1024, a (ix2 k (y 0)) * b (ix3 0 k (y 1)) := by
  rw [eq_ix2 y]
  pointwise [k0_pay2]

theorem pay3 (acc : S1024x1408.Idx → EReal) (o : Fin 1) (r : Fin 1024) (l : Fin 1408) :
    k0_pay3 (F := Ideal) acc (ix3 o r l) = acc (ix2 r l) := by
  pointwise [k0_pay3]

theorem ld0 (x : Vec Ideal S1024x1024 .bf16) (h) : View.ld (Val := Elt Ideal) (e' := .bf16) (S := S1024x1024) x (Rect.unit ![0, 0] ![1024, 1024] h) = x :=
  View.ld_unit_lit (Val := Elt Ideal) (e := .bf16) (S := S1024x1024) h x (by decide)
theorem ld1 (x : Vec Ideal S1x1024x1408 .bf16) (h) : View.ld (Val := Elt Ideal) (e' := .bf16) (S := S1x1024x1408) x (Rect.unit ![0, 0, 0] ![1, 1024, 1408] h) = x :=
  View.ld_unit_lit (Val := Elt Ideal) (e := .bf16) (S := S1x1024x1408) h x (by decide)
theorem ldS (x : Vec Ideal S1024x1408 .f32) (h) : View.ld (Val := Elt Ideal) (e' := .f32) (S := S1024x1408) x (Rect.unit ![0, 0] ![1024, 1408] h) = x :=
  View.ld_unit_lit (Val := Elt Ideal) (e := .f32) (S := S1024x1408) h x (by decide)

section Case
variable (c : Dev nD) (i : grid0.Coords) (arg4 : Memref sig .tc .vmem S1024x1024 .bf16) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1024x1408 .f32) (harg7 : arg7.IsWhole)
variable (x0 : Vec Ideal S1024x1024 .bf16) (x1 : Vec Ideal S1x1024x1408 .bf16) (xs : Vec Ideal S1024x1408 .f32)

/-- The first point of a tile leaves the product of its blocks in the accumulator. -/
theorem sout_A (hc0 : cond0_0 i) (hc1 : ¬cond0_1 i) : sout0_A_0 (F := Ideal) c i arg4 harg4 arg5 harg5 arg6 harg6 arg7 harg7 hc0 hc1 x0 x1 = k0_pay2 (F := Ideal) (k0_pay1 (F := Ideal)) x0 x1 := by
  unfold sout0_A_0
  rw [View.read_writes_eq_canon _ _ _ (scover0_A_0 (F := Ideal) c i arg4 harg4 arg5 harg5 arg6 harg6 arg7 harg7 hc0 hc1 x0 x1)]
  unfold kernelRun0_A
  dsimp only
  sl_unfold_words
  rw [View.canon_cons_unit_zero (by decide)]
  simp (disch := decide) only [View.readAt_eq_ld, harg4.read_unread, harg5.read_unread, harg6.read_unread, harg7.read_unread, ↓View.readCov_skip, ↓View.readCov_fill, ld0, ld1, ldS]

/-- A later point adds the product of its blocks to the accumulator. -/
theorem sout_B (hc0 : ¬cond0_0 i) (hc1 : ¬cond0_1 i) : sout0_B_0 (F := Ideal) c i arg4 harg4 arg5 harg5 arg6 harg6 arg7 harg7 hc0 hc1 x0 x1 xs = k0_pay2 (F := Ideal) xs x0 x1 := by
  unfold sout0_B_0
  rw [View.read_writes_eq_canon _ _ _ (scover0_B_0 (F := Ideal) c i arg4 harg4 arg5 harg5 arg6 harg6 arg7 harg7 hc0 hc1 x0 x1 xs)]
  unfold kernelRun0_B
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]

/-- The last point of a tile writes the accumulated tile out. -/
theorem out_C (hc0 : ¬cond0_0 i) (hc1 : cond0_1 i) : out0_C_2 (F := Ideal) c i arg4 harg4 arg5 harg5 arg6 harg6 arg7 harg7 hc0 hc1 x0 x1 xs = k0_pay3 (F := Ideal) (k0_pay2 xs x0 x1) := by
  unfold out0_C_2
  rw [View.read_writes_eq_canon _ _ _ (cover0_C_2 (F := Ideal) c i arg4 harg4 arg5 harg5 arg6 harg6 arg7 harg7 hc0 hc1 x0 x1 xs)]
  unfold kernelRun0_C
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]
end Case

/-! ### The tiles -/

/-- Row `k` of the `n`-th block of rows. -/
abbrev row (n : ℕ) (k : Fin 1024) : Fin 4096 := Cert.Mm.pos 4096 (by decide) (1024 * n + k.val)
/-- Row `i` of the result's tile at point `n`. -/
abbrev rowI (n : ℕ) (i : Fin 1024) : Fin 1024 := Cert.Mm.pos 1024 (by decide) (1024 * (0) + i.val)
/-- Column `j` of the result's tile at point `n`. -/
abbrev colJ (n : ℕ) (j : Fin 1408) : Fin 2816 := Cert.Mm.pos 2816 (by decide) (1408 * (n / 4) + j.val)

theorem idx0 : ∀ t : Fin cfg0.N, win0_0.index t = ![t.val % 4, 0] := by decide +kernel
theorem idx1 : ∀ t : Fin cfg0.N, win0_1.index t = ![0, t.val % 4, t.val / 4] := by decide +kernel
theorem idx2 : ∀ t : Fin cfg0.N, win0_2.index t = ![0, 0, t.val / 4] := by decide +kernel

section Arr
variable (m : (ℓ : Loc nD τ sig) → Buf (Elt Ideal) ℓ) (c : Dev nD)

/-- The two arrays the kernel multiplies, as the kernel finds them. -/
abbrev A : S4096x1024.Idx → EReal := V m c main_arg0
abbrev B : S1x4096x2816.Idx → EReal := V m c main_v0

theorem blk0 (t : Fin cfg0.N) (k : Fin 1024) (i : Fin 1024) : (iblk m c 0 t : S1024x1024.Idx → EReal) (ix2 k i) = A m c (ix2 (row (t.val % 4) k) (rowI t.val i)) := by
  have hN : t.val < 8 := lt_of_lt_of_eq t.isLt N_0
  blk_ext [iblk, idx0 t, row, rowI]

theorem blk1 (t : Fin cfg0.N) (k : Fin 1024) (j : Fin 1408) : (iblk m c 1 t : S1x1024x1408.Idx → EReal) (ix3 0 k j) = B m c (ix3 0 (row (t.val % 4) k) (colJ t.val j)) := by
  have hN : t.val < 8 := lt_of_lt_of_eq t.isLt N_0
  blk_ext [iblk, idx1 t, row, colJ]

/-- The product of the blocks `q` of the tile of point `n`. -/
def term (n q : ℕ) (i : Fin 1024) (j : Fin 1408) : EReal := ∑ k : Fin 1024, A m c (ix2 (row q k) (rowI n i)) * B m c (ix3 0 (row q k) (colJ n j))

theorem step (t : Fin cfg0.N) (acc : S1024x1408.Idx → EReal) (i : Fin 1024) (j : Fin 1408) :
    k0_pay2 (F := Ideal) acc (iblk m c 0 t) (iblk m c 1 t) (ix2 i j) = acc (ix2 i j) + term m c t.val (t.val % 4) i j := by
  rw [pay2]
  unfold term
  refine congrArg _ (Finset.sum_congr rfl fun k _ => ?_)
  exact congrArg₂ (fun x y : EReal => x * y) (blk0 m c t k i) (blk1 m c t k j)

theorem term_prev (n q : ℕ) (h : (n + 1) % 4 ≠ 0) (i : Fin 1024) (j : Fin 1408) : term m c n q i j = term m c (n + 1) q i j := by
  have e : rowI n i = rowI (n + 1) i := Fin.ext (congrArg (fun x => (1024 * x + i.val) % 1024) (rfl))
  have e' : colJ n j = colJ (n + 1) j := Fin.ext (congrArg (fun x => (1408 * x + j.val) % 2816) (by omega))
  unfold term
  rw [e, e']

/-- The accumulator after point `n`: the products of the blocks of its tile so far. -/
theorem acc (n : ℕ) (hn : n < cfg0.N) (h3 : n % 4 ≠ 3) (i : Fin 1024) (j : Fin 1408) :
    (outsAt0 m c n hn).2 (ix2 i j) = ∑ q ∈ Finset.range (n % 4 + 1), term m c n q i j := by
  induction n with
  | zero =>
    rw [outsAt0_A m c ⟨0, hn⟩ rfl h3]
    dsimp only
    rw [sout_A, step, pay1]
    simp
  | succ n ih =>
    by_cases h0 : (n + 1) % 4 = 0
    · rw [outsAt0_A m c ⟨n + 1, hn⟩ h0 h3]
      dsimp only
      rw [sout_A, step, pay1]
      simp [h0]
    · rw [outsAt0_B m c ⟨n + 1, hn⟩ h0 h3]
      dsimp only
      rw [sout_B, step]
      have e' : (n + 1) % 4 = n % 4 + 1 := by omega
      refine (congrArg (· + _) (ih (Nat.lt_of_succ_lt hn) (by omega))).trans ?_
      rw [e', Finset.sum_range_succ _ (n % 4 + 1)]
      simp only [term_prev m c n _ h0]

/-- The product, as the kernel's array holds it. -/
def prod3 (A : S4096x1024.Idx → EReal) (B : S1x4096x2816.Idx → EReal) : S1x1024x2816.Idx → EReal :=
  fun y => ∑ k : Fin 4096, A (ix2 k (y 1)) * B (ix3 0 k (y 2))
/-- The product. -/
def prod (A : S4096x1024.Idx → EReal) (B : S4096x2816.Idx → EReal) : S1024x2816.Idx → EReal :=
  fun y => ∑ k : Fin 4096, A (ix2 k (y 0)) * B (ix2 k (y 1))

theorem last (t : Fin cfg0.N) (h3 : t.val % 4 = 3) (o : Fin 1) (i : Fin 1024) (j : Fin 1408) :
    (outsAt0 m c t.val t.isLt).1 (ix3 o i j) = prod3 (A m c) (B m c) (ix3 o (rowI t.val i) (colJ t.val j)) := by
  obtain ⟨n, hn⟩ := t
  dsimp only at h3 ⊢
  obtain ⟨n, rfl⟩ : ∃ k, n = k + 1 := ⟨n - 1, by omega⟩
  rw [outsAt0_C m c ⟨n + 1, hn⟩ (by dsimp only; omega) h3]
  dsimp only
  rw [out_C, pay3, step]
  refine (congrArg (· + _) (acc m c n _ (by omega) i j)).trans ?_
  have e' : n % 4 + 1 = 3 := by omega
  refine Eq.trans ?_ (Cert.Mm.sum_blocks 4096 1024 4 (by decide) rfl fun k => A m c (ix2 k (rowI (n + 1) i)) * B m c (ix3 0 k (colJ (n + 1) j)))
  rw [e', h3, Finset.sum_range_succ _ 3]
  simp only [term_prev m c n _ (show (n + 1) % 4 ≠ 0 by omega)]
  rfl

/-- The array the kernel leaves is the product. -/
theorem arr : (dats m 0 c).arrAt 2 cfg0.N = (prod3 (A m c) (B m c) : S1x1024x2816.Idx → EReal) := by
  refine (dats m 0 c).arrAt_eq_of_covers 2 _ (by decide +kernel) (fun t hf y => ?_)
  have h3 : t.val % 4 = 3 := by
    have : ∀ t : Fin cfg0.N, (cfg0.win 2).flush t = true → t.val % 4 = 3 := by decide +kernel
    exact this t hf
  blk_simp
  rw [after0_2]
  obtain ⟨o, i, j, rfl⟩ : ∃ (o : Fin 1) (i : Fin 1024) (j : Fin 1408), y = ix3 o i j := ⟨y 0, y 1, y 2, eq_ix3 y⟩
  rw [last m c t h3]
  have hN : t.val < 8 := lt_of_lt_of_eq t.isLt N_0
  congr 1
  blk_ext [idx2 t, rowI, colJ]

/-- The second factor is the argument with an axis of one in front. -/
theorem B_eq : B m c = (broadcastInDim S1x4096x2816 ![1, 2] bcast_S4096x2816_S1x4096x2816_1_2 (m ((c : Thread nD τ).loc main_arg1) : S4096x2816.Idx → EReal) : S1x4096x2816.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v2)
    = (shapeCast S1024x2816 (X (Proc.devRef .tc main_v1) : S1x1024x2816.Idx → EReal) shapeCasts_S1x1024x2816_S1024x2816 : S1024x2816.Idx → EReal) := by
  simp only [hostOps1, List.flatten_cons, List.flatten_nil, List.append_nil, List.cons_append, List.nil_append]
  after_results
  rfl

theorem res : Pipeline.afterTail₀ cfgs (dats m) 0 (V0 m) [hostOps1] c main_v2
    = (prod (m ((c : Thread nD τ).loc main_arg0)) (m ((c : Thread nD τ).loc main_arg1)) : S1024x2816.Idx → EReal) := by
  unfold Pipeline.afterTail₀
  rw [tail]
  have e : Pipeline.withArrays (cfgs 0).spec c (V0 m c) (fun w => (dats m 0 c).arrAt w (cfgs 0).N) (Proc.devRef .tc main_v1) = (prod3 (A m c) (B m c) : S1x1024x2816.Idx → EReal) :=
    ((dats m 0 c).withArrays_arrAt (by decide : Pipeline.SharedIn spec0) (V0 m c) (A_eq m c) 2).trans (arr m c)
  rw [e, B_eq]
  funext y
  rw [eq_ix2 y]
  pointwise [prod3, prod]
  refine Finset.sum_congr rfl fun k _ => ?_
  refine congrArg₂ (fun x y : EReal => x * y) (congrFun (V_main_arg0 m c) _) ?_
  pointwise []

end Arr

/-! ### The two programs -/

/-- The reference's value is the product. -/
theorem ref (x0 : S4096x1024.Idx → EReal) (x1 : S4096x2816.Idx → EReal) : Cert.RGuIdeal.Read.val_main_v6 (F := Ideal) x0 x1 = prod x0 x1 := by
  funext y
  rw [eq_ix2 y]
  pointwise [Cert.RGuIdeal.Read.val_main_cst, Cert.RGuIdeal.Read.val_main_v0, Cert.RGuIdeal.Read.val_main_v1, Cert.RGuIdeal.Read.val_main_v2, Cert.RGuIdeal.Read.val_main_v3, Cert.RGuIdeal.Read.val_main_v4, Cert.RGuIdeal.Read.val_main_v5, Cert.RGuIdeal.Read.val_main_v6]
  exact Finset.sum_congr rfl fun k _ => mul_comm _ _

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (prod (m ((c.tc : Thread nD τ).loc main_arg0)) (m ((c.tc : Thread nD τ).loc main_arg1)) : S1024x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v2 (Pipeline.mem_restRefs_of main_v2 (by decide) (by decide))).trans (res m c),
    ((e c).1 0).trans (((dats m 0 c).arrAt_in 0 rfl _).trans ((A_eq m c 0).trans (V_main_arg0 m c))),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RGuIdeal.nD Cert.RGuIdeal.τ Cert.RGuIdeal.sig) → Buf (Elt Ideal) ℓ) (ρ : Dev Cert.RGuIdeal.nD → PrngReg) :
    θ_run Cert.RGuIdeal.defs (onTc (τ := Cert.RGuIdeal.τ) (Cert.RGuIdeal.main (F := Ideal))) ⟨m, fun _ => 0, ρ⟩ (fun r => (∀ c : Dev Cert.RGuIdeal.nD,
      r.2.mem ((c.tc : Thread Cert.RGuIdeal.nD Cert.RGuIdeal.τ).loc Cert.RGuIdeal.main_arg0) = m ((c.tc : Thread Cert.RGuIdeal.nD Cert.RGuIdeal.τ).loc Cert.RGuIdeal.main_arg0)
      ∧ r.2.mem ((c.tc : Thread Cert.RGuIdeal.nD Cert.RGuIdeal.τ).loc Cert.RGuIdeal.main_arg1) = m ((c.tc : Thread Cert.RGuIdeal.nD Cert.RGuIdeal.τ).loc Cert.RGuIdeal.main_arg1)) ∧ r.2.sem = fun _ => 0) :=
  (θ_run Cert.RGuIdeal.defs _ _).mono (fun r e => ⟨fun c => (e c).2, sem_eq_zero_of_no_sems (by decide) r.2⟩) (Cert.RGuIdeal.Value.run m ρ)

/-- On equal arguments the kernel and the reference leave equal results. -/
theorem equal : haveI := Cert.KGuIdeal.Gen.facts; haveI := Cert.RGuIdeal.Gen.facts
    algebraic_KGuIdeal_RGuIdeal := by
  intro m g m' g' _ ha
  refine ⟨_, kernel m g, (θ_run _ _ _).mono (fun r q c => ⟨(q c).1.trans ?_, (q c).2⟩) (Cert.RGuIdeal.Value.run m' g')⟩
  rw [Cert.RGuIdeal.Read.val_main_v6_eq]
  exact (ref _ _).trans (congrArg₂ prod (ha c).1 (ha c).2)

end Cert.MmGu
end
-- ==== Proof.MmGd.lean ====
/- The gradient of the down projection's weights: what the kernel and the reference leave in their results. -/
module

public import proofs.«01_k».proof.Defs
public import proofs.«01_k».proof.Proof.Mm
public import proofs.«01_k».proof.Proof.Gen.KGd.Frame
public import proofs.«01_k».proof.Proof.Gen.KGdIdeal.Frame
public import proofs.«01_k».proof.Proof.Gen.RGdIdeal.Run
public import proofs.«01_k».proof.Proof.Gen.RGdIdeal.Read
public import Idealize.ShloMosaic.Lib.Pipeline.ValueKit
public import Idealize.ShloMosaic.Lib.Pipeline.ReadBack

@[expose] public section
noncomputable section
namespace Cert.MmGd
open Cert.KGdIdeal Cert.KGdIdeal.Gen Idealize.ShloMosaic Idealize.ShloMosaic.StableHlo Idealize.ShloMosaic.TcCoe Idealize.SL.Sem

/-! ### The three stores of the body -/

theorem pay1 (y : S1408x1024.Idx) : k0_pay1 (F := Ideal) y = 0 := by
  rw [eq_ix2 y]
  pointwise [k0_pay1]

theorem pay2 (acc : S1408x1024.Idx → EReal) (a : S1024x1408.Idx → EReal) (b : S1x1024x1024.Idx → EReal) (y : S1408x1024.Idx) :
    k0_pay2 (F := Ideal) acc a b y = acc y + ∑ k : Fin 1024, a (ix2 k (y 0)) * b (ix3 0 k (y 1)) := by
  rw [eq_ix2 y]
  pointwise [k0_pay2]

theorem pay3 (acc : S1408x1024.Idx → EReal) (o : Fin 1) (r : Fin 1408) (l : Fin 1024) :
    k0_pay3 (F := Ideal) acc (ix3 o r l) = acc (ix2 r l) := by
  pointwise [k0_pay3]

theorem ld0 (x : Vec Ideal S1024x1408 .bf16) (h) : View.ld (Val := Elt Ideal) (e' := .bf16) (S := S1024x1408) x (Rect.unit ![0, 0] ![1024, 1408] h) = x :=
  View.ld_unit_lit (Val := Elt Ideal) (e := .bf16) (S := S1024x1408) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ldS (x : Vec Ideal S1408x1024 .f32) (h) : View.ld (Val := Elt Ideal) (e' := .f32) (S := S1408x1024) x (Rect.unit ![0, 0] ![1408, 1024] h) = x :=
  View.ld_unit_lit (Val := Elt Ideal) (e := .f32) (S := S1408x1024) h x (by decide)

section Case
variable (c : Dev nD) (i : grid0.Coords) (arg4 : Memref sig .tc .vmem S1024x1408 .bf16) (harg4 : arg4.IsWhole) (arg5 : Memref sig .tc .vmem S1x1024x1024 .bf16) (harg5 : arg5.IsWhole) (arg6 : Memref sig .tc .vmem S1x1408x1024 .bf16) (harg6 : arg6.IsWhole) (arg7 : Memref sig .tc .vmem S1408x1024 .f32) (harg7 : arg7.IsWhole)
variable (x0 : Vec Ideal S1024x1408 .bf16) (x1 : Vec Ideal S1x1024x1024 .bf16) (xs : Vec Ideal S1408x1024 .f32)

/-- The first point of a tile leaves the product of its blocks in the accumulator. -/
theorem sout_A (hc0 : cond0_0 i) (hc1 : ¬cond0_1 i) : sout0_A_0 (F := Ideal) c i arg4 harg4 arg5 harg5 arg6 harg6 arg7 harg7 hc0 hc1 x0 x1 = k0_pay2 (F := Ideal) (k0_pay1 (F := Ideal)) x0 x1 := by
  unfold sout0_A_0
  rw [View.read_writes_eq_canon _ _ _ (scover0_A_0 (F := Ideal) c i arg4 harg4 arg5 harg5 arg6 harg6 arg7 harg7 hc0 hc1 x0 x1)]
  unfold kernelRun0_A
  dsimp only
  sl_unfold_words
  rw [View.canon_cons_unit_zero (by decide)]
  simp (disch := decide) only [View.readAt_eq_ld, harg4.read_unread, harg5.read_unread, harg6.read_unread, harg7.read_unread, ↓View.readCov_skip, ↓View.readCov_fill, ld0, ld1, ldS]

/-- A later point adds the product of its blocks to the accumulator. -/
theorem sout_B (hc0 : ¬cond0_0 i) (hc1 : ¬cond0_1 i) : sout0_B_0 (F := Ideal) c i arg4 harg4 arg5 harg5 arg6 harg6 arg7 harg7 hc0 hc1 x0 x1 xs = k0_pay2 (F := Ideal) xs x0 x1 := by
  unfold sout0_B_0
  rw [View.read_writes_eq_canon _ _ _ (scover0_B_0 (F := Ideal) c i arg4 harg4 arg5 harg5 arg6 harg6 arg7 harg7 hc0 hc1 x0 x1 xs)]
  unfold kernelRun0_B
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]

/-- The last point of a tile writes the accumulated tile out. -/
theorem out_C (hc0 : ¬cond0_0 i) (hc1 : cond0_1 i) : out0_C_2 (F := Ideal) c i arg4 harg4 arg5 harg5 arg6 harg6 arg7 harg7 hc0 hc1 x0 x1 xs = k0_pay3 (F := Ideal) (k0_pay2 xs x0 x1) := by
  unfold out0_C_2
  rw [View.read_writes_eq_canon _ _ _ (cover0_C_2 (F := Ideal) c i arg4 harg4 arg5 harg5 arg6 harg6 arg7 harg7 hc0 hc1 x0 x1 xs)]
  unfold kernelRun0_C
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]
end Case

/-! ### The tiles -/

/-- Row `k` of the `n`-th block of rows. -/
abbrev row (n : ℕ) (k : Fin 1024) : Fin 4096 := Cert.Mm.pos 4096 (by decide) (1024 * n + k.val)
/-- Row `i` of the result's tile at point `n`. -/
abbrev rowI (n : ℕ) (i : Fin 1408) : Fin 2816 := Cert.Mm.pos 2816 (by decide) (1408 * (n / 4) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![t.val % 4, t.val / 4] := by decide +kernel
theorem idx1 : ∀ t : Fin cfg0.N, win0_1.index t = ![0, t.val % 4, 0] := by decide +kernel
theorem idx2 : ∀ t : Fin cfg0.N, win0_2.index t = ![0, t.val / 4, 0] := by decide +kernel

section Arr
variable (m : (ℓ : Loc nD τ sig) → Buf (Elt Ideal) ℓ) (c : Dev nD)

/-- The two arrays the kernel multiplies, as the kernel finds them. -/
abbrev A : S4096x2816.Idx → EReal := V m c main_arg0
abbrev B : S1x4096x1024.Idx → EReal := V m c main_v0

theorem blk0 (t : Fin cfg0.N) (k : Fin 1024) (i : Fin 1408) : (iblk m c 0 t : S1024x1408.Idx → EReal) (ix2 k i) = A m c (ix2 (row (t.val % 4) k) (rowI t.val i)) := by
  have hN : t.val < 8 := lt_of_lt_of_eq t.isLt N_0
  blk_ext [iblk, idx0 t, row, rowI]

theorem blk1 (t : Fin cfg0.N) (k : Fin 1024) (j : Fin 1024) : (iblk m c 1 t : S1x1024x1024.Idx → EReal) (ix3 0 k j) = B m c (ix3 0 (row (t.val % 4) k) (colJ t.val j)) := by
  have hN : t.val < 8 := lt_of_lt_of_eq t.isLt N_0
  blk_ext [iblk, idx1 t, row, colJ]

/-- The product of the blocks `q` of the tile of point `n`. -/
def term (n q : ℕ) (i : Fin 1408) (j : Fin 1024) : EReal := ∑ k : Fin 1024, A m c (ix2 (row q k) (rowI n i)) * B m c (ix3 0 (row q k) (colJ n j))

theorem step (t : Fin cfg0.N) (acc : S1408x1024.Idx → EReal) (i : Fin 1408) (j : Fin 1024) :
    k0_pay2 (F := Ideal) acc (iblk m c 0 t) (iblk m c 1 t) (ix2 i j) = acc (ix2 i j) + term m c t.val (t.val % 4) i j := by
  rw [pay2]
  unfold term
  refine congrArg _ (Finset.sum_congr rfl fun k _ => ?_)
  exact congrArg₂ (fun x y : EReal => x * y) (blk0 m c t k i) (blk1 m c t k j)

theorem term_prev (n q : ℕ) (h : (n + 1) % 4 ≠ 0) (i : Fin 1408) (j : Fin 1024) : term m c n q i j = term m c (n + 1) q i j := by
  have e : rowI n i = rowI (n + 1) i := Fin.ext (congrArg (fun x => (1408 * x + i.val) % 2816) (by omega))
  have e' : colJ n j = colJ (n + 1) j := Fin.ext (congrArg (fun x => (1024 * x + j.val) % 1024) (rfl))
  unfold term
  rw [e, e']

/-- The accumulator after point `n`: the products of the blocks of its tile so far. -/
theorem acc (n : ℕ) (hn : n < cfg0.N) (h3 : n % 4 ≠ 3) (i : Fin 1408) (j : Fin 1024) :
    (outsAt0 m c n hn).2 (ix2 i j) = ∑ q ∈ Finset.range (n % 4 + 1), term m c n q i j := by
  induction n with
  | zero =>
    rw [outsAt0_A m c ⟨0, hn⟩ rfl h3]
    dsimp only
    rw [sout_A, step, pay1]
    simp
  | succ n ih =>
    by_cases h0 : (n + 1) % 4 = 0
    · rw [outsAt0_A m c ⟨n + 1, hn⟩ h0 h3]
      dsimp only
      rw [sout_A, step, pay1]
      simp [h0]
    · rw [outsAt0_B m c ⟨n + 1, hn⟩ h0 h3]
      dsimp only
      rw [sout_B, step]
      have e' : (n + 1) % 4 = n % 4 + 1 := by omega
      refine (congrArg (· + _) (ih (Nat.lt_of_succ_lt hn) (by omega))).trans ?_
      rw [e', Finset.sum_range_succ _ (n % 4 + 1)]
      simp only [term_prev m c n _ h0]

/-- The product, as the kernel's array holds it. -/
def prod3 (A : S4096x2816.Idx → EReal) (B : S1x4096x1024.Idx → EReal) : S1x2816x1024.Idx → EReal :=
  fun y => ∑ k : Fin 4096, A (ix2 k (y 1)) * B (ix3 0 k (y 2))
/-- The product. -/
def prod (A : S4096x2816.Idx → EReal) (B : S4096x1024.Idx → EReal) : S2816x1024.Idx → EReal :=
  fun y => ∑ k : Fin 4096, A (ix2 k (y 0)) * B (ix2 k (y 1))

theorem last (t : Fin cfg0.N) (h3 : t.val % 4 = 3) (o : Fin 1) (i : Fin 1408) (j : Fin 1024) :
    (outsAt0 m c t.val t.isLt).1 (ix3 o i j) = prod3 (A m c) (B m c) (ix3 o (rowI t.val i) (colJ t.val j)) := by
  obtain ⟨n, hn⟩ := t
  dsimp only at h3 ⊢
  obtain ⟨n, rfl⟩ : ∃ k, n = k + 1 := ⟨n - 1, by omega⟩
  rw [outsAt0_C m c ⟨n + 1, hn⟩ (by dsimp only; omega) h3]
  dsimp only
  rw [out_C, pay3, step]
  refine (congrArg (· + _) (acc m c n _ (by omega) i j)).trans ?_
  have e' : n % 4 + 1 = 3 := by omega
  refine Eq.trans ?_ (Cert.Mm.sum_blocks 4096 1024 4 (by decide) rfl fun k => A m c (ix2 k (rowI (n + 1) i)) * B m c (ix3 0 k (colJ (n + 1) j)))
  rw [e', h3, Finset.sum_range_succ _ 3]
  simp only [term_prev m c n _ (show (n + 1) % 4 ≠ 0 by omega)]
  rfl

/-- The array the kernel leaves is the product. -/
theorem arr : (dats m 0 c).arrAt 2 cfg0.N = (prod3 (A m c) (B m c) : S1x2816x1024.Idx → EReal) := by
  refine (dats m 0 c).arrAt_eq_of_covers 2 _ (by decide +kernel) (fun t hf y => ?_)
  have h3 : t.val % 4 = 3 := by
    have : ∀ t : Fin cfg0.N, (cfg0.win 2).flush t = true → t.val % 4 = 3 := by decide +kernel
    exact this t hf
  blk_simp
  rw [after0_2]
  obtain ⟨o, i, j, rfl⟩ : ∃ (o : Fin 1) (i : Fin 1408) (j : Fin 1024), y = ix3 o i j := ⟨y 0, y 1, y 2, eq_ix3 y⟩
  rw [last m c t h3]
  have hN : t.val < 8 := lt_of_lt_of_eq t.isLt N_0
  congr 1
  blk_ext [idx2 t, rowI, colJ]

/-- The second factor is the argument with an axis of one in front. -/
theorem B_eq : B m c = (broadcastInDim S1x4096x1024 ![1, 2] bcast_S4096x1024_S1x4096x1024_1_2 (m ((c : Thread nD τ).loc main_arg1) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v2)
    = (shapeCast S2816x1024 (X (Proc.devRef .tc main_v1) : S1x2816x1024.Idx → EReal) shapeCasts_S1x2816x1024_S2816x1024 : S2816x1024.Idx → EReal) := by
  simp only [hostOps1, List.flatten_cons, List.flatten_nil, List.append_nil, List.cons_append, List.nil_append]
  after_results
  rfl

theorem res : Pipeline.afterTail₀ cfgs (dats m) 0 (V0 m) [hostOps1] c main_v2
    = (prod (m ((c : Thread nD τ).loc main_arg0)) (m ((c : Thread nD τ).loc main_arg1)) : S2816x1024.Idx → EReal) := by
  unfold Pipeline.afterTail₀
  rw [tail]
  have e : Pipeline.withArrays (cfgs 0).spec c (V0 m c) (fun w => (dats m 0 c).arrAt w (cfgs 0).N) (Proc.devRef .tc main_v1) = (prod3 (A m c) (B m c) : S1x2816x1024.Idx → EReal) :=
    ((dats m 0 c).withArrays_arrAt (by decide : Pipeline.SharedIn spec0) (V0 m c) (A_eq m c) 2).trans (arr m c)
  rw [e, B_eq]
  funext y
  rw [eq_ix2 y]
  pointwise [prod3, prod]
  refine Finset.sum_congr rfl fun k _ => ?_
  refine congrArg₂ (fun x y : EReal => x * y) (congrFun (V_main_arg0 m c) _) ?_
  pointwise []

end Arr

/-! ### The two programs -/

/-- The reference's value is the product. -/
theorem ref (x0 : S4096x2816.Idx → EReal) (x1 : S4096x1024.Idx → EReal) : Cert.RGdIdeal.Read.val_main_v6 (F := Ideal) x0 x1 = prod x0 x1 := by
  funext y
  rw [eq_ix2 y]
  pointwise [Cert.RGdIdeal.Read.val_main_cst, Cert.RGdIdeal.Read.val_main_v0, Cert.RGdIdeal.Read.val_main_v1, Cert.RGdIdeal.Read.val_main_v2, Cert.RGdIdeal.Read.val_main_v3, Cert.RGdIdeal.Read.val_main_v4, Cert.RGdIdeal.Read.val_main_v5, Cert.RGdIdeal.Read.val_main_v6]
  exact Finset.sum_congr rfl fun k _ => mul_comm _ _

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (prod (m ((c.tc : Thread nD τ).loc main_arg0)) (m ((c.tc : Thread nD τ).loc main_arg1)) : S2816x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v2 (Pipeline.mem_restRefs_of main_v2 (by decide) (by decide))).trans (res m c),
    ((e c).1 0).trans (((dats m 0 c).arrAt_in 0 rfl _).trans ((A_eq m c 0).trans (V_main_arg0 m c))),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RGdIdeal.nD Cert.RGdIdeal.τ Cert.RGdIdeal.sig) → Buf (Elt Ideal) ℓ) (ρ : Dev Cert.RGdIdeal.nD → PrngReg) :
    θ_run Cert.RGdIdeal.defs (onTc (τ := Cert.RGdIdeal.τ) (Cert.RGdIdeal.main (F := Ideal))) ⟨m, fun _ => 0, ρ⟩ (fun r => (∀ c : Dev Cert.RGdIdeal.nD,
      r.2.mem ((c.tc : Thread Cert.RGdIdeal.nD Cert.RGdIdeal.τ).loc Cert.RGdIdeal.main_arg0) = m ((c.tc : Thread Cert.RGdIdeal.nD Cert.RGdIdeal.τ).loc Cert.RGdIdeal.main_arg0)
      ∧ r.2.mem ((c.tc : Thread Cert.RGdIdeal.nD Cert.RGdIdeal.τ).loc Cert.RGdIdeal.main_arg1) = m ((c.tc : Thread Cert.RGdIdeal.nD Cert.RGdIdeal.τ).loc Cert.RGdIdeal.main_arg1)) ∧ r.2.sem = fun _ => 0) :=
  (θ_run Cert.RGdIdeal.defs _ _).mono (fun r e => ⟨fun c => (e c).2, sem_eq_zero_of_no_sems (by decide) r.2⟩) (Cert.RGdIdeal.Value.run m ρ)

/-- On equal arguments the kernel and the reference leave equal results. -/
theorem equal : haveI := Cert.KGdIdeal.Gen.facts; haveI := Cert.RGdIdeal.Gen.facts
    algebraic_KGdIdeal_RGdIdeal := by
  intro m g m' g' _ ha
  refine ⟨_, kernel m g, (θ_run _ _ _).mono (fun r q c => ⟨(q c).1.trans ?_, (q c).2⟩) (Cert.RGdIdeal.Value.run m' g')⟩
  rw [Cert.RGdIdeal.Read.val_main_v6_eq]
  exact (ref _ _).trans (congrArg₂ prod (ha c).1 (ha c).2)

end Cert.MmGd
end
-- ==== Proof.MmGo.lean ====
/- The gradient of a square projection's weights: what the kernel and the reference leave in their results. -/
module

public import proofs.«01_k».proof.Defs
public import proofs.«01_k».proof.Proof.Mm
public import proofs.«01_k».proof.Proof.Gen.KGo.Frame
public import proofs.«01_k».proof.Proof.Gen.KGoIdeal.Frame
public import proofs.«01_k».proof.Proof.Gen.RGoIdeal.Run
public import proofs.«01_k».proof.Proof.Gen.RGoIdeal.Read
public import Idealize.ShloMosaic.Lib.Pipeline.ValueKit
public import Idealize.ShloMosaic.Lib.Pipeline.ReadBack

@[expose] public section
noncomputable section
namespace Cert.MmGo
open Cert.KGoIdeal Cert.KGoIdeal.Gen Idealize.ShloMosaic Idealize.ShloMosaic.StableHlo Idealize.ShloMosaic.TcCoe Idealize.SL.Sem

/-! ### The three stores of the body -/

theorem pay1 (y : S1024x1024.Idx) : k0_pay1 (F := Ideal) y = 0 := by
  rw [eq_ix2 y]
  pointwise [k0_pay1]

theorem pay2 (acc : S1024x1024.Idx → EReal) (a : S1024x1024.Idx → EReal) (b : S1x1024x1024.Idx → EReal) (y : S1024x1024.Idx) :
    k0_pay2 (F := Ideal) acc a b y = acc y + ∑ k : Fin 1024, a (ix2 k (y 0)) * b (ix3 0 k (y 1)) := by
  rw [eq_ix2 y]
  pointwise [k0_pay2]

theorem pay3 (acc : S1024x1024.Idx → EReal) (o : Fin 1) (r : Fin 1024) (l : Fin 1024) :
    k0_pay3 (F := Ideal) acc (ix3 o r l) = acc (ix2 r l) := by
  pointwise [k0_pay3]

theorem ld0 (x : Vec Ideal S1024x1024 .bf16) (h) : View.ld (Val := Elt Ideal) (e' := .bf16) (S := S1024x1024) x (Rect.unit ![0, 0] ![1024, 1024] h) = x :=
  View.ld_unit_lit (Val := Elt Ideal) (e := .bf16) (S := S1024x1024) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ldS (x : Vec Ideal S1024x1024 .f32) (h) : View.ld (Val := Elt Ideal) (e' := .f32) (S := S1024x1024) x (Rect.unit ![0, 0] ![1024, 1024] h) = x :=
  View.ld_unit_lit (Val := Elt Ideal) (e := .f32) (S := S1024x1024) h x (by decide)

section Case
variable (c : Dev nD) (i : grid0.Coords) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1024 .f32) (harg7 : arg7.IsWhole)
variable (x0 : Vec Ideal S1024x1024 .bf16) (x1 : Vec Ideal S1x1024x1024 .bf16) (xs : Vec Ideal S1024x1024 .f32)

/-- The first point of a tile leaves the product of its blocks in the accumulator. -/
theorem sout_A (hc0 : cond0_0 i) (hc1 : ¬cond0_1 i) : sout0_A_0 (F := Ideal) c i arg4 harg4 arg5 harg5 arg6 harg6 arg7 harg7 hc0 hc1 x0 x1 = k0_pay2 (F := Ideal) (k0_pay1 (F := Ideal)) x0 x1 := by
  unfold sout0_A_0
  rw [View.read_writes_eq_canon _ _ _ (scover0_A_0 (F := Ideal) c i arg4 harg4 arg5 harg5 arg6 harg6 arg7 harg7 hc0 hc1 x0 x1)]
  unfold kernelRun0_A
  dsimp only
  sl_unfold_words
  rw [View.canon_cons_unit_zero (by decide)]
  simp (disch := decide) only [View.readAt_eq_ld, harg4.read_unread, harg5.read_unread, harg6.read_unread, harg7.read_unread, ↓View.readCov_skip, ↓View.readCov_fill, ld0, ld1, ldS]

/-- A later point adds the product of its blocks to the accumulator. -/
theorem sout_B (hc0 : ¬cond0_0 i) (hc1 : ¬cond0_1 i) : sout0_B_0 (F := Ideal) c i arg4 harg4 arg5 harg5 arg6 harg6 arg7 harg7 hc0 hc1 x0 x1 xs = k0_pay2 (F := Ideal) xs x0 x1 := by
  unfold sout0_B_0
  rw [View.read_writes_eq_canon _ _ _ (scover0_B_0 (F := Ideal) c i arg4 harg4 arg5 harg5 arg6 harg6 arg7 harg7 hc0 hc1 x0 x1 xs)]
  unfold kernelRun0_B
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]

/-- The last point of a tile writes the accumulated tile out. -/
theorem out_C (hc0 : ¬cond0_0 i) (hc1 : cond0_1 i) : out0_C_2 (F := Ideal) c i arg4 harg4 arg5 harg5 arg6 harg6 arg7 harg7 hc0 hc1 x0 x1 xs = k0_pay3 (F := Ideal) (k0_pay2 xs x0 x1) := by
  unfold out0_C_2
  rw [View.read_writes_eq_canon _ _ _ (cover0_C_2 (F := Ideal) c i arg4 harg4 arg5 harg5 arg6 harg6 arg7 harg7 hc0 hc1 x0 x1 xs)]
  unfold kernelRun0_C
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]
end Case

/-! ### The tiles -/

/-- Row `k` of the `n`-th block of rows. -/
abbrev row (n : ℕ) (k : Fin 1024) : Fin 4096 := Cert.Mm.pos 4096 (by decide) (1024 * n + k.val)
/-- Row `i` of the result's tile at point `n`. -/
abbrev rowI (n : ℕ) (i : Fin 1024) : Fin 1024 := Cert.Mm.pos 1024 (by decide) (1024 * (0) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![t.val % 4, 0] := by decide +kernel
theorem idx1 : ∀ t : Fin cfg0.N, win0_1.index t = ![0, t.val % 4, 0] := by decide +kernel
theorem idx2 : ∀ t : Fin cfg0.N, win0_2.index t = ![0, 0, 0] := by decide +kernel

section Arr
variable (m : (ℓ : Loc nD τ sig) → Buf (Elt Ideal) ℓ) (c : Dev nD)

/-- The two arrays the kernel multiplies, as the kernel finds them. -/
abbrev A : S4096x1024.Idx → EReal := V m c main_arg0
abbrev B : S1x4096x1024.Idx → EReal := V m c main_v0

theorem blk0 (t : Fin cfg0.N) (k : Fin 1024) (i : Fin 1024) : (iblk m c 0 t : S1024x1024.Idx → EReal) (ix2 k i) = A m c (ix2 (row (t.val % 4) k) (rowI t.val i)) := by
  have hN : t.val < 4 := lt_of_lt_of_eq t.isLt N_0
  blk_ext [iblk, idx0 t, row, rowI]

theorem blk1 (t : Fin cfg0.N) (k : Fin 1024) (j : Fin 1024) : (iblk m c 1 t : S1x1024x1024.Idx → EReal) (ix3 0 k j) = B m c (ix3 0 (row (t.val % 4) k) (colJ t.val j)) := by
  have hN : t.val < 4 := lt_of_lt_of_eq t.isLt N_0
  blk_ext [iblk, idx1 t, row, colJ]

/-- The product of the blocks `q` of the tile of point `n`. -/
def term (n q : ℕ) (i : Fin 1024) (j : Fin 1024) : EReal := ∑ k : Fin 1024, A m c (ix2 (row q k) (rowI n i)) * B m c (ix3 0 (row q k) (colJ n j))

theorem step (t : Fin cfg0.N) (acc : S1024x1024.Idx → EReal) (i : Fin 1024) (j : Fin 1024) :
    k0_pay2 (F := Ideal) acc (iblk m c 0 t) (iblk m c 1 t) (ix2 i j) = acc (ix2 i j) + term m c t.val (t.val % 4) i j := by
  rw [pay2]
  unfold term
  refine congrArg _ (Finset.sum_congr rfl fun k _ => ?_)
  exact congrArg₂ (fun x y : EReal => x * y) (blk0 m c t k i) (blk1 m c t k j)

theorem term_prev (n q : ℕ) (h : (n + 1) % 4 ≠ 0) (i : Fin 1024) (j : Fin 1024) : term m c n q i j = term m c (n + 1) q i j := by
  have e : rowI n i = rowI (n + 1) i := Fin.ext (congrArg (fun x => (1024 * x + i.val) % 1024) (rfl))
  have e' : colJ n j = colJ (n + 1) j := Fin.ext (congrArg (fun x => (1024 * x + j.val) % 1024) (rfl))
  unfold term
  rw [e, e']

/-- The accumulator after point `n`: the products of the blocks of its tile so far. -/
theorem acc (n : ℕ) (hn : n < cfg0.N) (h3 : n % 4 ≠ 3) (i : Fin 1024) (j : Fin 1024) :
    (outsAt0 m c n hn).2 (ix2 i j) = ∑ q ∈ Finset.range (n % 4 + 1), term m c n q i j := by
  induction n with
  | zero =>
    rw [outsAt0_A m c ⟨0, hn⟩ rfl h3]
    dsimp only
    rw [sout_A, step, pay1]
    simp
  | succ n ih =>
    by_cases h0 : (n + 1) % 4 = 0
    · rw [outsAt0_A m c ⟨n + 1, hn⟩ h0 h3]
      dsimp only
      rw [sout_A, step, pay1]
      simp [h0]
    · rw [outsAt0_B m c ⟨n + 1, hn⟩ h0 h3]
      dsimp only
      rw [sout_B, step]
      have e' : (n + 1) % 4 = n % 4 + 1 := by omega
      refine (congrArg (· + _) (ih (Nat.lt_of_succ_lt hn) (by omega))).trans ?_
      rw [e', Finset.sum_range_succ _ (n % 4 + 1)]
      simp only [term_prev m c n _ h0]

/-- The product, as the kernel's array holds it. -/
def prod3 (A : S4096x1024.Idx → EReal) (B : S1x4096x1024.Idx → EReal) : S1x1024x1024.Idx → EReal :=
  fun y => ∑ k : Fin 4096, A (ix2 k (y 1)) * B (ix3 0 k (y 2))
/-- The product. -/
def prod (A : S4096x1024.Idx → EReal) (B : S4096x1024.Idx → EReal) : S1024x1024.Idx → EReal :=
  fun y => ∑ k : Fin 4096, A (ix2 k (y 0)) * B (ix2 k (y 1))

theorem last (t : Fin cfg0.N) (h3 : t.val % 4 = 3) (o : Fin 1) (i : Fin 1024) (j : Fin 1024) :
    (outsAt0 m c t.val t.isLt).1 (ix3 o i j) = prod3 (A m c) (B m c) (ix3 o (rowI t.val i) (colJ t.val j)) := by
  obtain ⟨n, hn⟩ := t
  dsimp only at h3 ⊢
  obtain ⟨n, rfl⟩ : ∃ k, n = k + 1 := ⟨n - 1, by omega⟩
  rw [outsAt0_C m c ⟨n + 1, hn⟩ (by dsimp only; omega) h3]
  dsimp only
  rw [out_C, pay3, step]
  refine (congrArg (· + _) (acc m c n _ (by omega) i j)).trans ?_
  have e' : n % 4 + 1 = 3 := by omega
  refine Eq.trans ?_ (Cert.Mm.sum_blocks 4096 1024 4 (by decide) rfl fun k => A m c (ix2 k (rowI (n + 1) i)) * B m c (ix3 0 k (colJ (n + 1) j)))
  rw [e', h3, Finset.sum_range_succ _ 3]
  simp only [term_prev m c n _ (show (n + 1) % 4 ≠ 0 by omega)]
  rfl

/-- The array the kernel leaves is the product. -/
theorem arr : (dats m 0 c).arrAt 2 cfg0.N = (prod3 (A m c) (B m c) : S1x1024x1024.Idx → EReal) := by
  refine (dats m 0 c).arrAt_eq_of_covers 2 _ (by decide +kernel) (fun t hf y => ?_)
  have h3 : t.val % 4 = 3 := by
    have : ∀ t : Fin cfg0.N, (cfg0.win 2).flush t = true → t.val % 4 = 3 := by decide +kernel
    exact this t hf
  blk_simp
  rw [after0_2]
  obtain ⟨o, i, j, rfl⟩ : ∃ (o : Fin 1) (i : Fin 1024) (j : Fin 1024), y = ix3 o i j := ⟨y 0, y 1, y 2, eq_ix3 y⟩
  rw [last m c t h3]
  have hN : t.val < 4 := lt_of_lt_of_eq t.isLt N_0
  congr 1
  blk_ext [idx2 t, rowI, colJ]

/-- The second factor is the argument with an axis of one in front. -/
theorem B_eq : B m c = (broadcastInDim S1x4096x1024 ![1, 2] bcast_S4096x1024_S1x4096x1024_1_2 (m ((c : Thread nD τ).loc main_arg1) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v2)
    = (shapeCast S1024x1024 (X (Proc.devRef .tc main_v1) : S1x1024x1024.Idx → EReal) shapeCasts_S1x1024x1024_S1024x1024 : S1024x1024.Idx → EReal) := by
  simp only [hostOps1, List.flatten_cons, List.flatten_nil, List.append_nil, List.cons_append, List.nil_append]
  after_results
  rfl

theorem res : Pipeline.afterTail₀ cfgs (dats m) 0 (V0 m) [hostOps1] c main_v2
    = (prod (m ((c : Thread nD τ).loc main_arg0)) (m ((c : Thread nD τ).loc main_arg1)) : S1024x1024.Idx → EReal) := by
  unfold Pipeline.afterTail₀
  rw [tail]
  have e : Pipeline.withArrays (cfgs 0).spec c (V0 m c) (fun w => (dats m 0 c).arrAt w (cfgs 0).N) (Proc.devRef .tc main_v1) = (prod3 (A m c) (B m c) : S1x1024x1024.Idx → EReal) :=
    ((dats m 0 c).withArrays_arrAt (by decide : Pipeline.SharedIn spec0) (V0 m c) (A_eq m c) 2).trans (arr m c)
  rw [e, B_eq]
  funext y
  rw [eq_ix2 y]
  pointwise [prod3, prod]
  refine Finset.sum_congr rfl fun k _ => ?_
  refine congrArg₂ (fun x y : EReal => x * y) (congrFun (V_main_arg0 m c) _) ?_
  pointwise []

end Arr

/-! ### The two programs -/

/-- The reference's value is the product. -/
theorem ref (x0 : S4096x1024.Idx → EReal) (x1 : S4096x1024.Idx → EReal) : Cert.RGoIdeal.Read.val_main_v6 (F := Ideal) x0 x1 = prod x0 x1 := by
  funext y
  rw [eq_ix2 y]
  pointwise [Cert.RGoIdeal.Read.val_main_cst, Cert.RGoIdeal.Read.val_main_v0, Cert.RGoIdeal.Read.val_main_v1, Cert.RGoIdeal.Read.val_main_v2, Cert.RGoIdeal.Read.val_main_v3, Cert.RGoIdeal.Read.val_main_v4, Cert.RGoIdeal.Read.val_main_v5, Cert.RGoIdeal.Read.val_main_v6]
  exact Finset.sum_congr rfl fun k _ => mul_comm _ _

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (prod (m ((c.tc : Thread nD τ).loc main_arg0)) (m ((c.tc : Thread nD τ).loc main_arg1)) : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v2 (Pipeline.mem_restRefs_of main_v2 (by decide) (by decide))).trans (res m c),
    ((e c).1 0).trans (((dats m 0 c).arrAt_in 0 rfl _).trans ((A_eq m c 0).trans (V_main_arg0 m c))),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RGoIdeal.nD Cert.RGoIdeal.τ Cert.RGoIdeal.sig) → Buf (Elt Ideal) ℓ) (ρ : Dev Cert.RGoIdeal.nD → PrngReg) :
    θ_run Cert.RGoIdeal.defs (onTc (τ := Cert.RGoIdeal.τ) (Cert.RGoIdeal.main (F := Ideal))) ⟨m, fun _ => 0, ρ⟩ (fun r => (∀ c : Dev Cert.RGoIdeal.nD,
      r.2.mem ((c.tc : Thread Cert.RGoIdeal.nD Cert.RGoIdeal.τ).loc Cert.RGoIdeal.main_arg0) = m ((c.tc : Thread Cert.RGoIdeal.nD Cert.RGoIdeal.τ).loc Cert.RGoIdeal.main_arg0)
      ∧ r.2.mem ((c.tc : Thread Cert.RGoIdeal.nD Cert.RGoIdeal.τ).loc Cert.RGoIdeal.main_arg1) = m ((c.tc : Thread Cert.RGoIdeal.nD Cert.RGoIdeal.τ).loc Cert.RGoIdeal.main_arg1)) ∧ r.2.sem = fun _ => 0) :=
  (θ_run Cert.RGoIdeal.defs _ _).mono (fun r e => ⟨fun c => (e c).2, sem_eq_zero_of_no_sems (by decide) r.2⟩) (Cert.RGoIdeal.Value.run m ρ)

/-- On equal arguments the kernel and the reference leave equal results. -/
theorem equal : haveI := Cert.KGoIdeal.Gen.facts; haveI := Cert.RGoIdeal.Gen.facts
    algebraic_KGoIdeal_RGoIdeal := by
  intro m g m' g' _ ha
  refine ⟨_, kernel m g, (θ_run _ _ _).mono (fun r q c => ⟨(q c).1.trans ?_, (q c).2⟩) (Cert.RGoIdeal.Value.run m' g')⟩
  rw [Cert.RGoIdeal.Read.val_main_v6_eq]
  exact (ref _ _).trans (congrArg₂ prod (ha c).1 (ha c).2)

end Cert.MmGo
end
-- ==== Proof.MmGp.lean ====
/- The gradient of the per-layer embedding's projection: what the kernel and the reference leave in their results. -/
module

public import proofs.«01_k».proof.Defs
public import proofs.«01_k».proof.Proof.Mm
public import proofs.«01_k».proof.Proof.Gen.KGp.Frame
public import proofs.«01_k».proof.Proof.Gen.KGpIdeal.Frame
public import proofs.«01_k».proof.Proof.Gen.RGpIdeal.Run
public import proofs.«01_k».proof.Proof.Gen.RGpIdeal.Read
public import Idealize.ShloMosaic.Lib.Pipeline.ValueKit
public import Idealize.ShloMosaic.Lib.Pipeline.ReadBack

@[expose] public section
noncomputable section
namespace Cert.MmGp
open Cert.KGpIdeal Cert.KGpIdeal.Gen Idealize.ShloMosaic Idealize.ShloMosaic.StableHlo Idealize.ShloMosaic.TcCoe Idealize.SL.Sem

/-! ### The three stores of the body -/

theorem pay1 (y : S256x1024.Idx) : k0_pay1 (F := Ideal) y = 0 := by
  rw [eq_ix2 y]
  pointwise [k0_pay1]

theorem pay2 (acc : S256x1024.Idx → EReal) (a : S1024x256.Idx → EReal) (b : S1x1024x1024.Idx → EReal) (y : S256x1024.Idx) :
    k0_pay2 (F := Ideal) acc a b y = acc y + ∑ k : Fin 1024, a (ix2 k (y 0)) * b (ix3 0 k (y 1)) := by
  rw [eq_ix2 y]
  pointwise [k0_pay2]

theorem pay3 (acc : S256x1024.Idx → EReal) (o : Fin 1) (r : Fin 256) (l : Fin 1024) :
    k0_pay3 (F := Ideal) acc (ix3 o r l) = acc (ix2 r l) := by
  pointwise [k0_pay3]

theorem ld0 (x : Vec Ideal S1024x256 .bf16) (h) : View.ld (Val := Elt Ideal) (e' := .bf16) (S := S1024x256) x (Rect.unit ![0, 0] ![1024, 256] h) = x :=
  View.ld_unit_lit (Val := Elt Ideal) (e := .bf16) (S := S1024x256) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ldS (x : Vec Ideal S256x1024 .f32) (h) : View.ld (Val := Elt Ideal) (e' := .f32) (S := S256x1024) x (Rect.unit ![0, 0] ![256, 1024] h) = x :=
  View.ld_unit_lit (Val := Elt Ideal) (e := .f32) (S := S256x1024) h x (by decide)

section Case
variable (c : Dev nD) (i : grid0.Coords) (arg4 : Memref sig .tc .vmem S1024x256 .bf16) (harg4 : arg4.IsWhole) (arg5 : Memref sig .tc .vmem S1x1024x1024 .bf16) (harg5 : arg5.IsWhole) (arg6 : Memref sig .tc .vmem S1x256x1024 .bf16) (harg6 : arg6.IsWhole) (arg7 : Memref sig .tc .vmem S256x1024 .f32) (harg7 : arg7.IsWhole)
variable (x0 : Vec Ideal S1024x256 .bf16) (x1 : Vec Ideal S1x1024x1024 .bf16) (xs : Vec Ideal S256x1024 .f32)

/-- The first point of a tile leaves the product of its blocks in the accumulator. -/
theorem sout_A (hc0 : cond0_0 i) (hc1 : ¬cond0_1 i) : sout0_A_0 (F := Ideal) c i arg4 harg4 arg5 harg5 arg6 harg6 arg7 harg7 hc0 hc1 x0 x1 = k0_pay2 (F := Ideal) (k0_pay1 (F := Ideal)) x0 x1 := by
  unfold sout0_A_0
  rw [View.read_writes_eq_canon _ _ _ (scover0_A_0 (F := Ideal) c i arg4 harg4 arg5 harg5 arg6 harg6 arg7 harg7 hc0 hc1 x0 x1)]
  unfold kernelRun0_A
  dsimp only
  sl_unfold_words
  rw [View.canon_cons_unit_zero (by decide)]
  simp (disch := decide) only [View.readAt_eq_ld, harg4.read_unread, harg5.read_unread, harg6.read_unread, harg7.read_unread, ↓View.readCov_skip, ↓View.readCov_fill, ld0, ld1, ldS]

/-- A later point adds the product of its blocks to the accumulator. -/
theorem sout_B (hc0 : ¬cond0_0 i) (hc1 : ¬cond0_1 i) : sout0_B_0 (F := Ideal) c i arg4 harg4 arg5 harg5 arg6 harg6 arg7 harg7 hc0 hc1 x0 x1 xs = k0_pay2 (F := Ideal) xs x0 x1 := by
  unfold sout0_B_0
  rw [View.read_writes_eq_canon _ _ _ (scover0_B_0 (F := Ideal) c i arg4 harg4 arg5 harg5 arg6 harg6 arg7 harg7 hc0 hc1 x0 x1 xs)]
  unfold kernelRun0_B
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]

/-- The last point of a tile writes the accumulated tile out. -/
theorem out_C (hc0 : ¬cond0_0 i) (hc1 : cond0_1 i) : out0_C_2 (F := Ideal) c i arg4 harg4 arg5 harg5 arg6 harg6 arg7 harg7 hc0 hc1 x0 x1 xs = k0_pay3 (F := Ideal) (k0_pay2 xs x0 x1) := by
  unfold out0_C_2
  rw [View.read_writes_eq_canon _ _ _ (cover0_C_2 (F := Ideal) c i arg4 harg4 arg5 harg5 arg6 harg6 arg7 harg7 hc0 hc1 x0 x1 xs)]
  unfold kernelRun0_C
  dsimp only
  sl_unfold_words
  rw [View.canon_unit_zero (by decide)]
  simp (disch := decide) only [View.readAt_eq_ld, harg4.read_unread, harg5.read_unread, harg6.read_unread, harg7.read_unread, ↓View.readCov_skip, ↓View.readCov_fill, ld0, ld1, ldS]
end Case

/-! ### The tiles -/

/-- Row `k` of the `n`-th block of rows. -/
abbrev row (n : ℕ) (k : Fin 1024) : Fin 4096 := Cert.Mm.pos 4096 (by decide) (1024 * n + k.val)
/-- Row `i` of the result's tile at point `n`. -/
abbrev rowI (n : ℕ) (i : Fin 256) : Fin 256 := Cert.Mm.pos 256 (by decide) (256 * (0) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![t.val % 4, 0] := by decide +kernel
theorem idx1 : ∀ t : Fin cfg0.N, win0_1.index t = ![0, t.val % 4, 0] := by decide +kernel
theorem idx2 : ∀ t : Fin cfg0.N, win0_2.index t = ![0, 0, 0] := by decide +kernel

section Arr
variable (m : (ℓ : Loc nD τ sig) → Buf (Elt Ideal) ℓ) (c : Dev nD)

/-- The two arrays the kernel multiplies, as the kernel finds them. -/
abbrev A : S4096x256.Idx → EReal := V m c main_arg0
abbrev B : S1x4096x1024.Idx → EReal := V m c main_v0

theorem blk0 (t : Fin cfg0.N) (k : Fin 1024) (i : Fin 256) : (iblk m c 0 t : S1024x256.Idx → EReal) (ix2 k i) = A m c (ix2 (row (t.val % 4) k) (rowI t.val i)) := by
  have hN : t.val < 4 := lt_of_lt_of_eq t.isLt N_0
  blk_ext [iblk, idx0 t, row, rowI]

theorem blk1 (t : Fin cfg0.N) (k : Fin 1024) (j : Fin 1024) : (iblk m c 1 t : S1x1024x1024.Idx → EReal) (ix3 0 k j) = B m c (ix3 0 (row (t.val % 4) k) (colJ t.val j)) := by
  have hN : t.val < 4 := lt_of_lt_of_eq t.isLt N_0
  blk_ext [iblk, idx1 t, row, colJ]

/-- The product of the blocks `q` of the tile of point `n`. -/
def term (n q : ℕ) (i : Fin 256) (j : Fin 1024) : EReal := ∑ k : Fin 1024, A m c (ix2 (row q k) (rowI n i)) * B m c (ix3 0 (row q k) (colJ n j))

theorem step (t : Fin cfg0.N) (acc : S256x1024.Idx → EReal) (i : Fin 256) (j : Fin 1024) :
    k0_pay2 (F := Ideal) acc (iblk m c 0 t) (iblk m c 1 t) (ix2 i j) = acc (ix2 i j) + term m c t.val (t.val % 4) i j := by
  rw [pay2]
  unfold term
  refine congrArg _ (Finset.sum_congr rfl fun k _ => ?_)
  exact congrArg₂ (fun x y : EReal => x * y) (blk0 m c t k i) (blk1 m c t k j)

theorem term_prev (n q : ℕ) (h : (n + 1) % 4 ≠ 0) (i : Fin 256) (j : Fin 1024) : term m c n q i j = term m c (n + 1) q i j := by
  have e : rowI n i = rowI (n + 1) i := Fin.ext (congrArg (fun x => (256 * x + i.val) % 256) (rfl))
  have e' : colJ n j = colJ (n + 1) j := Fin.ext (congrArg (fun x => (1024 * x + j.val) % 1024) (rfl))
  unfold term
  rw [e, e']

/-- The accumulator after point `n`: the products of the blocks of its tile so far. -/
theorem acc (n : ℕ) (hn : n < cfg0.N) (h3 : n % 4 ≠ 3) (i : Fin 256) (j : Fin 1024) :
    (outsAt0 m c n hn).2 (ix2 i j) = ∑ q ∈ Finset.range (n % 4 + 1), term m c n q i j := by
  induction n with
  | zero =>
    rw [outsAt0_A m c ⟨0, hn⟩ rfl h3]
    dsimp only
    rw [sout_A, step, pay1]
    simp
  | succ n ih =>
    by_cases h0 : (n + 1) % 4 = 0
    · rw [outsAt0_A m c ⟨n + 1, hn⟩ h0 h3]
      dsimp only
      rw [sout_A, step, pay1]
      simp [h0]
    · rw [outsAt0_B m c ⟨n + 1, hn⟩ h0 h3]
      dsimp only
      rw [sout_B, step]
      have e' : (n + 1) % 4 = n % 4 + 1 := by omega
      refine (congrArg (· + _) (ih (Nat.lt_of_succ_lt hn) (by omega))).trans ?_
      rw [e', Finset.sum_range_succ _ (n % 4 + 1)]
      simp only [term_prev m c n _ h0]

/-- The product, as the kernel's array holds it. -/
def prod3 (A : S4096x256.Idx → EReal) (B : S1x4096x1024.Idx → EReal) : S1x256x1024.Idx → EReal :=
  fun y => ∑ k : Fin 4096, A (ix2 k (y 1)) * B (ix3 0 k (y 2))
/-- The product. -/
def prod (A : S4096x256.Idx → EReal) (B : S4096x1024.Idx → EReal) : S256x1024.Idx → EReal :=
  fun y => ∑ k : Fin 4096, A (ix2 k (y 0)) * B (ix2 k (y 1))

theorem last (t : Fin cfg0.N) (h3 : t.val % 4 = 3) (o : Fin 1) (i : Fin 256) (j : Fin 1024) :
    (outsAt0 m c t.val t.isLt).1 (ix3 o i j) = prod3 (A m c) (B m c) (ix3 o (rowI t.val i) (colJ t.val j)) := by
  obtain ⟨n, hn⟩ := t
  dsimp only at h3 ⊢
  obtain ⟨n, rfl⟩ : ∃ k, n = k + 1 := ⟨n - 1, by omega⟩
  rw [outsAt0_C m c ⟨n + 1, hn⟩ (by dsimp only; omega) h3]
  dsimp only
  rw [out_C, pay3, step]
  refine (congrArg (· + _) (acc m c n _ (by omega) i j)).trans ?_
  have e' : n % 4 + 1 = 3 := by omega
  refine Eq.trans ?_ (Cert.Mm.sum_blocks 4096 1024 4 (by decide) rfl fun k => A m c (ix2 k (rowI (n + 1) i)) * B m c (ix3 0 k (colJ (n + 1) j)))
  rw [e', h3, Finset.sum_range_succ _ 3]
  simp only [term_prev m c n _ (show (n + 1) % 4 ≠ 0 by omega)]
  rfl

/-- The array the kernel leaves is the product. -/
theorem arr : (dats m 0 c).arrAt 2 cfg0.N = (prod3 (A m c) (B m c) : S1x256x1024.Idx → EReal) := by
  refine (dats m 0 c).arrAt_eq_of_covers 2 _ (by decide +kernel) (fun t hf y => ?_)
  have h3 : t.val % 4 = 3 := by
    have : ∀ t : Fin cfg0.N, (cfg0.win 2).flush t = true → t.val % 4 = 3 := by decide +kernel
    exact this t hf
  blk_simp
  rw [after0_2]
  obtain ⟨o, i, j, rfl⟩ : ∃ (o : Fin 1) (i : Fin 256) (j : Fin 1024), y = ix3 o i j := ⟨y 0, y 1, y 2, eq_ix3 y⟩
  rw [last m c t h3]
  have hN : t.val < 4 := lt_of_lt_of_eq t.isLt N_0
  congr 1
  blk_ext [idx2 t, rowI, colJ]

/-- The second factor is the argument with an axis of one in front. -/
theorem B_eq : B m c = (broadcastInDim S1x4096x1024 ![1, 2] bcast_S4096x1024_S1x4096x1024_1_2 (m ((c : Thread nD τ).loc main_arg1) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v2)
    = (shapeCast S256x1024 (X (Proc.devRef .tc main_v1) : S1x256x1024.Idx → EReal) shapeCasts_S1x256x1024_S256x1024 : S256x1024.Idx → EReal) := by
  simp only [hostOps1, List.flatten_cons, List.flatten_nil, List.append_nil, List.cons_append, List.nil_append]
  after_results
  rfl

theorem res : Pipeline.afterTail₀ cfgs (dats m) 0 (V0 m) [hostOps1] c main_v2
    = (prod (m ((c : Thread nD τ).loc main_arg0)) (m ((c : Thread nD τ).loc main_arg1)) : S256x1024.Idx → EReal) := by
  unfold Pipeline.afterTail₀
  rw [tail]
  have e : Pipeline.withArrays (cfgs 0).spec c (V0 m c) (fun w => (dats m 0 c).arrAt w (cfgs 0).N) (Proc.devRef .tc main_v1) = (prod3 (A m c) (B m c) : S1x256x1024.Idx → EReal) :=
    ((dats m 0 c).withArrays_arrAt (by decide : Pipeline.SharedIn spec0) (V0 m c) (A_eq m c) 2).trans (arr m c)
  rw [e, B_eq]
  funext y
  rw [eq_ix2 y]
  pointwise [prod3, prod]
  refine Finset.sum_congr rfl fun k _ => ?_
  refine congrArg₂ (fun x y : EReal => x * y) (congrFun (V_main_arg0 m c) _) ?_
  pointwise []

end Arr

/-! ### The two programs -/

/-- The reference's value is the product. -/
theorem ref (x0 : S4096x256.Idx → EReal) (x1 : S4096x1024.Idx → EReal) : Cert.RGpIdeal.Read.val_main_v6 (F := Ideal) x0 x1 = prod x0 x1 := by
  funext y
  rw [eq_ix2 y]
  pointwise [Cert.RGpIdeal.Read.val_main_cst, Cert.RGpIdeal.Read.val_main_v0, Cert.RGpIdeal.Read.val_main_v1, Cert.RGpIdeal.Read.val_main_v2, Cert.RGpIdeal.Read.val_main_v3, Cert.RGpIdeal.Read.val_main_v4, Cert.RGpIdeal.Read.val_main_v5, Cert.RGpIdeal.Read.val_main_v6]
  exact Finset.sum_congr rfl fun k _ => mul_comm _ _

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (prod (m ((c.tc : Thread nD τ).loc main_arg0)) (m ((c.tc : Thread nD τ).loc main_arg1)) : S256x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v2 (Pipeline.mem_restRefs_of main_v2 (by decide) (by decide))).trans (res m c),
    ((e c).1 0).trans (((dats m 0 c).arrAt_in 0 rfl _).trans ((A_eq m c 0).trans (V_main_arg0 m c))),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RGpIdeal.nD Cert.RGpIdeal.τ Cert.RGpIdeal.sig) → Buf (Elt Ideal) ℓ) (ρ : Dev Cert.RGpIdeal.nD → PrngReg) :
    θ_run Cert.RGpIdeal.defs (onTc (τ := Cert.RGpIdeal.τ) (Cert.RGpIdeal.main (F := Ideal))) ⟨m, fun _ => 0, ρ⟩ (fun r => (∀ c : Dev Cert.RGpIdeal.nD,
      r.2.mem ((c.tc : Thread Cert.RGpIdeal.nD Cert.RGpIdeal.τ).loc Cert.RGpIdeal.main_arg0) = m ((c.tc : Thread Cert.RGpIdeal.nD Cert.RGpIdeal.τ).loc Cert.RGpIdeal.main_arg0)
      ∧ r.2.mem ((c.tc : Thread Cert.RGpIdeal.nD Cert.RGpIdeal.τ).loc Cert.RGpIdeal.main_arg1) = m ((c.tc : Thread Cert.RGpIdeal.nD Cert.RGpIdeal.τ).loc Cert.RGpIdeal.main_arg1)) ∧ r.2.sem = fun _ => 0) :=
  (θ_run Cert.RGpIdeal.defs _ _).mono (fun r e => ⟨fun c => (e c).2, sem_eq_zero_of_no_sems (by decide) r.2⟩) (Cert.RGpIdeal.Value.run m ρ)

/-- On equal arguments the kernel and the reference leave equal results. -/
theorem equal : haveI := Cert.KGpIdeal.Gen.facts; haveI := Cert.RGpIdeal.Gen.facts
    algebraic_KGpIdeal_RGpIdeal := by
  intro m g m' g' _ ha
  refine ⟨_, kernel m g, (θ_run _ _ _).mono (fun r q c => ⟨(q c).1.trans ?_, (q c).2⟩) (Cert.RGpIdeal.Value.run m' g')⟩
  rw [Cert.RGpIdeal.Read.val_main_v6_eq]
  exact (ref _ _).trans (congrArg₂ prod (ha c).1 (ha c).2)

end Cert.MmGp
end
-- ==== Proof.MmDh.lean ====
/- The gradient of the hidden layer: what the kernel and the reference leave in their results. -/
module

public import proofs.«01_k».proof.Defs
public import proofs.«01_k».proof.Proof.Mm
public import proofs.«01_k».proof.Proof.Gen.KDh.Frame
public import proofs.«01_k».proof.Proof.Gen.KDhIdeal.Frame
public import proofs.«01_k».proof.Proof.Gen.RDhIdeal.Run
public import proofs.«01_k».proof.Proof.Gen.RDhIdeal.Read
public import Idealize.ShloMosaic.Lib.Pipeline.ValueKit
public import Idealize.ShloMosaic.Lib.Pipeline.ReadBack

@[expose] public section
noncomputable section
namespace Cert.MmDh
open Cert.KDhIdeal Cert.KDhIdeal.Gen Idealize.ShloMosaic Idealize.ShloMosaic.StableHlo Idealize.ShloMosaic.TcCoe Idealize.SL.Sem

/-! ### The store of the body -/

theorem pay1 (a : S1x1024x1024.Idx → EReal) (b : S1x1408x1024.Idx → EReal) (o : Fin 1) (i : Fin 1024) (j : Fin 1408) :
    k0_pay1 (F := Ideal) a b (ix3 o i j) = (∑ k : Fin 1024, a (ix3 0 i k) * b (ix3 0 j k)) := by
  pointwise [k0_pay1]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld1 (x : Vec Ideal S1x1408x1024 .bf16) (h) : View.ld (Val := Elt Ideal) (e' := .bf16) (S := S1x1408x1024) x (Rect.unit ![0, 0, 0] ![1, 1408, 1024] h) = x :=
  View.ld_unit_lit (Val := Elt Ideal) (e := .bf16) (S := S1x1408x1024) h x (by decide)

/-- A point writes the product of its blocks. -/
theorem out (x0 : Vec Ideal S1x1024x1024 .bf16) (x1 : Vec Ideal S1x1408x1024 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n / 2) + i.val)
/-- Column `j` of the result's tile at point `n`. -/
abbrev colJ (n : ℕ) (j : Fin 1408) : Fin 2816 := Cert.Mm.pos 2816 (by decide) (1408 * (n % 2) + j.val)

theorem idx0 : ∀ t : Fin cfg0.N, win0_0.index t = ![0, t.val / 2, 0] := by decide +kernel
theorem idx1 : ∀ t : Fin cfg0.N, win0_1.index t = ![0, t.val % 2, 0] := by decide +kernel
theorem idx2 : ∀ t : Fin cfg0.N, win0_2.index t = ![0, t.val / 2, t.val % 2] := by decide +kernel

section Arr
variable (m : (ℓ : Loc nD τ sig) → Buf (Elt Ideal) ℓ) (c : Dev nD)

/-- The arrays the kernel reads, as it finds them. -/
abbrev A : S1x4096x1024.Idx → EReal := V m c main_v0
abbrev B : S1x2816x1024.Idx → EReal := V m c main_v1

theorem blk0 (t : Fin cfg0.N) (i : Fin 1024) (k : Fin 1024) : (iblk m c 0 t : S1x1024x1024.Idx → EReal) (ix3 0 i k) = A m c (ix3 0 (rowI t.val i) k) := by
  have hN : t.val < 8 := lt_of_lt_of_eq t.isLt N_0
  blk_ext [iblk, idx0 t, rowI]

theorem blk1 (t : Fin cfg0.N) (j : Fin 1408) (k : Fin 1024) : (iblk m c 1 t : S1x1408x1024.Idx → EReal) (ix3 0 j k) = B m c (ix3 0 (colJ t.val j) k) := by
  have hN : t.val < 8 := lt_of_lt_of_eq t.isLt N_0
  blk_ext [iblk, idx1 t, colJ]

/-- The product, as the kernel's array holds it. -/
def prod3 (A : S1x4096x1024.Idx → EReal) (B : S1x2816x1024.Idx → EReal) : S1x4096x2816.Idx → EReal :=
  fun y => (∑ k : Fin 1024, A (ix3 0 (y 1) k) * B (ix3 0 (y 2) k))
/-- The product. -/
def prod (A : S4096x1024.Idx → EReal) (B : S2816x1024.Idx → EReal) : S4096x2816.Idx → EReal :=
  fun y => (∑ k : Fin 1024, A (ix2 (y 0) k) * B (ix2 (y 1) k))

/-- The array the kernel leaves is the product. -/
theorem arr : (dats m 0 c).arrAt 2 cfg0.N = (prod3 (A m c) (B m c) : S1x4096x2816.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1408), y = ix3 o i j := ⟨y 0, y 1, y 2, eq_ix3 y⟩
  have hN : t.val < 8 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t j k)
  · congr 1
    blk_ext [idx2 t, rowI, colJ]

/-- The factors are the arguments with an axis of one in front. -/
theorem A_eq' : A m c = (broadcastInDim S1x4096x1024 ![1, 2] bcast_S4096x1024_S1x4096x1024_1_2 (m ((c : Thread nD τ).loc main_arg0) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x2816x1024 ![1, 2] bcast_S2816x1024_S1x2816x1024_1_2 (m ((c : Thread nD τ).loc main_arg1) : S2816x1024.Idx → EReal) : S1x2816x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x2816 (X (Proc.devRef .tc main_v2) : S1x4096x2816.Idx → EReal) shapeCasts_S1x4096x2816_S4096x2816 : S4096x2816.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x2816.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x2816.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x1024.Idx → EReal) (x1 : S2816x1024.Idx → EReal) : Cert.RDhIdeal.Read.val_main_v5 (F := Ideal) x0 x1 = prod x0 x1 := by
  funext y
  rw [eq_ix2 y]
  pointwise [prod, Cert.RDhIdeal.Read.val_main_cst, Cert.RDhIdeal.Read.val_main_v0, Cert.RDhIdeal.Read.val_main_v1, Cert.RDhIdeal.Read.val_main_v2, Cert.RDhIdeal.Read.val_main_v3, Cert.RDhIdeal.Read.val_main_v4, Cert.RDhIdeal.Read.val_main_v5]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RDhIdeal.nD Cert.RDhIdeal.τ Cert.RDhIdeal.sig) → Buf (Elt Ideal) ℓ) (ρ : Dev Cert.RDhIdeal.nD → PrngReg) :
    θ_run Cert.RDhIdeal.defs (onTc (τ := Cert.RDhIdeal.τ) (Cert.RDhIdeal.main (F := Ideal))) ⟨m, fun _ => 0, ρ⟩ (fun r => (∀ c : Dev Cert.RDhIdeal.nD,
      r.2.mem ((c.tc : Thread Cert.RDhIdeal.nD Cert.RDhIdeal.τ).loc Cert.RDhIdeal.main_arg0) = m ((c.tc : Thread Cert.RDhIdeal.nD Cert.RDhIdeal.τ).loc Cert.RDhIdeal.main_arg0)
      ∧ r.2.mem ((c.tc : Thread Cert.RDhIdeal.nD Cert.RDhIdeal.τ).loc Cert.RDhIdeal.main_arg1) = m ((c.tc : Thread Cert.RDhIdeal.nD Cert.RDhIdeal.τ).loc Cert.RDhIdeal.main_arg1)) ∧ r.2.sem = fun _ => 0) :=
  (θ_run Cert.RDhIdeal.defs _ _).mono (fun r e => ⟨fun c => (e c).2, sem_eq_zero_of_no_sems (by decide) r.2⟩) (Cert.RDhIdeal.Value.run m ρ)

/-- On equal arguments the kernel and the reference leave equal results. -/
theorem equal : haveI := Cert.KDhIdeal.Gen.facts; haveI := Cert.RDhIdeal.Gen.facts
    algebraic_KDhIdeal_RDhIdeal := by
  intro m g m' g' _ ha
  refine ⟨_, kernel m g, (θ_run _ _ _).mono (fun r q c => ⟨(q c).1.trans ?_, (q c).2⟩) (Cert.RDhIdeal.Value.run m' g')⟩
  rw [Cert.RDhIdeal.Read.val_main_v5_eq]
  exact (ref _ _).trans (congrArg₂ prod (ha c).1 (ha c).2)

end Cert.MmDh
end
-- ==== Proof.MmDm.lean ====
/- The gradient of a square projection's input, rounded: what the kernel and the reference leave in their results. -/
module

public import proofs.«01_k».proof.Defs
public import proofs.«01_k».proof.Proof.Mm
public import proofs.«01_k».proof.Proof.Gen.KDm.Frame
public import proofs.«01_k».proof.Proof.Gen.KDmIdeal.Frame
public import proofs.«01_k».proof.Proof.Gen.RDmIdeal.Run
public import proofs.«01_k».proof.Proof.Gen.RDmIdeal.Read
public import Idealize.ShloMosaic.Lib.Pipeline.ValueKit
public import Idealize.ShloMosaic.Lib.Pipeline.ReadBack

@[expose] public section
noncomputable section
namespace Cert.MmDm
open Cert.KDmIdeal Cert.KDmIdeal.Gen Idealize.ShloMosaic Idealize.ShloMosaic.StableHlo Idealize.ShloMosaic.TcCoe Idealize.SL.Sem

/-! ### The store of the body -/

theorem pay1 (a : S1x1024x1024.Idx → EReal) (b : S1x1024x1024.Idx → EReal) (o : Fin 1) (i : Fin 1024) (j : Fin 1024) :
    k0_pay1 (F := Ideal) a b (ix3 o i j) = (∑ k : Fin 1024, a (ix3 0 i k) * b (ix3 0 j k)) := by
  pointwise [k0_pay1]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)

/-- A point writes the product of its blocks. -/
theorem out (x0 : Vec Ideal S1x1024x1024 .bf16) (x1 : Vec Ideal S1x1024x1024 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel

section Arr
variable (m : (ℓ : Loc nD τ sig) → Buf (Elt Ideal) ℓ) (c : Dev nD)

/-- The arrays the kernel reads, as it finds them. -/
abbrev A : S1x4096x1024.Idx → EReal := V m c main_v0
abbrev B : S1x1024x1024.Idx → EReal := V m c main_v1

theorem blk0 (t : Fin cfg0.N) (i : Fin 1024) (k : Fin 1024) : (iblk m c 0 t : S1x1024x1024.Idx → EReal) (ix3 0 i k) = A m c (ix3 0 (rowI t.val i) k) := by
  have hN : t.val < 4 := lt_of_lt_of_eq t.isLt N_0
  blk_ext [iblk, idx0 t, rowI]

theorem blk1 (t : Fin cfg0.N) (j : Fin 1024) (k : Fin 1024) : (iblk m c 1 t : S1x1024x1024.Idx → EReal) (ix3 0 j k) = B m c (ix3 0 (colJ t.val j) k) := by
  have hN : t.val < 4 := lt_of_lt_of_eq t.isLt N_0
  blk_ext [iblk, idx1 t, colJ]

/-- The product, as the kernel's array holds it. -/
def prod3 (A : S1x4096x1024.Idx → EReal) (B : S1x1024x1024.Idx → EReal) : S1x4096x1024.Idx → EReal :=
  fun y => (∑ k : Fin 1024, A (ix3 0 (y 1) k) * B (ix3 0 (y 2) k))
/-- The product. -/
def prod (A : S4096x1024.Idx → EReal) (B : S1024x1024.Idx → EReal) : S4096x1024.Idx → EReal :=
  fun y => (∑ k : Fin 1024, A (ix2 (y 0) k) * B (ix2 (y 1) k))

/-- The array the kernel leaves is the product. -/
theorem arr : (dats m 0 c).arrAt 2 cfg0.N = (prod3 (A m c) (B m c) : S1x4096x1024.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t j k)
  · congr 1
    blk_ext [idx2 t, rowI, colJ]

/-- The factors are the arguments with an axis of one in front. -/
theorem A_eq' : A m c = (broadcastInDim S1x4096x1024 ![1, 2] bcast_S4096x1024_S1x4096x1024_1_2 (m ((c : Thread nD τ).loc main_arg0) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x1024 ![1, 2] bcast_S1024x1024_S1x1024x1024_1_2 (m ((c : Thread nD τ).loc main_arg1) : S1024x1024.Idx → EReal) : S1x1024x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x1024 (X (Proc.devRef .tc main_v2) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x1024.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x1024.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x1024.Idx → EReal) (x1 : S1024x1024.Idx → EReal) : Cert.RDmIdeal.Read.val_main_v5 (F := Ideal) x0 x1 = prod x0 x1 := by
  funext y
  rw [eq_ix2 y]
  pointwise [prod, Cert.RDmIdeal.Read.val_main_cst, Cert.RDmIdeal.Read.val_main_v0, Cert.RDmIdeal.Read.val_main_v1, Cert.RDmIdeal.Read.val_main_v2, Cert.RDmIdeal.Read.val_main_v3, Cert.RDmIdeal.Read.val_main_v4, Cert.RDmIdeal.Read.val_main_v5]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RDmIdeal.nD Cert.RDmIdeal.τ Cert.RDmIdeal.sig) → Buf (Elt Ideal) ℓ) (ρ : Dev Cert.RDmIdeal.nD → PrngReg) :
    θ_run Cert.RDmIdeal.defs (onTc (τ := Cert.RDmIdeal.τ) (Cert.RDmIdeal.main (F := Ideal))) ⟨m, fun _ => 0, ρ⟩ (fun r => (∀ c : Dev Cert.RDmIdeal.nD,
      r.2.mem ((c.tc : Thread Cert.RDmIdeal.nD Cert.RDmIdeal.τ).loc Cert.RDmIdeal.main_arg0) = m ((c.tc : Thread Cert.RDmIdeal.nD Cert.RDmIdeal.τ).loc Cert.RDmIdeal.main_arg0)
      ∧ r.2.mem ((c.tc : Thread Cert.RDmIdeal.nD Cert.RDmIdeal.τ).loc Cert.RDmIdeal.main_arg1) = m ((c.tc : Thread Cert.RDmIdeal.nD Cert.RDmIdeal.τ).loc Cert.RDmIdeal.main_arg1)) ∧ r.2.sem = fun _ => 0) :=
  (θ_run Cert.RDmIdeal.defs _ _).mono (fun r e => ⟨fun c => (e c).2, sem_eq_zero_of_no_sems (by decide) r.2⟩) (Cert.RDmIdeal.Value.run m ρ)

/-- On equal arguments the kernel and the reference leave equal results. -/
theorem equal : haveI := Cert.KDmIdeal.Gen.facts; haveI := Cert.RDmIdeal.Gen.facts
    algebraic_KDmIdeal_RDmIdeal := by
  intro m g m' g' _ ha
  refine ⟨_, kernel m g, (θ_run _ _ _).mono (fun r q c => ⟨(q c).1.trans ?_, (q c).2⟩) (Cert.RDmIdeal.Value.run m' g')⟩
  rw [Cert.RDmIdeal.Read.val_main_v5_eq]
  exact (ref _ _).trans (congrArg₂ prod (ha c).1 (ha c).2)

end Cert.MmDm
end
-- ==== Proof.MmDy.lean ====
/- The gradient of a square projection's input: what the kernel and the reference leave in their results. -/
module

public import proofs.«01_k».proof.Defs
public import proofs.«01_k».proof.Proof.Mm
public import proofs.«01_k».proof.Proof.Gen.KDy.Frame
public import proofs.«01_k».proof.Proof.Gen.KDyIdeal.Frame
public import proofs.«01_k».proof.Proof.Gen.RDyIdeal.Run
public import proofs.«01_k».proof.Proof.Gen.RDyIdeal.Read
public import Idealize.ShloMosaic.Lib.Pipeline.ValueKit
public import Idealize.ShloMosaic.Lib.Pipeline.ReadBack

@[expose] public section
noncomputable section
namespace Cert.MmDy
open Cert.KDyIdeal Cert.KDyIdeal.Gen Idealize.ShloMosaic Idealize.ShloMosaic.StableHlo Idealize.ShloMosaic.TcCoe Idealize.SL.Sem

/-! ### The store of the body -/

theorem pay1 (a : S1x1024x1024.Idx → EReal) (b : S1x1024x1024.Idx → EReal) (o : Fin 1) (i : Fin 1024) (j : Fin 1024) :
    k0_pay1 (F := Ideal) a b (ix3 o i j) = (∑ k : Fin 1024, a (ix3 0 i k) * b (ix3 0 j k)) := by
  pointwise [k0_pay1]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)

/-- A point writes the product of its blocks. -/
theorem out (x0 : Vec Ideal S1x1024x1024 .bf16) (x1 : Vec Ideal S1x1024x1024 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel

section Arr
variable (m : (ℓ : Loc nD τ sig) → Buf (Elt Ideal) ℓ) (c : Dev nD)

/-- The arrays the kernel reads, as it finds them. -/
abbrev A : S1x4096x1024.Idx → EReal := V m c main_v0
abbrev B : S1x1024x1024.Idx → EReal := V m c main_v1

theorem blk0 (t : Fin cfg0.N) (i : Fin 1024) (k : Fin 1024) : (iblk m c 0 t : S1x1024x1024.Idx → EReal) (ix3 0 i k) = A m c (ix3 0 (rowI t.val i) k) := by
  have hN : t.val < 4 := lt_of_lt_of_eq t.isLt N_0
  blk_ext [iblk, idx0 t, rowI]

theorem blk1 (t : Fin cfg0.N) (j : Fin 1024) (k : Fin 1024) : (iblk m c 1 t : S1x1024x1024.Idx → EReal) (ix3 0 j k) = B m c (ix3 0 (colJ t.val j) k) := by
  have hN : t.val < 4 := lt_of_lt_of_eq t.isLt N_0
  blk_ext [iblk, idx1 t, colJ]

/-- The product, as the kernel's array holds it. -/
def prod3 (A : S1x4096x1024.Idx → EReal) (B : S1x1024x1024.Idx → EReal) : S1x4096x1024.Idx → EReal :=
  fun y => (∑ k : Fin 1024, A (ix3 0 (y 1) k) * B (ix3 0 (y 2) k))
/-- The product. -/
def prod (A : S4096x1024.Idx → EReal) (B : S1024x1024.Idx → EReal) : S4096x1024.Idx → EReal :=
  fun y => (∑ k : Fin 1024, A (ix2 (y 0) k) * B (ix2 (y 1) k))

/-- The array the kernel leaves is the product. -/
theorem arr : (dats m 0 c).arrAt 2 cfg0.N = (prod3 (A m c) (B m c) : S1x4096x1024.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t j k)
  · congr 1
    blk_ext [idx2 t, rowI, colJ]

/-- The factors are the arguments with an axis of one in front. -/
theorem A_eq' : A m c = (broadcastInDim S1x4096x1024 ![1, 2] bcast_S4096x1024_S1x4096x1024_1_2 (m ((c : Thread nD τ).loc main_arg0) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x1024 ![1, 2] bcast_S1024x1024_S1x1024x1024_1_2 (m ((c : Thread nD τ).loc main_arg1) : S1024x1024.Idx → EReal) : S1x1024x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x1024 (X (Proc.devRef .tc main_v2) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x1024.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x1024.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x1024.Idx → EReal) (x1 : S1024x1024.Idx → EReal) : Cert.RDyIdeal.Read.val_main_v4 (F := Ideal) x0 x1 = prod x0 x1 := by
  funext y
  rw [eq_ix2 y]
  pointwise [prod, Cert.RDyIdeal.Read.val_main_cst, Cert.RDyIdeal.Read.val_main_v0, Cert.RDyIdeal.Read.val_main_v1, Cert.RDyIdeal.Read.val_main_v2, Cert.RDyIdeal.Read.val_main_v3, Cert.RDyIdeal.Read.val_main_v4]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RDyIdeal.nD Cert.RDyIdeal.τ Cert.RDyIdeal.sig) → Buf (Elt Ideal) ℓ) (ρ : Dev Cert.RDyIdeal.nD → PrngReg) :
    θ_run Cert.RDyIdeal.defs (onTc (τ := Cert.RDyIdeal.τ) (Cert.RDyIdeal.main (F := Ideal))) ⟨m, fun _ => 0, ρ⟩ (fun r => (∀ c : Dev Cert.RDyIdeal.nD,
      r.2.mem ((c.tc : Thread Cert.RDyIdeal.nD Cert.RDyIdeal.τ).loc Cert.RDyIdeal.main_arg0) = m ((c.tc : Thread Cert.RDyIdeal.nD Cert.RDyIdeal.τ).loc Cert.RDyIdeal.main_arg0)
      ∧ r.2.mem ((c.tc : Thread Cert.RDyIdeal.nD Cert.RDyIdeal.τ).loc Cert.RDyIdeal.main_arg1) = m ((c.tc : Thread Cert.RDyIdeal.nD Cert.RDyIdeal.τ).loc Cert.RDyIdeal.main_arg1)) ∧ r.2.sem = fun _ => 0) :=
  (θ_run Cert.RDyIdeal.defs _ _).mono (fun r e => ⟨fun c => (e c).2, sem_eq_zero_of_no_sems (by decide) r.2⟩) (Cert.RDyIdeal.Value.run m ρ)

/-- On equal arguments the kernel and the reference leave equal results. -/
theorem equal : haveI := Cert.KDyIdeal.Gen.facts; haveI := Cert.RDyIdeal.Gen.facts
    algebraic_KDyIdeal_RDyIdeal := by
  intro m g m' g' _ ha
  refine ⟨_, kernel m g, (θ_run _ _ _).mono (fun r q c => ⟨(q c).1.trans ?_, (q c).2⟩) (Cert.RDyIdeal.Value.run m' g')⟩
  rw [Cert.RDyIdeal.Read.val_main_v4_eq]
  exact (ref _ _).trans (congrArg₂ prod (ha c).1 (ha c).2)

end Cert.MmDy
end
-- ==== Proof.MmXg.lean ====
/- The gradient through the gate projection, the scaled residual's gradient added: what the kernel and the reference leave in their results. -/
module

public import proofs.«01_k».proof.Defs
public import proofs.«01_k».proof.Proof.Mm
public import proofs.«01_k».proof.Proof.Gen.KXg.Frame
public import proofs.«01_k».proof.Proof.Gen.KXgIdeal.Frame
public import proofs.«01_k».proof.Proof.Gen.RXgIdeal.Run
public import proofs.«01_k».proof.Proof.Gen.RXgIdeal.Read
public import Idealize.ShloMosaic.Lib.Pipeline.ValueKit
public import Idealize.ShloMosaic.Lib.Pipeline.ReadBack

@[expose] public section
noncomputable section
namespace Cert.MmXg
open Cert.KXgIdeal Cert.KXgIdeal.Gen Idealize.ShloMosaic Idealize.ShloMosaic.StableHlo Idealize.ShloMosaic.TcCoe Idealize.SL.Sem

/-- The scale of the array added: the rounded fourth root of two, the same word in both programs. -/
abbrev scale : EReal := Ideal.ofBits .f32 0x3F9837F0#32

/-! ### The store of the body -/

theorem pay1 (a : S1x1024x2816.Idx → EReal) (b : S1x1024x2816.Idx → EReal) (x : S1x1024x1024.Idx → EReal) (o : Fin 1) (i : Fin 1024) (j : Fin 1024) :
    k0_pay1 (F := Ideal) a b x (ix3 o i j) = (∑ k : Fin 2816, a (ix3 0 i k) * b (ix3 0 j k)) + scale * x (ix3 0 i j) := by
  pointwise [k0_pay1]

theorem ld0 (x : Vec Ideal S1x1024x2816 .bf16) (h) : View.ld (Val := Elt Ideal) (e' := .bf16) (S := S1x1024x2816) x (Rect.unit ![0, 0, 0] ![1, 1024, 2816] h) = x :=
  View.ld_unit_lit (Val := Elt Ideal) (e := .bf16) (S := S1x1024x2816) h x (by decide)
theorem ld1 (x : Vec Ideal S1x1024x2816 .bf16) (h) : View.ld (Val := Elt Ideal) (e' := .bf16) (S := S1x1024x2816) x (Rect.unit ![0, 0, 0] ![1, 1024, 2816] h) = x :=
  View.ld_unit_lit (Val := Elt Ideal) (e := .bf16) (S := S1x1024x2816) h x (by decide)
theorem ld2 (x : Vec Ideal S1x1024x1024 .f32) (h) : View.ld (Val := Elt Ideal) (e' := .f32) (S := S1x1024x1024) x (Rect.unit ![0, 0, 0] ![1, 1024, 1024] h) = x :=
  View.ld_unit_lit (Val := Elt Ideal) (e := .f32) (S := S1x1024x1024) h x (by decide)

/-- A point writes the product of its blocks and the scaled array added to it. -/
theorem out (x0 : Vec Ideal S1x1024x2816 .bf16) (x1 : Vec Ideal S1x1024x2816 .bf16) (x2 : Vec Ideal S1x1024x1024 .f32) :
    out0_3 (F := Ideal) x0 x1 x2 = k0_pay1 (F := Ideal) x0 x1 x2 := by
  unfold out0_3
  rw [View.canon_unit_zero (by decide)]
  exact congr (congrArg₂ (k0_pay1 (F := Ideal)) (ld0 x0 _) (ld1 x1 _)) (ld2 x2 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel
theorem idx3 : ∀ t : Fin cfg0.N, win0_3.index t = ![0, t.val, 0] := by decide +kernel

section Arr
variable (m : (ℓ : Loc nD τ sig) → Buf (Elt Ideal) ℓ) (c : Dev nD)

/-- The arrays the kernel reads, as it finds them. -/
abbrev A : S1x4096x2816.Idx → EReal := V m c main_v0
abbrev B : S1x1024x2816.Idx → EReal := V m c main_v1
abbrev C : S1x4096x1024.Idx → EReal := V m c main_v2

theorem blk0 (t : Fin cfg0.N) (i : Fin 1024) (k : Fin 2816) : (iblk m c 0 t : S1x1024x2816.Idx → EReal) (ix3 0 i k) = A m c (ix3 0 (rowI t.val i) k) := by
  have hN : t.val < 4 := lt_of_lt_of_eq t.isLt N_0
  blk_ext [iblk, idx0 t, rowI]

theorem blk1 (t : Fin cfg0.N) (j : Fin 1024) (k : Fin 2816) : (iblk m c 1 t : S1x1024x2816.Idx → EReal) (ix3 0 j k) = B m c (ix3 0 (colJ t.val j) k) := by
  have hN : t.val < 4 := lt_of_lt_of_eq t.isLt N_0
  blk_ext [iblk, idx1 t, colJ]

theorem blk2 (t : Fin cfg0.N) (i : Fin 1024) (j : Fin 1024) : (iblk m c 2 t : S1x1024x1024.Idx → EReal) (ix3 0 i j) = C m c (ix3 0 (rowI t.val i) (colJ t.val j)) := by
  have hN : t.val < 4 := lt_of_lt_of_eq t.isLt N_0
  blk_ext [iblk, idx2 t, rowI, colJ]

/-- The product and the scaled array added to it, as the kernel's array holds it. -/
def prod3 (A : S1x4096x2816.Idx → EReal) (B : S1x1024x2816.Idx → EReal) (C : S1x4096x1024.Idx → EReal) : S1x4096x1024.Idx → EReal :=
  fun y => (∑ k : Fin 2816, A (ix3 0 (y 1) k) * B (ix3 0 (y 2) k)) + scale * C (ix3 0 (y 1) (y 2))
/-- The product and the scaled array added to it. -/
def prod (A : S4096x2816.Idx → EReal) (B : S1024x2816.Idx → EReal) (C : S4096x1024.Idx → EReal) : S4096x1024.Idx → EReal :=
  fun y => (∑ k : Fin 2816, A (ix2 (y 0) k) * B (ix2 (y 1) k)) + scale * C (ix2 (y 0) (y 1))

/-- The array the kernel leaves is the product and the scaled array added to it. -/
theorem arr : (dats m 0 c).arrAt 3 cfg0.N = (prod3 (A m c) (B m c) (C m c) : S1x4096x1024.Idx → EReal) := by
  refine (dats m 0 c).arrAt_eq_of_covers 3 _ (by decide +kernel) (fun t hf y => ?_)
  blk_simp
  rw [after0_3, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (C m c) (ix3 o (rowI t.val i) (colJ t.val j))
  · rw [pay1]
    exact congrArg₂ (fun x y : EReal => x + scale * y) (Finset.sum_congr rfl fun k _ => congrArg₂ (fun x y : EReal => x * y) (blk0 m c t i k) (blk1 m c t j k)) (blk2 m c t i j)
  · congr 1
    blk_ext [idx3 t, rowI, colJ]

/-- The factors and the array added are the arguments with an axis of one in front. -/
theorem A_eq' : A m c = (broadcastInDim S1x4096x2816 ![1, 2] bcast_S4096x2816_S1x4096x2816_1_2 (m ((c : Thread nD τ).loc main_arg0) : S4096x2816.Idx → EReal) : S1x4096x2816.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x2816 ![1, 2] bcast_S1024x2816_S1x1024x2816_1_2 (m ((c : Thread nD τ).loc main_arg1) : S1024x2816.Idx → EReal) : S1x1024x2816.Idx → EReal) := by
  show StableHlo.after (List.flatten [hostOps0]) (fun b => m (c, b)) _ = _
  simp only [hostOps0, List.flatten_cons, List.flatten_nil, List.append_nil, List.cons_append, List.nil_append]
  after_results
theorem C_eq' : C m c = (broadcastInDim S1x4096x1024 ![1, 2] bcast_S4096x1024_S1x4096x1024_1_2 (m ((c : Thread nD τ).loc main_arg2) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v4)
    = (shapeCast S4096x1024 (X (Proc.devRef .tc main_v3) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v4
    = (prod (m ((c : Thread nD τ).loc main_arg0)) (m ((c : Thread nD τ).loc main_arg1)) (m ((c : Thread nD τ).loc main_arg2)) : S4096x1024.Idx → EReal) := by
  unfold Pipeline.afterTail₀
  rw [tail]
  have e : Pipeline.withArrays (cfgs 0).spec c (V0 m c) (fun w => (dats m 0 c).arrAt w (cfgs 0).N) (Proc.devRef .tc main_v3) = (prod3 (A m c) (B m c) (C m c) : S1x4096x1024.Idx → EReal) :=
    ((dats m 0 c).withArrays_arrAt (by decide : Pipeline.SharedIn spec0) (V0 m c) (A_eq m c) 3).trans (arr m c)
  rw [e, A_eq', B_eq', C_eq']
  funext y
  rw [eq_ix2 y]
  pointwise [prod3, prod]

end Arr

/-! ### The two programs -/

/-- The reference's value is the product and the scaled array added to it. -/
theorem ref (x0 : S4096x2816.Idx → EReal) (x1 : S1024x2816.Idx → EReal) (x2 : S4096x1024.Idx → EReal) : Cert.RXgIdeal.Read.val_main_v9 (F := Ideal) x0 x1 x2 = prod x0 x1 x2 := by
  funext y
  rw [eq_ix2 y]
  pointwise [prod, Cert.RXgIdeal.Read.val_main_cst, Cert.RXgIdeal.Read.val_main_v0, Cert.RXgIdeal.Read.val_main_cst_0, Cert.RXgIdeal.Read.val_main_v1, Cert.RXgIdeal.Read.val_main_v2, Cert.RXgIdeal.Read.val_main_v3, Cert.RXgIdeal.Read.val_main_v4, Cert.RXgIdeal.Read.val_main_v5, Cert.RXgIdeal.Read.val_main_v6, Cert.RXgIdeal.Read.val_main_cst_1, Cert.RXgIdeal.Read.val_main_v7, Cert.RXgIdeal.Read.val_main_v8, Cert.RXgIdeal.Read.val_main_v9]

/-- The kernel ends with the product and the scaled array added to it in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = (prod (m ((c.tc : Thread nD τ).loc main_arg0)) (m ((c.tc : Thread nD τ).loc main_arg1)) (m ((c.tc : Thread nD τ).loc main_arg2)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r e c => ⟨((e c).2 main_v4 (Pipeline.mem_restRefs_of main_v4 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c),
    ((e c).2 main_arg2 (Pipeline.mem_restRefs_of main_arg2 (by decide) (by decide))).trans (W_main_arg2 m (dats m) c)⟩) (run_main m ρ)

/-- The reference ends with its arguments unchanged and every counter at zero. -/
theorem frame (m : (ℓ : Loc Cert.RXgIdeal.nD Cert.RXgIdeal.τ Cert.RXgIdeal.sig) → Buf (Elt Ideal) ℓ) (ρ : Dev Cert.RXgIdeal.nD → PrngReg) :
    θ_run Cert.RXgIdeal.defs (onTc (τ := Cert.RXgIdeal.τ) (Cert.RXgIdeal.main (F := Ideal))) ⟨m, fun _ => 0, ρ⟩ (fun r => (∀ c : Dev Cert.RXgIdeal.nD,
      r.2.mem ((c.tc : Thread Cert.RXgIdeal.nD Cert.RXgIdeal.τ).loc Cert.RXgIdeal.main_arg0) = m ((c.tc : Thread Cert.RXgIdeal.nD Cert.RXgIdeal.τ).loc Cert.RXgIdeal.main_arg0)
      ∧ r.2.mem ((c.tc : Thread Cert.RXgIdeal.nD Cert.RXgIdeal.τ).loc Cert.RXgIdeal.main_arg1) = m ((c.tc : Thread Cert.RXgIdeal.nD Cert.RXgIdeal.τ).loc Cert.RXgIdeal.main_arg1)
      ∧ r.2.mem ((c.tc : Thread Cert.RXgIdeal.nD Cert.RXgIdeal.τ).loc Cert.RXgIdeal.main_arg2) = m ((c.tc : Thread Cert.RXgIdeal.nD Cert.RXgIdeal.τ).loc Cert.RXgIdeal.main_arg2)) ∧ r.2.sem = fun _ => 0) :=
  (θ_run Cert.RXgIdeal.defs _ _).mono (fun r e => ⟨fun c => (e c).2, sem_eq_zero_of_no_sems (by decide) r.2⟩) (Cert.RXgIdeal.Value.run m ρ)

/-- On equal arguments the kernel and the reference leave equal results. -/
theorem equal : haveI := Cert.KXgIdeal.Gen.facts; haveI := Cert.RXgIdeal.Gen.facts
    algebraic_KXgIdeal_RXgIdeal := by
  intro m g m' g' _ ha
  refine ⟨_, kernel m g, (θ_run _ _ _).mono (fun r q c => ⟨(q c).1.trans ?_, (q c).2⟩) (Cert.RXgIdeal.Value.run m' g')⟩
  rw [Cert.RXgIdeal.Read.val_main_v9_eq]
  obtain ⟨h0, h1, h2⟩ := ha c
  refine (ref _ _ _).trans ?_
  rw [h0, h1, h2]

end Cert.MmXg
end
-- ==== Proof.MmXv.lean ====
/- The gradient through the value projection, the gradient so far added: what the kernel and the reference leave in their results. -/
module

public import proofs.«01_k».proof.Defs
public import proofs.«01_k».proof.Proof.Mm
public import proofs.«01_k».proof.Proof.Gen.KXv.Frame
public import proofs.«01_k».proof.Proof.Gen.KXvIdeal.Frame
public import proofs.«01_k».proof.Proof.Gen.RXvIdeal.Run
public import proofs.«01_k».proof.Proof.Gen.RXvIdeal.Read
public import Idealize.ShloMosaic.Lib.Pipeline.ValueKit
public import Idealize.ShloMosaic.Lib.Pipeline.ReadBack

@[expose] public section
noncomputable section
namespace Cert.MmXv
open Cert.KXvIdeal Cert.KXvIdeal.Gen Idealize.ShloMosaic Idealize.ShloMosaic.StableHlo Idealize.ShloMosaic.TcCoe Idealize.SL.Sem

/-! ### The store of the body -/

theorem pay1 (a : S1x1024x2816.Idx → EReal) (b : S1x1024x2816.Idx → EReal) (x : S1x1024x1024.Idx → EReal) (o : Fin 1) (i : Fin 1024) (j : Fin 1024) :
    k0_pay1 (F := Ideal) a b x (ix3 o i j) = (∑ k : Fin 2816, a (ix3 0 i k) * b (ix3 0 j k)) + x (ix3 0 i j) := by
  pointwise [k0_pay1]

theorem ld0 (x : Vec Ideal S1x1024x2816 .bf16) (h) : View.ld (Val := Elt Ideal) (e' := .bf16) (S := S1x1024x2816) x (Rect.unit ![0, 0, 0] ![1, 1024, 2816] h) = x :=
  View.ld_unit_lit (Val := Elt Ideal) (e := .bf16) (S := S1x1024x2816) h x (by decide)
theorem ld1 (x : Vec Ideal S1x1024x2816 .bf16) (h) : View.ld (Val := Elt Ideal) (e' := .bf16) (S := S1x1024x2816) x (Rect.unit ![0, 0, 0] ![1, 1024, 2816] h) = x :=
  View.ld_unit_lit (Val := Elt Ideal) (e := .bf16) (S := S1x1024x2816) h x (by decide)
theorem ld2 (x : Vec Ideal S1x1024x1024 .f32) (h) : View.ld (Val := Elt Ideal) (e' := .f32) (S := S1x1024x1024) x (Rect.unit ![0, 0, 0] ![1, 1024, 1024] h) = x :=
  View.ld_unit_lit (Val := Elt Ideal) (e := .f32) (S := S1x1024x1024) h x (by decide)

/-- A point writes the product of its blocks and the array added to it. -/
theorem out (x0 : Vec Ideal S1x1024x2816 .bf16) (x1 : Vec Ideal S1x1024x2816 .bf16) (x2 : Vec Ideal S1x1024x1024 .f32) :
    out0_3 (F := Ideal) x0 x1 x2 = k0_pay1 (F := Ideal) x0 x1 x2 := by
  unfold out0_3
  rw [View.canon_unit_zero (by decide)]
  exact congr (congrArg₂ (k0_pay1 (F := Ideal)) (ld0 x0 _) (ld1 x1 _)) (ld2 x2 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel
theorem idx3 : ∀ t : Fin cfg0.N, win0_3.index t = ![0, t.val, 0] := by decide +kernel

section Arr
variable (m : (ℓ : Loc nD τ sig) → Buf (Elt Ideal) ℓ) (c : Dev nD)

/-- The arrays the kernel reads, as it finds them. -/
abbrev A : S1x4096x2816.Idx → EReal := V m c main_v0
abbrev B : S1x1024x2816.Idx → EReal := V m c main_v1
abbrev C : S1x4096x1024.Idx → EReal := V m c main_v2

theorem blk0 (t : Fin cfg0.N) (i : Fin 1024) (k : Fin 2816) : (iblk m c 0 t : S1x1024x2816.Idx → EReal) (ix3 0 i k) = A m c (ix3 0 (rowI t.val i) k) := by
  have hN : t.val < 4 := lt_of_lt_of_eq t.isLt N_0
  blk_ext [iblk, idx0 t, rowI]

theorem blk1 (t : Fin cfg0.N) (j : Fin 1024) (k : Fin 2816) : (iblk m c 1 t : S1x1024x2816.Idx → EReal) (ix3 0 j k) = B m c (ix3 0 (colJ t.val j) k) := by
  have hN : t.val < 4 := lt_of_lt_of_eq t.isLt N_0
  blk_ext [iblk, idx1 t, colJ]

theorem blk2 (t : Fin cfg0.N) (i : Fin 1024) (j : Fin 1024) : (iblk m c 2 t : S1x1024x1024.Idx → EReal) (ix3 0 i j) = C m c (ix3 0 (rowI t.val i) (colJ t.val j)) := by
  have hN : t.val < 4 := lt_of_lt_of_eq t.isLt N_0
  blk_ext [iblk, idx2 t, rowI, colJ]

/-- The product and the array added to it, as the kernel's array holds it. -/
def prod3 (A : S1x4096x2816.Idx → EReal) (B : S1x1024x2816.Idx → EReal) (C : S1x4096x1024.Idx → EReal) : S1x4096x1024.Idx → EReal :=
  fun y => (∑ k : Fin 2816, A (ix3 0 (y 1) k) * B (ix3 0 (y 2) k)) + C (ix3 0 (y 1) (y 2))
/-- The product and the array added to it. -/
def prod (A : S4096x2816.Idx → EReal) (B : S1024x2816.Idx → EReal) (C : S4096x1024.Idx → EReal) : S4096x1024.Idx → EReal :=
  fun y => (∑ k : Fin 2816, A (ix2 (y 0) k) * B (ix2 (y 1) k)) + C (ix2 (y 0) (y 1))

/-- The array the kernel leaves is the product and the array added to it. -/
theorem arr : (dats m 0 c).arrAt 3 cfg0.N = (prod3 (A m c) (B m c) (C m c) : S1x4096x1024.Idx → EReal) := by
  refine (dats m 0 c).arrAt_eq_of_covers 3 _ (by decide +kernel) (fun t hf y => ?_)
  blk_simp
  rw [after0_3, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (C m c) (ix3 o (rowI t.val i) (colJ t.val j))
  · rw [pay1]
    exact congrArg₂ (fun x y : EReal => x + y) (Finset.sum_congr rfl fun k _ => congrArg₂ (fun x y : EReal => x * y) (blk0 m c t i k) (blk1 m c t j k)) (blk2 m c t i j)
  · congr 1
    blk_ext [idx3 t, rowI, colJ]

/-- The factors and the array added are the arguments with an axis of one in front. -/
theorem A_eq' : A m c = (broadcastInDim S1x4096x2816 ![1, 2] bcast_S4096x2816_S1x4096x2816_1_2 (m ((c : Thread nD τ).loc main_arg0) : S4096x2816.Idx → EReal) : S1x4096x2816.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x2816 ![1, 2] bcast_S1024x2816_S1x1024x2816_1_2 (m ((c : Thread nD τ).loc main_arg1) : S1024x2816.Idx → EReal) : S1x1024x2816.Idx → EReal) := by
  show StableHlo.after (List.flatten [hostOps0]) (fun b => m (c, b)) _ = _
  simp only [hostOps0, List.flatten_cons, List.flatten_nil, List.append_nil, List.cons_append, List.nil_append]
  after_results
theorem C_eq' : C m c = (broadcastInDim S1x4096x1024 ![1, 2] bcast_S4096x1024_S1x4096x1024_1_2 (m ((c : Thread nD τ).loc main_arg2) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v4)
    = (shapeCast S4096x1024 (X (Proc.devRef .tc main_v3) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v4
    = (prod (m ((c : Thread nD τ).loc main_arg0)) (m ((c : Thread nD τ).loc main_arg1)) (m ((c : Thread nD τ).loc main_arg2)) : S4096x1024.Idx → EReal) := by
  unfold Pipeline.afterTail₀
  rw [tail]
  have e : Pipeline.withArrays (cfgs 0).spec c (V0 m c) (fun w => (dats m 0 c).arrAt w (cfgs 0).N) (Proc.devRef .tc main_v3) = (prod3 (A m c) (B m c) (C m c) : S1x4096x1024.Idx → EReal) :=
    ((dats m 0 c).withArrays_arrAt (by decide : Pipeline.SharedIn spec0) (V0 m c) (A_eq m c) 3).trans (arr m c)
  rw [e, A_eq', B_eq', C_eq']
  funext y
  rw [eq_ix2 y]
  pointwise [prod3, prod]

end Arr

/-! ### The two programs -/

/-- The reference's value is the product and the array added to it. -/
theorem ref (x0 : S4096x2816.Idx → EReal) (x1 : S1024x2816.Idx → EReal) (x2 : S4096x1024.Idx → EReal) : Cert.RXvIdeal.Read.val_main_v5 (F := Ideal) x0 x1 x2 = prod x0 x1 x2 := by
  funext y
  rw [eq_ix2 y]
  pointwise [prod, Cert.RXvIdeal.Read.val_main_cst, Cert.RXvIdeal.Read.val_main_v0, Cert.RXvIdeal.Read.val_main_v1, Cert.RXvIdeal.Read.val_main_v2, Cert.RXvIdeal.Read.val_main_v3, Cert.RXvIdeal.Read.val_main_v4, Cert.RXvIdeal.Read.val_main_v5]
  exact add_comm _ _

/-- The kernel ends with the product and the array added to it in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = (prod (m ((c.tc : Thread nD τ).loc main_arg0)) (m ((c.tc : Thread nD τ).loc main_arg1)) (m ((c.tc : Thread nD τ).loc main_arg2)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r e c => ⟨((e c).2 main_v4 (Pipeline.mem_restRefs_of main_v4 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c),
    ((e c).2 main_arg2 (Pipeline.mem_restRefs_of main_arg2 (by decide) (by decide))).trans (W_main_arg2 m (dats m) c)⟩) (run_main m ρ)

/-- The reference ends with its arguments unchanged and every counter at zero. -/
theorem frame (m : (ℓ : Loc Cert.RXvIdeal.nD Cert.RXvIdeal.τ Cert.RXvIdeal.sig) → Buf (Elt Ideal) ℓ) (ρ : Dev Cert.RXvIdeal.nD → PrngReg) :
    θ_run Cert.RXvIdeal.defs (onTc (τ := Cert.RXvIdeal.τ) (Cert.RXvIdeal.main (F := Ideal))) ⟨m, fun _ => 0, ρ⟩ (fun r => (∀ c : Dev Cert.RXvIdeal.nD,
      r.2.mem ((c.tc : Thread Cert.RXvIdeal.nD Cert.RXvIdeal.τ).loc Cert.RXvIdeal.main_arg0) = m ((c.tc : Thread Cert.RXvIdeal.nD Cert.RXvIdeal.τ).loc Cert.RXvIdeal.main_arg0)
      ∧ r.2.mem ((c.tc : Thread Cert.RXvIdeal.nD Cert.RXvIdeal.τ).loc Cert.RXvIdeal.main_arg1) = m ((c.tc : Thread Cert.RXvIdeal.nD Cert.RXvIdeal.τ).loc Cert.RXvIdeal.main_arg1)
      ∧ r.2.mem ((c.tc : Thread Cert.RXvIdeal.nD Cert.RXvIdeal.τ).loc Cert.RXvIdeal.main_arg2) = m ((c.tc : Thread Cert.RXvIdeal.nD Cert.RXvIdeal.τ).loc Cert.RXvIdeal.main_arg2)) ∧ r.2.sem = fun _ => 0) :=
  (θ_run Cert.RXvIdeal.defs _ _).mono (fun r e => ⟨fun c => (e c).2, sem_eq_zero_of_no_sems (by decide) r.2⟩) (Cert.RXvIdeal.Value.run m ρ)

/-- On equal arguments the kernel and the reference leave equal results. -/
theorem equal : haveI := Cert.KXvIdeal.Gen.facts; haveI := Cert.RXvIdeal.Gen.facts
    algebraic_KXvIdeal_RXvIdeal := by
  intro m g m' g' _ ha
  refine ⟨_, kernel m g, (θ_run _ _ _).mono (fun r q c => ⟨(q c).1.trans ?_, (q c).2⟩) (Cert.RXvIdeal.Value.run m' g')⟩
  rw [Cert.RXvIdeal.Read.val_main_v5_eq]
  obtain ⟨h0, h1, h2⟩ := ha c
  refine (ref _ _ _).trans ?_
  rw [h0, h1, h2]

end Cert.MmXv
end
-- ==== Proof.MmXp.lean ====
/- The gradient through the per-layer gate's projection, the gradient so far added: what the kernel and the reference leave in their results. -/
module

public import proofs.«01_k».proof.Defs
public import proofs.«01_k».proof.Proof.Mm
public import proofs.«01_k».proof.Proof.Gen.KXp.Frame
public import proofs.«01_k».proof.Proof.Gen.KXpIdeal.Frame
public import proofs.«01_k».proof.Proof.Gen.RXpIdeal.Run
public import proofs.«01_k».proof.Proof.Gen.RXpIdeal.Read
public import Idealize.ShloMosaic.Lib.Pipeline.ValueKit
public import Idealize.ShloMosaic.Lib.Pipeline.ReadBack

@[expose] public section
noncomputable section
namespace Cert.MmXp
open Cert.KXpIdeal Cert.KXpIdeal.Gen Idealize.ShloMosaic Idealize.ShloMosaic.StableHlo Idealize.ShloMosaic.TcCoe Idealize.SL.Sem

/-! ### The store of the body -/

theorem pay1 (a : S1x1024x1024.Idx → EReal) (b : S1x1024x1024.Idx → EReal) (x : S1x1024x1024.Idx → EReal) (o : Fin 1) (i : Fin 1024) (j : Fin 1024) :
    k0_pay1 (F := Ideal) a b x (ix3 o i j) = (∑ k : Fin 1024, a (ix3 0 i k) * b (ix3 0 j k)) + x (ix3 0 i j) := by
  pointwise [k0_pay1]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld2 (x : Vec Ideal S1x1024x1024 .f32) (h) : View.ld (Val := Elt Ideal) (e' := .f32) (S := S1x1024x1024) x (Rect.unit ![0, 0, 0] ![1, 1024, 1024] h) = x :=
  View.ld_unit_lit (Val := Elt Ideal) (e := .f32) (S := S1x1024x1024) h x (by decide)

/-- A point writes the product of its blocks and the array added to it. -/
theorem out (x0 : Vec Ideal S1x1024x1024 .bf16) (x1 : Vec Ideal S1x1024x1024 .bf16) (x2 : Vec Ideal S1x1024x1024 .f32) :
    out0_3 (F := Ideal) x0 x1 x2 = k0_pay1 (F := Ideal) x0 x1 x2 := by
  unfold out0_3
  rw [View.canon_unit_zero (by decide)]
  exact congr (congrArg₂ (k0_pay1 (F := Ideal)) (ld0 x0 _) (ld1 x1 _)) (ld2 x2 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel
theorem idx3 : ∀ t : Fin cfg0.N, win0_3.index t = ![0, t.val, 0] := by decide +kernel

section Arr
variable (m : (ℓ : Loc nD τ sig) → Buf (Elt Ideal) ℓ) (c : Dev nD)

/-- The arrays the kernel reads, as it finds them. -/
abbrev A : S1x4096x1024.Idx → EReal := V m c main_v0
abbrev B : S1x1024x1024.Idx → EReal := V m c main_v1
abbrev C : S1x4096x1024.Idx → EReal := V m c main_v2

theorem blk0 (t : Fin cfg0.N) (i : Fin 1024) (k : Fin 1024) : (iblk m c 0 t : S1x1024x1024.Idx → EReal) (ix3 0 i k) = A m c (ix3 0 (rowI t.val i) k) := by
  have hN : t.val < 4 := lt_of_lt_of_eq t.isLt N_0
  blk_ext [iblk, idx0 t, rowI]

theorem blk1 (t : Fin cfg0.N) (j : Fin 1024) (k : Fin 1024) : (iblk m c 1 t : S1x1024x1024.Idx → EReal) (ix3 0 j k) = B m c (ix3 0 (colJ t.val j) k) := by
  have hN : t.val < 4 := lt_of_lt_of_eq t.isLt N_0
  blk_ext [iblk, idx1 t, colJ]

theorem blk2 (t : Fin cfg0.N) (i : Fin 1024) (j : Fin 1024) : (iblk m c 2 t : S1x1024x1024.Idx → EReal) (ix3 0 i j) = C m c (ix3 0 (rowI t.val i) (colJ t.val j)) := by
  have hN : t.val < 4 := lt_of_lt_of_eq t.isLt N_0
  blk_ext [iblk, idx2 t, rowI, colJ]

/-- The product and the array added to it, as the kernel's array holds it. -/
def prod3 (A : S1x4096x1024.Idx → EReal) (B : S1x1024x1024.Idx → EReal) (C : S1x4096x1024.Idx → EReal) : S1x4096x1024.Idx → EReal :=
  fun y => (∑ k : Fin 1024, A (ix3 0 (y 1) k) * B (ix3 0 (y 2) k)) + C (ix3 0 (y 1) (y 2))
/-- The product and the array added to it. -/
def prod (A : S4096x1024.Idx → EReal) (B : S1024x1024.Idx → EReal) (C : S4096x1024.Idx → EReal) : S4096x1024.Idx → EReal :=
  fun y => (∑ k : Fin 1024, A (ix2 (y 0) k) * B (ix2 (y 1) k)) + C (ix2 (y 0) (y 1))

/-- The array the kernel leaves is the product and the array added to it. -/
theorem arr : (dats m 0 c).arrAt 3 cfg0.N = (prod3 (A m c) (B m c) (C m c) : S1x4096x1024.Idx → EReal) := by
  refine (dats m 0 c).arrAt_eq_of_covers 3 _ (by decide +kernel) (fun t hf y => ?_)
  blk_simp
  rw [after0_3, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (C m c) (ix3 o (rowI t.val i) (colJ t.val j))
  · rw [pay1]
    exact congrArg₂ (fun x y : EReal => x + y) (Finset.sum_congr rfl fun k _ => congrArg₂ (fun x y : EReal => x * y) (blk0 m c t i k) (blk1 m c t j k)) (blk2 m c t i j)
  · congr 1
    blk_ext [idx3 t, rowI, colJ]

/-- The factors and the array added are the arguments with an axis of one in front. -/
theorem A_eq' : A m c = (broadcastInDim S1x4096x1024 ![1, 2] bcast_S4096x1024_S1x4096x1024_1_2 (m ((c : Thread nD τ).loc main_arg0) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x1024 ![1, 2] bcast_S1024x1024_S1x1024x1024_1_2 (m ((c : Thread nD τ).loc main_arg1) : S1024x1024.Idx → EReal) : S1x1024x1024.Idx → EReal) := by
  show StableHlo.after (List.flatten [hostOps0]) (fun b => m (c, b)) _ = _
  simp only [hostOps0, List.flatten_cons, List.flatten_nil, List.append_nil, List.cons_append, List.nil_append]
  after_results
theorem C_eq' : C m c = (broadcastInDim S1x4096x1024 ![1, 2] bcast_S4096x1024_S1x4096x1024_1_2 (m ((c : Thread nD τ).loc main_arg2) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v4)
    = (shapeCast S4096x1024 (X (Proc.devRef .tc main_v3) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v4
    = (prod (m ((c : Thread nD τ).loc main_arg0)) (m ((c : Thread nD τ).loc main_arg1)) (m ((c : Thread nD τ).loc main_arg2)) : S4096x1024.Idx → EReal) := by
  unfold Pipeline.afterTail₀
  rw [tail]
  have e : Pipeline.withArrays (cfgs 0).spec c (V0 m c) (fun w => (dats m 0 c).arrAt w (cfgs 0).N) (Proc.devRef .tc main_v3) = (prod3 (A m c) (B m c) (C m c) : S1x4096x1024.Idx → EReal) :=
    ((dats m 0 c).withArrays_arrAt (by decide : Pipeline.SharedIn spec0) (V0 m c) (A_eq m c) 3).trans (arr m c)
  rw [e, A_eq', B_eq', C_eq']
  funext y
  rw [eq_ix2 y]
  pointwise [prod3, prod]

end Arr

/-! ### The two programs -/

/-- The reference's value is the product and the array added to it. -/
theorem ref (x0 : S4096x1024.Idx → EReal) (x1 : S1024x1024.Idx → EReal) (x2 : S4096x1024.Idx → EReal) : Cert.RXpIdeal.Read.val_main_v5 (F := Ideal) x0 x1 x2 = prod x0 x1 x2 := by
  funext y
  rw [eq_ix2 y]
  pointwise [prod, Cert.RXpIdeal.Read.val_main_cst, Cert.RXpIdeal.Read.val_main_v0, Cert.RXpIdeal.Read.val_main_v1, Cert.RXpIdeal.Read.val_main_v2, Cert.RXpIdeal.Read.val_main_v3, Cert.RXpIdeal.Read.val_main_v4, Cert.RXpIdeal.Read.val_main_v5]
  exact add_comm _ _

/-- The kernel ends with the product and the array added to it in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = (prod (m ((c.tc : Thread nD τ).loc main_arg0)) (m ((c.tc : Thread nD τ).loc main_arg1)) (m ((c.tc : Thread nD τ).loc main_arg2)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r e c => ⟨((e c).2 main_v4 (Pipeline.mem_restRefs_of main_v4 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c),
    ((e c).2 main_arg2 (Pipeline.mem_restRefs_of main_arg2 (by decide) (by decide))).trans (W_main_arg2 m (dats m) c)⟩) (run_main m ρ)

/-- The reference ends with its arguments unchanged and every counter at zero. -/
theorem frame (m : (ℓ : Loc Cert.RXpIdeal.nD Cert.RXpIdeal.τ Cert.RXpIdeal.sig) → Buf (Elt Ideal) ℓ) (ρ : Dev Cert.RXpIdeal.nD → PrngReg) :
    θ_run Cert.RXpIdeal.defs (onTc (τ := Cert.RXpIdeal.τ) (Cert.RXpIdeal.main (F := Ideal))) ⟨m, fun _ => 0, ρ⟩ (fun r => (∀ c : Dev Cert.RXpIdeal.nD,
      r.2.mem ((c.tc : Thread Cert.RXpIdeal.nD Cert.RXpIdeal.τ).loc Cert.RXpIdeal.main_arg0) = m ((c.tc : Thread Cert.RXpIdeal.nD Cert.RXpIdeal.τ).loc Cert.RXpIdeal.main_arg0)
      ∧ r.2.mem ((c.tc : Thread Cert.RXpIdeal.nD Cert.RXpIdeal.τ).loc Cert.RXpIdeal.main_arg1) = m ((c.tc : Thread Cert.RXpIdeal.nD Cert.RXpIdeal.τ).loc Cert.RXpIdeal.main_arg1)
      ∧ r.2.mem ((c.tc : Thread Cert.RXpIdeal.nD Cert.RXpIdeal.τ).loc Cert.RXpIdeal.main_arg2) = m ((c.tc : Thread Cert.RXpIdeal.nD Cert.RXpIdeal.τ).loc Cert.RXpIdeal.main_arg2)) ∧ r.2.sem = fun _ => 0) :=
  (θ_run Cert.RXpIdeal.defs _ _).mono (fun r e => ⟨fun c => (e c).2, sem_eq_zero_of_no_sems (by decide) r.2⟩) (Cert.RXpIdeal.Value.run m ρ)

/-- On equal arguments the kernel and the reference leave equal results. -/
theorem equal : haveI := Cert.KXpIdeal.Gen.facts; haveI := Cert.RXpIdeal.Gen.facts
    algebraic_KXpIdeal_RXpIdeal := by
  intro m g m' g' _ ha
  refine ⟨_, kernel m g, (θ_run _ _ _).mono (fun r q c => ⟨(q c).1.trans ?_, (q c).2⟩) (Cert.RXpIdeal.Value.run m' g')⟩
  rw [Cert.RXpIdeal.Read.val_main_v5_eq]
  obtain ⟨h0, h1, h2⟩ := ha c
  refine (ref _ _ _).trans ?_
  rw [h0, h1, h2]

end Cert.MmXp
end
-- ==== Proof.MmDx.lean ====
/- The gradient of the input projection's input: what the kernel and the reference leave in their results. -/
module

public import proofs.«01_k».proof.Defs
public import proofs.«01_k».proof.Proof.Mm
public import proofs.«01_k».proof.Proof.Gen.KDx.Frame
public import proofs.«01_k».proof.Proof.Gen.KDxIdeal.Frame
public import proofs.«01_k».proof.Proof.Gen.RDxIdeal.Run
public import proofs.«01_k».proof.Proof.Gen.RDxIdeal.Read
public import Idealize.ShloMosaic.Lib.Pipeline.ValueKit
public import Idealize.ShloMosaic.Lib.Pipeline.ReadBack
public import Idealize.ShloMosaic.Lib.TwoAxisContraction

@[expose] public section
noncomputable section
namespace Cert.MmDx
open Cert.KDxIdeal Cert.KDxIdeal.Gen Idealize.ShloMosaic Idealize.ShloMosaic.StableHlo Idealize.ShloMosaic.TcCoe Idealize.SL.Sem
open Idealize.ShloMosaic.ValueIdx (contrEquiv2 contrEquiv2_symm_val0 contrEquiv2_symm_val1)

/-- The scale of the array added: the rounded fourth root of two, the same word in both programs. -/
abbrev scale : EReal := Ideal.ofBits .f32 0x3F9837F0#32

/-! ### The three stores of the body -/

theorem pay1 (y : S1024x1024.Idx) : k0_pay1 (F := Ideal) y = 0 := by
  rw [eq_ix2 y]
  pointwise [k0_pay1]

theorem pay2 (acc : S1024x1024.Idx → EReal) (a b : S1x1024x1024.Idx → EReal) (y : S1024x1024.Idx) :
    k0_pay2 (F := Ideal) acc a b y = acc y + ∑ k : Fin 1024, a (ix3 0 (y 0) k) * b (ix3 0 (y 1) k) := by
  rw [eq_ix2 y]
  pointwise [k0_pay2]

theorem pay3 (acc : S1024x1024.Idx → EReal) (x : S1x1024x1024.Idx → EReal) (o : Fin 1) (r l : Fin 1024) :
    k0_pay3 (F := Ideal) acc x (ix3 o r l) = acc (ix2 r l) + scale * x (ix3 0 r l) := by
  pointwise [k0_pay3]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld2 (x : Vec Ideal S1x1024x1024 .f32) (h) : View.ld (Val := Elt Ideal) (e' := .f32) (S := S1x1024x1024) x (Rect.unit ![0, 0, 0] ![1, 1024, 1024] h) = x :=
  View.ld_unit_lit (Val := Elt Ideal) (e := .f32) (S := S1x1024x1024) h x (by decide)
theorem ldS (x : Vec Ideal S1024x1024 .f32) (h) : View.ld (Val := Elt Ideal) (e' := .f32) (S := S1024x1024) x (Rect.unit ![0, 0] ![1024, 1024] h) = x :=
  View.ld_unit_lit (Val := Elt Ideal) (e := .f32) (S := S1024x1024) h x (by decide)

section Case
variable (c : Dev nD) (i : grid0.Coords) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1024 .f32) (harg8 : arg8.IsWhole)
variable (x0 : Vec Ideal S1x1024x1024 .bf16) (x1 : Vec Ideal S1x1024x1024 .bf16) (x2 : Vec Ideal S1x1024x1024 .f32) (xs : Vec Ideal S1024x1024 .f32)

/-- The first point of a tile leaves the product of its blocks in the accumulator. -/
theorem sout_A (hc0 : cond0_0 i) (hc1 : ¬cond0_1 i) : sout0_A_0 (F := Ideal) c i arg4 harg4 arg5 harg5 arg6 harg6 arg7 harg7 arg8 harg8 hc0 hc1 x0 x1 x2 = k0_pay2 (F := Ideal) (k0_pay1 (F := Ideal)) x0 x1 := by
  unfold sout0_A_0
  rw [View.read_writes_eq_canon _ _ _ (scover0_A_0 (F := Ideal) c i arg4 harg4 arg5 harg5 arg6 harg6 arg7 harg7 arg8 harg8 hc0 hc1 x0 x1 x2)]
  unfold kernelRun0_A
  dsimp only
  sl_unfold_words
  rw [View.canon_cons_unit_zero (by decide)]
  simp (disch := decide) only [View.readAt_eq_ld, harg4.read_unread, harg5.read_unread, harg6.read_unread, harg7.read_unread, harg8.read_unread, ↓View.readCov_skip, ↓View.readCov_fill, ld0, ld2, ldS]

/-- A later point adds the product of its blocks to the accumulator. -/
theorem sout_B (hc0 : ¬cond0_0 i) (hc1 : ¬cond0_1 i) : sout0_B_0 (F := Ideal) c i arg4 harg4 arg5 harg5 arg6 harg6 arg7 harg7 arg8 harg8 hc0 hc1 x0 x1 x2 xs = k0_pay2 (F := Ideal) xs x0 x1 := by
  unfold sout0_B_0
  rw [View.read_writes_eq_canon _ _ _ (scover0_B_0 (F := Ideal) c i arg4 harg4 arg5 harg5 arg6 harg6 arg7 harg7 arg8 harg8 hc0 hc1 x0 x1 x2 xs)]
  unfold kernelRun0_B
  dsimp only
  sl_unfold_words
  rw [View.canon_unit_zero (by decide)]
  simp (disch := decide) only [View.readAt_eq_ld, harg4.read_unread, harg5.read_unread, harg6.read_unread, harg7.read_unread, harg8.read_unread, ↓View.readCov_skip, ↓View.readCov_fill, ld0, ld2, ldS]

/-- The last point of a tile writes the accumulated tile out, the scaled array added. -/
theorem out_C (hc0 : ¬cond0_0 i) (hc1 : cond0_1 i) : out0_C_3 (F := Ideal) c i arg4 harg4 arg5 harg5 arg6 harg6 arg7 harg7 arg8 harg8 hc0 hc1 x0 x1 x2 xs = k0_pay3 (F := Ideal) (k0_pay2 xs x0 x1) x2 := by
  unfold out0_C_3
  rw [View.read_writes_eq_canon _ _ _ (cover0_C_3 (F := Ideal) c i arg4 harg4 arg5 harg5 arg6 harg6 arg7 harg7 arg8 harg8 hc0 hc1 x0 x1 x2 xs)]
  unfold kernelRun0_C
  dsimp only
  sl_unfold_words
  rw [View.canon_unit_zero (by decide)]
  simp (disch := decide) only [View.readAt_eq_ld, harg4.read_unread, harg5.read_unread, harg6.read_unread, harg7.read_unread, harg8.read_unread, ↓View.readCov_skip, ↓View.readCov_fill, ld0, ld2, ldS]
end Case

/-! ### The tiles -/

/-- Row `i` of the result's tile at point `n`. -/
abbrev rowI (n : ℕ) (i : Fin 1024) : Fin 4096 := Cert.Mm.pos 4096 (by decide) (1024 * (n / 8) + i.val)
/-- The slot that point `n` multiplies. -/
abbrev slot (n : ℕ) : Fin 8 := Cert.Mm.pos 8 (by decide) n

theorem idx0 : ∀ t : Fin cfg0.N, win0_0.index t = ![t.val % 8, t.val / 8, 0] := by decide +kernel
theorem idx1 : ∀ t : Fin cfg0.N, win0_1.index t = ![t.val % 8, 0, 0] := by decide +kernel
theorem idx2 : ∀ t : Fin cfg0.N, win0_2.index t = ![0, t.val / 8, 0] := by decide +kernel
theorem idx3 : ∀ t : Fin cfg0.N, win0_3.index t = ![0, t.val / 8, 0] := by decide +kernel

section Arr
variable (m : (ℓ : Loc nD τ sig) → Buf (Elt Ideal) ℓ) (c : Dev nD)

/-- The arrays the kernel reads, as it finds them. -/
abbrev A : S8x4096x1024.Idx → EReal := V m c main_arg0
abbrev B : S8x1024x1024.Idx → EReal := V m c main_arg1
abbrev C : S1x4096x1024.Idx → EReal := V m c main_v0

theorem blk0 (t : Fin cfg0.N) (i k : Fin 1024) : (iblk m c 0 t : S1x1024x1024.Idx → EReal) (ix3 0 i k) = A m c (ix3 (slot (t.val % 8)) (rowI t.val i) k) := by
  have hN : t.val < 32 := lt_of_lt_of_eq t.isLt N_0
  blk_ext [iblk, idx0 t, slot, rowI]

theorem blk1 (t : Fin cfg0.N) (j k : Fin 1024) : (iblk m c 1 t : S1x1024x1024.Idx → EReal) (ix3 0 j k) = B m c (ix3 (slot (t.val % 8)) j k) := by
  have hN : t.val < 32 := lt_of_lt_of_eq t.isLt N_0
  blk_ext [iblk, idx1 t, slot]

theorem blk2 (t : Fin cfg0.N) (i j : Fin 1024) : (iblk m c 2 t : S1x1024x1024.Idx → EReal) (ix3 0 i j) = C m c (ix3 0 (rowI t.val i) j) := by
  have hN : t.val < 32 := lt_of_lt_of_eq t.isLt N_0
  blk_ext [iblk, idx2 t, rowI]

/-- The product of slot `q` in the tile of point `n`. -/
def term (n q : ℕ) (i j : Fin 1024) : EReal := ∑ k : Fin 1024, A m c (ix3 (slot q) (rowI n i) k) * B m c (ix3 (slot q) j k)

theorem step (t : Fin cfg0.N) (acc : S1024x1024.Idx → EReal) (i j : Fin 1024) :
    k0_pay2 (F := Ideal) acc (iblk m c 0 t) (iblk m c 1 t) (ix2 i j) = acc (ix2 i j) + term m c t.val (t.val % 8) i j := by
  rw [pay2]
  unfold term
  refine congrArg _ (Finset.sum_congr rfl fun k _ => ?_)
  exact congrArg₂ (fun x y : EReal => x * y) (blk0 m c t i k) (blk1 m c t j k)

theorem term_prev (n q : ℕ) (h : (n + 1) % 8 ≠ 0) (i j : Fin 1024) : term m c n q i j = term m c (n + 1) q i j := by
  have e : rowI n i = rowI (n + 1) i := Fin.ext (congrArg (fun x => (1024 * x + i.val) % 4096) (by omega))
  unfold term
  rw [e]

/-- The accumulator after point `n`: the products of the slots of its tile so far. -/
theorem acc (n : ℕ) (hn : n < cfg0.N) (h3 : n % 8 ≠ 7) (i j : Fin 1024) :
    (outsAt0 m c n hn).2 (ix2 i j) = ∑ q ∈ Finset.range (n % 8 + 1), term m c n q i j := by
  induction n with
  | zero =>
    rw [outsAt0_A m c ⟨0, hn⟩ rfl h3]
    dsimp only
    rw [sout_A, step, pay1]
    simp
  | succ n ih =>
    by_cases h0 : (n + 1) % 8 = 0
    · rw [outsAt0_A m c ⟨n + 1, hn⟩ h0 h3]
      dsimp only
      rw [sout_A, step, pay1]
      simp [h0]
    · rw [outsAt0_B m c ⟨n + 1, hn⟩ h0 h3]
      dsimp only
      rw [sout_B, step]
      have e' : (n + 1) % 8 = n % 8 + 1 := by omega
      refine (congrArg (· + _) (ih (Nat.lt_of_succ_lt hn) (by omega))).trans ?_
      rw [e', Finset.sum_range_succ _ (n % 8 + 1)]
      simp only [term_prev m c n _ h0]

/-- The products summed over the slots, and the scaled array added, as the kernel's array holds it. -/
def prod3 (A : S8x4096x1024.Idx → EReal) (B : S8x1024x1024.Idx → EReal) (C : S1x4096x1024.Idx → EReal) : S1x4096x1024.Idx → EReal :=
  fun y => (∑ q : Fin 8, ∑ k : Fin 1024, A (ix3 q (y 1) k) * B (ix3 q (y 2) k)) + scale * C (ix3 0 (y 1) (y 2))
/-- The products summed over the slots, and the scaled array added. -/
def prod (A : S8x4096x1024.Idx → EReal) (B : S8x1024x1024.Idx → EReal) (C : S4096x1024.Idx → EReal) : S4096x1024.Idx → EReal :=
  fun y => (∑ q : Fin 8, ∑ k : Fin 1024, A (ix3 q (y 0) k) * B (ix3 q (y 1) k)) + scale * C (ix2 (y 0) (y 1))

theorem slot_val (q : Fin 8) : slot q.val = q := Fin.ext (Nat.mod_eq_of_lt q.isLt)

theorem last (t : Fin cfg0.N) (h3 : t.val % 8 = 7) (o : Fin 1) (i j : Fin 1024) :
    (outsAt0 m c t.val t.isLt).1 (ix3 o i j) = prod3 (A m c) (B m c) (C m c) (ix3 o (rowI t.val i) j) := by
  obtain ⟨n, hn⟩ := t
  dsimp only at h3 ⊢
  obtain ⟨n, rfl⟩ : ∃ k, n = k + 1 := ⟨n - 1, by omega⟩
  rw [outsAt0_C m c ⟨n + 1, hn⟩ (by dsimp only; omega) h3]
  dsimp only
  rw [out_C, pay3, step]
  have e' : n % 8 + 1 = 7 := by omega
  refine congrArg₂ (fun x y : EReal => x + scale * y) ?_ (blk2 m c ⟨n + 1, hn⟩ i j)
  refine (congrArg (· + _) (acc m c n _ (by omega) i j)).trans ?_
  have s : (∑ q ∈ Finset.range 8, term m c (n + 1) q i j) = ∑ q : Fin 8, ∑ k : Fin 1024, A m c (ix3 q (rowI (n + 1) i) k) * B m c (ix3 q j k) := by
    rw [Finset.sum_range]
    refine Finset.sum_congr rfl fun q _ => ?_
    unfold term
    rw [slot_val]
  refine Eq.trans ?_ s
  rw [e', h3, Finset.sum_range_succ _ 7]
  simp only [term_prev m c n _ (show (n + 1) % 8 ≠ 0 by omega)]

/-- The array the kernel leaves. -/
theorem arr : (dats m 0 c).arrAt 3 cfg0.N = (prod3 (A m c) (B m c) (C m c) : S1x4096x1024.Idx → EReal) := by
  refine (dats m 0 c).arrAt_eq_of_covers 3 _ (by decide +kernel) (fun t hf y => ?_)
  have h3 : t.val % 8 = 7 := by
    have : ∀ t : Fin cfg0.N, (cfg0.win 3).flush t = true → t.val % 8 = 7 := by decide +kernel
    exact this t hf
  blk_simp
  rw [after0_3]
  obtain ⟨o, i, j, rfl⟩ : ∃ (o : Fin 1) (i j : Fin 1024), y = ix3 o i j := ⟨y 0, y 1, y 2, eq_ix3 y⟩
  rw [last m c t h3]
  have hN : t.val < 32 := lt_of_lt_of_eq t.isLt N_0
  congr 1
  blk_ext [idx3 t, rowI]

/-- The array added is the argument with an axis of one in front. -/
theorem C_eq : C m c = (broadcastInDim S1x4096x1024 ![1, 2] bcast_S4096x1024_S1x4096x1024_1_2 (m ((c : Thread nD τ).loc main_arg2) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v2)
    = (shapeCast S4096x1024 (X (Proc.devRef .tc main_v1) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v2
    = (prod (m ((c : Thread nD τ).loc main_arg0)) (m ((c : Thread nD τ).loc main_arg1)) (m ((c : Thread nD τ).loc main_arg2)) : S4096x1024.Idx → EReal) := by
  unfold Pipeline.afterTail₀
  rw [tail]
  have e : Pipeline.withArrays (cfgs 0).spec c (V0 m c) (fun w => (dats m 0 c).arrAt w (cfgs 0).N) (Proc.devRef .tc main_v1) = (prod3 (A m c) (B m c) (C m c) : S1x4096x1024.Idx → EReal) :=
    ((dats m 0 c).withArrays_arrAt (by decide : Pipeline.SharedIn spec0) (V0 m c) (A_eq m c) 3).trans (arr m c)
  rw [e, C_eq]
  have hA : A m c = m ((c : Thread nD τ).loc main_arg0) := V_main_arg0 m c
  have hB : B m c = m ((c : Thread nD τ).loc main_arg1) := V_main_arg1 m c
  rw [hA, hB]
  funext y
  rw [eq_ix2 y]
  pointwise [prod3, prod]

end Arr

/-! ### The two programs -/

/-- A product contracted over the slots and the columns at once is the double sum. -/
theorem dot2 (L : FVec Ideal Cert.RDxIdeal.S8x1024x4096 .f32) (R : FVec Ideal S8x1024x1024 .f32) (i : Fin 4096) (j : Fin 1024) :
    Host.dotGeneral (F := Ideal) Cert.RDxIdeal.dot_S8x1024x4096_S8x1024x1024_S4096x1024_01_02_2_1_n_n none L R (ix2 i j)
      = ∑ q : Fin 8, ∑ k : Fin 1024, (L (ix3 q k i) * R (ix3 q j k) : EReal) := by
  let D := Cert.RDxIdeal.dot_S8x1024x4096_S8x1024x1024_S4096x1024_01_02_2_1_n_n
  have hr : D.contr.rank = 2 := rfl
  have c0 : D.contr.size ⟨0, by rw [hr]; omega⟩ = 8 := rfl
  have c1 : D.contr.size ⟨1, by rw [hr]; omega⟩ = 1024 := rfl
  show FloatOps.dotGeneral _ none _ L R (ix2 i j) = _
  rw [Ideal.dotGeneral_apply, ← Equiv.sum_comp (contrEquiv2 D 8 1024 hr c0 c1).symm, Fintype.sum_prod_type]
  refine Finset.sum_congr rfl fun q _ => Finset.sum_congr rfl fun k _ => ?_
  have h0 := contrEquiv2_symm_val0 D 8 1024 hr c0 c1 (q, k)
  have h1 := contrEquiv2_symm_val1 D 8 1024 hr c0 c1 (q, k)
  have el : D.lhsIdx (ix2 i j) ((contrEquiv2 D 8 1024 hr c0 c1).symm (q, k)) = ix3 q k i := by
    funext a; apply Fin.ext
    match a with
    | ⟨0, _⟩ => exact h0
    | ⟨1, _⟩ => exact h1
    | ⟨2, _⟩ => rfl
  have er : D.rhsIdx (ix2 i j) ((contrEquiv2 D 8 1024 hr c0 c1).symm (q, k)) = ix3 q j k := by
    funext a; apply Fin.ext
    match a with
    | ⟨0, _⟩ => exact h0
    | ⟨1, _⟩ => rfl
    | ⟨2, _⟩ => exact h1
  rw [el, er]

/-- The reference's value is the sum of products and the scaled array added. -/
theorem ref (x0 : S8x4096x1024.Idx → EReal) (x1 : S8x1024x1024.Idx → EReal) (x2 : S4096x1024.Idx → EReal) : Cert.RDxIdeal.Read.val_main_v11 (F := Ideal) x0 x1 x2 = prod x0 x1 x2 := by
  funext y
  rw [eq_ix2 y]
  have e : Cert.RDxIdeal.Read.val_main_v8 (F := Ideal) x0 x1 (ix2 (y 0) (y 1)) = ∑ q : Fin 8, ∑ k : Fin 1024, (x0 (ix3 q (y 0) k) * x1 (ix3 q (y 1) k) : EReal) := by
    unfold Cert.RDxIdeal.Read.val_main_v8
    refine (dot2 _ _ _ _).trans (Finset.sum_congr rfl fun q _ => Finset.sum_congr rfl fun k _ => ?_)
    pointwise [Cert.RDxIdeal.Read.val_main_v7, Cert.RDxIdeal.Read.val_main_v6, Cert.RDxIdeal.Read.val_main_v3]
  rw [Cert.RDxIdeal.Read.val_main_v11_apply, e]
  pointwise [prod, Cert.RDxIdeal.Read.val_main_v10, Cert.RDxIdeal.Read.val_main_v9, Cert.RDxIdeal.Read.val_main_cst_1]

/-- The kernel ends with that array in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (prod (m ((c.tc : Thread nD τ).loc main_arg0)) (m ((c.tc : Thread nD τ).loc main_arg1)) (m ((c.tc : Thread nD τ).loc main_arg2)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r e c => ⟨((e c).2 main_v2 (Pipeline.mem_restRefs_of main_v2 (by decide) (by decide))).trans (res m c),
    ((e c).1 0).trans (((dats m 0 c).arrAt_in 0 rfl _).trans ((A_eq m c 0).trans (V_main_arg0 m c))),
    ((e c).1 1).trans (((dats m 0 c).arrAt_in 1 rfl _).trans ((A_eq m c 1).trans (V_main_arg1 m c))),
    ((e c).2 main_arg2 (Pipeline.mem_restRefs_of main_arg2 (by decide) (by decide))).trans (W_main_arg2 m (dats m) c)⟩) (run_main m ρ)

/-- The reference ends with its arguments unchanged and every counter at zero. -/
theorem frame (m : (ℓ : Loc Cert.RDxIdeal.nD Cert.RDxIdeal.τ Cert.RDxIdeal.sig) → Buf (Elt Ideal) ℓ) (ρ : Dev Cert.RDxIdeal.nD → PrngReg) :
    θ_run Cert.RDxIdeal.defs (onTc (τ := Cert.RDxIdeal.τ) (Cert.RDxIdeal.main (F := Ideal))) ⟨m, fun _ => 0, ρ⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)) ∧ r.2.sem = fun _ => 0) :=
  (θ_run Cert.RDxIdeal.defs _ _).mono (fun r e => ⟨fun c => (e c).2, sem_eq_zero_of_no_sems (by decide) r.2⟩) (Cert.RDxIdeal.Value.run m ρ)

/-- On equal arguments the kernel and the reference leave equal results. -/
theorem equal : haveI := Cert.KDxIdeal.Gen.facts; haveI := Cert.RDxIdeal.Gen.facts
    algebraic_KDxIdeal_RDxIdeal := by
  intro m g m' g' _ ha
  refine ⟨_, kernel m g, (θ_run _ _ _).mono (fun r q c => ⟨(q c).1.trans ?_, (q c).2⟩) (Cert.RDxIdeal.Value.run m' g')⟩
  rw [Cert.RDxIdeal.Read.val_main_v11_eq]
  obtain ⟨h0, h1, h2⟩ := ha c
  refine (ref _ _ _).trans ?_
  rw [h0, h1, h2]

end Cert.MmDx
end
-- ==== Proof.MmFs.lean ====
/- A square projection: what the kernel and the reference leave in their results. -/
module

public import proofs.«01_k».proof.Defs
public import proofs.«01_k».proof.Proof.Mm
public import proofs.«01_k».proof.Proof.Gen.KFs.Frame
public import proofs.«01_k».proof.Proof.Gen.KFsIdeal.Frame
public import proofs.«01_k».proof.Proof.Gen.RFsIdeal.Run
public import proofs.«01_k».proof.Proof.Gen.RFsIdeal.Read
public import Idealize.ShloMosaic.Lib.Pipeline.ValueKit
public import Idealize.ShloMosaic.Lib.Pipeline.ReadBack

@[expose] public section
noncomputable section
namespace Cert.MmFs
open Cert.KFsIdeal Cert.KFsIdeal.Gen Idealize.ShloMosaic Idealize.ShloMosaic.StableHlo Idealize.ShloMosaic.TcCoe Idealize.SL.Sem

/-! ### The store of the body -/

theorem pay1 (a : S1x1024x1024.Idx → EReal) (b : S1x1024x1024.Idx → EReal) (o : Fin 1) (i : Fin 1024) (j : Fin 1024) :
    k0_pay1 (F := Ideal) a b (ix3 o i j) = (∑ k : Fin 1024, a (ix3 0 i k) * b (ix3 0 k j)) := by
  pointwise [k0_pay1]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld1 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)

/-- A point writes the product of its blocks. -/
theorem out (x0 : Vec Ideal S1x1024x1024 .bf16) (x1 : Vec Ideal S1x1024x1024 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel

section Arr
variable (m : (ℓ : Loc nD τ sig) → Buf (Elt Ideal) ℓ) (c : Dev nD)

/-- The arrays the kernel reads, as it finds them. -/
abbrev A : S1x4096x1024.Idx → EReal := V m c main_v0
abbrev B : S1x1024x1024.Idx → EReal := V m c main_v1

theorem blk0 (t : Fin cfg0.N) (i : Fin 1024) (k : Fin 1024) : (iblk m c 0 t : S1x1024x1024.Idx → EReal) (ix3 0 i k) = A m c (ix3 0 (rowI t.val i) k) := by
  have hN : t.val < 4 := lt_of_lt_of_eq t.isLt N_0
  blk_ext [iblk, idx0 t, rowI]

theorem blk1 (t : Fin cfg0.N) (k : Fin 1024) (j : Fin 1024) : (iblk m c 1 t : S1x1024x1024.Idx → EReal) (ix3 0 k j) = B m c (ix3 0 k (colJ t.val j)) := by
  have hN : t.val < 4 := lt_of_lt_of_eq t.isLt N_0
  blk_ext [iblk, idx1 t, colJ]

/-- The product, as the kernel's array holds it. -/
def prod3 (A : S1x4096x1024.Idx → EReal) (B : S1x1024x1024.Idx → EReal) : S1x4096x1024.Idx → EReal :=
  fun y => (∑ k : Fin 1024, A (ix3 0 (y 1) k) * B (ix3 0 k (y 2)))
/-- The product. -/
def prod (A : S4096x1024.Idx → EReal) (B : S1024x1024.Idx → EReal) : S4096x1024.Idx → EReal :=
  fun y => (∑ k : Fin 1024, A (ix2 (y 0) k) * B (ix2 k (y 1)))

/-- The array the kernel leaves is the product. -/
theorem arr : (dats m 0 c).arrAt 2 cfg0.N = (prod3 (A m c) (B m c) : S1x4096x1024.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t k j)
  · congr 1
    blk_ext [idx2 t, rowI, colJ]

/-- The factors are the arguments with an axis of one in front. -/
theorem A_eq' : A m c = (broadcastInDim S1x4096x1024 ![1, 2] bcast_S4096x1024_S1x4096x1024_1_2 (m ((c : Thread nD τ).loc main_arg0) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x1024 ![1, 2] bcast_S1024x1024_S1x1024x1024_1_2 (m ((c : Thread nD τ).loc main_arg1) : S1024x1024.Idx → EReal) : S1x1024x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x1024 (X (Proc.devRef .tc main_v2) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x1024.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x1024.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x1024.Idx → EReal) (x1 : S1024x1024.Idx → EReal) : Cert.RFsIdeal.Read.val_main_v2 (F := Ideal) x0 x1 = prod x0 x1 := by
  funext y
  rw [eq_ix2 y]
  pointwise [prod, Cert.RFsIdeal.Read.val_main_v0, Cert.RFsIdeal.Read.val_main_v1, Cert.RFsIdeal.Read.val_main_v2]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RFsIdeal.nD Cert.RFsIdeal.τ Cert.RFsIdeal.sig) → Buf (Elt Ideal) ℓ) (ρ : Dev Cert.RFsIdeal.nD → PrngReg) :
    θ_run Cert.RFsIdeal.defs (onTc (τ := Cert.RFsIdeal.τ) (Cert.RFsIdeal.main (F := Ideal))) ⟨m, fun _ => 0, ρ⟩ (fun r => (∀ c : Dev Cert.RFsIdeal.nD,
      r.2.mem ((c.tc : Thread Cert.RFsIdeal.nD Cert.RFsIdeal.τ).loc Cert.RFsIdeal.main_arg0) = m ((c.tc : Thread Cert.RFsIdeal.nD Cert.RFsIdeal.τ).loc Cert.RFsIdeal.main_arg0)
      ∧ r.2.mem ((c.tc : Thread Cert.RFsIdeal.nD Cert.RFsIdeal.τ).loc Cert.RFsIdeal.main_arg1) = m ((c.tc : Thread Cert.RFsIdeal.nD Cert.RFsIdeal.τ).loc Cert.RFsIdeal.main_arg1)) ∧ r.2.sem = fun _ => 0) :=
  (θ_run Cert.RFsIdeal.defs _ _).mono (fun r e => ⟨fun c => (e c).2, sem_eq_zero_of_no_sems (by decide) r.2⟩) (Cert.RFsIdeal.Value.run m ρ)

/-- On equal arguments the kernel and the reference leave equal results. -/
theorem equal : haveI := Cert.KFsIdeal.Gen.facts; haveI := Cert.RFsIdeal.Gen.facts
    algebraic_KFsIdeal_RFsIdeal := by
  intro m g m' g' _ ha
  refine ⟨_, kernel m g, (θ_run _ _ _).mono (fun r q c => ⟨(q c).1.trans ?_, (q c).2⟩) (Cert.RFsIdeal.Value.run m' g')⟩
  rw [Cert.RFsIdeal.Read.val_main_v2_eq]
  exact (ref _ _).trans (congrArg₂ prod (ha c).1 (ha c).2)

end Cert.MmFs
end
-- ==== Proof.MmFu.lean ====
/- One half of the up projection: what the kernel and the reference leave in their results. -/
module

public import proofs.«01_k».proof.Defs
public import proofs.«01_k».proof.Proof.Mm
public import proofs.«01_k».proof.Proof.Gen.KFu.Frame
public import proofs.«01_k».proof.Proof.Gen.KFuIdeal.Frame
public import proofs.«01_k».proof.Proof.Gen.RFuIdeal.Run
public import proofs.«01_k».proof.Proof.Gen.RFuIdeal.Read
public import Idealize.ShloMosaic.Lib.Pipeline.ValueKit
public import Idealize.ShloMosaic.Lib.Pipeline.ReadBack

@[expose] public section
noncomputable section
namespace Cert.MmFu
open Cert.KFuIdeal Cert.KFuIdeal.Gen Idealize.ShloMosaic Idealize.ShloMosaic.StableHlo Idealize.ShloMosaic.TcCoe Idealize.SL.Sem

/-! ### The store of the body -/

theorem pay1 (a : S1x1024x1024.Idx → EReal) (b : S1x1024x1408.Idx → EReal) (o : Fin 1) (i : Fin 1024) (j : Fin 1408) :
    k0_pay1 (F := Ideal) a b (ix3 o i j) = (∑ k : Fin 1024, a (ix3 0 i k) * b (ix3 0 k j)) := by
  pointwise [k0_pay1]

theorem ld0 (x : Vec Ideal S1x1024x1024 .bf16) (h) : View.ld (Val := Elt Ideal) (e' := .bf16) (S := S1x1024x1024) x (Rect.unit ![0, 0, 0] ![1, 1024, 1024] h) = x :=
  View.ld_unit_lit (Val := Elt Ideal) (e := .bf16) (S := S1x1024x1024) h x (by decide)
theorem ld1 (x : Vec Ideal S1x1024x1408 .bf16) (h) : View.ld (Val := Elt Ideal) (e' := .bf16) (S := S1x1024x1408) x (Rect.unit ![0, 0, 0] ![1, 1024, 1408] h) = x :=
  View.ld_unit_lit (Val := Elt Ideal) (e := .bf16) (S := S1x1024x1408) h x (by decide)

/-- A point writes the product of its blocks. -/
theorem out (x0 : Vec Ideal S1x1024x1024 .bf16) (x1 : Vec Ideal S1x1024x1408 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n / 2) + i.val)
/-- Column `j` of the result's tile at point `n`. -/
abbrev colJ (n : ℕ) (j : Fin 1408) : Fin 2816 := Cert.Mm.pos 2816 (by decide) (1408 * (n % 2) + j.val)

theorem idx0 : ∀ t : Fin cfg0.N, win0_0.index t = ![0, t.val / 2, 0] := by decide +kernel
theorem idx1 : ∀ t : Fin cfg0.N, win0_1.index t = ![0, 0, t.val % 2] := by decide +kernel
theorem idx2 : ∀ t : Fin cfg0.N, win0_2.index t = ![0, t.val / 2, t.val % 2] := by decide +kernel

section Arr
variable (m : (ℓ : Loc nD τ sig) → Buf (Elt Ideal) ℓ) (c : Dev nD)

/-- The arrays the kernel reads, as it finds them. -/
abbrev A : S1x4096x1024.Idx → EReal := V m c main_v0
abbrev B : S1x1024x2816.Idx → EReal := V m c main_v1

theorem blk0 (t : Fin cfg0.N) (i : Fin 1024) (k : Fin 1024) : (iblk m c 0 t : S1x1024x1024.Idx → EReal) (ix3 0 i k) = A m c (ix3 0 (rowI t.val i) k) := by
  have hN : t.val < 8 := lt_of_lt_of_eq t.isLt N_0
  blk_ext [iblk, idx0 t, rowI]

theorem blk1 (t : Fin cfg0.N) (k : Fin 1024) (j : Fin 1408) : (iblk m c 1 t : S1x1024x1408.Idx → EReal) (ix3 0 k j) = B m c (ix3 0 k (colJ t.val j)) := by
  have hN : t.val < 8 := lt_of_lt_of_eq t.isLt N_0
  blk_ext [iblk, idx1 t, colJ]

/-- The product, as the kernel's array holds it. -/
def prod3 (A : S1x4096x1024.Idx → EReal) (B : S1x1024x2816.Idx → EReal) : S1x4096x2816.Idx → EReal :=
  fun y => (∑ k : Fin 1024, A (ix3 0 (y 1) k) * B (ix3 0 k (y 2)))
/-- The product. -/
def prod (A : S4096x1024.Idx → EReal) (B : S1024x2816.Idx → EReal) : S4096x2816.Idx → EReal :=
  fun y => (∑ k : Fin 1024, A (ix2 (y 0) k) * B (ix2 k (y 1)))

/-- The array the kernel leaves is the product. -/
theorem arr : (dats m 0 c).arrAt 2 cfg0.N = (prod3 (A m c) (B m c) : S1x4096x2816.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1408), y = ix3 o i j := ⟨y 0, y 1, y 2, eq_ix3 y⟩
  have hN : t.val < 8 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t k j)
  · congr 1
    blk_ext [idx2 t, rowI, colJ]

/-- The factors are the arguments with an axis of one in front. -/
theorem A_eq' : A m c = (broadcastInDim S1x4096x1024 ![1, 2] bcast_S4096x1024_S1x4096x1024_1_2 (m ((c : Thread nD τ).loc main_arg0) : S4096x1024.Idx → EReal) : S1x4096x1024.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x1024x2816 ![1, 2] bcast_S1024x2816_S1x1024x2816_1_2 (m ((c : Thread nD τ).loc main_arg1) : S1024x2816.Idx → EReal) : S1x1024x2816.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x2816 (X (Proc.devRef .tc main_v2) : S1x4096x2816.Idx → EReal) shapeCasts_S1x4096x2816_S4096x2816 : S4096x2816.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x2816.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x2816.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x1024.Idx → EReal) (x1 : S1024x2816.Idx → EReal) : Cert.RFuIdeal.Read.val_main_v2 (F := Ideal) x0 x1 = prod x0 x1 := by
  funext y
  rw [eq_ix2 y]
  pointwise [prod, Cert.RFuIdeal.Read.val_main_v0, Cert.RFuIdeal.Read.val_main_v1, Cert.RFuIdeal.Read.val_main_v2]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RFuIdeal.nD Cert.RFuIdeal.τ Cert.RFuIdeal.sig) → Buf (Elt Ideal) ℓ) (ρ : Dev Cert.RFuIdeal.nD → PrngReg) :
    θ_run Cert.RFuIdeal.defs (onTc (τ := Cert.RFuIdeal.τ) (Cert.RFuIdeal.main (F := Ideal))) ⟨m, fun _ => 0, ρ⟩ (fun r => (∀ c : Dev Cert.RFuIdeal.nD,
      r.2.mem ((c.tc : Thread Cert.RFuIdeal.nD Cert.RFuIdeal.τ).loc Cert.RFuIdeal.main_arg0) = m ((c.tc : Thread Cert.RFuIdeal.nD Cert.RFuIdeal.τ).loc Cert.RFuIdeal.main_arg0)
      ∧ r.2.mem ((c.tc : Thread Cert.RFuIdeal.nD Cert.RFuIdeal.τ).loc Cert.RFuIdeal.main_arg1) = m ((c.tc : Thread Cert.RFuIdeal.nD Cert.RFuIdeal.τ).loc Cert.RFuIdeal.main_arg1)) ∧ r.2.sem = fun _ => 0) :=
  (θ_run Cert.RFuIdeal.defs _ _).mono (fun r e => ⟨fun c => (e c).2, sem_eq_zero_of_no_sems (by decide) r.2⟩) (Cert.RFuIdeal.Value.run m ρ)

/-- On equal arguments the kernel and the reference leave equal results. -/
theorem equal : haveI := Cert.KFuIdeal.Gen.facts; haveI := Cert.RFuIdeal.Gen.facts
    algebraic_KFuIdeal_RFuIdeal := by
  intro m g m' g' _ ha
  refine ⟨_, kernel m g, (θ_run _ _ _).mono (fun r q c => ⟨(q c).1.trans ?_, (q c).2⟩) (Cert.RFuIdeal.Value.run m' g')⟩
  rw [Cert.RFuIdeal.Read.val_main_v2_eq]
  exact (ref _ _).trans (congrArg₂ prod (ha c).1 (ha c).2)

end Cert.MmFu
end
-- ==== Proof.MmFd.lean ====
/- The down projection: what the kernel and the reference leave in their results. -/
module

public import proofs.«01_k».proof.Defs
public import proofs.«01_k».proof.Proof.Mm
public import proofs.«01_k».proof.Proof.Gen.KFd.Frame
public import proofs.«01_k».proof.Proof.Gen.KFdIdeal.Frame
public import proofs.«01_k».proof.Proof.Gen.RFdIdeal.Run
public import proofs.«01_k».proof.Proof.Gen.RFdIdeal.Read
public import Idealize.ShloMosaic.Lib.Pipeline.ValueKit
public import Idealize.ShloMosaic.Lib.Pipeline.ReadBack

@[expose] public section
noncomputable section
namespace Cert.MmFd
open Cert.KFdIdeal Cert.KFdIdeal.Gen Idealize.ShloMosaic Idealize.ShloMosaic.StableHlo Idealize.ShloMosaic.TcCoe Idealize.SL.Sem

/-! ### The store of the body -/

theorem pay1 (a : S1x1024x2816.Idx → EReal) (b : S1x2816x1024.Idx → EReal) (o : Fin 1) (i : Fin 1024) (j : Fin 1024) :
    k0_pay1 (F := Ideal) a b (ix3 o i j) = (∑ k : Fin 2816, a (ix3 0 i k) * b (ix3 0 k j)) := by
  pointwise [k0_pay1]

theorem ld0 (x : Vec Ideal S1x1024x2816 .bf16) (h) : View.ld (Val := Elt Ideal) (e' := .bf16) (S := S1x1024x2816) x (Rect.unit ![0, 0, 0] ![1, 1024, 2816] h) = x :=
  View.ld_unit_lit (Val := Elt Ideal) (e := .bf16) (S := S1x1024x2816) h x (by decide)
theorem ld1 (x : Vec Ideal S1x2816x1024 .bf16) (h) : View.ld (Val := Elt Ideal) (e' := .bf16) (S := S1x2816x1024) x (Rect.unit ![0, 0, 0] ![1, 2816, 1024] h) = x :=
  View.ld_unit_lit (Val := Elt Ideal) (e := .bf16) (S := S1x2816x1024) h x (by decide)

/-- A point writes the product of its blocks. -/
theorem out (x0 : Vec Ideal S1x1024x2816 .bf16) (x1 : Vec Ideal S1x2816x1024 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel

section Arr
variable (m : (ℓ : Loc nD τ sig) → Buf (Elt Ideal) ℓ) (c : Dev nD)

/-- The arrays the kernel reads, as it finds them. -/
abbrev A : S1x4096x2816.Idx → EReal := V m c main_v0
abbrev B : S1x2816x1024.Idx → EReal := V m c main_v1

theorem blk0 (t : Fin cfg0.N) (i : Fin 1024) (k : Fin 2816) : (iblk m c 0 t : S1x1024x2816.Idx → EReal) (ix3 0 i k) = A m c (ix3 0 (rowI t.val i) k) := by
  have hN : t.val < 4 := lt_of_lt_of_eq t.isLt N_0
  blk_ext [iblk, idx0 t, rowI]

theorem blk1 (t : Fin cfg0.N) (k : Fin 2816) (j : Fin 1024) : (iblk m c 1 t : S1x2816x1024.Idx → EReal) (ix3 0 k j) = B m c (ix3 0 k (colJ t.val j)) := by
  have hN : t.val < 4 := lt_of_lt_of_eq t.isLt N_0
  blk_ext [iblk, idx1 t, colJ]

/-- The product, as the kernel's array holds it. -/
def prod3 (A : S1x4096x2816.Idx → EReal) (B : S1x2816x1024.Idx → EReal) : S1x4096x1024.Idx → EReal :=
  fun y => (∑ k : Fin 2816, A (ix3 0 (y 1) k) * B (ix3 0 k (y 2)))
/-- The product. -/
def prod (A : S4096x2816.Idx → EReal) (B : S2816x1024.Idx → EReal) : S4096x1024.Idx → EReal :=
  fun y => (∑ k : Fin 2816, A (ix2 (y 0) k) * B (ix2 k (y 1)))

/-- The array the kernel leaves is the product. -/
theorem arr : (dats m 0 c).arrAt 2 cfg0.N = (prod3 (A m c) (B m c) : S1x4096x1024.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t k j)
  · congr 1
    blk_ext [idx2 t, rowI, colJ]

/-- The factors are the arguments with an axis of one in front. -/
theorem A_eq' : A m c = (broadcastInDim S1x4096x2816 ![1, 2] bcast_S4096x2816_S1x4096x2816_1_2 (m ((c : Thread nD τ).loc main_arg0) : S4096x2816.Idx → EReal) : S1x4096x2816.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x2816x1024 ![1, 2] bcast_S2816x1024_S1x2816x1024_1_2 (m ((c : Thread nD τ).loc main_arg1) : S2816x1024.Idx → EReal) : S1x2816x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x1024 (X (Proc.devRef .tc main_v2) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x1024.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x1024.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x2816.Idx → EReal) (x1 : S2816x1024.Idx → EReal) : Cert.RFdIdeal.Read.val_main_v2 (F := Ideal) x0 x1 = prod x0 x1 := by
  funext y
  rw [eq_ix2 y]
  pointwise [prod, Cert.RFdIdeal.Read.val_main_v0, Cert.RFdIdeal.Read.val_main_v1, Cert.RFdIdeal.Read.val_main_v2]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RFdIdeal.nD Cert.RFdIdeal.τ Cert.RFdIdeal.sig) → Buf (Elt Ideal) ℓ) (ρ : Dev Cert.RFdIdeal.nD → PrngReg) :
    θ_run Cert.RFdIdeal.defs (onTc (τ := Cert.RFdIdeal.τ) (Cert.RFdIdeal.main (F := Ideal))) ⟨m, fun _ => 0, ρ⟩ (fun r => (∀ c : Dev Cert.RFdIdeal.nD,
      r.2.mem ((c.tc : Thread Cert.RFdIdeal.nD Cert.RFdIdeal.τ).loc Cert.RFdIdeal.main_arg0) = m ((c.tc : Thread Cert.RFdIdeal.nD Cert.RFdIdeal.τ).loc Cert.RFdIdeal.main_arg0)
      ∧ r.2.mem ((c.tc : Thread Cert.RFdIdeal.nD Cert.RFdIdeal.τ).loc Cert.RFdIdeal.main_arg1) = m ((c.tc : Thread Cert.RFdIdeal.nD Cert.RFdIdeal.τ).loc Cert.RFdIdeal.main_arg1)) ∧ r.2.sem = fun _ => 0) :=
  (θ_run Cert.RFdIdeal.defs _ _).mono (fun r e => ⟨fun c => (e c).2, sem_eq_zero_of_no_sems (by decide) r.2⟩) (Cert.RFdIdeal.Value.run m ρ)

/-- On equal arguments the kernel and the reference leave equal results. -/
theorem equal : haveI := Cert.KFdIdeal.Gen.facts; haveI := Cert.RFdIdeal.Gen.facts
    algebraic_KFdIdeal_RFdIdeal := by
  intro m g m' g' _ ha
  refine ⟨_, kernel m g, (θ_run _ _ _).mono (fun r q c => ⟨(q c).1.trans ?_, (q c).2⟩) (Cert.RFdIdeal.Value.run m' g')⟩
  rw [Cert.RFdIdeal.Read.val_main_v2_eq]
  exact (ref _ _).trans (congrArg₂ prod (ha c).1 (ha c).2)

end Cert.MmFd
end
-- ==== Proof.MmFp.lean ====
/- The per-layer embedding's projection: what the kernel and the reference leave in their results. -/
module

public import proofs.«01_k».proof.Defs
public import proofs.«01_k».proof.Proof.Mm
public import proofs.«01_k».proof.Proof.Gen.KFp.Frame
public import proofs.«01_k».proof.Proof.Gen.KFpIdeal.Frame
public import proofs.«01_k».proof.Proof.Gen.RFpIdeal.Run
public import proofs.«01_k».proof.Proof.Gen.RFpIdeal.Read
public import Idealize.ShloMosaic.Lib.Pipeline.ValueKit
public import Idealize.ShloMosaic.Lib.Pipeline.ReadBack

@[expose] public section
noncomputable section
namespace Cert.MmFp
open Cert.KFpIdeal Cert.KFpIdeal.Gen Idealize.ShloMosaic Idealize.ShloMosaic.StableHlo Idealize.ShloMosaic.TcCoe Idealize.SL.Sem

/-! ### The store of the body -/

theorem pay1 (a : S1x1024x256.Idx → EReal) (b : S1x256x1024.Idx → EReal) (o : Fin 1) (i : Fin 1024) (j : Fin 1024) :
    k0_pay1 (F := Ideal) a b (ix3 o i j) = (∑ k : Fin 256, a (ix3 0 i k) * b (ix3 0 k j)) := by
  pointwise [k0_pay1]

theorem ld0 (x : Vec Ideal S1x1024x256 .bf16) (h) : View.ld (Val := Elt Ideal) (e' := .bf16) (S := S1x1024x256) x (Rect.unit ![0, 0, 0] ![1, 1024, 256] h) = x :=
  View.ld_unit_lit (Val := Elt Ideal) (e := .bf16) (S := S1x1024x256) h x (by decide)
theorem ld1 (x : Vec Ideal S1x256x1024 .bf16) (h) : View.ld (Val := Elt Ideal) (e' := .bf16) (S := S1x256x1024) x (Rect.unit ![0, 0, 0] ![1, 256, 1024] h) = x :=
  View.ld_unit_lit (Val := Elt Ideal) (e := .bf16) (S := S1x256x1024) h x (by decide)

/-- A point writes the product of its blocks. -/
theorem out (x0 : Vec Ideal S1x1024x256 .bf16) (x1 : Vec Ideal S1x256x1024 .bf16) :
    out0_2 (F := Ideal) x0 x1 = k0_pay1 (F := Ideal) x0 x1 := by
  unfold out0_2
  rw [View.canon_unit_zero (by decide)]
  exact congrArg₂ (k0_pay1 (F := Ideal)) (ld0 x0 _) (ld1 x1 _)

/-! ### The tiles -/

/-- Row `i` of the result's tile at point `n`. -/
abbrev rowI (n : ℕ) (i : Fin 1024) : Fin 4096 := Cert.Mm.pos 4096 (by decide) (1024 * (n) + i.val)
/-- Column `j` of the result's tile at point `n`. -/
abbrev colJ (n : ℕ) (j : Fin 1024) : Fin 1024 := Cert.Mm.pos 1024 (by decide) (1024 * (0) + j.val)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![0, t.val, 0] := by decide +kernel

section Arr
variable (m : (ℓ : Loc nD τ sig) → Buf (Elt Ideal) ℓ) (c : Dev nD)

/-- The arrays the kernel reads, as it finds them. -/
abbrev A : S1x4096x256.Idx → EReal := V m c main_v0
abbrev B : S1x256x1024.Idx → EReal := V m c main_v1

theorem blk0 (t : Fin cfg0.N) (i : Fin 1024) (k : Fin 256) : (iblk m c 0 t : S1x1024x256.Idx → EReal) (ix3 0 i k) = A m c (ix3 0 (rowI t.val i) k) := by
  have hN : t.val < 4 := lt_of_lt_of_eq t.isLt N_0
  blk_ext [iblk, idx0 t, rowI]

theorem blk1 (t : Fin cfg0.N) (k : Fin 256) (j : Fin 1024) : (iblk m c 1 t : S1x256x1024.Idx → EReal) (ix3 0 k j) = B m c (ix3 0 k (colJ t.val j)) := by
  have hN : t.val < 4 := lt_of_lt_of_eq t.isLt N_0
  blk_ext [iblk, idx1 t, colJ]

/-- The product, as the kernel's array holds it. -/
def prod3 (A : S1x4096x256.Idx → EReal) (B : S1x256x1024.Idx → EReal) : S1x4096x1024.Idx → EReal :=
  fun y => (∑ k : Fin 256, A (ix3 0 (y 1) k) * B (ix3 0 k (y 2)))
/-- The product. -/
def prod (A : S4096x256.Idx → EReal) (B : S256x1024.Idx → EReal) : S4096x1024.Idx → EReal :=
  fun y => (∑ k : Fin 256, A (ix2 (y 0) k) * B (ix2 k (y 1)))

/-- The array the kernel leaves is the product. -/
theorem arr : (dats m 0 c).arrAt 2 cfg0.N = (prod3 (A m c) (B m c) : S1x4096x1024.Idx → EReal) := by
  refine (dats m 0 c).arrAt_eq_of_covers 2 _ (by decide +kernel) (fun t hf y => ?_)
  blk_simp
  rw [after0_2, out]
  obtain ⟨o, i, j, rfl⟩ : ∃ (o : Fin 1) (i : Fin 1024) (j : Fin 1024), y = ix3 o i j := ⟨y 0, y 1, y 2, eq_ix3 y⟩
  have hN : t.val < 4 := lt_of_lt_of_eq t.isLt N_0
  trans prod3 (A m c) (B m c) (ix3 o (rowI t.val i) (colJ t.val j))
  · rw [pay1]
    exact Finset.sum_congr rfl fun k _ => congrArg₂ (fun x y : EReal => x * y) (blk0 m c t i k) (blk1 m c t k j)
  · congr 1
    blk_ext [idx2 t, rowI, colJ]

/-- The factors are the arguments with an axis of one in front. -/
theorem A_eq' : A m c = (broadcastInDim S1x4096x256 ![1, 2] bcast_S4096x256_S1x4096x256_1_2 (m ((c : Thread nD τ).loc main_arg0) : S4096x256.Idx → EReal) : S1x4096x256.Idx → EReal) := by
  show StableHlo.after (List.flatten [hostOps0]) (fun b => m (c, b)) _ = _
  simp only [hostOps0, List.flatten_cons, List.flatten_nil, List.append_nil, List.cons_append, List.nil_append]
  after_results
theorem B_eq' : B m c = (broadcastInDim S1x256x1024 ![1, 2] bcast_S256x1024_S1x256x1024_1_2 (m ((c : Thread nD τ).loc main_arg1) : S256x1024.Idx → EReal) : S1x256x1024.Idx → EReal) := by
  show StableHlo.after (List.flatten [hostOps0]) (fun b => m (c, b)) _ = _
  simp only [hostOps0, List.flatten_cons, List.flatten_nil, List.append_nil, List.cons_append, List.nil_append]
  after_results

/-- The host code behind the kernel drops the axis of one. -/
theorem tail (X : Valuation τ sig (Elt Ideal)) : StableHlo.after (List.flatten [hostOps1]) X (Proc.devRef .tc main_v3)
    = (shapeCast S4096x1024 (X (Proc.devRef .tc main_v2) : S1x4096x1024.Idx → EReal) shapeCasts_S1x4096x1024_S4096x1024 : S4096x1024.Idx → EReal) := by
  simp only [hostOps1, List.flatten_cons, List.flatten_nil, List.append_nil, List.cons_append, List.nil_append]
  after_results
  rfl

theorem res : Pipeline.afterTail₀ cfgs (dats m) 0 (V0 m) [hostOps1] c main_v3
    = (prod (m ((c : Thread nD τ).loc main_arg0)) (m ((c : Thread nD τ).loc main_arg1)) : S4096x1024.Idx → EReal) := by
  unfold Pipeline.afterTail₀
  rw [tail]
  have e : Pipeline.withArrays (cfgs 0).spec c (V0 m c) (fun w => (dats m 0 c).arrAt w (cfgs 0).N) (Proc.devRef .tc main_v2) = (prod3 (A m c) (B m c) : S1x4096x1024.Idx → EReal) :=
    ((dats m 0 c).withArrays_arrAt (by decide : Pipeline.SharedIn spec0) (V0 m c) (A_eq m c) 2).trans (arr m c)
  rw [e, A_eq', B_eq']
  funext y
  rw [eq_ix2 y]
  pointwise [prod3, prod]

end Arr

/-! ### The two programs -/

/-- The reference's value is the product. -/
theorem ref (x0 : S4096x256.Idx → EReal) (x1 : S256x1024.Idx → EReal) : Cert.RFpIdeal.Read.val_main_v2 (F := Ideal) x0 x1 = prod x0 x1 := by
  funext y
  rw [eq_ix2 y]
  pointwise [prod, Cert.RFpIdeal.Read.val_main_v0, Cert.RFpIdeal.Read.val_main_v1, Cert.RFpIdeal.Read.val_main_v2]

/-- The kernel ends with the product in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = (prod (m ((c.tc : Thread nD τ).loc main_arg0)) (m ((c.tc : Thread nD τ).loc main_arg1)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).2 main_v3 (Pipeline.mem_restRefs_of main_v3 (by decide) (by decide))).trans (res m c),
    ((e c).2 main_arg0 (Pipeline.mem_restRefs_of main_arg0 (by decide) (by decide))).trans (W_main_arg0 m (dats m) c),
    ((e c).2 main_arg1 (Pipeline.mem_restRefs_of main_arg1 (by decide) (by decide))).trans (W_main_arg1 m (dats m) c)⟩) (run_main m ρ)

/-- The reference ends with its arguments unchanged and every counter at zero. -/
theorem frame (m : (ℓ : Loc Cert.RFpIdeal.nD Cert.RFpIdeal.τ Cert.RFpIdeal.sig) → Buf (Elt Ideal) ℓ) (ρ : Dev Cert.RFpIdeal.nD → PrngReg) :
    θ_run Cert.RFpIdeal.defs (onTc (τ := Cert.RFpIdeal.τ) (Cert.RFpIdeal.main (F := Ideal))) ⟨m, fun _ => 0, ρ⟩ (fun r => (∀ c : Dev Cert.RFpIdeal.nD,
      r.2.mem ((c.tc : Thread Cert.RFpIdeal.nD Cert.RFpIdeal.τ).loc Cert.RFpIdeal.main_arg0) = m ((c.tc : Thread Cert.RFpIdeal.nD Cert.RFpIdeal.τ).loc Cert.RFpIdeal.main_arg0)
      ∧ r.2.mem ((c.tc : Thread Cert.RFpIdeal.nD Cert.RFpIdeal.τ).loc Cert.RFpIdeal.main_arg1) = m ((c.tc : Thread Cert.RFpIdeal.nD Cert.RFpIdeal.τ).loc Cert.RFpIdeal.main_arg1)) ∧ r.2.sem = fun _ => 0) :=
  (θ_run Cert.RFpIdeal.defs _ _).mono (fun r e => ⟨fun c => (e c).2, sem_eq_zero_of_no_sems (by decide) r.2⟩) (Cert.RFpIdeal.Value.run m ρ)

/-- On equal arguments the kernel and the reference leave equal results. -/
theorem equal : haveI := Cert.KFpIdeal.Gen.facts; haveI := Cert.RFpIdeal.Gen.facts
    algebraic_KFpIdeal_RFpIdeal := by
  intro m g m' g' _ ha
  refine ⟨_, kernel m g, (θ_run _ _ _).mono (fun r q c => ⟨(q c).1.trans ?_, (q c).2⟩) (Cert.RFpIdeal.Value.run m' g')⟩
  rw [Cert.RFpIdeal.Read.val_main_v2_eq]
  exact (ref _ _).trans (congrArg₂ prod (ha c).1 (ha c).2)

end Cert.MmFp
end
-- ==== Proof.RwMb.lean ====
/- The backward pass of the gated merge: what the kernel and the reference leave in their results. -/
module

public import proofs.«01_k».proof.Defs
public import proofs.«01_k».proof.Proof.Mm
public import proofs.«01_k».proof.Proof.Gen.KMb.Frame
public import proofs.«01_k».proof.Proof.Gen.KMbIdeal.Frame
public import proofs.«01_k».proof.Proof.Gen.RMbIdeal.Run
public import proofs.«01_k».proof.Proof.Gen.RMbIdeal.Read
public import Idealize.ShloMosaic.Lib.Pipeline.ValueKit
public import Idealize.ShloMosaic.Lib.Pipeline.ReadBack

@[expose] public section
noncomputable section
namespace Cert.RwMb
open Cert.KMbIdeal Cert.KMbIdeal.Gen Idealize.ShloMosaic Idealize.ShloMosaic.StableHlo Idealize.ShloMosaic.TcCoe Idealize.SL.Sem

/-! ### The stores of the body -/

/-- The gradient of a gate: the gate's factor and its complement, times the incoming gradient and the merged branch. -/
def gG (h : EReal) (z d : EReal) : EReal := d * z * Ideal.logistic h * (1 - Ideal.logistic h)
/-- The gradient of a branch: the incoming gradient times the gate's factor. -/
def gZ (h d : EReal) : EReal := d * Ideal.logistic h

theorem pay3_0 (a b : S1x512x1024.Idx → EReal) (z w d : S512x1024.Idx → EReal) (i : Fin 512) (j : Fin 1024) :
    k0_pay3 (F := Ideal) a b z w d (ix3 0 i j) = gG (a (ix3 0 i j)) (z (ix2 i j)) (d (ix2 i j)) := by
  pointwise [k0_pay3, k0_pay1, k0_pay2, gG]

theorem pay3_1 (a b : S1x512x1024.Idx → EReal) (z w d : S512x1024.Idx → EReal) (i : Fin 512) (j : Fin 1024) :
    k0_pay3 (F := Ideal) a b z w d (ix3 1 i j) = gG (b (ix3 0 i j)) (w (ix2 i j)) (d (ix2 i j)) := by
  pointwise [k0_pay3, k0_pay1, k0_pay2, gG]

theorem pay4 (a : S1x512x1024.Idx → EReal) (d : S512x1024.Idx → EReal) (i : Fin 512) (j : Fin 1024) :
    k0_pay4 (F := Ideal) a d (ix2 i j) = gZ (a (ix3 0 i j)) (d (ix2 i j)) := by
  pointwise [k0_pay4, k0_pay1, gZ]

theorem pay5 (a : S1x512x1024.Idx → EReal) (d : S512x1024.Idx → EReal) (i : Fin 512) (j : Fin 1024) :
    k0_pay5 (F := Ideal) a d (ix2 i j) = gZ (a (ix3 0 i j)) (d (ix2 i j)) := by
  pointwise [k0_pay5, k0_pay2, gZ]

theorem ldH (x : Vec Ideal S1x512x1024 .bf16) (h) : View.ld (Val := Elt Ideal) (e' := .bf16) (S := S1x512x1024) x (Rect.unit ![0, 0, 0] ![1, 512, 1024] h) = x :=
  View.ld_unit_lit (Val := Elt Ideal) (e := .bf16) (S := S1x512x1024) h x (by decide)
theorem ldZ (x : Vec Ideal S512x1024 .f32) (h) : View.ld (Val := Elt Ideal) (e' := .f32) (S := S512x1024) x (Rect.unit ![0, 0] ![512, 1024] h) = x :=
  View.ld_unit_lit (Val := Elt Ideal) (e := .f32) (S := S512x1024) h x (by decide)
theorem ldD (x : Vec Ideal S512x1024 .bf16) (h) : View.ld (Val := Elt Ideal) (e' := .bf16) (S := S512x1024) x (Rect.unit ![0, 0] ![512, 1024] h) = x :=
  View.ld_unit_lit (Val := Elt Ideal) (e := .bf16) (S := S512x1024) h x (by decide)

section Body
variable (x0 x1 : Vec Ideal S1x512x1024 .bf16) (x2 x3 : Vec Ideal S512x1024 .f32) (x4 : Vec Ideal S512x1024 .bf16)
theorem out5 : out0_5 (F := Ideal) x0 x1 x2 x3 x4 = k0_pay3 (F := Ideal) x0 x1 x2 x3 x4 := by
  unfold out0_5
  rw [View.canon_unit_zero (by decide)]
  exact congr (congr (congr (congrArg₂ (k0_pay3 (F := Ideal)) (ldH x0 _) (ldH x1 _)) (ldZ x2 _)) (ldZ x3 _)) (ldD x4 _)
theorem out6 : out0_6 (F := Ideal) x0 x1 x2 x3 x4 = k0_pay4 (F := Ideal) x0 x4 := by
  unfold out0_6
  rw [View.canon_unit_zero (by decide)]
  exact congrArg₂ (k0_pay4 (F := Ideal)) (ldH x0 _) (ldD x4 _)
theorem out7 : out0_7 (F := Ideal) x0 x1 x2 x3 x4 = k0_pay5 (F := Ideal) x1 x4 := by
  unfold out0_7
  rw [View.canon_unit_zero (by decide)]
  exact congrArg₂ (k0_pay5 (F := Ideal)) (ldH x1 _) (ldD x4 _)
end Body

/-! ### The tiles -/

/-- Row `i` of the tile of point `n`. -/
abbrev row (n : ℕ) (i : Fin 512) : Fin 4096 := Cert.Mm.pos 4096 (by decide) (512 * n + i.val)

theorem idx0 : ∀ t : Fin cfg0.N, win0_0.index t = ![6, t.val, 0] := by decide +kernel
theorem idx1 : ∀ t : Fin cfg0.N, win0_1.index t = ![7, t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![3, t.val, 0] := by decide +kernel
theorem idx6 : ∀ t : Fin cfg0.N, win0_6.index t = ![t.val, 0] := by decide +kernel
theorem idx7 : ∀ t : Fin cfg0.N, win0_7.index t = ![t.val, 0] := by decide +kernel

section Arr
variable (m : (ℓ : Loc nD τ sig) → Buf (Elt Ideal) ℓ) (c : Dev nD)

/-- The arrays the kernel reads: the slots of activations, the two branches and the incoming gradient. -/
abbrev H : S8x4096x1024.Idx → EReal := m ((c : Thread nD τ).loc main_arg0)
abbrev ZA : S4096x1024.Idx → EReal := m ((c : Thread nD τ).loc main_arg1)
abbrev ZB : S4096x1024.Idx → EReal := m ((c : Thread nD τ).loc main_arg2)
abbrev DM : S4096x1024.Idx → EReal := m ((c : Thread nD τ).loc main_arg3)

theorem blk0 (t : Fin cfg0.N) (i : Fin 512) (j : Fin 1024) : (iblk m c 0 t : S1x512x1024.Idx → EReal) (ix3 0 i j) = H m c (ix3 6 (row t.val i) j) := by
  have hN : t.val < 8 := lt_of_lt_of_eq t.isLt N_0
  blk_ext [iblk, idx0 t, row]
theorem blk1 (t : Fin cfg0.N) (i : Fin 512) (j : Fin 1024) : (iblk m c 1 t : S1x512x1024.Idx → EReal) (ix3 0 i j) = H m c (ix3 7 (row t.val i) j) := by
  have hN : t.val < 8 := lt_of_lt_of_eq t.isLt N_0
  blk_ext [iblk, idx1 t, row]
theorem blk2 (t : Fin cfg0.N) (i : Fin 512) (j : Fin 1024) : (iblk m c 2 t : S512x1024.Idx → EReal) (ix2 i j) = ZA m c (ix2 (row t.val i) j) := by
  have hN : t.val < 8 := lt_of_lt_of_eq t.isLt N_0
  blk_ext [iblk, idx2 t, row]
theorem blk3 (t : Fin cfg0.N) (i : Fin 512) (j : Fin 1024) : (iblk m c 3 t : S512x1024.Idx → EReal) (ix2 i j) = ZB m c (ix2 (row t.val i) j) := by
  have hN : t.val < 8 := lt_of_lt_of_eq t.isLt N_0
  blk_ext [iblk, idx3 t, row]
theorem blk4 (t : Fin cfg0.N) (i : Fin 512) (j : Fin 1024) : (iblk m c 4 t : S512x1024.Idx → EReal) (ix2 i j) = DM m c (ix2 (row t.val i) j) := by
  have hN : t.val < 8 := lt_of_lt_of_eq t.isLt N_0
  blk_ext [iblk, idx4 t, row]

/-- The gradient of the gate in slot `s`, of the branch it gates. -/
def dG (H : S8x4096x1024.Idx → EReal) (s : Fin 8) (Z D : S4096x1024.Idx → EReal) : S4096x1024.Idx → EReal :=
  fun y => gG (H (ix3 s (y 0) (y 1))) (Z (ix2 (y 0) (y 1))) (D (ix2 (y 0) (y 1)))
/-- The gradient of the branch gated by slot `s`. -/
def dZ (H : S8x4096x1024.Idx → EReal) (s : Fin 8) (D : S4096x1024.Idx → EReal) : S4096x1024.Idx → EReal :=
  fun y => gZ (H (ix3 s (y 0) (y 1))) (D (ix2 (y 0) (y 1)))

theorem arr6 : (dats m 0 c).arrAt 6 cfg0.N = (dZ (H m c) 6 (DM m c) : S4096x1024.Idx → EReal) := by
  refine (dats m 0 c).arrAt_eq_of_covers 6 _ (by decide +kernel) (fun t hf y => ?_)
  blk_simp
  rw [after0_6, out6]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 6).blk t).view.emb (ix2 i j) = (ix2 (row t.val i) j : S4096x1024.Idx) := by
    blk_ext [idx6 t, row]
  rw [e]
  exact (pay4 _ _ i j).trans (congrArg₂ gZ (blk0 m c t i j) (blk4 m c t i j))

theorem arr7 : (dats m 0 c).arrAt 7 cfg0.N = (dZ (H m c) 7 (DM m c) : S4096x1024.Idx → EReal) := by
  refine (dats m 0 c).arrAt_eq_of_covers 7 _ (by decide +kernel) (fun t hf y => ?_)
  blk_simp
  rw [after0_7, out7]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 7).blk t).view.emb (ix2 i j) = (ix2 (row t.val i) j : S4096x1024.Idx) := by
    blk_ext [idx7 t, row]
  rw [e]
  exact (pay5 _ _ i j).trans (congrArg₂ gZ (blk1 m c t i j) (blk4 m c t i j))

/-- The array of the gates' gradients: slots 6 and 7 are written, the others are as they were. -/
def slots (X : S8x4096x1024.Idx → EReal) (g6 g7 : S4096x1024.Idx → EReal) : S8x4096x1024.Idx → EReal :=
  fun y => if (y 0).val = 6 then g6 (ix2 (y 1) (y 2)) else if (y 0).val = 7 then g7 (ix2 (y 1) (y 2)) else X y

theorem slots_6 (X : S8x4096x1024.Idx → EReal) (g6 g7 : S4096x1024.Idx → EReal) (i : Fin 4096) (j : Fin 1024) : slots X g6 g7 (ix3 6 i j) = g6 (ix2 i j) := if_pos rfl
theorem slots_7 (X : S8x4096x1024.Idx → EReal) (g6 g7 : S4096x1024.Idx → EReal) (i : Fin 4096) (j : Fin 1024) : slots X g6 g7 (ix3 7 i j) = g7 (ix2 i j) := (if_neg (show ¬((7 : Fin 8).val = 6) by decide)).trans (if_pos rfl)

theorem arr5 : (dats m 0 c).arrAt 5 cfg0.N = (slots (V m c main_v0_0) (dG (H m c) 6 (ZA m c) (DM m c)) (dG (H m c) 7 (ZB m c) (DM m c)) : S8x4096x1024.Idx → EReal) := by
  refine (dats m 0 c).arrAt_eq_of_coversWhere_of_agree 5 _ (fun β => β (0 : Fin 3) = 3) (by decide +kernel) (fun t hf y => ?_) (fun j hj => ?_)
  · blk_simp
    rw [after0_5, out5]
    obtain ⟨p, i, j, rfl⟩ : ∃ (p : Fin 2) (i : Fin 512) (j : Fin 1024), y = ix3 p i j := ⟨y 0, y 1, y 2, eq_ix3 y⟩
    have hN : t.val < 8 := lt_of_lt_of_eq t.isLt N_0
    have e : ((cfg0.win 5).blk t).view.emb (ix3 p i j) = (ix3 (⟨6 + p.val, by omega⟩ : Fin 8) (row t.val i) j : S8x4096x1024.Idx) := by
      blk_ext [idx5 t, row]
    rw [e]
    fin_cases p
    · have q := congr (congrArg₂ gG (blk0 m c t i j) (blk2 m c t i j)) (blk4 m c t i j)
      exact (pay3_0 _ _ _ _ _ i j).trans (q.trans (slots_6 (V m c main_v0_0) (dG (H m c) 6 (ZA m c) (DM m c)) (dG (H m c) 7 (ZB m c) (DM m c)) (row t.val i) j).symm)
    · have q := congr (congrArg₂ gG (blk1 m c t i j) (blk3 m c t i j)) (blk4 m c t i j)
      exact (pay3_1 _ _ _ _ _ i j).trans (q.trans (slots_7 (V m c main_v0_0) (dG (H m c) 6 (ZA m c) (DM m c)) (dG (H m c) 7 (ZB m c) (DM m c)) (row t.val i) j).symm)
  · rw [A_eq]
    show V m c main_v0_0 _ = _
    blk_simp [Pipeline.Window.cell_apply] at hj
    show _ = slots _ _ _ j
    unfold slots
    rw [if_neg (by omega), if_neg (by omega)]
    rfl

/-- The host code behind the kernel takes the two written slots apart. -/
theorem tail2 (X : Valuation τ sig (Elt Ideal)) : StableHlo.after (List.flatten [hostOps1]) X (Proc.devRef .tc main_v2)
    = (shapeCast S4096x1024 (extractStridedSlice S1x4096x1024 ![6, 0, 0] (X (Proc.devRef .tc main_v0_0) : S8x4096x1024.Idx → EReal) slices_S8x4096x1024_S1x4096x1024_6_0_0) shapeCasts_S1x4096x1024_S4096x1024 : S4096x1024.Idx → EReal) := by
  simp only [hostOps1, List.flatten_cons, List.flatten_nil, List.append_nil, List.cons_append, List.nil_append]
  after_results
  rfl
theorem tail4 (X : Valuation τ sig (Elt Ideal)) : StableHlo.after (List.flatten [hostOps1]) X (Proc.devRef .tc main_v4)
    = (shapeCast S4096x1024 (extractStridedSlice S1x4096x1024 ![7, 0, 0] (X (Proc.devRef .tc main_v0_0) : S8x4096x1024.Idx → EReal) slices_S8x4096x1024_S1x4096x1024_7_0_0) shapeCasts_S1x4096x1024_S4096x1024 : S4096x1024.Idx → EReal) := by
  simp only [hostOps1, List.flatten_cons, List.flatten_nil, List.append_nil, List.cons_append, List.nil_append]
  after_results
  rfl

theorem mid : Pipeline.withArrays (cfgs 0).spec c (V0 m c) (fun w => (dats m 0 c).arrAt w (cfgs 0).N) (Proc.devRef .tc main_v0_0)
    = (slots (V m c main_v0_0) (dG (H m c) 6 (ZA m c) (DM m c)) (dG (H m c) 7 (ZB m c) (DM m c)) : S8x4096x1024.Idx → EReal) :=
  ((dats m 0 c).withArrays_arrAt (by decide : Pipeline.SharedIn spec0) (V0 m c) (A_eq m c) 5).trans (arr5 m c)

theorem res2 : Pipeline.afterTail₀ cfgs (dats m) 0 (V0 m) [hostOps1] c main_v2 = (dG (H m c) 6 (ZA m c) (DM m c) : S4096x1024.Idx → EReal) := by
  unfold Pipeline.afterTail₀
  rw [tail2, mid]
  funext y
  rw [eq_ix2 y]
  pointwise [slots, dG]
theorem res4 : Pipeline.afterTail₀ cfgs (dats m) 0 (V0 m) [hostOps1] c main_v4 = (dG (H m c) 7 (ZB m c) (DM m c) : S4096x1024.Idx → EReal) := by
  unfold Pipeline.afterTail₀
  rw [tail4, mid]
  funext y
  rw [eq_ix2 y]
  pointwise [slots, dG]

end Arr

/-! ### The two programs -/

theorem ref34 (x0 : S8x4096x1024.Idx → EReal) (x1 x3 : S4096x1024.Idx → EReal) : Cert.RMbIdeal.Read.val_main_v34 (F := Ideal) x0 x1 x3 = dG x0 6 x1 x3 := by
  funext y
  rw [eq_ix2 y]
  pointwise [Cert.RMbIdeal.Read.val_main_v0, Cert.RMbIdeal.Read.val_main_v1, Cert.RMbIdeal.Read.val_main_v2, Cert.RMbIdeal.Read.val_main_v3, Cert.RMbIdeal.Read.val_main_v4, Cert.RMbIdeal.Read.val_main_v5, Cert.RMbIdeal.Read.val_main_v6, Cert.RMbIdeal.Read.val_main_v7, Cert.RMbIdeal.Read.val_main_cst, Cert.RMbIdeal.Read.val_main_v8, Cert.RMbIdeal.Read.val_main_v9, Cert.RMbIdeal.Read.val_main_cst_0, Cert.RMbIdeal.Read.val_main_v10, Cert.RMbIdeal.Read.val_main_v11, Cert.RMbIdeal.Read.val_main_cst_1, Cert.RMbIdeal.Read.val_main_v12, Cert.RMbIdeal.Read.val_main_v13, Cert.RMbIdeal.Read.val_main_v14, Cert.RMbIdeal.Read.val_main_v15, Cert.RMbIdeal.Read.val_main_v16, Cert.RMbIdeal.Read.val_main_v17, Cert.RMbIdeal.Read.val_main_cst_2, Cert.RMbIdeal.Read.val_main_v18, Cert.RMbIdeal.Read.val_main_v19, Cert.RMbIdeal.Read.val_main_cst_3, Cert.RMbIdeal.Read.val_main_v20, Cert.RMbIdeal.Read.val_main_v21, Cert.RMbIdeal.Read.val_main_cst_4, Cert.RMbIdeal.Read.val_main_v22, Cert.RMbIdeal.Read.val_main_v23, Cert.RMbIdeal.Read.val_main_v24, Cert.RMbIdeal.Read.val_main_v25, Cert.RMbIdeal.Read.val_main_v26, Cert.RMbIdeal.Read.val_main_v27, Cert.RMbIdeal.Read.val_main_v28, Cert.RMbIdeal.Read.val_main_v29, Cert.RMbIdeal.Read.val_main_v30, Cert.RMbIdeal.Read.val_main_v31, Cert.RMbIdeal.Read.val_main_v32, Cert.RMbIdeal.Read.val_main_v33, Cert.RMbIdeal.Read.val_main_v34, Cert.RMbIdeal.Read.val_main_v35, Cert.RMbIdeal.Read.val_main_v36, Cert.RMbIdeal.Read.val_main_v37, dG, gG]
  exact (mul_assoc _ _ _).symm
theorem ref35 (x0 : S8x4096x1024.Idx → EReal) (x2 x3 : S4096x1024.Idx → EReal) : Cert.RMbIdeal.Read.val_main_v35 (F := Ideal) x0 x2 x3 = dG x0 7 x2 x3 := by
  funext y
  rw [eq_ix2 y]
  pointwise [Cert.RMbIdeal.Read.val_main_v0, Cert.RMbIdeal.Read.val_main_v1, Cert.RMbIdeal.Read.val_main_v2, Cert.RMbIdeal.Read.val_main_v3, Cert.RMbIdeal.Read.val_main_v4, Cert.RMbIdeal.Read.val_main_v5, Cert.RMbIdeal.Read.val_main_v6, Cert.RMbIdeal.Read.val_main_v7, Cert.RMbIdeal.Read.val_main_cst, Cert.RMbIdeal.Read.val_main_v8, Cert.RMbIdeal.Read.val_main_v9, Cert.RMbIdeal.Read.val_main_cst_0, Cert.RMbIdeal.Read.val_main_v10, Cert.RMbIdeal.Read.val_main_v11, Cert.RMbIdeal.Read.val_main_cst_1, Cert.RMbIdeal.Read.val_main_v12, Cert.RMbIdeal.Read.val_main_v13, Cert.RMbIdeal.Read.val_main_v14, Cert.RMbIdeal.Read.val_main_v15, Cert.RMbIdeal.Read.val_main_v16, Cert.RMbIdeal.Read.val_main_v17, Cert.RMbIdeal.Read.val_main_cst_2, Cert.RMbIdeal.Read.val_main_v18, Cert.RMbIdeal.Read.val_main_v19, Cert.RMbIdeal.Read.val_main_cst_3, Cert.RMbIdeal.Read.val_main_v20, Cert.RMbIdeal.Read.val_main_v21, Cert.RMbIdeal.Read.val_main_cst_4, Cert.RMbIdeal.Read.val_main_v22, Cert.RMbIdeal.Read.val_main_v23, Cert.RMbIdeal.Read.val_main_v24, Cert.RMbIdeal.Read.val_main_v25, Cert.RMbIdeal.Read.val_main_v26, Cert.RMbIdeal.Read.val_main_v27, Cert.RMbIdeal.Read.val_main_v28, Cert.RMbIdeal.Read.val_main_v29, Cert.RMbIdeal.Read.val_main_v30, Cert.RMbIdeal.Read.val_main_v31, Cert.RMbIdeal.Read.val_main_v32, Cert.RMbIdeal.Read.val_main_v33, Cert.RMbIdeal.Read.val_main_v34, Cert.RMbIdeal.Read.val_main_v35, Cert.RMbIdeal.Read.val_main_v36, Cert.RMbIdeal.Read.val_main_v37, dG, gG]
  exact (mul_assoc _ _ _).symm
theorem ref36 (x0 : S8x4096x1024.Idx → EReal) (x3 : S4096x1024.Idx → EReal) : Cert.RMbIdeal.Read.val_main_v36 (F := Ideal) x0 x3 = dZ x0 6 x3 := by
  funext y
  rw [eq_ix2 y]
  pointwise [Cert.RMbIdeal.Read.val_main_v0, Cert.RMbIdeal.Read.val_main_v1, Cert.RMbIdeal.Read.val_main_v2, Cert.RMbIdeal.Read.val_main_v3, Cert.RMbIdeal.Read.val_main_v4, Cert.RMbIdeal.Read.val_main_v5, Cert.RMbIdeal.Read.val_main_v6, Cert.RMbIdeal.Read.val_main_v7, Cert.RMbIdeal.Read.val_main_cst, Cert.RMbIdeal.Read.val_main_v8, Cert.RMbIdeal.Read.val_main_v9, Cert.RMbIdeal.Read.val_main_cst_0, Cert.RMbIdeal.Read.val_main_v10, Cert.RMbIdeal.Read.val_main_v11, Cert.RMbIdeal.Read.val_main_cst_1, Cert.RMbIdeal.Read.val_main_v12, Cert.RMbIdeal.Read.val_main_v13, Cert.RMbIdeal.Read.val_main_v14, Cert.RMbIdeal.Read.val_main_v15, Cert.RMbIdeal.Read.val_main_v16, Cert.RMbIdeal.Read.val_main_v17, Cert.RMbIdeal.Read.val_main_cst_2, Cert.RMbIdeal.Read.val_main_v18, Cert.RMbIdeal.Read.val_main_v19, Cert.RMbIdeal.Read.val_main_cst_3, Cert.RMbIdeal.Read.val_main_v20, Cert.RMbIdeal.Read.val_main_v21, Cert.RMbIdeal.Read.val_main_cst_4, Cert.RMbIdeal.Read.val_main_v22, Cert.RMbIdeal.Read.val_main_v23, Cert.RMbIdeal.Read.val_main_v24, Cert.RMbIdeal.Read.val_main_v25, Cert.RMbIdeal.Read.val_main_v26, Cert.RMbIdeal.Read.val_main_v27, Cert.RMbIdeal.Read.val_main_v28, Cert.RMbIdeal.Read.val_main_v29, Cert.RMbIdeal.Read.val_main_v30, Cert.RMbIdeal.Read.val_main_v31, Cert.RMbIdeal.Read.val_main_v32, Cert.RMbIdeal.Read.val_main_v33, Cert.RMbIdeal.Read.val_main_v34, Cert.RMbIdeal.Read.val_main_v35, Cert.RMbIdeal.Read.val_main_v36, Cert.RMbIdeal.Read.val_main_v37, dZ, gZ]
  rw [mul_comm]
  rfl
theorem ref37 (x0 : S8x4096x1024.Idx → EReal) (x3 : S4096x1024.Idx → EReal) : Cert.RMbIdeal.Read.val_main_v37 (F := Ideal) x0 x3 = dZ x0 7 x3 := by
  funext y
  rw [eq_ix2 y]
  pointwise [Cert.RMbIdeal.Read.val_main_v0, Cert.RMbIdeal.Read.val_main_v1, Cert.RMbIdeal.Read.val_main_v2, Cert.RMbIdeal.Read.val_main_v3, Cert.RMbIdeal.Read.val_main_v4, Cert.RMbIdeal.Read.val_main_v5, Cert.RMbIdeal.Read.val_main_v6, Cert.RMbIdeal.Read.val_main_v7, Cert.RMbIdeal.Read.val_main_cst, Cert.RMbIdeal.Read.val_main_v8, Cert.RMbIdeal.Read.val_main_v9, Cert.RMbIdeal.Read.val_main_cst_0, Cert.RMbIdeal.Read.val_main_v10, Cert.RMbIdeal.Read.val_main_v11, Cert.RMbIdeal.Read.val_main_cst_1, Cert.RMbIdeal.Read.val_main_v12, Cert.RMbIdeal.Read.val_main_v13, Cert.RMbIdeal.Read.val_main_v14, Cert.RMbIdeal.Read.val_main_v15, Cert.RMbIdeal.Read.val_main_v16, Cert.RMbIdeal.Read.val_main_v17, Cert.RMbIdeal.Read.val_main_cst_2, Cert.RMbIdeal.Read.val_main_v18, Cert.RMbIdeal.Read.val_main_v19, Cert.RMbIdeal.Read.val_main_cst_3, Cert.RMbIdeal.Read.val_main_v20, Cert.RMbIdeal.Read.val_main_v21, Cert.RMbIdeal.Read.val_main_cst_4, Cert.RMbIdeal.Read.val_main_v22, Cert.RMbIdeal.Read.val_main_v23, Cert.RMbIdeal.Read.val_main_v24, Cert.RMbIdeal.Read.val_main_v25, Cert.RMbIdeal.Read.val_main_v26, Cert.RMbIdeal.Read.val_main_v27, Cert.RMbIdeal.Read.val_main_v28, Cert.RMbIdeal.Read.val_main_v29, Cert.RMbIdeal.Read.val_main_v30, Cert.RMbIdeal.Read.val_main_v31, Cert.RMbIdeal.Read.val_main_v32, Cert.RMbIdeal.Read.val_main_v33, Cert.RMbIdeal.Read.val_main_v34, Cert.RMbIdeal.Read.val_main_v35, Cert.RMbIdeal.Read.val_main_v36, Cert.RMbIdeal.Read.val_main_v37, dZ, gZ]
  rw [mul_comm]
  rfl

/-- The kernel ends with the four gradients in its results and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = (dG (H m c) 6 (ZA m c) (DM m c) : S4096x1024.Idx → EReal)
      ∧ r.2.mem ((c.tc : Thread nD τ).loc main_v4) = (dG (H m c) 7 (ZB m c) (DM m c) : S4096x1024.Idx → EReal)
      ∧ r.2.mem ((c.tc : Thread nD τ).loc main_v0_1) = (dZ (H m c) 6 (DM m c) : S4096x1024.Idx → EReal)
      ∧ r.2.mem ((c.tc : Thread nD τ).loc main_v0_2) = (dZ (H m c) 7 (DM m c) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r e c => ⟨((e c).2 main_v2 (Pipeline.mem_restRefs_of main_v2 (by decide) (by decide))).trans (res2 m c),
    ((e c).2 main_v4 (Pipeline.mem_restRefs_of main_v4 (by decide) (by decide))).trans (res4 m c),
    ((e c).1 6).trans (arr6 m c), ((e c).1 7).trans (arr7 m c),
    ((e c).1 0).trans (((dats m 0 c).arrAt_in 0 rfl _).trans ((A_eq m c 0).trans (V_main_arg0 m c))),
    ((e c).1 2).trans (((dats m 0 c).arrAt_in 2 rfl _).trans ((A_eq m c 2).trans (V_main_arg1 m c))),
    ((e c).1 3).trans (((dats m 0 c).arrAt_in 3 rfl _).trans ((A_eq m c 3).trans (V_main_arg2 m c))),
    ((e c).1 4).trans (((dats m 0 c).arrAt_in 4 rfl _).trans ((A_eq m c 4).trans (V_main_arg3 m c)))⟩) (run_main m ρ)

/-- The reference ends with its arguments unchanged and every counter at zero. -/
theorem frame (m : (ℓ : Loc Cert.RMbIdeal.nD Cert.RMbIdeal.τ Cert.RMbIdeal.sig) → Buf (Elt Ideal) ℓ) (ρ : Dev Cert.RMbIdeal.nD → PrngReg) :
    θ_run Cert.RMbIdeal.defs (onTc (τ := Cert.RMbIdeal.τ) (Cert.RMbIdeal.main (F := Ideal))) ⟨m, fun _ => 0, ρ⟩ (fun r => (∀ c : Dev Cert.RMbIdeal.nD,
      r.2.mem ((c.tc : Thread Cert.RMbIdeal.nD Cert.RMbIdeal.τ).loc Cert.RMbIdeal.main_arg0) = m ((c.tc : Thread Cert.RMbIdeal.nD Cert.RMbIdeal.τ).loc Cert.RMbIdeal.main_arg0)
      ∧ r.2.mem ((c.tc : Thread Cert.RMbIdeal.nD Cert.RMbIdeal.τ).loc Cert.RMbIdeal.main_arg1) = m ((c.tc : Thread Cert.RMbIdeal.nD Cert.RMbIdeal.τ).loc Cert.RMbIdeal.main_arg1)
      ∧ r.2.mem ((c.tc : Thread Cert.RMbIdeal.nD Cert.RMbIdeal.τ).loc Cert.RMbIdeal.main_arg2) = m ((c.tc : Thread Cert.RMbIdeal.nD Cert.RMbIdeal.τ).loc Cert.RMbIdeal.main_arg2)
      ∧ r.2.mem ((c.tc : Thread Cert.RMbIdeal.nD Cert.RMbIdeal.τ).loc Cert.RMbIdeal.main_arg3) = m ((c.tc : Thread Cert.RMbIdeal.nD Cert.RMbIdeal.τ).loc Cert.RMbIdeal.main_arg3)) ∧ r.2.sem = fun _ => 0) :=
  (θ_run Cert.RMbIdeal.defs _ _).mono (fun r e => ⟨fun c => (e c).2.2.2.2, sem_eq_zero_of_no_sems (by decide) r.2⟩) (Cert.RMbIdeal.Value.run m ρ)

/-- On equal arguments the kernel and the reference leave equal results. -/
theorem equal : haveI := Cert.KMbIdeal.Gen.facts; haveI := Cert.RMbIdeal.Gen.facts
    algebraic_KMbIdeal_RMbIdeal := by
  intro m g m' g' _ ha
  refine ⟨_, _, _, _, kernel m g, (θ_run _ _ _).mono (fun r q c => ⟨(q c).1.trans ?_, (q c).2.1.trans ?_, (q c).2.2.1.trans ?_, (q c).2.2.2.1.trans ?_, (q c).2.2.2.2⟩) (Cert.RMbIdeal.Value.run m' g')⟩
  · refine (Cert.RMbIdeal.Read.val_main_v34_eq _ _ _).trans ?_
    exact (ref34 _ _ _).trans (congr (congrArg₂ (fun x y => dG x 6 y) (ha c).1 (ha c).2.1) (ha c).2.2.2)
  · refine (Cert.RMbIdeal.Read.val_main_v35_eq _ _ _).trans ?_
    exact (ref35 _ _ _).trans (congr (congrArg₂ (fun x y => dG x 7 y) (ha c).1 (ha c).2.2.1) (ha c).2.2.2)
  · refine (Cert.RMbIdeal.Read.val_main_v36_eq _ _).trans ?_
    exact (ref36 _ _).trans (congrArg₂ (fun x y => dZ x 6 y) (ha c).1 (ha c).2.2.2)
  · refine (Cert.RMbIdeal.Read.val_main_v37_eq _ _).trans ?_
    exact (ref37 _ _).trans (congrArg₂ (fun x y => dZ x 7 y) (ha c).1 (ha c).2.2.2)

end Cert.RwMb
end
-- ==== Proof.RwMf.lean ====
/- The gated merge of the two branches: what the kernel and the reference leave in their results. -/
module

public import proofs.«01_k».proof.Defs
public import proofs.«01_k».proof.Proof.Mm
public import proofs.«01_k».proof.Proof.Gen.KMf.Frame
public import proofs.«01_k».proof.Proof.Gen.KMfIdeal.Frame
public import proofs.«01_k».proof.Proof.Gen.RMfIdeal.Run
public import proofs.«01_k».proof.Proof.Gen.RMfIdeal.Read
public import Idealize.ShloMosaic.Lib.Pipeline.ValueKit
public import Idealize.ShloMosaic.Lib.Pipeline.ReadBack

@[expose] public section
noncomputable section
namespace Cert.RwMf
open Cert.KMfIdeal Cert.KMfIdeal.Gen Idealize.ShloMosaic Idealize.ShloMosaic.StableHlo Idealize.ShloMosaic.TcCoe Idealize.SL.Sem

/-! ### The store of the body -/

/-- The merge at one place: each branch times its gate's factor. -/
def g (a b z w : EReal) : EReal := Ideal.logistic a * z + Ideal.logistic b * w

theorem pay1 (a b : S1x512x1024.Idx → EReal) (z w : S512x1024.Idx → EReal) (i : Fin 512) (j : Fin 1024) :
    k0_pay1 (F := Ideal) a b z w (ix2 i j) = g (a (ix3 0 i j)) (b (ix3 0 i j)) (z (ix2 i j)) (w (ix2 i j)) := by
  pointwise [k0_pay1, g]

theorem ldH (x : Vec Ideal S1x512x1024 .bf16) (h) : View.ld (Val := Elt Ideal) (e' := .bf16) (S := S1x512x1024) x (Rect.unit ![0, 0, 0] ![1, 512, 1024] h) = x :=
  View.ld_unit_lit (Val := Elt Ideal) (e := .bf16) (S := S1x512x1024) h x (by decide)
theorem ldZ (x : Vec Ideal S512x1024 .f32) (h) : View.ld (Val := Elt Ideal) (e' := .f32) (S := S512x1024) x (Rect.unit ![0, 0] ![512, 1024] h) = x :=
  View.ld_unit_lit (Val := Elt Ideal) (e := .f32) (S := S512x1024) h x (by decide)

theorem out4 (x0 x1 : Vec Ideal S1x512x1024 .bf16) (x2 x3 : Vec Ideal S512x1024 .f32) : out0_4 (F := Ideal) x0 x1 x2 x3 = k0_pay1 (F := Ideal) x0 x1 x2 x3 := by
  unfold out0_4
  rw [View.canon_unit_zero (by decide)]
  exact congr (congr (congrArg₂ (k0_pay1 (F := Ideal)) (ldH x0 _) (ldH x1 _)) (ldZ x2 _)) (ldZ x3 _)

/-! ### The tiles -/

/-- Row `i` of the tile of point `n`. -/
abbrev row (n : ℕ) (i : Fin 512) : Fin 4096 := Cert.Mm.pos 4096 (by decide) (512 * n + i.val)

theorem idx0 : ∀ t : Fin cfg0.N, win0_0.index t = ![6, t.val, 0] := by decide +kernel
theorem idx1 : ∀ t : Fin cfg0.N, win0_1.index t = ![7, t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel

section Arr
variable (m : (ℓ : Loc nD τ sig) → Buf (Elt Ideal) ℓ) (c : Dev nD)

/-- The arrays the kernel reads: the slots of activations and the two branches. -/
abbrev H : S8x4096x1024.Idx → EReal := m ((c : Thread nD τ).loc main_arg0)
abbrev ZA : S4096x1024.Idx → EReal := m ((c : Thread nD τ).loc main_arg1)
abbrev ZB : S4096x1024.Idx → EReal := m ((c : Thread nD τ).loc main_arg2)

theorem blk0 (t : Fin cfg0.N) (i : Fin 512) (j : Fin 1024) : (iblk m c 0 t : S1x512x1024.Idx → EReal) (ix3 0 i j) = H m c (ix3 6 (row t.val i) j) := by
  have hN : t.val < 8 := lt_of_lt_of_eq t.isLt N_0
  blk_ext [iblk, idx0 t, row]
theorem blk1 (t : Fin cfg0.N) (i : Fin 512) (j : Fin 1024) : (iblk m c 1 t : S1x512x1024.Idx → EReal) (ix3 0 i j) = H m c (ix3 7 (row t.val i) j) := by
  have hN : t.val < 8 := lt_of_lt_of_eq t.isLt N_0
  blk_ext [iblk, idx1 t, row]
theorem blk2 (t : Fin cfg0.N) (i : Fin 512) (j : Fin 1024) : (iblk m c 2 t : S512x1024.Idx → EReal) (ix2 i j) = ZA m c (ix2 (row t.val i) j) := by
  have hN : t.val < 8 := lt_of_lt_of_eq t.isLt N_0
  blk_ext [iblk, idx2 t, row]
theorem blk3 (t : Fin cfg0.N) (i : Fin 512) (j : Fin 1024) : (iblk m c 3 t : S512x1024.Idx → EReal) (ix2 i j) = ZB m c (ix2 (row t.val i) j) := by
  have hN : t.val < 8 := lt_of_lt_of_eq t.isLt N_0
  blk_ext [iblk, idx3 t, row]

/-- The merge of the two branches. -/
def mg (H : S8x4096x1024.Idx → EReal) (Z W : S4096x1024.Idx → EReal) : S4096x1024.Idx → EReal :=
  fun y => g (H (ix3 6 (y 0) (y 1))) (H (ix3 7 (y 0) (y 1))) (Z (ix2 (y 0) (y 1))) (W (ix2 (y 0) (y 1)))

theorem arr4 : (dats m 0 c).arrAt 4 cfg0.N = (mg (H m c) (ZA m c) (ZB m c) : S4096x1024.Idx → EReal) := by
  refine (dats m 0 c).arrAt_eq_of_covers 4 _ (by decide +kernel) (fun t hf y => ?_)
  blk_simp
  rw [after0_4, out4]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 4).blk t).view.emb (ix2 i j) = (ix2 (row t.val i) j : S4096x1024.Idx) := by
    blk_ext [idx4 t, row]
  rw [e]
  exact (pay1 _ _ _ _ i j).trans (congr (congr (congrArg₂ g (blk0 m c t i j) (blk1 m c t i j)) (blk2 m c t i j)) (blk3 m c t i j))

end Arr

/-! ### The two programs -/

theorem ref (x0 : S8x4096x1024.Idx → EReal) (x1 x2 : S4096x1024.Idx → EReal) : Cert.RMfIdeal.Read.val_main_v21 (F := Ideal) x0 x1 x2 = mg x0 x1 x2 := by
  funext y
  rw [eq_ix2 y]
  pointwise [Cert.RMfIdeal.Read.val_main_v0, Cert.RMfIdeal.Read.val_main_v1, Cert.RMfIdeal.Read.val_main_v2, Cert.RMfIdeal.Read.val_main_v3, Cert.RMfIdeal.Read.val_main_v4, Cert.RMfIdeal.Read.val_main_v5, Cert.RMfIdeal.Read.val_main_v6, Cert.RMfIdeal.Read.val_main_v7, Cert.RMfIdeal.Read.val_main_cst, Cert.RMfIdeal.Read.val_main_v8, Cert.RMfIdeal.Read.val_main_v9, Cert.RMfIdeal.Read.val_main_cst_0, Cert.RMfIdeal.Read.val_main_v10, Cert.RMfIdeal.Read.val_main_v11, Cert.RMfIdeal.Read.val_main_v12, Cert.RMfIdeal.Read.val_main_v13, Cert.RMfIdeal.Read.val_main_v14, Cert.RMfIdeal.Read.val_main_cst_1, Cert.RMfIdeal.Read.val_main_v15, Cert.RMfIdeal.Read.val_main_v16, Cert.RMfIdeal.Read.val_main_cst_2, Cert.RMfIdeal.Read.val_main_v17, Cert.RMfIdeal.Read.val_main_v18, Cert.RMfIdeal.Read.val_main_v19, Cert.RMfIdeal.Read.val_main_v20, Cert.RMfIdeal.Read.val_main_v21, mg, g]
  rfl

/-- The kernel ends with the merge in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (mg (H m c) (ZA m c) (ZB m c) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r e c => ⟨((e c).1 4).trans (arr4 m c),
    ((e c).1 0).trans (((dats m 0 c).arrAt_in 0 rfl _).trans ((A_eq m c 0).trans (V_main_arg0 m c))),
    ((e c).1 2).trans (((dats m 0 c).arrAt_in 2 rfl _).trans ((A_eq m c 2).trans (V_main_arg1 m c))),
    ((e c).1 3).trans (((dats m 0 c).arrAt_in 3 rfl _).trans ((A_eq m c 3).trans (V_main_arg2 m c)))⟩) (run_main m ρ)

/-- The reference ends with its arguments unchanged and every counter at zero. -/
theorem frame (m : (ℓ : Loc Cert.RMfIdeal.nD Cert.RMfIdeal.τ Cert.RMfIdeal.sig) → Buf (Elt Ideal) ℓ) (ρ : Dev Cert.RMfIdeal.nD → PrngReg) :
    θ_run Cert.RMfIdeal.defs (onTc (τ := Cert.RMfIdeal.τ) (Cert.RMfIdeal.main (F := Ideal))) ⟨m, fun _ => 0, ρ⟩ (fun r => (∀ c : Dev Cert.RMfIdeal.nD,
      r.2.mem ((c.tc : Thread Cert.RMfIdeal.nD Cert.RMfIdeal.τ).loc Cert.RMfIdeal.main_arg0) = m ((c.tc : Thread Cert.RMfIdeal.nD Cert.RMfIdeal.τ).loc Cert.RMfIdeal.main_arg0)
      ∧ r.2.mem ((c.tc : Thread Cert.RMfIdeal.nD Cert.RMfIdeal.τ).loc Cert.RMfIdeal.main_arg1) = m ((c.tc : Thread Cert.RMfIdeal.nD Cert.RMfIdeal.τ).loc Cert.RMfIdeal.main_arg1)
      ∧ r.2.mem ((c.tc : Thread Cert.RMfIdeal.nD Cert.RMfIdeal.τ).loc Cert.RMfIdeal.main_arg2) = m ((c.tc : Thread Cert.RMfIdeal.nD Cert.RMfIdeal.τ).loc Cert.RMfIdeal.main_arg2)) ∧ r.2.sem = fun _ => 0) :=
  (θ_run Cert.RMfIdeal.defs _ _).mono (fun r e => ⟨fun c => (e c).2, sem_eq_zero_of_no_sems (by decide) r.2⟩) (Cert.RMfIdeal.Value.run m ρ)

/-- On equal arguments the kernel and the reference leave equal results. -/
theorem equal : haveI := Cert.KMfIdeal.Gen.facts; haveI := Cert.RMfIdeal.Gen.facts
    algebraic_KMfIdeal_RMfIdeal := by
  intro m g m' g' _ ha
  refine ⟨_, kernel m g, (θ_run _ _ _).mono (fun r q c => ⟨(q c).1.trans ?_, (q c).2⟩) (Cert.RMfIdeal.Value.run m' g')⟩
  refine (Cert.RMfIdeal.Read.val_main_v21_eq _ _ _).trans ?_
  exact (ref _ _ _).trans (congr (congrArg₂ mg (ha c).1 (ha c).2.1) (ha c).2.2)

end Cert.RwMf
end
-- ==== Proof.RwLf.lean ====
/- The residual sum and its layer norm: what the kernel and the reference leave in their results. -/
module

public import proofs.«01_k».proof.Defs
public import proofs.«01_k».proof.Proof.Mm
public import proofs.«01_k».proof.Proof.Gen.KLf.Frame
public import proofs.«01_k».proof.Proof.Gen.KLfIdeal.Frame
public import proofs.«01_k».proof.Proof.Gen.RLfIdeal.Run
public import proofs.«01_k».proof.Proof.Gen.RLfIdeal.Read
public import Idealize.ShloMosaic.Lib.Pipeline.ValueKit
public import Idealize.ShloMosaic.Lib.Pipeline.ReadBack

@[expose] public section
noncomputable section
namespace Cert.RwLf
open Cert.KLfIdeal Cert.KLfIdeal.Gen Idealize.ShloMosaic Idealize.ShloMosaic.StableHlo Idealize.ShloMosaic.TcCoe Idealize.SL.Sem

/-! ### The stores of the body -/

/-- The scaled residual plus the branch. -/
def u (x y : EReal) : EReal := Ideal.ofBits .f32 0x3F9837F0#32 * x + y
/-- The mean of a row. -/
def mean (f : Fin 1024 → EReal) : EReal := Ideal.div (∑ k, f k) (Ideal.ofBits .f32 0x44800000#32)
/-- A row's layer norm at column `j`, with gain `a` and offset `b`. -/
def ln (f : Fin 1024 → EReal) (a b : EReal) (j : Fin 1024) : EReal :=
  (f j - mean f) * Ideal.rsqrt (mean (fun k => (f k - mean f) * (f k - mean f)) + Ideal.ofBits .f32 0x3727C5AC#32) * a + b

theorem pay1 (x y : S512x1024.Idx → EReal) (a b : S1x1024.Idx → EReal) (i : Fin 512) (j : Fin 1024) :
    k0_pay1 (F := Ideal) x y a b (ix2 i j) = ln (fun k => u (x (ix2 i k)) (y (ix2 i k))) (a (ix2 0 j)) (b (ix2 0 j)) j := by
  pointwise [k0_pay1, ln, mean, u]

theorem pay2 (x y : S512x1024.Idx → EReal) (a b : S1x1024.Idx → EReal) (i : Fin 512) (j : Fin 1024) :
    k0_pay2 (F := Ideal) x y a b (ix2 i j) = ln (fun k => u (x (ix2 i k)) (y (ix2 i k))) (a (ix2 0 j)) (b (ix2 0 j)) j := by
  rw [← pay1]
  pointwise [k0_pay2]

theorem ldX (x : Vec Ideal S512x1024 .f32) (h) : View.ld (Val := Elt Ideal) (e' := .f32) (S := S512x1024) x (Rect.unit ![0, 0] ![512, 1024] h) = x :=
  View.ld_unit_lit (Val := Elt Ideal) (e := .f32) (S := S512x1024) h x (by decide)
theorem ldA (x : Vec Ideal S1x1024 .f32) (h) : View.ld (Val := Elt Ideal) (e' := .f32) (S := S1x1024) x (Rect.unit ![0, 0] ![1, 1024] h) = x :=
  View.ld_unit_lit (Val := Elt Ideal) (e := .f32) (S := S1x1024) h x (by decide)

theorem out4 (x0 x1 : Vec Ideal S512x1024 .f32) (x2 x3 : Vec Ideal S1x1024 .f32) : out0_4 (F := Ideal) x0 x1 x2 x3 = k0_pay1 (F := Ideal) x0 x1 x2 x3 := by
  unfold out0_4
  rw [View.canon_unit_zero (by decide)]
  exact congr (congr (congrArg₂ (k0_pay1 (F := Ideal)) (ldX x0 _) (ldX x1 _)) (ldA x2 _)) (ldA x3 _)
theorem out5 (x0 x1 : Vec Ideal S512x1024 .f32) (x2 x3 : Vec Ideal S1x1024 .f32) : out0_5 (F := Ideal) x0 x1 x2 x3 = k0_pay2 (F := Ideal) x0 x1 x2 x3 := by
  unfold out0_5
  rw [View.canon_unit_zero (by decide)]
  exact congr (congr (congrArg₂ (k0_pay2 (F := Ideal)) (ldX x0 _) (ldX x1 _)) (ldA x2 _)) (ldA x3 _)

/-! ### The tiles -/

/-- Row `i` of the tile of point `n`. -/
abbrev row (n : ℕ) (i : Fin 512) : Fin 4096 := Cert.Mm.pos 4096 (by decide) (512 * n + i.val)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

section Arr
variable (m : (ℓ : Loc nD τ sig) → Buf (Elt Ideal) ℓ) (c : Dev nD)

/-- The arrays the kernel reads: the residual stream, the branch added to it, the gain and the offset. -/
abbrev X : S4096x1024.Idx → EReal := m ((c : Thread nD τ).loc main_arg0)
abbrev Y : S4096x1024.Idx → EReal := m ((c : Thread nD τ).loc main_arg1)
abbrev A : S1x1024.Idx → EReal := m ((c : Thread nD τ).loc main_arg2)
abbrev B : S1x1024.Idx → EReal := m ((c : Thread nD τ).loc main_arg3)

theorem blk0 (t : Fin cfg0.N) (i : Fin 512) (j : Fin 1024) : (iblk m c 0 t : S512x1024.Idx → EReal) (ix2 i j) = X m c (ix2 (row t.val i) j) := by
  have hN : t.val < 8 := lt_of_lt_of_eq t.isLt N_0
  blk_ext [iblk, idx0 t, row]
theorem blk1 (t : Fin cfg0.N) (i : Fin 512) (j : Fin 1024) : (iblk m c 1 t : S512x1024.Idx → EReal) (ix2 i j) = Y m c (ix2 (row t.val i) j) := by
  have hN : t.val < 8 := lt_of_lt_of_eq t.isLt N_0
  blk_ext [iblk, idx1 t, row]
theorem blk2 (t : Fin cfg0.N) (j : Fin 1024) : (iblk m c 2 t : S1x1024.Idx → EReal) (ix2 0 j) = A m c (ix2 0 j) := by
  blk_ext [iblk, idx2 t]
theorem blk3 (t : Fin cfg0.N) (j : Fin 1024) : (iblk m c 3 t : S1x1024.Idx → EReal) (ix2 0 j) = B m c (ix2 0 j) := by
  blk_ext [iblk, idx3 t]

/-- The layer norm of the rows of the residual sum. -/
def lns (X Y : S4096x1024.Idx → EReal) (A B : S1x1024.Idx → EReal) : S4096x1024.Idx → EReal :=
  fun y => ln (fun k => u (X (ix2 (y 0) k)) (Y (ix2 (y 0) k))) (A (ix2 0 (y 1))) (B (ix2 0 (y 1))) (y 1)

theorem at_point (t : Fin cfg0.N) (i : Fin 512) (j : Fin 1024) :
    ln (fun k => u ((iblk m c 0 t : S512x1024.Idx → EReal) (ix2 i k)) ((iblk m c 1 t : S512x1024.Idx → EReal) (ix2 i k))) ((iblk m c 2 t : S1x1024.Idx → EReal) (ix2 0 j)) ((iblk m c 3 t : S1x1024.Idx → EReal) (ix2 0 j)) j
      = lns (X m c) (Y m c) (A m c) (B m c) (ix2 (row t.val i) j) :=
  congrFun (congr (congr (congrArg ln (funext fun k => congrArg₂ u (blk0 m c t i k) (blk1 m c t i k))) (blk2 m c t j)) (blk3 m c t j)) j

theorem arr4 : (dats m 0 c).arrAt 4 cfg0.N = (lns (X m c) (Y m c) (A m c) (B m c) : S4096x1024.Idx → EReal) := by
  refine (dats m 0 c).arrAt_eq_of_covers 4 _ (by decide +kernel) (fun t hf y => ?_)
  blk_simp
  rw [after0_4, out4]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 4).blk t).view.emb (ix2 i j) = (ix2 (row t.val i) j : S4096x1024.Idx) := by
    blk_ext [idx4 t, row]
  rw [e]
  exact (pay1 _ _ _ _ i j).trans (at_point m c t i j)

theorem arr5 : (dats m 0 c).arrAt 5 cfg0.N = (lns (X m c) (Y m c) (A m c) (B m c) : S4096x1024.Idx → EReal) := by
  refine (dats m 0 c).arrAt_eq_of_covers 5 _ (by decide +kernel) (fun t hf y => ?_)
  blk_simp
  rw [after0_5, out5]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 5).blk t).view.emb (ix2 i j) = (ix2 (row t.val i) j : S4096x1024.Idx) := by
    blk_ext [idx5 t, row]
  rw [e]
  exact (pay2 _ _ _ _ i j).trans (at_point m c t i j)

end Arr

/-! ### The two programs -/

theorem ref (x0 x1 : S4096x1024.Idx → EReal) (x2 x3 : S1x1024.Idx → EReal) : Cert.RLfIdeal.Read.val_main_v24 (F := Ideal) x0 x1 x2 x3 = lns x0 x1 x2 x3 := by
  funext y
  rw [eq_ix2 y]
  pointwise [Cert.RLfIdeal.Read.val_main_cst, Cert.RLfIdeal.Read.val_main_v0, Cert.RLfIdeal.Read.val_main_v1, Cert.RLfIdeal.Read.val_main_v2, Cert.RLfIdeal.Read.val_main_cst_0, Cert.RLfIdeal.Read.val_main_v3, Cert.RLfIdeal.Read.val_main_v4, Cert.RLfIdeal.Read.val_main_cst_1, Cert.RLfIdeal.Read.val_main_v5, Cert.RLfIdeal.Read.val_main_v6, Cert.RLfIdeal.Read.val_main_v7, Cert.RLfIdeal.Read.val_main_v8, Cert.RLfIdeal.Read.val_main_v9, Cert.RLfIdeal.Read.val_main_cst_2, Cert.RLfIdeal.Read.val_main_v10, Cert.RLfIdeal.Read.val_main_v11, Cert.RLfIdeal.Read.val_main_cst_3, Cert.RLfIdeal.Read.val_main_v12, Cert.RLfIdeal.Read.val_main_v13, Cert.RLfIdeal.Read.val_main_v14, Cert.RLfIdeal.Read.val_main_v15, Cert.RLfIdeal.Read.val_main_cst_4, Cert.RLfIdeal.Read.val_main_v16, Cert.RLfIdeal.Read.val_main_v17, Cert.RLfIdeal.Read.val_main_v18, Cert.RLfIdeal.Read.val_main_v19, Cert.RLfIdeal.Read.val_main_v20, Cert.RLfIdeal.Read.val_main_v21, Cert.RLfIdeal.Read.val_main_v22, Cert.RLfIdeal.Read.val_main_v23, Cert.RLfIdeal.Read.val_main_v24, lns, ln, mean, u]

theorem ref' (x0 x1 : S4096x1024.Idx → EReal) (x2 x3 : S1x1024.Idx → EReal) : Cert.RLfIdeal.Read.val_main_v25 (F := Ideal) x0 x1 x2 x3 = lns x0 x1 x2 x3 := by
  rw [← ref]
  funext y
  rw [eq_ix2 y]
  pointwise [Cert.RLfIdeal.Read.val_main_v25]

/-- The kernel ends with the layer norm in both results and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (lns (X m c) (Y m c) (A m c) (B m c) : S4096x1024.Idx → EReal)
      ∧ r.2.mem ((c.tc : Thread nD τ).loc main_v0_1) = (lns (X m c) (Y m c) (A m c) (B m c) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r e c => ⟨((e c).1 4).trans (arr4 m c), ((e c).1 5).trans (arr5 m c),
    ((e c).1 0).trans (((dats m 0 c).arrAt_in 0 rfl _).trans ((A_eq m c 0).trans (V_main_arg0 m c))),
    ((e c).1 1).trans (((dats m 0 c).arrAt_in 1 rfl _).trans ((A_eq m c 1).trans (V_main_arg1 m c))),
    ((e c).1 2).trans (((dats m 0 c).arrAt_in 2 rfl _).trans ((A_eq m c 2).trans (V_main_arg2 m c))),
    ((e c).1 3).trans (((dats m 0 c).arrAt_in 3 rfl _).trans ((A_eq m c 3).trans (V_main_arg3 m c)))⟩) (run_main m ρ)

/-- The reference ends with its arguments unchanged and every counter at zero. -/
theorem frame (m : (ℓ : Loc Cert.RLfIdeal.nD Cert.RLfIdeal.τ Cert.RLfIdeal.sig) → Buf (Elt Ideal) ℓ) (ρ : Dev Cert.RLfIdeal.nD → PrngReg) :
    θ_run Cert.RLfIdeal.defs (onTc (τ := Cert.RLfIdeal.τ) (Cert.RLfIdeal.main (F := Ideal))) ⟨m, fun _ => 0, ρ⟩ (fun r => (∀ c : Dev Cert.RLfIdeal.nD,
      r.2.mem ((c.tc : Thread Cert.RLfIdeal.nD Cert.RLfIdeal.τ).loc Cert.RLfIdeal.main_arg0) = m ((c.tc : Thread Cert.RLfIdeal.nD Cert.RLfIdeal.τ).loc Cert.RLfIdeal.main_arg0)
      ∧ r.2.mem ((c.tc : Thread Cert.RLfIdeal.nD Cert.RLfIdeal.τ).loc Cert.RLfIdeal.main_arg1) = m ((c.tc : Thread Cert.RLfIdeal.nD Cert.RLfIdeal.τ).loc Cert.RLfIdeal.main_arg1)
      ∧ r.2.mem ((c.tc : Thread Cert.RLfIdeal.nD Cert.RLfIdeal.τ).loc Cert.RLfIdeal.main_arg2) = m ((c.tc : Thread Cert.RLfIdeal.nD Cert.RLfIdeal.τ).loc Cert.RLfIdeal.main_arg2)
      ∧ r.2.mem ((c.tc : Thread Cert.RLfIdeal.nD Cert.RLfIdeal.τ).loc Cert.RLfIdeal.main_arg3) = m ((c.tc : Thread Cert.RLfIdeal.nD Cert.RLfIdeal.τ).loc Cert.RLfIdeal.main_arg3)) ∧ r.2.sem = fun _ => 0) :=
  (θ_run Cert.RLfIdeal.defs _ _).mono (fun r e => ⟨fun c => (e c).2.2, sem_eq_zero_of_no_sems (by decide) r.2⟩) (Cert.RLfIdeal.Value.run m ρ)

/-- On equal arguments the kernel and the reference leave equal results. -/
theorem equal : haveI := Cert.KLfIdeal.Gen.facts; haveI := Cert.RLfIdeal.Gen.facts
    algebraic_KLfIdeal_RLfIdeal := by
  intro m g m' g' _ ha
  refine ⟨_, _, kernel m g, (θ_run _ _ _).mono (fun r q c => ⟨(q c).1.trans ?_, (q c).2.1.trans ?_, (q c).2.2⟩) (Cert.RLfIdeal.Value.run m' g')⟩
  · refine (Cert.RLfIdeal.Read.val_main_v24_eq _ _ _ _).trans ?_
    exact (ref _ _ _ _).trans (congr (congr (congrArg₂ lns (ha c).1 (ha c).2.1) (ha c).2.2.1) (ha c).2.2.2)
  · refine (Cert.RLfIdeal.Read.val_main_v25_eq _ _ _ _).trans ?_
    exact (ref' _ _ _ _).trans (congr (congr (congrArg₂ lns (ha c).1 (ha c).2.1) (ha c).2.2.1) (ha c).2.2.2)

end Cert.RwLf
end
-- ==== Proof.RwCf.lean ====
/- The causal depthwise convolution with the gate behind it: what the kernel and the reference leave in their results. -/
module

public import proofs.«01_k».proof.Defs
public import proofs.«01_k».proof.Proof.Mm
public import proofs.«01_k».proof.Proof.Gen.KCf.Frame
public import proofs.«01_k».proof.Proof.Gen.KCfIdeal.Frame
public import proofs.«01_k».proof.Proof.Gen.RCfIdeal.Run
public import proofs.«01_k».proof.Proof.Gen.RCfIdeal.Read
public import Idealize.ShloMosaic.Lib.Pipeline.ValueKit
public import Idealize.ShloMosaic.Lib.Pipeline.ReadBack

@[expose] public section
noncomputable section
namespace Cert.RwCf
open Cert.KCfIdeal Cert.KCfIdeal.Gen Idealize.ShloMosaic Idealize.ShloMosaic.StableHlo Idealize.ShloMosaic.TcCoe Idealize.SL.Sem

/-! ### The stores of the body -/

/-- A choice by comparing two small numbers. -/
theorem sel (n k : ℕ) (hn : n < 4096) (hk : k < 4096) (a b : EReal) : Scalar.select (IntOp.cmpi CmpIPredicate.eq (BitVec.ofNat 32 n) (BitVec.ofNat 32 k)) a b = if n = k then a else b := by
  have e : (BitVec.ofNat 32 n = BitVec.ofNat 32 k) ↔ n = k := by
    refine ⟨fun h => ?_, fun h => congrArg _ h⟩
    have := congrArg BitVec.toNat h
    simpa [BitVec.toNat_ofNat, Nat.mod_eq_of_lt (show n < 4294967296 by omega), Nat.mod_eq_of_lt (show k < 4294967296 by omega)] using this
  by_cases h : n = k
  · rw [if_pos h, h]
    simp [Scalar.select, IntOp.cmpi]
  · rw [if_neg h]
    have := mt e.mp h
    simp [Scalar.select, IntOp.cmpi, beq_eq_false_iff_ne.mpr this]

/-- Row `k` of an array with two rows of zeros in front. -/
def ext (X : S4096x2816.Idx → EReal) (k : ℕ) (j : Fin 2816) : EReal := if h : 2 ≤ k ∧ k < 4098 then X (ix2 ⟨k - 2, by omega⟩ j) else 0

/-- The convolution at row `k`: the two rows before and this one, each by its tap, and the offset. -/
def tap (X : S4096x2816.Idx → EReal) (w : S3x2816.Idx → EReal) (b : S1x2816.Idx → EReal) (k : ℕ) (j : Fin 2816) : EReal :=
  w (ix2 0 j) * ext X k j + w (ix2 1 j) * ext X (k + 1) j + w (ix2 2 j) * ext X (k + 2) j + b (ix2 0 j)

/-- The gelu of a value, in its tanh form, times the value it gates. -/
def gate (v g : EReal) : EReal :=
  Ideal.ofBits .f32 0x3F000000#32 * v * (1 + Ideal.tanh (Ideal.ofBits .f32 0x3F4C422A#32 * (v + ((8943 / 200000 : ℝ) : EReal) * v * v * v))) * g

theorem named_c : (Named.named κ "gelu_c" 0x3D372713#32 : Ideal .f32) = ((8943 / 200000 : ℝ) : EReal) := rfl

theorem pay1 (g v : S256x2816.Idx → EReal) (r : Fin 256) (j : Fin 2816) :
    k0_pay1 (F := Ideal) g v (ix2 r j) = gate (v (ix2 r j)) (g (ix2 r j)) := by
  pointwise [k0_pay1, gate, named_c]

theorem pay2 (i : grid0.Coords) (x : S256x2816.Idx → EReal) (h : S8x2816.Idx → EReal) (w : S3x2816.Idx → EReal) (b : S1x2816.Idx → EReal) (X : S4096x2816.Idx → EReal) (n : ℕ) (hi : (i 0).val = n) (hn : n < 16) (j : Fin 2816)
    (hx : ∀ r : Fin 256, x (ix2 r j) = ext X (256 * n + r.val + 2) j) (h6 : (if n = 0 then 0 else h (ix2 6 j)) = ext X (256 * n) j) (h7 : (if n = 0 then 0 else h (ix2 7 j)) = ext X (256 * n + 1) j) (r : Fin 256) :
    k0_pay2 (F := Ideal) i x h w b (ix2 r j) = tap X w b (256 * n + r.val) j := by
  pointwise [k0_pay2]
  have hr := r.isLt
  have s0 : ∀ a b : EReal, Scalar.select (Scalar.cmpi CmpIPredicate.eq (BitVec.ofNat 32 (i 0).val) 0#32) a b = if n = 0 then a else b := fun a b => by
    rw [hi]
    exact sel n 0 (by omega) (by omega) a b
  rw [s0, s0, h6, h7, sel r.val 0 (by omega) (by omega), sel r.val 1 (by omega) (by omega), sel r.val 0 (by omega) (by omega), hx, hx, hx]
  unfold tap
  refine congrArg (· + _) (congrArg (· + _) (congrArg₂ _ (congrArg _ ?_) (congrArg _ ?_)))
  · by_cases h0 : r.val = 0
    · rw [if_pos h0]
      exact congrArg (fun k => ext X k j) (by omega)
    · rw [if_neg h0]
      by_cases h1 : r.val = 1
      · rw [if_pos h1]
        exact congrArg (fun k => ext X k j) (by omega)
      · rw [if_neg h1]
        exact congrArg (fun k => ext X k j) (by dsimp only; omega)
  · by_cases h0 : r.val = 0
    · rw [if_pos h0]
      exact congrArg (fun k => ext X k j) (by omega)
    · rw [if_neg h0]
      exact congrArg (fun k => ext X k j) (by dsimp only; omega)

theorem ldX (x : Vec Ideal S256x2816 .f32) (h) : View.ld (Val := Elt Ideal) (e' := .f32) (S := S256x2816) x (Rect.unit ![0, 0] ![256, 2816] h) = x :=
  View.ld_unit_lit (Val := Elt Ideal) (e := .f32) (S := S256x2816) h x (by decide)
theorem ldH (x : Vec Ideal S8x2816 .f32) (h) : View.ld (Val := Elt Ideal) (e' := .f32) (S := S8x2816) x (Rect.unit ![0, 0] ![8, 2816] h) = x :=
  View.ld_unit_lit (Val := Elt Ideal) (e := .f32) (S := S8x2816) h x (by decide)
theorem ldW (x : Vec Ideal S3x2816 .f32) (h) : View.ld (Val := Elt Ideal) (e' := .f32) (S := S3x2816) x (Rect.unit ![0, 0] ![3, 2816] h) = x :=
  View.ld_unit_lit (Val := Elt Ideal) (e := .f32) (S := S3x2816) h x (by decide)
theorem ldB (x : Vec Ideal S1x2816 .f32) (h) : View.ld (Val := Elt Ideal) (e' := .f32) (S := S1x2816) x (Rect.unit ![0, 0] ![1, 2816] h) = x :=
  View.ld_unit_lit (Val := Elt Ideal) (e := .f32) (S := S1x2816) h x (by decide)

theorem out5 (i : grid0.Coords) (x0 : Vec Ideal S256x2816 .f32) (x1 : Vec Ideal S8x2816 .f32) (x2 : Vec Ideal S256x2816 .f32) (x3 : Vec Ideal S3x2816 .f32) (x4 : Vec Ideal S1x2816 .f32) :
    out0_5 (F := Ideal) i x0 x1 x2 x3 x4 = k0_pay1 (F := Ideal) x2 (k0_pay2 (F := Ideal) i x0 x1 x3 x4) := by
  unfold out0_5
  rw [View.canon_unit_zero (by decide)]
  exact congrArg₂ (k0_pay1 (F := Ideal)) (ldX x2 _) (congr (congr (congrArg₂ (k0_pay2 (F := Ideal) i) (ldX x0 _) (ldH x1 _)) (ldW x3 _)) (ldB x4 _))

/-! ### The tiles -/

/-- Row `i` of the tile of point `n`. -/
abbrev row (n : ℕ) (i : Fin 256) : Fin 4096 := Cert.Mm.pos 4096 (by decide) (256 * n + i.val)
/-- Row `i` of the block of rows in front of the tile of point `n`. -/
abbrev rowH (n : ℕ) (i : Fin 8) : Fin 4096 := Cert.Mm.pos 4096 (by decide) (8 * (32 * n - 1) + i.val)

theorem pt : ∀ t : Fin cfg0.N, ((grid0.coords t) 0).val = t.val := by decide +kernel
theorem idx0 : ∀ t : Fin cfg0.N, win0_0.index t = ![t.val, 0] := by decide +kernel
theorem idx1 : ∀ t : Fin cfg0.N, win0_1.index t = ![32 * t.val - 1, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

section Arr
variable (m : (ℓ : Loc nD τ sig) → Buf (Elt Ideal) ℓ) (c : Dev nD)

/-- The arrays the kernel reads: the input, the values the gate multiplies, the taps and the offset. -/
abbrev X : S4096x2816.Idx → EReal := m ((c : Thread nD τ).loc main_arg0)
abbrev Q : S4096x2816.Idx → EReal := m ((c : Thread nD τ).loc main_arg1)
abbrev W : S3x2816.Idx → EReal := m ((c : Thread nD τ).loc main_arg2)
abbrev B : S1x2816.Idx → EReal := m ((c : Thread nD τ).loc main_arg3)

theorem blk0 (t : Fin cfg0.N) (i : Fin 256) (j : Fin 2816) : (iblk m c 0 t : S256x2816.Idx → EReal) (ix2 i j) = X m c (ix2 (row t.val i) j) := by
  have hN : t.val < 16 := lt_of_lt_of_eq t.isLt N_0
  blk_ext [iblk, idx0 t, row]
theorem blk1 (t : Fin cfg0.N) (i : Fin 8) (j : Fin 2816) : (iblk m c 1 t : S8x2816.Idx → EReal) (ix2 i j) = X m c (ix2 (rowH t.val i) j) := by
  have hN : t.val < 16 := lt_of_lt_of_eq t.isLt N_0
  blk_ext [iblk, idx1 t, rowH]
theorem blk2 (t : Fin cfg0.N) (i : Fin 256) (j : Fin 2816) : (iblk m c 2 t : S256x2816.Idx → EReal) (ix2 i j) = Q m c (ix2 (row t.val i) j) := by
  have hN : t.val < 16 := lt_of_lt_of_eq t.isLt N_0
  blk_ext [iblk, idx2 t, row]
theorem blk3 (t : Fin cfg0.N) : (iblk m c 3 t : S3x2816.Idx → EReal) = W m c := by
  funext y
  obtain ⟨i, j, rfl⟩ : ∃ (i : Fin 3) (j : Fin 2816), y = ix2 i j := ⟨y 0, y 1, eq_ix2 y⟩
  blk_ext [iblk, idx3 t]
theorem blk4 (t : Fin cfg0.N) : (iblk m c 4 t : S1x2816.Idx → EReal) = B m c := by
  funext y
  obtain ⟨i, j, rfl⟩ : ∃ (i : Fin 1) (j : Fin 2816), y = ix2 i j := ⟨y 0, y 1, eq_ix2 y⟩
  blk_ext [iblk, idx4 t]

theorem ext_row (X : S4096x2816.Idx → EReal) (k : ℕ) (r : Fin 4096) (j : Fin 2816) (h : r.val + 2 = k) : X (ix2 r j) = ext X k j := by
  subst h
  have := r.isLt
  unfold ext
  rw [dif_pos (by omega)]
  rfl

/-- The gated convolution. -/
def gc (X Q : S4096x2816.Idx → EReal) (w : S3x2816.Idx → EReal) (b : S1x2816.Idx → EReal) : S4096x2816.Idx → EReal :=
  fun y => gate (tap X w b (y 0).val (y 1)) (Q (ix2 (y 0) (y 1)))

theorem halo (t : Fin cfg0.N) (q : Fin 8) (hq : 6 ≤ q.val) (j : Fin 2816) :
    (if t.val = 0 then (0 : EReal) else (iblk m c 1 t : S8x2816.Idx → EReal) (ix2 q j)) = ext (X m c) (256 * t.val + (q.val - 6)) j := by
  have hN : t.val < 16 := lt_of_lt_of_eq t.isLt N_0
  have := q.isLt
  by_cases h : t.val = 0
  · rw [if_pos h]
    unfold ext
    rw [dif_neg (by omega)]
  · rw [if_neg h]
    refine (blk1 m c t q j).trans (ext_row _ _ _ _ ?_)
    show (8 * (32 * t.val - 1) + q.val) % 4096 + 2 = _
    rw [Nat.mod_eq_of_lt (by omega)]
    omega

theorem at_point (t : Fin cfg0.N) (i : Fin 256) (j : Fin 2816) :
    k0_pay1 (F := Ideal) (iblk m c 2 t) (k0_pay2 (F := Ideal) (grid0.coords t) (iblk m c 0 t) (iblk m c 1 t) (iblk m c 3 t) (iblk m c 4 t)) (ix2 i j) = gc (X m c) (Q m c) (W m c) (B m c) (ix2 (row t.val i) j) := by
  have hN : t.val < 16 := lt_of_lt_of_eq t.isLt N_0
  rw [blk3, blk4]
  refine (pay1 _ _ i j).trans (congrArg₂ gate ?_ (blk2 m c t i j))
  refine (pay2 (grid0.coords t) _ _ _ _ (X m c) t.val (pt t) hN j (fun r => (blk0 m c t r j).trans (ext_row _ _ _ _ ?_)) (halo m c t 6 (by decide) j) (halo m c t 7 (by decide) j) i).trans ?_
  · have := r.isLt
    exact congrArg (· + 2) (Nat.mod_eq_of_lt (show 256 * t.val + r.val < 4096 by omega))
  · have := i.isLt
    exact congrArg (fun k => tap (X m c) (W m c) (B m c) k j) (Nat.mod_eq_of_lt (show 256 * t.val + i.val < 4096 by omega)).symm

theorem arr5 : (dats m 0 c).arrAt 5 cfg0.N = (gc (X m c) (Q m c) (W m c) (B m c) : S4096x2816.Idx → EReal) := by
  refine (dats m 0 c).arrAt_eq_of_covers 5 _ (by decide +kernel) (fun t hf y => ?_)
  blk_simp
  rw [after0_5, out5]
  obtain ⟨i, j, rfl⟩ : ∃ (i : Fin 256) (j : Fin 2816), y = ix2 i j := ⟨y 0, y 1, eq_ix2 y⟩
  have hN : t.val < 16 := lt_of_lt_of_eq t.isLt N_0
  have e : ((cfg0.win 5).blk t).view.emb (ix2 i j) = (ix2 (row t.val i) j : S4096x2816.Idx) := by
    blk_ext [idx5 t, row]
  rw [e]
  exact at_point m c t i j

end Arr

/-! ### The two programs -/

theorem word_num : Ideal.ofBits .f32 0x472EAB00#32 = ((44715 : ℝ) : EReal) := by
  simp [Ideal.ofBits, Ideal.ieee]; norm_num [← EReal.coe_mul]
theorem word_den : Ideal.ofBits .f32 0x49742400#32 = ((1000000 : ℝ) : EReal) := by
  simp [Ideal.ofBits, Ideal.ieee]; norm_num [← EReal.coe_mul]

/-- The cubic term, written as a quotient of whole numbers. -/
theorem cubic (v : EReal) : Ideal.div (Ideal.ofBits .f32 0x472EAB00#32 * (v * v * v)) (Ideal.ofBits .f32 0x49742400#32) = ((8943 / 200000 : ℝ) : EReal) * v * v * v := by
  rw [word_num, word_den]
  unfold Ideal.div
  rw [if_neg (by exact_mod_cast (by norm_num : (1000000 : ℝ) ≠ 0)), ← EReal.coe_inv, mul_right_comm, ← EReal.coe_mul, ← mul_assoc, ← mul_assoc]
  norm_num

theorem conv (x0 : S4096x2816.Idx → EReal) (x2 : S3x2816.Idx → EReal) (x3 : S1x2816.Idx → EReal) (r : Fin 4096) (j : Fin 2816) :
    Cert.RCfIdeal.Read.val_main_v17 (F := Ideal) x0 x2 x3 (ix2 r j) = tap x0 x2 x3 r.val j := by
  pointwise [Cert.RCfIdeal.Read.val_main_cst, Cert.RCfIdeal.Read.val_main_v0, Cert.RCfIdeal.Read.val_main_v1, Cert.RCfIdeal.Read.val_main_v2, Cert.RCfIdeal.Read.val_main_v3, Cert.RCfIdeal.Read.val_main_v4, Cert.RCfIdeal.Read.val_main_v5, Cert.RCfIdeal.Read.val_main_v6, Cert.RCfIdeal.Read.val_main_v7, Cert.RCfIdeal.Read.val_main_v8, Cert.RCfIdeal.Read.val_main_v9, Cert.RCfIdeal.Read.val_main_v10, Cert.RCfIdeal.Read.val_main_v11, Cert.RCfIdeal.Read.val_main_v12, Cert.RCfIdeal.Read.val_main_v13, Cert.RCfIdeal.Read.val_main_v14, Cert.RCfIdeal.Read.val_main_v15, Cert.RCfIdeal.Read.val_main_v16, Cert.RCfIdeal.Read.val_main_v17, Cert.RCfIdeal.Read.val_main_cst_0, Cert.RCfIdeal.Read.val_main_cst_1, Cert.RCfIdeal.Read.val_main_cst_2, Cert.RCfIdeal.Read.val_main_cst_3, Cert.RCfIdeal.Read.val_main_cst_4]
  unfold tap
  have hr := r.isLt
  refine congrArg (· + _) (congrArg₂ _ (congrArg₂ _ (congrArg _ ?_) (congrArg _ ?_)) (congrArg _ (ext_row _ _ _ _ rfl)))
  · by_cases h : r.val < 2
    · rw [dif_pos h]
      unfold ext
      rw [dif_neg (by omega)]
    · rw [dif_neg h]
      exact ext_row _ _ _ _ (by dsimp only; omega)
  · by_cases h : 1 + r.val < 2
    · rw [dif_pos h]
      unfold ext
      rw [dif_neg (by omega)]
    · rw [dif_neg h]
      exact ext_row _ _ _ _ (by dsimp only; omega)

theorem ref (x0 x1 : S4096x2816.Idx → EReal) (x2 : S3x2816.Idx → EReal) (x3 : S1x2816.Idx → EReal) : Cert.RCfIdeal.Read.val_main_v34 (F := Ideal) x0 x1 x2 x3 = gc x0 x1 x2 x3 := by
  funext y
  obtain ⟨r, j, rfl⟩ : ∃ (r : Fin 4096) (j : Fin 2816), y = ix2 r j := ⟨y 0, y 1, eq_ix2 y⟩
  pointwise [Cert.RCfIdeal.Read.val_main_cst, Cert.RCfIdeal.Read.val_main_v18, Cert.RCfIdeal.Read.val_main_v19, Cert.RCfIdeal.Read.val_main_cst_0, Cert.RCfIdeal.Read.val_main_v20, Cert.RCfIdeal.Read.val_main_v21, Cert.RCfIdeal.Read.val_main_cst_1, Cert.RCfIdeal.Read.val_main_v22, Cert.RCfIdeal.Read.val_main_v23, Cert.RCfIdeal.Read.val_main_v24, Cert.RCfIdeal.Read.val_main_cst_2, Cert.RCfIdeal.Read.val_main_v25, Cert.RCfIdeal.Read.val_main_v26, Cert.RCfIdeal.Read.val_main_v27, Cert.RCfIdeal.Read.val_main_cst_3, Cert.RCfIdeal.Read.val_main_v28, Cert.RCfIdeal.Read.val_main_v29, Cert.RCfIdeal.Read.val_main_cst_4, Cert.RCfIdeal.Read.val_main_v30, Cert.RCfIdeal.Read.val_main_v31, Cert.RCfIdeal.Read.val_main_v32, Cert.RCfIdeal.Read.val_main_v33, Cert.RCfIdeal.Read.val_main_v34]
  rw [cubic, conv]
  show _ = gate (tap x0 x2 x3 r.val j) (x1 (ix2 r j))
  unfold gate
  rw [← mul_assoc, mul_comm (tap x0 x2 x3 r.val j) (Ideal.ofBits _ _)]

/-- The kernel ends with the gated convolution in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (gc (X m c) (Q m c) (W m c) (B m c) : S4096x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r e c => ⟨((e c).1 5).trans (arr5 m c),
    ((e c).1 0).trans (((dats m 0 c).arrAt_in 0 rfl _).trans ((A_eq m c 0).trans (V_main_arg0 m c))),
    ((e c).1 2).trans (((dats m 0 c).arrAt_in 2 rfl _).trans ((A_eq m c 2).trans (V_main_arg1 m c))),
    ((e c).1 3).trans (((dats m 0 c).arrAt_in 3 rfl _).trans ((A_eq m c 3).trans (V_main_arg2 m c))),
    ((e c).1 4).trans (((dats m 0 c).arrAt_in 4 rfl _).trans ((A_eq m c 4).trans (V_main_arg3 m c)))⟩) (run_main m ρ)

/-- The reference ends with its arguments unchanged and every counter at zero. -/
theorem frame (m : (ℓ : Loc Cert.RCfIdeal.nD Cert.RCfIdeal.τ Cert.RCfIdeal.sig) → Buf (Elt Ideal) ℓ) (ρ : Dev Cert.RCfIdeal.nD → PrngReg) :
    θ_run Cert.RCfIdeal.defs (onTc (τ := Cert.RCfIdeal.τ) (Cert.RCfIdeal.main (F := Ideal))) ⟨m, fun _ => 0, ρ⟩ (fun r => (∀ c : Dev Cert.RCfIdeal.nD,
      r.2.mem ((c.tc : Thread Cert.RCfIdeal.nD Cert.RCfIdeal.τ).loc Cert.RCfIdeal.main_arg0) = m ((c.tc : Thread Cert.RCfIdeal.nD Cert.RCfIdeal.τ).loc Cert.RCfIdeal.main_arg0)
      ∧ r.2.mem ((c.tc : Thread Cert.RCfIdeal.nD Cert.RCfIdeal.τ).loc Cert.RCfIdeal.main_arg1) = m ((c.tc : Thread Cert.RCfIdeal.nD Cert.RCfIdeal.τ).loc Cert.RCfIdeal.main_arg1)
      ∧ r.2.mem ((c.tc : Thread Cert.RCfIdeal.nD Cert.RCfIdeal.τ).loc Cert.RCfIdeal.main_arg2) = m ((c.tc : Thread Cert.RCfIdeal.nD Cert.RCfIdeal.τ).loc Cert.RCfIdeal.main_arg2)
      ∧ r.2.mem ((c.tc : Thread Cert.RCfIdeal.nD Cert.RCfIdeal.τ).loc Cert.RCfIdeal.main_arg3) = m ((c.tc : Thread Cert.RCfIdeal.nD Cert.RCfIdeal.τ).loc Cert.RCfIdeal.main_arg3)) ∧ r.2.sem = fun _ => 0) :=
  (θ_run Cert.RCfIdeal.defs _ _).mono (fun r e => ⟨fun c => (e c).2, sem_eq_zero_of_no_sems (by decide) r.2⟩) (Cert.RCfIdeal.Value.run m ρ)

/-- On equal arguments the kernel and the reference leave equal results. -/
theorem equal : haveI := Cert.KCfIdeal.Gen.facts; haveI := Cert.RCfIdeal.Gen.facts
    algebraic_KCfIdeal_RCfIdeal := by
  intro m g m' g' _ ha
  refine ⟨_, kernel m g, (θ_run _ _ _).mono (fun r q c => ⟨(q c).1.trans ?_, (q c).2⟩) (Cert.RCfIdeal.Value.run m' g')⟩
  refine (Cert.RCfIdeal.Read.val_main_v34_eq _ _).trans ?_
  exact (ref _ _ _ _).trans (congr (congr (congrArg₂ gc (ha c).1 (ha c).2.1) (ha c).2.2.1) (ha c).2.2.2)

end Cert.RwCf
end
-- ==== Proof.RwCb.lean ====
/- The gradient through the causal depthwise convolution: what the kernel and the reference leave in their results. -/
module

public import proofs.«01_k».proof.Defs
public import proofs.«01_k».proof.Proof.Mm
public import proofs.«01_k».proof.Proof.Gen.KCb.Frame
public import proofs.«01_k».proof.Proof.Gen.KCbIdeal.Frame
public import proofs.«01_k».proof.Proof.Gen.RCbIdeal.Run
public import proofs.«01_k».proof.Proof.Gen.RCbIdeal.Read
public import Idealize.ShloMosaic.Lib.Pipeline.ValueKit
public import Idealize.ShloMosaic.Lib.Pipeline.ReadBack

@[expose] public section
noncomputable section
namespace Cert.RwCb
open Cert.KCbIdeal Cert.KCbIdeal.Gen Idealize.ShloMosaic Idealize.ShloMosaic.StableHlo Idealize.ShloMosaic.TcCoe Idealize.SL.Sem

/-! ### The store of the body -/

/-- A choice by comparing two small numbers. -/
theorem sel (n k : ℕ) (hn : n < 4096) (hk : k < 4096) (a b : EReal) : Scalar.select (IntOp.cmpi CmpIPredicate.eq (BitVec.ofNat 32 n) (BitVec.ofNat 32 k)) a b = if n = k then a else b := by
  have e : (BitVec.ofNat 32 n = BitVec.ofNat 32 k) ↔ n = k := by
    refine ⟨fun h => ?_, fun h => congrArg _ h⟩
    have := congrArg BitVec.toNat h
    simpa [BitVec.toNat_ofNat, Nat.mod_eq_of_lt (show n < 4294967296 by omega), Nat.mod_eq_of_lt (show k < 4294967296 by omega)] using this
  by_cases h : n = k
  · rw [if_pos h, h]
    simp [Scalar.select, IntOp.cmpi]
  · rw [if_neg h]
    have := mt e.mp h
    simp [Scalar.select, IntOp.cmpi, beq_eq_false_iff_ne.mpr this]

/-- Row `k` of an array with zeros behind its last row. -/
def ext (X : S4096x2816.Idx → EReal) (k : ℕ) (j : Fin 2816) : EReal := if h : k < 4096 then X (ix2 ⟨k, h⟩ j) else 0

/-- The gradient at row `k`: this row and the next two, each by its tap. -/
def tap (X : S4096x2816.Idx → EReal) (w : S3x2816.Idx → EReal) (k : ℕ) (j : Fin 2816) : EReal :=
  w (ix2 2 j) * ext X k j + w (ix2 1 j) * ext X (k + 1) j + w (ix2 0 j) * ext X (k + 2) j

theorem pay1 (i : grid0.Coords) (x : S256x2816.Idx → EReal) (h : S16x2816.Idx → EReal) (w : S3x2816.Idx → EReal) (X : S4096x2816.Idx → EReal) (n : ℕ) (hi : (i 0).val = n) (hn : n < 16) (j : Fin 2816)
    (hx : ∀ r : Fin 256, x (ix2 r j) = ext X (256 * n + r.val) j) (hh : ∀ q : Fin 16, (if n = 15 then 0 else h (ix2 q j)) = ext X (256 * n + 256 + q.val) j) (r : Fin 256) :
    k0_pay1 (F := Ideal) i x h w (ix2 r j) = tap X w (256 * n + r.val) j := by
  pointwise [k0_pay1]
  have hr := r.isLt
  have s15 : ∀ a b : EReal, Scalar.select (Scalar.cmpi CmpIPredicate.eq (BitVec.ofNat 32 (i 0).val) 15#32) a b = if n = 15 then a else b := fun a b => by
    rw [hi]
    exact sel n 15 (by omega) (by omega) a b
  rw [s15, s15, hh, hh, sel r.val 255 (by omega) (by omega), sel r.val 254 (by omega) (by omega), sel r.val 255 (by omega) (by omega), hx, hx, hx]
  unfold tap
  refine congrArg₂ _ (congrArg₂ _ rfl (congrArg _ ?_)) (congrArg _ ?_)
  · by_cases h5 : r.val = 255
    · rw [if_pos h5]
      exact congrArg (fun k => ext X k j) (by rw [h5]; rfl)
    · rw [if_neg h5]
      exact congrArg (fun k => ext X k j) (by dsimp only; omega)
  · by_cases h4 : r.val = 254
    · rw [if_pos h4]
      exact congrArg (fun k => ext X k j) (by rw [h4]; rfl)
    · rw [if_neg h4]
      by_cases h5 : r.val = 255
      · rw [if_pos h5]
        exact congrArg (fun k => ext X k j) (by rw [h5]; rfl)
      · rw [if_neg h5]
        exact congrArg (fun k => ext X k j) (by dsimp only; omega)

theorem ldX (x : Vec Ideal S256x2816 .bf16) (h) : View.ld (Val := Elt Ideal) (e' := .bf16) (S := S256x2816) x (Rect.unit ![0, 0] ![256, 2816] h) = x :=
  View.ld_unit_lit (Val := Elt Ideal) (e := .bf16) (S := S256x2816) h x (by decide)
theorem ldH (x : Vec Ideal S16x2816 .bf16) (h) : View.ld (Val := Elt Ideal) (e' := .bf16) (S := S16x2816) x (Rect.unit ![0, 0] ![16, 2816] h) = x :=
  View.ld_unit_lit (Val := Elt Ideal) (e := .bf16) (S := S16x2816) h x (by decide)
theorem ldW (x : Vec Ideal S3x2816 .f32) (h) : View.ld (Val := Elt Ideal) (e' := .f32) (S := S3x2816) x (Rect.unit ![0, 0] ![3, 2816] h) = x :=
  View.ld_unit_lit (Val := Elt Ideal) (e := .f32) (S := S3x2816) h x (by decide)

theorem out3 (i : grid0.Coords) (x0 : Vec Ideal S256x2816 .bf16) (x1 : Vec Ideal S16x2816 .bf16) (x2 : Vec Ideal S3x2816 .f32) : out0_3 (F := Ideal) i x0 x1 x2 = k0_pay1 (F := Ideal) i x0 x1 x2 := by
  unfold out0_3
  rw [View.canon_unit_zero (by decide)]
  exact congr (congrArg₂ (k0_pay1 (F := Ideal) i) (ldX x0 _) (ldH x1 _)) (ldW x2 _)

/-! ### The tiles -/

/-- Row `i` of the tile of point `n`. -/
abbrev row (n : ℕ) (i : Fin 256) : Fin 4096 := Cert.Mm.pos 4096 (by decide) (256 * n + i.val)
/-- Row `i` of the block of rows behind the tile of point `n`. -/
abbrev rowH (n : ℕ) (i : Fin 16) : Fin 4096 := Cert.Mm.pos 4096 (by decide) (16 * min (16 * (n + 1)) 255 + i.val)

theorem pt : ∀ t : Fin cfg0.N, ((grid0.coords t) 0).val = t.val := by decide +kernel
theorem idx0 : ∀ t : Fin cfg0.N, win0_0.index t = ![t.val, 0] := by decide +kernel
theorem idx1 : ∀ t : Fin cfg0.N, win0_1.index t = ![min (16 * (t.val + 1)) 255, 0] := by decide +kernel
theorem idx2 : ∀ t : Fin cfg0.N, win0_2.index t = ![0, 0] := by decide +kernel
theorem idx3 : ∀ t : Fin cfg0.N, win0_3.index t = ![t.val, 0] := by decide +kernel

section Arr
variable (m : (ℓ : Loc nD τ sig) → Buf (Elt Ideal) ℓ) (c : Dev nD)

/-- The arrays the kernel reads: the incoming gradient and the taps. -/
abbrev X : S4096x2816.Idx → EReal := m ((c : Thread nD τ).loc main_arg0)
abbrev W : S3x2816.Idx → EReal := m ((c : Thread nD τ).loc main_arg1)

theorem blk0 (t : Fin cfg0.N) (i : Fin 256) (j : Fin 2816) : (iblk m c 0 t : S256x2816.Idx → EReal) (ix2 i j) = X m c (ix2 (row t.val i) j) := by
  have hN : t.val < 16 := lt_of_lt_of_eq t.isLt N_0
  blk_ext [iblk, idx0 t, row]
theorem blk1 (t : Fin cfg0.N) (i : Fin 16) (j : Fin 2816) : (iblk m c 1 t : S16x2816.Idx → EReal) (ix2 i j) = X m c (ix2 (rowH t.val i) j) := by
  have hN : t.val < 16 := lt_of_lt_of_eq t.isLt N_0
  blk_ext [iblk, idx1 t, rowH]
theorem blk2 (t : Fin cfg0.N) : (iblk m c 2 t : S3x2816.Idx → EReal) = W m c := by
  funext y
  obtain ⟨i, j, rfl⟩ : ∃ (i : Fin 3) (j : Fin 2816), y = ix2 i j := ⟨y 0, y 1, eq_ix2 y⟩
  blk_ext [iblk, idx2 t]

theorem ext_row (X : S4096x2816.Idx → EReal) (k : ℕ) (r : Fin 4096) (j : Fin 2816) (h : r.val = k) : X (ix2 r j) = ext X k j := by
  subst h
  unfold ext
  rw [dif_pos r.isLt]

/-- The gradient through the convolution. -/
def gr (X : S4096x2816.Idx → EReal) (w : S3x2816.Idx → EReal) : S4096x2816.Idx → EReal := fun y => tap X w (y 0).val (y 1)

theorem at_point (t : Fin cfg0.N) (i : Fin 256) (j : Fin 2816) :
    k0_pay1 (F := Ideal) (grid0.coords t) (iblk m c 0 t) (iblk m c 1 t) (iblk m c 2 t) (ix2 i j) = gr (X m c) (W m c) (ix2 (row t.val i) j) := by
  have hN : t.val < 16 := lt_of_lt_of_eq t.isLt N_0
  rw [blk2]
  refine (pay1 (grid0.coords t) _ _ _ (X m c) t.val (pt t) hN j (fun r => (blk0 m c t r j).trans (ext_row _ _ _ _ ?_)) (fun q => ?_) i).trans ?_
  · have := r.isLt
    exact Nat.mod_eq_of_lt (by omega)
  · by_cases h : t.val = 15
    · rw [if_pos h]
      unfold ext
      rw [dif_neg (by omega)]
    · rw [if_neg h]
      refine (blk1 m c t q j).trans (ext_row _ _ _ _ ?_)
      have := q.isLt
      show (16 * min (16 * (t.val + 1)) 255 + q.val) % 4096 = _
      rw [Nat.mod_eq_of_lt (by omega)]
      omega
  · have := i.isLt
    exact congrArg (fun k => tap (X m c) (W m c) k j) (Nat.mod_eq_of_lt (show 256 * t.val + i.val < 4096 by omega)).symm

theorem arr3 : (dats m 0 c).arrAt 3 cfg0.N = (gr (X m c) (W m c) : S4096x2816.Idx → EReal) := by
  refine (dats m 0 c).arrAt_eq_of_covers 3 _ (by decide +kernel) (fun t hf y => ?_)
  blk_simp
  rw [after0_3, out3]
  obtain ⟨i, j, rfl⟩ : ∃ (i : Fin 256) (j : Fin 2816), y = ix2 i j := ⟨y 0, y 1, eq_ix2 y⟩
  have hN : t.val < 16 := lt_of_lt_of_eq t.isLt N_0
  have e : ((cfg0.win 3).blk t).view.emb (ix2 i j) = (ix2 (row t.val i) j : S4096x2816.Idx) := by
    blk_ext [idx3 t, row]
  rw [e]
  exact at_point m c t i j

end Arr

/-! ### The two programs -/

theorem ref (x0 : S4096x2816.Idx → EReal) (x1 : S3x2816.Idx → EReal) : Cert.RCbIdeal.Read.val_main_v35 (F := Ideal) x0 x1 = gr x0 x1 := by
  funext y
  rw [eq_ix2 y]
  generalize (y 0 : Fin 4096) = r
  generalize (y 1 : Fin 2816) = j
  pointwise [Cert.RCbIdeal.Read.val_main_cst, Cert.RCbIdeal.Read.val_main_v0, Cert.RCbIdeal.Read.val_main_cst_0, Cert.RCbIdeal.Read.val_main_v1, Cert.RCbIdeal.Read.val_main_cst_1, Cert.RCbIdeal.Read.val_main_v2, Cert.RCbIdeal.Read.val_main_v3, Cert.RCbIdeal.Read.val_main_cst_2, Cert.RCbIdeal.Read.val_main_v4, Cert.RCbIdeal.Read.val_main_v5, Cert.RCbIdeal.Read.val_main_v6, Cert.RCbIdeal.Read.val_main_v7, Cert.RCbIdeal.Read.val_main_v8, Cert.RCbIdeal.Read.val_main_v9, Cert.RCbIdeal.Read.val_main_v10, Cert.RCbIdeal.Read.val_main_v11, Cert.RCbIdeal.Read.val_main_v12, Cert.RCbIdeal.Read.val_main_v13, Cert.RCbIdeal.Read.val_main_v14, Cert.RCbIdeal.Read.val_main_v15, Cert.RCbIdeal.Read.val_main_v16, Cert.RCbIdeal.Read.val_main_v17, Cert.RCbIdeal.Read.val_main_v18, Cert.RCbIdeal.Read.val_main_v19, Cert.RCbIdeal.Read.val_main_v20, Cert.RCbIdeal.Read.val_main_v21, Cert.RCbIdeal.Read.val_main_v22, Cert.RCbIdeal.Read.val_main_v23, Cert.RCbIdeal.Read.val_main_cst_3, Cert.RCbIdeal.Read.val_main_v24, Cert.RCbIdeal.Read.val_main_v25, Cert.RCbIdeal.Read.val_main_v26, Cert.RCbIdeal.Read.val_main_cst_4, Cert.RCbIdeal.Read.val_main_v27, Cert.RCbIdeal.Read.val_main_v28, Cert.RCbIdeal.Read.val_main_v29, Cert.RCbIdeal.Read.val_main_v30, Cert.RCbIdeal.Read.val_main_cst_5, Cert.RCbIdeal.Read.val_main_v31, Cert.RCbIdeal.Read.val_main_v32, Cert.RCbIdeal.Read.val_main_v33, Cert.RCbIdeal.Read.val_main_v34, Cert.RCbIdeal.Read.val_main_v35]
  show _ = tap x0 x1 r.val j
  unfold tap
  have hr := r.isLt
  refine congrArg₂ _ (congrArg₂ _ (congrArg _ (ext_row _ _ _ _ rfl)) ?_) ?_
  · by_cases h : r.val + 1 < 4096
    · rw [dif_pos (by omega)]
      exact congrArg _ (ext_row _ _ _ _ (by dsimp only; omega))
    · rw [dif_neg (by omega)]
      unfold ext
      rw [dif_neg h, mul_zero]
  · by_cases h : r.val + 2 < 4096
    · rw [dif_pos (by omega)]
      exact congrArg _ (ext_row _ _ _ _ (by dsimp only; omega))
    · rw [dif_neg (by omega)]
      unfold ext
      rw [dif_neg h, mul_zero]

/-- The kernel ends with the gradient in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (gr (X m c) (W m c) : S4096x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r e c => ⟨((e c).1 3).trans (arr3 m c),
    ((e c).1 0).trans (((dats m 0 c).arrAt_in 0 rfl _).trans ((A_eq m c 0).trans (V_main_arg0 m c))),
    ((e c).1 2).trans (((dats m 0 c).arrAt_in 2 rfl _).trans ((A_eq m c 2).trans (V_main_arg1 m c)))⟩) (run_main m ρ)

/-- The reference ends with its arguments unchanged and every counter at zero. -/
theorem frame (m : (ℓ : Loc Cert.RCbIdeal.nD Cert.RCbIdeal.τ Cert.RCbIdeal.sig) → Buf (Elt Ideal) ℓ) (ρ : Dev Cert.RCbIdeal.nD → PrngReg) :
    θ_run Cert.RCbIdeal.defs (onTc (τ := Cert.RCbIdeal.τ) (Cert.RCbIdeal.main (F := Ideal))) ⟨m, fun _ => 0, ρ⟩ (fun r => (∀ c : Dev Cert.RCbIdeal.nD,
      r.2.mem ((c.tc : Thread Cert.RCbIdeal.nD Cert.RCbIdeal.τ).loc Cert.RCbIdeal.main_arg0) = m ((c.tc : Thread Cert.RCbIdeal.nD Cert.RCbIdeal.τ).loc Cert.RCbIdeal.main_arg0)
      ∧ r.2.mem ((c.tc : Thread Cert.RCbIdeal.nD Cert.RCbIdeal.τ).loc Cert.RCbIdeal.main_arg1) = m ((c.tc : Thread Cert.RCbIdeal.nD Cert.RCbIdeal.τ).loc Cert.RCbIdeal.main_arg1)) ∧ r.2.sem = fun _ => 0) :=
  (θ_run Cert.RCbIdeal.defs _ _).mono (fun r e => ⟨fun c => (e c).2, sem_eq_zero_of_no_sems (by decide) r.2⟩) (Cert.RCbIdeal.Value.run m ρ)

/-- On equal arguments the kernel and the reference leave equal results. -/
theorem equal : haveI := Cert.KCbIdeal.Gen.facts; haveI := Cert.RCbIdeal.Gen.facts
    algebraic_KCbIdeal_RCbIdeal := by
  intro m g m' g' _ ha
  refine ⟨_, kernel m g, (θ_run _ _ _).mono (fun r q c => ⟨(q c).1.trans ?_, (q c).2⟩) (Cert.RCbIdeal.Value.run m' g')⟩
  refine (Cert.RCbIdeal.Read.val_main_v35_eq _ _).trans ?_
  exact (ref _ _).trans (congrArg₂ gr (ha c).1 (ha c).2)

end Cert.RwCb
end
-- ==== Proof.RwLb.lean ====
/- The gradient of the first layer norm: what the kernel and the reference leave in their results. -/
module

public import proofs.«01_k».proof.Defs
public import proofs.«01_k».proof.Proof.Mm
public import proofs.«01_k».proof.Proof.Gen.KLb.Frame
public import proofs.«01_k».proof.Proof.Gen.KLbIdeal.Frame
public import proofs.«01_k».proof.Proof.Gen.RLbIdeal.Run
public import proofs.«01_k».proof.Proof.Gen.RLbIdeal.Read
public import proofs.«01_k».proof.Proof.Finite
public import proofs.«01_k».proof.Proof.RefC
public import Idealize.ShloMosaic.Lib.Pipeline.ValueKit
public import Idealize.ShloMosaic.Lib.Pipeline.ReadBack

@[expose] public section
noncomputable section
namespace Cert.RwLb
open Cert.KLbIdeal Cert.KLbIdeal.Gen Idealize.ShloMosaic Idealize.ShloMosaic.StableHlo Idealize.ShloMosaic.TcCoe Idealize.SL.Sem

/-! ### The stores of the body -/

/-- The scaled residual plus the branch. -/
def u (x y : EReal) : EReal := Ideal.ofBits .f32 0x3F9837F0#32 * x + y
/-- The mean of a row. -/
def mean (f : Fin 1024 → EReal) : EReal := Ideal.div (∑ k, f k) (Ideal.ofBits .f32 0x44800000#32)
/-- The reciprocal deviation of a row. -/
def rs (f : Fin 1024 → EReal) : EReal := Ideal.rsqrt (mean (fun k => (f k - mean f) * (f k - mean f)) + Ideal.ofBits .f32 0x3727C5AC#32)
/-- A row normalised. -/
def xh (f : Fin 1024 → EReal) (j : Fin 1024) : EReal := (f j - mean f) * rs f
/-- The gradient of the normalisation of the row `f` at the gradient `d` of its result. -/
def lnb (f d : Fin 1024 → EReal) (j : Fin 1024) : EReal := rs f * (d j - mean d - xh f j * mean fun k => d k * xh f k)

/-- The residual sum of a row. -/
abbrev us {n : ℕ} (x y : (⟨2, ![n, 1024]⟩ : Shape).Idx → EReal) (i : Fin n) : Fin 1024 → EReal := fun k => u (x (ix2 i k)) (y (ix2 i k))
/-- The gradient of a row's normalisation: the gradient of the layer norm's result times the gain. -/
abbrev ds {n : ℕ} (d : (⟨2, ![n, 1024]⟩ : Shape).Idx → EReal) (a : S1x1024.Idx → EReal) (i : Fin n) : Fin 1024 → EReal := fun k => d (ix2 i k) * a (ix2 0 k)

theorem pay7 (x y : S512x1024.Idx → EReal) (i : Fin 512) (l : Fin 1) : k0_pay7 (F := Ideal) x y (ix2 i l) = rs (us x y i) := by
  pointwise [k0_pay7, k0_pay6, rs, mean, u]
theorem pay8 (x y : S512x1024.Idx → EReal) (i : Fin 512) (j : Fin 1024) : k0_pay8 (F := Ideal) x y (ix2 i j) = xh (us x y i) j := by
  pointwise [k0_pay8, pay7, k0_pay6, xh, mean, u]
theorem pay9 (x y d : S512x1024.Idx → EReal) (a : S1x1024.Idx → EReal) (i : Fin 512) (j : Fin 1024) :
    k0_pay9 (F := Ideal) x y d a (ix2 i j) = lnb (us x y i) (ds d a i) j := by
  pointwise [k0_pay9, pay8, pay7, lnb, mean]
theorem pay1 (v : S512x1024.Idx → EReal) (i : Fin 512) (j : Fin 1024) : k0_pay1 (F := Ideal) v (ix2 i j) = v (ix2 i j) := by
  pointwise [k0_pay1]
theorem pay2 (j : Fin 1024) : k0_pay2 (F := Ideal) (ix2 0 j) = 0 := by
  pointwise [k0_pay2]
theorem pay3 (j : Fin 1024) : k0_pay3 (F := Ideal) (ix2 0 j) = 0 := by
  pointwise [k0_pay3]
theorem pay4 (d v : S512x1024.Idx → EReal) (acc : S1x1024.Idx → EReal) (j : Fin 1024) :
    k0_pay4 (F := Ideal) d v acc (ix2 0 j) = acc (ix2 0 j) + ∑ i : Fin 512, d (ix2 i j) * v (ix2 i j) := by
  pointwise [k0_pay4]
theorem pay5 (d : S512x1024.Idx → EReal) (acc : S1x1024.Idx → EReal) (j : Fin 1024) :
    k0_pay5 (F := Ideal) d acc (ix2 0 j) = acc (ix2 0 j) + ∑ i : Fin 512, d (ix2 i j) := by
  pointwise [k0_pay5]

theorem ldX (x : Vec Ideal S512x1024 .f32) (h) : View.ld (Val := Elt Ideal) (e' := .f32) (S := S512x1024) x (Rect.unit ![0, 0] ![512, 1024] h) = x :=
  View.ld_unit_lit (Val := Elt Ideal) (e := .f32) (S := S512x1024) h x (by decide)
theorem ldA (x : Vec Ideal S1x1024 .f32) (h) : View.ld (Val := Elt Ideal) (e' := .f32) (S := S1x1024) x (Rect.unit ![0, 0] ![1, 1024] h) = x :=
  View.ld_unit_lit (Val := Elt Ideal) (e := .f32) (S := S1x1024) h x (by decide)

section Case
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole)
variable (x0 x1 x2 : Vec Ideal S512x1024 .f32) (x3 x6 x7 : Vec Ideal S1x1024 .f32)

theorem out_A_4 (hc0 : cond0_0 i) : out0_A_4 (F := Ideal) c i arg1 harg1 arg2 harg2 arg3 harg3 arg4 harg4 arg5 harg5 arg6 harg6 arg7 harg7 arg8 harg8 hc0 x0 x1 x2 x3 = k0_pay9 x0 x1 x2 x3 := by
  unfold out0_A_4
  rw [View.read_writes_eq_canon _ _ _ (cover0_A_4 (F := Ideal) c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_A_5 (hc0 : cond0_0 i) : out0_A_5 (F := Ideal) c i arg1 harg1 arg2 harg2 arg3 harg3 arg4 harg4 arg5 harg5 arg6 harg6 arg7 harg7 arg8 harg8 hc0 x0 x1 x2 x3 = k0_pay1 (k0_pay9 x0 x1 x2 x3) := by
  unfold out0_A_5
  rw [View.read_writes_eq_canon _ _ _ (cover0_A_5 (F := Ideal) c i arg1 harg1 arg2 harg2 arg3 harg3 arg4 harg4 arg5 harg5 arg6 harg6 arg7 harg7 arg8 harg8 hc0 x0 x1 x2 x3)]
  unfold kernelRun0_A
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_A_6 (hc0 : cond0_0 i) : out0_A_6 (F := Ideal) c i arg1 harg1 arg2 harg2 arg3 harg3 arg4 harg4 arg5 harg5 arg6 harg6 arg7 harg7 arg8 harg8 hc0 x0 x1 x2 x3 = k0_pay4 x2 (k0_pay8 x0 x1) (k0_pay2 (F := Ideal)) := by
  unfold out0_A_6
  rw [View.read_writes_eq_canon _ _ _ (cover0_A_6 (F := Ideal) c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_A_7 (hc0 : cond0_0 i) : out0_A_7 (F := Ideal) c i arg1 harg1 arg2 harg2 arg3 harg3 arg4 harg4 arg5 harg5 arg6 harg6 arg7 harg7 arg8 harg8 hc0 x0 x1 x2 x3 = k0_pay5 x2 (k0_pay3 (F := Ideal)) := by
  unfold out0_A_7
  rw [View.read_writes_eq_canon _ _ _ (cover0_A_7 (F := Ideal) c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_B_4 (hc0 : ¬cond0_0 i) : out0_B_4 (F := Ideal) c i arg1 harg1 arg2 harg2 arg3 harg3 arg4 harg4 arg5 harg5 arg6 harg6 arg7 harg7 arg8 harg8 hc0 x0 x1 x2 x3 x6 x7 = k0_pay9 x0 x1 x2 x3 := by
  unfold out0_B_4
  rw [View.read_writes_eq_canon _ _ _ (cover0_B_4 (F := Ideal) c i arg1 harg1 arg2 harg2 arg3 harg3 arg4 harg4 arg5 harg5 arg6 harg6 arg7 harg7 arg8 harg8 hc0 x0 x1 x2 x3 x6 x7)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_B_5 (hc0 : ¬cond0_0 i) : out0_B_5 (F := Ideal) c i arg1 harg1 arg2 harg2 arg3 harg3 arg4 harg4 arg5 harg5 arg6 harg6 arg7 harg7 arg8 harg8 hc0 x0 x1 x2 x3 x6 x7 = k0_pay1 (k0_pay9 x0 x1 x2 x3) := by
  unfold out0_B_5
  rw [View.read_writes_eq_canon _ _ _ (cover0_B_5 (F := Ideal) c i arg1 harg1 arg2 harg2 arg3 harg3 arg4 harg4 arg5 harg5 arg6 harg6 arg7 harg7 arg8 harg8 hc0 x0 x1 x2 x3 x6 x7)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_B_6 (hc0 : ¬cond0_0 i) : out0_B_6 (F := Ideal) c i arg1 harg1 arg2 harg2 arg3 harg3 arg4 harg4 arg5 harg5 arg6 harg6 arg7 harg7 arg8 harg8 hc0 x0 x1 x2 x3 x6 x7 = k0_pay4 x2 (k0_pay8 x0 x1) x6 := by
  unfold out0_B_6
  rw [View.read_writes_eq_canon _ _ _ (cover0_B_6 (F := Ideal) c i arg1 harg1 arg2 harg2 arg3 harg3 arg4 harg4 arg5 harg5 arg6 harg6 arg7 harg7 arg8 harg8 hc0 x0 x1 x2 x3 x6 x7)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]

theorem out_B_7 (hc0 : ¬cond0_0 i) : out0_B_7 (F := Ideal) c i arg1 harg1 arg2 harg2 arg3 harg3 arg4 harg4 arg5 harg5 arg6 harg6 arg7 harg7 arg8 harg8 hc0 x0 x1 x2 x3 x6 x7 = k0_pay5 x2 x7 := by
  unfold out0_B_7
  rw [View.read_writes_eq_canon _ _ _ (cover0_B_7 (F := Ideal) c i arg1 harg1 arg2 harg2 arg3 harg3 arg4 harg4 arg5 harg5 arg6 harg6 arg7 harg7 arg8 harg8 hc0 x0 x1 x2 x3 x6 x7)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, ↓View.readCov_skip, ↓View.readCov_fill, ldX, ldA]
end Case

/-! ### The tiles -/

/-- Row `i` of the tile of point `n`. -/
abbrev row (n : ℕ) (i : Fin 512) : Fin 4096 := Cert.Mm.pos 4096 (by decide) (512 * n + i.val)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx3 : ∀ t : Fin cfg0.N, win0_3.index t = ![0, 0] := by decide +kernel

section Arr
variable (m : (ℓ : Loc nD τ sig) → Buf (Elt Ideal) ℓ) (c : Dev nD)

/-- The arrays the kernel reads: the residual stream, the branch added to it, the gradient and the gain. -/
abbrev X : S4096x1024.Idx → EReal := m ((c : Thread nD τ).loc main_arg0)
abbrev Y : S4096x1024.Idx → EReal := m ((c : Thread nD τ).loc main_arg1)
abbrev D : S4096x1024.Idx → EReal := m ((c : Thread nD τ).loc main_arg2)
abbrev A : S1x1024.Idx → EReal := m ((c : Thread nD τ).loc main_arg3)

theorem blk0 (t : Fin cfg0.N) (i : Fin 512) (j : Fin 1024) : (iblk m c 0 t : S512x1024.Idx → EReal) (ix2 i j) = X m c (ix2 (row t.val i) j) := by
  have hN : t.val < 8 := lt_of_lt_of_eq t.isLt N_0
  blk_ext [iblk, idx0 t, row]

theorem blk1 (t : Fin cfg0.N) (i : Fin 512) (j : Fin 1024) : (iblk m c 1 t : S512x1024.Idx → EReal) (ix2 i j) = Y m c (ix2 (row t.val i) j) := by
  have hN : t.val < 8 := lt_of_lt_of_eq t.isLt N_0
  blk_ext [iblk, idx1 t, row]

theorem blk2 (t : Fin cfg0.N) (i : Fin 512) (j : Fin 1024) : (iblk m c 2 t : S512x1024.Idx → EReal) (ix2 i j) = D m c (ix2 (row t.val i) j) := by
  have hN : t.val < 8 := lt_of_lt_of_eq t.isLt N_0
  blk_ext [iblk, idx2 t, row]

theorem blk3 (t : Fin cfg0.N) (j : Fin 1024) : (iblk m c 3 t : S1x1024.Idx → EReal) (ix2 0 j) = A m c (ix2 0 j) := by
  blk_ext [iblk, idx3 t]

theorem us_point (t : Fin cfg0.N) (i : Fin 512) : us (n := 512) (iblk m c 0 t) (iblk m c 1 t) i = us (X m c) (Y m c) (row t.val i) :=
  funext fun k => congrArg₂ u (blk0 m c t i k) (blk1 m c t i k)
theorem ds_point (t : Fin cfg0.N) (i : Fin 512) : ds (n := 512) (iblk m c 2 t) (iblk m c 3 t) i = ds (D m c) (A m c) (row t.val i) :=
  funext fun k => congrArg₂ (fun x y : EReal => x * y) (blk2 m c t i k) (blk3 m c t k)

/-- What the tile of point `n` adds to the gradients of the gain and of the offset. -/
def termG (n : ℕ) (j : Fin 1024) : EReal := ∑ i : Fin 512, D m c (ix2 (row n i) j) * xh (us (X m c) (Y m c) (row n i)) j
def termB (n : ℕ) (j : Fin 1024) : EReal := ∑ i : Fin 512, D m c (ix2 (row n i) j)

theorem stepG (t : Fin cfg0.N) (acc : S1x1024.Idx → EReal) (j : Fin 1024) :
    k0_pay4 (F := Ideal) (iblk m c 2 t) (k0_pay8 (F := Ideal) (iblk m c 0 t) (iblk m c 1 t)) acc (ix2 0 j) = acc (ix2 0 j) + termG m c t.val j := by
  rw [pay4]
  unfold termG
  refine congrArg _ (Finset.sum_congr rfl fun i _ => ?_)
  exact congrArg₂ (fun x y : EReal => x * y) (blk2 m c t i j) ((pay8 _ _ i j).trans (congrFun (congrArg xh (us_point m c t i)) j))

theorem stepB (t : Fin cfg0.N) (acc : S1x1024.Idx → EReal) (j : Fin 1024) :
    k0_pay5 (F := Ideal) (iblk m c 2 t) acc (ix2 0 j) = acc (ix2 0 j) + termB m c t.val j := by
  rw [pay5]
  unfold termB
  exact congrArg _ (Finset.sum_congr rfl fun i _ => blk2 m c t i j)

/-- The two accumulators after point `n`: the sums over the tiles so far. -/
theorem acc (n : ℕ) (hn : n < cfg0.N) (j : Fin 1024) :
    (outsAt0 m c n hn).2.2.1 (ix2 0 j) = ∑ q ∈ Finset.range (n + 1), termG m c q j
      ∧ (outsAt0 m c n hn).2.2.2 (ix2 0 j) = ∑ q ∈ Finset.range (n + 1), termB m c q j := by
  induction n with
  | zero =>
    rw [outsAt0_A m c ⟨0, hn⟩ rfl]
    dsimp only
    rw [out_A_6, out_A_7, stepG, stepB, pay2, pay3]
    simp
  | succ n ih =>
    have hN : n + 1 < 8 := lt_of_lt_of_eq hn N_0
    rw [outsAt0_B m c ⟨n + 1, hn⟩ (by dsimp only; omega)]
    dsimp only
    rw [out_B_6, out_B_7, stepG, stepB, Finset.sum_range_succ _ (n + 1), Finset.sum_range_succ _ (n + 1)]
    have := ih (Nat.lt_of_succ_lt hn)
    exact ⟨congrArg (· + _) this.1, congrArg (· + _) this.2⟩

/-- The two tiles that point `t` writes out. -/
theorem tiles (t : Fin cfg0.N) : (outsAt0 m c t.val t.isLt).1 = k0_pay9 (F := Ideal) (iblk m c 0 t) (iblk m c 1 t) (iblk m c 2 t) (iblk m c 3 t)
    ∧ (outsAt0 m c t.val t.isLt).2.1 = k0_pay1 (F := Ideal) (k0_pay9 (F := Ideal) (iblk m c 0 t) (iblk m c 1 t) (iblk m c 2 t) (iblk m c 3 t)) := by
  by_cases h0 : t.val % 8 = 0
  · rw [outsAt0_A m c t h0]
    dsimp only
    rw [out_A_4, out_A_5]
    exact ⟨rfl, rfl⟩
  · rw [outsAt0_B m c t h0]
    dsimp only
    rw [out_B_4, out_B_5]
    exact ⟨rfl, rfl⟩

/-- The gradient of the residual sum. -/
def dz (X Y D : S4096x1024.Idx → EReal) (A : S1x1024.Idx → EReal) : S4096x1024.Idx → EReal := fun y => lnb (us X Y (y 0)) (ds D A (y 0)) (y 1)
/-- The gradient of the gain. -/
def dgain (X Y D : S4096x1024.Idx → EReal) : S1x1024.Idx → EReal := fun y => ∑ r : Fin 4096, D (ix2 r (y 1)) * xh (us X Y r) (y 1)
/-- The gradient of the offset. -/
def doff (D : S4096x1024.Idx → EReal) : S1x1024.Idx → EReal := fun y => ∑ r : Fin 4096, D (ix2 r (y 1))

theorem at_point (t : Fin cfg0.N) (i : Fin 512) (j : Fin 1024) :
    k0_pay9 (F := Ideal) (iblk m c 0 t) (iblk m c 1 t) (iblk m c 2 t) (iblk m c 3 t) (ix2 i j) = dz (X m c) (Y m c) (D m c) (A m c) (ix2 (row t.val i) j) :=
  (pay9 _ _ _ _ i j).trans (congrFun (congrArg₂ lnb (us_point m c t i) (ds_point m c t i)) j)

theorem arr4 : (dats m 0 c).arrAt 4 cfg0.N = (dz (X m c) (Y m c) (D m c) (A m c) : S4096x1024.Idx → EReal) := by
  refine (dats m 0 c).arrAt_eq_of_covers 4 _ (by decide +kernel) (fun t hf y => ?_)
  blk_simp
  rw [after0_4, (tiles m c t).1]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 4).blk t).view.emb (ix2 i j) = (ix2 (row t.val i) j : S4096x1024.Idx) := by
    blk_ext [idx4 t, row]
  rw [e]
  exact at_point m c t i j

theorem arr5 : (dats m 0 c).arrAt 5 cfg0.N = (dz (X m c) (Y m c) (D m c) (A m c) : S4096x1024.Idx → EReal) := by
  refine (dats m 0 c).arrAt_eq_of_covers 5 _ (by decide +kernel) (fun t hf y => ?_)
  blk_simp
  rw [after0_5, (tiles m c t).2]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 5).blk t).view.emb (ix2 i j) = (ix2 (row t.val i) j : S4096x1024.Idx) := by
    blk_ext [idx5 t, row]
  rw [e]
  exact (pay1 _ i j).trans (at_point m c t i j)

/-- The last point. -/
abbrev last : Fin cfg0.N := ⟨7, lt_of_lt_of_eq (by decide) N_0.symm⟩

theorem arr6 : (dats m 0 c).arrAt 6 cfg0.N = (dgain (X m c) (Y m c) (D m c) : S1x1024.Idx → EReal) := by
  refine (dats m 0 c).arrAt_eq_of_after_last 6 last (by decide +kernel) _ fun j => ?_
  blk_simp
  rw [after0_6]
  obtain ⟨o, l, rfl⟩ : ∃ (o : Fin 1) (l : Fin 1024), j = ix2 o l := ⟨j 0, j 1, eq_ix2 j⟩
  rw [Subsingleton.elim o 0]
  exact (acc m c 7 _ l).1.trans (Cert.Mm.sum_blocks 4096 512 8 (by decide) rfl fun r => D m c (ix2 r l) * xh (us (X m c) (Y m c) r) l)

theorem arr7 : (dats m 0 c).arrAt 7 cfg0.N = (doff (D m c) : S1x1024.Idx → EReal) := by
  refine (dats m 0 c).arrAt_eq_of_after_last 7 last (by decide +kernel) _ fun j => ?_
  blk_simp
  rw [after0_7]
  obtain ⟨o, l, rfl⟩ : ∃ (o : Fin 1) (l : Fin 1024), j = ix2 o l := ⟨j 0, j 1, eq_ix2 j⟩
  rw [Subsingleton.elim o 0]
  exact (acc m c 7 _ l).2.trans (Cert.Mm.sum_blocks 4096 512 8 (by decide) rfl fun r => D m c (ix2 r l))

end Arr

/-! ### Over the reals -/

/-- The rounded fourth root of two. -/
def alpha : ℝ := 9975792 / 8388608
theorem word_alpha : Ideal.ofBits .f32 0x3F9837F0#32 = ((alpha : ℝ) : EReal) := by
  simp [Ideal.ofBits, Ideal.ieee, alpha]; norm_num [← EReal.coe_mul]

theorem mean_coe (z : Fin 1024 → ℝ) : mean (fun k => ((z k : ℝ) : EReal)) = ((Cert.Spec.mean z : ℝ) : EReal) := by
  rw [mean, Cert.Spec.word_width, ← Cert.Spec.coe_sum, Cert.Spec.div_coe' _ _ (by norm_num)]; rfl
theorem rs_coe (z : Fin 1024 → ℝ) : rs (fun k => ((z k : ℝ) : EReal)) = ((Cert.Spec.rs z : ℝ) : EReal) := by
  simp only [rs, mean_coe, ← EReal.coe_sub, ← EReal.coe_mul, Cert.Spec.word_eps, ← EReal.coe_add]
  exact Cert.Spec.rsqrt_coe' _ (Cert.Spec.var_eps_pos z)
theorem xh_coe (z : Fin 1024 → ℝ) (j : Fin 1024) : xh (fun k => ((z k : ℝ) : EReal)) j = ((Cert.Spec.xh z j : ℝ) : EReal) := by
  simp only [xh, mean_coe, rs_coe, ← EReal.coe_sub, ← EReal.coe_mul]; rfl
/-- On reals the gradient is the real one. -/
theorem lnb_coe (z d : Fin 1024 → ℝ) (j : Fin 1024) : lnb (fun k => ((z k : ℝ) : EReal)) (fun k => ((d k : ℝ) : EReal)) j = ((Cert.Spec.lnb z d j : ℝ) : EReal) := by
  simp only [lnb, mean_coe, rs_coe, xh_coe, ← EReal.coe_sub, ← EReal.coe_mul]; rfl

/-! ### The reference -/

section Ref
open Cert.RLbIdeal.Read Cert.Spec Cert.Pay Cert.Ref

theorem r36 (x0 x1 x2 : S4096x1024.Idx → EReal) : val_main_v36 (F := Ideal) x0 x1 x2 = dgain x0 x1 x2 := by
  funext y
  rw [eq_ix2 y]
  pointwise [val_main_cst, val_main_v0, val_main_v1, val_main_v2, val_main_cst_0, val_main_v3, val_main_cst_1, val_main_v4, val_main_v5, val_main_cst_2, val_main_v6, val_main_v7, val_main_v8, val_main_v9, val_main_v10, val_main_cst_3, val_main_v11, val_main_v12, val_main_cst_4, val_main_v13, val_main_v14, val_main_cst_5, val_main_v15, val_main_v16, val_main_v17, val_main_v18, val_main_cst_6, val_main_v19, val_main_v20, val_main_v21, val_main_v22, val_main_cst_7, val_main_v23, val_main_v24, val_main_v25, val_main_v26, val_main_v27, val_main_v28, val_main_v29, val_main_v30, val_main_v31, val_main_cst_8, val_main_v32, val_main_v33, val_main_v34, val_main_cst_9, val_main_v35, val_main_v36, val_main_cst_10, val_main_cst_11, val_main_cst_12, val_main_cst_13, val_main_cst_14, val_main_cst_15, val_main_cst_16, dgain, xh, rs, mean, u]
  exact Finset.sum_congr rfl fun r _ => mul_comm _ _

theorem r33 (x2 : S4096x1024.Idx → EReal) : val_main_v33 (F := Ideal) x2 = doff x2 := by
  funext y
  rw [eq_ix2 y]
  pointwise [val_main_v33, val_main_v32, val_main_cst_8, doff]

variable (X Y D : Fin 4096 → Fin 1024 → ℝ) (A : Fin 1024 → ℝ)
/-- The residual sum over the reals. -/
def zr (r : Fin 4096) (k : Fin 1024) : ℝ := alpha * X r k + Y r k
/-- The gradient of the normalisation over the reals. -/
def dr (r : Fin 4096) (k : Fin 1024) : ℝ := D r k * A k

theorem dz_coe : dz (m2 X) (m2 Y) (m2 D) (m2 fun _ j => A j) = m2 fun r j => Cert.Spec.lnb (zr X Y r) (dr D A r) j := by
  refine m2_ext fun r j => ?_
  rw [← lnb_coe]
  show lnb _ _ j = _
  congr 1
  · funext k
    simp only [us, u, word_alpha, m2_ix, ← EReal.coe_mul, ← EReal.coe_add]; rfl

theorem r2 : val_main_v2 (F := Ideal) (m2 X) (m2 Y) = m2 (zr X Y) := by
  refine m2_ext fun r j => ?_
  pointwise [val_main_v2, val_main_v1, val_main_v0, val_main_cst, m2_ix, word_alpha]
  simp only [← EReal.coe_mul, ← EReal.coe_add]; rfl

theorem r9 : val_main_v9 (F := Ideal) (m2 X) (m2 Y) = m2 fun r j => xc (zr X Y r) j := by
  refine m2_ext fun r j => ?_
  pointwise [val_main_v9, val_main_v8, val_main_v7, val_main_v6, val_main_v5, val_main_v4, val_main_cst_1, val_main_cst_2, r2, m2_ix, word_width, word_zero]
  simp only [← coe_sum, ← EReal.coe_add, zero_add]
  rw [div_coe' _ _ (by norm_num), ← EReal.coe_sub]; rfl

theorem r18 : val_main_v18 (F := Ideal) (m2 X) (m2 Y) = m2 fun r j => xc (zr X Y r) j := by
  rw [← r9]
  refine funext fun y => ?_
  rw [eq_ix2 y]
  pointwise [val_main_v18, val_main_v17, val_main_v9, val_main_v8]

theorem r12 : val_main_v12 (F := Ideal) (m2 X) (m2 Y) = m2 fun r j => 2 * xc (zr X Y r) j := by
  refine m2_ext fun r j => ?_
  pointwise [val_main_v12, val_main_v11, val_main_cst_3, r9, m2_ix, word_two]
  simp only [← EReal.coe_mul]

theorem r20 : val_main_v20 (F := Ideal) (m2 X) (m2 Y) = m2 fun r (_ : Fin 1) => var (zr X Y r) + eps := by
  refine m2_ext fun r j => ?_
  pointwise [val_main_v20, val_main_v19, val_main_v16, val_main_v15, val_main_v14, val_main_v13, val_main_v10, val_main_cst_4, val_main_cst_5, val_main_cst_6, r9, m2_ix, word_width, word_zero, word_eps]
  simp only [← EReal.coe_mul, ← coe_sum, ← EReal.coe_add, zero_add]
  rw [div_coe' _ _ (by norm_num), ← EReal.coe_add]; rfl

theorem r21 : val_main_v21 (F := Ideal) (m2 X) (m2 Y) = m2 fun r (_ : Fin 1) => Cert.Spec.rs (zr X Y r) := by
  refine m2_ext fun r j => ?_
  pointwise [val_main_v21, r20, m2_ix]
  exact rsqrt_coe' _ (var_eps_pos _)

theorem r24 : val_main_v24 (F := Ideal) (m2 X) (m2 Y) = m2 fun r (_ : Fin 1) => -(1 / 2) * (Cert.Spec.rs (zr X Y r) / (var (zr X Y r) + eps)) := by
  refine m2_ext fun r j => ?_
  pointwise [val_main_v24, val_main_v23, val_main_v22, val_main_cst_7, r21, r20, m2_ix, word_mhalf]
  rw [div_coe' _ _ (var_eps_pos _).ne', ← EReal.coe_mul]

theorem r38 : val_main_v38 (F := Ideal) (m2 D) (m2 fun _ j => A j) = m2 (dr D A) := by
  refine m2_ext fun r j => ?_
  pointwise [val_main_v38, val_main_v37, val_main_v31, m2_ix]
  rw [← EReal.coe_mul]; rfl

theorem r41 : val_main_v41 (F := Ideal) (m2 X) (m2 Y) (m2 D) (m2 fun _ j => A j) = m2 fun r (_ : Fin 1) => ∑ k, xc (zr X Y r) k * dr D A r k := by
  refine m2_ext fun r j => ?_
  pointwise [val_main_v41, val_main_v40, val_main_v39, val_main_cst_10, r18, r38, m2_ix, word_zero]
  simp only [← coe_sum, ← EReal.coe_mul, ← EReal.coe_add, zero_add]

theorem r43 : val_main_v43 (F := Ideal) (m2 X) (m2 Y) (m2 D) (m2 fun _ j => A j) = m2 fun r j => dr D A r j * Cert.Spec.rs (zr X Y r) := by
  refine m2_ext fun r j => ?_
  pointwise [val_main_v43, val_main_v42, r38, r21, m2_ix]
  simp only [← EReal.coe_mul]

theorem r52 : val_main_v52 (F := Ideal) (m2 X) (m2 Y) (m2 D) (m2 fun _ j => A j) = m2 fun r j =>
    (∑ k, xc (zr X Y r) k * dr D A r k) * (-(1 / 2) * (Cert.Spec.rs (zr X Y r) / (var (zr X Y r) + eps))) / 1024 * (2 * xc (zr X Y r) j) := by
  refine m2_ext fun r j => ?_
  pointwise [val_main_v52, val_main_v51, val_main_v50, val_main_v49, val_main_v48, val_main_v44, val_main_cst_12, val_main_cst_13, r41, r24, r12, m2_ix, word_zero, word_width]
  simp only [← EReal.coe_mul, Finset.univ_unique, Finset.sum_singleton]
  rw [div_coe' _ _ (by norm_num)]
  simp only [← EReal.coe_add, ← EReal.coe_mul, zero_add]

theorem r62 : val_main_v62 (F := Ideal) (m2 X) (m2 Y) (m2 D) (m2 fun _ j => A j) = dz (m2 X) (m2 Y) (m2 D) (m2 fun _ j => A j) := by
  rw [dz_coe]
  refine m2_ext fun r j => ?_
  rw [← ln_real]
  pointwise [val_main_v62, val_main_v61, val_main_v60, val_main_v59, val_main_v58, val_main_v57, val_main_v56, val_main_v55, val_main_v54, val_main_v53, val_main_v47, val_main_v46, val_main_v45, val_main_cst_11, val_main_cst_14, val_main_cst_15, val_main_cst_16, r43, r52, m2_ix, word_zero, word_width]
  simp only [← EReal.coe_neg, ← coe_sum, ← EReal.coe_add, Finset.univ_unique, Finset.sum_singleton]
  rw [div_coe' _ _ (by norm_num)]
  simp only [← EReal.coe_add, zero_add]

theorem r63 (x0 x1 x2 : S4096x1024.Idx → EReal) (x3 : S1x1024.Idx → EReal) : val_main_v63 (F := Ideal) x0 x1 x2 x3 = val_main_v62 (F := Ideal) x0 x1 x2 x3 := by
  refine funext fun y => ?_
  rw [eq_ix2 y]
  pointwise [val_main_v63]

end Ref

/-! ### The precondition -/

/-- The facts on shapes that the precondition states. -/
theorem facts : Cert.Pre_finite_lb.Facts where
  bcast_S_S4096x1024 := by decide
  reducesTo_S4096x1024_S_d0_1 := by decide
  h_S_ := by decide
  bcast_S_S1x1024 := by decide
  reducesTo_S1x1024_S_d0_1 := by decide

/-- Where the precondition holds, the four arguments hold reals. -/
theorem reals (x0 x1 x2 : S4096x1024.Idx → EReal) (x3 : S1x1024.Idx → EReal)
    (h : haveI := facts; Cert.Pre_finite_lb.fn (F := Ideal) x0 x1 x2 x3 = fun _ => 1#1) :
    ∃ (X Y D : Fin 4096 → Fin 1024 → ℝ) (A : Fin 1024 → ℝ), x0 = Cert.Pay.m2 X ∧ x1 = Cert.Pay.m2 Y ∧ x2 = Cert.Pay.m2 D ∧ x3 = Cert.Pay.m2 fun _ j => A j := by
  haveI := facts
  have h := congrFun h (Shape.Idx.first facts.h_S_)
  dsimp only [Cert.Pre_finite_lb.fn, Cert.Pre_finite_lb.fn_part1] at h
  simp only [andi, IntOp.andi_eq_one] at h
  obtain ⟨⟨⟨h0, h1⟩, h2⟩, h3⟩ := h
  have g0 (r : Fin 4096) (j : Fin 1024) : ∃ a : ℝ, x0 (ix2 r j) = (a : EReal) := Cert.Finite.real_of_lt _ (Host.reduce_andi_all _ _ _ _ _ h0 (ix2 r j))
  have g1 (r : Fin 4096) (j : Fin 1024) : ∃ a : ℝ, x1 (ix2 r j) = (a : EReal) := Cert.Finite.real_of_lt _ (Host.reduce_andi_all _ _ _ _ _ h1 (ix2 r j))
  have g2 (r : Fin 4096) (j : Fin 1024) : ∃ a : ℝ, x2 (ix2 r j) = (a : EReal) := Cert.Finite.real_of_lt _ (Host.reduce_andi_all _ _ _ _ _ h2 (ix2 r j))
  have g3 (o : Fin 1) (j : Fin 1024) : ∃ a : ℝ, x3 (ix2 o j) = (a : EReal) := Cert.Finite.real_of_lt _ (Host.reduce_andi_all _ _ _ _ _ h3 (ix2 o j))
  choose X e0 using g0
  choose Y e1 using g1
  choose D e2 using g2
  choose A e3 using g3
  refine ⟨X, Y, D, A 0, Cert.Pay.m2_ext e0, Cert.Pay.m2_ext e1, Cert.Pay.m2_ext e2, Cert.Pay.m2_ext fun o j => ?_⟩
  rw [Subsingleton.elim o 0]; exact e3 0 j

/-! ### The two programs -/

/-- The kernel ends with the gradients in its results and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dz (X m c) (Y m c) (D m c) (A m c) : S4096x1024.Idx → EReal)
      ∧ r.2.mem ((c.tc : Thread nD τ).loc main_v0_1) = (dz (X m c) (Y m c) (D m c) (A m c) : S4096x1024.Idx → EReal)
      ∧ r.2.mem ((c.tc : Thread nD τ).loc main_v0_2) = (dgain (X m c) (Y m c) (D m c) : S1x1024.Idx → EReal)
      ∧ r.2.mem ((c.tc : Thread nD τ).loc main_v0_3) = (doff (D m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r e c => ⟨((e c).1 4).trans (arr4 m c), ((e c).1 5).trans (arr5 m c), ((e c).1 6).trans (arr6 m c), ((e c).1 7).trans (arr7 m c),
    ((e c).1 0).trans (((dats m 0 c).arrAt_in 0 rfl _).trans ((A_eq m c 0).trans (V_main_arg0 m c))),
    ((e c).1 1).trans (((dats m 0 c).arrAt_in 1 rfl _).trans ((A_eq m c 1).trans (V_main_arg1 m c))),
    ((e c).1 2).trans (((dats m 0 c).arrAt_in 2 rfl _).trans ((A_eq m c 2).trans (V_main_arg2 m c))),
    ((e c).1 3).trans (((dats m 0 c).arrAt_in 3 rfl _).trans ((A_eq m c 3).trans (V_main_arg3 m c)))⟩) (run_main m ρ)

/-- The reference ends with its arguments unchanged and every counter at zero. -/
theorem frame (m : (ℓ : Loc Cert.RLbIdeal.nD Cert.RLbIdeal.τ Cert.RLbIdeal.sig) → Buf (Elt Ideal) ℓ) (ρ : Dev Cert.RLbIdeal.nD → PrngReg) :
    θ_run Cert.RLbIdeal.defs (onTc (τ := Cert.RLbIdeal.τ) (Cert.RLbIdeal.main (F := Ideal))) ⟨m, fun _ => 0, ρ⟩ (fun r => (∀ c : Dev Cert.RLbIdeal.nD,
      r.2.mem ((c.tc : Thread Cert.RLbIdeal.nD Cert.RLbIdeal.τ).loc Cert.RLbIdeal.main_arg0) = m ((c.tc : Thread Cert.RLbIdeal.nD Cert.RLbIdeal.τ).loc Cert.RLbIdeal.main_arg0)
      ∧ r.2.mem ((c.tc : Thread Cert.RLbIdeal.nD Cert.RLbIdeal.τ).loc Cert.RLbIdeal.main_arg1) = m ((c.tc : Thread Cert.RLbIdeal.nD Cert.RLbIdeal.τ).loc Cert.RLbIdeal.main_arg1)
      ∧ r.2.mem ((c.tc : Thread Cert.RLbIdeal.nD Cert.RLbIdeal.τ).loc Cert.RLbIdeal.main_arg2) = m ((c.tc : Thread Cert.RLbIdeal.nD Cert.RLbIdeal.τ).loc Cert.RLbIdeal.main_arg2)
      ∧ r.2.mem ((c.tc : Thread Cert.RLbIdeal.nD Cert.RLbIdeal.τ).loc Cert.RLbIdeal.main_arg3) = m ((c.tc : Thread Cert.RLbIdeal.nD Cert.RLbIdeal.τ).loc Cert.RLbIdeal.main_arg3)) ∧ r.2.sem = fun _ => 0) :=
  (θ_run Cert.RLbIdeal.defs _ _).mono (fun r e => ⟨fun c => (e c).2.2.2.2, sem_eq_zero_of_no_sems (by decide) r.2⟩) (Cert.RLbIdeal.Value.run m ρ)

/-- On equal finite arguments the kernel and the reference leave equal results. -/
theorem equal : haveI := Cert.KLbIdeal.Gen.facts; haveI := Cert.RLbIdeal.Gen.facts; haveI := facts
    algebraic_KLbIdeal_RLbIdeal_pre_finite_lb := by
  intro m g m' g' hp ha
  refine ⟨_, _, _, _, kernel m g, (θ_run _ _ _).mono (fun r q c => ?_) (Cert.RLbIdeal.Value.run m' g')⟩
  obtain ⟨X', Y', D', A', e0, e1, e2, e3⟩ := reals _ _ _ _ (hp c)
  have a0 := (ha c).1.trans e0
  have a1 := (ha c).2.1.trans e1
  have a2 := (ha c).2.2.1.trans e2
  have a3 := (ha c).2.2.2.trans e3
  have z : dz (Cert.Pay.m2 X') (Cert.Pay.m2 Y') (Cert.Pay.m2 D') (Cert.Pay.m2 fun _ j => A' j) = dz (X m c) (Y m c) (D m c) (A m c) :=
    (congr (congr (congrArg₂ dz e0 e1) e2) e3).symm
  have v62 : Cert.RLbIdeal.Read.val_main_v62 (F := Ideal) (m' ((c.tc : Thread Cert.RLbIdeal.nD Cert.RLbIdeal.τ).loc Cert.RLbIdeal.main_arg0)) (m' ((c.tc : Thread Cert.RLbIdeal.nD Cert.RLbIdeal.τ).loc Cert.RLbIdeal.main_arg1)) (m' ((c.tc : Thread Cert.RLbIdeal.nD Cert.RLbIdeal.τ).loc Cert.RLbIdeal.main_arg2)) (m' ((c.tc : Thread Cert.RLbIdeal.nD Cert.RLbIdeal.τ).loc Cert.RLbIdeal.main_arg3)) = dz (X m c) (Y m c) (D m c) (A m c) :=
    ((congr (congr (congrArg₂ (Cert.RLbIdeal.Read.val_main_v62 (F := Ideal)) a0 a1) a2) a3).trans (r62 X' Y' D' A')).trans z
  refine ⟨(q c).1.trans ?_, (q c).2.1.trans ?_, (q c).2.2.1.trans ?_, (q c).2.2.2.1.trans ?_, (q c).2.2.2.2⟩
  · exact (Cert.RLbIdeal.Read.val_main_v62_eq _ _).trans v62
  · exact (Cert.RLbIdeal.Read.val_main_v63_eq _ _).trans ((r63 _ _ _ _).trans v62)
  · exact (Cert.RLbIdeal.Read.val_main_v36_eq _ _ _).trans ((r36 _ _ _).trans (congr (congrArg₂ dgain (ha c).1 (ha c).2.1) (ha c).2.2.1))
  · exact (Cert.RLbIdeal.Read.val_main_v33_eq _).trans ((r33 _).trans (congrArg doff (ha c).2.2.1))

end Cert.RwLb
end
-- ==== Proof.RwCa.lean ====
/- The gradient of the gated convolution: what the kernel and the reference leave in their results. -/
module

public import proofs.«01_k».proof.Defs
public import proofs.«01_k».proof.Proof.Mm
public import proofs.«01_k».proof.Proof.Gen.KCa.Frame
public import proofs.«01_k».proof.Proof.Gen.KCaIdeal.Frame
public import proofs.«01_k».proof.Proof.Gen.RCaIdeal.Run
public import proofs.«01_k».proof.Proof.Gen.RCaIdeal.Read
public import proofs.«01_k».proof.Proof.Finite
public import proofs.«01_k».proof.Proof.RefC
public import proofs.«01_k».proof.Proof.RwCf
public import Idealize.ShloMosaic.Lib.Pipeline.ValueKit
public import Idealize.ShloMosaic.Lib.Pipeline.ReadBack

@[expose] public section
noncomputable section
namespace Cert.RwCa
open Cert.KCaIdeal Cert.KCaIdeal.Gen Idealize.ShloMosaic Idealize.ShloMosaic.StableHlo Idealize.ShloMosaic.TcCoe Idealize.SL.Sem

open Cert.RwCf (sel ext tap ext_row)

/-! ### The stores of the body -/

/-- The tangent inside the gelu of a value. -/
def thk (v : EReal) : EReal := Ideal.tanh (Ideal.ofBits .f32 0x3F4C422A#32 * v * (1 + ((Cert.Spec.C : ℝ) : EReal) * (v * v)))
/-- The factor by which the gelu multiplies its argument. -/
def hf (v : EReal) : EReal := Ideal.ofBits .f32 0x3F000000#32 * (1 + thk v)
/-- The derivative of the gelu. -/
def dgl (v : EReal) : EReal :=
  hf v + Ideal.ofBits .f32 0x3F000000#32 * v * (1 - thk v * thk v) * Ideal.ofBits .f32 0x3F4C422A#32 * (1 + ((Cert.Spec.C3 : ℝ) : EReal) * (v * v))

theorem named_c : (Named.named κ "gelu_c" 0x3D372713#32 : Ideal .f32) = ((Cert.Spec.C : ℝ) : EReal) := rfl
theorem named_c3 : (Named.named κ "gelu_3c" 0x3E095D4F#32 : Ideal .f32) = ((Cert.Spec.C3 : ℝ) : EReal) := rfl

theorem pay1 (v : S256x2816.Idx → EReal) (r : Fin 256) (j : Fin 2816) : k0_pay1 (F := Ideal) v (ix2 r j) = v (ix2 r j) := by
  pointwise [k0_pay1]
theorem pay2 (v : S256x2816.Idx → EReal) (r : Fin 256) (j : Fin 2816) : k0_pay2 (F := Ideal) v (ix2 r j) = v (ix2 r j) := by
  pointwise [k0_pay2]
theorem pay3 (j : Fin 2816) : k0_pay3 (F := Ideal) (ix2 0 j) = 0 := by
  pointwise [k0_pay3]
theorem pay4 (j : Fin 2816) : k0_pay4 (F := Ideal) (ix2 0 j) = 0 := by
  pointwise [k0_pay4]
theorem pay5 (j : Fin 2816) : k0_pay5 (F := Ideal) (ix2 0 j) = 0 := by
  pointwise [k0_pay5]
theorem pay6 (j : Fin 2816) : k0_pay6 (F := Ideal) (ix2 0 j) = 0 := by
  pointwise [k0_pay6]
theorem pay7 (v a : S1x2816.Idx → EReal) (j : Fin 2816) : k0_pay7 (F := Ideal) v a (ix2 0 j) = a (ix2 0 j) + v (ix2 0 j) := by
  pointwise [k0_pay7]
theorem pay8 (v a : S1x2816.Idx → EReal) (j : Fin 2816) : k0_pay8 (F := Ideal) v a (ix2 0 j) = a (ix2 0 j) + v (ix2 0 j) := by
  pointwise [k0_pay8]
theorem pay9 (v a : S1x2816.Idx → EReal) (j : Fin 2816) : k0_pay9 (F := Ideal) v a (ix2 0 j) = a (ix2 0 j) + v (ix2 0 j) := by
  pointwise [k0_pay9]

theorem pay12 (i : grid0.Coords) (x : S256x2816.Idx → EReal) (h : S8x2816.Idx → EReal) (X : S4096x2816.Idx → EReal) (n : ℕ) (hi : (i 0).val = n) (hn : n < 16) (j : Fin 2816)
    (hx : ∀ r : Fin 256, x (ix2 r j) = ext X (256 * n + r.val + 2) j) (h7 : (if n = 0 then 0 else h (ix2 7 j)) = ext X (256 * n + 1) j) (r : Fin 256) :
    k0_pay12 (F := Ideal) i x h (ix2 r j) = ext X (256 * n + r.val + 1) j := by
  pointwise [k0_pay12, k0_pay11]
  have hr := r.isLt
  have s0 : ∀ a b : EReal, Scalar.select (Scalar.cmpi CmpIPredicate.eq (BitVec.ofNat 32 (i 0).val) 0#32) a b = if n = 0 then a else b := fun a b => by
    rw [hi]
    exact sel n 0 (by omega) (by omega) a b
  rw [s0, h7, sel r.val 0 (by omega) (by omega), hx]
  by_cases h0 : r.val = 0
  · rw [if_pos h0]
    exact congrArg (fun k => ext X k j) (by omega)
  · rw [if_neg h0]
    exact congrArg (fun k => ext X k j) (by dsimp only; omega)

theorem pay13 (i : grid0.Coords) (x : S256x2816.Idx → EReal) (h : S8x2816.Idx → EReal) (X : S4096x2816.Idx → EReal) (n : ℕ) (hi : (i 0).val = n) (hn : n < 16) (j : Fin 2816)
    (hx : ∀ r : Fin 256, x (ix2 r j) = ext X (256 * n + r.val + 2) j) (h6 : (if n = 0 then 0 else h (ix2 6 j)) = ext X (256 * n) j) (h7 : (if n = 0 then 0 else h (ix2 7 j)) = ext X (256 * n + 1) j) (r : Fin 256) :
    k0_pay13 (F := Ideal) i x h (ix2 r j) = ext X (256 * n + r.val) j := by
  pointwise [k0_pay13, k0_pay11]
  have hr := r.isLt
  have s0 : ∀ a b : EReal, Scalar.select (Scalar.cmpi CmpIPredicate.eq (BitVec.ofNat 32 (i 0).val) 0#32) a b = if n = 0 then a else b := fun a b => by
    rw [hi]
    exact sel n 0 (by omega) (by omega) a b
  rw [s0, s0, h6, h7, sel r.val 0 (by omega) (by omega), sel r.val 1 (by omega) (by omega), hx]
  by_cases h0 : r.val = 0
  · rw [if_pos h0]
    exact congrArg (fun k => ext X k j) (by omega)
  · rw [if_neg h0]
    by_cases h1 : r.val = 1
    · rw [if_pos h1]
      exact congrArg (fun k => ext X k j) (by omega)
    · rw [if_neg h1]
      exact congrArg (fun k => ext X k j) (by dsimp only; omega)

theorem pay16 (i : grid0.Coords) (x : S256x2816.Idx → EReal) (h : S8x2816.Idx → EReal) (w : S3x2816.Idx → EReal) (b : S1x2816.Idx → EReal) (r : Fin 256) (j : Fin 2816) :
    k0_pay16 (F := Ideal) b (k0_pay14 (F := Ideal) i x h w) (k0_pay15 (F := Ideal) x w) (ix2 r j)
      = w (ix2 0 j) * k0_pay13 (F := Ideal) i x h (ix2 r j) + w (ix2 1 j) * k0_pay12 (F := Ideal) i x h (ix2 r j) + w (ix2 2 j) * x (ix2 r j) + b (ix2 0 j) := by
  pointwise [k0_pay16, k0_pay15, k0_pay14]

theorem pay20 (v d : S256x2816.Idx → EReal) (b : S1x2816.Idx → EReal) (p q : S256x2816.Idx → EReal) (r : Fin 256) (j : Fin 2816) :
    k0_pay20 (F := Ideal) v d b p q (ix2 r j) = d (ix2 r j) * v (ix2 r j) * dgl (k0_pay16 (F := Ideal) b p q (ix2 r j)) := by
  pointwise [k0_pay20, k0_pay19, k0_pay18, k0_pay17, dgl, hf, thk, named_c, named_c3]
theorem pay21 (d : S256x2816.Idx → EReal) (b : S1x2816.Idx → EReal) (p q : S256x2816.Idx → EReal) (r : Fin 256) (j : Fin 2816) :
    k0_pay21 (F := Ideal) d b p q (ix2 r j) = d (ix2 r j) * (k0_pay16 (F := Ideal) b p q (ix2 r j) * hf (k0_pay16 (F := Ideal) b p q (ix2 r j))) := by
  pointwise [k0_pay21, k0_pay19, k0_pay18, k0_pay17, hf, thk, named_c]
theorem pay22 (v d : S256x2816.Idx → EReal) (b : S1x2816.Idx → EReal) (x p q : S256x2816.Idx → EReal) (j : Fin 2816) :
    k0_pay22 (F := Ideal) v d b x p q (ix2 0 j) = ∑ r : Fin 256, k0_pay20 (F := Ideal) v d b p q (ix2 r j) * x (ix2 r j) := by
  pointwise [k0_pay22]
theorem pay23 (v d : S256x2816.Idx → EReal) (b : S1x2816.Idx → EReal) (x p q : S256x2816.Idx → EReal) (j : Fin 2816) :
    k0_pay23 (F := Ideal) v d b x p q (ix2 0 j) = ∑ r : Fin 256, k0_pay20 (F := Ideal) v d b p q (ix2 r j) * x (ix2 r j) := by
  pointwise [k0_pay23]
theorem pay24 (x v d : S256x2816.Idx → EReal) (b : S1x2816.Idx → EReal) (p q : S256x2816.Idx → EReal) (j : Fin 2816) :
    k0_pay24 (F := Ideal) x v d b p q (ix2 0 j) = ∑ r : Fin 256, k0_pay20 (F := Ideal) v d b p q (ix2 r j) * x (ix2 r j) := by
  pointwise [k0_pay24]
theorem pay10 (v d : S256x2816.Idx → EReal) (b : S1x2816.Idx → EReal) (p q : S256x2816.Idx → EReal) (a : S1x2816.Idx → EReal) (j : Fin 2816) :
    k0_pay10 (F := Ideal) (k0_pay25 (F := Ideal) v d b p q) a (ix2 0 j) = a (ix2 0 j) + ∑ r : Fin 256, k0_pay20 (F := Ideal) v d b p q (ix2 r j) := by
  pointwise [k0_pay10, k0_pay25]

theorem ldX (x : Vec Ideal S256x2816 .f32) (h) : View.ld (Val := Elt Ideal) (e' := .f32) (S := S256x2816) x (Rect.unit ![0, 0] ![256, 2816] h) = x :=
  View.ld_unit_lit (Val := Elt Ideal) (e := .f32) (S := S256x2816) h x (by decide)
theorem ldH (x : Vec Ideal S8x2816 .f32) (h) : View.ld (Val := Elt Ideal) (e' := .f32) (S := S8x2816) x (Rect.unit ![0, 0] ![8, 2816] h) = x :=
  View.ld_unit_lit (Val := Elt Ideal) (e := .f32) (S := S8x2816) h x (by decide)
theorem ldD (x : Vec Ideal S256x2816 .bf16) (h) : View.ld (Val := Elt Ideal) (e' := .bf16) (S := S256x2816) x (Rect.unit ![0, 0] ![256, 2816] h) = x :=
  View.ld_unit_lit (Val := Elt Ideal) (e := .bf16) (S := S256x2816) h x (by decide)
theorem ldW (x : Vec Ideal S3x2816 .f32) (h) : View.ld (Val := Elt Ideal) (e' := .f32) (S := S3x2816) x (Rect.unit ![0, 0] ![3, 2816] h) = x :=
  View.ld_unit_lit (Val := Elt Ideal) (e := .f32) (S := S3x2816) h x (by decide)
theorem ldB (x : Vec Ideal S1x2816 .f32) (h) : View.ld (Val := Elt Ideal) (e' := .f32) (S := S1x2816) x (Rect.unit ![0, 0] ![1, 2816] h) = x :=
  View.ld_unit_lit (Val := Elt Ideal) (e := .f32) (S := S1x2816) h x (by decide)

section Case
variable (c : Dev nD) (i : grid0.Coords) (arg1 : Memref sig .tc .vmem S256x2816 .f32) (harg1 : arg1.IsWhole) (arg2 : Memref sig .tc .vmem S8x2816 .f32) (harg2 : arg2.IsWhole) (arg3 : Memref sig .tc .vmem S256x2816 .f32) (harg3 : arg3.IsWhole) (arg4 : Memref sig .tc .vmem S256x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S256x2816 .bf16) (harg7 : arg7.IsWhole) (arg8 : Memref sig .tc .vmem S256x2816 .bf16) (harg8 : arg8.IsWhole) (arg9 : Memref sig .tc .vmem S1x2816 .f32) (harg9 : arg9.IsWhole) (arg10 : Memref sig .tc .vmem S1x2816 .f32) (harg10 : arg10.IsWhole) (arg11 : Memref sig .tc .vmem S1x2816 .f32) (harg11 : arg11.IsWhole) (arg12 : Memref sig .tc .vmem S1x2816 .f32) (harg12 : arg12.IsWhole)
variable (x0 : Vec Ideal S256x2816 .f32) (x1 : Vec Ideal S8x2816 .f32) (x2 : Vec Ideal S256x2816 .f32) (x3 : Vec Ideal S256x2816 .bf16) (x4 : Vec Ideal S3x2816 .f32) (x5 x8 x9 x10 x11 : Vec Ideal S1x2816 .f32)

theorem out_A_6 (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay1 (F := Ideal) (k0_pay20 (F := Ideal) x2 x3 x5 (k0_pay14 (F := Ideal) i x0 x1 x4) (k0_pay15 (F := Ideal) x0 x4)) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_A_7 (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay2 (F := Ideal) (k0_pay21 (F := Ideal) x3 x5 (k0_pay14 (F := Ideal) i x0 x1 x4) (k0_pay15 (F := Ideal) x0 x4)) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_A_8 (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay7 (F := Ideal) (k0_pay22 (F := Ideal) x2 x3 x5 (k0_pay13 (F := Ideal) i x0 x1) (k0_pay14 (F := Ideal) i x0 x1 x4) (k0_pay15 (F := Ideal) x0 x4)) (k0_pay3 (F := Ideal)) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_cons_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_A_9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay8 (F := Ideal) (k0_pay23 (F := Ideal) x2 x3 x5 (k0_pay12 (F := Ideal) i x0 x1) (k0_pay14 (F := Ideal) i x0 x1 x4) (k0_pay15 (F := Ideal) x0 x4)) (k0_pay4 (F := Ideal)) := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_cons_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_A_10 (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay9 (F := Ideal) (k0_pay24 (F := Ideal) x0 x2 x3 x5 (k0_pay14 (F := Ideal) i x0 x1 x4) (k0_pay15 (F := Ideal) x0 x4)) (k0_pay5 (F := Ideal)) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_cons_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_A_11 (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay10 (F := Ideal) (k0_pay25 (F := Ideal) x2 x3 x5 (k0_pay14 (F := Ideal) i x0 x1 x4) (k0_pay15 (F := Ideal) x0 x4)) (k0_pay6 (F := Ideal)) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_cons_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_B_6 (hc0 : ¬cond0_0 i) : out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11 = k0_pay1 (F := Ideal) (k0_pay20 (F := Ideal) x2 x3 x5 (k0_pay14 (F := Ideal) i x0 x1 x4) (k0_pay15 (F := Ideal) x0 x4)) := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_B_7 (hc0 : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11 = k0_pay2 (F := Ideal) (k0_pay21 (F := Ideal) x3 x5 (k0_pay14 (F := Ideal) i x0 x1 x4) (k0_pay15 (F := Ideal) x0 x4)) := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_B_8 (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11 = k0_pay7 (F := Ideal) (k0_pay22 (F := Ideal) x2 x3 x5 (k0_pay13 (F := Ideal) i x0 x1) (k0_pay14 (F := Ideal) i x0 x1 x4) (k0_pay15 (F := Ideal) x0 x4)) x8 := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_B_9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11 = k0_pay8 (F := Ideal) (k0_pay23 (F := Ideal) x2 x3 x5 (k0_pay12 (F := Ideal) i x0 x1) (k0_pay14 (F := Ideal) i x0 x1 x4) (k0_pay15 (F := Ideal) x0 x4)) x9 := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_B_10 (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11 = k0_pay9 (F := Ideal) (k0_pay24 (F := Ideal) x0 x2 x3 x5 (k0_pay14 (F := Ideal) i x0 x1 x4) (k0_pay15 (F := Ideal) x0 x4)) x10 := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]

theorem out_B_11 (hc0 : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11 = k0_pay10 (F := Ideal) (k0_pay25 (F := Ideal) x2 x3 x5 (k0_pay14 (F := Ideal) i x0 x1 x4) (k0_pay15 (F := Ideal) x0 x4)) x11 := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x8 x9 x10 x11)]
  unfold kernelRun0_B
  dsimp only
  sl_unfold_words
  rw [View.canon_unit_zero (by decide)]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ↓View.readCov_skip, ↓View.readCov_fill, ldX, ldH, ldD, ldW, ldB]
end Case

/-! ### The tiles -/

/-- Row `i` of the tile of point `n`. -/
abbrev row (n : ℕ) (i : Fin 256) : Fin 4096 := Cert.Mm.pos 4096 (by decide) (256 * n + i.val)
/-- Row `i` of the block of rows in front of the tile of point `n`. -/
abbrev rowH (n : ℕ) (i : Fin 8) : Fin 4096 := Cert.Mm.pos 4096 (by decide) (8 * (32 * n - 1) + i.val)

theorem pt : ∀ t : Fin cfg0.N, ((grid0.coords t) 0).val = t.val := by decide +kernel
theorem idx0 : ∀ t : Fin cfg0.N, win0_0.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx1 : ∀ t : Fin cfg0.N, win0_1.index t = ![32 * t.val - 1, 0] := by decide +kernel
theorem idx4 : ∀ t : Fin cfg0.N, win0_4.index t = ![0, 0] := by decide +kernel
theorem idx5 : ∀ t : Fin cfg0.N, win0_5.index t = ![0, 0] := by decide +kernel

theorem row_val (t : Fin cfg0.N) (i : Fin 256) : (row t.val i).val = 256 * t.val + i.val := by
  have hN : t.val < 16 := lt_of_lt_of_eq t.isLt N_0
  have := i.isLt
  exact Nat.mod_eq_of_lt (show 256 * t.val + i.val < 4096 by omega)

section Val
variable (X V D : S4096x2816.Idx → EReal) (w : S3x2816.Idx → EReal) (b : S1x2816.Idx → EReal)
/-- The gradient of the convolution's result. -/
def dc : S4096x2816.Idx → EReal := fun y => D (ix2 (y 0) (y 1)) * V (ix2 (y 0) (y 1)) * dgl (tap X w b (y 0).val (y 1))
/-- The gradient of the values that the gate multiplies. -/
def dv : S4096x2816.Idx → EReal := fun y => D (ix2 (y 0) (y 1)) * (tap X w b (y 0).val (y 1) * hf (tap X w b (y 0).val (y 1)))
/-- The gradient of the tap at distance `2 - k`. -/
def dw (k : ℕ) : S1x2816.Idx → EReal := fun y => ∑ r : Fin 4096, dc X V D w b (ix2 r (y 1)) * ext X (r.val + k) (y 1)
/-- The gradients of the three taps. -/
def dws : S3x2816.Idx → EReal := fun y => ∑ r : Fin 4096, dc X V D w b (ix2 r (y 1)) * ext X (r.val + (y 0).val) (y 1)
/-- The gradient of the offset. -/
def db : S1x2816.Idx → EReal := fun y => ∑ r : Fin 4096, dc X V D w b (ix2 r (y 1))
/-- What the tile of point `n` adds to the gradients of the taps and of the offset. -/
def termW (k n : ℕ) (j : Fin 2816) : EReal := ∑ i : Fin 256, dc X V D w b (ix2 (row n i) j) * ext X ((row n i).val + k) j
def termB (n : ℕ) (j : Fin 2816) : EReal := ∑ i : Fin 256, dc X V D w b (ix2 (row n i) j)
end Val

section Arr
variable (m : (ℓ : Loc nD τ sig) → Buf (Elt Ideal) ℓ) (c : Dev nD)

/-- The arrays the kernel reads: the gate, the values it multiplies, the gradient, the taps and the offset. -/
abbrev X : S4096x2816.Idx → EReal := m ((c : Thread nD τ).loc main_arg0)
abbrev V' : S4096x2816.Idx → EReal := m ((c : Thread nD τ).loc main_arg1)
abbrev D : S4096x2816.Idx → EReal := m ((c : Thread nD τ).loc main_arg2)
abbrev W' : S3x2816.Idx → EReal := m ((c : Thread nD τ).loc main_arg3)
abbrev B : S1x2816.Idx → EReal := m ((c : Thread nD τ).loc main_arg4)

theorem blk0 (t : Fin cfg0.N) (i : Fin 256) (j : Fin 2816) : (iblk m c 0 t : S256x2816.Idx → EReal) (ix2 i j) = X m c (ix2 (row t.val i) j) := by
  have hN : t.val < 16 := lt_of_lt_of_eq t.isLt N_0
  blk_ext [iblk, idx0 t, row]

theorem blk2 (t : Fin cfg0.N) (i : Fin 256) (j : Fin 2816) : (iblk m c 2 t : S256x2816.Idx → EReal) (ix2 i j) = V' m c (ix2 (row t.val i) j) := by
  have hN : t.val < 16 := lt_of_lt_of_eq t.isLt N_0
  blk_ext [iblk, idx2 t, row]

theorem blk3 (t : Fin cfg0.N) (i : Fin 256) (j : Fin 2816) : (iblk m c 3 t : S256x2816.Idx → EReal) (ix2 i j) = D m c (ix2 (row t.val i) j) := by
  have hN : t.val < 16 := lt_of_lt_of_eq t.isLt N_0
  blk_ext [iblk, idx3 t, row]

theorem blk1 (t : Fin cfg0.N) (i : Fin 8) (j : Fin 2816) : (iblk m c 1 t : S8x2816.Idx → EReal) (ix2 i j) = X m c (ix2 (rowH t.val i) j) := by
  have hN : t.val < 16 := lt_of_lt_of_eq t.isLt N_0
  blk_ext [iblk, idx1 t, rowH]
theorem blk4 (t : Fin cfg0.N) : (iblk m c 4 t : S3x2816.Idx → EReal) = W' m c := by
  funext y
  obtain ⟨i, j, rfl⟩ : ∃ (i : Fin 3) (j : Fin 2816), y = ix2 i j := ⟨y 0, y 1, eq_ix2 y⟩
  blk_ext [iblk, idx4 t]
theorem blk5 (t : Fin cfg0.N) : (iblk m c 5 t : S1x2816.Idx → EReal) = B m c := by
  funext y
  obtain ⟨i, j, rfl⟩ : ∃ (i : Fin 1) (j : Fin 2816), y = ix2 i j := ⟨y 0, y 1, eq_ix2 y⟩
  blk_ext [iblk, idx5 t]

theorem halo (t : Fin cfg0.N) (q : Fin 8) (hq : 6 ≤ q.val) (j : Fin 2816) :
    (if t.val = 0 then (0 : EReal) else (iblk m c 1 t : S8x2816.Idx → EReal) (ix2 q j)) = ext (X m c) (256 * t.val + (q.val - 6)) j := by
  have hN : t.val < 16 := lt_of_lt_of_eq t.isLt N_0
  have := q.isLt
  by_cases h : t.val = 0
  · rw [if_pos h]
    unfold ext
    rw [dif_neg (by omega)]
  · rw [if_neg h]
    refine (blk1 m c t q j).trans (ext_row _ _ _ _ ?_)
    show (8 * (32 * t.val - 1) + q.val) % 4096 + 2 = _
    rw [Nat.mod_eq_of_lt (by omega)]
    omega

theorem gate_row (t : Fin cfg0.N) (r : Fin 256) (j : Fin 2816) : (iblk m c 0 t : S256x2816.Idx → EReal) (ix2 r j) = ext (X m c) (256 * t.val + r.val + 2) j :=
  (blk0 m c t r j).trans (ext_row _ _ _ _ (congrArg (· + 2) (row_val t r)))

/-- The two shifted tiles: the rows two and one in front. -/
theorem at12 (t : Fin cfg0.N) (r : Fin 256) (j : Fin 2816) : k0_pay12 (F := Ideal) (grid0.coords t) (iblk m c 0 t) (iblk m c 1 t) (ix2 r j) = ext (X m c) ((row t.val r).val + 1) j := by
  rw [row_val]
  exact pay12 (grid0.coords t) _ _ (X m c) t.val (pt t) (lt_of_lt_of_eq t.isLt N_0) j (fun r => gate_row m c t r j) (halo m c t 7 (by decide) j) r
theorem at13 (t : Fin cfg0.N) (r : Fin 256) (j : Fin 2816) : k0_pay13 (F := Ideal) (grid0.coords t) (iblk m c 0 t) (iblk m c 1 t) (ix2 r j) = ext (X m c) ((row t.val r).val + 0) j := by
  rw [row_val]
  exact pay13 (grid0.coords t) _ _ (X m c) t.val (pt t) (lt_of_lt_of_eq t.isLt N_0) j (fun r => gate_row m c t r j) (halo m c t 6 (by decide) j) (halo m c t 7 (by decide) j) r

theorem at16 (t : Fin cfg0.N) (r : Fin 256) (j : Fin 2816) :
    k0_pay16 (F := Ideal) (iblk m c 5 t) (k0_pay14 (F := Ideal) (grid0.coords t) (iblk m c 0 t) (iblk m c 1 t) (iblk m c 4 t)) (k0_pay15 (F := Ideal) (iblk m c 0 t) (iblk m c 4 t)) (ix2 r j)
      = tap (X m c) (W' m c) (B m c) (row t.val r).val j := by
  rw [blk4, blk5]
  refine (pay16 _ _ _ _ _ r j).trans ?_
  rw [at12, at13, gate_row, row_val]
  rfl

theorem at20 (t : Fin cfg0.N) (r : Fin 256) (j : Fin 2816) :
    k0_pay20 (F := Ideal) (iblk m c 2 t) (iblk m c 3 t) (iblk m c 5 t) (k0_pay14 (F := Ideal) (grid0.coords t) (iblk m c 0 t) (iblk m c 1 t) (iblk m c 4 t)) (k0_pay15 (F := Ideal) (iblk m c 0 t) (iblk m c 4 t)) (ix2 r j)
      = dc (X m c) (V' m c) (D m c) (W' m c) (B m c) (ix2 (row t.val r) j) :=
  (pay20 _ _ _ _ _ r j).trans (congrArg₂ (fun x y : EReal => x * y) (congrArg₂ (fun x y : EReal => x * y) (blk3 m c t r j) (blk2 m c t r j)) (congrArg dgl (at16 m c t r j)))

theorem at21 (t : Fin cfg0.N) (r : Fin 256) (j : Fin 2816) :
    k0_pay21 (F := Ideal) (iblk m c 3 t) (iblk m c 5 t) (k0_pay14 (F := Ideal) (grid0.coords t) (iblk m c 0 t) (iblk m c 1 t) (iblk m c 4 t)) (k0_pay15 (F := Ideal) (iblk m c 0 t) (iblk m c 4 t)) (ix2 r j)
      = dv (X m c) (D m c) (W' m c) (B m c) (ix2 (row t.val r) j) :=
  (pay21 _ _ _ _ r j).trans (congrArg₂ (fun x y : EReal => x * y) (blk3 m c t r j) (congrArg₂ (fun x y : EReal => x * y) (at16 m c t r j) (congrArg hf (at16 m c t r j))))

theorem step0 (t : Fin cfg0.N) (a : S1x2816.Idx → EReal) (j : Fin 2816) :
    k0_pay7 (F := Ideal) (k0_pay22 (F := Ideal) (iblk m c 2 t) (iblk m c 3 t) (iblk m c 5 t) (k0_pay13 (F := Ideal) (grid0.coords t) (iblk m c 0 t) (iblk m c 1 t)) (k0_pay14 (F := Ideal) (grid0.coords t) (iblk m c 0 t) (iblk m c 1 t) (iblk m c 4 t)) (k0_pay15 (F := Ideal) (iblk m c 0 t) (iblk m c 4 t))) a (ix2 0 j) = a (ix2 0 j) + termW (X m c) (V' m c) (D m c) (W' m c) (B m c) 0 t.val j :=
  (pay7 _ _ j).trans (congrArg _ ((pay22 _ _ _ _ _ _ j).trans (Finset.sum_congr rfl fun i _ => congrArg₂ (fun x y : EReal => x * y) (at20 m c t i j) (at13 m c t i j))))

theorem step1 (t : Fin cfg0.N) (a : S1x2816.Idx → EReal) (j : Fin 2816) :
    k0_pay8 (F := Ideal) (k0_pay23 (F := Ideal) (iblk m c 2 t) (iblk m c 3 t) (iblk m c 5 t) (k0_pay12 (F := Ideal) (grid0.coords t) (iblk m c 0 t) (iblk m c 1 t)) (k0_pay14 (F := Ideal) (grid0.coords t) (iblk m c 0 t) (iblk m c 1 t) (iblk m c 4 t)) (k0_pay15 (F := Ideal) (iblk m c 0 t) (iblk m c 4 t))) a (ix2 0 j) = a (ix2 0 j) + termW (X m c) (V' m c) (D m c) (W' m c) (B m c) 1 t.val j :=
  (pay8 _ _ j).trans (congrArg _ ((pay23 _ _ _ _ _ _ j).trans (Finset.sum_congr rfl fun i _ => congrArg₂ (fun x y : EReal => x * y) (at20 m c t i j) (at12 m c t i j))))

theorem step2 (t : Fin cfg0.N) (a : S1x2816.Idx → EReal) (j : Fin 2816) :
    k0_pay9 (F := Ideal) (k0_pay24 (F := Ideal) (iblk m c 0 t) (iblk m c 2 t) (iblk m c 3 t) (iblk m c 5 t) (k0_pay14 (F := Ideal) (grid0.coords t) (iblk m c 0 t) (iblk m c 1 t) (iblk m c 4 t)) (k0_pay15 (F := Ideal) (iblk m c 0 t) (iblk m c 4 t))) a (ix2 0 j) = a (ix2 0 j) + termW (X m c) (V' m c) (D m c) (W' m c) (B m c) 2 t.val j :=
  (pay9 _ _ j).trans (congrArg _ ((pay24 _ _ _ _ _ _ j).trans (Finset.sum_congr rfl fun i _ => congrArg₂ (fun x y : EReal => x * y) (at20 m c t i j) ((gate_row m c t i j).trans (congrArg (fun k => ext (X m c) (k + 2) j) (row_val t i).symm)))))

theorem step3 (t : Fin cfg0.N) (a : S1x2816.Idx → EReal) (j : Fin 2816) :
    k0_pay10 (F := Ideal) (k0_pay25 (F := Ideal) (iblk m c 2 t) (iblk m c 3 t) (iblk m c 5 t) (k0_pay14 (F := Ideal) (grid0.coords t) (iblk m c 0 t) (iblk m c 1 t) (iblk m c 4 t)) (k0_pay15 (F := Ideal) (iblk m c 0 t) (iblk m c 4 t))) a (ix2 0 j) = a (ix2 0 j) + termB (X m c) (V' m c) (D m c) (W' m c) (B m c) t.val j :=
  (pay10 _ _ _ _ _ _ j).trans (congrArg _ (Finset.sum_congr rfl fun i _ => at20 m c t i j))

/-- The four accumulators after point `n`: the sums over the tiles so far. -/
theorem acc (n : ℕ) (hn : n < cfg0.N) (j : Fin 2816) :
    (outsAt0 m c n hn).2.2.1 (ix2 0 j) = ∑ q ∈ Finset.range (n + 1), termW (X m c) (V' m c) (D m c) (W' m c) (B m c) 0 q j
      ∧ (outsAt0 m c n hn).2.2.2.1 (ix2 0 j) = ∑ q ∈ Finset.range (n + 1), termW (X m c) (V' m c) (D m c) (W' m c) (B m c) 1 q j
      ∧ (outsAt0 m c n hn).2.2.2.2.1 (ix2 0 j) = ∑ q ∈ Finset.range (n + 1), termW (X m c) (V' m c) (D m c) (W' m c) (B m c) 2 q j
      ∧ (outsAt0 m c n hn).2.2.2.2.2 (ix2 0 j) = ∑ q ∈ Finset.range (n + 1), termB (X m c) (V' m c) (D m c) (W' m c) (B m c) q j := by
  induction n with
  | zero =>
    rw [outsAt0_A m c ⟨0, hn⟩ rfl]
    dsimp only
    rw [out_A_8, out_A_9, out_A_10, out_A_11, step0, step1, step2, step3, pay3, pay4, pay5, pay6]
    simp
  | succ n ih =>
    have hN : n + 1 < 16 := lt_of_lt_of_eq hn N_0
    rw [outsAt0_B m c ⟨n + 1, hn⟩ (by dsimp only; omega)]
    dsimp only
    rw [out_B_8, out_B_9, out_B_10, out_B_11, step0, step1, step2, step3]
    simp only [Finset.sum_range_succ _ (n + 1)]
    have := ih (Nat.lt_of_succ_lt hn)
    exact ⟨congrArg (· + _) this.1, congrArg (· + _) this.2.1, congrArg (· + _) this.2.2.1, congrArg (· + _) this.2.2.2⟩

/-- The two tiles that point `t` writes out. -/
theorem tiles (t : Fin cfg0.N) : (outsAt0 m c t.val t.isLt).1 = k0_pay1 (F := Ideal) (k0_pay20 (F := Ideal) (iblk m c 2 t) (iblk m c 3 t) (iblk m c 5 t) (k0_pay14 (F := Ideal) (grid0.coords t) (iblk m c 0 t) (iblk m c 1 t) (iblk m c 4 t)) (k0_pay15 (F := Ideal) (iblk m c 0 t) (iblk m c 4 t)))
    ∧ (outsAt0 m c t.val t.isLt).2.1 = k0_pay2 (F := Ideal) (k0_pay21 (F := Ideal) (iblk m c 3 t) (iblk m c 5 t) (k0_pay14 (F := Ideal) (grid0.coords t) (iblk m c 0 t) (iblk m c 1 t) (iblk m c 4 t)) (k0_pay15 (F := Ideal) (iblk m c 0 t) (iblk m c 4 t))) := by
  by_cases h0 : t.val % 16 = 0
  · rw [outsAt0_A m c t h0]
    dsimp only
    rw [out_A_6, out_A_7]
    exact ⟨rfl, rfl⟩
  · rw [outsAt0_B m c t h0]
    dsimp only
    rw [out_B_6, out_B_7]
    exact ⟨rfl, rfl⟩

/-- The last point. -/
abbrev last : Fin cfg0.N := ⟨15, lt_of_lt_of_eq (by decide) N_0.symm⟩

theorem arr6 : (dats m 0 c).arrAt 6 cfg0.N = (dc (X m c) (V' m c) (D m c) (W' m c) (B m c) : S4096x2816.Idx → EReal) := by
  refine (dats m 0 c).arrAt_eq_of_covers 6 _ (by decide +kernel) (fun t hf y => ?_)
  blk_simp
  rw [after0_6, (tiles m c t).1]
  obtain ⟨i, j, rfl⟩ : ∃ (i : Fin 256) (j : Fin 2816), y = ix2 i j := ⟨y 0, y 1, eq_ix2 y⟩
  have hN : t.val < 16 := lt_of_lt_of_eq t.isLt N_0
  have e : ((cfg0.win 6).blk t).view.emb (ix2 i j) = (ix2 (row t.val i) j : S4096x2816.Idx) := by
    blk_ext [idx6 t, row]
  rw [e]
  exact (pay1 _ i j).trans (at20 m c t i j)

theorem arr7 : (dats m 0 c).arrAt 7 cfg0.N = (dv (X m c) (D m c) (W' m c) (B m c) : S4096x2816.Idx → EReal) := by
  refine (dats m 0 c).arrAt_eq_of_covers 7 _ (by decide +kernel) (fun t hf y => ?_)
  blk_simp
  rw [after0_7, (tiles m c t).2]
  obtain ⟨i, j, rfl⟩ : ∃ (i : Fin 256) (j : Fin 2816), y = ix2 i j := ⟨y 0, y 1, eq_ix2 y⟩
  have hN : t.val < 16 := lt_of_lt_of_eq t.isLt N_0
  have e : ((cfg0.win 7).blk t).view.emb (ix2 i j) = (ix2 (row t.val i) j : S4096x2816.Idx) := by
    blk_ext [idx7 t, row]
  rw [e]
  exact (pay2 _ i j).trans (at21 m c t i j)

theorem arr8 : (dats m 0 c).arrAt 8 cfg0.N = (dw (X m c) (V' m c) (D m c) (W' m c) (B m c) 0 : S1x2816.Idx → EReal) := by
  refine (dats m 0 c).arrAt_eq_of_after_last 8 last (by decide +kernel) _ fun j => ?_
  blk_simp
  rw [after0_8]
  obtain ⟨o, l, rfl⟩ : ∃ (o : Fin 1) (l : Fin 2816), j = ix2 o l := ⟨j 0, j 1, eq_ix2 j⟩
  rw [Subsingleton.elim o 0]
  exact (acc m c 15 _ l).1.trans (Cert.Mm.sum_blocks 4096 256 16 (by decide) rfl fun r => dc (X m c) (V' m c) (D m c) (W' m c) (B m c) (ix2 r l) * ext (X m c) (r.val + 0) l)

theorem arr9 : (dats m 0 c).arrAt 9 cfg0.N = (dw (X m c) (V' m c) (D m c) (W' m c) (B m c) 1 : S1x2816.Idx → EReal) := by
  refine (dats m 0 c).arrAt_eq_of_after_last 9 last (by decide +kernel) _ fun j => ?_
  blk_simp
  rw [after0_9]
  obtain ⟨o, l, rfl⟩ : ∃ (o : Fin 1) (l : Fin 2816), j = ix2 o l := ⟨j 0, j 1, eq_ix2 j⟩
  rw [Subsingleton.elim o 0]
  exact (acc m c 15 _ l).2.1.trans (Cert.Mm.sum_blocks 4096 256 16 (by decide) rfl fun r => dc (X m c) (V' m c) (D m c) (W' m c) (B m c) (ix2 r l) * ext (X m c) (r.val + 1) l)

theorem arr10 : (dats m 0 c).arrAt 10 cfg0.N = (dw (X m c) (V' m c) (D m c) (W' m c) (B m c) 2 : S1x2816.Idx → EReal) := by
  refine (dats m 0 c).arrAt_eq_of_after_last 10 last (by decide +kernel) _ fun j => ?_
  blk_simp
  rw [after0_10]
  obtain ⟨o, l, rfl⟩ : ∃ (o : Fin 1) (l : Fin 2816), j = ix2 o l := ⟨j 0, j 1, eq_ix2 j⟩
  rw [Subsingleton.elim o 0]
  exact (acc m c 15 _ l).2.2.1.trans (Cert.Mm.sum_blocks 4096 256 16 (by decide) rfl fun r => dc (X m c) (V' m c) (D m c) (W' m c) (B m c) (ix2 r l) * ext (X m c) (r.val + 2) l)

theorem arr11 : (dats m 0 c).arrAt 11 cfg0.N = (db (X m c) (V' m c) (D m c) (W' m c) (B m c) : S1x2816.Idx → EReal) := by
  refine (dats m 0 c).arrAt_eq_of_after_last 11 last (by decide +kernel) _ fun j => ?_
  blk_simp
  rw [after0_11]
  obtain ⟨o, l, rfl⟩ : ∃ (o : Fin 1) (l : Fin 2816), j = ix2 o l := ⟨j 0, j 1, eq_ix2 j⟩
  rw [Subsingleton.elim o 0]
  exact (acc m c 15 _ l).2.2.2.trans (Cert.Mm.sum_blocks 4096 256 16 (by decide) rfl fun r => dc (X m c) (V' m c) (D m c) (W' m c) (B m c) (ix2 r l))

/-- The host code behind the kernel puts the gradients of the three taps one under the other. -/
theorem tail (Y : Valuation τ sig (Elt Ideal)) : StableHlo.after (List.flatten [hostOps1]) Y (Proc.devRef .tc main_v1)
    = (concatenate S3x2816 0 [⟨S1x2816, (Y (Proc.devRef .tc main_v0_2) : S1x2816.Idx → EReal)⟩, ⟨S1x2816, (Y (Proc.devRef .tc main_v0_3) : S1x2816.Idx → EReal)⟩, ⟨S1x2816, (Y (Proc.devRef .tc main_v0_4) : S1x2816.Idx → EReal)⟩] concatenates_S1x2816_S1x2816_S1x2816_S3x2816_d0 : S3x2816.Idx → EReal) := by
  simp only [hostOps1, List.flatten_cons, List.flatten_nil, List.append_nil, List.cons_append, List.nil_append]
  after_results
  rfl

theorem res : Pipeline.afterTail₀ cfgs (dats m) 0 (V0 m) [hostOps1] c main_v1 = (dws (X m c) (V' m c) (D m c) (W' m c) (B m c) : S3x2816.Idx → EReal) := by
  unfold Pipeline.afterTail₀
  rw [tail]
  have e8 : Pipeline.withArrays (cfgs 0).spec c (V0 m c) (fun w => (dats m 0 c).arrAt w (cfgs 0).N) (Proc.devRef .tc main_v0_2) = (dw (X m c) (V' m c) (D m c) (W' m c) (B m c) 0 : S1x2816.Idx → EReal) :=
    ((dats m 0 c).withArrays_arrAt (by decide : Pipeline.SharedIn spec0) (V0 m c) (A_eq m c) 8).trans (arr8 m c)
  have e9 : Pipeline.withArrays (cfgs 0).spec c (V0 m c) (fun w => (dats m 0 c).arrAt w (cfgs 0).N) (Proc.devRef .tc main_v0_3) = (dw (X m c) (V' m c) (D m c) (W' m c) (B m c) 1 : S1x2816.Idx → EReal) :=
    ((dats m 0 c).withArrays_arrAt (by decide : Pipeline.SharedIn spec0) (V0 m c) (A_eq m c) 9).trans (arr9 m c)
  have e10 : Pipeline.withArrays (cfgs 0).spec c (V0 m c) (fun w => (dats m 0 c).arrAt w (cfgs 0).N) (Proc.devRef .tc main_v0_4) = (dw (X m c) (V' m c) (D m c) (W' m c) (B m c) 2 : S1x2816.Idx → EReal) :=
    ((dats m 0 c).withArrays_arrAt (by decide : Pipeline.SharedIn spec0) (V0 m c) (A_eq m c) 10).trans (arr10 m c)
  rw [e8, e9, e10]
  funext y
  obtain ⟨q, j, rfl⟩ : ∃ (q : Fin 3) (j : Fin 2816), y = ix2 q j := ⟨y 0, y 1, eq_ix2 y⟩
  match q with
  | 0 => pointwise [dw, dws]
  | 1 => pointwise [dw, dws]
  | 2 => pointwise [dw, dws]

end Arr

/-! ### The reference -/

section Ref
open Cert.RCaIdeal.Read Cert.Spec Cert.Pay Cert.Ref

theorem conv (x0 : S4096x2816.Idx → EReal) (x3 : S3x2816.Idx → EReal) (x4 : S1x2816.Idx → EReal) (r : Fin 4096) (j : Fin 2816) :
    val_main_v17 (F := Ideal) x0 x3 x4 (ix2 r j) = tap x0 x3 x4 r.val j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst]
  unfold tap
  have hr := r.isLt
  refine congrArg (· + _) (congrArg₂ _ (congrArg₂ _ (congrArg _ ?_) (congrArg _ ?_)) (congrArg _ (ext_row _ _ _ _ rfl)))
  · by_cases h : r.val < 2
    · rw [dif_pos h]
      unfold ext
      rw [dif_neg (by omega)]
    · rw [dif_neg h]
      exact ext_row _ _ _ _ (by dsimp only; omega)
  · by_cases h : 1 + r.val < 2
    · rw [dif_pos h]
      unfold ext
      rw [dif_neg (by omega)]
    · rw [dif_neg h]
      exact ext_row _ _ _ _ (by dsimp only; omega)

theorem r62 (x0 : S4096x2816.Idx → EReal) (r : Fin 4096) (j : Fin 2816) : val_main_v62 (F := Ideal) x0 (ix2 r j) = ext x0 (r.val + 0) j := by
  pointwise [val_main_v62, val_main_v60, val_main_v59, val_main_cst_12]
  have hr := r.isLt
  by_cases h : r.val < 2
  · rw [dif_pos h]
    unfold ext
    rw [dif_neg (by omega)]
  · rw [dif_neg h]
    exact ext_row _ _ _ _ (by dsimp only; omega)
theorem r66 (x0 : S4096x2816.Idx → EReal) (r : Fin 4096) (j : Fin 2816) : val_main_v66 (F := Ideal) x0 (ix2 r j) = ext x0 (r.val + 1) j := by
  pointwise [val_main_v66, val_main_v60, val_main_v59, val_main_cst_12]
  have hr := r.isLt
  by_cases h : 1 + r.val < 2
  · rw [dif_pos h]
    unfold ext
    rw [dif_neg (by omega)]
  · rw [dif_neg h]
    exact ext_row _ _ _ _ (by dsimp only; omega)
theorem r71 (x0 : S4096x2816.Idx → EReal) (r : Fin 4096) (j : Fin 2816) : val_main_v71 (F := Ideal) x0 (ix2 r j) = ext x0 (r.val + 2) j := by
  pointwise [val_main_v71, val_main_v60, val_main_v59, val_main_cst_12]
  exact ext_row _ _ _ _ rfl

variable (X V D : Fin 4096 → Fin 2816 → ℝ) (W : Fin 3 → Fin 2816 → ℝ) (B : Fin 2816 → ℝ)
/-- The rows with two rows of zeros in front, and the convolution, over the reals. -/
def extr (k : ℕ) (j : Fin 2816) : ℝ := if h : 2 ≤ k ∧ k < 4098 then X ⟨k - 2, by omega⟩ j else 0
def tapr (k : ℕ) (j : Fin 2816) : ℝ := W 0 j * extr X k j + W 1 j * extr X (k + 1) j + W 2 j * extr X (k + 2) j + B j

theorem ext_coe (k : ℕ) (j : Fin 2816) : ext (m2 X) k j = ((extr X k j : ℝ) : EReal) := by
  unfold ext extr
  by_cases h : 2 ≤ k ∧ k < 4098
  · rw [dif_pos h, dif_pos h]; rfl
  · rw [dif_neg h, dif_neg h]; rfl
theorem tap_coe (k : ℕ) (j : Fin 2816) : tap (m2 X) (m2 W) (m2 fun _ j => B j) k j = ((tapr X W B k j : ℝ) : EReal) := by
  simp only [tap, ext_coe, m2_ix, ← EReal.coe_mul, ← EReal.coe_add]; rfl
theorem thk_coe (v : ℝ) : thk (v : EReal) = ((th v : ℝ) : EReal) := by
  simp only [thk, word_K, ← EReal.coe_mul, ← EReal.coe_one, ← EReal.coe_add, Ideal.tanh_coe]; rfl
theorem hf_coe (v : ℝ) : hf (v : EReal) = ((half v : ℝ) : EReal) := by
  simp only [hf, thk_coe, word_half, ← EReal.coe_mul, ← EReal.coe_one, ← EReal.coe_add]; rfl
theorem dgl_coe (v : ℝ) : dgl (v : EReal) = ((dgelu v : ℝ) : EReal) := by
  simp only [dgl, hf_coe, thk_coe, word_half, word_K, ← EReal.coe_mul, ← EReal.coe_one, ← EReal.coe_add, ← EReal.coe_sub]; rfl
theorem dc_coe : dc (m2 X) (m2 V) (m2 D) (m2 W) (m2 fun _ j => B j) = m2 fun r j => D r j * V r j * dgelu (tapr X W B r.val j) := by
  refine m2_ext fun r j => ?_
  show m2 D (ix2 r j) * m2 V (ix2 r j) * dgl (tap _ _ _ r.val j) = _
  rw [tap_coe, dgl_coe, m2_ix, m2_ix, ← EReal.coe_mul, ← EReal.coe_mul]
theorem dv_coe : dv (m2 X) (m2 D) (m2 W) (m2 fun _ j => B j) = m2 fun r j => D r j * (tapr X W B r.val j * half (tapr X W B r.val j)) := by
  refine m2_ext fun r j => ?_
  show m2 D (ix2 r j) * (tap _ _ _ r.val j * hf (tap _ _ _ r.val j)) = _
  rw [tap_coe, hf_coe, m2_ix, ← EReal.coe_mul, ← EReal.coe_mul]

theorem r17 : val_main_v17 (F := Ideal) (m2 X) (m2 W) (m2 fun _ j => B j) = m2 fun r j => tapr X W B r.val j :=
  m2_ext fun r j => (conv _ _ _ r j).trans (tap_coe X W B r.val j)
theorem r30 : val_main_v30 (F := Ideal) (m2 X) (m2 W) (m2 fun _ j => B j) = m2 fun r j => th (tapr X W B r.val j) := by
  refine m2_ext fun r j => ?_
  pointwise [val_main_v30, val_main_v29, val_main_v28, val_main_v27, val_main_v26, val_main_v25, val_main_v24, val_main_v23, val_main_v19, val_main_v18, val_main_cst_1, val_main_cst_2, val_main_cst_3, r17, m2_ix, word_num, word_den, word_K]
  rw [← th_cube]
  simp only [← EReal.coe_mul]
  rw [div_coe' _ _ (by norm_num), ← EReal.coe_add, ← EReal.coe_mul, Ideal.tanh_coe]
theorem r35 : val_main_v35 (F := Ideal) (m2 X) (m2 W) (m2 fun _ j => B j) = m2 fun r j => (1 + th (tapr X W B r.val j)) * (1 - th (tapr X W B r.val j)) := by
  refine m2_ext fun r j => ?_
  pointwise [val_main_v35, val_main_v34, val_main_v33, val_main_v32, val_main_v31, val_main_cst_4, val_main_cst_5, r30, m2_ix, word_one]
  simp only [← EReal.coe_one, ← EReal.coe_add, ← EReal.coe_sub, ← EReal.coe_mul]
theorem r39 : val_main_v39 (F := Ideal) (m2 X) (m2 W) (m2 fun _ j => B j) = m2 fun r j => half (tapr X W B r.val j) := by
  refine m2_ext fun r j => ?_
  pointwise [val_main_v39, val_main_v38, val_main_v37, val_main_v36, val_main_cst_6, val_main_cst_7, r30, m2_ix, word_one, word_half]
  simp only [← EReal.coe_one, ← EReal.coe_add, ← EReal.coe_mul]; rfl

theorem r44 : val_main_v44 (F := Ideal) (m2 V) (m2 D) = m2 fun r j => D r j * V r j := by
  refine m2_ext fun r j => ?_
  pointwise [val_main_v44, val_main_v42, m2_ix]
  simp only [← EReal.coe_mul]

theorem r58 : val_main_v58 (F := Ideal) (m2 X) (m2 V) (m2 D) (m2 W) (m2 fun _ j => B j) = dc (m2 X) (m2 V) (m2 D) (m2 W) (m2 fun _ j => B j) := by
  rw [dc_coe]
  refine m2_ext fun r j => ?_
  rw [← gate_real]
  pointwise [val_main_v58, val_main_v57, val_main_v56, val_main_v55, val_main_v54, val_main_v53, val_main_v52, val_main_v51, val_main_v50, val_main_v49, val_main_v48, val_main_v47, val_main_v46, val_main_v45, val_main_v22, val_main_v21, val_main_v20, val_main_cst_0, val_main_cst_8, val_main_cst_9, val_main_cst_10, val_main_cst_11, r44, r39, r35, r17, m2_ix, word_num, word_den, word_K, word_half, word_three]
  simp only [← EReal.coe_mul]
  rw [div_coe' _ _ (by norm_num)]
  simp only [← EReal.coe_add, ← EReal.coe_mul]

theorem r93 (x0 x1 x2 : S4096x2816.Idx → EReal) (x3 : S3x2816.Idx → EReal) (x4 : S1x2816.Idx → EReal) : val_main_v93 (F := Ideal) x0 x1 x2 x3 x4 = val_main_v58 (F := Ideal) x0 x1 x2 x3 x4 := by
  refine funext fun y => ?_
  rw [eq_ix2 y]
  pointwise [val_main_v93]

theorem r94 : val_main_v94 (F := Ideal) (m2 X) (m2 D) (m2 W) (m2 fun _ j => B j) = dv (m2 X) (m2 D) (m2 W) (m2 fun _ j => B j) := by
  rw [dv_coe]
  refine m2_ext fun r j => ?_
  pointwise [val_main_v94, val_main_v43, val_main_v42, val_main_v40, r39, r17, m2_ix]
  simp only [← EReal.coe_mul]
  rw [mul_comm]

theorem r78 : val_main_v78 (F := Ideal) (m2 X) (m2 V) (m2 D) (m2 W) (m2 fun _ j => B j) = db (m2 X) (m2 V) (m2 D) (m2 W) (m2 fun _ j => B j) := by
  refine funext fun y => ?_
  rw [eq_ix2 y]
  pointwise [val_main_v78, val_main_v77, val_main_cst_13, r58, db]

theorem r92 : val_main_v92 (F := Ideal) (m2 X) (m2 V) (m2 D) (m2 W) (m2 fun _ j => B j) = dws (m2 X) (m2 V) (m2 D) (m2 W) (m2 fun _ j => B j) := by
  refine funext fun y => ?_
  obtain ⟨q, j, rfl⟩ : ∃ (q : Fin 3) (j : Fin 2816), y = ix2 q j := ⟨y 0, y 1, eq_ix2 y⟩
  match q with
  | 0 => pointwise [val_main_v92, val_main_v91, val_main_v90, val_main_v89, val_main_v88, val_main_v87, val_main_v86, val_main_v85, val_main_v84, val_main_v83, val_main_v82, val_main_v81, val_main_v80, val_main_v79, val_main_cst_14, val_main_cst_15, val_main_cst_16, val_main_cst_17, val_main_cst_18, val_main_cst_19, r58, r62, r66, r71, dws]
  | 1 => pointwise [val_main_v92, val_main_v91, val_main_v90, val_main_v89, val_main_v88, val_main_v87, val_main_v86, val_main_v85, val_main_v84, val_main_v83, val_main_v82, val_main_v81, val_main_v80, val_main_v79, val_main_cst_14, val_main_cst_15, val_main_cst_16, val_main_cst_17, val_main_cst_18, val_main_cst_19, r58, r62, r66, r71, dws]
  | 2 => pointwise [val_main_v92, val_main_v91, val_main_v90, val_main_v89, val_main_v88, val_main_v87, val_main_v86, val_main_v85, val_main_v84, val_main_v83, val_main_v82, val_main_v81, val_main_v80, val_main_v79, val_main_cst_14, val_main_cst_15, val_main_cst_16, val_main_cst_17, val_main_cst_18, val_main_cst_19, r58, r62, r66, r71, dws]

end Ref

/-! ### The precondition -/

/-- The facts on shapes that the precondition states. -/
theorem facts : Cert.Pre_finite_ca.Facts where
  bcast_S_S4096x2816 := by decide
  reducesTo_S4096x2816_S_d0_1 := by decide
  h_S_ := by decide
  bitsLt_bf16_f32 := by decide
  bcast_S_S3x2816 := by decide
  reducesTo_S3x2816_S_d0_1 := by decide
  bcast_S_S1x2816 := by decide
  reducesTo_S1x2816_S_d0_1 := by decide

/-- Where the precondition holds, the five arguments hold reals. -/
theorem reals (x0 x1 x2 : S4096x2816.Idx → EReal) (x3 : S3x2816.Idx → EReal) (x4 : S1x2816.Idx → EReal)
    (h : haveI := facts; Cert.Pre_finite_ca.fn (F := Ideal) x0 x1 x2 x3 x4 = fun _ => 1#1) :
    ∃ (X V D : Fin 4096 → Fin 2816 → ℝ) (W : Fin 3 → Fin 2816 → ℝ) (B : Fin 2816 → ℝ), x0 = Cert.Pay.m2 X ∧ x1 = Cert.Pay.m2 V ∧ x2 = Cert.Pay.m2 D ∧ x3 = Cert.Pay.m2 W ∧ x4 = Cert.Pay.m2 fun _ j => B j := by
  haveI := facts
  have h := congrFun h (Shape.Idx.first facts.h_S_)
  dsimp only [Cert.Pre_finite_ca.fn, Cert.Pre_finite_ca.fn_part1] at h
  simp only [andi, IntOp.andi_eq_one] at h
  obtain ⟨⟨⟨⟨h0, h1⟩, h2⟩, h3⟩, h4⟩ := h
  have g0 (r : Fin 4096) (j : Fin 2816) : ∃ a : ℝ, x0 (ix2 r j) = (a : EReal) := Cert.Finite.real_of_lt _ (Host.reduce_andi_all _ _ _ _ _ h0 (ix2 r j))
  have g1 (r : Fin 4096) (j : Fin 2816) : ∃ a : ℝ, x1 (ix2 r j) = (a : EReal) := Cert.Finite.real_of_lt _ (Host.reduce_andi_all _ _ _ _ _ h1 (ix2 r j))
  have g2 (r : Fin 4096) (j : Fin 2816) : ∃ a : ℝ, x2 (ix2 r j) = (a : EReal) := Cert.Finite.real_of_lt _ (Host.reduce_andi_all _ _ _ _ _ h2 (ix2 r j))
  have g3 (o : Fin 3) (j : Fin 2816) : ∃ a : ℝ, x3 (ix2 o j) = (a : EReal) := Cert.Finite.real_of_lt _ (Host.reduce_andi_all _ _ _ _ _ h3 (ix2 o j))
  have g4 (o : Fin 1) (j : Fin 2816) : ∃ a : ℝ, x4 (ix2 o j) = (a : EReal) := Cert.Finite.real_of_lt _ (Host.reduce_andi_all _ _ _ _ _ h4 (ix2 o j))
  choose X e0 using g0
  choose V e1 using g1
  choose D e2 using g2
  choose W e3 using g3
  choose B e4 using g4
  refine ⟨X, V, D, W, B 0, Cert.Pay.m2_ext e0, Cert.Pay.m2_ext e1, Cert.Pay.m2_ext e2, Cert.Pay.m2_ext e3, Cert.Pay.m2_ext fun o j => ?_⟩
  rw [Subsingleton.elim o 0]; exact e4 0 j

/-! ### The two programs -/

/-- The kernel ends with the gradients in its results and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dc (X m c) (V' m c) (D m c) (W' m c) (B m c) : S4096x2816.Idx → EReal)
      ∧ r.2.mem ((c.tc : Thread nD τ).loc main_v0_1) = (dv (X m c) (D m c) (W' m c) (B m c) : S4096x2816.Idx → EReal)
      ∧ r.2.mem ((c.tc : Thread nD τ).loc main_v1) = (dws (X m c) (V' m c) (D m c) (W' m c) (B m c) : S3x2816.Idx → EReal)
      ∧ r.2.mem ((c.tc : Thread nD τ).loc main_v0_5) = (db (X m c) (V' m c) (D m c) (W' m c) (B m c) : S1x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r e c => ⟨((e c).1 6).trans (arr6 m c), ((e c).1 7).trans (arr7 m c),
    ((e c).2 main_v1 (Pipeline.mem_restRefs_of main_v1 (by decide) (by decide))).trans (res m c), ((e c).1 11).trans (arr11 m c),
    ((e c).1 0).trans (((dats m 0 c).arrAt_in 0 rfl _).trans ((A_eq m c 0).trans (V_main_arg0 m c))),
    ((e c).1 2).trans (((dats m 0 c).arrAt_in 2 rfl _).trans ((A_eq m c 2).trans (V_main_arg1 m c))),
    ((e c).1 3).trans (((dats m 0 c).arrAt_in 3 rfl _).trans ((A_eq m c 3).trans (V_main_arg2 m c))),
    ((e c).1 4).trans (((dats m 0 c).arrAt_in 4 rfl _).trans ((A_eq m c 4).trans (V_main_arg3 m c))),
    ((e c).1 5).trans (((dats m 0 c).arrAt_in 5 rfl _).trans ((A_eq m c 5).trans (V_main_arg4 m c)))⟩) (run_main m ρ)

/-- The reference ends with its arguments unchanged and every counter at zero. -/
theorem frame (m : (ℓ : Loc Cert.RCaIdeal.nD Cert.RCaIdeal.τ Cert.RCaIdeal.sig) → Buf (Elt Ideal) ℓ) (ρ : Dev Cert.RCaIdeal.nD → PrngReg) :
    θ_run Cert.RCaIdeal.defs (onTc (τ := Cert.RCaIdeal.τ) (Cert.RCaIdeal.main (F := Ideal))) ⟨m, fun _ => 0, ρ⟩ (fun r => (∀ c : Dev Cert.RCaIdeal.nD,
      r.2.mem ((c.tc : Thread Cert.RCaIdeal.nD Cert.RCaIdeal.τ).loc Cert.RCaIdeal.main_arg0) = m ((c.tc : Thread Cert.RCaIdeal.nD Cert.RCaIdeal.τ).loc Cert.RCaIdeal.main_arg0)
      ∧ r.2.mem ((c.tc : Thread Cert.RCaIdeal.nD Cert.RCaIdeal.τ).loc Cert.RCaIdeal.main_arg1) = m ((c.tc : Thread Cert.RCaIdeal.nD Cert.RCaIdeal.τ).loc Cert.RCaIdeal.main_arg1)
      ∧ r.2.mem ((c.tc : Thread Cert.RCaIdeal.nD Cert.RCaIdeal.τ).loc Cert.RCaIdeal.main_arg2) = m ((c.tc : Thread Cert.RCaIdeal.nD Cert.RCaIdeal.τ).loc Cert.RCaIdeal.main_arg2)
      ∧ r.2.mem ((c.tc : Thread Cert.RCaIdeal.nD Cert.RCaIdeal.τ).loc Cert.RCaIdeal.main_arg3) = m ((c.tc : Thread Cert.RCaIdeal.nD Cert.RCaIdeal.τ).loc Cert.RCaIdeal.main_arg3)
      ∧ r.2.mem ((c.tc : Thread Cert.RCaIdeal.nD Cert.RCaIdeal.τ).loc Cert.RCaIdeal.main_arg4) = m ((c.tc : Thread Cert.RCaIdeal.nD Cert.RCaIdeal.τ).loc Cert.RCaIdeal.main_arg4)) ∧ r.2.sem = fun _ => 0) :=
  (θ_run Cert.RCaIdeal.defs _ _).mono (fun r e => ⟨fun c => (e c).2.2.2.2, sem_eq_zero_of_no_sems (by decide) r.2⟩) (Cert.RCaIdeal.Value.run m ρ)

/-- On equal finite arguments the kernel and the reference leave equal results. -/
theorem equal : haveI := Cert.KCaIdeal.Gen.facts; haveI := Cert.RCaIdeal.Gen.facts; haveI := facts
    algebraic_KCaIdeal_RCaIdeal_pre_finite_ca := by
  intro m g m' g' hp ha
  refine ⟨_, _, _, _, kernel m g, (θ_run _ _ _).mono (fun r q c => ?_) (Cert.RCaIdeal.Value.run m' g')⟩
  obtain ⟨X', Y', D', A', O', e0, e1, e2, e3, e4⟩ := reals _ _ _ _ _ (hp c)
  have a0 := (ha c).1.trans e0
  have a1 := (ha c).2.1.trans e1
  have a2 := (ha c).2.2.1.trans e2
  have a3 := (ha c).2.2.2.1.trans e3
  have a4 := (ha c).2.2.2.2.trans e4
  have all {S : Shape} (f g : (S4096x2816.Idx → EReal) → (S4096x2816.Idx → EReal) → (S4096x2816.Idx → EReal) → (S3x2816.Idx → EReal) → (S1x2816.Idx → EReal) → (S.Idx → EReal))
      (h : f (Cert.Pay.m2 X') (Cert.Pay.m2 Y') (Cert.Pay.m2 D') (Cert.Pay.m2 A') (Cert.Pay.m2 fun _ j => O' j) = g (Cert.Pay.m2 X') (Cert.Pay.m2 Y') (Cert.Pay.m2 D') (Cert.Pay.m2 A') (Cert.Pay.m2 fun _ j => O' j)) :
      f (m' ((c.tc : Thread Cert.RCaIdeal.nD Cert.RCaIdeal.τ).loc Cert.RCaIdeal.main_arg0)) (m' ((c.tc : Thread Cert.RCaIdeal.nD Cert.RCaIdeal.τ).loc Cert.RCaIdeal.main_arg1)) (m' ((c.tc : Thread Cert.RCaIdeal.nD Cert.RCaIdeal.τ).loc Cert.RCaIdeal.main_arg2)) (m' ((c.tc : Thread Cert.RCaIdeal.nD Cert.RCaIdeal.τ).loc Cert.RCaIdeal.main_arg3)) (m' ((c.tc : Thread Cert.RCaIdeal.nD Cert.RCaIdeal.τ).loc Cert.RCaIdeal.main_arg4)) = g (X m c) (V' m c) (D m c) (W' m c) (B m c) :=
    ((congr (congr (congr (congrArg₂ f a0 a1) a2) a3) a4).trans h).trans (congr (congr (congr (congrArg₂ g e0 e1) e2) e3) e4).symm
  refine ⟨(q c).1.trans ?_, (q c).2.1.trans ?_, (q c).2.2.1.trans ?_, (q c).2.2.2.1.trans ?_, (q c).2.2.2.2⟩
  · exact (Cert.RCaIdeal.Read.val_main_v93_eq _).trans ((r93 _ _ _ _ _).trans (all (Cert.RCaIdeal.Read.val_main_v58 (F := Ideal)) dc (r58 X' Y' D' A' O')))
  · exact (Cert.RCaIdeal.Read.val_main_v94_eq _).trans (all (fun x _ d w b => Cert.RCaIdeal.Read.val_main_v94 (F := Ideal) x d w b) (fun x _ d w b => dv x d w b) (r94 X' D' A' O'))
  · exact (Cert.RCaIdeal.Read.val_main_v92_eq _).trans (all (Cert.RCaIdeal.Read.val_main_v92 (F := Ideal)) dws (r92 X' Y' D' A' O'))
  · exact (Cert.RCaIdeal.Read.val_main_v78_eq _).trans (all (Cert.RCaIdeal.Read.val_main_v78 (F := Ideal)) db (r78 X' Y' D' A' O'))

end Cert.RwCa
end
-- ==== Proof.RwSf.lean ====
/- The spatial gating unit: what the kernel and the reference leave in their results. -/
module

public import proofs.«01_k».proof.Defs
public import proofs.«01_k».proof.Proof.Spec
public import proofs.«01_k».proof.Proof.Gen.KSf.Frame
public import proofs.«01_k».proof.Proof.Gen.KSfIdeal.Frame
public import proofs.«01_k».proof.Proof.Gen.RSfIdeal.Run
public import proofs.«01_k».proof.Proof.Gen.RSfIdeal.Read
public import Idealize.ShloMosaic.Lib.StableHlo.Run
public import Idealize.ShloMosaic.Lib.Tactic
public import Idealize.ShloMosaic.Lib.Pipeline.Value
public import Idealize.ShloMosaic.Lib.Pipeline.ValueKit
public import Idealize.ShloMosaic.Lib.Pipeline.ReadBack

@[expose] public section
noncomputable section
namespace Cert.RwSf
open Cert.KSfIdeal Cert.KSfIdeal.Gen Cert.Spec Idealize.ShloMosaic Idealize.ShloMosaic.StableHlo Idealize.ShloMosaic.TcCoe Idealize.SL.Sem

/-! ### The stores of the body -/

/-- The gelu of a value, in its tanh form. -/
def gel (v : EReal) : EReal :=
  Ideal.ofBits .f32 0x3F000000#32 * v * (Ideal.ofBits .f32 0x3F800000#32 + Ideal.tanh (Ideal.ofBits .f32 0x3F4C422A#32 * (v + ((8943 / 200000 : ℝ) : EReal) * v * v * v)))
/-- The mean of a row. -/
def avg (f : Fin 1024 → EReal) : EReal := Ideal.div (∑ k, f k) (Ideal.ofBits .f32 0x44800000#32)
/-- A row's layer norm at column `j`, with gain `a` and offset `b`. -/
def ln (f : Fin 1024 → EReal) (a b : EReal) (j : Fin 1024) : EReal :=
  (f j - avg f) * Ideal.rsqrt (avg (fun k => (f k - avg f) * (f k - avg f)) + Ideal.ofBits .f32 0x3727C5AC#32) * a + b
/-- One number of a group's columns: the first gate times the mixed layer norm. -/
def cell (e n : S128x1024.Idx → EReal) (w : S1x128x128.Idx → EReal) (b : S128x1.Idx → EReal) (g : Fin 8) (t c : Fin 128) : EReal :=
  e (ix2 t (col g c)) * ((∑ s : Fin 128, w (ix3 0 t s) * n (ix2 s (col g c))) + b (ix2 t 0))

theorem named_c : (Named.named κ "gelu_c" 0x3D372713#32 : Ideal .f32) = ((8943 / 200000 : ℝ) : EReal) := rfl

theorem pay2 (v : S1x128x1024.Idx → EReal) (a b : S1x1024.Idx → EReal) (s : Fin 128) (j : Fin 1024) :
    k0_pay2 (F := Ideal) v a b (ix2 s j) = ln (fun k => gel (v (ix3 0 s k))) (a (ix2 0 j)) (b (ix2 0 j)) j := by
  pointwise [k0_pay2, ln, avg, gel, named_c]

theorem pay3 (u : S1x128x1024.Idx → EReal) (t : Fin 128) (j : Fin 1024) : k0_pay3 (F := Ideal) u (ix2 t j) = gel (u (ix3 0 t j)) := by
  pointwise [k0_pay3, gel, named_c]

theorem pay4 (n : S128x1024.Idx → EReal) (u : S1x128x1024.Idx → EReal) (w : S1x128x128.Idx → EReal) (b : S128x1.Idx → EReal) (t c : Fin 128) :
    k0_pay4 (F := Ideal) n u w b (ix2 t c) = cell (k0_pay3 (F := Ideal) u) n w b 0 t c := by
  unfold k0_pay4
  generalize k0_pay3 (F := Ideal) u = e
  pointwise [cell]
  have z : ∀ h : c.val < 1024, (⟨c.val, h⟩ : Fin 1024) = col 0 c := fun h => Fin.ext (by simp [col])
  simp only [z]
theorem pay5 (n : S128x1024.Idx → EReal) (u : S1x128x1024.Idx → EReal) (w : S1x128x128.Idx → EReal) (b : S128x1.Idx → EReal) (t c : Fin 128) :
    k0_pay5 (F := Ideal) n u w b (ix2 t c) = cell (k0_pay3 (F := Ideal) u) n w b 1 t c := by
  unfold k0_pay5
  generalize k0_pay3 (F := Ideal) u = e
  pointwise [cell]
  rfl
theorem pay6 (n e : S128x1024.Idx → EReal) (w : S1x128x128.Idx → EReal) (b : S128x1.Idx → EReal) (t c : Fin 128) :
    k0_pay6 (F := Ideal) n e w b (ix2 t c) = cell e n w b 2 t c := by
  pointwise [k0_pay6, cell]
  rfl
theorem pay7 (n e : S128x1024.Idx → EReal) (w : S1x128x128.Idx → EReal) (b : S128x1.Idx → EReal) (t c : Fin 128) :
    k0_pay7 (F := Ideal) n e w b (ix2 t c) = cell e n w b 3 t c := by
  pointwise [k0_pay7, cell]
  rfl
theorem pay8 (n e : S128x1024.Idx → EReal) (w : S1x128x128.Idx → EReal) (b : S128x1.Idx → EReal) (t c : Fin 128) :
    k0_pay8 (F := Ideal) n e w b (ix2 t c) = cell e n w b 4 t c := by
  pointwise [k0_pay8, cell]
  rfl
theorem pay9 (n e : S128x1024.Idx → EReal) (w : S1x128x128.Idx → EReal) (b : S128x1.Idx → EReal) (t c : Fin 128) :
    k0_pay9 (F := Ideal) n e w b (ix2 t c) = cell e n w b 5 t c := by
  pointwise [k0_pay9, cell]
  rfl
theorem pay10 (n e : S128x1024.Idx → EReal) (w : S1x128x128.Idx → EReal) (b : S128x1.Idx → EReal) (t c : Fin 128) :
    k0_pay10 (F := Ideal) n e w b (ix2 t c) = cell e n w b 6 t c := by
  pointwise [k0_pay10, cell]
  rfl
theorem pay1 (n e : S128x1024.Idx → EReal) (w : S1x128x128.Idx → EReal) (b : S128x1.Idx → EReal) (t c : Fin 128) :
    k0_pay1 (F := Ideal) e (k0_pay11 (F := Ideal) n w b) (ix2 t c) = cell e n w b 7 t c := by
  pointwise [k0_pay1, k0_pay11, cell]
  rfl

theorem ldU (x : Vec Ideal S1x128x1024 .bf16) (h) : View.ld (Val := Elt Ideal) (e' := .bf16) (S := S1x128x1024) x (Rect.unit ![0, 0, 0] ![1, 128, 1024] h) = x :=
  View.ld_unit_lit (Val := Elt Ideal) (e := .bf16) (S := S1x128x1024) h x (by decide)
theorem ldA (x : Vec Ideal S1x1024 .f32) (h) : View.ld (Val := Elt Ideal) (e' := .f32) (S := S1x1024) x (Rect.unit ![0, 0] ![1, 1024] h) = x :=
  View.ld_unit_lit (Val := Elt Ideal) (e := .f32) (S := S1x1024) h x (by decide)
theorem ldW (x : S8x128x128.Idx → EReal) (g : Fin 8) (o : Nat) (ho : o = g.val) (h) (t s : Fin 128) :
    (View.ld (Val := Elt Ideal) (e' := .bf16) (S := S8x128x128) x (Rect.unit ![o, 0, 0] ![1, 128, 128] h) : S1x128x128.Idx → EReal) (ix3 0 t s) = x (ix3 g t s) := by
  subst ho
  exact View.ld_unit_apply_of (e := .bf16) (Val := Elt Ideal) x _ _ h (ix3 0 t s) (ix3 g t s) (Fin.forall_fin_succ.mpr ⟨rfl, Fin.forall_fin_two.mpr ⟨(Nat.zero_add _).symm, (Nat.zero_add _).symm⟩⟩)
theorem ldB (x : S128x8.Idx → EReal) (g : Fin 8) (o : Nat) (ho : o = g.val) (h) (t : Fin 128) :
    (View.ld (Val := Elt Ideal) (e' := .f32) (S := S128x8) x (Rect.unit ![0, o] ![128, 1] h) : S128x1.Idx → EReal) (ix2 t 0) = x (ix2 t g) := by
  subst ho
  exact View.ld_unit_apply_of (e := .f32) (Val := Elt Ideal) x _ _ h (ix2 t 0) (ix2 t g) (Fin.forall_fin_two.mpr ⟨(Nat.zero_add _).symm, rfl⟩)

/-- The gated rows of a block: at row `t` and column `j`, from the two projections, the weights, the bias, the gain and the offset. -/
def out (x0 x1 : S1x128x1024.Idx → EReal) (w : S8x128x128.Idx → EReal) (b : S128x8.Idx → EReal) (a o : S1x1024.Idx → EReal) (t : Fin 128) (j : Fin 1024) : EReal :=
  gel (x0 (ix3 0 t j)) * ((∑ s : Fin 128, w (ix3 (grp j) t s) * ln (fun k => gel (x1 (ix3 0 s k))) (a (ix2 0 j)) (o (ix2 0 j)) j) + b (ix2 t (grp j)))

/-- The gated rows of a block as an array. -/
def outs (x0 x1 : S1x128x1024.Idx → EReal) (w : S8x128x128.Idx → EReal) (b : S128x8.Idx → EReal) (a o : S1x1024.Idx → EReal) : S128x1024.Idx → EReal :=
  fun y => out x0 x1 w b a o (y 0) (y 1)

theorem cell_out (x0 x1 : S1x128x1024.Idx → EReal) (w : S8x128x128.Idx → EReal) (b : S128x8.Idx → EReal) (a o : S1x1024.Idx → EReal) (w' : S1x128x128.Idx → EReal) (b' : S128x1.Idx → EReal) (g : Fin 8)
    (hw : ∀ t s, w' (ix3 0 t s) = w (ix3 g t s)) (hb : ∀ t, b' (ix2 t 0) = b (ix2 t g)) (t c : Fin 128) :
    cell (k0_pay3 (F := Ideal) x0) (k0_pay2 (F := Ideal) x1 a o) w' b' g t c = out x0 x1 w b a o t (col g c) := by
  unfold cell out
  rw [pay3, hb, grp_col]
  refine congrArg (_ * ·) (congrArg (· + _) (Finset.sum_congr rfl fun s _ => ?_))
  rw [hw, pay2]

/-- A store of one group's columns. -/
theorem piece (G f) (g : Fin 8) (o : Nat) (ho : o = 128 * g.val) (h) (hf : ∀ t c : Fin 128, (f : S128x128.Idx → EReal) (ix2 t c) = G (ix2 t (col g c))) (x : S128x128.Idx) :
    f x = (G : S128x1024.Idx → EReal) ((Rect.unit (s := S128x1024) ![0, o] ![128, 128] h).emb x) := by
  subst ho
  obtain ⟨t, c, rfl⟩ : ∃ (t c : Fin 128), x = ix2 t c := ⟨x 0, x 1, eq_ix2 x⟩
  exact (hf t c).trans (View.ld_unit_apply_of (e := .bf16) (Val := Elt Ideal) G _ _ h (ix2 t c) (ix2 t (col g c)) (Fin.forall_fin_two.mpr ⟨(Nat.zero_add _).symm, rfl⟩)).symm

theorem out6 (x0 x1 : Vec Ideal S1x128x1024 .bf16) (x2 : Vec Ideal S8x128x128 .bf16) (x3 : Vec Ideal S128x8 .f32) (x4 x5 : Vec Ideal S1x1024 .f32) (t : Fin 128) (j : Fin 1024) :
    out0_6 (F := Ideal) x0 x1 x2 x3 x4 x5 (ix2 t j) = out x0 x1 x2 x3 x4 x5 t j := by
  have e0 : View.ld (Val := Elt Ideal) (e' := .bf16) (S := S1x128x1024) x0 r0_0 = x0 := ldU x0 _
  have e1 : View.ld (Val := Elt Ideal) (e' := .bf16) (S := S1x128x1024) x1 r0_0 = x1 := ldU x1 _
  have e4 : View.ld (Val := Elt Ideal) (e' := .f32) (S := S1x1024) x4 r0_1 = x4 := ldA x4 _
  have e5 : View.ld (Val := Elt Ideal) (e' := .f32) (S := S1x1024) x5 r0_1 = x5 := ldA x5 _
  have n : k0_pay12 (F := Ideal) x0 x1 x2 x3 x4 x5 = k0_pay2 (F := Ideal) x1 x4 x5 := by
    unfold k0_pay12; rw [e1, e4, e5]
  have e : k0_pay13 (F := Ideal) x0 x1 x2 x3 x4 x5 = k0_pay3 (F := Ideal) x0 := by
    unfold k0_pay13; rw [e0]
  unfold out0_6
  rw [n, e, e0]
  refine View.canon_apply_of_pieces (Val := Elt Ideal) (e := .bf16) (outs x0 x1 x2 x3 x4 x5) _ ?_ _ (cover0_6 _ _ _ _ _ _ _ _ _)
  intro p hp
  simp only [List.mem_cons, List.not_mem_nil, or_false] at hp
  rcases hp with rfl | rfl | rfl | rfl | rfl | rfl | rfl | rfl
  · refine piece (outs x0 x1 x2 x3 x4 x5) _ 7 896 rfl (by decide) fun t c => ?_
    refine (pay1 _ _ _ _ t c).trans ?_
    exact cell_out x0 x1 x2 x3 x4 x5 _ _ 7 (fun t s => ldW x2 7 7 rfl _ t s) (fun t => ldB x3 7 7 rfl _ t) t c
  · refine piece (outs x0 x1 x2 x3 x4 x5) _ 6 768 rfl (by decide) fun t c => ?_
    refine (pay10 _ _ _ _ t c).trans ?_
    exact cell_out x0 x1 x2 x3 x4 x5 _ _ 6 (fun t s => ldW x2 6 6 rfl _ t s) (fun t => ldB x3 6 6 rfl _ t) t c
  · refine piece (outs x0 x1 x2 x3 x4 x5) _ 5 640 rfl (by decide) fun t c => ?_
    refine (pay9 _ _ _ _ t c).trans ?_
    exact cell_out x0 x1 x2 x3 x4 x5 _ _ 5 (fun t s => ldW x2 5 5 rfl _ t s) (fun t => ldB x3 5 5 rfl _ t) t c
  · refine piece (outs x0 x1 x2 x3 x4 x5) _ 4 512 rfl (by decide) fun t c => ?_
    refine (pay8 _ _ _ _ t c).trans ?_
    exact cell_out x0 x1 x2 x3 x4 x5 _ _ 4 (fun t s => ldW x2 4 4 rfl _ t s) (fun t => ldB x3 4 4 rfl _ t) t c
  · refine piece (outs x0 x1 x2 x3 x4 x5) _ 3 384 rfl (by decide) fun t c => ?_
    refine (pay7 _ _ _ _ t c).trans ?_
    exact cell_out x0 x1 x2 x3 x4 x5 _ _ 3 (fun t s => ldW x2 3 3 rfl _ t s) (fun t => ldB x3 3 3 rfl _ t) t c
  · refine piece (outs x0 x1 x2 x3 x4 x5) _ 2 256 rfl (by decide) fun t c => ?_
    refine (pay6 _ _ _ _ t c).trans ?_
    exact cell_out x0 x1 x2 x3 x4 x5 _ _ 2 (fun t s => ldW x2 2 2 rfl _ t s) (fun t => ldB x3 2 2 rfl _ t) t c
  · refine piece (outs x0 x1 x2 x3 x4 x5) _ 1 128 rfl (by decide) fun t c => ?_
    refine (pay5 _ _ _ _ t c).trans ?_
    exact cell_out x0 x1 x2 x3 x4 x5 _ _ 1 (fun t s => ldW x2 1 1 rfl _ t s) (fun t => ldB x3 1 1 rfl _ t) t c
  · refine piece (outs x0 x1 x2 x3 x4 x5) _ 0 0 rfl (by decide) fun t c => ?_
    refine (pay4 _ _ _ _ t c).trans ?_
    exact cell_out x0 x1 x2 x3 x4 x5 _ _ 0 (fun t s => ldW x2 0 0 rfl _ t s) (fun t => ldB x3 0 0 rfl _ t) t c

/-! ### The tiles -/

/-- The number of a point as the number of a block. -/
abbrev nb (t : Fin cfg0.N) : Fin 32 := ⟨t.val, lt_of_lt_of_eq t.isLt N_0⟩

theorem idx : ∀ t : Fin cfg0.N, win0_0.index t = ![4, t.val, 0] ∧ win0_1.index t = ![5, t.val, 0] ∧ win0_2.index t = ![0, 0, 0]
    ∧ win0_3.index t = ![0, 0] ∧ win0_4.index t = ![0, 0] ∧ win0_5.index t = ![0, 0] ∧ win0_6.index t = ![t.val, 0] := by decide +kernel

/-- The gating unit: at row `r` and column `j`, from the projections, the masked weights, the bias, the gain and the offset. -/
def unit (X : S8x4096x1024.Idx → EReal) (w : S8x128x128.Idx → EReal) (b : S8x128.Idx → EReal) (a o : S1x1024.Idx → EReal) (r : Fin 4096) (j : Fin 1024) : EReal :=
  gel (X (ix3 4 r j)) * ((∑ s : Fin 128, w (ix3 (grp j) (pos r) s) * ln (fun k => gel (X (ix3 5 (row (blk r) s) k))) (a (ix2 0 j)) (o (ix2 0 j)) j) + b (ix2 (grp j) (pos r)))

section Arr
variable (m : (ℓ : Loc nD τ sig) → Buf (Elt Ideal) ℓ) (c : Dev nD)

/-- The arrays the kernel reads: the projections, the weights, the bias, the gain and the offset. -/
abbrev X : S8x4096x1024.Idx → EReal := m ((c : Thread nD τ).loc main_arg0)
abbrev W : S8x128x128.Idx → EReal := m ((c : Thread nD τ).loc main_arg1)
abbrev S : S8x128.Idx → EReal := m ((c : Thread nD τ).loc main_arg2)
abbrev A : S1x1024.Idx → EReal := m ((c : Thread nD τ).loc main_arg3)
abbrev O : S1x1024.Idx → EReal := m ((c : Thread nD τ).loc main_arg4)

/-- The weights with the mask laid over them. -/
abbrev masked (w : S8x128x128.Idx → EReal) : S8x128x128.Idx → EReal := Cert.RSfIdeal.Read.val_main_v67 (F := Ideal) w

theorem v9 : V m c main_v9 = (masked (W m c) : S8x128x128.Idx → EReal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

theorem v10 : V m c main_v10 = (transpose S128x8 [1, 0] (S m c) transposes_S8x128_S128x8_1_0 : S128x8.Idx → EReal) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results

variable (t : Fin cfg0.N)

theorem blk0 (u : Fin 1) (i : Fin 128) (j : Fin 1024) : (iblk m c 0 t : S1x128x1024.Idx → EReal) (ix3 u i j) = X m c (ix3 4 (row (nb t) i) j) := by
  blk_ext [iblk, V_main_arg0, idx t, row]
theorem blk1 (u : Fin 1) (i : Fin 128) (j : Fin 1024) : (iblk m c 1 t : S1x128x1024.Idx → EReal) (ix3 u i j) = X m c (ix3 5 (row (nb t) i) j) := by
  blk_ext [iblk, V_main_arg0, idx t, row]
theorem blk2 : (iblk m c 2 t : S8x128x128.Idx → EReal) = masked (W m c) := by
  rw [← v9]
  funext y
  blk_ext [iblk, idx t]
theorem blk3 (i : Fin 128) (g : Fin 8) : (iblk m c 3 t : S128x8.Idx → EReal) (ix2 i g) = S m c (ix2 g i) := by
  have e : (iblk m c 3 t : S128x8.Idx → EReal) = V m c main_v10 := by
    funext y
    blk_ext [iblk, idx t]
  rw [e, v10]
  pointwise []
theorem blk4 : (iblk m c 4 t : S1x1024.Idx → EReal) = A m c := by
  funext y
  blk_ext [iblk, V_main_arg3, idx t]
theorem blk5 : (iblk m c 5 t : S1x1024.Idx → EReal) = O m c := by
  funext y
  blk_ext [iblk, V_main_arg4, idx t]

theorem at_point (i : Fin 128) (j : Fin 1024) :
    out (iblk m c 0 t) (iblk m c 1 t) (iblk m c 2 t) (iblk m c 3 t) (iblk m c 4 t) (iblk m c 5 t) i j = unit (X m c) (masked (W m c)) (S m c) (A m c) (O m c) (row (nb t) i) j := by
  unfold out unit
  rw [pos_row, blk_row]
  refine congrArg₂ _ (congrArg gel (blk0 m c t 0 i j)) (congrArg₂ _ (Finset.sum_congr rfl fun s _ => congrArg₂ _ (congrFun (blk2 m c t) _) ?_) (blk3 m c t i _))
  exact congrFun (congr (congr (congrArg ln (funext fun k => congrArg gel (blk1 m c t 0 s k))) (congrFun (blk4 m c t) _)) (congrFun (blk5 m c t) _)) j

omit t in
theorem arr6 : (dats m 0 c).arrAt 6 cfg0.N = (fun y => unit (X m c) (masked (W m c)) (S m c) (A m c) (O m c) (y 0) (y 1) : S4096x1024.Idx → EReal) := by
  refine (dats m 0 c).arrAt_eq_of_covers 6 _ (by decide +kernel) (fun t hf y => ?_)
  blk_simp
  rw [after0_6]
  obtain ⟨i, j, rfl⟩ : ∃ (i : Fin 128) (j : Fin 1024), y = ix2 i j := ⟨y 0, y 1, eq_ix2 y⟩
  have e : ((cfg0.win 6).blk t).view.emb (ix2 i j) = (ix2 (row (nb t) i) j : S4096x1024.Idx) := by
    blk_ext [idx t, row]
  rw [e]
  exact (out6 _ _ _ _ _ _ i j).trans (at_point m c t i j)

end Arr

/-! ### The two programs -/

theorem word_num : Ideal.ofBits .f32 0x472EAB00#32 = ((44715 : ℝ) : EReal) := by
  simp [Ideal.ofBits, Ideal.ieee]; norm_num [← EReal.coe_mul]
theorem word_den : Ideal.ofBits .f32 0x49742400#32 = ((1000000 : ℝ) : EReal) := by
  simp [Ideal.ofBits, Ideal.ieee]; norm_num [← EReal.coe_mul]

/-- The cubic term, written as a quotient of whole numbers. -/
theorem cubic (v : EReal) : Ideal.div (Ideal.ofBits .f32 0x472EAB00#32 * (v * v * v)) (Ideal.ofBits .f32 0x49742400#32) = ((8943 / 200000 : ℝ) : EReal) * v * v * v := by
  rw [word_num, word_den]
  unfold Ideal.div
  rw [if_neg (by exact_mod_cast (by norm_num : (1000000 : ℝ) ≠ 0)), ← EReal.coe_inv, mul_right_comm, ← EReal.coe_mul, ← mul_assoc, ← mul_assoc]
  norm_num

section Ref
open Cert.RSfIdeal.Read
variable (x0 : S8x4096x1024.Idx → EReal) (x1 : S8x128x128.Idx → EReal) (x2 : S8x128.Idx → EReal) (x3 x4 : S1x1024.Idx → EReal)

theorem r2 (r : Fin 4096) (j : Fin 1024) : val_main_v2 (F := Ideal) x0 (ix2 r j) = x0 (ix3 4 r j) := by
  rw [val_main_v2_apply, val_main_v1_apply, val_main_v0_apply]
  show x0 _ = _
  congr 1
  funext a; apply Fin.ext
  match a with
  | ⟨0, _⟩ => rfl
  | ⟨1, _⟩ => show (r.val * 1024 + j.val) / 1024 % 4096 = r.val; omega
  | ⟨2, _⟩ => show (r.val * 1024 + j.val) % 1024 = j.val; omega

theorem r5 (r : Fin 4096) (j : Fin 1024) : val_main_v5 (F := Ideal) x0 (ix2 r j) = x0 (ix3 5 r j) := by
  rw [val_main_v5_apply, val_main_v4_apply, val_main_v3_apply]
  show x0 _ = _
  congr 1
  funext a; apply Fin.ext
  match a with
  | ⟨0, _⟩ => rfl
  | ⟨1, _⟩ => show (r.val * 1024 + j.val) / 1024 % 4096 = r.val; omega
  | ⟨2, _⟩ => show (r.val * 1024 + j.val) % 1024 = j.val; omega

theorem gel_of (v : EReal) : v * (Ideal.ofBits .f32 0x3F000000#32 * (Ideal.ofBits .f32 0x3F800000#32 + Ideal.tanh (Ideal.ofBits .f32 0x3F4C422A#32 * (v + Ideal.div (Ideal.ofBits .f32 0x472EAB00#32 * (v * v * v)) (Ideal.ofBits .f32 0x49742400#32))))) = gel v := by
  unfold gel
  rw [cubic, ← mul_assoc, mul_comm v (Ideal.ofBits _ _)]

theorem r20 (r : Fin 4096) (j : Fin 1024) : val_main_v20 (F := Ideal) x0 (ix2 r j) = gel (x0 (ix3 4 r j)) := by
  rw [← r2 x0 r j, ← gel_of]
  pointwise [val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2, val_main_cst_3]

theorem r35 (r : Fin 4096) (j : Fin 1024) : val_main_v35 (F := Ideal) x0 (ix2 r j) = gel (x0 (ix3 5 r j)) := by
  rw [← r5 x0 r j, ← gel_of]
  pointwise [val_main_v21, val_main_v22, val_main_v23, val_main_v24, val_main_v25, val_main_v26, val_main_v27, val_main_v28, val_main_v29, val_main_v30, val_main_v31, val_main_v32, val_main_v33, val_main_v34, val_main_v35, val_main_cst_4, val_main_cst_5, val_main_cst_6, val_main_cst_7, val_main_cst_8]

theorem r57 (r : Fin 4096) (j : Fin 1024) : val_main_v57 (F := Ideal) x0 x3 x4 (ix2 r j) = ln (fun k => gel (x0 (ix3 5 r k))) (x3 (ix2 0 j)) (x4 (ix2 0 j)) j := by
  rw [show (fun k => gel (x0 (ix3 5 r k))) = fun k => val_main_v35 (F := Ideal) x0 (ix2 r k) from funext fun k => (r35 x0 r k).symm]
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_9, val_main_cst_10, val_main_cst_11, val_main_cst_12, val_main_cst_13, ln, avg]

theorem r58 (n : Fin 32) (s : Fin 128) (g : Fin 8) (c : Fin 128) (i : Cert.RSfIdeal.S32x128x8x128.Idx) (h0 : (i 0).val = n.val) (h1 : (i 1).val = s.val) (h2 : (i 2).val = g.val) (h3 : (i 3).val = c.val) :
    val_main_v58 (F := Ideal) x0 x3 x4 i = ln (fun k => gel (x0 (ix3 5 (row n s) k))) (x3 (ix2 0 (col g c))) (x4 (ix2 0 (col g c))) (col g c) := by
  rw [val_main_v58_apply, ← r57]
  congr 1
  funext a; apply Fin.ext
  match a with
  | ⟨0, _⟩ => show (((((i 0).val * 128 + (i 1).val) * 8 + (i 2).val) * 128 + (i 3).val) / 1024 = 128 * n.val + s.val); rw [h0, h1, h2, h3]; omega
  | ⟨1, _⟩ => show (((((i 0).val * 128 + (i 1).val) * 8 + (i 2).val) * 128 + (i 3).val) % 1024 = 128 * g.val + c.val); rw [h0, h1, h2, h3]; omega

theorem ref : val_main_v76 (F := Ideal) x0 x1 x2 x3 x4 = fun y => unit x0 (masked x1) x2 x3 x4 (y 0) (y 1) := by
  funext y
  obtain ⟨r, j, rfl⟩ : ∃ (r : Fin 4096) (j : Fin 1024), y = ix2 r j := ⟨y 0, y 1, eq_ix2 y⟩
  rw [val_main_v76_apply, val_main_v75_apply, val_main_v74_apply, val_main_v73_apply, val_main_v72_apply, val_main_v71_apply, val_main_v70_apply, val_main_v69_apply, val_main_v68_apply, r20]
  show gel (x0 (ix3 4 r j)) * ((∑ k : Fin 128, _) + x2 _) = unit x0 (masked x1) x2 x3 x4 r j
  unfold unit
  refine congrArg (_ * ·) (congrArg₂ _ (Finset.sum_congr rfl fun s _ => ?_) (congrArg x2 ?_))
  · refine (mul_comm _ _).trans (congrArg₂ _ (congrArg _ ?_) ((r58 x0 x3 x4 (blk r) s (grp j) (sub j) _ ?_ rfl ?_ ?_).trans (by rw [col_grp])))
    · funext a; apply Fin.ext
      match a with
      | ⟨0, _⟩ => show (r.val * 1024 + j.val) / 128 % 8 = j.val / 128; omega
      | ⟨1, _⟩ => show (r.val * 1024 + j.val) / 1024 % 128 = r.val % 128; omega
      | ⟨2, _⟩ => rfl
    · show (r.val * 1024 + j.val) / 131072 = r.val / 128; omega
    · show (r.val * 1024 + j.val) / 128 % 8 = j.val / 128; omega
    · show (r.val * 1024 + j.val) % 128 = j.val % 128; omega
  · funext a; apply Fin.ext
    match a with
    | ⟨0, _⟩ => show (r.val * 1024 + j.val) / 128 % 8 = j.val / 128; omega
    | ⟨1, _⟩ => show (r.val * 1024 + j.val) / 1024 % 128 = r.val % 128; omega

end Ref

/-- The kernel ends with the gated rows in its result and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = (fun y => unit (X m c) (masked (W m c)) (S m c) (A m c) (O m c) (y 0) (y 1) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r e c => ⟨((e c).1 6).trans (arr6 m c),
    ((e c).1 1).trans (((dats m 0 c).arrAt_in 1 rfl _).trans ((A_eq m c 1).trans (V_main_arg0 m c))),
    ((e c).2 main_arg1 (Pipeline.mem_restRefs_of main_arg1 (by decide) (by decide))).trans (V_main_arg1 m c),
    ((e c).2 main_arg2 (Pipeline.mem_restRefs_of main_arg2 (by decide) (by decide))).trans (V_main_arg2 m c),
    ((e c).1 4).trans (((dats m 0 c).arrAt_in 4 rfl _).trans ((A_eq m c 4).trans (V_main_arg3 m c))),
    ((e c).1 5).trans (((dats m 0 c).arrAt_in 5 rfl _).trans ((A_eq m c 5).trans (V_main_arg4 m c)))⟩) (run_main m ρ)

/-- The reference ends with its arguments unchanged and every counter at zero. -/
theorem frame (m : (ℓ : Loc Cert.RSfIdeal.nD Cert.RSfIdeal.τ Cert.RSfIdeal.sig) → Buf (Elt Ideal) ℓ) (ρ : Dev Cert.RSfIdeal.nD → PrngReg) :
    θ_run Cert.RSfIdeal.defs (onTc (τ := Cert.RSfIdeal.τ) (Cert.RSfIdeal.main (F := Ideal))) ⟨m, fun _ => 0, ρ⟩ (fun r => (∀ c : Dev Cert.RSfIdeal.nD,
      r.2.mem ((c.tc : Thread Cert.RSfIdeal.nD Cert.RSfIdeal.τ).loc Cert.RSfIdeal.main_arg0) = m ((c.tc : Thread Cert.RSfIdeal.nD Cert.RSfIdeal.τ).loc Cert.RSfIdeal.main_arg0)
      ∧ r.2.mem ((c.tc : Thread Cert.RSfIdeal.nD Cert.RSfIdeal.τ).loc Cert.RSfIdeal.main_arg1) = m ((c.tc : Thread Cert.RSfIdeal.nD Cert.RSfIdeal.τ).loc Cert.RSfIdeal.main_arg1)
      ∧ r.2.mem ((c.tc : Thread Cert.RSfIdeal.nD Cert.RSfIdeal.τ).loc Cert.RSfIdeal.main_arg2) = m ((c.tc : Thread Cert.RSfIdeal.nD Cert.RSfIdeal.τ).loc Cert.RSfIdeal.main_arg2)
      ∧ r.2.mem ((c.tc : Thread Cert.RSfIdeal.nD Cert.RSfIdeal.τ).loc Cert.RSfIdeal.main_arg3) = m ((c.tc : Thread Cert.RSfIdeal.nD Cert.RSfIdeal.τ).loc Cert.RSfIdeal.main_arg3)
      ∧ r.2.mem ((c.tc : Thread Cert.RSfIdeal.nD Cert.RSfIdeal.τ).loc Cert.RSfIdeal.main_arg4) = m ((c.tc : Thread Cert.RSfIdeal.nD Cert.RSfIdeal.τ).loc Cert.RSfIdeal.main_arg4)) ∧ r.2.sem = fun _ => 0) :=
  (θ_run Cert.RSfIdeal.defs _ _).mono (fun r e => ⟨fun c => (e c).2, sem_eq_zero_of_no_sems (by decide) r.2⟩) (Cert.RSfIdeal.Value.run m ρ)

/-- On equal arguments the kernel and the reference leave equal results. -/
theorem equal : haveI := Cert.KSfIdeal.Gen.facts; haveI := Cert.RSfIdeal.Gen.facts
    algebraic_KSfIdeal_RSfIdeal := by
  intro m g m' g' _ ha
  refine ⟨_, kernel m g, (θ_run _ _ _).mono (fun r q c => ⟨(q c).1.trans ?_, (q c).2⟩) (Cert.RSfIdeal.Value.run m' g')⟩
  refine (Cert.RSfIdeal.Read.val_main_v76_eq _ _).trans ((ref _ _ _ _ _).trans ?_)
  obtain ⟨h0, h1, h2, h3, h4⟩ := ha c
  funext y
  exact congrFun (congrFun (congr (congr (congr (congrArg₂ unit h0 (congrArg masked h1)) h2) h3) h4) _) _

end Cert.RwSf
end
-- ==== Proof.RwLl.lean ====
/- The loss, with the gradients of the second layer norm and of the gated embedding: what the kernel and the reference leave in
   their results. -/
module

public import proofs.«01_k».proof.Defs
public import proofs.«01_k».proof.Proof.Mm
public import proofs.«01_k».proof.Proof.Gen.KLl.Frame
public import proofs.«01_k».proof.Proof.Gen.KLlIdeal.Frame
public import proofs.«01_k».proof.Proof.Gen.RLlIdeal.Run
public import proofs.«01_k».proof.Proof.Gen.RLlIdeal.Read
public import proofs.«01_k».proof.Proof.Finite
public import proofs.«01_k».proof.Proof.RefC
public import proofs.«01_k».proof.Proof.RwLb
public import Idealize.ShloMosaic.Lib.Pipeline.ValueKit
public import Idealize.ShloMosaic.Lib.Pipeline.ReadBack

@[expose] public section
noncomputable section
namespace Cert.RwLl
open Cert.KLlIdeal Cert.KLlIdeal.Gen Idealize.ShloMosaic Idealize.ShloMosaic.StableHlo Idealize.ShloMosaic.TcCoe Idealize.SL.Sem
open Cert.RwLb (mean rs xh lnb alpha word_alpha mean_coe rs_coe xh_coe lnb_coe)

/-! ### The stores of the body -/

/-- The scaled residual, the feed-forward branch and the gated embedding, added. -/
def z (x f p q : EReal) : EReal := Ideal.ofBits .f32 0x3F9837F0#32 * x + f + Ideal.logistic p * q
/-- The residual sum of a row. -/
abbrev zs {n : ℕ} (x f p q : (⟨2, ![n, 1024]⟩ : Shape).Idx → EReal) (i : Fin n) : Fin 1024 → EReal :=
  fun k => z (x (ix2 i k)) (f (ix2 i k)) (p (ix2 i k)) (q (ix2 i k))
/-- The layer norm of a row less the target. -/
abbrev es {n : ℕ} (x f p q t : (⟨2, ![n, 1024]⟩ : Shape).Idx → EReal) (g b : S1x1024.Idx → EReal) (i : Fin n) : Fin 1024 → EReal :=
  fun k => xh (zs x f p q i) k * g (ix2 0 k) + b (ix2 0 k) - t (ix2 i k)
/-- The gradient of the layer norm's result, of a row. -/
abbrev ys {n : ℕ} (x f p q t : (⟨2, ![n, 1024]⟩ : Shape).Idx → EReal) (g b : S1x1024.Idx → EReal) (i : Fin n) : Fin 1024 → EReal :=
  fun k => es x f p q t g b i k * Ideal.ofBits .f32 0x3A800000#32
/-- The gradient of the normalised row. -/
abbrev gs {n : ℕ} (x f p q t : (⟨2, ![n, 1024]⟩ : Shape).Idx → EReal) (g b : S1x1024.Idx → EReal) (i : Fin n) : Fin 1024 → EReal :=
  fun k => ys x f p q t g b i k * g (ix2 0 k)
/-- The gradient of the gate at one place, from the gradient `d` of the residual sum. -/
def gate (d p q : EReal) : EReal := d * q * Ideal.logistic p * (1 - Ideal.logistic p)
/-- The gradient of the gated embedding at one place. -/
def gated (d p : EReal) : EReal := d * Ideal.logistic p
/-- The mean of the squares of a row. -/
def msq (e : Fin 1024 → EReal) : EReal := mean fun k => e k * e k

section Tile
variable (x0 x1 x2 x3 x4 : S512x1024.Idx → EReal) (x5 x6 : S1x1024.Idx → EReal)

theorem pay8 (i : Fin 512) (j : Fin 1024) : k0_pay8 (F := Ideal) x2 (ix2 i j) = Ideal.logistic (x2 (ix2 i j)) := by
  pointwise [k0_pay8]
theorem pay9 (i : Fin 512) (j : Fin 1024) : k0_pay9 (F := Ideal) x0 x1 x2 x3 (ix2 i j) = zs x0 x1 x2 x3 i j - mean (zs x0 x1 x2 x3 i) := by
  pointwise [k0_pay9, pay8, mean, z]
theorem pay10 (i : Fin 512) (l : Fin 1) : k0_pay10 (F := Ideal) x0 x1 x2 x3 (ix2 i l) = rs (zs x0 x1 x2 x3 i) := by
  pointwise [k0_pay10, pay9, rs]
  rfl
theorem pay11 (i : Fin 512) (j : Fin 1024) : k0_pay11 (F := Ideal) x0 x1 x2 x3 (ix2 i j) = xh (zs x0 x1 x2 x3 i) j := by
  pointwise [k0_pay11, pay10, pay9, xh]
theorem pay12 (i : Fin 512) (j : Fin 1024) : k0_pay12 (F := Ideal) x0 x1 x2 x3 x4 x5 x6 (ix2 i j) = es x0 x1 x2 x3 x4 x5 x6 i j := by
  pointwise [k0_pay12, pay11]
theorem pay13 (i : Fin 512) (l : Fin 1) : k0_pay13 (F := Ideal) x0 x1 x2 x3 x4 x5 x6 (ix2 i l) = ∑ k, es x0 x1 x2 x3 x4 x5 x6 i k * es x0 x1 x2 x3 x4 x5 x6 i k := by
  pointwise [k0_pay13, pay12]

/-- What one point leaves in its four tiles and adds to its three accumulators. -/
abbrev t7 : FVec Ideal S512x1024 .f32 := k0_pay15 (F := Ideal) x5 (k0_pay10 x0 x1 x2 x3) (k0_pay11 x0 x1 x2 x3) (k0_pay12 x0 x1 x2 x3 x4 x5 x6)
abbrev t8 : FVec Ideal S512x1024 .bf16 := k0_pay20 (F := Ideal) x5 (k0_pay10 x0 x1 x2 x3) (k0_pay11 x0 x1 x2 x3) (k0_pay12 x0 x1 x2 x3 x4 x5 x6)
abbrev t9 : FVec Ideal S512x1024 .bf16 := k0_pay21 (F := Ideal) x3 x5 (k0_pay8 x2) (k0_pay10 x0 x1 x2 x3) (k0_pay11 x0 x1 x2 x3) (k0_pay12 x0 x1 x2 x3 x4 x5 x6)
abbrev t10 : FVec Ideal S512x1024 .bf16 := k0_pay1 (F := Ideal) (k0_pay16 x5 (k0_pay8 x2) (k0_pay10 x0 x1 x2 x3) (k0_pay11 x0 x1 x2 x3) (k0_pay12 x0 x1 x2 x3 x4 x5 x6))
abbrev t11 : FVec Ideal S8x128 .f32 := k0_pay17 (F := Ideal) (k0_pay13 x0 x1 x2 x3 x4 x5 x6) (Scalar.ofBits .f32 0x44800000#32)
abbrev t12 : FVec Ideal S1x1024 .f32 := k0_pay18 (F := Ideal) (k0_pay11 x0 x1 x2 x3) (k0_pay12 x0 x1 x2 x3 x4 x5 x6)
abbrev t13 : FVec Ideal S1x1024 .f32 := k0_pay19 (F := Ideal) (k0_pay12 x0 x1 x2 x3 x4 x5 x6)

theorem at7 (i : Fin 512) (j : Fin 1024) : t7 x0 x1 x2 x3 x4 x5 x6 (ix2 i j) = lnb (zs x0 x1 x2 x3 i) (gs x0 x1 x2 x3 x4 x5 x6 i) j := by
  pointwise [k0_pay15, k0_pay14, pay10, pay11, pay12, lnb, mean]
theorem at8 (i : Fin 512) (j : Fin 1024) : t8 x0 x1 x2 x3 x4 x5 x6 (ix2 i j) = lnb (zs x0 x1 x2 x3 i) (gs x0 x1 x2 x3 x4 x5 x6 i) j := by
  rw [← at7]
  pointwise [k0_pay20]
theorem at9 (i : Fin 512) (j : Fin 1024) : t9 x0 x1 x2 x3 x4 x5 x6 (ix2 i j) = gate (lnb (zs x0 x1 x2 x3 i) (gs x0 x1 x2 x3 x4 x5 x6 i) j) (x2 (ix2 i j)) (x3 (ix2 i j)) := by
  rw [← at7]
  pointwise [k0_pay21, pay8, gate]
theorem at10 (i : Fin 512) (j : Fin 1024) : t10 x0 x1 x2 x3 x4 x5 x6 (ix2 i j) = gated (lnb (zs x0 x1 x2 x3 i) (gs x0 x1 x2 x3 x4 x5 x6 i) j) (x2 (ix2 i j)) := by
  rw [← at7]
  pointwise [k0_pay1, k0_pay16, pay8, gated]
theorem at11 (u : Fin 8) (v : Fin 128) : t11 x0 x1 x2 x3 x4 x5 x6 (ix2 u v) = Ideal.ofBits .f32 0x3F000000#32 * ∑ i : Fin 512, msq (es x0 x1 x2 x3 x4 x5 x6 i) := by
  pointwise [k0_pay17, pay13, msq, mean]
theorem at12 (j : Fin 1024) : t12 x0 x1 x2 x3 x4 x5 x6 (ix2 0 j) = ∑ i : Fin 512, ys x0 x1 x2 x3 x4 x5 x6 i j * xh (zs x0 x1 x2 x3 i) j := by
  pointwise [k0_pay18, k0_pay14, pay11, pay12]
theorem at13 (j : Fin 1024) : t13 x0 x1 x2 x3 x4 x5 x6 (ix2 0 j) = ∑ i : Fin 512, ys x0 x1 x2 x3 x4 x5 x6 i j := by
  pointwise [k0_pay19, k0_pay14, pay12]
end Tile

theorem pay2 (u : Fin 8) (v : Fin 128) : k0_pay2 (F := Ideal) (ix2 u v) = 0 := by
  pointwise [k0_pay2]
theorem pay3 (j : Fin 1024) : k0_pay3 (F := Ideal) (ix2 0 j) = 0 := by
  pointwise [k0_pay3]
theorem pay4 (j : Fin 1024) : k0_pay4 (F := Ideal) (ix2 0 j) = 0 := by
  pointwise [k0_pay4]
theorem pay5 (v a : S8x128.Idx → EReal) (i : Fin 8) (l : Fin 128) : k0_pay5 (F := Ideal) v a (ix2 i l) = a (ix2 i l) + v (ix2 i l) := by
  pointwise [k0_pay5]
theorem pay6 (v a : S1x1024.Idx → EReal) (j : Fin 1024) : k0_pay6 (F := Ideal) v a (ix2 0 j) = a (ix2 0 j) + v (ix2 0 j) := by
  pointwise [k0_pay6]
theorem pay7 (v a : S1x1024.Idx → EReal) (j : Fin 1024) : k0_pay7 (F := Ideal) v a (ix2 0 j) = a (ix2 0 j) + v (ix2 0 j) := by
  pointwise [k0_pay7]

theorem ldX (x : Vec Ideal S512x1024 .f32) (h) : View.ld (Val := Elt Ideal) (e' := .f32) (S := S512x1024) x (Rect.unit ![0, 0] ![512, 1024] h) = x :=
  View.ld_unit_lit (Val := Elt Ideal) (e := .f32) (S := S512x1024) h x (by decide)
theorem ldA (x : Vec Ideal S1x1024 .f32) (h) : View.ld (Val := Elt Ideal) (e' := .f32) (S := S1x1024) x (Rect.unit ![0, 0] ![1, 1024] h) = x :=
  View.ld_unit_lit (Val := Elt Ideal) (e := .f32) (S := S1x1024) h x (by decide)
theorem ldL (x : Vec Ideal S8x128 .f32) (h) : View.ld (Val := Elt Ideal) (e' := .f32) (S := S8x128) x (Rect.unit ![0, 0] ![8, 128] h) = x :=
  View.ld_unit_lit (Val := Elt Ideal) (e := .f32) (S := S8x128) h x (by decide)

section Case
variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .bf16) (h9 : a9.IsWhole) (a10 : Memref sig .tc .vmem S512x1024 .bf16) (h10 : a10.IsWhole) (a11 : Memref sig .tc .vmem S512x1024 .bf16) (h11 : a11.IsWhole) (a12 : Memref sig .tc .vmem S8x128 .f32) (h12 : a12.IsWhole) (a13 : Memref sig .tc .vmem S1x1024 .f32) (h13 : a13.IsWhole) (a14 : Memref sig .tc .vmem S1x1024 .f32) (h14 : a14.IsWhole)
variable (x0 x1 x2 x3 x4 : Vec Ideal S512x1024 .f32) (x5 x6 : Vec Ideal S1x1024 .f32) (a : Vec Ideal S8x128 .f32) (a' a'' : Vec Ideal S1x1024 .f32)

theorem out_A_7 (hc0 : cond0_0 i) : out0_A_7 (F := Ideal) c i a1 h1 a2 h2 a3 h3 a4 h4 a5 h5 a6 h6 a7 h7 a8 h8 a9 h9 a10 h10 a11 h11 a12 h12 a13 h13 a14 h14 hc0 x0 x1 x2 x3 x4 x5 x6 = t7 x0 x1 x2 x3 x4 x5 x6 := by
  unfold out0_A_7
  rw [View.read_writes_eq_canon _ _ _ (cover0_A_7 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_A_8 (hc0 : cond0_0 i) : out0_A_8 (F := Ideal) c i a1 h1 a2 h2 a3 h3 a4 h4 a5 h5 a6 h6 a7 h7 a8 h8 a9 h9 a10 h10 a11 h11 a12 h12 a13 h13 a14 h14 hc0 x0 x1 x2 x3 x4 x5 x6 = t8 x0 x1 x2 x3 x4 x5 x6 := by
  unfold out0_A_8
  rw [View.read_writes_eq_canon _ _ _ (cover0_A_8 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_A_9 (hc0 : cond0_0 i) : out0_A_9 (F := Ideal) c i a1 h1 a2 h2 a3 h3 a4 h4 a5 h5 a6 h6 a7 h7 a8 h8 a9 h9 a10 h10 a11 h11 a12 h12 a13 h13 a14 h14 hc0 x0 x1 x2 x3 x4 x5 x6 = t9 x0 x1 x2 x3 x4 x5 x6 := by
  unfold out0_A_9
  rw [View.read_writes_eq_canon _ _ _ (cover0_A_9 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_A_10 (hc0 : cond0_0 i) : out0_A_10 (F := Ideal) c i a1 h1 a2 h2 a3 h3 a4 h4 a5 h5 a6 h6 a7 h7 a8 h8 a9 h9 a10 h10 a11 h11 a12 h12 a13 h13 a14 h14 hc0 x0 x1 x2 x3 x4 x5 x6 = t10 x0 x1 x2 x3 x4 x5 x6 := by
  unfold out0_A_10
  rw [View.read_writes_eq_canon _ _ _ (cover0_A_10 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_A_11 (hc0 : cond0_0 i) : out0_A_11 (F := Ideal) c i a1 h1 a2 h2 a3 h3 a4 h4 a5 h5 a6 h6 a7 h7 a8 h8 a9 h9 a10 h10 a11 h11 a12 h12 a13 h13 a14 h14 hc0 x0 x1 x2 x3 x4 x5 x6 = k0_pay5 (t11 x0 x1 x2 x3 x4 x5 x6) (k0_pay2 (F := Ideal)) := by
  unfold out0_A_11
  rw [View.read_writes_eq_canon _ _ _ (cover0_A_11 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_cons_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_A_12 (hc0 : cond0_0 i) : out0_A_12 (F := Ideal) c i a1 h1 a2 h2 a3 h3 a4 h4 a5 h5 a6 h6 a7 h7 a8 h8 a9 h9 a10 h10 a11 h11 a12 h12 a13 h13 a14 h14 hc0 x0 x1 x2 x3 x4 x5 x6 = k0_pay6 (t12 x0 x1 x2 x3 x4 x5 x6) (k0_pay3 (F := Ideal)) := by
  unfold out0_A_12
  rw [View.read_writes_eq_canon _ _ _ (cover0_A_12 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_cons_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_A_13 (hc0 : cond0_0 i) : out0_A_13 (F := Ideal) c i a1 h1 a2 h2 a3 h3 a4 h4 a5 h5 a6 h6 a7 h7 a8 h8 a9 h9 a10 h10 a11 h11 a12 h12 a13 h13 a14 h14 hc0 x0 x1 x2 x3 x4 x5 x6 = k0_pay7 (t13 x0 x1 x2 x3 x4 x5 x6) (k0_pay4 (F := Ideal)) := by
  unfold out0_A_13
  rw [View.read_writes_eq_canon _ _ _ (cover0_A_13 (F := Ideal) c i a1 h1 a2 h2 a3 h3 a4 h4 a5 h5 a6 h6 a7 h7 a8 h8 a9 h9 a10 h10 a11 h11 a12 h12 a13 h13 a14 h14 hc0 x0 x1 x2 x3 x4 x5 x6)]
  unfold kernelRun0_A
  dsimp only
  sl_unfold_words
  rw [View.canon_cons_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_7 (hc0 : ¬cond0_0 i) : out0_B_7 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = t7 x0 x1 x2 x3 x4 x5 x6 := by
  unfold out0_B_7
  rw [View.read_writes_eq_canon _ _ _ (cover0_B_7 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_8 (hc0 : ¬cond0_0 i) : out0_B_8 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = t8 x0 x1 x2 x3 x4 x5 x6 := by
  unfold out0_B_8
  rw [View.read_writes_eq_canon _ _ _ (cover0_B_8 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_9 (hc0 : ¬cond0_0 i) : out0_B_9 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = t9 x0 x1 x2 x3 x4 x5 x6 := by
  unfold out0_B_9
  rw [View.read_writes_eq_canon _ _ _ (cover0_B_9 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_10 (hc0 : ¬cond0_0 i) : out0_B_10 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = t10 x0 x1 x2 x3 x4 x5 x6 := by
  unfold out0_B_10
  rw [View.read_writes_eq_canon _ _ _ (cover0_B_10 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_11 (hc0 : ¬cond0_0 i) : out0_B_11 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = k0_pay5 (t11 x0 x1 x2 x3 x4 x5 x6) a := by
  unfold out0_B_11
  rw [View.read_writes_eq_canon _ _ _ (cover0_B_11 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_12 (hc0 : ¬cond0_0 i) : out0_B_12 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = k0_pay6 (t12 x0 x1 x2 x3 x4 x5 x6) a' := by
  unfold out0_B_12
  rw [View.read_writes_eq_canon _ _ _ (cover0_B_12 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

theorem out_B_13 (hc0 : ¬cond0_0 i) : out0_B_13 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'' = k0_pay7 (t13 x0 x1 x2 x3 x4 x5 x6) a'' := by
  unfold out0_B_13
  rw [View.read_writes_eq_canon _ _ _ (cover0_B_13 (F := Ideal) c i a1 h1 a2 h2 a3 h3 a4 h4 a5 h5 a6 h6 a7 h7 a8 h8 a9 h9 a10 h10 a11 h11 a12 h12 a13 h13 a14 h14 hc0 x0 x1 x2 x3 x4 x5 x6 a a' a'')]
  unfold kernelRun0_B
  dsimp only
  sl_unfold_words
  rw [View.canon_unit_zero (by decide)]
  simp (disch := decide) only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, ↓View.readCov_skip, ↓View.readCov_fill, ldX, ldA, ldL]

end Case

/-! ### The tiles -/

/-- Row `i` of the tile of point `n`. -/
abbrev row (n : ℕ) (i : Fin 512) : Fin 4096 := Cert.Mm.pos 4096 (by decide) (512 * n + i.val)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx5 : ∀ t : Fin cfg0.N, win0_5.index t = ![0, 0] := by decide +kernel
theorem idx6 : ∀ t : Fin cfg0.N, win0_6.index t = ![0, 0] := by decide +kernel

/-! What the results hold, from the seven arguments. -/
section Spec
variable (x f p q t : S4096x1024.Idx → EReal) (g b : S1x1024.Idx → EReal)
/-- The gradient of the residual sum. -/
def dz : S4096x1024.Idx → EReal := fun y => lnb (zs x f p q (y 0)) (gs x f p q t g b (y 0)) (y 1)
/-- The gradient of the gate. -/
def dgate : S4096x1024.Idx → EReal := fun y => gate (dz x f p q t g b (ix2 (y 0) (y 1))) (p (ix2 (y 0) (y 1))) (q (ix2 (y 0) (y 1)))
/-- The gradient of the gated embedding. -/
def dgated : S4096x1024.Idx → EReal := fun y => gated (dz x f p q t g b (ix2 (y 0) (y 1))) (p (ix2 (y 0) (y 1)))
/-- The loss of the tile of point `n`. -/
def termL (n : ℕ) : EReal := Ideal.ofBits .f32 0x3F000000#32 * ∑ i : Fin 512, msq (es x f p q t g b (row n i))
/-- What the tile of point `n` adds to the gradient of the gain. -/
def termG (n : ℕ) (j : Fin 1024) : EReal := ∑ i : Fin 512, ys x f p q t g b (row n i) j * xh (zs x f p q (row n i)) j
/-- What the tile of point `n` adds to the gradient of the offset. -/
def termB (n : ℕ) (j : Fin 1024) : EReal := ∑ i : Fin 512, ys x f p q t g b (row n i) j
/-- The loss, at each place. -/
def loss : S8x128.Idx → EReal := fun _ => ∑ n ∈ Finset.range 8, termL x f p q t g b n
/-- The gradient of the gain. -/
def dgain : S1x1024.Idx → EReal := fun y => ∑ r : Fin 4096, ys x f p q t g b r (y 1) * xh (zs x f p q r) (y 1)
/-- The gradient of the offset. -/
def doff : S1x1024.Idx → EReal := fun y => ∑ r : Fin 4096, ys x f p q t g b r (y 1)
end Spec

section Arr
variable (m : (ℓ : Loc nD τ sig) → Buf (Elt Ideal) ℓ) (c : Dev nD)

/-- The arrays the kernel reads: the residual stream, the feed-forward branch, the gate, the embedding, the target, the gain, the offset. -/
abbrev X : S4096x1024.Idx → EReal := m ((c : Thread nD τ).loc main_arg0)
abbrev F : S4096x1024.Idx → EReal := m ((c : Thread nD τ).loc main_arg1)
abbrev P : S4096x1024.Idx → EReal := m ((c : Thread nD τ).loc main_arg2)
abbrev Q : S4096x1024.Idx → EReal := m ((c : Thread nD τ).loc main_arg3)
abbrev T : S4096x1024.Idx → EReal := m ((c : Thread nD τ).loc main_arg4)
abbrev G : S1x1024.Idx → EReal := m ((c : Thread nD τ).loc main_arg5)
abbrev B : S1x1024.Idx → EReal := m ((c : Thread nD τ).loc main_arg6)

theorem blk0 (t : Fin cfg0.N) (i : Fin 512) (j : Fin 1024) : (iblk m c 0 t : S512x1024.Idx → EReal) (ix2 i j) = X m c (ix2 (row t.val i) j) := by
  have hN : t.val < 8 := lt_of_lt_of_eq t.isLt N_0
  blk_ext [iblk, idx0 t, row]
theorem blk1 (t : Fin cfg0.N) (i : Fin 512) (j : Fin 1024) : (iblk m c 1 t : S512x1024.Idx → EReal) (ix2 i j) = F m c (ix2 (row t.val i) j) := by
  have hN : t.val < 8 := lt_of_lt_of_eq t.isLt N_0
  blk_ext [iblk, idx1 t, row]
theorem blk2 (t : Fin cfg0.N) (i : Fin 512) (j : Fin 1024) : (iblk m c 2 t : S512x1024.Idx → EReal) (ix2 i j) = P m c (ix2 (row t.val i) j) := by
  have hN : t.val < 8 := lt_of_lt_of_eq t.isLt N_0
  blk_ext [iblk, idx2 t, row]
theorem blk3 (t : Fin cfg0.N) (i : Fin 512) (j : Fin 1024) : (iblk m c 3 t : S512x1024.Idx → EReal) (ix2 i j) = Q m c (ix2 (row t.val i) j) := by
  have hN : t.val < 8 := lt_of_lt_of_eq t.isLt N_0
  blk_ext [iblk, idx3 t, row]
theorem blk4 (t : Fin cfg0.N) (i : Fin 512) (j : Fin 1024) : (iblk m c 4 t : S512x1024.Idx → EReal) (ix2 i j) = T m c (ix2 (row t.val i) j) := by
  have hN : t.val < 8 := lt_of_lt_of_eq t.isLt N_0
  blk_ext [iblk, idx4 t, row]
theorem blk5 (t : Fin cfg0.N) (j : Fin 1024) : (iblk m c 5 t : S1x1024.Idx → EReal) (ix2 0 j) = G m c (ix2 0 j) := by
  blk_ext [iblk, idx5 t]
theorem blk6 (t : Fin cfg0.N) (j : Fin 1024) : (iblk m c 6 t : S1x1024.Idx → EReal) (ix2 0 j) = B m c (ix2 0 j) := by
  blk_ext [iblk, idx6 t]

theorem zs_point (t : Fin cfg0.N) (i : Fin 512) : zs (n := 512) (iblk m c 0 t) (iblk m c 1 t) (iblk m c 2 t) (iblk m c 3 t) i = zs (X m c) (F m c) (P m c) (Q m c) (row t.val i) := by
  funext k
  have e := congr (congr (congrArg₂ z (blk0 m c t i k) (blk1 m c t i k)) (blk2 m c t i k)) (blk3 m c t i k)
  exact e
theorem es_point (t : Fin cfg0.N) (i : Fin 512) : es (n := 512) (iblk m c 0 t) (iblk m c 1 t) (iblk m c 2 t) (iblk m c 3 t) (iblk m c 4 t) (iblk m c 5 t) (iblk m c 6 t) i = es (X m c) (F m c) (P m c) (Q m c) (T m c) (G m c) (B m c) (row t.val i) := by
  funext k
  exact congrArg₂ (fun a b : EReal => a - b) (congrArg₂ (fun a b : EReal => a + b)
    (congrArg₂ (fun a b : EReal => a * b) (congrFun (congrArg xh (zs_point m c t i)) k) (blk5 m c t k)) (blk6 m c t k)) (blk4 m c t i k)
theorem ys_point (t : Fin cfg0.N) (i : Fin 512) : ys (n := 512) (iblk m c 0 t) (iblk m c 1 t) (iblk m c 2 t) (iblk m c 3 t) (iblk m c 4 t) (iblk m c 5 t) (iblk m c 6 t) i = ys (X m c) (F m c) (P m c) (Q m c) (T m c) (G m c) (B m c) (row t.val i) :=
  funext fun k => congrArg (fun a : EReal => a * Ideal.ofBits .f32 0x3A800000#32) (congrFun (es_point m c t i) k)
theorem gs_point (t : Fin cfg0.N) (i : Fin 512) : gs (n := 512) (iblk m c 0 t) (iblk m c 1 t) (iblk m c 2 t) (iblk m c 3 t) (iblk m c 4 t) (iblk m c 5 t) (iblk m c 6 t) i = gs (X m c) (F m c) (P m c) (Q m c) (T m c) (G m c) (B m c) (row t.val i) :=
  funext fun k => congrArg₂ (fun a b : EReal => a * b) (congrFun (ys_point m c t i) k) (blk5 m c t k)
theorem dz_point (t : Fin cfg0.N) (i : Fin 512) (j : Fin 1024) :
    lnb (zs (n := 512) (iblk m c 0 t) (iblk m c 1 t) (iblk m c 2 t) (iblk m c 3 t) i) (gs (n := 512) (iblk m c 0 t) (iblk m c 1 t) (iblk m c 2 t) (iblk m c 3 t) (iblk m c 4 t) (iblk m c 5 t) (iblk m c 6 t) i) j = dz (X m c) (F m c) (P m c) (Q m c) (T m c) (G m c) (B m c) (ix2 (row t.val i) j) :=
  congrFun (congrArg₂ lnb (zs_point m c t i) (gs_point m c t i)) j

theorem stepL (t : Fin cfg0.N) (acc : S8x128.Idx → EReal) (u : Fin 8) (v : Fin 128) :
    k0_pay5 (F := Ideal) (t11 (iblk m c 0 t) (iblk m c 1 t) (iblk m c 2 t) (iblk m c 3 t) (iblk m c 4 t) (iblk m c 5 t) (iblk m c 6 t)) acc (ix2 u v) = acc (ix2 u v) + termL (X m c) (F m c) (P m c) (Q m c) (T m c) (G m c) (B m c) t.val := by
  rw [pay5]
  refine congrArg _ ((at11 (iblk m c 0 t) (iblk m c 1 t) (iblk m c 2 t) (iblk m c 3 t) (iblk m c 4 t) (iblk m c 5 t) (iblk m c 6 t) u v).trans ?_)
  exact congrArg _ (Finset.sum_congr rfl fun i _ => congrArg msq (es_point m c t i))
theorem stepG (t : Fin cfg0.N) (acc : S1x1024.Idx → EReal) (j : Fin 1024) :
    k0_pay6 (F := Ideal) (t12 (iblk m c 0 t) (iblk m c 1 t) (iblk m c 2 t) (iblk m c 3 t) (iblk m c 4 t) (iblk m c 5 t) (iblk m c 6 t)) acc (ix2 0 j) = acc (ix2 0 j) + termG (X m c) (F m c) (P m c) (Q m c) (T m c) (G m c) (B m c) t.val j := by
  rw [pay6]
  refine congrArg _ ((at12 (iblk m c 0 t) (iblk m c 1 t) (iblk m c 2 t) (iblk m c 3 t) (iblk m c 4 t) (iblk m c 5 t) (iblk m c 6 t) j).trans ?_)
  exact Finset.sum_congr rfl fun i _ => congrArg₂ (fun a b : EReal => a * b) (congrFun (ys_point m c t i) j) (congrFun (congrArg xh (zs_point m c t i)) j)
theorem stepB (t : Fin cfg0.N) (acc : S1x1024.Idx → EReal) (j : Fin 1024) :
    k0_pay7 (F := Ideal) (t13 (iblk m c 0 t) (iblk m c 1 t) (iblk m c 2 t) (iblk m c 3 t) (iblk m c 4 t) (iblk m c 5 t) (iblk m c 6 t)) acc (ix2 0 j) = acc (ix2 0 j) + termB (X m c) (F m c) (P m c) (Q m c) (T m c) (G m c) (B m c) t.val j := by
  rw [pay7]
  refine congrArg _ ((at13 (iblk m c 0 t) (iblk m c 1 t) (iblk m c 2 t) (iblk m c 3 t) (iblk m c 4 t) (iblk m c 5 t) (iblk m c 6 t) j).trans ?_)
  exact Finset.sum_congr rfl fun i _ => congrFun (ys_point m c t i) j

/-- The three accumulators after point `n`: the sums over the tiles so far. -/
theorem acc (n : ℕ) (hn : n < cfg0.N) (u : Fin 8) (v : Fin 128) (j : Fin 1024) :
    (outsAt0 m c n hn).2.2.2.2.1 (ix2 u v) = ∑ q ∈ Finset.range (n + 1), termL (X m c) (F m c) (P m c) (Q m c) (T m c) (G m c) (B m c) q
      ∧ (outsAt0 m c n hn).2.2.2.2.2.1 (ix2 0 j) = ∑ q ∈ Finset.range (n + 1), termG (X m c) (F m c) (P m c) (Q m c) (T m c) (G m c) (B m c) q j
      ∧ (outsAt0 m c n hn).2.2.2.2.2.2 (ix2 0 j) = ∑ q ∈ Finset.range (n + 1), termB (X m c) (F m c) (P m c) (Q m c) (T m c) (G m c) (B m c) q j := by
  induction n with
  | zero =>
    rw [outsAt0_A m c ⟨0, hn⟩ rfl]
    dsimp only
    rw [out_A_11, out_A_12, out_A_13, stepL, stepG, stepB, pay2, pay3, pay4]
    simp
  | succ n ih =>
    have hN : n + 1 < 8 := lt_of_lt_of_eq hn N_0
    rw [outsAt0_B m c ⟨n + 1, hn⟩ (by dsimp only; omega)]
    dsimp only
    rw [out_B_11, out_B_12, out_B_13, stepL, stepG, stepB, Finset.sum_range_succ _ (n + 1), Finset.sum_range_succ _ (n + 1), Finset.sum_range_succ _ (n + 1)]
    have := ih (Nat.lt_of_succ_lt hn)
    exact ⟨congrArg (· + _) this.1, congrArg (· + _) this.2.1, congrArg (· + _) this.2.2⟩

/-- The four tiles that point `t` writes out. -/
theorem tiles (t : Fin cfg0.N) : (outsAt0 m c t.val t.isLt).1 = t7 (iblk m c 0 t) (iblk m c 1 t) (iblk m c 2 t) (iblk m c 3 t) (iblk m c 4 t) (iblk m c 5 t) (iblk m c 6 t) ∧ (outsAt0 m c t.val t.isLt).2.1 = t8 (iblk m c 0 t) (iblk m c 1 t) (iblk m c 2 t) (iblk m c 3 t) (iblk m c 4 t) (iblk m c 5 t) (iblk m c 6 t)
    ∧ (outsAt0 m c t.val t.isLt).2.2.1 = t9 (iblk m c 0 t) (iblk m c 1 t) (iblk m c 2 t) (iblk m c 3 t) (iblk m c 4 t) (iblk m c 5 t) (iblk m c 6 t) ∧ (outsAt0 m c t.val t.isLt).2.2.2.1 = t10 (iblk m c 0 t) (iblk m c 1 t) (iblk m c 2 t) (iblk m c 3 t) (iblk m c 4 t) (iblk m c 5 t) (iblk m c 6 t) := by
  by_cases h0 : t.val % 8 = 0
  · rw [outsAt0_A m c t h0]
    dsimp only
    rw [out_A_7, out_A_8, out_A_9, out_A_10]
    exact ⟨rfl, rfl, rfl, rfl⟩
  · rw [outsAt0_B m c t h0]
    dsimp only
    rw [out_B_7, out_B_8, out_B_9, out_B_10]
    exact ⟨rfl, rfl, rfl, rfl⟩

theorem arr7 : (dats m 0 c).arrAt 7 cfg0.N = (dz (X m c) (F m c) (P m c) (Q m c) (T m c) (G m c) (B m c) : S4096x1024.Idx → EReal) := by
  refine (dats m 0 c).arrAt_eq_of_covers 7 _ (by decide +kernel) (fun t hf y => ?_)
  blk_simp
  rw [after0_7, (tiles m c t).1]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 7).blk t).view.emb (ix2 i j) = (ix2 (row t.val i) j : S4096x1024.Idx) := by
    blk_ext [idx7 t, row]
  rw [e]
  exact (at7 (iblk m c 0 t) (iblk m c 1 t) (iblk m c 2 t) (iblk m c 3 t) (iblk m c 4 t) (iblk m c 5 t) (iblk m c 6 t) i j).trans (dz_point m c t i j)

theorem arr8 : (dats m 0 c).arrAt 8 cfg0.N = (dz (X m c) (F m c) (P m c) (Q m c) (T m c) (G m c) (B m c) : S4096x1024.Idx → EReal) := by
  refine (dats m 0 c).arrAt_eq_of_covers 8 _ (by decide +kernel) (fun t hf y => ?_)
  blk_simp
  rw [after0_8, (tiles m c t).2.1]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 8).blk t).view.emb (ix2 i j) = (ix2 (row t.val i) j : S4096x1024.Idx) := by
    blk_ext [idx8 t, row]
  rw [e]
  exact (at8 (iblk m c 0 t) (iblk m c 1 t) (iblk m c 2 t) (iblk m c 3 t) (iblk m c 4 t) (iblk m c 5 t) (iblk m c 6 t) i j).trans (dz_point m c t i j)

theorem arr9 : (dats m 0 c).arrAt 9 cfg0.N = (dgate (X m c) (F m c) (P m c) (Q m c) (T m c) (G m c) (B m c) : S4096x1024.Idx → EReal) := by
  refine (dats m 0 c).arrAt_eq_of_covers 9 _ (by decide +kernel) (fun t hf y => ?_)
  blk_simp
  rw [after0_9, (tiles m c t).2.2.1]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 9).blk t).view.emb (ix2 i j) = (ix2 (row t.val i) j : S4096x1024.Idx) := by
    blk_ext [idx9 t, row]
  rw [e]
  exact (at9 (iblk m c 0 t) (iblk m c 1 t) (iblk m c 2 t) (iblk m c 3 t) (iblk m c 4 t) (iblk m c 5 t) (iblk m c 6 t) i j).trans (congr (congrArg₂ gate (dz_point m c t i j) (blk2 m c t i j)) (blk3 m c t i j))

theorem arr10 : (dats m 0 c).arrAt 10 cfg0.N = (dgated (X m c) (F m c) (P m c) (Q m c) (T m c) (G m c) (B m c) : S4096x1024.Idx → EReal) := by
  refine (dats m 0 c).arrAt_eq_of_covers 10 _ (by decide +kernel) (fun t hf y => ?_)
  blk_simp
  rw [after0_10, (tiles m c t).2.2.2]
  obtain ⟨i, j, rfl⟩ : ∃ (i : Fin 512) (j : Fin 1024), y = ix2 i j := ⟨y 0, y 1, eq_ix2 y⟩
  have hN : t.val < 8 := lt_of_lt_of_eq t.isLt N_0
  have e : ((cfg0.win 10).blk t).view.emb (ix2 i j) = (ix2 (row t.val i) j : S4096x1024.Idx) := by
    blk_ext [idx10 t, row]
  rw [e]
  exact (at10 (iblk m c 0 t) (iblk m c 1 t) (iblk m c 2 t) (iblk m c 3 t) (iblk m c 4 t) (iblk m c 5 t) (iblk m c 6 t) i j).trans (congrArg₂ gated (dz_point m c t i j) (blk2 m c t i j))

/-- The last point. -/
abbrev last : Fin cfg0.N := ⟨7, lt_of_lt_of_eq (by decide) N_0.symm⟩

theorem arr11 : (dats m 0 c).arrAt 11 cfg0.N = (loss (X m c) (F m c) (P m c) (Q m c) (T m c) (G m c) (B m c) : S8x128.Idx → EReal) := by
  refine (dats m 0 c).arrAt_eq_of_after_last 11 last (by decide +kernel) _ fun j => ?_
  blk_simp
  rw [after0_11]
  obtain ⟨u, v, rfl⟩ : ∃ (u : Fin 8) (v : Fin 128), j = ix2 u v := ⟨j 0, j 1, eq_ix2 j⟩
  exact (acc m c 7 _ u v 0).1

theorem arr12 : (dats m 0 c).arrAt 12 cfg0.N = (dgain (X m c) (F m c) (P m c) (Q m c) (T m c) (G m c) (B m c) : S1x1024.Idx → EReal) := by
  refine (dats m 0 c).arrAt_eq_of_after_last 12 last (by decide +kernel) _ fun j => ?_
  blk_simp
  rw [after0_12]
  obtain ⟨o, l, rfl⟩ : ∃ (o : Fin 1) (l : Fin 1024), j = ix2 o l := ⟨j 0, j 1, eq_ix2 j⟩
  rw [Subsingleton.elim o 0]
  exact (acc m c 7 _ 0 0 l).2.1.trans (Cert.Mm.sum_blocks 4096 512 8 (by decide) rfl fun r => ys (X m c) (F m c) (P m c) (Q m c) (T m c) (G m c) (B m c) r l * xh (zs (X m c) (F m c) (P m c) (Q m c) r) l)

theorem arr13 : (dats m 0 c).arrAt 13 cfg0.N = (doff (X m c) (F m c) (P m c) (Q m c) (T m c) (G m c) (B m c) : S1x1024.Idx → EReal) := by
  refine (dats m 0 c).arrAt_eq_of_after_last 13 last (by decide +kernel) _ fun j => ?_
  blk_simp
  rw [after0_13]
  obtain ⟨o, l, rfl⟩ : ∃ (o : Fin 1) (l : Fin 1024), j = ix2 o l := ⟨j 0, j 1, eq_ix2 j⟩
  rw [Subsingleton.elim o 0]
  exact (acc m c 7 _ 0 0 l).2.2.trans (Cert.Mm.sum_blocks 4096 512 8 (by decide) rfl fun r => ys (X m c) (F m c) (P m c) (Q m c) (T m c) (G m c) (B m c) r l)

end Arr

/-! ### The reference, over the reals -/

theorem word_inv : Ideal.ofBits .f32 0x3A800000#32 = ((1 / 1024 : ℝ) : EReal) := by
  simp [Ideal.ofBits, Ideal.ieee]; norm_num [← EReal.coe_mul]

/-- The logistic function of any extended real is a real. -/
theorem logistic_real (x : EReal) : ∃ s : ℝ, Ideal.logistic x = (s : EReal) := by
  induction x using EReal.rec with
  | bot => exact ⟨0, by simp⟩
  | coe r => exact ⟨_, Ideal.logistic_coe r⟩
  | top => exact ⟨1, by simp⟩

section Ref
open Cert.RLlIdeal.Read Cert.Spec Cert.Pay Cert.Ref

variable (X Fo S Q T : Fin 4096 → Fin 1024 → ℝ) (G B : Fin 1024 → ℝ) (p : S4096x1024.Idx → EReal)
/-- The residual sum over the reals. -/
def zr (r : Fin 4096) (k : Fin 1024) : ℝ := alpha * X r k + Fo r k + S r k * Q r k
/-- The layer norm less the target over the reals. -/
def er (r : Fin 4096) (k : Fin 1024) : ℝ := Cert.Spec.xh (zr X Fo S Q r) k * G k + B k - T r k
/-- The gradient of the layer norm's result over the reals. -/
def yr (r : Fin 4096) (k : Fin 1024) : ℝ := er X Fo S Q T G B r k * (1 / 1024)
/-- The gradient of the normalised row over the reals. -/
def gr (r : Fin 4096) (k : Fin 1024) : ℝ := yr X Fo S Q T G B r k * G k

variable (h : ∀ r j, Ideal.logistic (p (ix2 r j)) = ((S r j : ℝ) : EReal))
include h

theorem zs_coe (r : Fin 4096) : zs (m2 X) (m2 Fo) p (m2 Q) r = fun k => ((zr X Fo S Q r k : ℝ) : EReal) := by
  funext k
  simp only [zs, z, word_alpha, m2_ix, h, ← EReal.coe_mul, ← EReal.coe_add]; rfl
theorem es_coe (r : Fin 4096) : es (m2 X) (m2 Fo) p (m2 Q) (m2 T) (m2 fun _ j => G j) (m2 fun _ j => B j) r = fun k => ((er X Fo S Q T G B r k : ℝ) : EReal) := by
  funext k
  simp only [es, zs_coe X Fo S Q p h, xh_coe, m2_ix, ← EReal.coe_mul, ← EReal.coe_add, ← EReal.coe_sub]; rfl
theorem ys_coe (r : Fin 4096) : ys (m2 X) (m2 Fo) p (m2 Q) (m2 T) (m2 fun _ j => G j) (m2 fun _ j => B j) r = fun k => ((yr X Fo S Q T G B r k : ℝ) : EReal) := by
  funext k
  refine (congrArg (fun a : EReal => a * Ideal.ofBits .f32 0x3A800000#32) (congrFun (es_coe X Fo S Q T G B p h r) k)).trans ?_
  rw [word_inv, ← EReal.coe_mul]; rfl
theorem gs_coe (r : Fin 4096) : gs (m2 X) (m2 Fo) p (m2 Q) (m2 T) (m2 fun _ j => G j) (m2 fun _ j => B j) r = fun k => ((gr X Fo S Q T G B r k : ℝ) : EReal) := by
  funext k
  refine (congrArg (fun a : EReal => a * ((G k : ℝ) : EReal)) (congrFun (ys_coe X Fo S Q T G B p h r) k)).trans ?_
  rw [← EReal.coe_mul]; rfl
theorem dz_coe : dz (m2 X) (m2 Fo) p (m2 Q) (m2 T) (m2 fun _ j => G j) (m2 fun _ j => B j) = m2 fun r j => Cert.Spec.lnb (zr X Fo S Q r) (gr X Fo S Q T G B r) j := by
  refine m2_ext fun r j => ?_
  rw [← lnb_coe]
  exact congrFun (congrArg₂ Cert.RwLb.lnb (zs_coe X Fo S Q p h r) (gs_coe X Fo S Q T G B p h r)) j

omit h in
theorem r8 (r : Fin 4096) (j : Fin 1024) : val_main_v8 (F := Ideal) p (ix2 r j) = Ideal.logistic (p (ix2 r j)) := by
  pointwise [val_main_v8, val_main_v7, val_main_v6, val_main_v5, val_main_v4, val_main_v3, val_main_cst_0, val_main_cst_1]
  rfl

omit h in
theorem r8' (y : S4096x1024.Idx) : val_main_v8 (F := Ideal) p y = Ideal.logistic (p y) := by
  obtain ⟨r, j, rfl⟩ : ∃ (r : Fin 4096) (j : Fin 1024), y = ix2 r j := ⟨y 0, y 1, eq_ix2 y⟩
  exact r8 p r j

theorem r13 : val_main_v13 (F := Ideal) (m2 X) (m2 Fo) p (m2 Q) = m2 (zr X Fo S Q) := by
  refine m2_ext fun r j => ?_
  pointwise [val_main_v13, val_main_v12, val_main_v2, val_main_v1, val_main_v0, val_main_cst, r8, h, m2_ix, word_alpha]
  simp only [← EReal.coe_mul, ← EReal.coe_add]; rfl

theorem r19 : val_main_v19 (F := Ideal) (m2 X) (m2 Fo) p (m2 Q) = m2 fun r j => xc (zr X Fo S Q r) j := by
  refine m2_ext fun r j => ?_
  pointwise [val_main_v19, val_main_v18, val_main_v17, val_main_v16, val_main_v15, val_main_v14, val_main_cst_3, val_main_cst_4, r13 X Fo S Q p h, m2_ix, word_width, word_zero]
  simp only [← coe_sum, ← EReal.coe_add, zero_add]
  rw [div_coe' _ _ (by norm_num), ← EReal.coe_sub]; rfl

theorem r28 : val_main_v28 (F := Ideal) (m2 X) (m2 Fo) p (m2 Q) = m2 fun r j => xc (zr X Fo S Q r) j := by
  rw [← r19 X Fo S Q p h]
  refine funext fun y => ?_
  rw [eq_ix2 y]
  pointwise [val_main_v28, val_main_v27, val_main_v19, val_main_v18]

theorem r22 : val_main_v22 (F := Ideal) (m2 X) (m2 Fo) p (m2 Q) = m2 fun r j => 2 * xc (zr X Fo S Q r) j := by
  refine m2_ext fun r j => ?_
  pointwise [val_main_v22, val_main_v21, val_main_cst_5, r19 X Fo S Q p h, m2_ix, word_two]
  simp only [← EReal.coe_mul]

theorem r30 : val_main_v30 (F := Ideal) (m2 X) (m2 Fo) p (m2 Q) = m2 fun r (_ : Fin 1) => var (zr X Fo S Q r) + eps := by
  refine m2_ext fun r j => ?_
  pointwise [val_main_v30, val_main_v29, val_main_v26, val_main_v25, val_main_v24, val_main_v23, val_main_v20, val_main_cst_6, val_main_cst_7, val_main_cst_8, r19 X Fo S Q p h, m2_ix, word_width, word_zero, word_eps]
  simp only [← EReal.coe_mul, ← coe_sum, ← EReal.coe_add, zero_add]
  rw [div_coe' _ _ (by norm_num), ← EReal.coe_add]; rfl

theorem r31 : val_main_v31 (F := Ideal) (m2 X) (m2 Fo) p (m2 Q) = m2 fun r (_ : Fin 1) => Cert.Spec.rs (zr X Fo S Q r) := by
  refine m2_ext fun r j => ?_
  pointwise [val_main_v31, r30 X Fo S Q p h, m2_ix]
  exact rsqrt_coe' _ (var_eps_pos _)

theorem r34 : val_main_v34 (F := Ideal) (m2 X) (m2 Fo) p (m2 Q) = m2 fun r (_ : Fin 1) => -(1 / 2) * (Cert.Spec.rs (zr X Fo S Q r) / (var (zr X Fo S Q r) + eps)) := by
  refine m2_ext fun r j => ?_
  pointwise [val_main_v34, val_main_v33, val_main_v32, val_main_cst_9, r31 X Fo S Q p h, r30 X Fo S Q p h, m2_ix, word_mhalf]
  rw [div_coe' _ _ (var_eps_pos _).ne', ← EReal.coe_mul]

theorem r36 : val_main_v36 (F := Ideal) (m2 X) (m2 Fo) p (m2 Q) = m2 fun r j => Cert.Spec.xh (zr X Fo S Q r) j := by
  refine m2_ext fun r j => ?_
  pointwise [val_main_v36, val_main_v35, r28 X Fo S Q p h, r31 X Fo S Q p h, m2_ix]
  rw [← EReal.coe_mul]; rfl

theorem r41 : val_main_v41 (F := Ideal) (m2 X) (m2 Fo) p (m2 Q) (m2 T) (m2 fun _ j => G j) (m2 fun _ j => B j) = m2 (er X Fo S Q T G B) := by
  refine m2_ext fun r j => ?_
  pointwise [val_main_v41, val_main_v40, val_main_v39, val_main_v38, val_main_v37, r36 X Fo S Q p h, m2_ix]
  simp only [← EReal.coe_mul, ← EReal.coe_add, ← EReal.coe_sub]; rfl

theorem r55 : val_main_v55 (F := Ideal) (m2 X) (m2 Fo) p (m2 Q) (m2 T) (m2 fun _ j => G j) (m2 fun _ j => B j) = m2 (yr X Fo S Q T G B) := by
  refine m2_ext fun r j => ?_
  pointwise [val_main_v55, val_main_v54, val_main_v53, val_main_v52, val_main_v51, val_main_v50, val_main_v44, val_main_v43, val_main_cst_10, val_main_cst_15, val_main_cst_16, val_main_cst_17, r41 X Fo S Q T G B p h, m2_ix, word_half, word_one, word_two, word_width]
  simp only [← EReal.coe_mul, ← EReal.coe_one]
  rw [div_coe' _ _ (by norm_num), ← EReal.coe_mul, EReal.coe_eq_coe_iff, yr]
  ring

theorem r62 : val_main_v62 (F := Ideal) (m2 X) (m2 Fo) p (m2 Q) (m2 T) (m2 fun _ j => G j) (m2 fun _ j => B j) = m2 (gr X Fo S Q T G B) := by
  refine m2_ext fun r j => ?_
  pointwise [val_main_v62, val_main_v61, r55 X Fo S Q T G B p h, m2_ix]
  rw [← EReal.coe_mul]; rfl

theorem r65 : val_main_v65 (F := Ideal) (m2 X) (m2 Fo) p (m2 Q) (m2 T) (m2 fun _ j => G j) (m2 fun _ j => B j) = m2 fun r (_ : Fin 1) => ∑ k, xc (zr X Fo S Q r) k * gr X Fo S Q T G B r k := by
  refine m2_ext fun r j => ?_
  pointwise [val_main_v65, val_main_v64, val_main_v63, val_main_cst_20, r28 X Fo S Q p h, r62 X Fo S Q T G B p h, m2_ix, word_zero]
  simp only [← coe_sum, ← EReal.coe_mul, ← EReal.coe_add, zero_add]

theorem r67 : val_main_v67 (F := Ideal) (m2 X) (m2 Fo) p (m2 Q) (m2 T) (m2 fun _ j => G j) (m2 fun _ j => B j) = m2 fun r j => gr X Fo S Q T G B r j * Cert.Spec.rs (zr X Fo S Q r) := by
  refine m2_ext fun r j => ?_
  pointwise [val_main_v67, val_main_v66, r62 X Fo S Q T G B p h, r31 X Fo S Q p h, m2_ix]
  simp only [← EReal.coe_mul]

theorem r76 : val_main_v76 (F := Ideal) (m2 X) (m2 Fo) p (m2 Q) (m2 T) (m2 fun _ j => G j) (m2 fun _ j => B j) = m2 fun r j =>
    (∑ k, xc (zr X Fo S Q r) k * gr X Fo S Q T G B r k) * (-(1 / 2) * (Cert.Spec.rs (zr X Fo S Q r) / (var (zr X Fo S Q r) + eps))) / 1024 * (2 * xc (zr X Fo S Q r) j) := by
  refine m2_ext fun r j => ?_
  pointwise [val_main_v76, val_main_v75, val_main_v74, val_main_v73, val_main_v72, val_main_v68, val_main_cst_22, val_main_cst_23, r65 X Fo S Q T G B p h, r34 X Fo S Q p h, r22 X Fo S Q p h, m2_ix, word_zero, word_width]
  simp only [← EReal.coe_mul, Finset.univ_unique, Finset.sum_singleton]
  rw [div_coe' _ _ (by norm_num)]
  simp only [← EReal.coe_add, ← EReal.coe_mul, zero_add]

theorem r86 : val_main_v86 (F := Ideal) (m2 X) (m2 Fo) p (m2 Q) (m2 T) (m2 fun _ j => G j) (m2 fun _ j => B j) = dz (m2 X) (m2 Fo) p (m2 Q) (m2 T) (m2 fun _ j => G j) (m2 fun _ j => B j) := by
  rw [dz_coe X Fo S Q T G B p h]
  refine m2_ext fun r j => ?_
  rw [← ln_real]
  pointwise [val_main_v86, val_main_v85, val_main_v84, val_main_v83, val_main_v82, val_main_v81, val_main_v80, val_main_v79, val_main_v78, val_main_v77, val_main_v71, val_main_v70, val_main_v69, val_main_cst_21, val_main_cst_24, val_main_cst_25, val_main_cst_26, r67 X Fo S Q T G B p h, r76 X Fo S Q T G B p h, m2_ix, word_zero, word_width]
  simp only [← EReal.coe_neg, ← coe_sum, ← EReal.coe_add, Finset.univ_unique, Finset.sum_singleton]
  rw [div_coe' _ _ (by norm_num)]
  simp only [← EReal.coe_add, zero_add]

theorem r90 : val_main_v90 (F := Ideal) (m2 X) (m2 Fo) p (m2 Q) (m2 T) (m2 fun _ j => G j) (m2 fun _ j => B j) = dz (m2 X) (m2 Fo) p (m2 Q) (m2 T) (m2 fun _ j => G j) (m2 fun _ j => B j) := by
  rw [← r86 X Fo S Q T G B p h]
  refine funext fun y => ?_
  rw [eq_ix2 y]
  pointwise [val_main_v90]

theorem r91 : val_main_v91 (F := Ideal) (m2 X) (m2 Fo) p (m2 Q) (m2 T) (m2 fun _ j => G j) (m2 fun _ j => B j) = dgate (m2 X) (m2 Fo) p (m2 Q) (m2 T) (m2 fun _ j => G j) (m2 fun _ j => B j) := by
  refine funext fun y => ?_
  rw [eq_ix2 y]
  pointwise [val_main_v91, val_main_v89, val_main_v88, val_main_v11, val_main_v10, val_main_v9, val_main_cst_2, r8', r86 X Fo S Q T G B p h, dgate, gate]
  exact (@mul_assoc EReal _ _ _ _).symm

theorem r92 : val_main_v92 (F := Ideal) (m2 X) (m2 Fo) p (m2 Q) (m2 T) (m2 fun _ j => G j) (m2 fun _ j => B j) = dgated (m2 X) (m2 Fo) p (m2 Q) (m2 T) (m2 fun _ j => G j) (m2 fun _ j => B j) := by
  refine funext fun y => ?_
  rw [eq_ix2 y]
  pointwise [val_main_v92, val_main_v87, r8', r86 X Fo S Q T G B p h, dgated, gated]
  exact @mul_comm EReal _ _ _

theorem r60 : val_main_v60 (F := Ideal) (m2 X) (m2 Fo) p (m2 Q) (m2 T) (m2 fun _ j => G j) (m2 fun _ j => B j) = dgain (m2 X) (m2 Fo) p (m2 Q) (m2 T) (m2 fun _ j => G j) (m2 fun _ j => B j) := by
  refine funext fun y => ?_
  rw [eq_ix2 y]
  refine Eq.trans ?_ (Finset.sum_congr rfl fun r _ => congrArg₂ (fun a b : EReal => a * b) (congrFun (ys_coe X Fo S Q T G B p h r) (y 1))
    ((congrFun (congrArg Cert.RwLb.xh (zs_coe X Fo S Q p h r)) (y 1)).trans (xh_coe _ _))).symm
  pointwise [val_main_v60, val_main_v59, val_main_v58, val_main_cst_19, r36 X Fo S Q p h, r55 X Fo S Q T G B p h, m2_ix]
  exact Finset.sum_congr rfl fun r _ => @mul_comm EReal _ _ _

theorem r57 : val_main_v57 (F := Ideal) (m2 X) (m2 Fo) p (m2 Q) (m2 T) (m2 fun _ j => G j) (m2 fun _ j => B j) = doff (m2 X) (m2 Fo) p (m2 Q) (m2 T) (m2 fun _ j => G j) (m2 fun _ j => B j) := by
  refine funext fun y => ?_
  rw [eq_ix2 y]
  refine Eq.trans ?_ (Finset.sum_congr rfl fun r _ => congrFun (ys_coe X Fo S Q T G B p h r) (y 1)).symm
  pointwise [val_main_v57, val_main_v56, val_main_cst_18, r55 X Fo S Q T G B p h, m2_ix]

theorem msq_coe (r : Fin 4096) : msq (es (m2 X) (m2 Fo) p (m2 Q) (m2 T) (m2 fun _ j => G j) (m2 fun _ j => B j) r) = (((∑ k, er X Fo S Q T G B r k * er X Fo S Q T G B r k) / 1024 : ℝ) : EReal) := by
  rw [es_coe X Fo S Q T G B p h, msq]
  simp only [← EReal.coe_mul]
  exact mean_coe _

theorem loss_coe : loss (m2 X) (m2 Fo) p (m2 Q) (m2 T) (m2 fun _ j => G j) (m2 fun _ j => B j) = fun _ => ((1 / 2 * ∑ r, (∑ k, er X Fo S Q T G B r k * er X Fo S Q T G B r k) / 1024 : ℝ) : EReal) := by
  funext y
  rw [Finset.mul_sum, coe_sum, ← Cert.Mm.sum_blocks 4096 512 8 (by decide) rfl]
  refine Finset.sum_congr rfl fun n _ => ?_
  rw [termL, word_half]
  simp only [msq_coe X Fo S Q T G B p h, ← coe_sum, ← EReal.coe_mul, Finset.mul_sum]

theorem r93 : val_main_v93 (F := Ideal) (m2 X) (m2 Fo) p (m2 Q) (m2 T) (m2 fun _ j => G j) (m2 fun _ j => B j) = loss (m2 X) (m2 Fo) p (m2 Q) (m2 T) (m2 fun _ j => G j) (m2 fun _ j => B j) := by
  rw [loss_coe X Fo S Q T G B p h]
  refine funext fun y => ?_
  rw [eq_ix2 y]
  pointwise [val_main_v93, val_main_v49, val_main_v48, val_main_v47, val_main_v46, val_main_v45, val_main_v42, val_main_cst_11, val_main_cst_12, val_main_cst_13, val_main_cst_14, r41 X Fo S Q T G B p h, m2_ix, word_half, word_zero, word_width]
  simp only [← EReal.coe_mul, ← coe_sum, ← EReal.coe_add, zero_add]
  simp only [div_coe' _ _ (show (1024 : ℝ) ≠ 0 by norm_num), ← coe_sum, ← EReal.coe_add, zero_add, ← EReal.coe_mul]

end Ref

/-! ### The precondition -/

/-- The facts on shapes that the precondition states. -/
theorem facts : Cert.Pre_finite_ll.Facts where
  bcast_S_S4096x1024 := by decide
  reducesTo_S4096x1024_S_d0_1 := by decide
  h_S_ := by decide
  bcast_S_S1x1024 := by decide
  reducesTo_S1x1024_S_d0_1 := by decide

/-- Where the precondition holds, all arguments but the gate hold reals. -/
theorem reals (x0 x1 x2 x3 x4 : S4096x1024.Idx → EReal) (x5 x6 : S1x1024.Idx → EReal)
    (h : haveI := facts; Cert.Pre_finite_ll.fn (F := Ideal) x0 x1 x2 x3 x4 x5 x6 = fun _ => 1#1) :
    ∃ (X Fo Q T : Fin 4096 → Fin 1024 → ℝ) (G B : Fin 1024 → ℝ), x0 = Cert.Pay.m2 X ∧ x1 = Cert.Pay.m2 Fo ∧ x3 = Cert.Pay.m2 Q ∧ x4 = Cert.Pay.m2 T
      ∧ x5 = (Cert.Pay.m2 fun _ j => G j) ∧ x6 = (Cert.Pay.m2 fun _ j => B j) := by
  haveI := facts
  have h := congrFun h (Shape.Idx.first facts.h_S_)
  dsimp only [Cert.Pre_finite_ll.fn, Cert.Pre_finite_ll.fn_part1] at h
  simp only [andi, IntOp.andi_eq_one] at h
  obtain ⟨⟨⟨⟨⟨h0, h1⟩, h3⟩, h4⟩, h5⟩, h6⟩ := h
  have g0 (r : Fin 4096) (j : Fin 1024) : ∃ a : ℝ, x0 (ix2 r j) = (a : EReal) := Cert.Finite.real_of_lt _ (Host.reduce_andi_all _ _ _ _ _ h0 (ix2 r j))
  have g1 (r : Fin 4096) (j : Fin 1024) : ∃ a : ℝ, x1 (ix2 r j) = (a : EReal) := Cert.Finite.real_of_lt _ (Host.reduce_andi_all _ _ _ _ _ h1 (ix2 r j))
  have g3 (r : Fin 4096) (j : Fin 1024) : ∃ a : ℝ, x3 (ix2 r j) = (a : EReal) := Cert.Finite.real_of_lt _ (Host.reduce_andi_all _ _ _ _ _ h3 (ix2 r j))
  have g4 (r : Fin 4096) (j : Fin 1024) : ∃ a : ℝ, x4 (ix2 r j) = (a : EReal) := Cert.Finite.real_of_lt _ (Host.reduce_andi_all _ _ _ _ _ h4 (ix2 r j))
  have g5 (o : Fin 1) (j : Fin 1024) : ∃ a : ℝ, x5 (ix2 o j) = (a : EReal) := Cert.Finite.real_of_lt _ (Host.reduce_andi_all _ _ _ _ _ h5 (ix2 o j))
  have g6 (o : Fin 1) (j : Fin 1024) : ∃ a : ℝ, x6 (ix2 o j) = (a : EReal) := Cert.Finite.real_of_lt _ (Host.reduce_andi_all _ _ _ _ _ h6 (ix2 o j))
  choose X e0 using g0
  choose Fo e1 using g1
  choose Q e3 using g3
  choose T e4 using g4
  choose G e5 using g5
  choose B e6 using g6
  refine ⟨X, Fo, Q, T, G 0, B 0, Cert.Pay.m2_ext e0, Cert.Pay.m2_ext e1, Cert.Pay.m2_ext e3, Cert.Pay.m2_ext e4,
    Cert.Pay.m2_ext fun o j => ?_, Cert.Pay.m2_ext fun o j => ?_⟩
  · rw [Subsingleton.elim o 0]; exact e5 0 j
  · rw [Subsingleton.elim o 0]; exact e6 0 j

/-! ### The two programs -/

/-- The kernel ends with the gradients and the loss in its results and its arguments unchanged. -/
theorem kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dz (X m c) (F m c) (P m c) (Q m c) (T m c) (G m c) (B m c) : S4096x1024.Idx → EReal)
      ∧ r.2.mem ((c.tc : Thread nD τ).loc main_v0_1) = (dz (X m c) (F m c) (P m c) (Q m c) (T m c) (G m c) (B m c) : S4096x1024.Idx → EReal)
      ∧ r.2.mem ((c.tc : Thread nD τ).loc main_v0_2) = (dgate (X m c) (F m c) (P m c) (Q m c) (T m c) (G m c) (B m c) : S4096x1024.Idx → EReal)
      ∧ r.2.mem ((c.tc : Thread nD τ).loc main_v0_3) = (dgated (X m c) (F m c) (P m c) (Q m c) (T m c) (G m c) (B m c) : S4096x1024.Idx → EReal)
      ∧ r.2.mem ((c.tc : Thread nD τ).loc main_v0_4) = (loss (X m c) (F m c) (P m c) (Q m c) (T m c) (G m c) (B m c) : S8x128.Idx → EReal)
      ∧ r.2.mem ((c.tc : Thread nD τ).loc main_v0_5) = (dgain (X m c) (F m c) (P m c) (Q m c) (T m c) (G m c) (B m c) : S1x1024.Idx → EReal)
      ∧ r.2.mem ((c.tc : Thread nD τ).loc main_v0_6) = (doff (X m c) (F m c) (P m c) (Q m c) (T m c) (G m c) (B m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r e c => ⟨((e c).1 7).trans (arr7 m c), ((e c).1 8).trans (arr8 m c), ((e c).1 9).trans (arr9 m c), ((e c).1 10).trans (arr10 m c), ((e c).1 11).trans (arr11 m c), ((e c).1 12).trans (arr12 m c), ((e c).1 13).trans (arr13 m c),
    ((e c).1 0).trans (((dats m 0 c).arrAt_in 0 rfl _).trans ((A_eq m c 0).trans (V_main_arg0 m c))),
    ((e c).1 1).trans (((dats m 0 c).arrAt_in 1 rfl _).trans ((A_eq m c 1).trans (V_main_arg1 m c))),
    ((e c).1 2).trans (((dats m 0 c).arrAt_in 2 rfl _).trans ((A_eq m c 2).trans (V_main_arg2 m c))),
    ((e c).1 3).trans (((dats m 0 c).arrAt_in 3 rfl _).trans ((A_eq m c 3).trans (V_main_arg3 m c))),
    ((e c).1 4).trans (((dats m 0 c).arrAt_in 4 rfl _).trans ((A_eq m c 4).trans (V_main_arg4 m c))),
    ((e c).1 5).trans (((dats m 0 c).arrAt_in 5 rfl _).trans ((A_eq m c 5).trans (V_main_arg5 m c))),
    ((e c).1 6).trans (((dats m 0 c).arrAt_in 6 rfl _).trans ((A_eq m c 6).trans (V_main_arg6 m c)))⟩) (run_main m ρ)

/-- The reference ends with its arguments unchanged and every counter at zero. -/
theorem frame (m : (ℓ : Loc Cert.RLlIdeal.nD Cert.RLlIdeal.τ Cert.RLlIdeal.sig) → Buf (Elt Ideal) ℓ) (ρ : Dev Cert.RLlIdeal.nD → PrngReg) :
    θ_run Cert.RLlIdeal.defs (onTc (τ := Cert.RLlIdeal.τ) (Cert.RLlIdeal.main (F := Ideal))) ⟨m, fun _ => 0, ρ⟩ (fun r => (∀ c : Dev Cert.RLlIdeal.nD,
      r.2.mem ((c.tc : Thread Cert.RLlIdeal.nD Cert.RLlIdeal.τ).loc Cert.RLlIdeal.main_arg0) = m ((c.tc : Thread Cert.RLlIdeal.nD Cert.RLlIdeal.τ).loc Cert.RLlIdeal.main_arg0)
      ∧ r.2.mem ((c.tc : Thread Cert.RLlIdeal.nD Cert.RLlIdeal.τ).loc Cert.RLlIdeal.main_arg1) = m ((c.tc : Thread Cert.RLlIdeal.nD Cert.RLlIdeal.τ).loc Cert.RLlIdeal.main_arg1)
      ∧ r.2.mem ((c.tc : Thread Cert.RLlIdeal.nD Cert.RLlIdeal.τ).loc Cert.RLlIdeal.main_arg2) = m ((c.tc : Thread Cert.RLlIdeal.nD Cert.RLlIdeal.τ).loc Cert.RLlIdeal.main_arg2)
      ∧ r.2.mem ((c.tc : Thread Cert.RLlIdeal.nD Cert.RLlIdeal.τ).loc Cert.RLlIdeal.main_arg3) = m ((c.tc : Thread Cert.RLlIdeal.nD Cert.RLlIdeal.τ).loc Cert.RLlIdeal.main_arg3)
      ∧ r.2.mem ((c.tc : Thread Cert.RLlIdeal.nD Cert.RLlIdeal.τ).loc Cert.RLlIdeal.main_arg4) = m ((c.tc : Thread Cert.RLlIdeal.nD Cert.RLlIdeal.τ).loc Cert.RLlIdeal.main_arg4)
      ∧ r.2.mem ((c.tc : Thread Cert.RLlIdeal.nD Cert.RLlIdeal.τ).loc Cert.RLlIdeal.main_arg5) = m ((c.tc : Thread Cert.RLlIdeal.nD Cert.RLlIdeal.τ).loc Cert.RLlIdeal.main_arg5)
      ∧ r.2.mem ((c.tc : Thread Cert.RLlIdeal.nD Cert.RLlIdeal.τ).loc Cert.RLlIdeal.main_arg6) = m ((c.tc : Thread Cert.RLlIdeal.nD Cert.RLlIdeal.τ).loc Cert.RLlIdeal.main_arg6)) ∧ r.2.sem = fun _ => 0) :=
  (θ_run Cert.RLlIdeal.defs _ _).mono (fun r e => ⟨fun c => (e c).2.2.2.2.2.2.2, sem_eq_zero_of_no_sems (by decide) r.2⟩) (Cert.RLlIdeal.Value.run m ρ)

/-- A function of seven arguments at equal arguments. -/
theorem congr7 {α β γ : Type} (f : α → α → α → α → α → β → β → γ) {a0 a1 a2 a3 a4 b0 b1 b2 b3 b4 : α} {a5 a6 b5 b6 : β}
    (h0 : a0 = b0) (h1 : a1 = b1) (h2 : a2 = b2) (h3 : a3 = b3) (h4 : a4 = b4) (h5 : a5 = b5) (h6 : a6 = b6) :
    f a0 a1 a2 a3 a4 a5 a6 = f b0 b1 b2 b3 b4 b5 b6 := by
  subst h0 h1 h2 h3 h4 h5 h6; rfl

/-- On equal arguments, finite but for the gate, the kernel and the reference leave equal results. -/
theorem equal : haveI := Cert.KLlIdeal.Gen.facts; haveI := Cert.RLlIdeal.Gen.facts; haveI := facts
    algebraic_KLlIdeal_RLlIdeal_pre_finite_ll := by
  intro m g m' g' hp ha
  refine ⟨_, _, _, _, _, _, _, kernel m g, (θ_run _ _ _).mono (fun r q c => ?_) (Cert.RLlIdeal.Value.run m' g')⟩
  obtain ⟨X', F', Q', T', G', B', e0, e1, e3, e4, e5, e6⟩ := reals _ _ _ _ _ _ _ (hp c)
  choose S' hS using fun (r : Fin 4096) (j : Fin 1024) => logistic_real (P m c (ix2 r j))
  obtain ⟨a0, a1, a2, a3, a4, a5, a6⟩ := ha c
  have both (γ : Type) (v w : (S4096x1024.Idx → EReal) → (S4096x1024.Idx → EReal) → (S4096x1024.Idx → EReal) → (S4096x1024.Idx → EReal) → (S4096x1024.Idx → EReal) → (S1x1024.Idx → EReal) → (S1x1024.Idx → EReal) → γ)
      (k : v (Cert.Pay.m2 X') (Cert.Pay.m2 F') (P m c) (Cert.Pay.m2 Q') (Cert.Pay.m2 T') (Cert.Pay.m2 fun _ j => G' j) (Cert.Pay.m2 fun _ j => B' j)
        = w (Cert.Pay.m2 X') (Cert.Pay.m2 F') (P m c) (Cert.Pay.m2 Q') (Cert.Pay.m2 T') (Cert.Pay.m2 fun _ j => G' j) (Cert.Pay.m2 fun _ j => B' j)) :
      v (m' ((c.tc : Thread Cert.RLlIdeal.nD Cert.RLlIdeal.τ).loc Cert.RLlIdeal.main_arg0)) (m' ((c.tc : Thread Cert.RLlIdeal.nD Cert.RLlIdeal.τ).loc Cert.RLlIdeal.main_arg1)) (m' ((c.tc : Thread Cert.RLlIdeal.nD Cert.RLlIdeal.τ).loc Cert.RLlIdeal.main_arg2)) (m' ((c.tc : Thread Cert.RLlIdeal.nD Cert.RLlIdeal.τ).loc Cert.RLlIdeal.main_arg3)) (m' ((c.tc : Thread Cert.RLlIdeal.nD Cert.RLlIdeal.τ).loc Cert.RLlIdeal.main_arg4)) (m' ((c.tc : Thread Cert.RLlIdeal.nD Cert.RLlIdeal.τ).loc Cert.RLlIdeal.main_arg5)) (m' ((c.tc : Thread Cert.RLlIdeal.nD Cert.RLlIdeal.τ).loc Cert.RLlIdeal.main_arg6)) = w (X m c) (F m c) (P m c) (Q m c) (T m c) (G m c) (B m c) :=
    ((congr7 v (a0.trans e0) (a1.trans e1) a2 (a3.trans e3) (a4.trans e4) (a5.trans e5) (a6.trans e6)).trans k).trans (congr7 w e0 e1 rfl e3 e4 e5 e6).symm
  refine ⟨(q c).1.trans ?_, (q c).2.1.trans ?_, (q c).2.2.1.trans ?_, (q c).2.2.2.1.trans ?_, (q c).2.2.2.2.1.trans ?_, (q c).2.2.2.2.2.1.trans ?_, (q c).2.2.2.2.2.2.1.trans ?_, (q c).2.2.2.2.2.2.2⟩
  · exact (Cert.RLlIdeal.Read.val_main_v86_eq _ _).trans (both _ (Cert.RLlIdeal.Read.val_main_v86 (F := Ideal)) dz (r86 X' F' S' Q' T' G' B' (P m c) hS))
  · exact (Cert.RLlIdeal.Read.val_main_v90_eq _ _).trans (both _ (Cert.RLlIdeal.Read.val_main_v90 (F := Ideal)) dz (r90 X' F' S' Q' T' G' B' (P m c) hS))
  · exact (Cert.RLlIdeal.Read.val_main_v91_eq _ _).trans (both _ (Cert.RLlIdeal.Read.val_main_v91 (F := Ideal)) dgate (r91 X' F' S' Q' T' G' B' (P m c) hS))
  · exact (Cert.RLlIdeal.Read.val_main_v92_eq _ _).trans (both _ (Cert.RLlIdeal.Read.val_main_v92 (F := Ideal)) dgated (r92 X' F' S' Q' T' G' B' (P m c) hS))
  · exact (Cert.RLlIdeal.Read.val_main_v93_eq _ _).trans (both _ (Cert.RLlIdeal.Read.val_main_v93 (F := Ideal)) loss (r93 X' F' S' Q' T' G' B' (P m c) hS))
  · exact (Cert.RLlIdeal.Read.val_main_v60_eq _ _).trans (both _ (Cert.RLlIdeal.Read.val_main_v60 (F := Ideal)) dgain (r60 X' F' S' Q' T' G' B' (P m c) hS))
  · exact (Cert.RLlIdeal.Read.val_main_v57_eq _ _).trans (both _ (Cert.RLlIdeal.Read.val_main_v57 (F := Ideal)) doff (r57 X' F' S' Q' T' G' B' (P m c) hS))

end Cert.RwLl
end
-- ==== Proof.lean ====
/- The proof of the claims: the two programs leave their arguments unchanged and every counter at zero, the two named
   constants stand for the words they replace, and on finite arguments the two programs leave equal results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.ValueRef
public import proofs.«01_k».proof.Proof.Finite
public import proofs.«01_k».proof.Proof.MmIn
public import proofs.«01_k».proof.Proof.MmGu
public import proofs.«01_k».proof.Proof.MmGd
public import proofs.«01_k».proof.Proof.MmGo
public import proofs.«01_k».proof.Proof.MmGp
public import proofs.«01_k».proof.Proof.MmDh
public import proofs.«01_k».proof.Proof.MmDm
public import proofs.«01_k».proof.Proof.MmDy
public import proofs.«01_k».proof.Proof.MmXg
public import proofs.«01_k».proof.Proof.MmXv
public import proofs.«01_k».proof.Proof.MmXp
public import proofs.«01_k».proof.Proof.MmDx
public import proofs.«01_k».proof.Proof.MmFs
public import proofs.«01_k».proof.Proof.MmFu
public import proofs.«01_k».proof.Proof.MmFd
public import proofs.«01_k».proof.Proof.MmFp
public import proofs.«01_k».proof.Proof.RwMb
public import proofs.«01_k».proof.Proof.RwMf
public import proofs.«01_k».proof.Proof.RwLf
public import proofs.«01_k».proof.Proof.RwCf
public import proofs.«01_k».proof.Proof.RwCb
public import proofs.«01_k».proof.Proof.RwLb
public import proofs.«01_k».proof.Proof.RwCa
public import proofs.«01_k».proof.Proof.RwSf
public import proofs.«01_k».proof.Proof.RwLl

@[expose] public section

noncomputable section

namespace Cert.Proof

open Idealize.ShloMosaic Idealize.SL.Sem

/-- On finite arguments the kernel and the reference leave equal results. -/
theorem equal : haveI := Cert.KernelIdeal.Gen.facts; haveI := Cert.ReferenceIdeal.Gen.facts; haveI := Cert.Finite.facts
    algebraic_KernelIdeal_ReferenceIdeal_pre_finite := by
  intro m g m' g' hp ha
  have hr := fun c => Cert.Finite.reals _ _ _ _ _ _ _ (hp c)
  choose U V DY W0 bs G B h using hr
  refine ⟨_, _, _, _, _, Cert.Value.kernel m g h, ?_⟩
  have e := Cert.Value.reference m' g' (U := U) (V := V) (DY := DY) (W0 := W0) (bs := bs) (G := G) (B := B) fun c => by
    obtain ⟨e0, e1, e2, e3, e4, e5, e6⟩ := ha c
    rw [e0, e1, e3, e4, e5, e6]; exact h c
  refine (θ_run _ _ _).mono (fun r q c => ?_) e
  have q := q c
  rw [(ha c).2.2.1] at q
  rw [(ha c).2.2.1]
  exact q

theorem claim : Cert.Claim := ⟨Cert.Kernel.Gen.facts, Cert.KernelIdeal.Gen.facts, Cert.ReferenceIdeal.Gen.facts,
  Cert.KIn.Gen.facts, Cert.KInIdeal.Gen.facts, Cert.RInIdeal.Gen.facts,
  Cert.KGu.Gen.facts, Cert.KGuIdeal.Gen.facts, Cert.RGuIdeal.Gen.facts,
  Cert.KGd.Gen.facts, Cert.KGdIdeal.Gen.facts, Cert.RGdIdeal.Gen.facts,
  Cert.KGo.Gen.facts, Cert.KGoIdeal.Gen.facts, Cert.RGoIdeal.Gen.facts,
  Cert.KGp.Gen.facts, Cert.KGpIdeal.Gen.facts, Cert.RGpIdeal.Gen.facts,
  Cert.KDh.Gen.facts, Cert.KDhIdeal.Gen.facts, Cert.RDhIdeal.Gen.facts,
  Cert.KDm.Gen.facts, Cert.KDmIdeal.Gen.facts, Cert.RDmIdeal.Gen.facts,
  Cert.KDy.Gen.facts, Cert.KDyIdeal.Gen.facts, Cert.RDyIdeal.Gen.facts,
  Cert.KXg.Gen.facts, Cert.KXgIdeal.Gen.facts, Cert.RXgIdeal.Gen.facts,
  Cert.KXv.Gen.facts, Cert.KXvIdeal.Gen.facts, Cert.RXvIdeal.Gen.facts,
  Cert.KXp.Gen.facts, Cert.KXpIdeal.Gen.facts, Cert.RXpIdeal.Gen.facts,
  Cert.KDx.Gen.facts, Cert.KDxIdeal.Gen.facts, Cert.RDxIdeal.Gen.facts,
  Cert.KFs.Gen.facts, Cert.KFsIdeal.Gen.facts, Cert.RFsIdeal.Gen.facts,
  Cert.KFu.Gen.facts, Cert.KFuIdeal.Gen.facts, Cert.RFuIdeal.Gen.facts,
  Cert.KFd.Gen.facts, Cert.KFdIdeal.Gen.facts, Cert.RFdIdeal.Gen.facts,
  Cert.KFp.Gen.facts, Cert.KFpIdeal.Gen.facts, Cert.RFpIdeal.Gen.facts,
  Cert.KMb.Gen.facts, Cert.KMbIdeal.Gen.facts, Cert.RMbIdeal.Gen.facts,
  Cert.KMf.Gen.facts, Cert.KMfIdeal.Gen.facts, Cert.RMfIdeal.Gen.facts,
  Cert.KLf.Gen.facts, Cert.KLfIdeal.Gen.facts, Cert.RLfIdeal.Gen.facts,
  Cert.KCf.Gen.facts, Cert.KCfIdeal.Gen.facts, Cert.RCfIdeal.Gen.facts,
  Cert.KCb.Gen.facts, Cert.KCbIdeal.Gen.facts, Cert.RCbIdeal.Gen.facts,
  Cert.KLb.Gen.facts, Cert.KLbIdeal.Gen.facts, Cert.RLbIdeal.Gen.facts,
  Cert.KCa.Gen.facts, Cert.KCaIdeal.Gen.facts, Cert.RCaIdeal.Gen.facts,
  Cert.KSf.Gen.facts, Cert.KSfIdeal.Gen.facts, Cert.RSfIdeal.Gen.facts,
  Cert.KLl.Gen.facts, Cert.KLlIdeal.Gen.facts, Cert.RLlIdeal.Gen.facts,
  Cert.Finite.facts, Cert.RwLb.facts, Cert.RwCa.facts, Cert.RwLl.facts,
  fun m ρ _ => Cert.Kernel.Gen.frame m ρ, fun m ρ _ => Cert.KernelIdeal.Gen.frame m ρ, fun m ρ _ => Cert.KernelIdeal.Gen.frame m ρ,
  fun m ρ _ => Cert.Value.frame m ρ, fun m ρ _ => Cert.Value.frame m ρ,
  fun m ρ _ => Cert.KIn.Gen.frame m ρ, fun m ρ _ => Cert.KInIdeal.Gen.frame m ρ, fun m ρ _ => Cert.MmIn.frame m ρ,
  fun m ρ _ => Cert.KGu.Gen.frame m ρ, fun m ρ _ => Cert.KGuIdeal.Gen.frame m ρ, fun m ρ _ => Cert.MmGu.frame m ρ,
  fun m ρ _ => Cert.KGd.Gen.frame m ρ, fun m ρ _ => Cert.KGdIdeal.Gen.frame m ρ, fun m ρ _ => Cert.MmGd.frame m ρ,
  fun m ρ _ => Cert.KGo.Gen.frame m ρ, fun m ρ _ => Cert.KGoIdeal.Gen.frame m ρ, fun m ρ _ => Cert.MmGo.frame m ρ,
  fun m ρ _ => Cert.KGp.Gen.frame m ρ, fun m ρ _ => Cert.KGpIdeal.Gen.frame m ρ, fun m ρ _ => Cert.MmGp.frame m ρ,
  fun m ρ _ => Cert.KDh.Gen.frame m ρ, fun m ρ _ => Cert.KDhIdeal.Gen.frame m ρ, fun m ρ _ => Cert.MmDh.frame m ρ,
  fun m ρ _ => Cert.KDm.Gen.frame m ρ, fun m ρ _ => Cert.KDmIdeal.Gen.frame m ρ, fun m ρ _ => Cert.MmDm.frame m ρ,
  fun m ρ _ => Cert.KDy.Gen.frame m ρ, fun m ρ _ => Cert.KDyIdeal.Gen.frame m ρ, fun m ρ _ => Cert.MmDy.frame m ρ,
  fun m ρ _ => Cert.KXg.Gen.frame m ρ, fun m ρ _ => Cert.KXgIdeal.Gen.frame m ρ, fun m ρ _ => Cert.MmXg.frame m ρ,
  fun m ρ _ => Cert.KXv.Gen.frame m ρ, fun m ρ _ => Cert.KXvIdeal.Gen.frame m ρ, fun m ρ _ => Cert.MmXv.frame m ρ,
  fun m ρ _ => Cert.KXp.Gen.frame m ρ, fun m ρ _ => Cert.KXpIdeal.Gen.frame m ρ, fun m ρ _ => Cert.MmXp.frame m ρ,
  fun m ρ _ => Cert.KDx.Gen.frame m ρ, fun m ρ _ => Cert.KDxIdeal.Gen.frame m ρ, fun m ρ _ => Cert.MmDx.frame m ρ,
  fun m ρ _ => Cert.KFs.Gen.frame m ρ, fun m ρ _ => Cert.KFsIdeal.Gen.frame m ρ, fun m ρ _ => Cert.MmFs.frame m ρ,
  fun m ρ _ => Cert.KFu.Gen.frame m ρ, fun m ρ _ => Cert.KFuIdeal.Gen.frame m ρ, fun m ρ _ => Cert.MmFu.frame m ρ,
  fun m ρ _ => Cert.KFd.Gen.frame m ρ, fun m ρ _ => Cert.KFdIdeal.Gen.frame m ρ, fun m ρ _ => Cert.MmFd.frame m ρ,
  fun m ρ _ => Cert.KFp.Gen.frame m ρ, fun m ρ _ => Cert.KFpIdeal.Gen.frame m ρ, fun m ρ _ => Cert.MmFp.frame m ρ,
  fun m ρ _ => Cert.KMb.Gen.frame m ρ, fun m ρ _ => Cert.KMbIdeal.Gen.frame m ρ, fun m ρ _ => Cert.RwMb.frame m ρ,
  fun m ρ _ => Cert.KMf.Gen.frame m ρ, fun m ρ _ => Cert.KMfIdeal.Gen.frame m ρ, fun m ρ _ => Cert.RwMf.frame m ρ,
  fun m ρ _ => Cert.KLf.Gen.frame m ρ, fun m ρ _ => Cert.KLfIdeal.Gen.frame m ρ, fun m ρ _ => Cert.RwLf.frame m ρ,
  fun m ρ _ => Cert.KCf.Gen.frame m ρ, fun m ρ _ => Cert.KCfIdeal.Gen.frame m ρ, fun m ρ _ => Cert.RwCf.frame m ρ,
  fun m ρ _ => Cert.KCb.Gen.frame m ρ, fun m ρ _ => Cert.KCbIdeal.Gen.frame m ρ, fun m ρ _ => Cert.RwCb.frame m ρ,
  fun m ρ _ => Cert.KLb.Gen.frame m ρ, fun m ρ _ => Cert.KLbIdeal.Gen.frame m ρ, fun m ρ _ => Cert.KLbIdeal.Gen.frame m ρ,
  fun m ρ _ => Cert.RwLb.frame m ρ, fun m ρ _ => Cert.RwLb.frame m ρ,
  fun m ρ _ => Cert.KCa.Gen.frame m ρ, fun m ρ _ => Cert.KCaIdeal.Gen.frame m ρ, fun m ρ _ => Cert.KCaIdeal.Gen.frame m ρ,
  fun m ρ _ => Cert.RwCa.frame m ρ, fun m ρ _ => Cert.RwCa.frame m ρ,
  fun m ρ _ => Cert.KSf.Gen.frame m ρ, fun m ρ _ => Cert.KSfIdeal.Gen.frame m ρ, fun m ρ _ => Cert.RwSf.frame m ρ,
  fun m ρ _ => Cert.KLl.Gen.frame m ρ, fun m ρ _ => Cert.KLlIdeal.Gen.frame m ρ, fun m ρ _ => Cert.KLlIdeal.Gen.frame m ρ,
  fun m ρ _ => Cert.RwLl.frame m ρ, fun m ρ _ => Cert.RwLl.frame m ρ,
  ⟨IdealRules.named_const.statement Cert.KernelIdeal.κ "gelu_c" .f32 0x3D372713#32 _ rfl, IdealRules.named_const.statement Cert.KernelIdeal.κ "gelu_3c" .f32 0x3E095D4F#32 _ rfl⟩,
  equal, trivial, Cert.MmIn.equal,
  trivial, Cert.MmGu.equal,
  trivial, Cert.MmGd.equal,
  trivial, Cert.MmGo.equal,
  trivial, Cert.MmGp.equal,
  trivial, Cert.MmDh.equal,
  trivial, Cert.MmDm.equal,
  trivial, Cert.MmDy.equal,
  trivial, Cert.MmXg.equal,
  trivial, Cert.MmXv.equal,
  trivial, Cert.MmXp.equal,
  trivial, Cert.MmDx.equal,
  trivial, Cert.MmFs.equal,
  trivial, Cert.MmFu.equal,
  trivial, Cert.MmFd.equal,
  trivial, Cert.MmFp.equal,
  trivial, Cert.RwMb.equal,
  trivial, Cert.RwMf.equal,
  trivial, Cert.RwLf.equal,
  IdealRules.named_const.statement Cert.KCfIdeal.κ "gelu_c" .f32 0x3D372713#32 _ rfl, Cert.RwCf.equal,
  trivial, Cert.RwCb.equal,
  trivial, Cert.RwLb.equal,
  ⟨IdealRules.named_const.statement Cert.KCaIdeal.κ "gelu_c" .f32 0x3D372713#32 _ rfl, IdealRules.named_const.statement Cert.KCaIdeal.κ "gelu_3c" .f32 0x3E095D4F#32 _ rfl⟩, Cert.RwCa.equal,
  IdealRules.named_const.statement Cert.KSfIdeal.κ "gelu_c" .f32 0x3D372713#32 _ rfl, Cert.RwSf.equal,
  trivial, Cert.RwLl.equal⟩

end Cert.Proof

end
